-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real1 [hPre_real1 : Cert.Pre_real1.Facts] (m : (ℓ : Loc Cert.KernelIdeal.nD Cert.KernelIdeal.τ Cert.KernelIdeal.sig) → Buf (Elt Ideal) ℓ) : Prop :=
  ∀ c : Dev Cert.KernelIdeal.nD,
    (Cert.Pre_real1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real1 [hPre_real1 : Cert.Pre_real1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real3 [hPre_real3 : Cert.Pre_real3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real3 [hPre_real3 : Cert.Pre_real3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_real6 [hPre_real6 : Cert.Pre_real6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_real6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_real6 [hPre_real6 : Cert.Pre_real6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_real6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_real10 [hPre_real10 : Cert.Pre_real10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_real10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_real10 [hPre_real10 : Cert.Pre_real10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_real10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_real1 [hKernelIdeal : Cert.KernelIdeal.Facts] [hPre_real1 : Cert.Pre_real1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_real1 [hReferenceIdeal : Cert.ReferenceIdeal.Facts] [hPre_real1 : Cert.Pre_real1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_real3 [hKernel3Ideal : Cert.Kernel3Ideal.Facts] [hPre_real3 : Cert.Pre_real3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_real3 [hReference3Ideal : Cert.Reference3Ideal.Facts] [hPre_real3 : Cert.Pre_real3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_real6 [hKernel6Ideal : Cert.Kernel6Ideal.Facts] [hPre_real6 : Cert.Pre_real6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_real6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_real6 [hReference6Ideal : Cert.Reference6Ideal.Facts] [hPre_real6 : Cert.Pre_real6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_real6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_real10 [hKernel10Ideal : Cert.Kernel10Ideal.Facts] [hPre_real10 : Cert.Pre_real10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_real10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_real10 [hReference10Ideal : Cert.Reference10Ideal.Facts] [hPre_real10 : Cert.Pre_real10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_real10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "gelu_ca" .f32 0x3D122279#32 ((80338380498831 / 2251799813685248 : ℝ) : EReal)

def algebraic_KernelIdeal_ReferenceIdeal_pre_real1 [hKernelIdeal : Cert.KernelIdeal.Facts] [hReferenceIdeal : Cert.ReferenceIdeal.Facts] [hPre_real1 : Cert.Pre_real1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "gelu_ca" .f32 0x3D122279#32 ((80338380498831 / 2251799813685248 : ℝ) : EReal)

def algebraic_Kernel3Ideal_Reference3Ideal_pre_real3 [hKernel3Ideal : Cert.Kernel3Ideal.Facts] [hReference3Ideal : Cert.Reference3Ideal.Facts] [hPre_real3 : Cert.Pre_real3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_real6 [hKernel6Ideal : Cert.Kernel6Ideal.Facts] [hReference6Ideal : Cert.Reference6Ideal.Facts] [hPre_real6 : Cert.Pre_real6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_real6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_real10 [hKernel10Ideal : Cert.Kernel10Ideal.Facts] [hReference10Ideal : Cert.Reference10Ideal.Facts] [hPre_real10 : Cert.Pre_real10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_real10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v130) = v0 c
          ∧ r.2.mem ((c.tc : Thread Cert.Reference10Ideal.nD Cert.Reference10Ideal.τ).loc Cert.Reference10Ideal.main_v132) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_real1 : Cert.Pre_real1.Facts) (hPre_real3 : Cert.Pre_real3.Facts) (hPre_real6 : Cert.Pre_real6.Facts) (hPre_real10 : Cert.Pre_real10.Facts),
    quiescent_Kernel (hKernel := hKernel)
    ∧ quiescent_KernelIdeal (hKernelIdeal := hKernelIdeal)
    ∧ quiescent_KernelIdeal_pre_real1 (hKernelIdeal := hKernelIdeal) (hPre_real1 := hPre_real1)
    ∧ quiescent_ReferenceIdeal (hReferenceIdeal := hReferenceIdeal)
    ∧ quiescent_ReferenceIdeal_pre_real1 (hReferenceIdeal := hReferenceIdeal) (hPre_real1 := hPre_real1)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_real3 (hKernel3Ideal := hKernel3Ideal) (hPre_real3 := hPre_real3)
    ∧ quiescent_Reference3Ideal (hReference3Ideal := hReference3Ideal)
    ∧ quiescent_Reference3Ideal_pre_real3 (hReference3Ideal := hReference3Ideal) (hPre_real3 := hPre_real3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_real6 (hKernel6Ideal := hKernel6Ideal) (hPre_real6 := hPre_real6)
    ∧ quiescent_Reference6Ideal (hReference6Ideal := hReference6Ideal)
    ∧ quiescent_Reference6Ideal_pre_real6 (hReference6Ideal := hReference6Ideal) (hPre_real6 := hPre_real6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_real10 (hKernel10Ideal := hKernel10Ideal) (hPre_real10 := hPre_real10)
    ∧ quiescent_Reference10Ideal (hReference10Ideal := hReference10Ideal)
    ∧ quiescent_Reference10Ideal_pre_real10 (hReference10Ideal := hReference10Ideal) (hPre_real10 := hPre_real10)
    ∧ preserves_Kernel_KernelIdeal
    ∧ algebraic_KernelIdeal_ReferenceIdeal_pre_real1 (hKernelIdeal := hKernelIdeal) (hReferenceIdeal := hReferenceIdeal) (hPre_real1 := hPre_real1)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_real3 (hKernel3Ideal := hKernel3Ideal) (hReference3Ideal := hReference3Ideal) (hPre_real3 := hPre_real3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_real6 (hKernel6Ideal := hKernel6Ideal) (hReference6Ideal := hReference6Ideal) (hPre_real6 := hPre_real6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_real10 (hKernel10Ideal := hKernel10Ideal) (hReference10Ideal := hReference10Ideal) (hPre_real10 := hPre_real10)
-- ==== Pre_real1.lean ====
abbrev S16384x2048 : Shape := ⟨2, ![16384, 2048]⟩
abbrev S2x2048x12288 : Shape := ⟨3, ![2, 2048, 12288]⟩
abbrev S16384x4096 : Shape := ⟨2, ![16384, 4096]⟩
abbrev S4096 : Shape := ⟨1, ![4096]⟩
abbrev S8x128x128 : Shape := ⟨3, ![8, 128, 128]⟩
abbrev S8x128 : Shape := ⟨2, ![8, 128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2x2048x12288 : S_.BroadcastsInDim S2x2048x12288 (![] : Fin 0 → Fin S2x2048x12288.rank)
  reducesTo_S2x2048x12288_S_d0_1_2 : S2x2048x12288.ReducesTo [0, 1, 2] S_
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S16384x2048 .f32) (main_arg1 : FVec F S2x2048x12288 .f32) (main_arg2 : FVec F S16384x4096 .f32) (main_arg3 : FVec F S16384x4096 .f32) (main_arg4 : FVec F S4096 .f32) (main_arg5 : FVec F S8x128x128 .f32) (main_arg6 : FVec F S8x128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2x2048x12288 .f32 := Host.absf main_arg1
  let main_cst_0 : FVec F S_ .f32 := constant S_ .f32 0x7F800000#32
  let main_v5 : FVec F S2x2048x12288 .f32 := broadcastInDim S2x2048x12288 ![] bcast_S_S2x2048x12288 main_cst_0
  let main_v6 : IVec S2x2048x12288 1 := cmpf .olt main_v4 main_v5
  let main_c_1 : IVec S_ 1 := constantI S_ 1 1#1
  let main_v7 : IVec S_ 1 := (fun x v => Host.reduce IntOp.andi x v reducesTo_S2x2048x12288_S_d0_1_2 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  main_v13
-- ==== Pre_real10.lean ====
abbrev S16384x2048 : Shape := ⟨2, ![16384, 2048]⟩
abbrev S1x2048x8192 : Shape := ⟨3, ![1, 2048, 8192]⟩
abbrev S1x4x1024x1024 : Shape := ⟨4, ![1, 4, 1024, 1024]⟩
abbrev S4096 : Shape := ⟨1, ![4096]⟩
abbrev S1x4096x2048 : Shape := ⟨3, ![1, 4096, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048x8192 : S_.BroadcastsInDim S1x2048x8192 (![] : Fin 0 → Fin S1x2048x8192.rank)
  reducesTo_S1x2048x8192_S_d0_1_2 : S1x2048x8192.ReducesTo [0, 1, 2] S_
  bcast_S_S1x4x1024x1024 : S_.BroadcastsInDim S1x4x1024x1024 (![] : Fin 0 → Fin S1x4x1024x1024.rank)
  reducesTo_S1x4x1024x1024_S_d0_1_2_3 : S1x4x1024x1024.ReducesTo [0, 1, 2, 3] S_

variable [Facts]

def fn {F : FTy → Type} [FloatOps F] (main_arg0 : FVec F S16384x2048 .f32) (main_arg1 : FVec F S1x2048x8192 .f32) (main_arg2 : FVec F S1x4x1024x1024 .f32) (main_arg3 : FVec F S4096 .f32) (main_arg4 : FVec F S1x4096x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2048x8192 .f32 := Host.absf main_arg1
  let main_cst_0 : FVec F S_ .f32 := constant S_ .f32 0x7F800000#32
  let main_v5 : FVec F S1x2048x8192 .f32 := broadcastInDim S1x2048x8192 ![] bcast_S_S1x2048x8192 main_cst_0
  let main_v6 : IVec S1x2048x8192 1 := cmpf .olt main_v4 main_v5
  let main_c_1 : IVec S_ 1 := constantI S_ 1 1#1
  let main_v7 : IVec S_ 1 := (fun x v => Host.reduce IntOp.andi x v reducesTo_S1x2048x8192_S_d0_1_2 h_S_) main_v6 main_c_1
  let main_v8 : IVec S_ 1 := andi main_v3 main_v7
  let main_v9 : FVec F S1x4x1024x1024 .f32 := Host.absf main_arg2
  let main_cst_2 : FVec F S_ .f32 := constant S_ .f32 0x7F800000#32
  let main_v10 : FVec F S1x4x1024x1024 .f32 := broadcastInDim S1x4x1024x1024 ![] bcast_S_S1x4x1024x1024 main_cst_2
  let main_v11 : IVec S1x4x1024x1024 1 := cmpf .olt main_v9 main_v10
  let main_c_3 : IVec S_ 1 := constantI S_ 1 1#1
  let main_v12 : IVec S_ 1 := (fun x v => Host.reduce IntOp.andi x v reducesTo_S1x4x1024x1024_S_d0_1_2_3 h_S_) main_v11 main_c_3
  let main_v13 : IVec S_ 1 := andi main_v8 main_v12
  main_v13
-- ==== Pre_real3.lean ====
abbrev S16384x2048 : Shape := ⟨2, ![16384, 2048]⟩
abbrev S2x2048x12288 : Shape := ⟨3, ![2, 2048, 12288]⟩
abbrev S2x4096x2048 : Shape := ⟨3, ![2, 4096, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2x2048x12288 : S_.BroadcastsInDim S2x2048x12288 (![] : Fin 0 → Fin S2x2048x12288.rank)
  reducesTo_S2x2048x12288_S_d0_1_2 : S2x2048x12288.ReducesTo [0, 1, 2] S_

variable [Facts]

def fn {F : FTy → Type} [FloatOps F] (main_arg0 : FVec F S16384x2048 .f32) (main_arg1 : FVec F S2x2048x12288 .f32) (main_arg2 : FVec F S2x4096x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2x2048x12288 .f32 := Host.absf main_arg1
  let main_cst_0 : FVec F S_ .f32 := constant S_ .f32 0x7F800000#32
  let main_v5 : FVec F S2x2048x12288 .f32 := broadcastInDim S2x2048x12288 ![] bcast_S_S2x2048x12288 main_cst_0
  let main_v6 : IVec S2x2048x12288 1 := cmpf .olt main_v4 main_v5
  let main_c_1 : IVec S_ 1 := constantI S_ 1 1#1
  let main_v7 : IVec S_ 1 := (fun x v => Host.reduce IntOp.andi x v reducesTo_S2x2048x12288_S_d0_1_2 h_S_) main_v6 main_c_1
  let main_v8 : IVec S_ 1 := andi main_v3 main_v7
  main_v8
-- ==== Pre_real6.lean ====
abbrev S16384x2048 : Shape := ⟨2, ![16384, 2048]⟩
abbrev S1x2048x8192 : Shape := ⟨3, ![1, 2048, 8192]⟩
abbrev S1x4096x2048 : Shape := ⟨3, ![1, 4096, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048x8192 : S_.BroadcastsInDim S1x2048x8192 (![] : Fin 0 → Fin S1x2048x8192.rank)
  reducesTo_S1x2048x8192_S_d0_1_2 : S1x2048x8192.ReducesTo [0, 1, 2] S_

variable [Facts]

def fn {F : FTy → Type} [FloatOps F] (main_arg0 : FVec F S16384x2048 .f32) (main_arg1 : FVec F S1x2048x8192 .f32) (main_arg2 : FVec F S1x4096x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2048x8192 .f32 := Host.absf main_arg1
  let main_cst_0 : FVec F S_ .f32 := constant S_ .f32 0x7F800000#32
  let main_v5 : FVec F S1x2048x8192 .f32 := broadcastInDim S1x2048x8192 ![] bcast_S_S1x2048x8192 main_cst_0
  let main_v6 : IVec S1x2048x8192 1 := cmpf .olt main_v4 main_v5
  let main_c_1 : IVec S_ 1 := constantI S_ 1 1#1
  let main_v7 : IVec S_ 1 := (fun x v => Host.reduce IntOp.andi x v reducesTo_S1x2048x8192_S_d0_1_2 h_S_) main_v6 main_c_1
  let main_v8 : IVec S_ 1 := andi main_v3 main_v7
  main_v8
-- ==== Kernel.lean ====
abbrev S16384x2048 : Shape := ⟨2, ![16384, 2048]⟩
abbrev S2x2048x12288 : Shape := ⟨3, ![2, 2048, 12288]⟩
abbrev S16384x4096 : Shape := ⟨2, ![16384, 4096]⟩
abbrev S4096 : Shape := ⟨1, ![4096]⟩
abbrev S8x128x128 : Shape := ⟨3, ![8, 128, 128]⟩
abbrev S8x128 : Shape := ⟨2, ![8, 128]⟩
abbrev S16384x4x1024 : Shape := ⟨3, ![16384, 4, 1024]⟩
abbrev S_ : Shape := ⟨0, ![]⟩
abbrev S16384x4 : Shape := ⟨2, ![16384, 4]⟩
abbrev S4x16384 : Shape := ⟨2, ![4, 16384]⟩
abbrev S4x16384x1 : Shape := ⟨3, ![4, 16384, 1]⟩
abbrev S1x4096 : Shape := ⟨2, ![1, 4096]⟩
abbrev S8x128x1 : Shape := ⟨3, ![8, 128, 1]⟩
abbrev S1024x2048 : Shape := ⟨2, ![1024, 2048]⟩
abbrev S1024x1024 : Shape := ⟨2, ![1024, 1024]⟩
abbrev S4x1024x1 : Shape := ⟨3, ![4, 1024, 1]⟩
abbrev S1x1024 : Shape := ⟨2, ![1, 1024]⟩
abbrev S2x128x128 : Shape := ⟨3, ![2, 128, 128]⟩
abbrev S2x128x1 : Shape := ⟨3, ![2, 128, 1]⟩
abbrev S8x2048x512 : Shape := ⟨3, ![8, 2048, 512]⟩
abbrev S2048x1024 : Shape := ⟨2, ![2048, 1024]⟩
abbrev S1x2048x1024 : Shape := ⟨3, ![1, 2048, 1024]⟩
abbrev S2048x512 : Shape := ⟨2, ![2048, 512]⟩
abbrev S1x2048x512 : Shape := ⟨3, ![1, 2048, 512]⟩
abbrev S1x1024x1 : Shape := ⟨3, ![1, 1024, 1]⟩
abbrev S1024x1 : Shape := ⟨2, ![1024, 1]⟩
abbrev S1024x512 : Shape := ⟨2, ![1024, 512]⟩
abbrev S1x512 : Shape := ⟨2, ![1, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x512 : Shape := ⟨2, ![128, 512]⟩

abbrev nBuf : Space → Nat
  | .hbm => 20
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S16384x4096, .f32⟩
  | .hbm, ⟨3, _⟩ => ⟨S16384x4096, .f32⟩
  | .hbm, ⟨4, _⟩ => ⟨S4096, .f32⟩
  | .hbm, ⟨5, _⟩ => ⟨S8x128x128, .f32⟩
  | .hbm, ⟨6, _⟩ => ⟨S8x128, .f32⟩
  | .hbm, ⟨7, _⟩ => ⟨S16384x4096, .f32⟩
  | .hbm, ⟨8, _⟩ => ⟨S16384x4x1024, .f32⟩
  | .hbm, ⟨9, _⟩ => ⟨S_, .f32⟩
  | .hbm, ⟨10, _⟩ => ⟨S16384x4, .f32⟩
  | .hbm, ⟨11, _⟩ => ⟨S4x16384, .f32⟩
  | .hbm, ⟨12, _⟩ => ⟨S4x16384x1, .f32⟩
  | .hbm, ⟨13, _⟩ => ⟨S16384x2048, .bf16⟩
  | .hbm, ⟨14, _⟩ => ⟨S16384x4096, .bf16⟩
  | .hbm, ⟨15, _⟩ => ⟨S16384x4096, .bf16⟩
  | .hbm, ⟨16, _⟩ => ⟨S1x4096, .f32⟩
  | .hbm, ⟨17, _⟩ => ⟨S8x128x128, .bf16⟩
  | .hbm, ⟨18, _⟩ => ⟨S8x128x1, .f32⟩
  | .hbm, ⟨19, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S4x1024x1, .f32⟩
  | .local _ .vmem, ⟨7, _⟩ => ⟨S4x1024x1, .f32⟩
  | .local _ .vmem, ⟨8, _⟩ => ⟨S1x1024, .f32⟩
  | .local _ .vmem, ⟨9, _⟩ => ⟨S1x1024, .f32⟩
  | .local _ .vmem, ⟨10, _⟩ => ⟨S2x128x128, .bf16⟩
  | .local _ .vmem, ⟨11, _⟩ => ⟨S2x128x128, .bf16⟩
  | .local _ .vmem, ⟨12, _⟩ => ⟨S2x128x1, .f32⟩
  | .local _ .vmem, ⟨13, _⟩ => ⟨S2x128x1, .f32⟩
  | .local _ .vmem, ⟨14, _⟩ => ⟨S1024x1024, .bf16⟩
  | .local _ .vmem, ⟨15, _⟩ => ⟨S1024x1024, .bf16⟩
  | .local _ .vmem, ⟨16, _⟩ => ⟨S8x2048x512, .bf16⟩
  | .local _ .vmem, ⟨17, _⟩ => ⟨S1024x1024, .f32⟩
  | .local _ .vmem, ⟨18, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let c8192_i32 : BitVec 32 := 8192#32
  let arg1 : BitVec 32 := BitVec.ofNat 32 (i 1).val
  let c1024_i32 : BitVec 32 := 1024#32
  let v442 : BitVec 32 := Scalar.muli arg1 c1024_i32
  let v443 : BitVec 32 := Scalar.addi c8192_i32 v442
  v443
def k0_off1 (i : grid0.Coords) : Fin 3 → Nat :=
  let c0_i32_177 : BitVec 32 := 0#32
  let c0_i32_178 : BitVec 32 := 0#32
  let c8192_i32 : BitVec 32 := 8192#32
  let arg1 : BitVec 32 := BitVec.ofNat 32 (i 1).val
  let c1024_i32 : BitVec 32 := 1024#32
  let v442 : BitVec 32 := Scalar.muli arg1 c1024_i32
  let v443 : BitVec 32 := Scalar.addi c8192_i32 v442
  let v444 : BitVec 32 := v443
  ![0, 0, v444.toNat]
def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v5 : BitVec 32 := Scalar.extui v0
  let c0_i32_2 : BitVec 32 := 0#32
  let v6 : BitVec 1 := Scalar.cmpi .ne v5 c0_i32_2
  v6

def k0_mult2 (i : grid0.Coords) : BitVec 32 :=
  let c8192_i32 : BitVec 32 := 8192#32
  let arg1 : BitVec 32 := BitVec.ofNat 32 (i 1).val
  let c1024_i32 : BitVec 32 := 1024#32
  let v442 : BitVec 32 := Scalar.muli arg1 c1024_i32
  let v443 : BitVec 32 := Scalar.addi c8192_i32 v442
  v443
def k0_off2 (i : grid0.Coords) : Fin 3 → Nat :=
  let c0_i32_177 : BitVec 32 := 0#32
  let c0_i32_178 : BitVec 32 := 0#32
  let c8192_i32 : BitVec 32 := 8192#32
  let arg1 : BitVec 32 := BitVec.ofNat 32 (i 1).val
  let c1024_i32 : BitVec 32 := 1024#32
  let v442 : BitVec 32 := Scalar.muli arg1 c1024_i32
  let v443 : BitVec 32 := Scalar.addi c8192_i32 v442
  let v444 : BitVec 32 := v443
  ![0, 0, v444.toNat]
def k0_off3 (i : grid0.Coords) (c0_i32_182 : BitVec 32) : Fin 3 → Nat :=
  let arg1 : BitVec 32 := BitVec.ofNat 32 (i 1).val
  let c2_i32_181 : BitVec 32 := 2#32
  let v449 : BitVec 32 := Scalar.muli arg1 c2_i32_181
  let v450 : BitVec 32 := Scalar.addi v449 c0_i32_182
  let v451 : Index := Scalar.indexCast v450
  let c0_183 : Index := 0#32
  let c0_184 : Index := 0#32
  ![v451.toNat, 0, 0]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c1_i32 : BitVec 32 := 1#32
  let v7 : BitVec 32 := Scalar.addi arg1 c1_i32
  let c4_i32 : BitVec 32 := 4#32
  let v8 : BitVec 1 := Scalar.cmpi .slt v7 c4_i32
  let v9 : BitVec 1 := Scalar.andi v0 v8
  let v10 : BitVec 32 := Scalar.extui v9
  let c0_i32_3 : BitVec 32 := 0#32
  let v11 : BitVec 1 := Scalar.cmpi .ne v10 c0_i32_3
  v11

def k0_mult3 (i : grid0.Coords) : BitVec 32 :=
  let c8192_i32 : BitVec 32 := 8192#32
  let arg1 : BitVec 32 := BitVec.ofNat 32 (i 1).val
  let c1_i32_177 : BitVec 32 := 1#32
  let v442 : BitVec 32 := Scalar.addi arg1 c1_i32_177
  let c1024_i32 : BitVec 32 := 1024#32
  let v443 : BitVec 32 := Scalar.muli v442 c1024_i32
  let v444 : BitVec 32 := Scalar.addi c8192_i32 v443
  v444
def k0_off4 (i : grid0.Coords) : Fin 3 → Nat :=
  let c0_i32_178 : BitVec 32 := 0#32
  let c0_i32_179 : BitVec 32 := 0#32
  let c8192_i32 : BitVec 32 := 8192#32
  let arg1 : BitVec 32 := BitVec.ofNat 32 (i 1).val
  let c1_i32_177 : BitVec 32 := 1#32
  let v442 : BitVec 32 := Scalar.addi arg1 c1_i32_177
  let c1024_i32 : BitVec 32 := 1024#32
  let v443 : BitVec 32 := Scalar.muli v442 c1024_i32
  let v444 : BitVec 32 := Scalar.addi c8192_i32 v443
  let v445 : BitVec 32 := v444
  ![0, 0, v445.toNat]
def k0_off5 (i : grid0.Coords) (c0_i32_82 : BitVec 32) : Fin 3 → Nat :=
  let arg1 : BitVec 32 := BitVec.ofNat 32 (i 1).val
  let c2_i32 : BitVec 32 := 2#32
  let v220 : BitVec 32 := Scalar.muli arg1 c2_i32
  let v221 : BitVec 32 := Scalar.addi v220 c0_i32_82
  let v222 : Index := Scalar.indexCast v221
  let c0_83 : Index := 0#32
  let c0_84 : Index := 0#32
  ![v222.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "gelu_ca" => some ((80338380498831 / 2251799813685248 : ℝ) : EReal)
  | _ => none
-- ==== ReferenceIdeal.lean ====
abbrev S16384x2048 : Shape := ⟨2, ![16384, 2048]⟩
abbrev S2x2048x12288 : Shape := ⟨3, ![2, 2048, 12288]⟩
abbrev S16384x4096 : Shape := ⟨2, ![16384, 4096]⟩
abbrev S4096 : Shape := ⟨1, ![4096]⟩
abbrev S8x128x128 : Shape := ⟨3, ![8, 128, 128]⟩
abbrev S8x128 : Shape := ⟨2, ![8, 128]⟩
abbrev S1x2048x12288 : Shape := ⟨3, ![1, 2048, 12288]⟩
abbrev S2048x12288 : Shape := ⟨2, ![2048, 12288]⟩
abbrev S16384x12288 : Shape := ⟨2, ![16384, 12288]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S128x128x8x512 : Shape := ⟨4, ![128, 128, 8, 512]⟩
abbrev S8x128x512x128 : Shape := ⟨4, ![8, 128, 512, 128]⟩
abbrev S128x8 : Shape := ⟨2, ![128, 8]⟩
abbrev S1x128x8x1 : Shape := ⟨4, ![1, 128, 8, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S16384x4096, .f32⟩
  | .hbm, ⟨3, _⟩ => ⟨S16384x4096, .f32⟩
  | .hbm, ⟨4, _⟩ => ⟨S4096, .f32⟩
  | .hbm, ⟨5, _⟩ => ⟨S8x128x128, .f32⟩
  | .hbm, ⟨6, _⟩ => ⟨S8x128, .f32⟩
  | .hbm, ⟨7, _⟩ => ⟨S1x2048x12288, .f32⟩
  | .hbm, ⟨8, _⟩ => ⟨S2048x12288, .f32⟩
  | .hbm, ⟨9, _⟩ => ⟨S16384x12288, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S128x128x8x512, .f32⟩
  | .hbm, ⟨30, _⟩ => ⟨S8x128x512x128, .f32⟩
  | .hbm, ⟨31, _⟩ => ⟨S128x128x8x512, .f32⟩
  | .hbm, ⟨32, _⟩ => ⟨S128x8, .f32⟩
  | .hbm, ⟨33, _⟩ => ⟨S1x128x8x1, .f32⟩
  | .hbm, ⟨34, _⟩ => ⟨S128x128x8x512, .f32⟩
  | .hbm, ⟨35, _⟩ => ⟨S128x128x8x512, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S_, .f32⟩
  | .hbm, ⟨58, _⟩ => ⟨S16384x4096, .f32⟩
  | .hbm, ⟨59, _⟩ => ⟨S16384x4096, .f32⟩
  | .hbm, ⟨60, _⟩ => ⟨S_, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Kernel2.lean ====
abbrev S16384x2048 : Shape := ⟨2, ![16384, 2048]⟩
abbrev S2x2048x12288 : Shape := ⟨3, ![2, 2048, 12288]⟩
abbrev S16384x4096 : Shape := ⟨2, ![16384, 4096]⟩
abbrev S2048x2048 : Shape := ⟨2, ![2048, 2048]⟩
abbrev S2048x1024 : Shape := ⟨2, ![2048, 1024]⟩
abbrev S_ : Shape := ⟨0, ![]⟩
abbrev S1x2048x1024 : Shape := ⟨3, ![1, 2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S16384x2048, .bf16⟩
  | .hbm, ⟨3, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  v19
def k0_off1 (i : grid0.Coords) : Fin 3 → Nat :=
  let c0_i32_10 : BitVec 32 := 0#32
  let c0_i32_11 : BitVec 32 := 0#32
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  let v20 : BitVec 32 := v19
  ![0, 0, v20.toNat]
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_2 : BitVec 32 := 0#32
  let v6 : BitVec 1 := Scalar.cmpi .ne v5 c0_i32_2
  v6

def k0_mult2 (i : grid0.Coords) : BitVec 32 :=
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  v19
def k0_off2 (i : grid0.Coords) : Fin 3 → Nat :=
  let c0_i32_10 : BitVec 32 := 0#32
  let c0_i32_11 : BitVec 32 := 0#32
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  let v20 : BitVec 32 := v19
  ![0, 0, v20.toNat]
def k0_cond3 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c1_i32 : BitVec 32 := 1#32
  let v7 : BitVec 32 := Scalar.addi arg0 c1_i32
  let c4_i32 : BitVec 32 := 4#32
  let v8 : BitVec 1 := Scalar.cmpi .slt v7 c4_i32
  let v9 : BitVec 1 := Scalar.andi v0 v8
  let v10 : BitVec 32 := Scalar.extui v9
  let c0_i32_3 : BitVec 32 := 0#32
  let v11 : BitVec 1 := Scalar.cmpi .ne v10 c0_i32_3
  v11

def k0_mult3 (i : grid0.Coords) : BitVec 32 :=
  let c0_i32_10 : BitVec 32 := 0#32
  let arg0 : BitVec 32 := BitVec.ofNat 32 (i 0).val
  let c1_i32_9 : BitVec 32 := 1#32
  let v18 : BitVec 32 := Scalar.addi arg0 c1_i32_9
  let c1024_i32 : BitVec 32 := 1024#32
  let v19 : BitVec 32 := Scalar.muli v18 c1024_i32
  let v20 : BitVec 32 := Scalar.addi c0_i32_10 v19
  v20
def k0_off3 (i : grid0.Coords) : Fin 3 → Nat :=
  let c0_i32_11 : BitVec 32 := 0#32
  let c0_i32_12 : BitVec 32 := 0#32
  let c0_i32_10 : BitVec 32 := 0#32
  let arg0 : BitVec 32 := BitVec.ofNat 32 (i 0).val
  let c1_i32_9 : BitVec 32 := 1#32
  let v18 : BitVec 32 := Scalar.addi arg0 c1_i32_9
  let c1024_i32 : BitVec 32 := 1024#32
  let v19 : BitVec 32 := Scalar.muli v18 c1024_i32
  let v20 : BitVec 32 := Scalar.addi c0_i32_10 v19
  let v21 : BitVec 32 := v20
  ![0, 0, v21.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S16384x2048 : Shape := ⟨2, ![16384, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S16384x12288 : Shape := ⟨2, ![16384, 12288]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S1x2048x12288, .f32⟩
  | .hbm, ⟨3, _⟩ => ⟨S2048x12288, .f32⟩
  | .hbm, ⟨4, _⟩ => ⟨S16384x12288, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S16384x2048 : Shape := ⟨2, ![16384, 2048]⟩
abbrev S2x2048x12288 : Shape := ⟨3, ![2, 2048, 12288]⟩
abbrev S2x4096x2048 : Shape := ⟨3, ![2, 4096, 2048]⟩
abbrev S16384x4096 : Shape := ⟨2, ![16384, 4096]⟩
abbrev S4x16384x1 : Shape := ⟨3, ![4, 16384, 1]⟩
abbrev S4096x2048 : Shape := ⟨2, ![4096, 2048]⟩
abbrev S1024x2048 : Shape := ⟨2, ![1024, 2048]⟩
abbrev S1x64x2048 : Shape := ⟨3, ![1, 64, 2048]⟩
abbrev S1024x1024 : Shape := ⟨2, ![1024, 1024]⟩
abbrev S1x1024x1 : Shape := ⟨3, ![1, 1024, 1]⟩
abbrev S64x2048 : Shape := ⟨2, ![64, 2048]⟩
abbrev S2048x1024 : Shape := ⟨2, ![2048, 1024]⟩
abbrev S_ : Shape := ⟨0, ![]⟩
abbrev S1x2048x1024 : Shape := ⟨3, ![1, 2048, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S2x4096x2048, .f32⟩
  | .hbm, ⟨3, _⟩ => ⟨S16384x2048, .bf16⟩
  | .hbm, ⟨4, _⟩ => ⟨S16384x4096, .bf16⟩
  | .hbm, ⟨5, _⟩ => ⟨S4x16384x1, .f32⟩
  | .hbm, ⟨6, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1024x1024, .bf16⟩
  | .local _ .vmem, ⟨5, _⟩ => ⟨S1024x1024, .bf16⟩
  | .local _ .vmem, ⟨6, _⟩ => ⟨S1x1024x1, .f32⟩
  | .local _ .vmem, ⟨7, _⟩ => ⟨S1x1024x1, .f32⟩
  | .local _ .vmem, ⟨8, _⟩ => ⟨S64x2048, .bf16⟩
  | .local _ .vmem, ⟨9, _⟩ => ⟨S64x2048, .bf16⟩
  | .local _ .vmem, ⟨10, _⟩ => ⟨S2048x1024, .bf16⟩
  | .local _ .vmem, ⟨11, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let c4096_i32 : BitVec 32 := 4096#32
  let arg0 : BitVec 32 := BitVec.ofNat 32 (i 0).val
  let c1024_i32 : BitVec 32 := 1024#32
  let v39 : BitVec 32 := Scalar.muli arg0 c1024_i32
  let v40 : BitVec 32 := Scalar.addi c4096_i32 v39
  v40
def k0_off1 (i : grid0.Coords) : Fin 3 → Nat :=
  let c0_i32_21 : BitVec 32 := 0#32
  let c0_i32_22 : BitVec 32 := 0#32
  let c4096_i32 : BitVec 32 := 4096#32
  let arg0 : BitVec 32 := BitVec.ofNat 32 (i 0).val
  let c1024_i32 : BitVec 32 := 1024#32
  let v39 : BitVec 32 := Scalar.muli arg0 c1024_i32
  let v40 : BitVec 32 := Scalar.addi c4096_i32 v39
  let v41 : BitVec 32 := v40
  ![0, 0, v41.toNat]
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_2 : BitVec 32 := 0#32
  let v6 : BitVec 1 := Scalar.cmpi .ne v5 c0_i32_2
  v6

def k0_mult2 (i : grid0.Coords) : BitVec 32 :=
  let c4096_i32 : BitVec 32 := 4096#32
  let arg0 : BitVec 32 := BitVec.ofNat 32 (i 0).val
  let c1024_i32 : BitVec 32 := 1024#32
  let v39 : BitVec 32 := Scalar.muli arg0 c1024_i32
  let v40 : BitVec 32 := Scalar.addi c4096_i32 v39
  v40
def k0_off2 (i : grid0.Coords) : Fin 3 → Nat :=
  let c0_i32_21 : BitVec 32 := 0#32
  let c0_i32_22 : BitVec 32 := 0#32
  let c4096_i32 : BitVec 32 := 4096#32
  let arg0 : BitVec 32 := BitVec.ofNat 32 (i 0).val
  let c1024_i32 : BitVec 32 := 1024#32
  let v39 : BitVec 32 := Scalar.muli arg0 c1024_i32
  let v40 : BitVec 32 := Scalar.addi c4096_i32 v39
  let v41 : BitVec 32 := v40
  ![0, 0, v41.toNat]
def k0_cond3 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c1_i32 : BitVec 32 := 1#32
  let v7 : BitVec 32 := Scalar.addi arg0 c1_i32
  let c4_i32 : BitVec 32 := 4#32
  let v8 : BitVec 1 := Scalar.cmpi .slt v7 c4_i32
  let v9 : BitVec 1 := Scalar.andi v0 v8
  let v10 : BitVec 32 := Scalar.extui v9
  let c0_i32_3 : BitVec 32 := 0#32
  let v11 : BitVec 1 := Scalar.cmpi .ne v10 c0_i32_3
  v11

def k0_mult3 (i : grid0.Coords) : BitVec 32 :=
  let c4096_i32 : BitVec 32 := 4096#32
  let arg0 : BitVec 32 := BitVec.ofNat 32 (i 0).val
  let c1_i32_21 : BitVec 32 := 1#32
  let v39 : BitVec 32 := Scalar.addi arg0 c1_i32_21
  let c1024_i32 : BitVec 32 := 1024#32
  let v40 : BitVec 32 := Scalar.muli v39 c1024_i32
  let v41 : BitVec 32 := Scalar.addi c4096_i32 v40
  v41
def k0_off3 (i : grid0.Coords) : Fin 3 → Nat :=
  let c0_i32_22 : BitVec 32 := 0#32
  let c0_i32_23 : BitVec 32 := 0#32
  let c4096_i32 : BitVec 32 := 4096#32
  let arg0 : BitVec 32 := BitVec.ofNat 32 (i 0).val
  let c1_i32_21 : BitVec 32 := 1#32
  let v39 : BitVec 32 := Scalar.addi arg0 c1_i32_21
  let c1024_i32 : BitVec 32 := 1024#32
  let v40 : BitVec 32 := Scalar.muli v39 c1024_i32
  let v41 : BitVec 32 := Scalar.addi c4096_i32 v40
  let v42 : BitVec 32 := v41
  ![0, 0, v42.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "gelu_ca" => some ((80338380498831 / 2251799813685248 : ℝ) : EReal)
  | _ => none
-- ==== Reference3Ideal.lean ====
abbrev S16384x2048 : Shape := ⟨2, ![16384, 2048]⟩
abbrev S2x2048x12288 : Shape := ⟨3, ![2, 2048, 12288]⟩
abbrev S2x4096x2048 : Shape := ⟨3, ![2, 4096, 2048]⟩
abbrev S1x2048x12288 : Shape := ⟨3, ![1, 2048, 12288]⟩
abbrev S2048x12288 : Shape := ⟨2, ![2048, 12288]⟩
abbrev S16384x12288 : Shape := ⟨2, ![16384, 12288]⟩
abbrev S16384x4096 : Shape := ⟨2, ![16384, 4096]⟩
abbrev S_ : Shape := ⟨0, ![]⟩
abbrev S16384x4x1024 : Shape := ⟨3, ![16384, 4, 1024]⟩
abbrev S16384x4 : Shape := ⟨2, ![16384, 4]⟩
abbrev S4x16384 : Shape := ⟨2, ![4, 16384]⟩
abbrev S4x16384x1 : Shape := ⟨3, ![4, 16384, 1]⟩
abbrev S1x4096x2048 : Shape := ⟨3, ![1, 4096, 2048]⟩
abbrev S4096x2048 : Shape := ⟨2, ![4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x12288, .f32⟩
  | .hbm, ⟨2, _⟩ => ⟨S2x4096x2048, .f32⟩
  | .hbm, ⟨3, _⟩ => ⟨S1x2048x12288, .f32⟩
  | .hbm, ⟨4, _⟩ => ⟨S2048x12288, .f32⟩
  | .hbm, ⟨5, _⟩ => ⟨S16384x12288, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4x1024, .f32⟩
  | .hbm, ⟨28, _⟩ => ⟨S_, .f32⟩
  | .hbm, ⟨29, _⟩ => ⟨S16384x4, .f32⟩
  | .hbm, ⟨30, _⟩ => ⟨S4x16384, .f32⟩
  | .hbm, ⟨31, _⟩ => ⟨S4x16384x1, .f32⟩
  | .hbm, ⟨32, _⟩ => ⟨S16384x4096, .bf16⟩
  | .hbm, ⟨33, _⟩ => ⟨S1x4096x2048, .f32⟩
  | .hbm, ⟨34, _⟩ => ⟨S4096x2048, .f32⟩
  | .hbm, ⟨35, _⟩ => ⟨S4096x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S1024x4096 : Shape := ⟨2, ![1024, 4096]⟩
abbrev S4096x512 : Shape := ⟨2, ![4096, 512]⟩
abbrev S1024x512 : Shape := ⟨2, ![1024, 512]⟩
abbrev S1024x2048 : Shape := ⟨2, ![1024, 2048]⟩
abbrev S4x1024x512 : Shape := ⟨3, ![4, 1024, 512]⟩
abbrev S1x1024x512 : Shape := ⟨3, ![1, 1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S16384x4096, .bf16⟩
  | .hbm, ⟨5, _⟩ => ⟨S4096x2048, .bf16⟩
  | .hbm, ⟨6, _⟩ => ⟨S1x2048, .f32⟩
  | .hbm, ⟨7, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S4x1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v7 : Index := Scalar.indexCast arg1
  let c0_5 : Index := 0#32
  let c0_6 : Index := 0#32
  ![v7.toNat, 0, 0]
def k0_cond1 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel5.lean ====
abbrev S16384x2048 : Shape := ⟨2, ![16384, 2048]⟩
abbrev S1x2048x8192 : Shape := ⟨3, ![1, 2048, 8192]⟩
abbrev S16384x4096 : Shape := ⟨2, ![16384, 4096]⟩
abbrev S2048x2048 : Shape := ⟨2, ![2048, 2048]⟩
abbrev S2048x1024 : Shape := ⟨2, ![2048, 1024]⟩
abbrev S_ : Shape := ⟨0, ![]⟩
abbrev S1x2048x1024 : Shape := ⟨3, ![1, 2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S16384x2048, .bf16⟩
  | .hbm, ⟨3, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  v19
def k0_off1 (i : grid0.Coords) : Fin 3 → Nat :=
  let c0_i32_10 : BitVec 32 := 0#32
  let c0_i32_11 : BitVec 32 := 0#32
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  let v20 : BitVec 32 := v19
  ![0, 0, v20.toNat]
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_2 : BitVec 32 := 0#32
  let v6 : BitVec 1 := Scalar.cmpi .ne v5 c0_i32_2
  v6

def k0_mult2 (i : grid0.Coords) : BitVec 32 :=
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  v19
def k0_off2 (i : grid0.Coords) : Fin 3 → Nat :=
  let c0_i32_10 : BitVec 32 := 0#32
  let c0_i32_11 : BitVec 32 := 0#32
  let c0_i32_9 : BitVec 32 := 0#32
  let arg0 : BitVec 32 := BitVec.ofNat 32 (i 0).val
  let c1024_i32 : BitVec 32 := 1024#32
  let v18 : BitVec 32 := Scalar.muli arg0 c1024_i32
  let v19 : BitVec 32 := Scalar.addi c0_i32_9 v18
  let v20 : BitVec 32 := v19
  ![0, 0, v20.toNat]
def k0_cond3 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c1_i32 : BitVec 32 := 1#32
  let v7 : BitVec 32 := Scalar.addi arg0 c1_i32
  let c4_i32 : BitVec 32 := 4#32
  let v8 : BitVec 1 := Scalar.cmpi .slt v7 c4_i32
  let v9 : BitVec 1 := Scalar.andi v0 v8
  let v10 : BitVec 32 := Scalar.extui v9
  let c0_i32_3 : BitVec 32 := 0#32
  let v11 : BitVec 1 := Scalar.cmpi .ne v10 c0_i32_3
  v11

def k0_mult3 (i : grid0.Coords) : BitVec 32 :=
  let c0_i32_10 : BitVec 32 := 0#32
  let arg0 : BitVec 32 := BitVec.ofNat 32 (i 0).val
  let c1_i32_9 : BitVec 32 := 1#32
  let v18 : BitVec 32 := Scalar.addi arg0 c1_i32_9
  let c1024_i32 : BitVec 32 := 1024#32
  let v19 : BitVec 32 := Scalar.muli v18 c1024_i32
  let v20 : BitVec 32 := Scalar.addi c0_i32_10 v19
  v20
def k0_off3 (i : grid0.Coords) : Fin 3 → Nat :=
  let c0_i32_11 : BitVec 32 := 0#32
  let c0_i32_12 : BitVec 32 := 0#32
  let c0_i32_10 : BitVec 32 := 0#32
  let arg0 : BitVec 32 := BitVec.ofNat 32 (i 0).val
  let c1_i32_9 : BitVec 32 := 1#32
  let v18 : BitVec 32 := Scalar.addi arg0 c1_i32_9
  let c1024_i32 : BitVec 32 := 1024#32
  let v19 : BitVec 32 := Scalar.muli v18 c1024_i32
  let v20 : BitVec 32 := Scalar.addi c0_i32_10 v19
  let v21 : BitVec 32 := v20
  ![0, 0, v21.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S16384x2048 : Shape := ⟨2, ![16384, 2048]⟩
abbrev S1x2048x8192 : Shape := ⟨3, ![1, 2048, 8192]⟩
abbrev S2048x8192 : Shape := ⟨2, ![2048, 8192]⟩
abbrev S16384x8192 : Shape := ⟨2, ![16384, 8192]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S2048x8192, .f32⟩
  | .hbm, ⟨3, _⟩ => ⟨S16384x8192, .f32⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S16384x2048 : Shape := ⟨2, ![16384, 2048]⟩
abbrev S1x2048x8192 : Shape := ⟨3, ![1, 2048, 8192]⟩
abbrev S1x4096x2048 : Shape := ⟨3, ![1, 4096, 2048]⟩
abbrev S16384x4096 : Shape := ⟨2, ![16384, 4096]⟩
abbrev S4096x2048 : Shape := ⟨2, ![4096, 2048]⟩
abbrev S2048x2048 : Shape := ⟨2, ![2048, 2048]⟩
abbrev S1x128x2048 : Shape := ⟨3, ![1, 128, 2048]⟩
abbrev S2048x1024 : Shape := ⟨2, ![2048, 1024]⟩
abbrev S128x2048 : Shape := ⟨2, ![128, 2048]⟩
abbrev S_ : Shape := ⟨0, ![]⟩
abbrev S1x2048x1024 : Shape := ⟨3, ![1, 2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S1x4096x2048, .f32⟩
  | .hbm, ⟨3, _⟩ => ⟨S16384x2048, .bf16⟩
  | .hbm, ⟨4, _⟩ => ⟨S16384x4096, .bf16⟩
  | .hbm, ⟨5, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x128x2048, .f32⟩
  | .local _ .vmem, ⟨3, _⟩ => ⟨S1x128x2048, .f32⟩
  | .local _ .vmem, ⟨4, _⟩ => ⟨S2048x1024, .bf16⟩
  | .local _ .vmem, ⟨5, _⟩ => ⟨S2048x1024, .bf16⟩
  | .local _ .vmem, ⟨6, _⟩ => ⟨S128x2048, .bf16⟩
  | .local _ .vmem, ⟨7, _⟩ => ⟨S128x2048, .bf16⟩
  | .local _ .vmem, ⟨8, _⟩ => ⟨S2048x1024, .bf16⟩
  | .local _ .vmem, ⟨9, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let c4096_i32 : BitVec 32 := 4096#32
  let arg0 : BitVec 32 := BitVec.ofNat 32 (i 0).val
  let c1024_i32 : BitVec 32 := 1024#32
  let v27 : BitVec 32 := Scalar.muli arg0 c1024_i32
  let v28 : BitVec 32 := Scalar.addi c4096_i32 v27
  v28
def k0_off1 (i : grid0.Coords) : Fin 3 → Nat :=
  let c0_i32_15 : BitVec 32 := 0#32
  let c0_i32_16 : BitVec 32 := 0#32
  let c4096_i32 : BitVec 32 := 4096#32
  let arg0 : BitVec 32 := BitVec.ofNat 32 (i 0).val
  let c1024_i32 : BitVec 32 := 1024#32
  let v27 : BitVec 32 := Scalar.muli arg0 c1024_i32
  let v28 : BitVec 32 := Scalar.addi c4096_i32 v27
  let v29 : BitVec 32 := v28
  ![0, 0, v29.toNat]
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_2 : BitVec 32 := 0#32
  let v6 : BitVec 1 := Scalar.cmpi .ne v5 c0_i32_2
  v6

def k0_mult2 (i : grid0.Coords) : BitVec 32 :=
  let c4096_i32 : BitVec 32 := 4096#32
  let arg0 : BitVec 32 := BitVec.ofNat 32 (i 0).val
  let c1024_i32 : BitVec 32 := 1024#32
  let v27 : BitVec 32 := Scalar.muli arg0 c1024_i32
  let v28 : BitVec 32 := Scalar.addi c4096_i32 v27
  v28
def k0_off2 (i : grid0.Coords) : Fin 3 → Nat :=
  let c0_i32_15 : BitVec 32 := 0#32
  let c0_i32_16 : BitVec 32 := 0#32
  let c4096_i32 : BitVec 32 := 4096#32
  let arg0 : BitVec 32 := BitVec.ofNat 32 (i 0).val
  let c1024_i32 : BitVec 32 := 1024#32
  let v27 : BitVec 32 := Scalar.muli arg0 c1024_i32
  let v28 : BitVec 32 := Scalar.addi c4096_i32 v27
  let v29 : BitVec 32 := v28
  ![0, 0, v29.toNat]
def k0_cond3 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c1_i32 : BitVec 32 := 1#32
  let v7 : BitVec 32 := Scalar.addi arg0 c1_i32
  let c4_i32 : BitVec 32 := 4#32
  let v8 : BitVec 1 := Scalar.cmpi .slt v7 c4_i32
  let v9 : BitVec 1 := Scalar.andi v0 v8
  let v10 : BitVec 32 := Scalar.extui v9
  let c0_i32_3 : BitVec 32 := 0#32
  let v11 : BitVec 1 := Scalar.cmpi .ne v10 c0_i32_3
  v11

def k0_mult3 (i : grid0.Coords) : BitVec 32 :=
  let c4096_i32 : BitVec 32 := 4096#32
  let arg0 : BitVec 32 := BitVec.ofNat 32 (i 0).val
  let c1_i32_15 : BitVec 32 := 1#32
  let v27 : BitVec 32 := Scalar.addi arg0 c1_i32_15
  let c1024_i32 : BitVec 32 := 1024#32
  let v28 : BitVec 32 := Scalar.muli v27 c1024_i32
  let v29 : BitVec 32 := Scalar.addi c4096_i32 v28
  v29
def k0_off3 (i : grid0.Coords) : Fin 3 → Nat :=
  let c0_i32_16 : BitVec 32 := 0#32
  let c0_i32_17 : BitVec 32 := 0#32
  let c4096_i32 : BitVec 32 := 4096#32
  let arg0 : BitVec 32 := BitVec.ofNat 32 (i 0).val
  let c1_i32_15 : BitVec 32 := 1#32
  let v27 : BitVec 32 := Scalar.addi arg0 c1_i32_15
  let c1024_i32 : BitVec 32 := 1024#32
  let v28 : BitVec 32 := Scalar.muli v27 c1024_i32
  let v29 : BitVec 32 := Scalar.addi c4096_i32 v28
  let v30 : BitVec 32 := v29
  ![0, 0, v30.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x2048 : Shape := ⟨2, ![16384, 2048]⟩
abbrev S1x2048x8192 : Shape := ⟨3, ![1, 2048, 8192]⟩
abbrev S1x4096x2048 : Shape := ⟨3, ![1, 4096, 2048]⟩
abbrev S2048x8192 : Shape := ⟨2, ![2048, 8192]⟩
abbrev S16384x8192 : Shape := ⟨2, ![16384, 8192]⟩
abbrev S16384x4096 : Shape := ⟨2, ![16384, 4096]⟩
abbrev S_ : Shape := ⟨0, ![]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S1x4096x2048, .f32⟩
  | .hbm, ⟨3, _⟩ => ⟨S2048x8192, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S4096x2048, .f32⟩
  | .hbm, ⟨18, _⟩ => ⟨S4096x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel7.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S1024x4096 : Shape := ⟨2, ![1024, 4096]⟩
abbrev S4096x512 : Shape := ⟨2, ![4096, 512]⟩
abbrev S1024x512 : Shape := ⟨2, ![1024, 512]⟩
abbrev S1024x2048 : Shape := ⟨2, ![1024, 2048]⟩
abbrev S4x1024x512 : Shape := ⟨3, ![4, 1024, 512]⟩
abbrev S1x1024x512 : Shape := ⟨3, ![1, 1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S16384x4096, .bf16⟩
  | .hbm, ⟨5, _⟩ => ⟨S4096x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x2048, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | .local _ .vmem, ⟨10, _⟩ => ⟨S1024x2048, .bf16⟩
  | .local _ .vmem, ⟨11, _⟩ => ⟨S4x1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v8 : Index := Scalar.indexCast arg1
  let c0_7 : Index := 0#32
  let c0_8 : Index := 0#32
  ![v8.toNat, 0, 0]
def k0_cond1 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32 : BitVec 32 := 0#32
  let v14 : BitVec 1 := Scalar.cmpi .ne v13 c0_i32
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel8.lean ====
abbrev S16384x2048 : Shape := ⟨2, ![16384, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S1x2048x8192 : Shape := ⟨3, ![1, 2048, 8192]⟩
abbrev S1x4x1024x1024 : Shape := ⟨4, ![1, 4, 1024, 1024]⟩
abbrev S4x2048x1024 : Shape := ⟨3, ![4, 2048, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1x2048x8192, .f32⟩
  | .hbm, ⟨1, _⟩ => ⟨S1x4x1024x1024, .f32⟩
  | .hbm, ⟨2, _⟩ => ⟨S4x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1x2048x8192 : Shape := ⟨3, ![1, 2048, 8192]⟩
abbrev S1x4x1024x1024 : Shape := ⟨4, ![1, 4, 1024, 1024]⟩
abbrev S2048x8192 : Shape := ⟨2, ![2048, 8192]⟩
abbrev S2048x4096 : Shape := ⟨2, ![2048, 4096]⟩
abbrev S2048x4x1024 : Shape := ⟨3, ![2048, 4, 1024]⟩
abbrev S4x1024x1024 : Shape := ⟨3, ![4, 1024, 1024]⟩
abbrev S4x2048x1024 : Shape := ⟨3, ![4, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S1x4x1024x1024, .f32⟩
  | .hbm, ⟨2, _⟩ => ⟨S2048x8192, .f32⟩
  | .hbm, ⟨3, _⟩ => ⟨S2048x4096, .f32⟩
  | .hbm, ⟨4, _⟩ => ⟨S2048x4096, .f32⟩
  | .hbm, ⟨5, _⟩ => ⟨S2048x4x1024, .f32⟩
  | .hbm, ⟨6, _⟩ => ⟨S4x1024x1024, .f32⟩
  | .hbm, ⟨7, _⟩ => ⟨S4x2048x1024, .f32⟩
  | .hbm, ⟨8, _⟩ => ⟨S4x2048x1024, .bf16⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel10.lean ====
abbrev S16384x2048 : Shape := ⟨2, ![16384, 2048]⟩
abbrev S1x2048x8192 : Shape := ⟨3, ![1, 2048, 8192]⟩
abbrev S1x4x1024x1024 : Shape := ⟨4, ![1, 4, 1024, 1024]⟩
abbrev S4096 : Shape := ⟨1, ![4096]⟩
abbrev S1x4096x2048 : Shape := ⟨3, ![1, 4096, 2048]⟩
abbrev S1x2048x4096 : Shape := ⟨3, ![1, 2048, 4096]⟩
abbrev S2048x4096 : Shape := ⟨2, ![2048, 4096]⟩
abbrev S2048x4x1024 : Shape := ⟨3, ![2048, 4, 1024]⟩
abbrev S4x1024x1024 : Shape := ⟨3, ![4, 1024, 1024]⟩
abbrev S4x2048x1024 : Shape := ⟨3, ![4, 2048, 1024]⟩
abbrev S1x4096 : Shape := ⟨2, ![1, 4096]⟩
abbrev S16384x4096 : Shape := ⟨2, ![16384, 4096]⟩
abbrev S4096x2048 : Shape := ⟨2, ![4096, 2048]⟩
abbrev S16x2048 : Shape := ⟨2, ![16, 2048]⟩
abbrev S1024x2048 : Shape := ⟨2, ![1024, 2048]⟩
abbrev S1x2048x1024 : Shape := ⟨3, ![1, 2048, 1024]⟩
abbrev S1x1024 : Shape := ⟨2, ![1, 1024]⟩
abbrev S1x64x2048 : Shape := ⟨3, ![1, 64, 2048]⟩
abbrev S1024x1024 : Shape := ⟨2, ![1024, 1024]⟩
abbrev S64x2048 : Shape := ⟨2, ![64, 2048]⟩
abbrev S2048x1024 : Shape := ⟨2, ![2048, 1024]⟩
abbrev S_ : Shape := ⟨0, ![]⟩
abbrev S1056x2048 : Shape := ⟨2, ![1056, 2048]⟩
abbrev S128x1 : Shape := ⟨2, ![128, 1]⟩
abbrev S1x256 : Shape := ⟨2, ![1, 256]⟩
abbrev S128x256 : Shape := ⟨2, ![128, 256]⟩
abbrev S256x2048 : Shape := ⟨2, ![256, 2048]⟩
abbrev S128x2048 : Shape := ⟨2, ![128, 2048]⟩

abbrev nBuf : Space → Nat
  | .hbm => 15
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S1x2048x8192, .f32⟩
  | .hbm, ⟨2, _⟩ => ⟨S1x4x1024x1024, .f32⟩
  | .hbm, ⟨3, _⟩ => ⟨S4096, .f32⟩
  | .hbm, ⟨4, _⟩ => ⟨S1x4096x2048, .f32⟩
  | .hbm, ⟨5, _⟩ => ⟨S1x2048x4096, .f32⟩
  | .hbm, ⟨6, _⟩ => ⟨S2048x4096, .f32⟩
  | .hbm, ⟨7, _⟩ => ⟨S2048x4x1024, .f32⟩
  | .hbm, ⟨8, _⟩ => ⟨S4x1024x1024, .f32⟩
  | .hbm, ⟨9, _⟩ => ⟨S4x2048x1024, .f32⟩
  | .hbm, ⟨10, _⟩ => ⟨S16384x2048, .bf16⟩
  | .hbm, ⟨11, _⟩ => ⟨S4x2048x1024, .bf16⟩
  | .hbm, ⟨12, _⟩ => ⟨S1x4096, .f32⟩
  | .hbm, ⟨13, _⟩ => ⟨S16384x4096, .bf16⟩
  | .hbm, ⟨14, _⟩ => ⟨S4096x2048, .bf16⟩
  | .local _ .vmem, ⟨0, _⟩ => ⟨S16x2048, .bf16⟩
  | .local _ .vmem, ⟨1, _⟩ => ⟨S16x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024, .f32⟩
  | .local _ .vmem, ⟨9, _⟩ => ⟨S1x1024, .f32⟩
  | .local _ .vmem, ⟨10, _⟩ => ⟨S1x64x2048, .f32⟩
  | .local _ .vmem, ⟨11, _⟩ => ⟨S1x64x2048, .f32⟩
  | .local _ .vmem, ⟨12, _⟩ => ⟨S1024x1024, .bf16⟩
  | .local _ .vmem, ⟨13, _⟩ => ⟨S1024x1024, .bf16⟩
  | .local _ .vmem, ⟨14, _⟩ => ⟨S64x2048, .bf16⟩
  | .local _ .vmem, ⟨15, _⟩ => ⟨S64x2048, .bf16⟩
  | .local _ .vmem, ⟨16, _⟩ => ⟨S2048x1024, .bf16⟩
  | .local _ .vmem, ⟨17, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let arg0 : BitVec 32 := BitVec.ofNat 32 (i 0).val
  let c0_i32_4 : BitVec 32 := 0#32
  let v5 : BitVec 1 := Scalar.cmpi .eq arg0 c0_i32_4
  let v6 : BitVec 1 := Scalar.andi v4 v5
  let v7 : BitVec 32 := Scalar.extui v6
  let c0_i32_5 : BitVec 32 := 0#32
  let v8 : BitVec 1 := Scalar.cmpi .ne v7 c0_i32_5
  v8

def k0_mult1 (i : grid0.Coords) : BitVec 32 :=
  let c4096_i32 : BitVec 32 := 4096#32
  let arg0 : BitVec 32 := BitVec.ofNat 32 (i 0).val
  let c1024_i32_98 : BitVec 32 := 1024#32
  let v394 : BitVec 32 := Scalar.muli arg0 c1024_i32_98
  let v395 : BitVec 32 := Scalar.addi c4096_i32 v394
  v395
def k0_off1 (i : grid0.Coords) : Fin 3 → Nat :=
  let c0_i32_99 : BitVec 32 := 0#32
  let c0_i32_100 : BitVec 32 := 0#32
  let c4096_i32 : BitVec 32 := 4096#32
  let arg0 : BitVec 32 := BitVec.ofNat 32 (i 0).val
  let c1024_i32_98 : BitVec 32 := 1024#32
  let v394 : BitVec 32 := Scalar.muli arg0 c1024_i32_98
  let v395 : BitVec 32 := Scalar.addi c4096_i32 v394
  let v396 : BitVec 32 := v395
  ![0, 0, v396.toNat]
def k0_cond2 (i : grid0.Coords) : BitVec 1 :=
  let arg1 : BitVec 32 := BitVec.ofNat 32 (i 1).val
  let c0_i32 : BitVec 32 := 0#32
  let v4 : BitVec 1 := Scalar.cmpi .eq arg1 c0_i32
  let v9 : BitVec 32 := Scalar.extui v4
  let c0_i32_6 : BitVec 32 := 0#32
  let v10 : BitVec 1 := Scalar.cmpi .ne v9 c0_i32_6
  v10

def k0_mult2 (i : grid0.Coords) : BitVec 32 :=
  let c4096_i32 : BitVec 32 := 4096#32
  let arg0 : BitVec 32 := BitVec.ofNat 32 (i 0).val
  let c1024_i32_98 : BitVec 32 := 1024#32
  let v394 : BitVec 32 := Scalar.muli arg0 c1024_i32_98
  let v395 : BitVec 32 := Scalar.addi c4096_i32 v394
  v395
def k0_off2 (i : grid0.Coords) : Fin 3 → Nat :=
  let c0_i32_99 : BitVec 32 := 0#32
  let c0_i32_100 : BitVec 32 := 0#32
  let c4096_i32 : BitVec 32 := 4096#32
  let arg0 : BitVec 32 := BitVec.ofNat 32 (i 0).val
  let c1024_i32_98 : BitVec 32 := 1024#32
  let v394 : BitVec 32 := Scalar.muli arg0 c1024_i32_98
  let v395 : BitVec 32 := Scalar.addi c4096_i32 v394
  let v396 : BitVec 32 := v395
  ![0, 0, v396.toNat]
def k0_cond3 (i : grid0.Coords) : BitVec 1 :=
  let arg1 : BitVec 32 := BitVec.ofNat 32 (i 1).val
  let c0_i32 : BitVec 32 := 0#32
  let v4 : BitVec 1 := Scalar.cmpi .eq arg1 c0_i32
  let arg0 : BitVec 32 := BitVec.ofNat 32 (i 0).val
  let c1_i32 : BitVec 32 := 1#32
  let v11 : BitVec 32 := Scalar.addi arg0 c1_i32
  let c4_i32 : BitVec 32 := 4#32
  let v12 : BitVec 1 := Scalar.cmpi .slt v11 c4_i32
  let v13 : BitVec 1 := Scalar.andi v4 v12
  let v14 : BitVec 32 := Scalar.extui v13
  let c0_i32_7 : BitVec 32 := 0#32
  let v15 : BitVec 1 := Scalar.cmpi .ne v14 c0_i32_7
  v15

def k0_mult3 (i : grid0.Coords) : BitVec 32 :=
  let c4096_i32 : BitVec 32 := 4096#32
  let arg0 : BitVec 32 := BitVec.ofNat 32 (i 0).val
  let c1_i32_98 : BitVec 32 := 1#32
  let v394 : BitVec 32 := Scalar.addi arg0 c1_i32_98
  let c1024_i32_99 : BitVec 32 := 1024#32
  let v395 : BitVec 32 := Scalar.muli v394 c1024_i32_99
  let v396 : BitVec 32 := Scalar.addi c4096_i32 v395
  v396
def k0_off3 (i : grid0.Coords) : Fin 3 → Nat :=
  let c0_i32_100 : BitVec 32 := 0#32
  let c0_i32_101 : BitVec 32 := 0#32
  let c4096_i32 : BitVec 32 := 4096#32
  let arg0 : BitVec 32 := BitVec.ofNat 32 (i 0).val
  let c1_i32_98 : BitVec 32 := 1#32
  let v394 : BitVec 32 := Scalar.addi arg0 c1_i32_98
  let c1024_i32_99 : BitVec 32 := 1024#32
  let v395 : BitVec 32 := Scalar.muli v394 c1024_i32_99
  let v396 : BitVec 32 := Scalar.addi c4096_i32 v395
  let v397 : BitVec 32 := v396
  ![0, 0, v397.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S16384x2048 : Shape := ⟨2, ![16384, 2048]⟩
abbrev S1x2048x8192 : Shape := ⟨3, ![1, 2048, 8192]⟩
abbrev S1x4x1024x1024 : Shape := ⟨4, ![1, 4, 1024, 1024]⟩
abbrev S4096 : Shape := ⟨1, ![4096]⟩
abbrev S1x4096x2048 : Shape := ⟨3, ![1, 4096, 2048]⟩
abbrev S4x4096x2048 : Shape := ⟨3, ![4, 4096, 2048]⟩
abbrev S2048x8192 : Shape := ⟨2, ![2048, 8192]⟩
abbrev S4x4096x8192 : Shape := ⟨3, ![4, 4096, 8192]⟩
abbrev S4x4096x4096 : Shape := ⟨3, ![4, 4096, 4096]⟩
abbrev S4x4096x4x1024 : Shape := ⟨4, ![4, 4096, 4, 1024]⟩
abbrev S4x4096x1x1024 : Shape := ⟨4, ![4, 4096, 1, 1024]⟩
abbrev S4x4096x1024 : Shape := ⟨3, ![4, 4096, 1024]⟩
abbrev S_ : Shape := ⟨0, ![]⟩
abbrev S4x4097x1024 : Shape := ⟨3, ![4, 4097, 1024]⟩
abbrev S4096x1 : Shape := ⟨2, ![4096, 1]⟩
abbrev S1 : Shape := ⟨1, ![1]⟩
abbrev S1x1 : Shape := ⟨2, ![1, 1]⟩
abbrev S1x4096x1 : Shape := ⟨3, ![1, 4096, 1]⟩
abbrev S4x1024x1024 : Shape := ⟨3, ![4, 1024, 1024]⟩
abbrev S4x1024x4x4096 : Shape := ⟨4, ![4, 1024, 4, 4096]⟩
abbrev S1x1x4096 : Shape := ⟨3, ![1, 1, 4096]⟩
abbrev S16384x4096 : Shape := ⟨2, ![16384, 4096]⟩
abbrev S4096x2048 : Shape := ⟨2, ![4096, 2048]⟩

abbrev nBuf : Space → Nat
  | .hbm => 418
  | .vmem => 0
  | .smem => 0
  | _ => 0

abbrev hbmTy0_0 (i : Nat) : BufTy := match i % 128 with
  | 0 => ⟨S16384x2048, .f32⟩
  | 1 => ⟨S1x2048x8192, .f32⟩
  | 2 => ⟨S1x4x1024x1024, .f32⟩
  | 3 => ⟨S4096, .f32⟩
  | 4 => ⟨S1x4096x2048, .f32⟩
  | 5 => ⟨S4x4096x2048, .f32⟩
  | 6 => ⟨S2048x8192, .f32⟩
  | 7 => ⟨S4x4096x8192, .f32⟩
  | 8 => ⟨S4x4096x4096, .f32⟩
  | 9 => ⟨S4x4096x4096, .f32⟩
  | 10 => ⟨S4x4096x4x1024, .f32⟩
  | 11 => ⟨S4096, .i32⟩
  | 12 => ⟨S4x4096x1x1024, .f32⟩
  | 13 => ⟨S4x4096x1024, .f32⟩
  | 14 => ⟨S_, .f32⟩
  | 15 => ⟨S_, .f32⟩
  | 16 => ⟨S4x4096x1024, .f32⟩
  | 17 => ⟨S_, .i32⟩
  | 18 => ⟨S_, .f32⟩
  | 19 => ⟨S4x4097x1024, .f32⟩
  | 20 => ⟨S_, .i32⟩
  | 21 => ⟨S4096, .i32⟩
  | 22 => ⟨S4096, .i32⟩
  | 23 => ⟨S_, .i32⟩
  | 24 => ⟨S_, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S_, .i32⟩
  | 41 => ⟨S_, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S1, .i32⟩
  | 60 => ⟨S_, .i32⟩
  | 61 => ⟨S4096x1, .i32⟩
  | 62 => ⟨S4096x1, .i1⟩
  | 63 => ⟨S1x1, .i32⟩
  | 64 => ⟨S4096x1, .i32⟩
  | 65 => ⟨S4096x1, .i1⟩
  | 66 => ⟨S4096x1, .i1⟩
  | 67 => ⟨S_, .i1⟩
  | 68 => ⟨S4096, .i1⟩
  | 69 => ⟨S4x4096x1024, .f32⟩
  | 70 => ⟨S4x4096x1024, .i1⟩
  | 71 => ⟨S_, .f32⟩
  | 72 => ⟨S4x4096x1024, .f32⟩
  | 73 => ⟨S4x4096x1024, .f32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S1, .i32⟩
  | 83 => ⟨S_, .i32⟩
  | 84 => ⟨S4096x1, .i32⟩
  | 85 => ⟨S4096x1, .i1⟩
  | 86 => ⟨S1x1, .i32⟩
  | 87 => ⟨S4096x1, .i32⟩
  | 88 => ⟨S4096x1, .i1⟩
  | 89 => ⟨S4096x1, .i1⟩
  | 90 => ⟨S_, .i1⟩
  | 91 => ⟨S4096, .i1⟩
  | 92 => ⟨S4x4096x1024, .f32⟩
  | 93 => ⟨S4x4096x1024, .i1⟩
  | 94 => ⟨S_, .f32⟩
  | 95 => ⟨S4x4096x1024, .f32⟩
  | 96 => ⟨S4x4096x1024, .f32⟩
  | 97 => ⟨S4x4096x1024, .f32⟩
  | 98 => ⟨S4096, .i32⟩
  | 99 => ⟨S_, .i32⟩
  | 100 => ⟨S4096, .i32⟩
  | 101 => ⟨S4096, .i32⟩
  | 102 => ⟨S4096, .f32⟩
  | 103 => ⟨S1x4096x1, .f32⟩
  | 104 => ⟨S4x4096x1024, .f32⟩
  | 105 => ⟨S4x4096x1024, .f32⟩
  | 106 => ⟨S4x4096x1024, .f32⟩
  | 107 => ⟨S4x4096x1x1024, .f32⟩
  | 108 => ⟨S4x4096x1024, .f32⟩
  | 109 => ⟨S_, .f32⟩
  | 110 => ⟨S_, .f32⟩
  | 111 => ⟨S4x4096x1024, .f32⟩
  | 112 => ⟨S_, .i32⟩
  | 113 => ⟨S_, .f32⟩
  | 114 => ⟨S4x4097x1024, .f32⟩
  | 115 => ⟨S_, .i32⟩
  | 116 => ⟨S4096, .i32⟩
  | 117 => ⟨S4096, .i32⟩
  | 118 => ⟨S_, .i32⟩
  | 119 => ⟨S_, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S16384x2048, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S1, .i32⟩
  | 27 => ⟨S_, .i32⟩
  | 28 => ⟨S4096x1, .i32⟩
  | 29 => ⟨S4096x1, .i1⟩
  | 30 => ⟨S1x1, .i32⟩
  | 31 => ⟨S4096x1, .i32⟩
  | 32 => ⟨S4096x1, .i1⟩
  | 33 => ⟨S4096x1, .i1⟩
  | 34 => ⟨S_, .i1⟩
  | 35 => ⟨S4096, .i1⟩
  | 36 => ⟨S4x4096x1024, .f32⟩
  | 37 => ⟨S4x4096x1024, .i1⟩
  | 38 => ⟨S_, .f32⟩
  | 39 => ⟨S4x4096x1024, .f32⟩
  | 40 => ⟨S4x4096x1024, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S1, .i32⟩
  | 50 => ⟨S_, .i32⟩
  | 51 => ⟨S4096x1, .i32⟩
  | 52 => ⟨S4096x1, .i1⟩
  | 53 => ⟨S1x1, .i32⟩
  | 54 => ⟨S4096x1, .i32⟩
  | 55 => ⟨S4096x1, .i1⟩
  | 56 => ⟨S4096x1, .i1⟩
  | 57 => ⟨S_, .i1⟩
  | 58 => ⟨S4096, .i1⟩
  | 59 => ⟨S4x4096x1024, .f32⟩
  | 60 => ⟨S4x4096x1024, .i1⟩
  | 61 => ⟨S_, .f32⟩
  | 62 => ⟨S4x4096x1024, .f32⟩
  | 63 => ⟨S4x4096x1024, .f32⟩
  | 64 => ⟨S4x4096x1024, .f32⟩
  | 65 => ⟨S4096, .i32⟩
  | 66 => ⟨S_, .i32⟩
  | 67 => ⟨S4096, .i32⟩
  | 68 => ⟨S4096, .i32⟩
  | 69 => ⟨S4096, .f32⟩
  | 70 => ⟨S1x4096x1, .f32⟩
  | 71 => ⟨S4x4096x1024, .f32⟩
  | 72 => ⟨S4x4096x1024, .f32⟩
  | 73 => ⟨S4x4096x1024, .f32⟩
  | 74 => ⟨S4x4096x1x1024, .f32⟩
  | 75 => ⟨S4x4096x1024, .f32⟩
  | 76 => ⟨S_, .f32⟩
  | 77 => ⟨S_, .f32⟩
  | 78 => ⟨S4x4096x1024, .f32⟩
  | 79 => ⟨S_, .i32⟩
  | 80 => ⟨S_, .f32⟩
  | 81 => ⟨S4x4097x1024, .f32⟩
  | 82 => ⟨S_, .i32⟩
  | 83 => ⟨S4096, .i32⟩
  | 84 => ⟨S4096, .i32⟩
  | 85 => ⟨S_, .i32⟩
  | 86 => ⟨S_, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S_, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S1, .i32⟩
  | 122 => ⟨S_, .i32⟩
  | 123 => ⟨S4096x1, .i32⟩
  | 124 => ⟨S4096x1, .i1⟩
  | 125 => ⟨S1x1, .i32⟩
  | 126 => ⟨S4096x1, .i32⟩
  | 127 => ⟨S4096x1, .i1⟩
  | _ => ⟨S16384x2048, .f32⟩

abbrev hbmTy0_2 (i : Nat) : BufTy := match i % 128 with
  | 0 => ⟨S4096x1, .i1⟩
  | 1 => ⟨S_, .i1⟩
  | 2 => ⟨S4096, .i1⟩
  | 3 => ⟨S4x4096x1024, .f32⟩
  | 4 => ⟨S4x4096x1024, .i1⟩
  | 5 => ⟨S_, .f32⟩
  | 6 => ⟨S4x4096x1024, .f32⟩
  | 7 => ⟨S4x4096x1024, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S1, .i32⟩
  | 17 => ⟨S_, .i32⟩
  | 18 => ⟨S4096x1, .i32⟩
  | 19 => ⟨S4096x1, .i1⟩
  | 20 => ⟨S1x1, .i32⟩
  | 21 => ⟨S4096x1, .i32⟩
  | 22 => ⟨S4096x1, .i1⟩
  | 23 => ⟨S4096x1, .i1⟩
  | 24 => ⟨S_, .i1⟩
  | 25 => ⟨S4096, .i1⟩
  | 26 => ⟨S4x4096x1024, .f32⟩
  | 27 => ⟨S4x4096x1024, .i1⟩
  | 28 => ⟨S_, .f32⟩
  | 29 => ⟨S4x4096x1024, .f32⟩
  | 30 => ⟨S4x4096x1024, .f32⟩
  | 31 => ⟨S4x4096x1024, .f32⟩
  | 32 => ⟨S4096, .i32⟩
  | 33 => ⟨S_, .i32⟩
  | 34 => ⟨S4096, .i32⟩
  | 35 => ⟨S4096, .i32⟩
  | 36 => ⟨S4096, .f32⟩
  | 37 => ⟨S1x4096x1, .f32⟩
  | 38 => ⟨S4x4096x1024, .f32⟩
  | 39 => ⟨S4x4096x1024, .f32⟩
  | 40 => ⟨S4x4096x1024, .f32⟩
  | 41 => ⟨S4x4096x1x1024, .f32⟩
  | 42 => ⟨S4x4096x1024, .f32⟩
  | 43 => ⟨S_, .f32⟩
  | 44 => ⟨S_, .f32⟩
  | 45 => ⟨S4x4096x1024, .f32⟩
  | 46 => ⟨S_, .i32⟩
  | 47 => ⟨S_, .f32⟩
  | 48 => ⟨S4x4097x1024, .f32⟩
  | 49 => ⟨S_, .i32⟩
  | 50 => ⟨S4096, .i32⟩
  | 51 => ⟨S4096, .i32⟩
  | 52 => ⟨S_, .i32⟩
  | 53 => ⟨S_, .i32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S_, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S1, .i32⟩
  | 89 => ⟨S_, .i32⟩
  | 90 => ⟨S4096x1, .i32⟩
  | 91 => ⟨S4096x1, .i1⟩
  | 92 => ⟨S1x1, .i32⟩
  | 93 => ⟨S4096x1, .i32⟩
  | 94 => ⟨S4096x1, .i1⟩
  | 95 => ⟨S4096x1, .i1⟩
  | 96 => ⟨S_, .i1⟩
  | 97 => ⟨S4096, .i1⟩
  | 98 => ⟨S4x4096x1024, .f32⟩
  | 99 => ⟨S4x4096x1024, .i1⟩
  | 100 => ⟨S_, .f32⟩
  | 101 => ⟨S4x4096x1024, .f32⟩
  | 102 => ⟨S4x4096x1024, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S1, .i32⟩
  | 112 => ⟨S_, .i32⟩
  | 113 => ⟨S4096x1, .i32⟩
  | 114 => ⟨S4096x1, .i1⟩
  | 115 => ⟨S1x1, .i32⟩
  | 116 => ⟨S4096x1, .i32⟩
  | 117 => ⟨S4096x1, .i1⟩
  | 118 => ⟨S4096x1, .i1⟩
  | 119 => ⟨S_, .i1⟩
  | 120 => ⟨S4096, .i1⟩
  | 121 => ⟨S4x4096x1024, .f32⟩
  | 122 => ⟨S4x4096x1024, .i1⟩
  | 123 => ⟨S_, .f32⟩
  | 124 => ⟨S4x4096x1024, .f32⟩
  | 125 => ⟨S4x4096x1024, .f32⟩
  | 126 => ⟨S4x4096x1024, .f32⟩
  | 127 => ⟨S4096, .i32⟩
  | _ => ⟨S16384x2048, .f32⟩

abbrev hbmTy0_3 (i : Nat) : BufTy := match i % 128 with
  | 0 => ⟨S_, .i32⟩
  | 1 => ⟨S4096, .i32⟩
  | 2 => ⟨S4096, .i32⟩
  | 3 => ⟨S4096, .f32⟩
  | 4 => ⟨S1x4096x1, .f32⟩
  | 5 => ⟨S4x4096x1024, .f32⟩
  | 6 => ⟨S4x4096x1024, .f32⟩
  | 7 => ⟨S4x4096x1024, .f32⟩
  | 8 => ⟨S4x4096x1x1024, .f32⟩
  | 9 => ⟨S4x4096x1x1024, .f32⟩
  | 10 => ⟨S4x4096x1x1024, .f32⟩
  | 11 => ⟨S4x4096x1x1024, .f32⟩
  | 12 => ⟨S4x4096x4x1024, .f32⟩
  | 13 => ⟨S4x1024x1024, .f32⟩
  | 14 => ⟨S4x1024x4x4096, .f32⟩
  | 15 => ⟨S4x4096x4x1024, .f32⟩
  | 16 => ⟨S4x4096x4096, .f32⟩
  | 17 => ⟨S1x1x4096, .f32⟩
  | 18 => ⟨S4x4096x4096, .f32⟩
  | 19 => ⟨S4x4096x4096, .f32⟩
  | 20 => ⟨S4x4096x4096, .f32⟩
  | 21 => ⟨S4x4096x4096, .f32⟩
  | 22 => ⟨S_, .f32⟩
  | 23 => ⟨S4x4096x4096, .f32⟩
  | 24 => ⟨S4x4096x4096, .f32⟩
  | 25 => ⟨S_, .f32⟩
  | 26 => ⟨S4x4096x4096, .f32⟩
  | 27 => ⟨S4x4096x4096, .f32⟩
  | 28 => ⟨S4x4096x4096, .f32⟩
  | 29 => ⟨S4x4096x4096, .f32⟩
  | 30 => ⟨S4x4096x4096, .bf16⟩
  | 31 => ⟨S16384x4096, .bf16⟩
  | 32 => ⟨S4096x2048, .f32⟩
  | 33 => ⟨S4096x2048, .bf16⟩
  | _ => ⟨S16384x2048, .f32⟩

abbrev hbmTy (i : Nat) : BufTy := match i / 128 with
  | 0 => hbmTy0_0 i
  | 1 => hbmTy0_1 i
  | 2 => hbmTy0_2 i
  | 3 => hbmTy0_3 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_c : Ref sig .tc := ⟨.hbm, 17, rfl⟩
abbrev main_call1_v0 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_c_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_c_7 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v20 : Ref sig .tc := ⟨.hbm, 47, rfl⟩
abbrev main_c_8 : Ref sig .tc := ⟨.hbm, 48, rfl⟩
abbrev main_v21 : Ref sig .tc := ⟨.hbm, 49, rfl⟩
abbrev main_v22 : Ref sig .tc := ⟨.hbm, 50, rfl⟩
abbrev main_call4_c : Ref sig .tc := ⟨.hbm, 51, rfl⟩
abbrev main_call4_v0 : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_c_1 : Ref sig .tc := ⟨.hbm, 59, rfl⟩
abbrev main_call4_c_2 : Ref sig .tc := ⟨.hbm, 60, rfl⟩
abbrev main_call4_v6 : Ref sig .tc := ⟨.hbm, 61, rfl⟩
abbrev main_call4_v7 : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_c_3 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_call4_cst : Ref sig .tc := ⟨.hbm, 71, rfl⟩
abbrev main_call4_v15 : Ref sig .tc := ⟨.hbm, 72, rfl⟩
abbrev main_v23 : Ref sig .tc := ⟨.hbm, 73, rfl⟩
abbrev main_call5_c : Ref sig .tc := ⟨.hbm, 74, rfl⟩
abbrev main_call5_v0 : Ref sig .tc := ⟨.hbm, 75, rfl⟩
abbrev main_call5_v1 : Ref sig .tc := ⟨.hbm, 76, rfl⟩
abbrev main_call5_c_0 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_c_1 : Ref sig .tc := ⟨.hbm, 82, rfl⟩
abbrev main_call5_c_2 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_c_3 : Ref sig .tc := ⟨.hbm, 90, rfl⟩
abbrev main_call5_v12 : Ref sig .tc := ⟨.hbm, 91, rfl⟩
abbrev main_call5_v13 : Ref sig .tc := ⟨.hbm, 92, rfl⟩
abbrev main_call5_v14 : Ref sig .tc := ⟨.hbm, 93, rfl⟩
abbrev main_call5_cst : Ref sig .tc := ⟨.hbm, 94, rfl⟩
abbrev main_call5_v15 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_c_9 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_call6_cst : Ref sig .tc := ⟨.hbm, 109, rfl⟩
abbrev main_call6_v0 : Ref sig .tc := ⟨.hbm, 110, rfl⟩
abbrev main_v36 : Ref sig .tc := ⟨.hbm, 111, rfl⟩
abbrev main_c_10 : Ref sig .tc := ⟨.hbm, 112, rfl⟩
abbrev main_call7_v0 : Ref sig .tc := ⟨.hbm, 113, rfl⟩
abbrev main_v37 : Ref sig .tc := ⟨.hbm, 114, rfl⟩
abbrev main_c_11 : Ref sig .tc := ⟨.hbm, 115, rfl⟩
abbrev main_v38 : Ref sig .tc := ⟨.hbm, 116, rfl⟩
abbrev main_v39 : Ref sig .tc := ⟨.hbm, 117, rfl⟩
abbrev main_c_12 : Ref sig .tc := ⟨.hbm, 118, rfl⟩
abbrev main_c_13 : Ref sig .tc := ⟨.hbm, 119, rfl⟩
abbrev main_call8_v0 : Ref sig .tc := ⟨.hbm, 120, rfl⟩
abbrev main_call8_v1 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_v40 : Ref sig .tc := ⟨.hbm, 125, rfl⟩
abbrev main_c_14 : Ref sig .tc := ⟨.hbm, 126, rfl⟩
abbrev main_v41 : Ref sig .tc := ⟨.hbm, 127, rfl⟩
abbrev main_v42 : Ref sig .tc := ⟨.hbm, 128, rfl⟩
abbrev main_c_15 : Ref sig .tc := ⟨.hbm, 129, rfl⟩
abbrev main_v43 : Ref sig .tc := ⟨.hbm, 130, rfl⟩
abbrev main_v44 : Ref sig .tc := ⟨.hbm, 131, rfl⟩
abbrev main_c_16 : Ref sig .tc := ⟨.hbm, 132, rfl⟩
abbrev main_v45 : Ref sig .tc := ⟨.hbm, 133, rfl⟩
abbrev main_v46 : Ref sig .tc := ⟨.hbm, 134, rfl⟩
abbrev main_c_17 : Ref sig .tc := ⟨.hbm, 135, rfl⟩
abbrev main_c_18 : Ref sig .tc := ⟨.hbm, 136, rfl⟩
abbrev main_call9_v0 : Ref sig .tc := ⟨.hbm, 137, rfl⟩
abbrev main_call9_v1 : Ref sig .tc := ⟨.hbm, 138, rfl⟩
abbrev main_call9_v2 : Ref sig .tc := ⟨.hbm, 139, rfl⟩
abbrev main_call9_v3 : Ref sig .tc := ⟨.hbm, 140, rfl⟩
abbrev main_call9_v4 : Ref sig .tc := ⟨.hbm, 141, rfl⟩
abbrev main_v47 : Ref sig .tc := ⟨.hbm, 142, rfl⟩
abbrev main_c_19 : Ref sig .tc := ⟨.hbm, 143, rfl⟩
abbrev main_v48 : Ref sig .tc := ⟨.hbm, 144, rfl⟩
abbrev main_v49 : Ref sig .tc := ⟨.hbm, 145, rfl⟩
abbrev main_call10_c : Ref sig .tc := ⟨.hbm, 146, rfl⟩
abbrev main_call10_v0 : Ref sig .tc := ⟨.hbm, 147, rfl⟩
abbrev main_call10_v1 : Ref sig .tc := ⟨.hbm, 148, rfl⟩
abbrev main_call10_c_0 : Ref sig .tc := ⟨.hbm, 149, rfl⟩
abbrev main_call10_v2 : Ref sig .tc := ⟨.hbm, 150, rfl⟩
abbrev main_call10_v3 : Ref sig .tc := ⟨.hbm, 151, rfl⟩
abbrev main_call10_v4 : Ref sig .tc := ⟨.hbm, 152, rfl⟩
abbrev main_call10_v5 : Ref sig .tc := ⟨.hbm, 153, rfl⟩
abbrev main_call10_c_1 : Ref sig .tc := ⟨.hbm, 154, rfl⟩
abbrev main_call10_c_2 : Ref sig .tc := ⟨.hbm, 155, rfl⟩
abbrev main_call10_v6 : Ref sig .tc := ⟨.hbm, 156, rfl⟩
abbrev main_call10_v7 : Ref sig .tc := ⟨.hbm, 157, rfl⟩
abbrev main_call10_v8 : Ref sig .tc := ⟨.hbm, 158, rfl⟩
abbrev main_call10_v9 : Ref sig .tc := ⟨.hbm, 159, rfl⟩
abbrev main_call10_v10 : Ref sig .tc := ⟨.hbm, 160, rfl⟩
abbrev main_call10_v11 : Ref sig .tc := ⟨.hbm, 161, rfl⟩
abbrev main_call10_c_3 : Ref sig .tc := ⟨.hbm, 162, rfl⟩
abbrev main_call10_v12 : Ref sig .tc := ⟨.hbm, 163, rfl⟩
abbrev main_call10_v13 : Ref sig .tc := ⟨.hbm, 164, rfl⟩
abbrev main_call10_v14 : Ref sig .tc := ⟨.hbm, 165, rfl⟩
abbrev main_call10_cst : Ref sig .tc := ⟨.hbm, 166, rfl⟩
abbrev main_call10_v15 : Ref sig .tc := ⟨.hbm, 167, rfl⟩
abbrev main_v50 : Ref sig .tc := ⟨.hbm, 168, rfl⟩
abbrev main_call11_c : Ref sig .tc := ⟨.hbm, 169, rfl⟩
abbrev main_call11_v0 : Ref sig .tc := ⟨.hbm, 170, rfl⟩
abbrev main_call11_v1 : Ref sig .tc := ⟨.hbm, 171, rfl⟩
abbrev main_call11_c_0 : Ref sig .tc := ⟨.hbm, 172, rfl⟩
abbrev main_call11_v2 : Ref sig .tc := ⟨.hbm, 173, rfl⟩
abbrev main_call11_v3 : Ref sig .tc := ⟨.hbm, 174, rfl⟩
abbrev main_call11_v4 : Ref sig .tc := ⟨.hbm, 175, rfl⟩
abbrev main_call11_v5 : Ref sig .tc := ⟨.hbm, 176, rfl⟩
abbrev main_call11_c_1 : Ref sig .tc := ⟨.hbm, 177, rfl⟩
abbrev main_call11_c_2 : Ref sig .tc := ⟨.hbm, 178, rfl⟩
abbrev main_call11_v6 : Ref sig .tc := ⟨.hbm, 179, rfl⟩
abbrev main_call11_v7 : Ref sig .tc := ⟨.hbm, 180, rfl⟩
abbrev main_call11_v8 : Ref sig .tc := ⟨.hbm, 181, rfl⟩
abbrev main_call11_v9 : Ref sig .tc := ⟨.hbm, 182, rfl⟩
abbrev main_call11_v10 : Ref sig .tc := ⟨.hbm, 183, rfl⟩
abbrev main_call11_v11 : Ref sig .tc := ⟨.hbm, 184, rfl⟩
abbrev main_call11_c_3 : Ref sig .tc := ⟨.hbm, 185, rfl⟩
abbrev main_call11_v12 : Ref sig .tc := ⟨.hbm, 186, rfl⟩
abbrev main_call11_v13 : Ref sig .tc := ⟨.hbm, 187, rfl⟩
abbrev main_call11_v14 : Ref sig .tc := ⟨.hbm, 188, rfl⟩
abbrev main_call11_cst : Ref sig .tc := ⟨.hbm, 189, rfl⟩
abbrev main_call11_v15 : Ref sig .tc := ⟨.hbm, 190, rfl⟩
abbrev main_v51 : Ref sig .tc := ⟨.hbm, 191, rfl⟩
abbrev main_v52 : Ref sig .tc := ⟨.hbm, 192, rfl⟩
abbrev main_v53 : Ref sig .tc := ⟨.hbm, 193, rfl⟩
abbrev main_c_20 : Ref sig .tc := ⟨.hbm, 194, rfl⟩
abbrev main_v54 : Ref sig .tc := ⟨.hbm, 195, rfl⟩
abbrev main_v55 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_v59 : Ref sig .tc := ⟨.hbm, 200, rfl⟩
abbrev main_v60 : Ref sig .tc := ⟨.hbm, 201, rfl⟩
abbrev main_v61 : Ref sig .tc := ⟨.hbm, 202, rfl⟩
abbrev main_v62 : Ref sig .tc := ⟨.hbm, 203, rfl⟩
abbrev main_call12_cst : Ref sig .tc := ⟨.hbm, 204, rfl⟩
abbrev main_call12_v0 : Ref sig .tc := ⟨.hbm, 205, rfl⟩
abbrev main_v63 : Ref sig .tc := ⟨.hbm, 206, rfl⟩
abbrev main_c_21 : Ref sig .tc := ⟨.hbm, 207, rfl⟩
abbrev main_call13_v0 : Ref sig .tc := ⟨.hbm, 208, rfl⟩
abbrev main_v64 : Ref sig .tc := ⟨.hbm, 209, rfl⟩
abbrev main_c_22 : Ref sig .tc := ⟨.hbm, 210, rfl⟩
abbrev main_v65 : Ref sig .tc := ⟨.hbm, 211, rfl⟩
abbrev main_v66 : Ref sig .tc := ⟨.hbm, 212, rfl⟩
abbrev main_c_23 : Ref sig .tc := ⟨.hbm, 213, rfl⟩
abbrev main_c_24 : Ref sig .tc := ⟨.hbm, 214, rfl⟩
abbrev main_call14_v0 : Ref sig .tc := ⟨.hbm, 215, rfl⟩
abbrev main_call14_v1 : Ref sig .tc := ⟨.hbm, 216, rfl⟩
abbrev main_call14_v2 : Ref sig .tc := ⟨.hbm, 217, rfl⟩
abbrev main_call14_v3 : Ref sig .tc := ⟨.hbm, 218, rfl⟩
abbrev main_call14_v4 : Ref sig .tc := ⟨.hbm, 219, rfl⟩
abbrev main_v67 : Ref sig .tc := ⟨.hbm, 220, rfl⟩
abbrev main_c_25 : Ref sig .tc := ⟨.hbm, 221, rfl⟩
abbrev main_v68 : Ref sig .tc := ⟨.hbm, 222, rfl⟩
abbrev main_v69 : Ref sig .tc := ⟨.hbm, 223, rfl⟩
abbrev main_c_26 : Ref sig .tc := ⟨.hbm, 224, rfl⟩
abbrev main_v70 : Ref sig .tc := ⟨.hbm, 225, rfl⟩
abbrev main_v71 : Ref sig .tc := ⟨.hbm, 226, rfl⟩
abbrev main_c_27 : Ref sig .tc := ⟨.hbm, 227, rfl⟩
abbrev main_v72 : Ref sig .tc := ⟨.hbm, 228, rfl⟩
abbrev main_v73 : Ref sig .tc := ⟨.hbm, 229, rfl⟩
abbrev main_c_28 : Ref sig .tc := ⟨.hbm, 230, rfl⟩
abbrev main_c_29 : Ref sig .tc := ⟨.hbm, 231, rfl⟩
abbrev main_call15_v0 : Ref sig .tc := ⟨.hbm, 232, rfl⟩
abbrev main_call15_v1 : Ref sig .tc := ⟨.hbm, 233, rfl⟩
abbrev main_call15_v2 : Ref sig .tc := ⟨.hbm, 234, rfl⟩
abbrev main_call15_v3 : Ref sig .tc := ⟨.hbm, 235, rfl⟩
abbrev main_call15_v4 : Ref sig .tc := ⟨.hbm, 236, rfl⟩
abbrev main_v74 : Ref sig .tc := ⟨.hbm, 237, rfl⟩
abbrev main_c_30 : Ref sig .tc := ⟨.hbm, 238, rfl⟩
abbrev main_v75 : Ref sig .tc := ⟨.hbm, 239, rfl⟩
abbrev main_v76 : Ref sig .tc := ⟨.hbm, 240, rfl⟩
abbrev main_call16_c : Ref sig .tc := ⟨.hbm, 241, rfl⟩
abbrev main_call16_v0 : Ref sig .tc := ⟨.hbm, 242, rfl⟩
abbrev main_call16_v1 : Ref sig .tc := ⟨.hbm, 243, rfl⟩
abbrev main_call16_c_0 : Ref sig .tc := ⟨.hbm, 244, rfl⟩
abbrev main_call16_v2 : Ref sig .tc := ⟨.hbm, 245, rfl⟩
abbrev main_call16_v3 : Ref sig .tc := ⟨.hbm, 246, rfl⟩
abbrev main_call16_v4 : Ref sig .tc := ⟨.hbm, 247, rfl⟩
abbrev main_call16_v5 : Ref sig .tc := ⟨.hbm, 248, rfl⟩
abbrev main_call16_c_1 : Ref sig .tc := ⟨.hbm, 249, rfl⟩
abbrev main_call16_c_2 : Ref sig .tc := ⟨.hbm, 250, rfl⟩
abbrev main_call16_v6 : Ref sig .tc := ⟨.hbm, 251, rfl⟩
abbrev main_call16_v7 : Ref sig .tc := ⟨.hbm, 252, rfl⟩
abbrev main_call16_v8 : Ref sig .tc := ⟨.hbm, 253, rfl⟩
abbrev main_call16_v9 : Ref sig .tc := ⟨.hbm, 254, rfl⟩
abbrev main_call16_v10 : Ref sig .tc := ⟨.hbm, 255, rfl⟩
abbrev main_call16_v11 : Ref sig .tc := ⟨.hbm, 256, rfl⟩
abbrev main_call16_c_3 : Ref sig .tc := ⟨.hbm, 257, rfl⟩
abbrev main_call16_v12 : Ref sig .tc := ⟨.hbm, 258, rfl⟩
abbrev main_call16_v13 : Ref sig .tc := ⟨.hbm, 259, rfl⟩
abbrev main_call16_v14 : Ref sig .tc := ⟨.hbm, 260, rfl⟩
abbrev main_call16_cst : Ref sig .tc := ⟨.hbm, 261, rfl⟩
abbrev main_call16_v15 : Ref sig .tc := ⟨.hbm, 262, rfl⟩
abbrev main_v77 : Ref sig .tc := ⟨.hbm, 263, rfl⟩
abbrev main_call17_c : Ref sig .tc := ⟨.hbm, 264, rfl⟩
abbrev main_call17_v0 : Ref sig .tc := ⟨.hbm, 265, rfl⟩
abbrev main_call17_v1 : Ref sig .tc := ⟨.hbm, 266, rfl⟩
abbrev main_call17_c_0 : Ref sig .tc := ⟨.hbm, 267, rfl⟩
abbrev main_call17_v2 : Ref sig .tc := ⟨.hbm, 268, rfl⟩
abbrev main_call17_v3 : Ref sig .tc := ⟨.hbm, 269, rfl⟩
abbrev main_call17_v4 : Ref sig .tc := ⟨.hbm, 270, rfl⟩
abbrev main_call17_v5 : Ref sig .tc := ⟨.hbm, 271, rfl⟩
abbrev main_call17_c_1 : Ref sig .tc := ⟨.hbm, 272, rfl⟩
abbrev main_call17_c_2 : Ref sig .tc := ⟨.hbm, 273, rfl⟩
abbrev main_call17_v6 : Ref sig .tc := ⟨.hbm, 274, rfl⟩
abbrev main_call17_v7 : Ref sig .tc := ⟨.hbm, 275, rfl⟩
abbrev main_call17_v8 : Ref sig .tc := ⟨.hbm, 276, rfl⟩
abbrev main_call17_v9 : Ref sig .tc := ⟨.hbm, 277, rfl⟩
abbrev main_call17_v10 : Ref sig .tc := ⟨.hbm, 278, rfl⟩
abbrev main_call17_v11 : Ref sig .tc := ⟨.hbm, 279, rfl⟩
abbrev main_call17_c_3 : Ref sig .tc := ⟨.hbm, 280, rfl⟩
abbrev main_call17_v12 : Ref sig .tc := ⟨.hbm, 281, rfl⟩
abbrev main_call17_v13 : Ref sig .tc := ⟨.hbm, 282, rfl⟩
abbrev main_call17_v14 : Ref sig .tc := ⟨.hbm, 283, rfl⟩
abbrev main_call17_cst : Ref sig .tc := ⟨.hbm, 284, rfl⟩
abbrev main_call17_v15 : Ref sig .tc := ⟨.hbm, 285, rfl⟩
abbrev main_v78 : Ref sig .tc := ⟨.hbm, 286, rfl⟩
abbrev main_v79 : Ref sig .tc := ⟨.hbm, 287, rfl⟩
abbrev main_v80 : Ref sig .tc := ⟨.hbm, 288, rfl⟩
abbrev main_c_31 : Ref sig .tc := ⟨.hbm, 289, rfl⟩
abbrev main_v81 : Ref sig .tc := ⟨.hbm, 290, rfl⟩
abbrev main_v82 : Ref sig .tc := ⟨.hbm, 291, rfl⟩
abbrev main_v83 : Ref sig .tc := ⟨.hbm, 292, rfl⟩
abbrev main_v84 : Ref sig .tc := ⟨.hbm, 293, rfl⟩
abbrev main_v85 : Ref sig .tc := ⟨.hbm, 294, rfl⟩
abbrev main_v86 : Ref sig .tc := ⟨.hbm, 295, rfl⟩
abbrev main_v87 : Ref sig .tc := ⟨.hbm, 296, rfl⟩
abbrev main_v88 : Ref sig .tc := ⟨.hbm, 297, rfl⟩
abbrev main_v89 : Ref sig .tc := ⟨.hbm, 298, rfl⟩
abbrev main_call18_cst : Ref sig .tc := ⟨.hbm, 299, rfl⟩
abbrev main_call18_v0 : Ref sig .tc := ⟨.hbm, 300, rfl⟩
abbrev main_v90 : Ref sig .tc := ⟨.hbm, 301, rfl⟩
abbrev main_c_32 : Ref sig .tc := ⟨.hbm, 302, rfl⟩
abbrev main_call19_v0 : Ref sig .tc := ⟨.hbm, 303, rfl⟩
abbrev main_v91 : Ref sig .tc := ⟨.hbm, 304, rfl⟩
abbrev main_c_33 : Ref sig .tc := ⟨.hbm, 305, rfl⟩
abbrev main_v92 : Ref sig .tc := ⟨.hbm, 306, rfl⟩
abbrev main_v93 : Ref sig .tc := ⟨.hbm, 307, rfl⟩
abbrev main_c_34 : Ref sig .tc := ⟨.hbm, 308, rfl⟩
abbrev main_c_35 : Ref sig .tc := ⟨.hbm, 309, rfl⟩
abbrev main_call20_v0 : Ref sig .tc := ⟨.hbm, 310, rfl⟩
abbrev main_call20_v1 : Ref sig .tc := ⟨.hbm, 311, rfl⟩
abbrev main_call20_v2 : Ref sig .tc := ⟨.hbm, 312, rfl⟩
abbrev main_call20_v3 : Ref sig .tc := ⟨.hbm, 313, rfl⟩
abbrev main_call20_v4 : Ref sig .tc := ⟨.hbm, 314, rfl⟩
abbrev main_v94 : Ref sig .tc := ⟨.hbm, 315, rfl⟩
abbrev main_c_36 : Ref sig .tc := ⟨.hbm, 316, rfl⟩
abbrev main_v95 : Ref sig .tc := ⟨.hbm, 317, rfl⟩
abbrev main_v96 : Ref sig .tc := ⟨.hbm, 318, rfl⟩
abbrev main_c_37 : Ref sig .tc := ⟨.hbm, 319, rfl⟩
abbrev main_v97 : Ref sig .tc := ⟨.hbm, 320, rfl⟩
abbrev main_v98 : Ref sig .tc := ⟨.hbm, 321, rfl⟩
abbrev main_c_38 : Ref sig .tc := ⟨.hbm, 322, rfl⟩
abbrev main_v99 : Ref sig .tc := ⟨.hbm, 323, rfl⟩
abbrev main_v100 : Ref sig .tc := ⟨.hbm, 324, rfl⟩
abbrev main_c_39 : Ref sig .tc := ⟨.hbm, 325, rfl⟩
abbrev main_c_40 : Ref sig .tc := ⟨.hbm, 326, rfl⟩
abbrev main_call21_v0 : Ref sig .tc := ⟨.hbm, 327, rfl⟩
abbrev main_call21_v1 : Ref sig .tc := ⟨.hbm, 328, rfl⟩
abbrev main_call21_v2 : Ref sig .tc := ⟨.hbm, 329, rfl⟩
abbrev main_call21_v3 : Ref sig .tc := ⟨.hbm, 330, rfl⟩
abbrev main_call21_v4 : Ref sig .tc := ⟨.hbm, 331, rfl⟩
abbrev main_v101 : Ref sig .tc := ⟨.hbm, 332, rfl⟩
abbrev main_c_41 : Ref sig .tc := ⟨.hbm, 333, rfl⟩
abbrev main_v102 : Ref sig .tc := ⟨.hbm, 334, rfl⟩
abbrev main_v103 : Ref sig .tc := ⟨.hbm, 335, rfl⟩
abbrev main_call22_c : Ref sig .tc := ⟨.hbm, 336, rfl⟩
abbrev main_call22_v0 : Ref sig .tc := ⟨.hbm, 337, rfl⟩
abbrev main_call22_v1 : Ref sig .tc := ⟨.hbm, 338, rfl⟩
abbrev main_call22_c_0 : Ref sig .tc := ⟨.hbm, 339, rfl⟩
abbrev main_call22_v2 : Ref sig .tc := ⟨.hbm, 340, rfl⟩
abbrev main_call22_v3 : Ref sig .tc := ⟨.hbm, 341, rfl⟩
abbrev main_call22_v4 : Ref sig .tc := ⟨.hbm, 342, rfl⟩
abbrev main_call22_v5 : Ref sig .tc := ⟨.hbm, 343, rfl⟩
abbrev main_call22_c_1 : Ref sig .tc := ⟨.hbm, 344, rfl⟩
abbrev main_call22_c_2 : Ref sig .tc := ⟨.hbm, 345, rfl⟩
abbrev main_call22_v6 : Ref sig .tc := ⟨.hbm, 346, rfl⟩
abbrev main_call22_v7 : Ref sig .tc := ⟨.hbm, 347, rfl⟩
abbrev main_call22_v8 : Ref sig .tc := ⟨.hbm, 348, rfl⟩
abbrev main_call22_v9 : Ref sig .tc := ⟨.hbm, 349, rfl⟩
abbrev main_call22_v10 : Ref sig .tc := ⟨.hbm, 350, rfl⟩
abbrev main_call22_v11 : Ref sig .tc := ⟨.hbm, 351, rfl⟩
abbrev main_call22_c_3 : Ref sig .tc := ⟨.hbm, 352, rfl⟩
abbrev main_call22_v12 : Ref sig .tc := ⟨.hbm, 353, rfl⟩
abbrev main_call22_v13 : Ref sig .tc := ⟨.hbm, 354, rfl⟩
abbrev main_call22_v14 : Ref sig .tc := ⟨.hbm, 355, rfl⟩
abbrev main_call22_cst : Ref sig .tc := ⟨.hbm, 356, rfl⟩
abbrev main_call22_v15 : Ref sig .tc := ⟨.hbm, 357, rfl⟩
abbrev main_v104 : Ref sig .tc := ⟨.hbm, 358, rfl⟩
abbrev main_call23_c : Ref sig .tc := ⟨.hbm, 359, rfl⟩
abbrev main_call23_v0 : Ref sig .tc := ⟨.hbm, 360, rfl⟩
abbrev main_call23_v1 : Ref sig .tc := ⟨.hbm, 361, rfl⟩
abbrev main_call23_c_0 : Ref sig .tc := ⟨.hbm, 362, rfl⟩
abbrev main_call23_v2 : Ref sig .tc := ⟨.hbm, 363, rfl⟩
abbrev main_call23_v3 : Ref sig .tc := ⟨.hbm, 364, rfl⟩
abbrev main_call23_v4 : Ref sig .tc := ⟨.hbm, 365, rfl⟩
abbrev main_call23_v5 : Ref sig .tc := ⟨.hbm, 366, rfl⟩
abbrev main_call23_c_1 : Ref sig .tc := ⟨.hbm, 367, rfl⟩
abbrev main_call23_c_2 : Ref sig .tc := ⟨.hbm, 368, rfl⟩
abbrev main_call23_v6 : Ref sig .tc := ⟨.hbm, 369, rfl⟩
abbrev main_call23_v7 : Ref sig .tc := ⟨.hbm, 370, rfl⟩
abbrev main_call23_v8 : Ref sig .tc := ⟨.hbm, 371, rfl⟩
abbrev main_call23_v9 : Ref sig .tc := ⟨.hbm, 372, rfl⟩
abbrev main_call23_v10 : Ref sig .tc := ⟨.hbm, 373, rfl⟩
abbrev main_call23_v11 : Ref sig .tc := ⟨.hbm, 374, rfl⟩
abbrev main_call23_c_3 : Ref sig .tc := ⟨.hbm, 375, rfl⟩
abbrev main_call23_v12 : Ref sig .tc := ⟨.hbm, 376, rfl⟩
abbrev main_call23_v13 : Ref sig .tc := ⟨.hbm, 377, rfl⟩
abbrev main_call23_v14 : Ref sig .tc := ⟨.hbm, 378, rfl⟩
abbrev main_call23_cst : Ref sig .tc := ⟨.hbm, 379, rfl⟩
abbrev main_call23_v15 : Ref sig .tc := ⟨.hbm, 380, rfl⟩
abbrev main_v105 : Ref sig .tc := ⟨.hbm, 381, rfl⟩
abbrev main_v106 : Ref sig .tc := ⟨.hbm, 382, rfl⟩
abbrev main_v107 : Ref sig .tc := ⟨.hbm, 383, rfl⟩
abbrev main_c_42 : Ref sig .tc := ⟨.hbm, 384, rfl⟩
abbrev main_v108 : Ref sig .tc := ⟨.hbm, 385, rfl⟩
abbrev main_v109 : Ref sig .tc := ⟨.hbm, 386, rfl⟩
abbrev main_v110 : Ref sig .tc := ⟨.hbm, 387, rfl⟩
abbrev main_v111 : Ref sig .tc := ⟨.hbm, 388, rfl⟩
abbrev main_v112 : Ref sig .tc := ⟨.hbm, 389, rfl⟩
abbrev main_v113 : Ref sig .tc := ⟨.hbm, 390, rfl⟩
abbrev main_v114 : Ref sig .tc := ⟨.hbm, 391, rfl⟩
abbrev main_v115 : Ref sig .tc := ⟨.hbm, 392, rfl⟩
abbrev main_v116 : Ref sig .tc := ⟨.hbm, 393, rfl⟩
abbrev main_v117 : Ref sig .tc := ⟨.hbm, 394, rfl⟩
abbrev main_v118 : Ref sig .tc := ⟨.hbm, 395, rfl⟩
abbrev main_v119 : Ref sig .tc := ⟨.hbm, 396, rfl⟩
abbrev main_v120 : Ref sig .tc := ⟨.hbm, 397, rfl⟩
abbrev main_v121 : Ref sig .tc := ⟨.hbm, 398, rfl⟩
abbrev main_v122 : Ref sig .tc := ⟨.hbm, 399, rfl⟩
abbrev main_v123 : Ref sig .tc := ⟨.hbm, 400, rfl⟩
abbrev main_v124 : Ref sig .tc := ⟨.hbm, 401, rfl⟩
abbrev main_v125 : Ref sig .tc := ⟨.hbm, 402, rfl⟩
abbrev main_v126 : Ref sig .tc := ⟨.hbm, 403, rfl⟩
abbrev main_call24_v0 : Ref sig .tc := ⟨.hbm, 404, rfl⟩
abbrev main_call24_v1 : Ref sig .tc := ⟨.hbm, 405, rfl⟩
abbrev main_call24_cst : Ref sig .tc := ⟨.hbm, 406, rfl⟩
abbrev main_call24_v2 : Ref sig .tc := ⟨.hbm, 407, rfl⟩
abbrev main_call24_v3 : Ref sig .tc := ⟨.hbm, 408, rfl⟩
abbrev main_call24_cst_0 : Ref sig .tc := ⟨.hbm, 409, rfl⟩
abbrev main_call24_v4 : Ref sig .tc := ⟨.hbm, 410, rfl⟩
abbrev main_call24_v5 : Ref sig .tc := ⟨.hbm, 411, rfl⟩
abbrev main_v127 : Ref sig .tc := ⟨.hbm, 412, rfl⟩
abbrev main_v128 : Ref sig .tc := ⟨.hbm, 413, rfl⟩
abbrev main_v129 : Ref sig .tc := ⟨.hbm, 414, rfl⟩
abbrev main_v130 : Ref sig .tc := ⟨.hbm, 415, rfl⟩
abbrev main_v131 : Ref sig .tc := ⟨.hbm, 416, rfl⟩
abbrev main_v132 : Ref sig .tc := ⟨.hbm, 417, rfl⟩

abbrev nD : Nat := 1
abbrev τ : Topo := Topo.v7x

variable {F : FTy → Type} [FloatOps F]
-- ==== Proof.MixA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's operands -/

/-- The cast weight blocks, the gated branch before its gate, the staged weight block, the weights left in HBM. -/
abbrev scM0 : Memref sig .tc .vmem S8x2048x512 .bf16 := Memref.whole cc0_scratch0
abbrev scMt : Memref sig .tc .vmem S1024x1024 .f32 := Memref.whole cc0_scratch1
abbrev scM1 : Memref sig .tc .vmem S2048x1024 .f32 := Memref.whole cc0_scratch2
abbrev hbM : Memref sig .tc .hbm S2x2048x12288 .f32 := Memref.whole main_arg1

/-- The body at a grid point, and the first of its parts. -/
abbrev body (i : grid0.Coords) (arg2 : Memref sig .tc .vmem S1024x2048 .bf16) (harg2 : arg2.IsWhole)
    (arg4 : Memref sig .tc .vmem S1024x1024 .bf16) (harg4 : arg4.IsWhole) (arg5 : Memref sig .tc .vmem S1024x1024 .bf16) (harg5 : arg5.IsWhole)
    (arg6 : Memref sig .tc .vmem S4x1024x1 .f32) (harg6 : arg6.IsWhole) (arg7 : Memref sig .tc .vmem S1x1024 .f32) (harg7 : arg7.IsWhole)
    (arg8 : Memref sig .tc .vmem S2x128x128 .bf16) (harg8 : arg8.IsWhole) (arg9 : Memref sig .tc .vmem S2x128x1 .f32) (harg9 : arg9.IsWhole)
    (arg10 : Memref sig .tc .vmem S1024x1024 .bf16) (harg10 : arg10.IsWhole) :=
  cc0_amix (F := F) i arg2 harg2 hbM (Memref.isWhole_whole _) arg4 harg4 arg5 harg5 arg6 harg6 arg7 harg7 arg8 harg8 arg9 harg9 arg10 harg10 scM0 (Memref.isWhole_whole _) scMt (Memref.isWhole_whole _)
    scM1 (Memref.isWhole_whole _) cc0_scratch3
abbrev part1 (i : grid0.Coords) (arg2 : Memref sig .tc .vmem S1024x2048 .bf16) (harg2 : arg2.IsWhole)
    (arg4 : Memref sig .tc .vmem S1024x1024 .bf16) (harg4 : arg4.IsWhole) (arg5 : Memref sig .tc .vmem S1024x1024 .bf16) (harg5 : arg5.IsWhole)
    (arg6 : Memref sig .tc .vmem S4x1024x1 .f32) (harg6 : arg6.IsWhole) (arg7 : Memref sig .tc .vmem S1x1024 .f32) (harg7 : arg7.IsWhole)
    (arg8 : Memref sig .tc .vmem S2x128x128 .bf16) (harg8 : arg8.IsWhole) (arg9 : Memref sig .tc .vmem S2x128x1 .f32) (harg9 : arg9.IsWhole)
    (arg10 : Memref sig .tc .vmem S1024x1024 .bf16) (harg10 : arg10.IsWhole) :=
  k0_part1 (F := F) i arg2 harg2 hbM (Memref.isWhole_whole _) arg4 harg4 arg5 harg5 arg6 harg6 arg7 harg7 arg8 harg8 arg9 harg9 arg10 harg10 scM0 (Memref.isWhole_whole _) scMt (Memref.isWhole_whole _)
    scM1 (Memref.isWhole_whole _) cc0_scratch3

/-! ## What the body computes -/

/-- A group's columns of a block of 1024, of the gain, and its slot of the two. -/
abbrev ucol (u : Vec F S1024x1024 .bf16) (r j : ℕ) (h : ∀ a, (![r, j] : Fin 2 → ℕ) a + S128x512.size a ≤ S1024x1024.size a) : Vec F S128x512 .bf16 :=
  VecWindow.window u ![r, j] S128x512.size h
abbrev gvcol (g : Vec F S1024x1024 .bf16) (j : ℕ) (h : ∀ a, (![0, j] : Fin 2 → ℕ) a + S1024x512.size a ≤ S1024x1024.size a) : Vec F S1024x512 .bf16 :=
  VecWindow.window g ![0, j] S1024x512.size h
abbrev ssrow (s : Vec F S4x1024x1 .f32) (j : ℕ) (h : ∀ a, (![j, 0, 0] : Fin 3 → ℕ) a + S1x1024x1.size a ≤ S4x1024x1.size a) : Vec F S1x1024x1 .f32 :=
  VecWindow.window s ![j, 0, 0] S1x1024x1.size h
abbrev gncol (g : Vec F S1x1024 .f32) (j : ℕ) (h : ∀ a, (![0, j] : Fin 2 → ℕ) a + S1x512.size a ≤ S1x1024.size a) : Vec F S1x512 .f32 :=
  VecWindow.window g ![0, j] S1x512.size h
abbrev wsrow (w : Vec F S2x128x128 .bf16) (j : ℕ) (h : ∀ a, (![j, 0, 0] : Fin 3 → ℕ) a + S1x128x128.size a ≤ S2x128x128.size a) : Vec F S1x128x128 .bf16 :=
  VecWindow.window w ![j, 0, 0] S1x128x128.size h
abbrev bsrow (b : Vec F S2x128x1 .f32) (j : ℕ) (h : ∀ a, (![j, 0, 0] : Fin 3 → ℕ) a + S1x128x1.size a ≤ S2x128x1.size a) : Vec F S1x128x1 .f32 :=
  VecWindow.window b ![j, 0, 0] S1x128x1.size h

/-- The root factors of the block's rows. -/
abbrev rootOf (s : Vec F S4x1024x1 .f32) : FVec F S1024x1 .f32 :=
  k0_pay4 (ssrow s 0 inb_S4x1024x1_S1x1024x1_0_0_0) (ssrow s 1 inb_S4x1024x1_S1x1024x1_1_0_0) (ssrow s 2 inb_S4x1024x1_S1x1024x1_2_0_0) (ssrow s 3 inb_S4x1024x1_S1x1024x1_3_0_0)
abbrev rootOf' (s : Vec F S4x1024x1 .f32) : FVec F S1024x512 .f32 :=
  k0_pay6 (ssrow s 0 inb_S4x1024x1_S1x1024x1_0_0_0) (ssrow s 1 inb_S4x1024x1_S1x1024x1_1_0_0) (ssrow s 2 inb_S4x1024x1_S1x1024x1_2_0_0) (ssrow s 3 inb_S4x1024x1_S1x1024x1_3_0_0)

/-- The first group's eight stores, the last one first: 128 rows each. -/
abbrev tL0 (v30 v31 : FVec F S1024x512 .f32) (gn : Vec F S1x512 .f32) (ws : Vec F S1x128x128 .bf16) (bs : Vec F S1x128x1 .f32) (u : Vec F S1024x1024 .bf16) :
    List (View.Piece (Elt F) S1024x1024 .f32) :=
  [⟨Rect.unit (s := S1024x1024) ![896, 0] S128x512.size inb_S1024x1024_S128x512_896_0, k0_pay23 (k0_pay22 (k0_pay7 v30 v31 gn) (k0_pay8 ws) (k0_pay9 bs)) (ucol u 896 0 inb_S1024x1024_S128x512_896_0)⟩,
    ⟨Rect.unit (s := S1024x1024) ![768, 0] S128x512.size inb_S1024x1024_S128x512_768_0, k0_pay21 (k0_pay7 v30 v31 gn) (k0_pay8 ws) (k0_pay9 bs) (ucol u 768 0 inb_S1024x1024_S128x512_768_0)⟩,
    ⟨Rect.unit (s := S1024x1024) ![640, 0] S128x512.size inb_S1024x1024_S128x512_640_0, k0_pay20 (k0_pay19 (k0_pay7 v30 v31 gn) (k0_pay8 ws) (k0_pay9 bs)) (ucol u 640 0 inb_S1024x1024_S128x512_640_0)⟩,
    ⟨Rect.unit (s := S1024x1024) ![512, 0] S128x512.size inb_S1024x1024_S128x512_512_0, k0_pay18 (k0_pay7 v30 v31 gn) (k0_pay8 ws) (k0_pay9 bs) (ucol u 512 0 inb_S1024x1024_S128x512_512_0)⟩,
    ⟨Rect.unit (s := S1024x1024) ![384, 0] S128x512.size inb_S1024x1024_S128x512_384_0, k0_pay17 (k0_pay15 (k0_pay7 v30 v31 gn) (k0_pay8 ws) (k0_pay9 bs)) (k0_pay16 (ucol u 384 0 inb_S1024x1024_S128x512_384_0))⟩,
    ⟨Rect.unit (s := S1024x1024) ![256, 0] S128x512.size inb_S1024x1024_S128x512_256_0, k0_pay14 (k0_pay7 v30 v31 gn) (k0_pay8 ws) (k0_pay9 bs) (ucol u 256 0 inb_S1024x1024_S128x512_256_0)⟩,
    ⟨Rect.unit (s := S1024x1024) ![128, 0] S128x512.size inb_S1024x1024_S128x512_128_0, k0_pay13 (k0_pay11 v30 v31 gn ws bs) (k0_pay12 (ucol u 128 0 inb_S1024x1024_S128x512_128_0)) (Scalar.ofBits .f32 0x3F000000#32)⟩,
    ⟨Rect.unit (s := S1024x1024) ![0, 0] S128x512.size inb_S1024x1024_S128x512_0_0, k0_pay10 v30 v31 gn ws bs (ucol u 0 0 inb_S1024x1024_S128x512_0_0)⟩]
/-- The second group's. -/
abbrev tL1 (v27 : FVec F S1024x1 .f32) (gv : FVec F S1024x512 .bf16) (gn : Vec F S1x512 .f32) (ws : Vec F S1x128x128 .bf16) (bs : Vec F S1x128x1 .f32) (u : Vec F S1024x1024 .bf16) :
    List (View.Piece (Elt F) S1024x1024 .f32) :=
  [⟨Rect.unit (s := S1024x1024) ![896, 512] S128x512.size inb_S1024x1024_S128x512_896_512, k0_pay41 (k0_pay28 bs) (k0_pay40 (k0_pay26 v27 gv gn) (k0_pay27 ws)) (ucol u 896 512 inb_S1024x1024_S128x512_896_512)⟩,
    ⟨Rect.unit (s := S1024x1024) ![768, 512] S128x512.size inb_S1024x1024_S128x512_768_512, k0_pay39 (k0_pay26 v27 gv gn) (k0_pay27 ws) (k0_pay28 bs) (ucol u 768 512 inb_S1024x1024_S128x512_768_512)⟩,
    ⟨Rect.unit (s := S1024x1024) ![640, 512] S128x512.size inb_S1024x1024_S128x512_640_512, k0_pay38 (k0_pay37 (k0_pay26 v27 gv gn) (k0_pay27 ws) (k0_pay28 bs)) (ucol u 640 512 inb_S1024x1024_S128x512_640_512)⟩,
    ⟨Rect.unit (s := S1024x1024) ![512, 512] S128x512.size inb_S1024x1024_S128x512_512_512, k0_pay36 (k0_pay26 v27 gv gn) (k0_pay27 ws) (k0_pay28 bs) (ucol u 512 512 inb_S1024x1024_S128x512_512_512)⟩,
    ⟨Rect.unit (s := S1024x1024) ![384, 512] S128x512.size inb_S1024x1024_S128x512_384_512, k0_pay35 (k0_pay34 (k0_pay26 v27 gv gn) (k0_pay27 ws) (k0_pay28 bs)) (ucol u 384 512 inb_S1024x1024_S128x512_384_512)⟩,
    ⟨Rect.unit (s := S1024x1024) ![256, 512] S128x512.size inb_S1024x1024_S128x512_256_512, k0_pay33 (k0_pay26 v27 gv gn) (k0_pay27 ws) (k0_pay28 bs) (ucol u 256 512 inb_S1024x1024_S128x512_256_512)⟩,
    ⟨Rect.unit (s := S1024x1024) ![128, 512] S128x512.size inb_S1024x1024_S128x512_128_512, k0_pay32 (k0_pay30 v27 gv gn ws bs) (k0_pay31 (ucol u 128 512 inb_S1024x1024_S128x512_128_512))⟩,
    ⟨Rect.unit (s := S1024x1024) ![0, 512] S128x512.size inb_S1024x1024_S128x512_0_512, k0_pay29 v27 gv gn ws bs (ucol u 0 512 inb_S1024x1024_S128x512_0_512)⟩]

/-- The columns of the first group read back, and of the second. -/
abbrev tc0 (L : List (View.Piece (Elt F) S1024x1024 .f32)) : Vec F S1024x512 .f32 :=
  fun y => View.canon L ((Rect.unit (s := S1024x1024) ![0, 0] S1024x512.size inb_S1024x1024_S1024x512_0_0).toLoadRect.idx y)
abbrev tc1 (L : List (View.Piece (Elt F) S1024x1024 .f32)) : Vec F S1024x512 .f32 :=
  fun y => View.canon L ((Rect.unit (s := S1024x1024) ![0, 512] S1024x512.size inb_S1024x1024_S1024x512_0_512).toLoadRect.idx y)

/-- The first group's stores, from the operands; the second's. -/
abbrev tA (u gv : Vec F S1024x1024 .bf16) (ss : Vec F S4x1024x1 .f32) (gn : Vec F S1x1024 .f32) (ws : Vec F S2x128x128 .bf16) (bs : Vec F S2x128x1 .f32) :=
  tL0 (k0_pay5 (gvcol gv 0 inb_S1024x1024_S1024x512_0_0)) (rootOf' ss) (gncol gn 0 inb_S1x1024_S1x512_0_0) (wsrow ws 0 inb_S2x128x128_S1x128x128_0_0_0) (bsrow bs 0 inb_S2x128x1_S1x128x1_0_0_0) u
abbrev tB (u gv : Vec F S1024x1024 .bf16) (ss : Vec F S4x1024x1 .f32) (gn : Vec F S1x1024 .f32) (ws : Vec F S2x128x128 .bf16) (bs : Vec F S2x128x1 .f32) :=
  tL1 (rootOf ss) (k0_pay25 (gvcol gv 512 inb_S1024x1024_S1024x512_0_512)) (gncol gn 512 inb_S1x1024_S1x512_0_512) (wsrow ws 1 inb_S2x128x128_S1x128x128_1_0_0) (bsrow bs 1 inb_S2x128x1_S1x128x1_1_0_0) u

/-- The result's two stores. -/
abbrev outL (x : Vec F S1024x2048 .bf16) (w0 w1 : Vec F S1x2048x512 .bf16) (t0 t1 : Vec F S1024x512 .f32) : List (View.Piece (Elt F) S1024x1024 .bf16) :=
  [⟨Rect.unit (s := S1024x1024) ![0, 512] S1024x512.size inb_S1024x1024_S1024x512_0_512, k0_pay1 (k0_pay42 x w1) t1⟩,
    ⟨Rect.unit (s := S1024x1024) ![0, 0] S1024x512.size inb_S1024x1024_S1024x512_0_0, k0_pay24 x w0 t0⟩]

/-- The block of the result, from the operands and the two cast weight blocks. -/
def outOf (x : Vec F S1024x2048 .bf16) (w0 w1 : Vec F S1x2048x512 .bf16) (u gv : Vec F S1024x1024 .bf16) (ss : Vec F S4x1024x1 .f32) (gn : Vec F S1x1024 .f32)
    (ws : Vec F S2x128x128 .bf16) (bs : Vec F S2x128x1 .f32) : Vec F S1024x1024 .bf16 :=
  View.canon (outL x w0 w1 (tc0 (tA u gv ss gn ws bs)) (tc1 (tB u gv ss gn ws bs ++ tA u gv ss gn ws bs)))

/-- The cast weights of a group. -/
abbrev slot (X : Vec F S8x2048x512 .bf16) (o : Fin 3 → ℕ) (h : ∀ a, o a + S1x2048x512.size a ≤ S8x2048x512.size a) : Vec F S1x2048x512 .bf16 :=
  VecWindow.window X o S1x2048x512.size h

/-! ## The body run, once its first part is -/

theorem run_of (c : Dev nD) (i : grid0.Coords) (arg2 : Memref sig .tc .vmem S1024x2048 .bf16) (harg2 : arg2.IsWhole)
    (arg4 : Memref sig .tc .vmem S1024x1024 .bf16) (harg4 : arg4.IsWhole) (arg5 : Memref sig .tc .vmem S1024x1024 .bf16) (harg5 : arg5.IsWhole)
    (arg6 : Memref sig .tc .vmem S4x1024x1 .f32) (harg6 : arg6.IsWhole) (arg7 : Memref sig .tc .vmem S1x1024 .f32) (harg7 : arg7.IsWhole)
    (arg8 : Memref sig .tc .vmem S2x128x128 .bf16) (harg8 : arg8.IsWhole) (arg9 : Memref sig .tc .vmem S2x128x1 .f32) (harg9 : arg9.IsWhole)
    (arg10 : Memref sig .tc .vmem S1024x1024 .bf16) (harg10 : arg10.IsWhole)
    (x : Vec F S1024x2048 .bf16) (u gv : Vec F S1024x1024 .bf16) (ss : Vec F S4x1024x1 .f32) (gn : Vec F S1x1024 .f32)
    (ws : Vec F S2x128x128 .bf16) (bs : Vec F S2x128x1 .f32) (X : Vec F S8x2048x512 .bf16) (R₁ R₂ : sProp 𝕄)
    (hp : ∀ K1, iprop(R₁ ∗ owns c.tc arg5 fullShare gv ∗ owns c.tc arg6 fullShare ss
        ∗ (iprop(R₂ ∗ owns c.tc arg5 fullShare gv ∗ owns c.tc arg6 fullShare ss ∗ owns c.tc scM0 fullShare X) -∗
            K1 ⟨BitVec.ofNat 32 (i 1).val, rootOf ss, k0_pay5 (gvcol gv 0 inb_S1024x1024_S1024x512_0_0), rootOf' ss⟩))
      ⊢ wp frame (wpE (defs₀ (F := F)) Variants.none c none) Set.univ (part1 i arg2 harg2 arg4 harg4 arg5 harg5 arg6 harg6 arg7 harg7 arg8 harg8 arg9 harg9 arg10 harg10) K1)
    (K : PUnit → sProp 𝕄) :
    iprop(R₁ ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
        ∗ (∃ d, owns c.tc arg10 fullShare d) ∗ (∃ d, owns c.tc scMt fullShare d)
        ∗ (iprop(R₂ ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
            ∗ owns c.tc arg10 fullShare (outOf x (slot X (k0_off5 i 0#32) (k0_off5_inb i 0)) (slot X (k0_off5 i 1#32) (k0_off5_inb i 1)) u gv ss gn ws bs)
            ∗ (∃ d, owns c.tc scMt fullShare d) ∗ owns c.tc scM0 fullShare X) -∗ K ⟨⟩))
      ⊢ wp frame (wpE (defs₀ (F := F)) Variants.none c none) Set.univ (body i arg2 harg2 arg4 harg4 arg5 harg5 arg6 harg6 arg7 harg7 arg8 harg8 arg9 harg9 arg10 harg10) K := by
  unfold body
  rw [cc0_amix_eq_skeleton]; unfold cc0_amix_skel
  rw [k0_part11_eq_skeleton]; unfold k0_part11_skel
  rw [wp_bind, wp_bind]
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  rw [k0_part9_eq_skeleton]; unfold k0_part9_skel
  rw [k0_part10_eq_skeleton]; unfold k0_part10_skel
  iintro ⟨HR, H2, H4, H5, H6, H7, H8, H9, H10, Ht, Hk⟩
  iapply (hp _)
  isplitl [HR]; · iexact HR
  isplitl [H5]; · iexact H5
  isplitl [H6]; · iexact H6
  iintro ⟨HR, H5, H6, H0⟩
  unfold owns
  icases H2 with ⟨%f2, %hf2, H2⟩
  icases H4 with ⟨%f4, %hf4, H4⟩
  icases H5 with ⟨%f5, %hf5, H5⟩
  icases H7 with ⟨%f7, %hf7, H7⟩
  icases H8 with ⟨%f8, %hf8, H8⟩
  icases H9 with ⟨%f9, %hf9, H9⟩
  icases H0 with ⟨%f0, %hf0, H0⟩
  icases H10 with ⟨%d10, %f10, -, H10⟩
  icases Ht with ⟨%dt, %ft, -, Ht⟩
  sl_exec
  sl_step
  iapply Hk
  isplitl [HR]; · iexact HR
  isplitl [H2]; · iexists _; isplitr; swap; iexact H2; ipureintro; exact hf2
  isplitl [H4]; · iexists _; isplitr; swap; iexact H4; ipureintro; exact hf4
  isplitl [H5]; · iexists _; isplitr; swap; iexact H5; ipureintro; exact hf5
  isplitl [H6]; · iexact H6
  isplitl [H7]; · iexists _; isplitr; swap; iexact H7; ipureintro; exact hf7
  isplitl [H8]; · iexists _; isplitr; swap; iexact H8; ipureintro; exact hf8
  isplitl [H9]; · iexists _; isplitr; swap; iexact H9; ipureintro; exact hf9
  isplitl [H10]
  · iexists _; isplitr; swap
    · iexact H10
    · ipureintro
      have eu (r j : ℕ) (h : ∀ a, (![r, j] : Fin 2 → ℕ) a + S128x512.size a ≤ S1024x1024.size a) :
          arg4.view.readAt (Elt F) (Rect.unit (s := S1024x1024) ![r, j] S128x512.size h).toLoadRect f4 = ucol u r j h := by
        rw [View.readAt_unit _ _ _ rfl h, hf4]
      have eg (j : ℕ) (h : ∀ a, (![0, j] : Fin 2 → ℕ) a + S1024x512.size a ≤ S1024x1024.size a) :
          arg5.view.readAt (Elt F) (Rect.unit (s := S1024x1024) ![0, j] S1024x512.size h).toLoadRect f5 = gvcol gv j h := by
        rw [View.readAt_unit _ _ _ rfl h, hf5]
      have en (j : ℕ) (h : ∀ a, (![0, j] : Fin 2 → ℕ) a + S1x512.size a ≤ S1x1024.size a) :
          arg7.view.readAt (Elt F) (Rect.unit (s := S1x1024) ![0, j] S1x512.size h).toLoadRect f7 = gncol gn j h := by
        rw [View.readAt_unit _ _ _ rfl h, hf7]
      have ew (j : ℕ) (h : ∀ a, (![j, 0, 0] : Fin 3 → ℕ) a + S1x128x128.size a ≤ S2x128x128.size a) :
          arg8.view.readAt (Elt F) (Rect.unit (s := S2x128x128) ![j, 0, 0] S1x128x128.size h).toLoadRect f8 = wsrow ws j h := by
        rw [View.readAt_unit _ _ _ rfl h, hf8]
      have eb (j : ℕ) (h : ∀ a, (![j, 0, 0] : Fin 3 → ℕ) a + S1x128x1.size a ≤ S2x128x1.size a) :
          arg9.view.readAt (Elt F) (Rect.unit (s := S2x128x1) ![j, 0, 0] S1x128x1.size h).toLoadRect f9 = bsrow bs j h := by
        rw [View.readAt_unit _ _ _ rfl h, hf9]
      have eX (o : Fin 3 → ℕ) (h : ∀ a, o a + S1x2048x512.size a ≤ S8x2048x512.size a) :
          scM0.view.readAt (Elt F) (Rect.unit (s := S8x2048x512) o S1x2048x512.size h).toLoadRect f0 = slot X o h := by
        rw [View.readAt_unit _ _ _ rfl h, hf0]
      have ex : arg2.view.readAt (Elt F) (Rect.unit (s := S1024x2048) ![0, 0] S1024x2048.size inb_S1024x2048_S1024x2048_0_0).toLoadRect f2 = x := by
        rw [View.readAt_full, hf2]
      have eA : run_of.sl.Ht_8 c arg4 arg7 arg8 arg9 gv ss f4 f7 f8 f9 = tA u gv ss gn ws bs := by
        unfold run_of.sl.Ht_8
        simp only [eu, en, ew, eb]
        rfl
      have eB : run_of.sl.Ht_16 c arg4 arg5 arg7 arg8 arg9 gv ss f4 f5 f7 f8 f9 = tB u gv ss gn ws bs ++ tA u gv ss gn ws bs := by
        unfold run_of.sl.Ht_16
        rw [eA]
        simp only [eu, eg, en, ew, eb]
        rfl
      refine (View.read_writes_eq_canon _ _ _ (View.cover_of_tiledL _ ![1024, 512] rfl)).trans ?_
      unfold run_of.sl.v438 run_of.sl.v231 run_of.sl.r
      rw [View.readCov_eq_canon', View.readCov_eq_canon', eA, eB, ex, eX, eX]
      rfl
  isplitl [Ht]
  · iexists _; iexists _; isplitr; swap; iexact Ht; ipureintro; rfl
  · iexists _; isplitr; swap; iexact H0; ipureintro; exact hf0

end Cert.KernelIdeal.Hand

end
-- ==== Proof.MixP.lean ====
module

public import proofs.«01_k».proof.Proof.MixA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦[M.view.set]{fullShare} f

/-- The block of the weights at offsets `o`, as the body names it. -/
abbrev wsl (o : Fin 3 → ℕ) (h : ∀ a, o a + S1x2048x1024.size a ≤ S2x2048x12288.size a) : Memref sig .tc .hbm S2048x1024 .f32 :=
  (hbM.slice (Rect.unit (s := S2x2048x12288) o S1x2048x1024.size h) (fun _ => rfl)).squeeze S2048x1024 squeezes_S1x2048x1024_S2048x1024

/-- What the staging buffer holds once the block has landed. -/
abbrev landed (c : Dev nD) (o : Fin 3 → ℕ) (h : ∀ a, o a + S1x2048x1024.size a ≤ S2x2048x12288.size a)
    (fs : HbBuf (F := F) c hbM) (d : HbBuf (F := F) c scM1) : HbBuf (F := F) c scM1 :=
  scM1.view.writes (Elt F) d [⟨Rect.whole S2048x1024, ReadAs.same.apply ((wsl o h).view.read (Elt F) fs)⟩]

/-- The copy of a block in flight. -/
abbrev inflight (c : Dev nD) (o : Fin 3 → ℕ) (h : ∀ a, o a + S1x2048x1024.size a ≤ S2x2048x12288.size a)
    (fs : HbBuf (F := F) c hbM) (d : HbBuf (F := F) c scM1) : sProp 𝕄 :=
  Transfers.Flight (countersEmb (U := Pipeline.UD sig nD τ)) c.tc (.dma cc0_scratch3.sem) () (scM1.view.amount (SemLoc.dma (sig := sig) cc0_scratch3.sem))
    iprop(hbPt c scM1 (landed c o h fs d) ∗ hbPt c (wsl o h) fs)

/-- The casts of the two halves of the block of the weights at offsets `o`. -/
abbrev cast0 (c : Dev nD) (o : Fin 3 → ℕ) (h : ∀ a, o a + S1x2048x1024.size a ≤ S2x2048x12288.size a) (fs : HbBuf (F := F) c hbM) : Vec F S1x2048x512 .bf16 :=
  k0_pay2 (VecWindow.window (s := S2048x1024) ((wsl o h).view.read (Elt F) fs) ![0, 0] S2048x512.size inb_S2048x1024_S2048x512_0_0)
abbrev cast1 (c : Dev nD) (o : Fin 3 → ℕ) (h : ∀ a, o a + S1x2048x1024.size a ≤ S2x2048x12288.size a) (fs : HbBuf (F := F) c hbM) : Vec F S1x2048x512 .bf16 :=
  k0_pay3 (VecWindow.window (s := S2048x1024) ((wsl o h).view.read (Elt F) fs) ![0, 512] S2048x512.size inb_S2048x1024_S2048x512_0_512)

/-- The cast weights with two slots stored. -/
abbrev stored (oa ob : Fin 3 → ℕ) (X : Vec F S8x2048x512 .bf16) (w0 w1 : Vec F S1x2048x512 .bf16) : Vec F S8x2048x512 .bf16 :=
  VecWindow.put (VecWindow.put X oa S1x2048x512.size w0) ob S1x2048x512.size w1

theorem readCov_part {κ : Kind} {sp : Space} {s : Shape} {e : EltTy} (v : View sig κ sp s e) {off size : Fin s.rank → ℕ} (inb : ∀ a, off a + size a ≤ s.size a)
    (w : s.Idx → Elt F e) (L : List (View.Piece (Elt F) s e)) :
    v.readCov ((⟨Rect.whole s, w⟩ : View.Piece (Elt F) s e) :: L) (Rect.unit off size inb).toLoadRect = VecWindow.window w off size inb := by
  unfold View.readCov
  rw [View.readAt_unit _ _ _ rfl inb]
  exact congrArg (fun g => VecWindow.window g off size inb) (View.read_writes_full v v.junk (off := fun _ => 0) (fun a => by omega) w L)

theorem slot_congr (X : Vec F S8x2048x512 .bf16) {o o' : Fin 3 → ℕ} (e : o = o') (h : ∀ a, o a + S1x2048x512.size a ≤ S8x2048x512.size a)
    (h' : ∀ a, o' a + S1x2048x512.size a ≤ S8x2048x512.size a) : slot X o h = slot X o' h' := by
  subst e; rfl

/-! ## The body run, case by case -/

variable (c : Dev nD) (i : grid0.Coords)
  (arg2 : Memref sig .tc .vmem S1024x2048 .bf16) (harg2 : arg2.IsWhole) (arg4 : Memref sig .tc .vmem S1024x1024 .bf16) (harg4 : arg4.IsWhole) (arg5 : Memref sig .tc .vmem S1024x1024 .bf16) (harg5 : arg5.IsWhole) (arg6 : Memref sig .tc .vmem S4x1024x1 .f32) (harg6 : arg6.IsWhole) (arg7 : Memref sig .tc .vmem S1x1024 .f32) (harg7 : arg7.IsWhole) (arg8 : Memref sig .tc .vmem S2x128x128 .bf16) (harg8 : arg8.IsWhole) (arg9 : Memref sig .tc .vmem S2x128x1 .f32) (harg9 : arg9.IsWhole) (arg10 : Memref sig .tc .vmem S1024x1024 .bf16) (harg10 : arg10.IsWhole)

theorem part_A (h1 : k0_cond1 i = 1#1) (h2 : k0_cond2 i = 1#1) (h3 : k0_cond3 i = 1#1)
    (gv : Vec F S1024x1024 .bf16) (ss : Vec F S4x1024x1 .f32) (X : Vec F S8x2048x512 .bf16) (fs : HbBuf (F := F) c hbM) (W : Waits sig Unit)
    (K1 : (Σ' (_ : BitVec 32) (_ : FVec F S1024x1 .f32) (_ : FVec F S1024x512 .f32), FVec F S1024x512 .f32) → sProp 𝕄) :
    iprop(iprop(owns c.tc scM0 fullShare X ∗ (∃ ds, hbPt c scM1 ds) ∗ semVal (c.tc, SemLoc.dma cc0_scratch3.sem) 0 ∗ hbPt c (wsl (k0_off1 i) (k0_off1_inb i h1)) fs ∗ hbPt c (wsl (k0_off4 i) (k0_off4_inb i h3)) fs ∗ owes c.tc 0 W) ∗ owns c.tc arg5 fullShare gv ∗ owns c.tc arg6 fullShare ss
        ∗ (iprop(iprop((∃ d, inflight c (k0_off4 i) (k0_off4_inb i h3) fs d) ∗ hbPt c (wsl (k0_off1 i) (k0_off1_inb i h1)) fs ∗ (∃ W', owes c.tc 0 W')) ∗ owns c.tc arg5 fullShare gv ∗ owns c.tc arg6 fullShare ss
          ∗ owns c.tc scM0 fullShare (stored (k0_off3 i 0#32) (k0_off3 i 1#32) X (cast0 c (k0_off1 i) (k0_off1_inb i h1) fs) (cast1 c (k0_off1 i) (k0_off1_inb i h1) fs))) -∗
            K1 ⟨BitVec.ofNat 32 (i 1).val, rootOf ss, k0_pay5 (gvcol gv 0 inb_S1024x1024_S1024x512_0_0), rootOf' ss⟩))
      ⊢ wp frame (wpE (defs₀ (F := F)) Variants.none c none) Set.univ (part1 i arg2 harg2 arg4 harg4 arg5 harg5 arg6 harg6 arg7 harg7 arg8 harg8 arg9 harg9 arg10 harg10) K1 := by
  unfold part1
  rw [k0_part1_eq_skeleton]; unfold k0_part1_skel
  unfold owns
  iintro ⟨⟨⟨%f0, %hf0, H0⟩, ⟨%ds, HS⟩, HF, Hn0, Hn, HW⟩, ⟨%f5, %hf5, H5⟩, ⟨%f6, %hf6, H6⟩, Hk⟩
  have es (j : ℕ) (h : ∀ a, (![j, 0, 0] : Fin 3 → ℕ) a + S1x1024x1.size a ≤ S4x1024x1.size a) :
      arg6.view.readAt (Elt F) (Rect.unit (s := S4x1024x1) ![j, 0, 0] S1x1024x1.size h).toLoadRect f6 = ssrow ss j h := by
    rw [View.readAt_unit _ _ _ rfl h, hf6]
  have eg (j : ℕ) (h : ∀ a, (![0, j] : Fin 2 → ℕ) a + S1024x512.size a ≤ S1024x1024.size a) :
      arg5.view.readAt (Elt F) (Rect.unit (s := S1024x1024) ![0, j] S1024x512.size h).toLoadRect f5 = gvcol gv j h := by
    rw [View.readAt_unit _ _ _ rfl h, hf5]
  sl_exec
  sl_step
  try rw [es, es, es, es, eg]
  iapply Hk
  isplitl [HF Hn0 HW]
  · isplitl [HF]; · iexists _; iexact HF
    isplitl [Hn0]; · iexact Hn0
    · iexists _; iexact HW
  isplitl [H5]; · iexists _; isplitr; swap; iexact H5; ipureintro; exact hf5
  isplitl [H6]; · iexists _; isplitr; swap; iexact H6; ipureintro; exact hf6
  · iexists _; isplitr; swap
    · iexact H0
    · ipureintro
      refine (View.read_writes_cons_put scM0.view f0 (off := k0_off3 i 1#32) (off' := k0_off3 i 1#32) (k0_off3_inb i h2 1) _ _ rfl).trans ?_
      rw [View.read_writes_cons_put scM0.view f0 (off := k0_off3 i 0#32) (off' := k0_off3 i 0#32) (k0_off3_inb i h2 0) _ _ rfl, View.writes_nil, hf0]
      unfold part_A.sl.v447 part_A.sl.v455
      rw [readCov_part, readCov_part]
      try rfl

/-- The whole body, the offsets in closed form. -/
theorem run_A (h1 : k0_cond1 i = 1#1) (h2 : k0_cond2 i = 1#1) (h3 : k0_cond3 i = 1#1)
    {o2 : Fin 3 → ℕ} (b2 : ∀ a, o2 a + S1x2048x1024.size a ≤ S2x2048x12288.size a) (e2 : k0_off1 i = o2)
    {o4 : Fin 3 → ℕ} (b4 : ∀ a, o4 a + S1x2048x1024.size a ≤ S2x2048x12288.size a) (e4 : k0_off4 i = o4)
    {oa ob : Fin 3 → ℕ} (ba : ∀ a, oa a + S1x2048x512.size a ≤ S8x2048x512.size a) (bb : ∀ a, ob a + S1x2048x512.size a ≤ S8x2048x512.size a) (e3a : k0_off3 i 0#32 = oa) (e3b : k0_off3 i 1#32 = ob) (e5a : k0_off5 i 0#32 = oa) (e5b : k0_off5 i 1#32 = ob)
    (x : Vec F S1024x2048 .bf16) (u gv : Vec F S1024x1024 .bf16) (ss : Vec F S4x1024x1 .f32) (gn : Vec F S1x1024 .f32)
    (ws : Vec F S2x128x128 .bf16) (bs : Vec F S2x128x1 .f32) (X : Vec F S8x2048x512 .bf16) (fs : HbBuf (F := F) c hbM) (W : Waits sig Unit) (K : PUnit → sProp 𝕄) :
    iprop(iprop(owns c.tc scM0 fullShare X ∗ (∃ ds, hbPt c scM1 ds) ∗ semVal (c.tc, SemLoc.dma cc0_scratch3.sem) 0 ∗ hbPt c (wsl (o2) (b2)) fs ∗ hbPt c (wsl (o4) (b4)) fs ∗ owes c.tc 0 W) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
        ∗ (∃ d, owns c.tc arg10 fullShare d) ∗ (∃ d, owns c.tc scMt fullShare d)
        ∗ (iprop(iprop((∃ d, inflight c (o4) (b4) fs d) ∗ hbPt c (wsl (o2) (b2)) fs ∗ (∃ W', owes c.tc 0 W')) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
            ∗ owns c.tc arg10 fullShare (outOf x (slot (stored oa ob X (cast0 c (o2) (b2) fs) (cast1 c (o2) (b2) fs)) oa ba) (slot (stored oa ob X (cast0 c (o2) (b2) fs) (cast1 c (o2) (b2) fs)) ob bb) u gv ss gn ws bs)
            ∗ (∃ d, owns c.tc scMt fullShare d) ∗ owns c.tc scM0 fullShare (stored oa ob X (cast0 c (o2) (b2) fs) (cast1 c (o2) (b2) fs))) -∗ K ⟨⟩))
      ⊢ wp frame (wpE (defs₀ (F := F)) Variants.none c none) Set.univ (body i arg2 harg2 arg4 harg4 arg5 harg5 arg6 harg6 arg7 harg7 arg8 harg8 arg9 harg9 arg10 harg10) K := by
  subst e2
  subst e4
  subst e3a
  subst e3b
  rw [slot_congr _ e5a.symm ba (k0_off5_inb i 0), slot_congr _ e5b.symm bb (k0_off5_inb i 1)]
  exact run_of c i arg2 harg2 arg4 harg4 arg5 harg5 arg6 harg6 arg7 harg7 arg8 harg8 arg9 harg9 arg10 harg10 x u gv ss gn ws bs _ _ _ (fun K1 => part_A c i arg2 harg2 arg4 harg4 arg5 harg5 arg6 harg6 arg7 harg7 arg8 harg8 arg9 harg9 arg10 harg10 h1 h2 h3 gv ss X fs W K1) K

theorem part_B (h1 : ¬ k0_cond1 i = 1#1) (h2 : k0_cond2 i = 1#1) (h3 : k0_cond3 i = 1#1)
    (gv : Vec F S1024x1024 .bf16) (ss : Vec F S4x1024x1 .f32) (X : Vec F S8x2048x512 .bf16) (fs : HbBuf (F := F) c hbM) (ds : HbBuf (F := F) c scM1) (W : Waits sig Unit)
    (K1 : (Σ' (_ : BitVec 32) (_ : FVec F S1024x1 .f32) (_ : FVec F S1024x512 .f32), FVec F S1024x512 .f32) → sProp 𝕄) :
    iprop(iprop(owns c.tc scM0 fullShare X ∗ inflight c (k0_off2 i) (k0_off2_inb i h2) fs ds ∗ hbPt c (wsl (k0_off4 i) (k0_off4_inb i h3)) fs ∗ owes c.tc 0 W) ∗ owns c.tc arg5 fullShare gv ∗ owns c.tc arg6 fullShare ss
        ∗ (iprop(iprop((∃ d, inflight c (k0_off4 i) (k0_off4_inb i h3) fs d) ∗ hbPt c (wsl (k0_off2 i) (k0_off2_inb i h2)) fs ∗ (∃ W', owes c.tc 0 W')) ∗ owns c.tc arg5 fullShare gv ∗ owns c.tc arg6 fullShare ss
          ∗ owns c.tc scM0 fullShare (stored (k0_off3 i 0#32) (k0_off3 i 1#32) X (cast0 c (k0_off2 i) (k0_off2_inb i h2) fs) (cast1 c (k0_off2 i) (k0_off2_inb i h2) fs))) -∗
            K1 ⟨BitVec.ofNat 32 (i 1).val, rootOf ss, k0_pay5 (gvcol gv 0 inb_S1024x1024_S1024x512_0_0), rootOf' ss⟩))
      ⊢ wp frame (wpE (defs₀ (F := F)) Variants.none c none) Set.univ (part1 i arg2 harg2 arg4 harg4 arg5 harg5 arg6 harg6 arg7 harg7 arg8 harg8 arg9 harg9 arg10 harg10) K1 := by
  unfold part1
  rw [k0_part1_eq_skeleton]; unfold k0_part1_skel
  unfold owns
  iintro ⟨⟨⟨%f0, %hf0, H0⟩, HF, Hn, HW⟩, ⟨%f5, %hf5, H5⟩, ⟨%f6, %hf6, H6⟩, Hk⟩
  have es (j : ℕ) (h : ∀ a, (![j, 0, 0] : Fin 3 → ℕ) a + S1x1024x1.size a ≤ S4x1024x1.size a) :
      arg6.view.readAt (Elt F) (Rect.unit (s := S4x1024x1) ![j, 0, 0] S1x1024x1.size h).toLoadRect f6 = ssrow ss j h := by
    rw [View.readAt_unit _ _ _ rfl h, hf6]
  have eg (j : ℕ) (h : ∀ a, (![0, j] : Fin 2 → ℕ) a + S1024x512.size a ≤ S1024x1024.size a) :
      arg5.view.readAt (Elt F) (Rect.unit (s := S1024x1024) ![0, j] S1024x512.size h).toLoadRect f5 = gvcol gv j h := by
    rw [View.readAt_unit _ _ _ rfl h, hf5]
  sl_exec
  sl_step
  try rw [es, es, es, es, eg]
  iapply Hk
  isplitl [HF HF_src HW]
  · isplitl [HF]; · iexists _; iexact HF
    isplitl [HF_src]; · iexact HF_src
    · iexists _; iexact HW
  isplitl [H5]; · iexists _; isplitr; swap; iexact H5; ipureintro; exact hf5
  isplitl [H6]; · iexists _; isplitr; swap; iexact H6; ipureintro; exact hf6
  · iexists _; isplitr; swap
    · iexact H0
    · ipureintro
      refine (View.read_writes_cons_put scM0.view f0 (off := k0_off3 i 1#32) (off' := k0_off3 i 1#32) (k0_off3_inb i h2 1) _ _ rfl).trans ?_
      rw [View.read_writes_cons_put scM0.view f0 (off := k0_off3 i 0#32) (off' := k0_off3 i 0#32) (k0_off3_inb i h2 0) _ _ rfl, View.writes_nil, hf0]
      unfold part_B.sl.v447 part_B.sl.v455
      rw [readCov_part, readCov_part]
      try rfl

/-- The whole body, the offsets in closed form. -/
theorem run_B (h1 : ¬ k0_cond1 i = 1#1) (h2 : k0_cond2 i = 1#1) (h3 : k0_cond3 i = 1#1)
    {o2 : Fin 3 → ℕ} (b2 : ∀ a, o2 a + S1x2048x1024.size a ≤ S2x2048x12288.size a) (e2 : k0_off2 i = o2)
    {o4 : Fin 3 → ℕ} (b4 : ∀ a, o4 a + S1x2048x1024.size a ≤ S2x2048x12288.size a) (e4 : k0_off4 i = o4)
    {oa ob : Fin 3 → ℕ} (ba : ∀ a, oa a + S1x2048x512.size a ≤ S8x2048x512.size a) (bb : ∀ a, ob a + S1x2048x512.size a ≤ S8x2048x512.size a) (e3a : k0_off3 i 0#32 = oa) (e3b : k0_off3 i 1#32 = ob) (e5a : k0_off5 i 0#32 = oa) (e5b : k0_off5 i 1#32 = ob)
    (x : Vec F S1024x2048 .bf16) (u gv : Vec F S1024x1024 .bf16) (ss : Vec F S4x1024x1 .f32) (gn : Vec F S1x1024 .f32)
    (ws : Vec F S2x128x128 .bf16) (bs : Vec F S2x128x1 .f32) (X : Vec F S8x2048x512 .bf16) (fs : HbBuf (F := F) c hbM) (ds : HbBuf (F := F) c scM1) (W : Waits sig Unit) (K : PUnit → sProp 𝕄) :
    iprop(iprop(owns c.tc scM0 fullShare X ∗ inflight c (o2) (b2) fs ds ∗ hbPt c (wsl (o4) (b4)) fs ∗ owes c.tc 0 W) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
        ∗ (∃ d, owns c.tc arg10 fullShare d) ∗ (∃ d, owns c.tc scMt fullShare d)
        ∗ (iprop(iprop((∃ d, inflight c (o4) (b4) fs d) ∗ hbPt c (wsl (o2) (b2)) fs ∗ (∃ W', owes c.tc 0 W')) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
            ∗ owns c.tc arg10 fullShare (outOf x (slot (stored oa ob X (cast0 c (o2) (b2) fs) (cast1 c (o2) (b2) fs)) oa ba) (slot (stored oa ob X (cast0 c (o2) (b2) fs) (cast1 c (o2) (b2) fs)) ob bb) u gv ss gn ws bs)
            ∗ (∃ d, owns c.tc scMt fullShare d) ∗ owns c.tc scM0 fullShare (stored oa ob X (cast0 c (o2) (b2) fs) (cast1 c (o2) (b2) fs))) -∗ K ⟨⟩))
      ⊢ wp frame (wpE (defs₀ (F := F)) Variants.none c none) Set.univ (body i arg2 harg2 arg4 harg4 arg5 harg5 arg6 harg6 arg7 harg7 arg8 harg8 arg9 harg9 arg10 harg10) K := by
  subst e2
  subst e4
  subst e3a
  subst e3b
  rw [slot_congr _ e5a.symm ba (k0_off5_inb i 0), slot_congr _ e5b.symm bb (k0_off5_inb i 1)]
  exact run_of c i arg2 harg2 arg4 harg4 arg5 harg5 arg6 harg6 arg7 harg7 arg8 harg8 arg9 harg9 arg10 harg10 x u gv ss gn ws bs _ _ _ (fun K1 => part_B c i arg2 harg2 arg4 harg4 arg5 harg5 arg6 harg6 arg7 harg7 arg8 harg8 arg9 harg9 arg10 harg10 h1 h2 h3 gv ss X fs ds W K1) K

theorem part_C (h1 : ¬ k0_cond1 i = 1#1) (h2 : k0_cond2 i = 1#1) (h3 : ¬ k0_cond3 i = 1#1)
    (gv : Vec F S1024x1024 .bf16) (ss : Vec F S4x1024x1 .f32) (X : Vec F S8x2048x512 .bf16) (fs : HbBuf (F := F) c hbM) (ds : HbBuf (F := F) c scM1) (W : Waits sig Unit)
    (K1 : (Σ' (_ : BitVec 32) (_ : FVec F S1024x1 .f32) (_ : FVec F S1024x512 .f32), FVec F S1024x512 .f32) → sProp 𝕄) :
    iprop(iprop(owns c.tc scM0 fullShare X ∗ inflight c (k0_off2 i) (k0_off2_inb i h2) fs ds ∗ owes c.tc 0 W) ∗ owns c.tc arg5 fullShare gv ∗ owns c.tc arg6 fullShare ss
        ∗ (iprop(iprop(hbPt c (wsl (k0_off2 i) (k0_off2_inb i h2)) fs ∗ (∃ ds, hbPt c scM1 ds) ∗ semVal (c.tc, SemLoc.dma cc0_scratch3.sem) 0 ∗ (∃ W', owes c.tc 0 W')) ∗ owns c.tc arg5 fullShare gv ∗ owns c.tc arg6 fullShare ss
          ∗ owns c.tc scM0 fullShare (stored (k0_off3 i 0#32) (k0_off3 i 1#32) X (cast0 c (k0_off2 i) (k0_off2_inb i h2) fs) (cast1 c (k0_off2 i) (k0_off2_inb i h2) fs))) -∗
            K1 ⟨BitVec.ofNat 32 (i 1).val, rootOf ss, k0_pay5 (gvcol gv 0 inb_S1024x1024_S1024x512_0_0), rootOf' ss⟩))
      ⊢ wp frame (wpE (defs₀ (F := F)) Variants.none c none) Set.univ (part1 i arg2 harg2 arg4 harg4 arg5 harg5 arg6 harg6 arg7 harg7 arg8 harg8 arg9 harg9 arg10 harg10) K1 := by
  unfold part1
  rw [k0_part1_eq_skeleton]; unfold k0_part1_skel
  unfold owns
  iintro ⟨⟨⟨%f0, %hf0, H0⟩, HF, HW⟩, ⟨%f5, %hf5, H5⟩, ⟨%f6, %hf6, H6⟩, Hk⟩
  have es (j : ℕ) (h : ∀ a, (![j, 0, 0] : Fin 3 → ℕ) a + S1x1024x1.size a ≤ S4x1024x1.size a) :
      arg6.view.readAt (Elt F) (Rect.unit (s := S4x1024x1) ![j, 0, 0] S1x1024x1.size h).toLoadRect f6 = ssrow ss j h := by
    rw [View.readAt_unit _ _ _ rfl h, hf6]
  have eg (j : ℕ) (h : ∀ a, (![0, j] : Fin 2 → ℕ) a + S1024x512.size a ≤ S1024x1024.size a) :
      arg5.view.readAt (Elt F) (Rect.unit (s := S1024x1024) ![0, j] S1024x512.size h).toLoadRect f5 = gvcol gv j h := by
    rw [View.readAt_unit _ _ _ rfl h, hf5]
  sl_exec
  sl_step
  try rw [es, es, es, es, eg]
  iapply Hk
  isplitl [HF_src HF_dst HF HW]
  · isplitl [HF_src]; · iexact HF_src
    isplitl [HF_dst]; · iexists _; iexact HF_dst
    isplitl [HF]; · iexact HF
    · iexists _; iexact HW
  isplitl [H5]; · iexists _; isplitr; swap; iexact H5; ipureintro; exact hf5
  isplitl [H6]; · iexists _; isplitr; swap; iexact H6; ipureintro; exact hf6
  · iexists _; isplitr; swap
    · iexact H0
    · ipureintro
      refine (View.read_writes_cons_put scM0.view f0 (off := k0_off3 i 1#32) (off' := k0_off3 i 1#32) (k0_off3_inb i h2 1) _ _ rfl).trans ?_
      rw [View.read_writes_cons_put scM0.view f0 (off := k0_off3 i 0#32) (off' := k0_off3 i 0#32) (k0_off3_inb i h2 0) _ _ rfl, View.writes_nil, hf0]
      unfold part_C.sl.v447 part_C.sl.v455
      rw [readCov_part, readCov_part]
      try rfl

/-- The whole body, the offsets in closed form. -/
theorem run_C (h1 : ¬ k0_cond1 i = 1#1) (h2 : k0_cond2 i = 1#1) (h3 : ¬ k0_cond3 i = 1#1)
    {o2 : Fin 3 → ℕ} (b2 : ∀ a, o2 a + S1x2048x1024.size a ≤ S2x2048x12288.size a) (e2 : k0_off2 i = o2)
    {oa ob : Fin 3 → ℕ} (ba : ∀ a, oa a + S1x2048x512.size a ≤ S8x2048x512.size a) (bb : ∀ a, ob a + S1x2048x512.size a ≤ S8x2048x512.size a) (e3a : k0_off3 i 0#32 = oa) (e3b : k0_off3 i 1#32 = ob) (e5a : k0_off5 i 0#32 = oa) (e5b : k0_off5 i 1#32 = ob)
    (x : Vec F S1024x2048 .bf16) (u gv : Vec F S1024x1024 .bf16) (ss : Vec F S4x1024x1 .f32) (gn : Vec F S1x1024 .f32)
    (ws : Vec F S2x128x128 .bf16) (bs : Vec F S2x128x1 .f32) (X : Vec F S8x2048x512 .bf16) (fs : HbBuf (F := F) c hbM) (ds : HbBuf (F := F) c scM1) (W : Waits sig Unit) (K : PUnit → sProp 𝕄) :
    iprop(iprop(owns c.tc scM0 fullShare X ∗ inflight c (o2) (b2) fs ds ∗ owes c.tc 0 W) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
        ∗ (∃ d, owns c.tc arg10 fullShare d) ∗ (∃ d, owns c.tc scMt fullShare d)
        ∗ (iprop(iprop(hbPt c (wsl (o2) (b2)) fs ∗ (∃ ds, hbPt c scM1 ds) ∗ semVal (c.tc, SemLoc.dma cc0_scratch3.sem) 0 ∗ (∃ W', owes c.tc 0 W')) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
            ∗ owns c.tc arg10 fullShare (outOf x (slot (stored oa ob X (cast0 c (o2) (b2) fs) (cast1 c (o2) (b2) fs)) oa ba) (slot (stored oa ob X (cast0 c (o2) (b2) fs) (cast1 c (o2) (b2) fs)) ob bb) u gv ss gn ws bs)
            ∗ (∃ d, owns c.tc scMt fullShare d) ∗ owns c.tc scM0 fullShare (stored oa ob X (cast0 c (o2) (b2) fs) (cast1 c (o2) (b2) fs))) -∗ K ⟨⟩))
      ⊢ wp frame (wpE (defs₀ (F := F)) Variants.none c none) Set.univ (body i arg2 harg2 arg4 harg4 arg5 harg5 arg6 harg6 arg7 harg7 arg8 harg8 arg9 harg9 arg10 harg10) K := by
  subst e2
  subst e3a
  subst e3b
  rw [slot_congr _ e5a.symm ba (k0_off5_inb i 0), slot_congr _ e5b.symm bb (k0_off5_inb i 1)]
  exact run_of c i arg2 harg2 arg4 harg4 arg5 harg5 arg6 harg6 arg7 harg7 arg8 harg8 arg9 harg9 arg10 harg10 x u gv ss gn ws bs _ _ _ (fun K1 => part_C c i arg2 harg2 arg4 harg4 arg5 harg5 arg6 harg6 arg7 harg7 arg8 harg8 arg9 harg9 arg10 harg10 h1 h2 h3 gv ss X fs ds W K1) K

theorem part_D (h1 : ¬ k0_cond1 i = 1#1) (h2 : ¬ k0_cond2 i = 1#1) (h3 : ¬ k0_cond3 i = 1#1)
    (gv : Vec F S1024x1024 .bf16) (ss : Vec F S4x1024x1 .f32) (X : Vec F S8x2048x512 .bf16)
    (K1 : (Σ' (_ : BitVec 32) (_ : FVec F S1024x1 .f32) (_ : FVec F S1024x512 .f32), FVec F S1024x512 .f32) → sProp 𝕄) :
    iprop(iprop(owns c.tc scM0 fullShare X) ∗ owns c.tc arg5 fullShare gv ∗ owns c.tc arg6 fullShare ss
        ∗ (iprop(iprop(emp) ∗ owns c.tc arg5 fullShare gv ∗ owns c.tc arg6 fullShare ss
          ∗ owns c.tc scM0 fullShare X) -∗
            K1 ⟨BitVec.ofNat 32 (i 1).val, rootOf ss, k0_pay5 (gvcol gv 0 inb_S1024x1024_S1024x512_0_0), rootOf' ss⟩))
      ⊢ wp frame (wpE (defs₀ (F := F)) Variants.none c none) Set.univ (part1 i arg2 harg2 arg4 harg4 arg5 harg5 arg6 harg6 arg7 harg7 arg8 harg8 arg9 harg9 arg10 harg10) K1 := by
  unfold part1
  rw [k0_part1_eq_skeleton]; unfold k0_part1_skel
  unfold owns
  iintro ⟨⟨%f0, %hf0, H0⟩, ⟨%f5, %hf5, H5⟩, ⟨%f6, %hf6, H6⟩, Hk⟩
  have es (j : ℕ) (h : ∀ a, (![j, 0, 0] : Fin 3 → ℕ) a + S1x1024x1.size a ≤ S4x1024x1.size a) :
      arg6.view.readAt (Elt F) (Rect.unit (s := S4x1024x1) ![j, 0, 0] S1x1024x1.size h).toLoadRect f6 = ssrow ss j h := by
    rw [View.readAt_unit _ _ _ rfl h, hf6]
  have eg (j : ℕ) (h : ∀ a, (![0, j] : Fin 2 → ℕ) a + S1024x512.size a ≤ S1024x1024.size a) :
      arg5.view.readAt (Elt F) (Rect.unit (s := S1024x1024) ![0, j] S1024x512.size h).toLoadRect f5 = gvcol gv j h := by
    rw [View.readAt_unit _ _ _ rfl h, hf5]
  sl_exec
  sl_step
  try rw [es, es, es, es, eg]
  iapply Hk
  isplitr
  · iempintro
  isplitl [H5]; · iexists _; isplitr; swap; iexact H5; ipureintro; exact hf5
  isplitl [H6]; · iexists _; isplitr; swap; iexact H6; ipureintro; exact hf6
  · iexists _; isplitr; swap; iexact H0; ipureintro; exact hf0

/-- The whole body, the offsets in closed form. -/
theorem run_D (h1 : ¬ k0_cond1 i = 1#1) (h2 : ¬ k0_cond2 i = 1#1) (h3 : ¬ k0_cond3 i = 1#1)
    {oa ob : Fin 3 → ℕ} (ba : ∀ a, oa a + S1x2048x512.size a ≤ S8x2048x512.size a) (bb : ∀ a, ob a + S1x2048x512.size a ≤ S8x2048x512.size a) (e5a : k0_off5 i 0#32 = oa) (e5b : k0_off5 i 1#32 = ob)
    (x : Vec F S1024x2048 .bf16) (u gv : Vec F S1024x1024 .bf16) (ss : Vec F S4x1024x1 .f32) (gn : Vec F S1x1024 .f32)
    (ws : Vec F S2x128x128 .bf16) (bs : Vec F S2x128x1 .f32) (X : Vec F S8x2048x512 .bf16)  (K : PUnit → sProp 𝕄) :
    iprop(iprop(owns c.tc scM0 fullShare X) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
        ∗ (∃ d, owns c.tc arg10 fullShare d) ∗ (∃ d, owns c.tc scMt fullShare d)
        ∗ (iprop(iprop(emp) ∗ owns c.tc arg2 fullShare x ∗ owns c.tc arg4 fullShare u ∗ owns c.tc arg5 fullShare gv
        ∗ owns c.tc arg6 fullShare ss ∗ owns c.tc arg7 fullShare gn ∗ owns c.tc arg8 fullShare ws
        ∗ owns c.tc arg9 fullShare bs
            ∗ owns c.tc arg10 fullShare (outOf x (slot X oa ba) (slot X ob bb) u gv ss gn ws bs)
            ∗ (∃ d, owns c.tc scMt fullShare d) ∗ owns c.tc scM0 fullShare X) -∗ K ⟨⟩))
      ⊢ wp frame (wpE (defs₀ (F := F)) Variants.none c none) Set.univ (body i arg2 harg2 arg4 harg4 arg5 harg5 arg6 harg6 arg7 harg7 arg8 harg8 arg9 harg9 arg10 harg10) K := by
  subst e5a
  subst e5b
  exact run_of c i arg2 harg2 arg4 harg4 arg5 harg5 arg6 harg6 arg7 harg7 arg8 harg8 arg9 harg9 arg10 harg10 x u gv ss gn ws bs _ _ _ (fun K1 => part_D c i arg2 harg2 arg4 harg4 arg5 harg5 arg6 harg6 arg7 harg7 arg8 harg8 arg9 harg9 arg10 harg10 h1 h2 h3 gv ss X  K1) K

end Cert.KernelIdeal.Hand

end
-- ==== Proof.MixB.lean ====
module

public import proofs.«01_k».proof.Proof.MixP

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The program up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem not_written (b : Ref sig .tc) (hb : ∀ v ∈ [main_v0, main_v1, main_cst, main_v2, main_v3, main_v4, main_v5, main_v6, main_v7, main_v8, main_v9, main_v10], b ≠ v) :
    ∀ op ∈ (hostOps0 (F := F)), Proc.devRef .tc b ∉ op.writes := by
  intro op hop
  simp only [List.mem_cons, List.mem_nil_iff, or_false] at hop
  rcases hop with rfl | rfl | rfl | rfl | rfl | rfl | rfl | rfl | rfl | rfl | rfl | rfl
  all_goals exact fun hm => StableHlo.devRef_ne_of_ne (hb _ (by simp)) (Finset.mem_singleton.mp hm)

theorem V_arg0 (c : Dev nD) : V m c main_arg0 = m (c.tc.loc main_arg0) :=
  StableHlo.after_of_forall_not_mem (b := Proc.devRef .tc main_arg0) _ _ (not_written main_arg0 (by decide))
theorem V_arg1 (c : Dev nD) : V m c main_arg1 = m (c.tc.loc main_arg1) :=
  StableHlo.after_of_forall_not_mem (b := Proc.devRef .tc main_arg1) _ _ (not_written main_arg1 (by decide))
theorem V_arg2 (c : Dev nD) : V m c main_arg2 = m (c.tc.loc main_arg2) :=
  StableHlo.after_of_forall_not_mem (b := Proc.devRef .tc main_arg2) _ _ (not_written main_arg2 (by decide))
theorem V_arg3 (c : Dev nD) : V m c main_arg3 = m (c.tc.loc main_arg3) :=
  StableHlo.after_of_forall_not_mem (b := Proc.devRef .tc main_arg3) _ _ (not_written main_arg3 (by decide))
theorem V_arg4 (c : Dev nD) : V m c main_arg4 = m (c.tc.loc main_arg4) :=
  StableHlo.after_of_forall_not_mem (b := Proc.devRef .tc main_arg4) _ _ (not_written main_arg4 (by decide))
theorem V_arg5 (c : Dev nD) : V m c main_arg5 = m (c.tc.loc main_arg5) :=
  StableHlo.after_of_forall_not_mem (b := Proc.devRef .tc main_arg5) _ _ (not_written main_arg5 (by decide))
theorem V_arg6 (c : Dev nD) : V m c main_arg6 = m (c.tc.loc main_arg6) :=
  StableHlo.after_of_forall_not_mem (b := Proc.devRef .tc main_arg6) _ _ (not_written main_arg6 (by decide))

/-! ## Where the grid's points lie -/

/-- Block `k` of the weights: its offsets. -/
def boff (k : ℕ) : Fin 3 → ℕ := ![0, 0, 8192 + 1024 * (k % 4)]
theorem boff_inb (k : ℕ) : ∀ a, boff k a + S1x2048x1024.size a ≤ S2x2048x12288.size a := by
  intro a
  have : k % 4 < 4 := Nat.mod_lt _ (by decide)
  match a with
  | 0 => show (0 : ℕ) + 1 ≤ 2; omega
  | 1 => show (0 : ℕ) + 2048 ≤ 2048; omega
  | 2 => show 8192 + 1024 * (k % 4) + 1024 ≤ 12288; omega
/-- Slot `k` of the cast weights. -/
def soff (k : ℕ) : Fin 3 → ℕ := ![k % 8, 0, 0]
theorem soff_inb (k : ℕ) : ∀ a, soff k a + S1x2048x512.size a ≤ S8x2048x512.size a := by
  intro a
  have : k % 8 < 8 := Nat.mod_lt _ (by decide)
  match a with
  | 0 => show k % 8 + 1 ≤ 8; omega
  | 1 => show (0 : ℕ) + 2048 ≤ 2048; omega
  | 2 => show (0 : ℕ) + 512 ≤ 512; omega

theorem cond1_iff : ∀ t : Fin grid0.N, k0_cond1 (grid0.coords t) = 1#1 ↔ t.val = 0 := by decide +kernel
theorem cond2_iff : ∀ t : Fin grid0.N, k0_cond2 (grid0.coords t) = 1#1 ↔ t.val < 4 := by decide +kernel
theorem cond3_iff : ∀ t : Fin grid0.N, k0_cond3 (grid0.coords t) = 1#1 ↔ t.val < 3 := by decide +kernel
theorem off1_at : ∀ t : Fin grid0.N, t.val = 0 → k0_off1 (grid0.coords t) = boff 0 := by decide +kernel
theorem off2_at : ∀ t : Fin grid0.N, t.val < 4 → k0_off2 (grid0.coords t) = boff t.val := by decide +kernel
theorem off4_at : ∀ t : Fin grid0.N, t.val < 3 → k0_off4 (grid0.coords t) = boff (t.val + 1) := by decide +kernel
theorem off3a_at : ∀ t : Fin grid0.N, t.val < 4 → k0_off3 (grid0.coords t) 0#32 = soff (2 * (t.val % 4)) := by decide +kernel
theorem off3b_at : ∀ t : Fin grid0.N, t.val < 4 → k0_off3 (grid0.coords t) 1#32 = soff (2 * (t.val % 4) + 1) := by decide +kernel
theorem off5a_at : ∀ t : Fin grid0.N, k0_off5 (grid0.coords t) 0#32 = soff (2 * (t.val % 4)) := by decide +kernel
theorem off5b_at : ∀ t : Fin grid0.N, k0_off5 (grid0.coords t) 1#32 = soff (2 * (t.val % 4) + 1) := by decide +kernel

/-- The elements of block `k` in the weights' buffer. -/
abbrev wset (k : ℕ) := (wsl (boff k) (boff_inb k)).view.set

theorem wset_disj {j k : ℕ} (h : j % 4 ≠ k % 4) : wset k ⊆ hbM.view.set \ wset j := by
  intro x hx
  have e (k : ℕ) : wset k = (Rect.unit (s := S2x2048x12288) (boff k) S1x2048x1024.size (boff_inb k)).set :=
    (View.set_reshape _ _).trans (View.set_slice_whole _ _)
  rw [e] at hx ⊢
  rw [Finset.mem_sdiff]
  refine ⟨by rw [show hbM.view.set = Finset.univ from View.set_whole _]; exact Finset.mem_univ _, fun hy => ?_⟩
  have h1 := Rect.mem_set_unit.1 hx 2
  have h2 := Rect.mem_set_unit.1 hy 2
  have e1 (k : ℕ) : boff k 2 = 8192 + 1024 * (k % 4) := rfl
  have e2 : S1x2048x1024.size 2 = 1024 := rfl
  rw [e1, e2] at h1 h2
  omega

theorem wset_sub (k : ℕ) : wset k ⊆ hbM.view.set := fun x hx => by
  rw [show hbM.view.set = Finset.univ from View.set_whole _]; exact Finset.mem_univ _

/-- A slot after a store into one. -/
theorem slot_put_same (X : Vec F S8x2048x512 .bf16) (k : ℕ) (w : Vec F S1x2048x512 .bf16) :
    slot (VecWindow.put X (soff k) S1x2048x512.size w) (soff k) (soff_inb k) = w :=
  VecWindow.window_put_same X _ _ (soff_inb k) w
theorem slot_put_ne (X : Vec F S8x2048x512 .bf16) {n j : ℕ} (h : j % 8 ≠ n % 8) (w : Vec F S1x2048x512 .bf16) :
    slot (VecWindow.put X (soff n) S1x2048x512.size w) (soff j) (soff_inb j) = slot X (soff j) (soff_inb j) := by
  refine VecWindow.window_put_of_disjoint X _ _ _ _ (soff_inb j) w 0 ?_
  show j % 8 + 1 ≤ n % 8 ∨ n % 8 + 1 ≤ j % 8
  omega

end Cert.KernelIdeal.Hand

end
-- ==== Proof.MixC.lean ====
module

public import proofs.«01_k».proof.Proof.MixB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The weights as the region finds them. -/
abbrev wts (c : Dev nD) : HbBuf (F := F) c hbM := V m c main_arg1
/-- The casts of the halves of block `k`. -/
abbrev wb0 (c : Dev nD) (k : ℕ) : Vec F S1x2048x512 .bf16 := cast0 c (boff k) (boff_inb k) (wts m c)
abbrev wb1 (c : Dev nD) (k : ℕ) : Vec F S1x2048x512 .bf16 := cast1 c (boff k) (boff_inb k) (wts m c)

/-- The slots of the blocks below `n` hold their casts. -/
def Holds (c : Dev nD) (n : ℕ) (X : Vec F S8x2048x512 .bf16) : Prop :=
  ∀ k, k < n → k < 4 → slot X (soff (2 * k)) (soff_inb (2 * k)) = wb0 m c k ∧ slot X (soff (2 * k + 1)) (soff_inb (2 * k + 1)) = wb1 m c k

theorem holds_zero (c : Dev nD) (X : Vec F S8x2048x512 .bf16) : Holds m c 0 X := fun k hk => absurd hk (Nat.not_lt_zero k)

theorem holds_stored (c : Dev nD) {n : ℕ} (hn : n < 4) (X : Vec F S8x2048x512 .bf16) (h : Holds m c n X) :
    Holds m c (n + 1) (stored (soff (2 * (n % 4))) (soff (2 * (n % 4) + 1)) X (wb0 m c n) (wb1 m c n)) := by
  intro k hk h4
  rw [Nat.mod_eq_of_lt hn]
  by_cases e : k = n
  · subst e
    exact ⟨(slot_put_ne _ (by omega) _).trans (slot_put_same _ _ _), slot_put_same _ _ _⟩
  · exact ⟨((slot_put_ne _ (by omega) _).trans (slot_put_ne _ (by omega) _)).trans (h k (by omega) h4).1,
      ((slot_put_ne _ (by omega) _).trans (slot_put_ne _ (by omega) _)).trans (h k (by omega) h4).2⟩

/-- The staging buffer free, its cell at zero, the weights whole. -/
def idle (c : Dev nD) : sProp 𝕄 :=
  iprop((∃ ds, hbPt c scM1 ds) ∗ semVal (c.tc, SemLoc.dma cc0_scratch3.sem) 0 ∗ hbPt c hbM (wts m c))
/-- Block `k` in flight, the rest of the weights held. -/
def flying (c : Dev nD) (k : ℕ) : sProp 𝕄 :=
  iprop((∃ d, inflight c (boff k) (boff_inb k) (wts m c) d) ∗ (hbM.view.loc c.tc ↦[hbM.view.set \ wset k]{fullShare} wts m c))
/-- The copies before point `p`. -/
def ring (c : Dev nD) (p : ℕ) : sProp 𝕄 := if p = 0 ∨ 4 ≤ p then idle m c else flying m c p
theorem ring_idle (c : Dev nD) {p : ℕ} (h : p = 0 ∨ 4 ≤ p) : ring m c p = idle m c := if_pos h
theorem ring_flying (c : Dev nD) {p : ℕ} (h : ¬ (p = 0 ∨ 4 ≤ p)) : ring m c p = flying m c p := if_neg h
/-- Before point `p`: the blocks below it cast, block `p` in flight if it is one of the blocks and not the first. -/
def inv (c : Dev nD) (p : ℕ) : sProp 𝕄 :=
  iprop((∃ X, ⌜Holds m c p X⌝ ∗ owns c.tc scM0 fullShare X) ∗ (∃ d, owns c.tc scMt fullShare d) ∗ ring m c p)

/-! ## The proof data -/

abbrev ms0_0 (t : Fin cfg0.N) : Memref sig .tc .vmem S1024x2048 .bf16 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S4x1024x1 .f32 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S2x128x128 .bf16 := win0_5.stage (cfg0.slots t 5)
abbrev ms0_6 (t : Fin cfg0.N) : Memref sig .tc .vmem S2x128x1 .f32 := win0_6.stage (cfg0.slots t 6)
abbrev ms0_7 (t : Fin cfg0.N) : Memref sig .tc .vmem S1024x1024 .bf16 := win0_7.stage (cfg0.slots t 7)

/-- Window `w`'s block of its array at point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result at point `t`. -/
def outAt (c : Dev nD) (t : Fin cfg0.N) : Vec F S1024x1024 .bf16 :=
  outOf (iblk m c 0 t) (wb0 m c (t.val % 4)) (wb1 m c (t.val % 4)) (iblk m c 1 t) (iblk m c 2 t) (iblk m c 3 t) (iblk m c 4 t) (iblk m c 5 t) (iblk m c 6 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d : ((cfg0.win 0).xblock (cfg0.grid.coords t)).Idx → Elt F (cfg0.win 0).elt) : (dats m 0 c).before 0 t d = iblk m c 0 t :=
  (Dat.before_in_eq_fetched (dats m 0 c) 0 rfl (fun _ => rfl) (fun _ _ _ => rfl)
    (fun t => by rw [after0_0]; unfold Dat.blockOf iblk; rw [A_eq]; try rfl) t d).trans (by unfold Dat.fetched Dat.blockOf iblk; rw [A_eq]; try rfl)

theorem before0_1 (c : Dev nD) (t : Fin cfg0.N) (d : ((cfg0.win 1).xblock (cfg0.grid.coords t)).Idx → Elt F (cfg0.win 1).elt) : (dats m 0 c).before 1 t d = iblk m c 1 t :=
  (Dat.before_in_eq_fetched (dats m 0 c) 1 rfl (fun _ => rfl) (fun _ _ _ => rfl)
    (fun t => by rw [after0_1]; unfold Dat.blockOf iblk; rw [A_eq]; try rfl) t d).trans (by unfold Dat.fetched Dat.blockOf iblk; rw [A_eq]; try rfl)

theorem before0_2 (c : Dev nD) (t : Fin cfg0.N) (d : ((cfg0.win 2).xblock (cfg0.grid.coords t)).Idx → Elt F (cfg0.win 2).elt) : (dats m 0 c).before 2 t d = iblk m c 2 t :=
  (Dat.before_in_eq_fetched (dats m 0 c) 2 rfl (fun _ => rfl) (fun _ _ _ => rfl)
    (fun t => by rw [after0_2]; unfold Dat.blockOf iblk; rw [A_eq]; try rfl) t d).trans (by unfold Dat.fetched Dat.blockOf iblk; rw [A_eq]; try rfl)

theorem before0_3 (c : Dev nD) (t : Fin cfg0.N) (d : ((cfg0.win 3).xblock (cfg0.grid.coords t)).Idx → Elt F (cfg0.win 3).elt) : (dats m 0 c).before 3 t d = iblk m c 3 t :=
  (Dat.before_in_eq_fetched (dats m 0 c) 3 rfl (fun _ => rfl) (fun _ _ _ => rfl)
    (fun t => by rw [after0_3]; unfold Dat.blockOf iblk; rw [A_eq]; try rfl) t d).trans (by unfold Dat.fetched Dat.blockOf iblk; rw [A_eq]; try rfl)

theorem before0_4 (c : Dev nD) (t : Fin cfg0.N) (d : ((cfg0.win 4).xblock (cfg0.grid.coords t)).Idx → Elt F (cfg0.win 4).elt) : (dats m 0 c).before 4 t d = iblk m c 4 t :=
  (Dat.before_in_eq_fetched (dats m 0 c) 4 rfl (fun _ => rfl) (fun _ _ _ => rfl)
    (fun t => by rw [after0_4]; unfold Dat.blockOf iblk; rw [A_eq]; try rfl) t d).trans (by unfold Dat.fetched Dat.blockOf iblk; rw [A_eq]; try rfl)

theorem before0_5 (c : Dev nD) (t : Fin cfg0.N) (d : ((cfg0.win 5).xblock (cfg0.grid.coords t)).Idx → Elt F (cfg0.win 5).elt) : (dats m 0 c).before 5 t d = iblk m c 5 t :=
  (Dat.before_in_eq_fetched (dats m 0 c) 5 rfl (fun _ => rfl) (fun _ _ _ => rfl)
    (fun t => by rw [after0_5]; unfold Dat.blockOf iblk; rw [A_eq]; try rfl) t d).trans (by unfold Dat.fetched Dat.blockOf iblk; rw [A_eq]; try rfl)

theorem before0_6 (c : Dev nD) (t : Fin cfg0.N) (d : ((cfg0.win 6).xblock (cfg0.grid.coords t)).Idx → Elt F (cfg0.win 6).elt) : (dats m 0 c).before 6 t d = iblk m c 6 t :=
  (Dat.before_in_eq_fetched (dats m 0 c) 6 rfl (fun _ => rfl) (fun _ _ _ => rfl)
    (fun t => by rw [after0_6]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t))

/-- The operands' contents at a point. -/
def ops (c : Dev nD) (t : Fin cfg0.N) : sProp 𝕄 :=
  iprop(owns c.tc (ms0_0 t) fullShare (iblk m c 0 t)
    ∗ owns c.tc (ms0_1 t) fullShare (iblk m c 1 t)
    ∗ owns c.tc (ms0_2 t) fullShare (iblk m c 2 t)
    ∗ owns c.tc (ms0_3 t) fullShare (iblk m c 3 t)
    ∗ owns c.tc (ms0_4 t) fullShare (iblk m c 4 t)
    ∗ owns c.tc (ms0_5 t) fullShare (iblk m c 5 t)
    ∗ owns c.tc (ms0_6 t) fullShare (iblk m c 6 t))
/-- What the body is called with, and what it leaves, over the invariant and the operands' contents. -/
def pre (c : Dev nD) (t : Fin cfg0.N) (W : Waits sig Unit) : sProp 𝕄 :=
  iprop(inv m c t.val ∗ owes c.tc 0 W ∗ ops m c t ∗ (∃ d, owns c.tc (ms0_7 t) fullShare d))
def post (c : Dev nD) (t : Fin cfg0.N) : sProp 𝕄 :=
  iprop(inv m c (t.val + 1) ∗ (∃ W', owes c.tc 0 W') ∗ ops m c t ∗ owns c.tc (ms0_7 t) fullShare (outAt m c t))

/-- The result at a point, from what its two slots hold. -/
theorem out_eq (c : Dev nD) (t : Fin cfg0.N) {X : Vec F S8x2048x512 .bf16} (h : Holds m c (t.val + 1) X) :
    outOf (iblk m c 0 t) (slot X (soff (2 * (t.val % 4))) (soff_inb _)) (slot X (soff (2 * (t.val % 4) + 1)) (soff_inb _))
      (iblk m c 1 t) (iblk m c 2 t) (iblk m c 3 t) (iblk m c 4 t) (iblk m c 5 t) (iblk m c 6 t) = outAt m c t := by
  unfold outAt
  have h' := h (t.val % 4) (by omega) (by omega)
  rw [h'.1, h'.2]

/-- A block handed back goes into the rest that lacks it and the next one. -/
theorem rejoin (c : Dev nD) {j k : ℕ} (h : j % 4 ≠ k % 4) (f : HbBuf (F := F) c hbM) :
    iprop((hbM.view.loc c.tc ↦[wset j]{fullShare} f) ∗ (hbM.view.loc c.tc ↦[(hbM.view.set \ wset j) \ wset k]{fullShare} f))
      ⊢ (hbM.view.loc c.tc ↦[hbM.view.set \ wset k]{fullShare} f : sProp 𝕄) := by
  rw [sdiff_right_comm]
  exact (pointsTo_split_subset (wset_disj (Ne.symm h))).2

theorem point_D (c : Dev nD) (t : Fin cfg0.N) (h : 4 ≤ t.val) (W : Waits sig Unit) :
    pre m c t W ⊢ wp frame (wpE (defs₀ (F := F)) Variants.none c none) Set.univ (bodyAt0 t) (fun _ => post m c t) := by
  unfold pre post inv
  rw [ring_idle m c (p := t.val) (by omega), ring_idle m c (p := t.val + 1) (by omega)]
  iintro ⟨⟨⟨%X, %hX, H0⟩, Ht, HR⟩, HW, HO, H10⟩
  unfold ops
  icases HO with ⟨H2, H4, H5, H6, H7, H8, H9⟩
  have hX' : Holds m c (t.val + 1) X := fun k _ h4 => hX k (by omega) h4
  iapply (run_D c (grid0.coords t) (ms0_0 t) _ (ms0_1 t) _ (ms0_2 t) _ (ms0_3 t) _ (ms0_4 t) _ (ms0_5 t) _ (ms0_6 t) _ (ms0_7 t) _ (fun hc => by have := (cond1_iff t).1 hc; omega)
    (fun hc => by have := (cond2_iff t).1 hc; omega) (fun hc => by have := (cond3_iff t).1 hc; omega)
    (soff_inb _) (soff_inb _) (off5a_at t) (off5b_at t)
    (iblk m c 0 t) (iblk m c 1 t) (iblk m c 2 t) (iblk m c 3 t) (iblk m c 4 t) (iblk m c 5 t) (iblk m c 6 t) X  _)
  isplitl [H0]; · iexact H0
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ht]; · iexact Ht
  rw [out_eq m c t hX']
  iintro ⟨-, H2, H4, H5, H6, H7, H8, H9, H10, Ht, H0⟩
  isplitl [H0 Ht HR]
  · isplitl [H0]; · iexists _; isplitr; swap; iexact H0; ipureintro; exact hX'
    isplitl [Ht]; · iexact Ht
    iexact HR
  isplitl [HW]; · iexists _; iexact HW
  isplitl [H2 H4 H5 H6 H7 H8 H9]
  · isplitl [H2]; · iexact H2
    isplitl [H4]; · iexact H4
    isplitl [H5]; · iexact H5
    isplitl [H6]; · iexact H6
    isplitl [H7]; · iexact H7
    isplitl [H8]; · iexact H8
    iexact H9
  iexact H10

theorem point_A (c : Dev nD) (t : Fin cfg0.N) (h : t.val = 0) (W : Waits sig Unit) :
    pre m c t W ⊢ wp frame (wpE (defs₀ (F := F)) Variants.none c none) Set.univ (bodyAt0 t) (fun _ => post m c t) := by
  unfold pre post inv
  rw [ring_idle m c (p := t.val) (by omega), ring_flying m c (p := t.val + 1) (by omega)]
  unfold idle flying
  iintro ⟨⟨⟨%X, %hX, H0⟩, Ht, HS, HF, Hw⟩, HW, HO, H10⟩
  unfold ops
  icases HO with ⟨H2, H4, H5, H6, H7, H8, H9⟩
  ihave ⟨Hw0, Hw⟩ := (pointsTo_split_subset (wset_sub t.val)).1 $$ Hw
  ihave ⟨Hw1, Hw⟩ := (pointsTo_split_subset (wset_disj (j := t.val) (k := t.val + 1) (by omega))).1 $$ Hw
  have hX' := holds_stored m c (n := t.val) (by omega) X hX
  iapply (run_A c (grid0.coords t) (ms0_0 t) _ (ms0_1 t) _ (ms0_2 t) _ (ms0_3 t) _ (ms0_4 t) _ (ms0_5 t) _ (ms0_6 t) _ (ms0_7 t) _ ((cond1_iff t).2 h) ((cond2_iff t).2 (by omega)) ((cond3_iff t).2 (by omega))
    (boff_inb t.val) ((off1_at t h).trans (by rw [h])) (boff_inb (t.val + 1)) (off4_at t (by omega)) (soff_inb _) (soff_inb _) (off3a_at t (by omega)) (off3b_at t (by omega)) (off5a_at t) (off5b_at t)
    (iblk m c 0 t) (iblk m c 1 t) (iblk m c 2 t) (iblk m c 3 t) (iblk m c 4 t) (iblk m c 5 t) (iblk m c 6 t) X (wts m c) W _)
  isplitl [H0 HS HF Hw0 Hw1 HW]
  · isplitl [H0]; · iexact H0
    isplitl [HS]; · iexact HS
    isplitl [HF]; · iexact HF
    isplitl [Hw0]; · iexact Hw0
    isplitl [Hw1]; · iexact Hw1
    iexact HW
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ht]; · iexact Ht
  rw [out_eq m c t hX']
  iintro ⟨⟨HF, Hw0, HW⟩, H2, H4, H5, H6, H7, H8, H9, H10, Ht, H0⟩
  isplitl [H0 Ht HF Hw Hw0]
  · isplitl [H0]; · iexists _; isplitr; swap; iexact H0; ipureintro; exact hX'
    isplitl [Ht]; · iexact Ht
    isplitl [HF]; · iexact HF
    iapply (rejoin (F := F) c (j := t.val) (k := t.val + 1) (by omega) (wts m c))
    isplitl [Hw0]; · iexact Hw0
    iexact Hw
  isplitl [HW]; · iexact HW
  isplitl [H2 H4 H5 H6 H7 H8 H9]
  · isplitl [H2]; · iexact H2
    isplitl [H4]; · iexact H4
    isplitl [H5]; · iexact H5
    isplitl [H6]; · iexact H6
    isplitl [H7]; · iexact H7
    isplitl [H8]; · iexact H8
    iexact H9
  iexact H10

theorem point_B (c : Dev nD) (t : Fin cfg0.N) (h0 : t.val ≠ 0) (h : t.val < 3) (W : Waits sig Unit) :
    pre m c t W ⊢ wp frame (wpE (defs₀ (F := F)) Variants.none c none) Set.univ (bodyAt0 t) (fun _ => post m c t) := by
  unfold pre post inv
  rw [ring_flying m c (p := t.val) (by omega), ring_flying m c (p := t.val + 1) (by omega)]
  unfold flying
  iintro ⟨⟨⟨%X, %hX, H0⟩, Ht, ⟨%ds, HF⟩, Hw⟩, HW, HO, H10⟩
  unfold ops
  icases HO with ⟨H2, H4, H5, H6, H7, H8, H9⟩
  ihave ⟨Hw1, Hw⟩ := (pointsTo_split_subset (wset_disj (j := t.val) (k := t.val + 1) (by omega))).1 $$ Hw
  have hX' := holds_stored m c (n := t.val) (by omega) X hX
  iapply (run_B c (grid0.coords t) (ms0_0 t) _ (ms0_1 t) _ (ms0_2 t) _ (ms0_3 t) _ (ms0_4 t) _ (ms0_5 t) _ (ms0_6 t) _ (ms0_7 t) _ (fun hc => h0 ((cond1_iff t).1 hc)) ((cond2_iff t).2 (by omega)) ((cond3_iff t).2 h)
    (boff_inb t.val) (off2_at t (by omega)) (boff_inb (t.val + 1)) (off4_at t h) (soff_inb _) (soff_inb _) (off3a_at t (by omega)) (off3b_at t (by omega)) (off5a_at t) (off5b_at t)
    (iblk m c 0 t) (iblk m c 1 t) (iblk m c 2 t) (iblk m c 3 t) (iblk m c 4 t) (iblk m c 5 t) (iblk m c 6 t) X (wts m c) ds W _)
  isplitl [H0 HF Hw1 HW]
  · isplitl [H0]; · iexact H0
    isplitl [HF]; · iexact HF
    isplitl [Hw1]; · iexact Hw1
    iexact HW
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ht]; · iexact Ht
  rw [out_eq m c t hX']
  iintro ⟨⟨HF, Hw0, HW⟩, H2, H4, H5, H6, H7, H8, H9, H10, Ht, H0⟩
  isplitl [H0 Ht HF Hw Hw0]
  · isplitl [H0]; · iexists _; isplitr; swap; iexact H0; ipureintro; exact hX'
    isplitl [Ht]; · iexact Ht
    isplitl [HF]; · iexact HF
    iapply (rejoin (F := F) c (j := t.val) (k := t.val + 1) (by omega) (wts m c))
    isplitl [Hw0]; · iexact Hw0
    iexact Hw
  isplitl [HW]; · iexact HW
  isplitl [H2 H4 H5 H6 H7 H8 H9]
  · isplitl [H2]; · iexact H2
    isplitl [H4]; · iexact H4
    isplitl [H5]; · iexact H5
    isplitl [H6]; · iexact H6
    isplitl [H7]; · iexact H7
    isplitl [H8]; · iexact H8
    iexact H9
  iexact H10

theorem point_C (c : Dev nD) (t : Fin cfg0.N) (h : t.val = 3) (W : Waits sig Unit) :
    pre m c t W ⊢ wp frame (wpE (defs₀ (F := F)) Variants.none c none) Set.univ (bodyAt0 t) (fun _ => post m c t) := by
  unfold pre post inv
  rw [ring_flying m c (p := t.val) (by omega), ring_idle m c (p := t.val + 1) (by omega)]
  unfold flying idle
  iintro ⟨⟨⟨%X, %hX, H0⟩, Ht, ⟨%ds, HF⟩, Hw⟩, HW, HO, H10⟩
  unfold ops
  icases HO with ⟨H2, H4, H5, H6, H7, H8, H9⟩
  have hX' := holds_stored m c (n := t.val) (by omega) X hX
  iapply (run_C c (grid0.coords t) (ms0_0 t) _ (ms0_1 t) _ (ms0_2 t) _ (ms0_3 t) _ (ms0_4 t) _ (ms0_5 t) _ (ms0_6 t) _ (ms0_7 t) _ (fun hc => by have := (cond1_iff t).1 hc; omega) ((cond2_iff t).2 (by omega))
    (fun hc => by have := (cond3_iff t).1 hc; omega)
    (boff_inb t.val) (off2_at t (by omega)) (soff_inb _) (soff_inb _) (off3a_at t (by omega)) (off3b_at t (by omega)) (off5a_at t) (off5b_at t)
    (iblk m c 0 t) (iblk m c 1 t) (iblk m c 2 t) (iblk m c 3 t) (iblk m c 4 t) (iblk m c 5 t) (iblk m c 6 t) X (wts m c) ds W _)
  isplitl [H0 HF HW]
  · isplitl [H0]; · iexact H0
    isplitl [HF]; · iexact HF
    iexact HW
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ht]; · iexact Ht
  rw [out_eq m c t hX']
  iintro ⟨⟨Hw0, HS, HF, HW⟩, H2, H4, H5, H6, H7, H8, H9, H10, Ht, H0⟩
  isplitl [H0 Ht HF HS Hw Hw0]
  · isplitl [H0]; · iexists _; isplitr; swap; iexact H0; ipureintro; exact hX'
    isplitl [Ht]; · iexact Ht
    isplitl [HS]; · iexact HS
    isplitl [HF]; · iexact HF
    iapply (pointsTo_split_subset (wset_sub t.val)).2
    isplitl [Hw0]; · iexact Hw0
    iexact Hw
  isplitl [HW]; · iexact HW
  isplitl [H2 H4 H5 H6 H7 H8 H9]
  · isplitl [H2]; · iexact H2
    isplitl [H4]; · iexact H4
    isplitl [H5]; · iexact H5
    isplitl [H6]; · iexact H6
    isplitl [H7]; · iexact H7
    isplitl [H8]; · iexact H8
    iexact H9
  iexact H10

theorem point (c : Dev nD) (t : Fin cfg0.N) (W : Waits sig Unit) :
    pre m c t W ⊢ wp frame (wpE (defs₀ (F := F)) Variants.none c none) Set.univ (bodyAt0 t) (fun _ => post m c t) := by
  by_cases h : 4 ≤ t.val
  · exact point_D m c t h W
  · by_cases h0 : t.val = 0
    · exact point_A m c t h0 W
    · by_cases hn : t.val < 3
      · exact point_B m c t h0 hn W
      · exact point_C m c t (by omega) W

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [after0_0, after0_1, after0_2, after0_3, after0_4, after0_5, after0_6, after0_7]
  unfold Dat.owesAt Pipeline.owesWithin
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owed t.castSucc = 0 from rfl, show (dats m 0 c).owed t.succ = 0 from rfl]
  iintro ⟨⟨Hg, HI⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none c none) Set.univ (Q := fun _ => post m c t))
  isplitl [HI HW H0 H1 H2 H3 H4 H5 H6 H7]
  · iapply (point m c t W)
    unfold pre ops
    isplitl [HI]; · iexact HI
    isplitl [HW]; · iexact HW
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexists _; iexact H7
  iintro %_ Hp
  unfold post ops
  icases Hp with ⟨HI, ⟨%W', HW⟩, ⟨H0, H1, H2, H3, H4, H5, H6⟩, H7⟩
  isplitl [Hg HI]
  · isplitl [Hg]; · iexact Hg
    iexact HI
  isplitl [HW]
  · iexists W'; isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

abbrev osem0 : Fin 1 → SemLoc sig := fun _ => SemLoc.dma cc0_scratch3.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma cc0_scratch3.sem) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c.tc.loc main_arg1) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns c.tc scM0 fullShare d) ∗ (∃ d, owns c.tc scMt fullShare d) ∗ (∃ ds, hbPt c scM1 ds)) ∗ (∃ r, prngReg c r)
          ∗ semVal (c.tc, SemLoc.dma cc0_scratch3.sem) 0 ∗ hbPt c hbM (wts m c)) := by
  rw [Pipeline.ΦD_eq, scopedRest0_eq, ownSems00_eq, hbmPts0_eq]
  simp only [scM0, scMt, hbPt, scM1, hbM, owns_whole, Memref.view_whole, View.set_whole]; try rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ inv m c 0) from rfl]
  unfold inv
  rw [ring_idle m c (p := 0) (Or.inl rfl)]
  unfold idle
  iintro ⟨⟨⟨%X, H0⟩, Ht, HS⟩, Hg, HF, Hw⟩
  isplitl [Hg]; · iexact Hg
  isplitl [H0]
  · iexists X; isplitr
    · ipureintro; exact holds_zero m c X
    · iexact H0
  isplitl [Ht]; · iexact Ht
  isplitl [HS]; · iexact HS
  isplitl [HF]; · iexact HF
  iexact Hw

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = iprop((∃ r, prngReg c r) ∗ inv m c grid0.N) from rfl, N_0]
  unfold inv
  rw [ring_idle m c (p := 64) (Or.inr (by decide))]
  unfold idle
  iintro ⟨Hg, ⟨%X, -, H0⟩, Ht, HS, HF, Hw⟩
  isplitl [H0 Ht HS]
  · isplitl [H0]; · iexists _; iexact H0
    isplitl [Ht]; · iexact Ht
    iexact HS
  isplitl [Hg]; · iexact Hg
  isplitl [HF]; · iexact HF
  iexact Hw

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result array as the write-backs leave it, the arguments as they were, every cell at zero. -/
theorem run : θ_run defs (onTc (τ := τ) (main (F := F))) ⟨m, fun _ => 0, ρ⟩ (fun r => (∀ c : Dev nD,
      r.2.mem ((c.tc : Thread nD τ).loc main_v11) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 7,
    ((h.1 c).2 main_arg0 (Pipeline.mem_restRefs_of main_arg0 (by decide) (by decide))).trans (V_arg0 m c),
    ((h.1 c).2 main_arg1 (Pipeline.mem_restRefs_of main_arg1 (by decide) (by decide))).trans (V_arg1 m c),
    ((h.1 c).2 main_arg2 (Pipeline.mem_restRefs_of main_arg2 (by decide) (by decide))).trans (V_arg2 m c),
    ((h.1 c).2 main_arg3 (Pipeline.mem_restRefs_of main_arg3 (by decide) (by decide))).trans (V_arg3 m c),
    ((h.1 c).2 main_arg4 (Pipeline.mem_restRefs_of main_arg4 (by decide) (by decide))).trans (V_arg4 m c),
    ((h.1 c).2 main_arg5 (Pipeline.mem_restRefs_of main_arg5 (by decide) (by decide))).trans (V_arg5 m c),
    ((h.1 c).2 main_arg6 (Pipeline.mem_restRefs_of main_arg6 (by decide) (by decide))).trans (V_arg6 m c)⟩, h.2⟩) (run_main m ρ)

end Cert.KernelIdeal.Hand

end
-- ==== Proof.Words.lean ====
module

public import Idealize.ShloMosaic.Lib.Pointwise
public import Idealize.ShloMosaic.Lib.IdealHost
public import Idealize.ShloMosaic.Lib.ReduceAll
public import Idealize.ShloMosaic.Lib.WordCmp

@[expose] public section

noncomputable section

namespace Cert.Words

open Idealize.ShloMosaic

/-! ## The numbers the literals denote -/

theorem w_2048 : Ideal.ofBits .f32 0x45000000#32 = ((2048 : ℝ) : EReal) := by
  simp [Ideal.ofBits, Ideal.ieee, -EReal.coe_mul]; norm_num
theorem w_inv2048 : Ideal.ofBits .f32 0x3A000000#32 = ((1 / 2048 : ℝ) : EReal) := by
  simp [Ideal.ofBits, Ideal.ieee, -EReal.coe_mul]; norm_num
theorem w_4096 : Ideal.ofBits .f32 0x45800000#32 = ((4096 : ℝ) : EReal) := by
  simp [Ideal.ofBits, Ideal.ieee, -EReal.coe_mul]; norm_num
theorem w_inv4096 : Ideal.ofBits .f32 0x39800000#32 = ((1 / 4096 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_inf : Ideal.ofBits .f32 0x7F800000#32 = (⊤ : EReal) := by
  unfold Ideal.ofBits Ideal.ieee
  exact (if_pos (by decide)).trans ((if_pos (by decide)).trans (if_neg (by decide)))
/-- The two literals of the reference's gelu. -/
theorem w_geluC : Ideal.ofBits .f32 0x3F4C422A#32 = ((6693141 / 8388608 : ℝ) : EReal) := by
  simp [Ideal.ofBits, Ideal.ieee, -EReal.coe_mul]; norm_num
theorem w_geluA : Ideal.ofBits .f32 0x3D372713#32 = ((12003091 / 268435456 : ℝ) : EReal) := by
  simp [Ideal.ofBits, Ideal.ieee, -EReal.coe_mul]; norm_num

/-- The mean over 2048 columns, by the division and by the product with the reciprocal. -/
theorem mean2048 (s : EReal) : Ideal.div s (Ideal.ofBits .f32 0x45000000#32) = s * Ideal.ofBits .f32 0x3A000000#32 := by
  rw [w_2048, w_inv2048]; exact Ideal.div_coe (by norm_num) s
/-- The mean over 4096 columns likewise. -/
theorem mean4096 (s : EReal) : Ideal.div s (Ideal.ofBits .f32 0x45800000#32) = s * Ideal.ofBits .f32 0x39800000#32 := by
  rw [w_4096, w_inv4096]; exact Ideal.div_coe (by norm_num) s

/-! ## Real numbers among the extended ones -/

/-- A number below infinity in absolute value is real. -/
theorem real_of_abs {x : EReal} (h : Ideal.cmp .olt (max x (-x)) (Ideal.ofBits .f32 0x7F800000#32) = 1#1) : ∃ r : ℝ, x = (r : EReal) := by
  rw [w_inf] at h
  have h' : max x (-x) < ⊤ := by
    by_contra hc
    simp [Ideal.cmp, hc] at h
  obtain ⟨h1, h2⟩ := max_lt_iff.1 h'
  lift x to ℝ using ⟨h1.ne, fun hx => by rw [hx] at h2; exact absurd h2 (by decide)⟩
  exact ⟨x, rfl⟩

/-- A sum of products of real numbers is real. -/
theorem real_sum {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  simp only [ha, hb, ← EReal.coe_mul]
  exact (map_sum (⟨⟨Real.toEReal, EReal.coe_zero⟩, EReal.coe_add⟩ : ℝ →+ EReal) _ _).symm

/-! ## The activations -/

/-- `x` by its logistic: over the hyperbolic tangent of the half, and over the exponential. -/
theorem silu_eq {x : EReal} (h : ∃ r : ℝ, x = (r : EReal)) :
    Ideal.ofBits .f32 0x3F000000#32 * x + Ideal.ofBits .f32 0x3F000000#32 * x * Ideal.tanh (Ideal.ofBits .f32 0x3F000000#32 * x)
      = x * Ideal.div (Ideal.ofBits .f32 0x3F800000#32) (Ideal.ofBits .f32 0x3F800000#32 + Ideal.exp (-x)) := by
  obtain ⟨r, rfl⟩ := h
  have hp : (1 + Real.exp (-r)) ≠ 0 := (by positivity : (0 : ℝ) < 1 + Real.exp (-r)).ne'
  rw [w_half, w_one, ← EReal.coe_neg, Ideal.exp_coe, ← EReal.coe_add, Ideal.div_coe hp, ← EReal.coe_mul, Ideal.tanh_coe,
    ← EReal.coe_mul, ← EReal.coe_mul, ← EReal.coe_mul, ← EReal.coe_add]
  refine congrArg _ ?_
  have hc : Real.exp (1 / 2 * r) + Real.exp (-(1 / 2 * r)) ≠ 0 := (by positivity : (0 : ℝ) < _).ne'
  have he : Real.exp (-r) = Real.exp (-(1 / 2 * r)) * Real.exp (-(1 / 2 * r)) := by rw [← Real.exp_add]; congr 1; ring
  have hi : Real.exp (1 / 2 * r) * Real.exp (-(1 / 2 * r)) = 1 := by rw [← Real.exp_add]; simp
  rw [Real.tanh_eq_sinh_div_cosh, Real.sinh_eq, Real.cosh_eq]
  rw [he] at hp ⊢
  generalize Real.exp (1 / 2 * r) = u at *
  generalize Real.exp (-(1 / 2 * r)) = v at *
  field_simp
  linear_combination 2 * r * v * hi

/-- The tangent form of the gelu: the product of its two literals taken first, and the reference's order. -/
theorem gelu_eq {x : EReal} (h : ∃ r : ℝ, x = (r : EReal)) :
    Ideal.ofBits .f32 0x3F000000#32 * x + Ideal.ofBits .f32 0x3F000000#32 * x
        * Ideal.tanh (x * (Ideal.ofBits .f32 0x3F4C422A#32 + ((80338380498831 / 2251799813685248 : ℝ) : EReal) * (x * x)))
      = x * (Ideal.ofBits .f32 0x3F000000#32 * (Ideal.ofBits .f32 0x3F800000#32
          + Ideal.tanh (Ideal.ofBits .f32 0x3F4C422A#32 * (x + Ideal.ofBits .f32 0x3D372713#32 * (x * x * x))))) := by
  obtain ⟨r, rfl⟩ := h
  rw [w_half, w_one, w_geluC, w_geluA]
  simp only [← EReal.coe_mul, ← EReal.coe_add, Ideal.tanh_coe]
  refine congrArg _ ?_
  have e : (6693141 / 8388608 : ℝ) * (r + 12003091 / 268435456 * (r * r * r)) = r * (6693141 / 8388608 + 80338380498831 / 2251799813685248 * (r * r)) := by ring
  rw [e]
  ring

/-- The gelu of a real number is real. -/
theorem gelu_real {x : EReal} (h : ∃ r : ℝ, x = (r : EReal)) :
    ∃ r : ℝ, x * (Ideal.ofBits .f32 0x3F000000#32 * (Ideal.ofBits .f32 0x3F800000#32
          + Ideal.tanh (Ideal.ofBits .f32 0x3F4C422A#32 * (x + Ideal.ofBits .f32 0x3D372713#32 * (x * x * x))))) = (r : EReal) := by
  obtain ⟨r, rfl⟩ := h
  rw [w_half, w_one, w_geluC, w_geluA]
  simp only [← EReal.coe_mul, ← EReal.coe_add, Ideal.tanh_coe]
  exact ⟨_, rfl⟩

end Cert.Words

end
-- ==== Proof.MixV.lean ====
module

public import proofs.«01_k».proof.Proof.MixC
public import proofs.«01_k».proof.Proof.Words
public import proofs.«01_k».proof.Pre_real1
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit.Geometry
public import Idealize.ShloMosaic.Lib.Pipeline.CanonAppend
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-! ## The scalar functions -/

/-- The gelu in the reference's order. -/
def gelu (x : EReal) : EReal := x * (Ideal.ofBits .f32 0x3F000000#32 * (Ideal.ofBits .f32 0x3F800000#32
  + Ideal.tanh (Ideal.ofBits .f32 0x3F4C422A#32 * (x + Ideal.ofBits .f32 0x3D372713#32 * (x * x * x)))))
/-- The gelu as the body takes it. -/
def act (x : EReal) : EReal := Ideal.ofBits .f32 0x3F000000#32 * x + Ideal.ofBits .f32 0x3F000000#32 * x
  * Ideal.tanh (x * (Ideal.ofBits .f32 0x3F4C422A#32 + ((80338380498831 / 2251799813685248 : ℝ) : EReal) * (x * x)))
theorem act_eq {x : EReal} (h : ∃ r : ℝ, x = (r : EReal)) : act x = gelu x := Cert.Words.gelu_eq h
/-- The gate's activation in the reference's order, and as the body takes it. -/
def silu (x : EReal) : EReal := x * Ideal.div (Ideal.ofBits .f32 0x3F800000#32) (Ideal.ofBits .f32 0x3F800000#32 + Ideal.exp (-x))
def sact (x : EReal) : EReal := Ideal.ofBits .f32 0x3F000000#32 * x + Ideal.ofBits .f32 0x3F000000#32 * x * Ideal.tanh (Ideal.ofBits .f32 0x3F000000#32 * x)
theorem sact_eq {x : EReal} (h : ∃ r : ℝ, x = (r : EReal)) : sact x = silu x := Cert.Words.silu_eq h

theorem kappa_eq : (Named.named κ "gelu_ca" 0x3D122279#32 : Ideal .f32) = ((80338380498831 / 2251799813685248 : ℝ) : EReal) :=
  IdealRules.named_const.ideal_named_scalar κ "gelu_ca" (φ := .f32) 0x3D122279#32 _ rfl

/-! ## The payloads at an index -/

/-- A chunk's spatial product with its bias, by the activated branch: row `a` of the weights by the chunk's rows, from row `r` on. -/
def chunkAt (vn : S1024x512.Idx → EReal) (w : S128x128.Idx → EReal) (b : S128x1.Idx → EReal) (u : S128x512.Idx → EReal) (r : ℕ) (hr : r + 128 ≤ 1024)
    (a : Fin 128) (q : Fin 512) : EReal :=
  act (u (ix2 a q)) * (∑ j : Fin 128, w (ix2 a j) * vn (ix2 (⟨r + j.val, by omega⟩ : Fin 1024) q) + b (ix2 a (0 : Fin 1)))

theorem chunk0_0_apply (v30 v31 : FVec Ideal S1024x512 .f32) (gn : Vec Ideal S1x512 .f32) (ws : Vec Ideal S1x128x128 .bf16) (bs : Vec Ideal S1x128x1 .f32) (u : Vec Ideal S128x512 .bf16) (a : Fin 128) (q : Fin 512) :
    k0_pay10 (F := Ideal) v30 v31 gn ws bs u (ix2 a q) = chunkAt (k0_pay7 (F := Ideal) v30 v31 gn) (k0_pay8 ws) (k0_pay9 bs) u 0 (by decide) a q := by
  unfold chunkAt act
  rw [← kappa_eq]
  pointwise [k0_pay10]
theorem chunk0_1_apply (v30 v31 : FVec Ideal S1024x512 .f32) (gn : Vec Ideal S1x512 .f32) (ws : Vec Ideal S1x128x128 .bf16) (bs : Vec Ideal S1x128x1 .f32) (u : Vec Ideal S128x512 .bf16) (a : Fin 128) (q : Fin 512) :
    k0_pay13 (F := Ideal) (k0_pay11 v30 v31 gn ws bs) (k0_pay12 u) (Scalar.ofBits .f32 0x3F000000#32) (ix2 a q) = chunkAt (k0_pay7 (F := Ideal) v30 v31 gn) (k0_pay8 ws) (k0_pay9 bs) u 128 (by decide) a q := by
  unfold chunkAt act
  rw [← kappa_eq]
  pointwise [k0_pay13, k0_pay11, k0_pay12]
theorem chunk0_2_apply (vn : FVec Ideal S1024x512 .bf16) (w : FVec Ideal S128x128 .bf16) (b : FVec Ideal S128x1 .f32) (u : Vec Ideal S128x512 .bf16) (a : Fin 128) (q : Fin 512) :
    k0_pay14 (F := Ideal) vn w b u (ix2 a q) = chunkAt vn w b u 256 (by decide) a q := by
  unfold chunkAt act
  rw [← kappa_eq]
  pointwise [k0_pay14]
theorem chunk0_3_apply (vn : FVec Ideal S1024x512 .bf16) (w : FVec Ideal S128x128 .bf16) (b : FVec Ideal S128x1 .f32) (u : Vec Ideal S128x512 .bf16) (a : Fin 128) (q : Fin 512) :
    k0_pay17 (F := Ideal) (k0_pay15 vn w b) (k0_pay16 u) (ix2 a q) = chunkAt vn w b u 384 (by decide) a q := by
  unfold chunkAt act
  rw [← kappa_eq]
  pointwise [k0_pay17, k0_pay15, k0_pay16]
theorem chunk0_4_apply (vn : FVec Ideal S1024x512 .bf16) (w : FVec Ideal S128x128 .bf16) (b : FVec Ideal S128x1 .f32) (u : Vec Ideal S128x512 .bf16) (a : Fin 128) (q : Fin 512) :
    k0_pay18 (F := Ideal) vn w b u (ix2 a q) = chunkAt vn w b u 512 (by decide) a q := by
  unfold chunkAt act
  rw [← kappa_eq]
  pointwise [k0_pay18]
theorem chunk0_5_apply (vn : FVec Ideal S1024x512 .bf16) (w : FVec Ideal S128x128 .bf16) (b : FVec Ideal S128x1 .f32) (u : Vec Ideal S128x512 .bf16) (a : Fin 128) (q : Fin 512) :
    k0_pay20 (F := Ideal) (k0_pay19 vn w b) u (ix2 a q) = chunkAt vn w b u 640 (by decide) a q := by
  unfold chunkAt act
  rw [← kappa_eq]
  pointwise [k0_pay20, k0_pay19]
theorem chunk0_6_apply (vn : FVec Ideal S1024x512 .bf16) (w : FVec Ideal S128x128 .bf16) (b : FVec Ideal S128x1 .f32) (u : Vec Ideal S128x512 .bf16) (a : Fin 128) (q : Fin 512) :
    k0_pay21 (F := Ideal) vn w b u (ix2 a q) = chunkAt vn w b u 768 (by decide) a q := by
  unfold chunkAt act
  rw [← kappa_eq]
  pointwise [k0_pay21]
theorem chunk0_7_apply (vn : FVec Ideal S1024x512 .bf16) (w : FVec Ideal S128x128 .bf16) (b : FVec Ideal S128x1 .f32) (u : Vec Ideal S128x512 .bf16) (a : Fin 128) (q : Fin 512) :
    k0_pay23 (F := Ideal) (k0_pay22 vn w b) u (ix2 a q) = chunkAt vn w b u 896 (by decide) a q := by
  unfold chunkAt act
  rw [← kappa_eq]
  pointwise [k0_pay23, k0_pay22]
theorem chunk1_0_apply (v27 : FVec Ideal S1024x1 .f32) (v236 : FVec Ideal S1024x512 .bf16) (gn : Vec Ideal S1x512 .f32) (ws : Vec Ideal S1x128x128 .bf16) (bs : Vec Ideal S1x128x1 .f32) (u : Vec Ideal S128x512 .bf16) (a : Fin 128) (q : Fin 512) :
    k0_pay29 (F := Ideal) v27 v236 gn ws bs u (ix2 a q) = chunkAt (k0_pay26 (F := Ideal) v27 v236 gn) (k0_pay27 ws) (k0_pay28 bs) u 0 (by decide) a q := by
  unfold chunkAt act
  rw [← kappa_eq]
  pointwise [k0_pay29]
theorem chunk1_1_apply (v27 : FVec Ideal S1024x1 .f32) (v236 : FVec Ideal S1024x512 .bf16) (gn : Vec Ideal S1x512 .f32) (ws : Vec Ideal S1x128x128 .bf16) (bs : Vec Ideal S1x128x1 .f32) (u : Vec Ideal S128x512 .bf16) (a : Fin 128) (q : Fin 512) :
    k0_pay32 (F := Ideal) (k0_pay30 v27 v236 gn ws bs) (k0_pay31 u) (ix2 a q) = chunkAt (k0_pay26 (F := Ideal) v27 v236 gn) (k0_pay27 ws) (k0_pay28 bs) u 128 (by decide) a q := by
  unfold chunkAt act
  rw [← kappa_eq]
  pointwise [k0_pay32, k0_pay30, k0_pay31]
theorem chunk1_2_apply (vn : FVec Ideal S1024x512 .bf16) (w : FVec Ideal S128x128 .bf16) (b : FVec Ideal S128x1 .f32) (u : Vec Ideal S128x512 .bf16) (a : Fin 128) (q : Fin 512) :
    k0_pay33 (F := Ideal) vn w b u (ix2 a q) = chunkAt vn w b u 256 (by decide) a q := by
  unfold chunkAt act
  rw [← kappa_eq]
  pointwise [k0_pay33]
theorem chunk1_3_apply (vn : FVec Ideal S1024x512 .bf16) (w : FVec Ideal S128x128 .bf16) (b : FVec Ideal S128x1 .f32) (u : Vec Ideal S128x512 .bf16) (a : Fin 128) (q : Fin 512) :
    k0_pay35 (F := Ideal) (k0_pay34 vn w b) u (ix2 a q) = chunkAt vn w b u 384 (by decide) a q := by
  unfold chunkAt act
  rw [← kappa_eq]
  pointwise [k0_pay35, k0_pay34]
theorem chunk1_4_apply (vn : FVec Ideal S1024x512 .bf16) (w : FVec Ideal S128x128 .bf16) (b : FVec Ideal S128x1 .f32) (u : Vec Ideal S128x512 .bf16) (a : Fin 128) (q : Fin 512) :
    k0_pay36 (F := Ideal) vn w b u (ix2 a q) = chunkAt vn w b u 512 (by decide) a q := by
  unfold chunkAt act
  rw [← kappa_eq]
  pointwise [k0_pay36]
theorem chunk1_5_apply (vn : FVec Ideal S1024x512 .bf16) (w : FVec Ideal S128x128 .bf16) (b : FVec Ideal S128x1 .f32) (u : Vec Ideal S128x512 .bf16) (a : Fin 128) (q : Fin 512) :
    k0_pay38 (F := Ideal) (k0_pay37 vn w b) u (ix2 a q) = chunkAt vn w b u 640 (by decide) a q := by
  unfold chunkAt act
  rw [← kappa_eq]
  pointwise [k0_pay38, k0_pay37]
theorem chunk1_6_apply (vn : FVec Ideal S1024x512 .bf16) (w : FVec Ideal S128x128 .bf16) (b : FVec Ideal S128x1 .f32) (u : Vec Ideal S128x512 .bf16) (a : Fin 128) (q : Fin 512) :
    k0_pay39 (F := Ideal) vn w b u (ix2 a q) = chunkAt vn w b u 768 (by decide) a q := by
  unfold chunkAt act
  rw [← kappa_eq]
  pointwise [k0_pay39]
theorem chunk1_7_apply (vn : FVec Ideal S1024x512 .bf16) (w : FVec Ideal S128x128 .bf16) (b : FVec Ideal S128x1 .f32) (u : Vec Ideal S128x512 .bf16) (a : Fin 128) (q : Fin 512) :
    k0_pay41 (F := Ideal) b (k0_pay40 vn w) u (ix2 a q) = chunkAt vn w b u 896 (by decide) a q := by
  unfold chunkAt act
  rw [← kappa_eq]
  pointwise [k0_pay41, k0_pay40]

theorem w_apply0 (ws : Vec Ideal S1x128x128 .bf16) (a j : Fin 128) : k0_pay8 (F := Ideal) ws (ix2 a j) = ws (ix3 (0 : Fin 1) a j) := by
  pointwise [k0_pay8]
theorem w_apply1 (ws : Vec Ideal S1x128x128 .bf16) (a j : Fin 128) : k0_pay27 (F := Ideal) ws (ix2 a j) = ws (ix3 (0 : Fin 1) a j) := by
  pointwise [k0_pay27]
theorem b_apply0 (bs : Vec Ideal S1x128x1 .f32) (a : Fin 128) : k0_pay9 (F := Ideal) bs (ix2 a (0 : Fin 1)) = bs (ix3 (0 : Fin 1) a (0 : Fin 1)) := by
  pointwise [k0_pay9]
theorem b_apply1 (bs : Vec Ideal S1x128x1 .f32) (a : Fin 128) : k0_pay28 (F := Ideal) bs (ix2 a (0 : Fin 1)) = bs (ix3 (0 : Fin 1) a (0 : Fin 1)) := by
  pointwise [k0_pay28]
theorem vn_apply0 (g : Vec Ideal S1024x512 .bf16) (s0 s1 s2 s3 : Vec Ideal S1x1024x1 .f32) (gn : Vec Ideal S1x512 .f32) (a : Fin 1024) (b : Fin 512) :
    k0_pay7 (F := Ideal) (k0_pay5 g) (k0_pay6 s0 s1 s2 s3) gn (ix2 a b) = g (ix2 a b) * k0_pay4 s0 s1 s2 s3 (ix2 a (0 : Fin 1)) * gn (ix2 (0 : Fin 1) b) := by
  pointwise [k0_pay7, k0_pay5, k0_pay6]
theorem vn_apply1 (g : Vec Ideal S1024x512 .bf16) (r : FVec Ideal S1024x1 .f32) (gn : Vec Ideal S1x512 .f32) (a : Fin 1024) (b : Fin 512) :
    k0_pay26 (F := Ideal) r (k0_pay25 g) gn (ix2 a b) = g (ix2 a b) * r (ix2 a (0 : Fin 1)) * gn (ix2 (0 : Fin 1) b) := by
  pointwise [k0_pay26, k0_pay25]
theorem root_apply (s0 s1 s2 s3 : Vec Ideal S1x1024x1 .f32) (a : Fin 1024) :
    k0_pay4 (F := Ideal) s0 s1 s2 s3 (ix2 a (0 : Fin 1)) = Ideal.rsqrt
      ((s0 (ix3 (0 : Fin 1) a (0 : Fin 1)) + s1 (ix3 (0 : Fin 1) a (0 : Fin 1)) + s2 (ix3 (0 : Fin 1) a (0 : Fin 1)) + s3 (ix3 (0 : Fin 1) a (0 : Fin 1)))
        * Ideal.ofBits .f32 0x39800000#32 + Ideal.ofBits .f32 0x358637BD#32) := by
  pointwise [k0_pay4]

/-- The gate's product at an index. -/
def dotAt (x : Vec Ideal S1024x2048 .bf16) (w : Vec Ideal S1x2048x512 .bf16) (a : Fin 1024) (b : Fin 512) : EReal :=
  ∑ k : Fin 2048, x (ix2 a k) * w (ix3 (0 : Fin 1) k b)
theorem gate0_apply (x : Vec Ideal S1024x2048 .bf16) (w : Vec Ideal S1x2048x512 .bf16) (t : Vec Ideal S1024x512 .f32) (a : Fin 1024) (b : Fin 512) :
    k0_pay24 (F := Ideal) x w t (ix2 a b) = t (ix2 a b) * sact (dotAt x w a b) := by
  unfold sact dotAt
  pointwise [k0_pay24]
theorem gate1_apply (x : Vec Ideal S1024x2048 .bf16) (w : Vec Ideal S1x2048x512 .bf16) (t : Vec Ideal S1024x512 .f32) (a : Fin 1024) (b : Fin 512) :
    k0_pay1 (F := Ideal) (k0_pay42 x w) t (ix2 a b) = t (ix2 a b) * sact (dotAt x w a b) := by
  unfold sact dotAt
  pointwise [k0_pay1, k0_pay42]

end Cert.KernelIdeal.Hand

end
-- ==== Proof.MixW.lean ====
module

public import proofs.«01_k».proof.Proof.MixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-! ## A block's tiles -/

variable (u gv : Vec Ideal S1024x1024 .bf16) (ss : Vec Ideal S4x1024x1 .f32) (gn : Vec Ideal S1x1024 .f32) (ws : Vec Ideal S2x128x128 .bf16) (bs : Vec Ideal S2x128x1 .f32)

/-- The root factor of row `a`. -/
def root (a : Fin 1024) : EReal := Ideal.rsqrt
  ((ss (ix3 (0 : Fin 4) a (0 : Fin 1)) + ss (ix3 (1 : Fin 4) a (0 : Fin 1)) + ss (ix3 (2 : Fin 4) a (0 : Fin 1)) + ss (ix3 (3 : Fin 4) a (0 : Fin 1)))
    * Ideal.ofBits .f32 0x39800000#32 + Ideal.ofBits .f32 0x358637BD#32)

/-- The gated branch before its gate at row `a`, column `q` of a block. -/
def tile (a q : Fin 1024) : EReal :=
  act (u (ix2 a q)) * (∑ j : Fin 128, ws (ix3 (⟨q.val / 512, by omega⟩ : Fin 2) (⟨a.val % 128, by omega⟩ : Fin 128) j)
      * (gv (ix2 (⟨128 * (a.val / 128) + j.val, by omega⟩ : Fin 1024) q) * root ss ⟨128 * (a.val / 128) + j.val, by omega⟩ * gn (ix2 (0 : Fin 1) q))
    + bs (ix3 (⟨q.val / 512, by omega⟩ : Fin 2) (⟨a.val % 128, by omega⟩ : Fin 128) (0 : Fin 1)))

/-- A chunk's product is the block's, where the chunk's operands are the block's from row `r` and column `o` on. -/
theorem chunk_tile (c g : ℕ) (hc : c < 8) (hg : g < 2) (r o : ℕ) (hr : r + 128 ≤ 1024) (er : r = 128 * c) (ho : o + 512 ≤ 1024) (eo : o = 512 * g)
    (vn : S1024x512.Idx → EReal) (w : S128x128.Idx → EReal) (b : S128x1.Idx → EReal) (uc : S128x512.Idx → EReal)
    (hvn : ∀ (a : Fin 1024) (q : Fin 512), vn (ix2 a q) = gv (ix2 a (⟨o + q.val, by omega⟩ : Fin 1024)) * root ss a * gn (ix2 (0 : Fin 1) (⟨o + q.val, by omega⟩ : Fin 1024)))
    (hw : ∀ a j : Fin 128, w (ix2 a j) = ws (ix3 (⟨g, hg⟩ : Fin 2) a j)) (hb : ∀ a : Fin 128, b (ix2 a (0 : Fin 1)) = bs (ix3 (⟨g, hg⟩ : Fin 2) a (0 : Fin 1)))
    (hu : ∀ (a : Fin 128) (q : Fin 512), uc (ix2 a q) = u (ix2 (⟨r + a.val, by omega⟩ : Fin 1024) (⟨o + q.val, by omega⟩ : Fin 1024)))
    (a : Fin 128) (q : Fin 512) :
    chunkAt vn w b uc r hr a q = tile u gv ss gn ws bs ⟨r + a.val, by omega⟩ ⟨o + q.val, by omega⟩ := by
  subst er; subst eo
  unfold chunkAt tile
  have e1 : (128 * c + a.val) / 128 = c := by omega
  have e2 : (128 * c + a.val) % 128 = a.val := by omega
  have e3 : (512 * g + q.val) / 512 = g := by omega
  simp only [e1, e2, e3, hvn, hw, hb, hu]

/-- A store of 128 rows and 512 columns that holds the block's there. -/
theorem tile_piece (r o : ℕ) (hr : r + 128 ≤ 1024) (ho : o + 512 ≤ 1024)
    (hi : ∀ a, (![r, o] : Fin 2 → ℕ) a + S128x512.size a ≤ S1024x1024.size a) (p : S128x512.Idx → EReal) (T : Fin 1024 → Fin 1024 → EReal)
    (hp : ∀ (a : Fin 128) (b : Fin 512), p (ix2 a b) = T ⟨r + a.val, by omega⟩ ⟨o + b.val, by omega⟩) (x : S128x512.Idx) :
    p x = (fun y : S1024x1024.Idx => T (y 0) (y 1)) ((Rect.unit (s := S1024x1024) ![r, o] S128x512.size hi).emb x) := by
  have hx : x = ix2 (x 0) (x 1) := funext fun a => by match a with | 0 => rfl | 1 => rfl
  refine (congrArg p hx).trans ((hp _ _).trans (congrArg₂ T (Fin.ext ?_) (Fin.ext ?_)))
  · show r + (x 0).val = r + 1 * (x 0).val; omega
  · show o + (x 1).val = o + 1 * (x 1).val; omega

theorem ucol_apply (r o : ℕ) (hr : r + 128 ≤ 1024) (ho : o + 512 ≤ 1024) (h : ∀ a, (![r, o] : Fin 2 → ℕ) a + S128x512.size a ≤ S1024x1024.size a) (a : Fin 128) (q : Fin 512) :
    ucol u r o h (ix2 a q) = u (ix2 (⟨r + a.val, by omega⟩ : Fin 1024) (⟨o + q.val, by omega⟩ : Fin 1024)) :=
  congrArg u (funext fun x => Fin.ext (by
    match x with
    | 0 => show r + 1 * a.val = r + a.val; omega
    | 1 => show o + 1 * q.val = o + q.val; omega))
theorem gvcol_apply (o : ℕ) (ho : o + 512 ≤ 1024) (h : ∀ a, (![0, o] : Fin 2 → ℕ) a + S1024x512.size a ≤ S1024x1024.size a) (a : Fin 1024) (q : Fin 512) :
    gvcol gv o h (ix2 a q) = gv (ix2 a (⟨o + q.val, by omega⟩ : Fin 1024)) :=
  congrArg gv (funext fun x => Fin.ext (by
    match x with
    | 0 => show 0 + 1 * a.val = a.val; omega
    | 1 => show o + 1 * q.val = o + q.val; omega))
theorem gncol_apply (o : ℕ) (ho : o + 512 ≤ 1024) (h : ∀ a, (![0, o] : Fin 2 → ℕ) a + S1x512.size a ≤ S1x1024.size a) (q : Fin 512) :
    gncol gn o h (ix2 (0 : Fin 1) q) = gn (ix2 (0 : Fin 1) (⟨o + q.val, by omega⟩ : Fin 1024)) :=
  congrArg gn (funext fun x => Fin.ext (by
    match x with
    | 0 => rfl
    | 1 => show o + 1 * q.val = o + q.val; omega))
theorem ssrow_apply (k : Fin 4) (h : ∀ a, (![k.val, 0, 0] : Fin 3 → ℕ) a + S1x1024x1.size a ≤ S4x1024x1.size a) (a : Fin 1024) :
    ssrow ss k.val h (ix3 (0 : Fin 1) a (0 : Fin 1)) = ss (ix3 k a (0 : Fin 1)) :=
  congrArg ss (funext fun x => Fin.ext (by
    match x with
    | 0 => show k.val + 1 * 0 = k.val; omega
    | 1 => show 0 + 1 * a.val = a.val; omega
    | 2 => rfl))
theorem wsrow_apply (g : Fin 2) (h : ∀ a, (![g.val, 0, 0] : Fin 3 → ℕ) a + S1x128x128.size a ≤ S2x128x128.size a) (a j : Fin 128) :
    wsrow ws g.val h (ix3 (0 : Fin 1) a j) = ws (ix3 g a j) :=
  congrArg ws (funext fun x => Fin.ext (by
    match x with
    | 0 => show g.val + 1 * 0 = g.val; omega
    | 1 => show 0 + 1 * a.val = a.val; omega
    | 2 => show 0 + 1 * j.val = j.val; omega))
theorem bsrow_apply (g : Fin 2) (h : ∀ a, (![g.val, 0, 0] : Fin 3 → ℕ) a + S1x128x1.size a ≤ S2x128x1.size a) (a : Fin 128) :
    bsrow bs g.val h (ix3 (0 : Fin 1) a (0 : Fin 1)) = bs (ix3 g a (0 : Fin 1)) :=
  congrArg bs (funext fun x => Fin.ext (by
    match x with
    | 0 => show g.val + 1 * 0 = g.val; omega
    | 1 => show 0 + 1 * a.val = a.val; omega
    | 2 => rfl))

theorem rootOf_apply (a : Fin 1024) : rootOf ss (ix2 a (0 : Fin 1)) = root ss a := by
  refine (root_apply _ _ _ _ a).trans ?_
  rw [show ssrow ss 0 inb_S4x1024x1_S1x1024x1_0_0_0 (ix3 (0 : Fin 1) a (0 : Fin 1)) = ss (ix3 (0 : Fin 4) a (0 : Fin 1)) from ssrow_apply ss 0 _ a, show ssrow ss 1 inb_S4x1024x1_S1x1024x1_1_0_0 (ix3 (0 : Fin 1) a (0 : Fin 1)) = ss (ix3 (1 : Fin 4) a (0 : Fin 1)) from ssrow_apply ss 1 _ a, show ssrow ss 2 inb_S4x1024x1_S1x1024x1_2_0_0 (ix3 (0 : Fin 1) a (0 : Fin 1)) = ss (ix3 (2 : Fin 4) a (0 : Fin 1)) from ssrow_apply ss 2 _ a, show ssrow ss 3 inb_S4x1024x1_S1x1024x1_3_0_0 (ix3 (0 : Fin 1) a (0 : Fin 1)) = ss (ix3 (3 : Fin 4) a (0 : Fin 1)) from ssrow_apply ss 3 _ a]
  rfl

theorem vnA (a : Fin 1024) (q : Fin 512) :
    k0_pay7 (F := Ideal) (k0_pay5 (gvcol gv 0 inb_S1024x1024_S1024x512_0_0)) (rootOf' ss) (gncol gn 0 inb_S1x1024_S1x512_0_0) (ix2 a q)
      = gv (ix2 a (⟨0 + q.val, by omega⟩ : Fin 1024)) * root ss a * gn (ix2 (0 : Fin 1) (⟨0 + q.val, by omega⟩ : Fin 1024)) := by
  refine (vn_apply0 _ _ _ _ _ _ a q).trans ?_
  exact congrArg₂ (fun p q : EReal => p * q) (congrArg₂ (fun p q : EReal => p * q) (gvcol_apply gv 0 (by decide) _ a q) (rootOf_apply ss a)) (gncol_apply gn 0 (by decide) _ q)
theorem vnB (a : Fin 1024) (q : Fin 512) :
    k0_pay26 (F := Ideal) (rootOf ss) (k0_pay25 (gvcol gv 512 inb_S1024x1024_S1024x512_0_512)) (gncol gn 512 inb_S1x1024_S1x512_0_512) (ix2 a q)
      = gv (ix2 a (⟨512 + q.val, by omega⟩ : Fin 1024)) * root ss a * gn (ix2 (0 : Fin 1) (⟨512 + q.val, by omega⟩ : Fin 1024)) := by
  refine (vn_apply1 _ _ _ a q).trans ?_
  exact congrArg₂ (fun p q : EReal => p * q) (congrArg₂ (fun p q : EReal => p * q) (gvcol_apply gv 512 (by decide) _ a q) (rootOf_apply ss a)) (gncol_apply gn 512 (by decide) _ q)

theorem pieces_A : ∀ p ∈ tA u gv ss gn ws bs, ∀ x : p.1.shape.Idx, p.2 x = (fun y : S1024x1024.Idx => tile u gv ss gn ws bs (y 0) (y 1)) (p.1.emb x) := by
  intro p hp
  simp only [List.mem_cons, List.mem_nil_iff, or_false] at hp
  rcases hp with rfl | rfl | rfl | rfl | rfl | rfl | rfl | rfl
  · refine tile_piece 896 0 (by decide) (by decide) inb_S1024x1024_S128x512_896_0 _ (tile u gv ss gn ws bs) fun a b => (chunk0_7_apply _ _ _ _ a b).trans ?_
    exact chunk_tile u gv ss gn ws bs 7 0 (by decide) (by decide) 896 0 (by decide) rfl (by decide) rfl _ _ _ _ (vnA gv ss gn)
      (fun a j => (w_apply0 _ a j).trans (wsrow_apply ws 0 _ a j)) (fun a => (b_apply0 _ a).trans (bsrow_apply bs 0 _ a)) (ucol_apply u 896 0 (by decide) (by decide) _) a b
  · refine tile_piece 768 0 (by decide) (by decide) inb_S1024x1024_S128x512_768_0 _ (tile u gv ss gn ws bs) fun a b => (chunk0_6_apply _ _ _ _ a b).trans ?_
    exact chunk_tile u gv ss gn ws bs 6 0 (by decide) (by decide) 768 0 (by decide) rfl (by decide) rfl _ _ _ _ (vnA gv ss gn)
      (fun a j => (w_apply0 _ a j).trans (wsrow_apply ws 0 _ a j)) (fun a => (b_apply0 _ a).trans (bsrow_apply bs 0 _ a)) (ucol_apply u 768 0 (by decide) (by decide) _) a b
  · refine tile_piece 640 0 (by decide) (by decide) inb_S1024x1024_S128x512_640_0 _ (tile u gv ss gn ws bs) fun a b => (chunk0_5_apply _ _ _ _ a b).trans ?_
    exact chunk_tile u gv ss gn ws bs 5 0 (by decide) (by decide) 640 0 (by decide) rfl (by decide) rfl _ _ _ _ (vnA gv ss gn)
      (fun a j => (w_apply0 _ a j).trans (wsrow_apply ws 0 _ a j)) (fun a => (b_apply0 _ a).trans (bsrow_apply bs 0 _ a)) (ucol_apply u 640 0 (by decide) (by decide) _) a b
  · refine tile_piece 512 0 (by decide) (by decide) inb_S1024x1024_S128x512_512_0 _ (tile u gv ss gn ws bs) fun a b => (chunk0_4_apply _ _ _ _ a b).trans ?_
    exact chunk_tile u gv ss gn ws bs 4 0 (by decide) (by decide) 512 0 (by decide) rfl (by decide) rfl _ _ _ _ (vnA gv ss gn)
      (fun a j => (w_apply0 _ a j).trans (wsrow_apply ws 0 _ a j)) (fun a => (b_apply0 _ a).trans (bsrow_apply bs 0 _ a)) (ucol_apply u 512 0 (by decide) (by decide) _) a b
  · refine tile_piece 384 0 (by decide) (by decide) inb_S1024x1024_S128x512_384_0 _ (tile u gv ss gn ws bs) fun a b => (chunk0_3_apply _ _ _ _ a b).trans ?_
    exact chunk_tile u gv ss gn ws bs 3 0 (by decide) (by decide) 384 0 (by decide) rfl (by decide) rfl _ _ _ _ (vnA gv ss gn)
      (fun a j => (w_apply0 _ a j).trans (wsrow_apply ws 0 _ a j)) (fun a => (b_apply0 _ a).trans (bsrow_apply bs 0 _ a)) (ucol_apply u 384 0 (by decide) (by decide) _) a b
  · refine tile_piece 256 0 (by decide) (by decide) inb_S1024x1024_S128x512_256_0 _ (tile u gv ss gn ws bs) fun a b => (chunk0_2_apply _ _ _ _ a b).trans ?_
    exact chunk_tile u gv ss gn ws bs 2 0 (by decide) (by decide) 256 0 (by decide) rfl (by decide) rfl _ _ _ _ (vnA gv ss gn)
      (fun a j => (w_apply0 _ a j).trans (wsrow_apply ws 0 _ a j)) (fun a => (b_apply0 _ a).trans (bsrow_apply bs 0 _ a)) (ucol_apply u 256 0 (by decide) (by decide) _) a b
  · refine tile_piece 128 0 (by decide) (by decide) inb_S1024x1024_S128x512_128_0 _ (tile u gv ss gn ws bs) fun a b => (chunk0_1_apply _ _ _ _ _ _ a b).trans ?_
    exact chunk_tile u gv ss gn ws bs 1 0 (by decide) (by decide) 128 0 (by decide) rfl (by decide) rfl _ _ _ _ (vnA gv ss gn)
      (fun a j => (w_apply0 _ a j).trans (wsrow_apply ws 0 _ a j)) (fun a => (b_apply0 _ a).trans (bsrow_apply bs 0 _ a)) (ucol_apply u 128 0 (by decide) (by decide) _) a b
  · refine tile_piece 0 0 (by decide) (by decide) inb_S1024x1024_S128x512_0_0 _ (tile u gv ss gn ws bs) fun a b => (chunk0_0_apply _ _ _ _ _ _ a b).trans ?_
    exact chunk_tile u gv ss gn ws bs 0 0 (by decide) (by decide) 0 0 (by decide) rfl (by decide) rfl _ _ _ _ (vnA gv ss gn)
      (fun a j => (w_apply0 _ a j).trans (wsrow_apply ws 0 _ a j)) (fun a => (b_apply0 _ a).trans (bsrow_apply bs 0 _ a)) (ucol_apply u 0 0 (by decide) (by decide) _) a b
theorem pieces_B : ∀ p ∈ tB u gv ss gn ws bs, ∀ x : p.1.shape.Idx, p.2 x = (fun y : S1024x1024.Idx => tile u gv ss gn ws bs (y 0) (y 1)) (p.1.emb x) := by
  intro p hp
  simp only [List.mem_cons, List.mem_nil_iff, or_false] at hp
  rcases hp with rfl | rfl | rfl | rfl | rfl | rfl | rfl | rfl
  · refine tile_piece 896 512 (by decide) (by decide) inb_S1024x1024_S128x512_896_512 _ (tile u gv ss gn ws bs) fun a b => (chunk1_7_apply _ _ _ _ a b).trans ?_
    exact chunk_tile u gv ss gn ws bs 7 1 (by decide) (by decide) 896 512 (by decide) rfl (by decide) rfl _ _ _ _ (vnB gv ss gn)
      (fun a j => (w_apply1 _ a j).trans (wsrow_apply ws 1 _ a j)) (fun a => (b_apply1 _ a).trans (bsrow_apply bs 1 _ a)) (ucol_apply u 896 512 (by decide) (by decide) _) a b
  · refine tile_piece 768 512 (by decide) (by decide) inb_S1024x1024_S128x512_768_512 _ (tile u gv ss gn ws bs) fun a b => (chunk1_6_apply _ _ _ _ a b).trans ?_
    exact chunk_tile u gv ss gn ws bs 6 1 (by decide) (by decide) 768 512 (by decide) rfl (by decide) rfl _ _ _ _ (vnB gv ss gn)
      (fun a j => (w_apply1 _ a j).trans (wsrow_apply ws 1 _ a j)) (fun a => (b_apply1 _ a).trans (bsrow_apply bs 1 _ a)) (ucol_apply u 768 512 (by decide) (by decide) _) a b
  · refine tile_piece 640 512 (by decide) (by decide) inb_S1024x1024_S128x512_640_512 _ (tile u gv ss gn ws bs) fun a b => (chunk1_5_apply _ _ _ _ a b).trans ?_
    exact chunk_tile u gv ss gn ws bs 5 1 (by decide) (by decide) 640 512 (by decide) rfl (by decide) rfl _ _ _ _ (vnB gv ss gn)
      (fun a j => (w_apply1 _ a j).trans (wsrow_apply ws 1 _ a j)) (fun a => (b_apply1 _ a).trans (bsrow_apply bs 1 _ a)) (ucol_apply u 640 512 (by decide) (by decide) _) a b
  · refine tile_piece 512 512 (by decide) (by decide) inb_S1024x1024_S128x512_512_512 _ (tile u gv ss gn ws bs) fun a b => (chunk1_4_apply _ _ _ _ a b).trans ?_
    exact chunk_tile u gv ss gn ws bs 4 1 (by decide) (by decide) 512 512 (by decide) rfl (by decide) rfl _ _ _ _ (vnB gv ss gn)
      (fun a j => (w_apply1 _ a j).trans (wsrow_apply ws 1 _ a j)) (fun a => (b_apply1 _ a).trans (bsrow_apply bs 1 _ a)) (ucol_apply u 512 512 (by decide) (by decide) _) a b
  · refine tile_piece 384 512 (by decide) (by decide) inb_S1024x1024_S128x512_384_512 _ (tile u gv ss gn ws bs) fun a b => (chunk1_3_apply _ _ _ _ a b).trans ?_
    exact chunk_tile u gv ss gn ws bs 3 1 (by decide) (by decide) 384 512 (by decide) rfl (by decide) rfl _ _ _ _ (vnB gv ss gn)
      (fun a j => (w_apply1 _ a j).trans (wsrow_apply ws 1 _ a j)) (fun a => (b_apply1 _ a).trans (bsrow_apply bs 1 _ a)) (ucol_apply u 384 512 (by decide) (by decide) _) a b
  · refine tile_piece 256 512 (by decide) (by decide) inb_S1024x1024_S128x512_256_512 _ (tile u gv ss gn ws bs) fun a b => (chunk1_2_apply _ _ _ _ a b).trans ?_
    exact chunk_tile u gv ss gn ws bs 2 1 (by decide) (by decide) 256 512 (by decide) rfl (by decide) rfl _ _ _ _ (vnB gv ss gn)
      (fun a j => (w_apply1 _ a j).trans (wsrow_apply ws 1 _ a j)) (fun a => (b_apply1 _ a).trans (bsrow_apply bs 1 _ a)) (ucol_apply u 256 512 (by decide) (by decide) _) a b
  · refine tile_piece 128 512 (by decide) (by decide) inb_S1024x1024_S128x512_128_512 _ (tile u gv ss gn ws bs) fun a b => (chunk1_1_apply _ _ _ _ _ _ a b).trans ?_
    exact chunk_tile u gv ss gn ws bs 1 1 (by decide) (by decide) 128 512 (by decide) rfl (by decide) rfl _ _ _ _ (vnB gv ss gn)
      (fun a j => (w_apply1 _ a j).trans (wsrow_apply ws 1 _ a j)) (fun a => (b_apply1 _ a).trans (bsrow_apply bs 1 _ a)) (ucol_apply u 128 512 (by decide) (by decide) _) a b
  · refine tile_piece 0 512 (by decide) (by decide) inb_S1024x1024_S128x512_0_512 _ (tile u gv ss gn ws bs) fun a b => (chunk1_0_apply _ _ _ _ _ _ a b).trans ?_
    exact chunk_tile u gv ss gn ws bs 0 1 (by decide) (by decide) 0 512 (by decide) rfl (by decide) rfl _ _ _ _ (vnB gv ss gn)
      (fun a j => (w_apply1 _ a j).trans (wsrow_apply ws 1 _ a j)) (fun a => (b_apply1 _ a).trans (bsrow_apply bs 1 _ a)) (ucol_apply u 0 512 (by decide) (by decide) _) a b
/-- Its stores cover its columns. -/
theorem cover_A (a : Fin 1024) (q : Fin 512) : ∃ p ∈ tA u gv ss gn ws bs, (ix2 a (⟨0 + q.val, by omega⟩ : Fin 1024) : S1024x1024.Idx) ∈ p.1.set := by
  have hm (r : ℕ) (hi : ∀ x, (![r, 0] : Fin 2 → ℕ) x + S128x512.size x ≤ S1024x1024.size x) (h : r ≤ a.val ∧ a.val < r + 128) :
      (ix2 a (⟨0 + q.val, by omega⟩ : Fin 1024) : S1024x1024.Idx) ∈ (Rect.unit (s := S1024x1024) ![r, 0] S128x512.size hi).set := by
    refine Rect.mem_set_unit.2 fun x => ?_
    match x with
    | 0 => exact h
    | 1 => exact ⟨Nat.le_add_right _ _, Nat.add_lt_add_left q.isLt _⟩
  by_cases h0 : a.val < 128
  · exact ⟨_, List.mem_of_getElem (l := tA u gv ss gn ws bs) (i := 7) (h := show 7 < 8 by decide) rfl, hm 0 inb_S1024x1024_S128x512_0_0 (by omega)⟩
  by_cases h1 : a.val < 256
  · exact ⟨_, List.mem_of_getElem (l := tA u gv ss gn ws bs) (i := 6) (h := show 6 < 8 by decide) rfl, hm 128 inb_S1024x1024_S128x512_128_0 (by omega)⟩
  by_cases h2 : a.val < 384
  · exact ⟨_, List.mem_of_getElem (l := tA u gv ss gn ws bs) (i := 5) (h := show 5 < 8 by decide) rfl, hm 256 inb_S1024x1024_S128x512_256_0 (by omega)⟩
  by_cases h3 : a.val < 512
  · exact ⟨_, List.mem_of_getElem (l := tA u gv ss gn ws bs) (i := 4) (h := show 4 < 8 by decide) rfl, hm 384 inb_S1024x1024_S128x512_384_0 (by omega)⟩
  by_cases h4 : a.val < 640
  · exact ⟨_, List.mem_of_getElem (l := tA u gv ss gn ws bs) (i := 3) (h := show 3 < 8 by decide) rfl, hm 512 inb_S1024x1024_S128x512_512_0 (by omega)⟩
  by_cases h5 : a.val < 768
  · exact ⟨_, List.mem_of_getElem (l := tA u gv ss gn ws bs) (i := 2) (h := show 2 < 8 by decide) rfl, hm 640 inb_S1024x1024_S128x512_640_0 (by omega)⟩
  by_cases h6 : a.val < 896
  · exact ⟨_, List.mem_of_getElem (l := tA u gv ss gn ws bs) (i := 1) (h := show 1 < 8 by decide) rfl, hm 768 inb_S1024x1024_S128x512_768_0 (by omega)⟩
  exact ⟨_, List.mem_of_getElem (l := tA u gv ss gn ws bs) (i := 0) (h := show 0 < 8 by decide) rfl, hm 896 inb_S1024x1024_S128x512_896_0 (by omega)⟩

/-- Its stores cover its columns. -/
theorem cover_B (a : Fin 1024) (q : Fin 512) : ∃ p ∈ tB u gv ss gn ws bs, (ix2 a (⟨512 + q.val, by omega⟩ : Fin 1024) : S1024x1024.Idx) ∈ p.1.set := by
  have hm (r : ℕ) (hi : ∀ x, (![r, 512] : Fin 2 → ℕ) x + S128x512.size x ≤ S1024x1024.size x) (h : r ≤ a.val ∧ a.val < r + 128) :
      (ix2 a (⟨512 + q.val, by omega⟩ : Fin 1024) : S1024x1024.Idx) ∈ (Rect.unit (s := S1024x1024) ![r, 512] S128x512.size hi).set := by
    refine Rect.mem_set_unit.2 fun x => ?_
    match x with
    | 0 => exact h
    | 1 => exact ⟨Nat.le_add_right _ _, Nat.add_lt_add_left q.isLt _⟩
  by_cases h0 : a.val < 128
  · exact ⟨_, List.mem_of_getElem (l := tB u gv ss gn ws bs) (i := 7) (h := show 7 < 8 by decide) rfl, hm 0 inb_S1024x1024_S128x512_0_512 (by omega)⟩
  by_cases h1 : a.val < 256
  · exact ⟨_, List.mem_of_getElem (l := tB u gv ss gn ws bs) (i := 6) (h := show 6 < 8 by decide) rfl, hm 128 inb_S1024x1024_S128x512_128_512 (by omega)⟩
  by_cases h2 : a.val < 384
  · exact ⟨_, List.mem_of_getElem (l := tB u gv ss gn ws bs) (i := 5) (h := show 5 < 8 by decide) rfl, hm 256 inb_S1024x1024_S128x512_256_512 (by omega)⟩
  by_cases h3 : a.val < 512
  · exact ⟨_, List.mem_of_getElem (l := tB u gv ss gn ws bs) (i := 4) (h := show 4 < 8 by decide) rfl, hm 384 inb_S1024x1024_S128x512_384_512 (by omega)⟩
  by_cases h4 : a.val < 640
  · exact ⟨_, List.mem_of_getElem (l := tB u gv ss gn ws bs) (i := 3) (h := show 3 < 8 by decide) rfl, hm 512 inb_S1024x1024_S128x512_512_512 (by omega)⟩
  by_cases h5 : a.val < 768
  · exact ⟨_, List.mem_of_getElem (l := tB u gv ss gn ws bs) (i := 2) (h := show 2 < 8 by decide) rfl, hm 640 inb_S1024x1024_S128x512_640_512 (by omega)⟩
  by_cases h6 : a.val < 896
  · exact ⟨_, List.mem_of_getElem (l := tB u gv ss gn ws bs) (i := 1) (h := show 1 < 8 by decide) rfl, hm 768 inb_S1024x1024_S128x512_768_512 (by omega)⟩
  exact ⟨_, List.mem_of_getElem (l := tB u gv ss gn ws bs) (i := 0) (h := show 0 < 8 by decide) rfl, hm 896 inb_S1024x1024_S128x512_896_512 (by omega)⟩

theorem tc0_apply (a : Fin 1024) (q : Fin 512) : tc0 (tA u gv ss gn ws bs) (ix2 a q) = tile u gv ss gn ws bs a ⟨0 + q.val, by omega⟩ := by
  have e : (Rect.unit (s := S1024x1024) ![0, 0] S1024x512.size inb_S1024x1024_S1024x512_0_0).toLoadRect.idx (ix2 a q) = ix2 a (⟨0 + q.val, by omega⟩ : Fin 1024) :=
    funext fun x => Fin.ext (by
      match x with
      | 0 => show 0 + 1 * a.val = a.val; omega
      | 1 => show 0 + 1 * q.val = 0 + q.val; omega)
  refine (congrArg (View.canon (tA u gv ss gn ws bs)) e).trans ?_
  exact View.canon_append_of_pieces (S := S1024x1024) (Val := Elt Ideal) (e := .f32) (fun y : S1024x1024.Idx => tile u gv ss gn ws bs (y 0) (y 1)) []
    (tA u gv ss gn ws bs) (pieces_A u gv ss gn ws bs) _ (cover_A u gv ss gn ws bs a q)
theorem tc1_apply (L : List (View.Piece (Elt Ideal) S1024x1024 .f32)) (a : Fin 1024) (q : Fin 512) :
    tc1 (tB u gv ss gn ws bs ++ L) (ix2 a q) = tile u gv ss gn ws bs a ⟨512 + q.val, by omega⟩ := by
  have e : (Rect.unit (s := S1024x1024) ![0, 512] S1024x512.size inb_S1024x1024_S1024x512_0_512).toLoadRect.idx (ix2 a q) = ix2 a (⟨512 + q.val, by omega⟩ : Fin 1024) :=
    funext fun x => Fin.ext (by
      match x with
      | 0 => show 0 + 1 * a.val = a.val; omega
      | 1 => show 512 + 1 * q.val = 512 + q.val; omega)
  refine (congrArg (View.canon (tB u gv ss gn ws bs ++ L)) e).trans ?_
  exact View.canon_append_of_pieces (S := S1024x1024) (Val := Elt Ideal) (e := .f32) (fun y : S1024x1024.Idx => tile u gv ss gn ws bs (y 0) (y 1)) L
    (tB u gv ss gn ws bs) (pieces_B u gv ss gn ws bs) _ (cover_B u gv ss gn ws bs a q)

/-- A store of 512 columns that holds the block's there. -/
theorem half_piece (o : ℕ) (ho : o + 512 ≤ 1024)
    (hi : ∀ a, (![0, o] : Fin 2 → ℕ) a + S1024x512.size a ≤ S1024x1024.size a) (p : S1024x512.Idx → EReal) (T : Fin 1024 → Fin 1024 → EReal)
    (hp : ∀ (a : Fin 1024) (b : Fin 512), p (ix2 a b) = T a ⟨o + b.val, by omega⟩) (x : S1024x512.Idx) :
    p x = (fun y : S1024x1024.Idx => T (y 0) (y 1)) ((Rect.unit (s := S1024x1024) ![0, o] S1024x512.size hi).emb x) := by
  have hx : x = ix2 (x 0) (x 1) := funext fun a => by match a with | 0 => rfl | 1 => rfl
  refine (congrArg p hx).trans ((hp _ _).trans (congrArg₂ T (Fin.ext ?_) (Fin.ext ?_)))
  · show (x 0).val = 0 + 1 * (x 0).val; omega
  · show o + (x 1).val = o + 1 * (x 1).val; omega

/-- The block of the result: the gated branch by the gate's activation, where the two slots hold the gate's columns in order. -/
theorem out_apply (x : Vec Ideal S1024x2048 .bf16) (w0 w1 : Vec Ideal S1x2048x512 .bf16) (D : Fin 1024 → Fin 1024 → EReal)
    (h0 : ∀ a b, dotAt x w0 a b = D a ⟨0 + b.val, by omega⟩) (h1 : ∀ a b, dotAt x w1 a b = D a ⟨512 + b.val, by omega⟩) (y : S1024x1024.Idx) :
    outOf x w0 w1 u gv ss gn ws bs y = tile u gv ss gn ws bs (y 0) (y 1) * sact (D (y 0) (y 1)) := by
  refine (View.canon_append_of_pieces (S := S1024x1024) (Val := Elt Ideal) (e := .bf16) (fun y : S1024x1024.Idx => tile u gv ss gn ws bs (y 0) (y 1) * sact (D (y 0) (y 1))) []
    (outL x w0 w1 (tc0 (tA u gv ss gn ws bs)) (tc1 (tB u gv ss gn ws bs ++ tA u gv ss gn ws bs))) ?_ y ?_)
  · intro p hp
    simp only [List.mem_cons, List.mem_nil_iff, or_false] at hp
    rcases hp with rfl | rfl
    · refine half_piece 512 (by decide) inb_S1024x1024_S1024x512_0_512 _ (fun a q => tile u gv ss gn ws bs a q * sact (D a q)) fun a b => (gate1_apply _ _ _ a b).trans ?_
      exact congrArg₂ (fun p q : EReal => p * q) (tc1_apply u gv ss gn ws bs _ a b) (congrArg sact (h1 a b))
    · refine half_piece 0 (by decide) inb_S1024x1024_S1024x512_0_0 _ (fun a q => tile u gv ss gn ws bs a q * sact (D a q)) fun a b => (gate0_apply _ _ _ a b).trans ?_
      exact congrArg₂ (fun p q : EReal => p * q) (tc0_apply u gv ss gn ws bs a b) (congrArg sact (h0 a b))
  · exact View.cover_of_tiledL (outL x w0 w1 (tc0 (tA u gv ss gn ws bs)) (tc1 (tB u gv ss gn ws bs ++ tA u gv ss gn ws bs))) ![1024, 512] rfl y

end Cert.KernelIdeal.Hand

end
-- ==== Proof.MixX.lean ====
module

public import proofs.«01_k».proof.Proof.MixW

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The precondition -/

instance pre_facts : Cert.Pre_real1.Facts := ⟨by decide, by decide, by decide, by decide, by decide, by decide, by decide⟩

/-- Where the activations, the weights and the branch are real numbers, each element is one. -/
theorem real_args (h : (⟨S16384x2048, .f32⟩ : BufTy).Contents (Elt Ideal)) (w : (⟨S2x2048x12288, .f32⟩ : BufTy).Contents (Elt Ideal))
    (u g : (⟨S16384x4096, .f32⟩ : BufTy).Contents (Elt Ideal)) (gn : (⟨S4096, .f32⟩ : BufTy).Contents (Elt Ideal))
    (ws : (⟨S8x128x128, .f32⟩ : BufTy).Contents (Elt Ideal)) (bs : (⟨S8x128, .f32⟩ : BufTy).Contents (Elt Ideal))
    (hp : Cert.Pre_real1.fn (F := Ideal) h w u g gn ws bs = fun _ => 1#1) :
    (∀ i, ∃ r : ℝ, h i = (r : EReal)) ∧ (∀ i, ∃ r : ℝ, w i = (r : EReal)) ∧ (∀ i, ∃ r : ℝ, u i = (r : EReal)) := by
  have e := congrFun hp (fun a => a.elim0)
  obtain ⟨e12, e3⟩ := IntOp.andi_eq_one.1 e
  obtain ⟨e1, e2⟩ := IntOp.andi_eq_one.1 e12
  haveI : Subsingleton Cert.Pre_real1.S_.Idx := ⟨fun a b => funext fun x => x.elim0⟩
  exact ⟨fun i => Cert.Words.real_of_abs (Host.reduce_andi_all _ _ _ _ _ e1 i), fun i => Cert.Words.real_of_abs (Host.reduce_andi_all _ _ _ _ _ e2 i),
    fun i => Cert.Words.real_of_abs (Host.reduce_andi_all _ _ _ _ _ e3 i)⟩

/-! ## The function -/

/-- The gate before its activation: row `r` of the activations by column `8192 + q` of layer 0's weights. -/
def X (h : (⟨S16384x2048, .f32⟩ : BufTy).Contents (Elt Ideal)) (w : (⟨S2x2048x12288, .f32⟩ : BufTy).Contents (Elt Ideal))
    (r : Fin 16384) (q : Fin 4096) : EReal :=
  ∑ k : Fin 2048, h (ix2 r k) * w (ix3 (0 : Fin 2) k (⟨8192 + q.val, by omega⟩ : Fin 12288))
/-- One over the root mean square of a row of the branch. -/
def RT (g : (⟨S16384x4096, .f32⟩ : BufTy).Contents (Elt Ideal)) (r : Fin 16384) : EReal :=
  Ideal.rsqrt (Ideal.div (∑ k : Fin 4096, g (ix2 r k) * g (ix2 r k)) (Ideal.ofBits .f32 0x45800000#32) + Ideal.ofBits .f32 0x358637BD#32)
/-- The branch over its rows' root mean square, by the gain. -/
def N (g : (⟨S16384x4096, .f32⟩ : BufTy).Contents (Elt Ideal)) (gn : (⟨S4096, .f32⟩ : BufTy).Contents (Elt Ideal)) (r : Fin 16384) (q : Fin 4096) : EReal :=
  g (ix2 r q) * RT g r * gn (ix1 q)
/-- The spatial product within chunks of 128 rows, its bias added. -/
def SP (g : (⟨S16384x4096, .f32⟩ : BufTy).Contents (Elt Ideal)) (gn : (⟨S4096, .f32⟩ : BufTy).Contents (Elt Ideal))
    (ws : (⟨S8x128x128, .f32⟩ : BufTy).Contents (Elt Ideal)) (bs : (⟨S8x128, .f32⟩ : BufTy).Contents (Elt Ideal)) (r : Fin 16384) (q : Fin 4096) : EReal :=
  ∑ j : Fin 128, ws (ix3 (⟨q.val / 512, by omega⟩ : Fin 8) (⟨r.val % 128, by omega⟩ : Fin 128) j) * N g gn ⟨128 * (r.val / 128) + j.val, by omega⟩ q
    + bs (ix2 (⟨q.val / 512, by omega⟩ : Fin 8) (⟨r.val % 128, by omega⟩ : Fin 128))
/-- The mixer's gated output. -/
def G (h : (⟨S16384x2048, .f32⟩ : BufTy).Contents (Elt Ideal)) (w : (⟨S2x2048x12288, .f32⟩ : BufTy).Contents (Elt Ideal))
    (u g : (⟨S16384x4096, .f32⟩ : BufTy).Contents (Elt Ideal)) (gn : (⟨S4096, .f32⟩ : BufTy).Contents (Elt Ideal))
    (ws : (⟨S8x128x128, .f32⟩ : BufTy).Contents (Elt Ideal)) (bs : (⟨S8x128, .f32⟩ : BufTy).Contents (Elt Ideal)) :
    (⟨S16384x4096, .bf16⟩ : BufTy).Contents (Elt Ideal) :=
  fun y => gelu (u (ix2 (y 0) (y 1))) * SP g gn ws bs (y 0) (y 1) * silu (X h w (y 0) (y 1))

theorem X_real {h : (⟨S16384x2048, .f32⟩ : BufTy).Contents (Elt Ideal)} {w : (⟨S2x2048x12288, .f32⟩ : BufTy).Contents (Elt Ideal)}
    (hh : ∀ i, ∃ r : ℝ, h i = (r : EReal)) (hw : ∀ i, ∃ r : ℝ, w i = (r : EReal)) (a : Fin 16384) (b : Fin 4096) : ∃ r : ℝ, X h w a b = (r : EReal) :=
  Cert.Words.real_sum _ _ (fun _ => hh _) (fun _ => hw _)

/-! ## What the host prepares -/

theorem V_v5 (c : Dev nD) (i : S16384x2048.Idx) : (V m c main_v5 i : EReal) = m (c.tc.loc main_arg0) i := rfl
theorem V_v6 (c : Dev nD) (i : S16384x4096.Idx) : (V m c main_v6 i : EReal) = m (c.tc.loc main_arg2) i := rfl
theorem V_v7 (c : Dev nD) (i : S16384x4096.Idx) : (V m c main_v7 i : EReal) = m (c.tc.loc main_arg3) i := rfl
theorem V_v9 (c : Dev nD) (i : S8x128x128.Idx) : (V m c main_v9 i : EReal) = m (c.tc.loc main_arg5) i := rfl
theorem V_v8 (c : Dev nD) (q : Fin 4096) : V m c main_v8 (ix2 (0 : Fin 1) q) = m (c.tc.loc main_arg4) (ix1 q) := by
  have h : S4096.ShapeCasts S1x4096 := by decide
  refine (show V m c main_v8 (ix2 (0 : Fin 1) q) = shapeCast S1x4096 (m (c.tc.loc main_arg4)) h (ix2 (0 : Fin 1) q) from rfl).trans ?_
  refine shapeCast_apply _ h _ (ix1 q) ?_
  rewrite [Shape.rowMajor_val_two, Shape.rowMajor_val_one]
  show q.val = 0 * 4096 + q.val
  omega
theorem V_v10 (c : Dev nD) (g : Fin 8) (a : Fin 128) : V m c main_v10 (ix3 g a (0 : Fin 1)) = m (c.tc.loc main_arg6) (ix2 g a) := by
  have h : S8x128.ShapeCasts S8x128x1 := by decide
  refine (show V m c main_v10 (ix3 g a (0 : Fin 1)) = shapeCast S8x128x1 (m (c.tc.loc main_arg6)) h (ix3 g a (0 : Fin 1)) from rfl).trans ?_
  refine shapeCast_apply _ h _ (ix2 g a) ?_
  rewrite [Shape.rowMajor_val_three, Shape.rowMajor_val_two]
  show g.val * 128 + a.val = (g.val * 128 + a.val) * 1 + 0
  omega
/-- The partial sums of squares, as the host takes them. -/
def hostSsq (g : (⟨S16384x4096, .f32⟩ : BufTy).Contents (Elt Ideal)) : (⟨S4x16384x1, .f32⟩ : BufTy).Contents (Elt Ideal) :=
  broadcastInDim S4x16384x1 ![0, 1] bcast_S4x16384_S4x16384x1_0_1 (transpose S4x16384 [1, 0]
    (Host.reduceAdd (shapeCast S16384x4x1024 (mulf g g : FVec Ideal S16384x4096 .f32) shapeCasts_S16384x4096_S16384x4x1024 : FVec Ideal S16384x4x1024 .f32)
      (constant S_ .f32 0x00000000#32) reducesTo_S16384x4x1024_S16384x4_d2 h_S_ : FVec Ideal S16384x4 .f32) transposes_S16384x4_S4x16384_1_0)
theorem hostSsq_apply (g : (⟨S16384x4096, .f32⟩ : BufTy).Contents (Elt Ideal)) (k : Fin 4) (r : Fin 16384) :
    hostSsq g (ix3 k r (0 : Fin 1)) = ∑ q : Fin 1024, g (ix2 r (⟨k.val * 1024 + q.val, by omega⟩ : Fin 4096)) * g (ix2 r (⟨k.val * 1024 + q.val, by omega⟩ : Fin 4096)) := by
  pointwise [hostSsq]
theorem V_v4 (c : Dev nD) (i : S4x16384x1.Idx) : V m c main_v4 i = hostSsq (m (c.tc.loc main_arg3)) i := rfl

/-- A sum over a row, block by block. -/
theorem sum_row (f : Fin 4096 → EReal) : ∑ q, f q
    = ∑ b : Fin 1024, f ⟨0 * 1024 + b.val, by omega⟩ + ∑ b : Fin 1024, f ⟨1 * 1024 + b.val, by omega⟩ + ∑ b : Fin 1024, f ⟨2 * 1024 + b.val, by omega⟩
      + ∑ b : Fin 1024, f ⟨3 * 1024 + b.val, by omega⟩ := by
  refine (Fin.sum_univ_add (a := 1024 + 1024 + 1024) (b := 1024) f).trans ?_
  refine congrArg₂ (fun p q : EReal => p + q) ?_ (Finset.sum_congr (M := EReal) rfl fun b _ => congrArg f (Fin.ext rfl))
  refine (Fin.sum_univ_add (a := 1024 + 1024) (b := 1024) _).trans ?_
  refine congrArg₂ (fun p q : EReal => p + q) ?_ (Finset.sum_congr (M := EReal) rfl fun b _ => congrArg f (Fin.ext rfl))
  refine (Fin.sum_univ_add (a := 1024) (b := 1024) _).trans ?_
  exact congrArg₂ (fun p q : EReal => p + q) (Finset.sum_congr (M := EReal) rfl fun b _ => congrArg f (Fin.ext (by show b.val = 0 * 1024 + b.val; omega)))
    (Finset.sum_congr (M := EReal) rfl fun b _ => congrArg f (Fin.ext rfl))

/-! ## The blocks -/

theorem idx0 : ∀ t : Fin cfg0.N, win0_0.index t = ![t.val / 4, 0] := (by decide +kernel : ∀ t : Fin grid0.N, _)
theorem idx1 : ∀ t : Fin cfg0.N, win0_1.index t = ![t.val / 4, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![0, t.val / 4, 0] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![t.val % 4, 0, 0] := (by decide +kernel : ∀ t : Fin grid0.N, _)
theorem idx6 : ∀ t : Fin cfg0.N, win0_6.index t = ![t.val % 4, 0, 0] := (by decide +kernel : ∀ t : Fin grid0.N, _)
theorem idx7 : ∀ t : Fin cfg0.N, win0_7.index t = ![t.val / 4, t.val % 4] := (by decide +kernel : ∀ t : Fin grid0.N, _)

/-- Row `a` and column `q` of a point's block, in the whole. -/
def row (t : Fin cfg0.N) (a : Fin 1024) : Fin 16384 := ⟨t.val / 4 * 1024 + a.val, by have ht : t.val < 64 := lt_of_lt_of_eq t.isLt N_0; omega⟩
def col (t : Fin cfg0.N) (q : Fin 1024) : Fin 4096 := ⟨t.val % 4 * 1024 + q.val, by omega⟩

theorem blk1 (c : Dev nD) (t : Fin cfg0.N) (a q : Fin 1024) : iblk m c 1 t (ix2 a q) = m (c.tc.loc main_arg2) (ix2 (row t a) (col t q)) := by
  blk_simp [iblk]
  refine (V_v6 m c _).trans (congrArg (m (c.tc.loc main_arg2)) ?_)
  unfold row col
  blk_ext [idx1]
theorem blk2 (c : Dev nD) (t : Fin cfg0.N) (a q : Fin 1024) : iblk m c 2 t (ix2 a q) = m (c.tc.loc main_arg3) (ix2 (row t a) (col t q)) := by
  blk_simp [iblk]
  refine (V_v7 m c _).trans (congrArg (m (c.tc.loc main_arg3)) ?_)
  unfold row col
  blk_ext [idx2]
theorem blk3 (c : Dev nD) (t : Fin cfg0.N) (k : Fin 4) (a : Fin 1024) :
    iblk m c 3 t (ix3 k a (0 : Fin 1)) = hostSsq (m (c.tc.loc main_arg3)) (ix3 k (row t a) (0 : Fin 1)) := by
  blk_simp [iblk]
  refine (V_v4 m c _).trans (congrArg (hostSsq (m (c.tc.loc main_arg3))) ?_)
  unfold row
  blk_ext [idx3]
theorem blk4 (c : Dev nD) (t : Fin cfg0.N) (q : Fin 1024) : iblk m c 4 t (ix2 (0 : Fin 1) q) = m (c.tc.loc main_arg4) (ix1 (col t q)) := by
  refine Eq.trans ?_ (V_v8 m c (col t q))
  blk_simp [iblk]
  refine congrArg (V m c main_v8) ?_
  unfold col
  blk_ext [idx4]
theorem blk5 (c : Dev nD) (t : Fin cfg0.N) (g : Fin 2) (a j : Fin 128) (G' : Fin 8) (hG : G'.val = t.val % 4 * 2 + g.val) :
    iblk m c 5 t (ix3 g a j) = m (c.tc.loc main_arg5) (ix3 G' a j) := by
  blk_simp [iblk]
  refine (V_v9 m c _).trans (congrArg (m (c.tc.loc main_arg5)) ?_)
  blk_ext [idx5, hG]
theorem blk6 (c : Dev nD) (t : Fin cfg0.N) (g : Fin 2) (a : Fin 128) (G' : Fin 8) (hG : G'.val = t.val % 4 * 2 + g.val) :
    iblk m c 6 t (ix3 g a (0 : Fin 1)) = m (c.tc.loc main_arg6) (ix2 G' a) := by
  refine Eq.trans ?_ (V_v10 m c G' a)
  blk_simp [iblk]
  refine congrArg (V m c main_v10) ?_
  blk_ext [idx6, hG]

/-- The root factor of a block's row. -/
theorem root_point (c : Dev nD) (t : Fin cfg0.N) (a : Fin 1024) : root (iblk m c 3 t) a
    = RT (m (c.tc.loc main_arg3)) (row t a) := by
  unfold root RT
  rw [blk3, blk3, blk3, blk3, Cert.Words.mean4096, sum_row, hostSsq_apply, hostSsq_apply, hostSsq_apply, hostSsq_apply]
  rfl

/-- A block's gated branch is the function's. -/
theorem tile_point (c : Dev nD) (hu : ∀ i, ∃ r : ℝ, m (c.tc.loc main_arg2) i = (r : EReal)) (t : Fin cfg0.N) (a q : Fin 1024) :
    tile (iblk m c 1 t) (iblk m c 2 t) (iblk m c 3 t) (iblk m c 4 t) (iblk m c 5 t) (iblk m c 6 t) a q
      = gelu (m (c.tc.loc main_arg2) (ix2 (row t a) (col t q)))
        * SP (m (c.tc.loc main_arg3)) (m (c.tc.loc main_arg4)) (m (c.tc.loc main_arg5)) (m (c.tc.loc main_arg6)) (row t a) (col t q) := by
  have ht : t.val < 64 := lt_of_lt_of_eq t.isLt N_0
  have eg : (col t q).val / 512 = t.val % 4 * 2 + q.val / 512 := by show (t.val % 4 * 1024 + q.val) / 512 = _; omega
  have ea : (row t a).val % 128 = a.val % 128 := by show (t.val / 4 * 1024 + a.val) % 128 = _; omega
  have er : (⟨(row t a).val % 128, by omega⟩ : Fin 128) = ⟨a.val % 128, by omega⟩ := Fin.ext ea
  unfold tile SP N
  rw [er]
  refine congrArg₂ (fun p q : EReal => p * q) ((congrArg act (blk1 m c t a q)).trans (act_eq (hu _))) (congrArg₂ (fun p q : EReal => p + q)
    (Finset.sum_congr (M := EReal) rfl fun j _ => ?_) (blk6 m c t _ _ _ eg))
  have e : row t (⟨128 * (a.val / 128) + j.val, by omega⟩ : Fin 1024) = (⟨128 * ((row t a).val / 128) + j.val, by have := (row t a).isLt; omega⟩ : Fin 16384) :=
    Fin.ext (by show t.val / 4 * 1024 + (128 * (a.val / 128) + j.val) = 128 * ((t.val / 4 * 1024 + a.val) / 128) + j.val; omega)
  rw [← e]
  exact congrArg₂ (fun p q : EReal => p * q) (blk5 m c t _ _ _ _ eg)
    (congrArg₂ (fun p q : EReal => p * q) (congrArg₂ (fun p q : EReal => p * q) (blk2 m c t _ _) (root_point m c t _)) (blk4 m c t q))

/-! ## The gate's weights -/

/-- Dropping the unit axis, at an index. -/
theorem drop_apply {α : Type} (y : S1x2048x1024.Idx → α) (h : S1x2048x1024.ShapeCasts S2048x1024) (a : Fin 2048) (b : Fin 1024) :
    shapeCast S2048x1024 y h (ix2 a b) = y (ix3 (0 : Fin 1) a b) :=
  shapeCast_apply y h (ix2 a b) (ix3 (0 : Fin 1) a b) (by
    rewrite [Shape.rowMajor_val_three, Shape.rowMajor_val_two]
    show (0 * 2048 + a.val) * 1024 + b.val = a.val * 1024 + b.val
    omega)

/-- Block `k` of the weights at an index. -/
theorem wblk_apply (c : Dev nD) (k : ℕ) (f : HbBuf (F := Ideal) c hbM) (a : Fin 2048) (b : Fin 1024) :
    (wsl (boff k) (boff_inb k)).view.read (Elt Ideal) f (ix2 a b)
      = f (ix3 (0 : Fin 2) a (⟨8192 + 1024 * (k % 4) + b.val, by omega⟩ : Fin 12288)) := by
  have hc : S1x2048x1024.ShapeCasts S2048x1024 := by decide
  refine (congrFun (Memref.read_squeeze_slice hbM (Rect.unit (s := S2x2048x12288) (boff k) S1x2048x1024.size (boff_inb k)) (fun _ => rfl)
    squeezes_S1x2048x1024_S2048x1024 hc f) (ix2 a b)).trans ?_
  refine (drop_apply _ hc a b).trans ?_
  refine congrArg f (funext fun x => Fin.ext ?_)
  match x with
  | 0 => rfl
  | 1 => show 0 + 1 * a.val = a.val; omega
  | 2 => show 8192 + 1024 * (k % 4) + 1 * b.val = 8192 + 1024 * (k % 4) + b.val; omega

/-- A cast half at an index. -/
theorem half_apply (y : Vec Ideal S2048x512 .f32) (a : Fin 2048) (b : Fin 512) :
    k0_pay2 (F := Ideal) y (ix3 (0 : Fin 1) a b) = y (ix2 a b) ∧ k0_pay3 (F := Ideal) y (ix3 (0 : Fin 1) a b) = y (ix2 a b) := by
  constructor <;> pointwise [k0_pay2, k0_pay3]
theorem wb0_apply (c : Dev nD) (k : ℕ) (a : Fin 2048) (b : Fin 512) : wb0 m c k (ix3 (0 : Fin 1) a b)
    = m (c.tc.loc main_arg1) (ix3 (0 : Fin 2) a (⟨8192 + 1024 * (k % 4) + b.val, by omega⟩ : Fin 12288)) := by
  refine (half_apply _ a b).1.trans ?_
  refine Eq.trans ?_ ((wblk_apply c k (wts m c) a ⟨b.val, by omega⟩).trans (congrFun (V_arg1 m c) _))
  refine congrArg ((wsl (boff k) (boff_inb k)).view.read (Elt Ideal) (wts m c)) (funext fun x => Fin.ext ?_)
  match x with
  | 0 => show 0 + 1 * a.val = a.val; omega
  | 1 => show 0 + 1 * b.val = b.val; omega
theorem wb1_apply (c : Dev nD) (k : ℕ) (a : Fin 2048) (b : Fin 512) : wb1 m c k (ix3 (0 : Fin 1) a b)
    = m (c.tc.loc main_arg1) (ix3 (0 : Fin 2) a (⟨8192 + 1024 * (k % 4) + (512 + b.val), by omega⟩ : Fin 12288)) := by
  refine (half_apply _ a b).2.trans ?_
  refine Eq.trans ?_ ((wblk_apply c k (wts m c) a ⟨512 + b.val, by omega⟩).trans (congrFun (V_arg1 m c) _))
  refine congrArg ((wsl (boff k) (boff_inb k)).view.read (Elt Ideal) (wts m c)) (funext fun x => Fin.ext ?_)
  match x with
  | 0 => show 0 + 1 * a.val = a.val; omega
  | 1 => show 512 + 1 * b.val = 512 + b.val; omega

theorem blk0 (c : Dev nD) (t : Fin cfg0.N) (a : Fin 1024) (k : Fin 2048) : iblk m c 0 t (ix2 a k) = m (c.tc.loc main_arg0) (ix2 (row t a) k) := by
  blk_simp [iblk]
  refine (V_v5 m c _).trans (congrArg (m (c.tc.loc main_arg0)) ?_)
  unfold row
  blk_ext [idx0]
theorem dot0 (c : Dev nD) (t : Fin cfg0.N) (a : Fin 1024) (b : Fin 512) : dotAt (iblk m c 0 t) (wb0 m c (t.val % 4)) a b
    = X (m (c.tc.loc main_arg0)) (m (c.tc.loc main_arg1)) (row t a) (col t ⟨0 + b.val, by omega⟩) := by
  unfold dotAt X
  refine Finset.sum_congr (M := EReal) rfl fun k _ => congrArg₂ (fun p q : EReal => p * q) (blk0 m c t a k) ((wb0_apply m c _ k b).trans ?_)
  refine congrArg (fun z => m (c.tc.loc main_arg1) (ix3 (0 : Fin 2) k z)) (Fin.ext ?_)
  show 8192 + 1024 * (t.val % 4 % 4) + b.val = 8192 + (t.val % 4 * 1024 + (0 + b.val)); omega
theorem dot1 (c : Dev nD) (t : Fin cfg0.N) (a : Fin 1024) (b : Fin 512) : dotAt (iblk m c 0 t) (wb1 m c (t.val % 4)) a b
    = X (m (c.tc.loc main_arg0)) (m (c.tc.loc main_arg1)) (row t a) (col t ⟨512 + b.val, by omega⟩) := by
  unfold dotAt X
  refine Finset.sum_congr (M := EReal) rfl fun k _ => congrArg₂ (fun p q : EReal => p * q) (blk0 m c t a k) ((wb1_apply m c _ k b).trans ?_)
  refine congrArg (fun z => m (c.tc.loc main_arg1) (ix3 (0 : Fin 2) k z)) (Fin.ext ?_)
  show 8192 + 1024 * (t.val % 4 % 4) + (512 + b.val) = 8192 + (t.val % 4 * 1024 + (512 + b.val)); omega

theorem final (c : Dev nD) (hh : ∀ i, ∃ r : ℝ, m (c.tc.loc main_arg0) i = (r : EReal))
    (hw : ∀ i, ∃ r : ℝ, m (c.tc.loc main_arg1) i = (r : EReal)) (hu : ∀ i, ∃ r : ℝ, m (c.tc.loc main_arg2) i = (r : EReal)) :
    (dats m 0 c).arrAt 7 cfg0.N = G (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after0_7]
  unfold outAt
  refine (out_apply _ _ _ _ _ _ _ _ _ (fun a q => X (m (c.tc.loc main_arg0)) (m (c.tc.loc main_arg1)) (row t a) (col t q)) (dot0 m c t) (dot1 m c t) y).trans ?_
  refine (congrArg₂ (fun p q : EReal => p * q) (tile_point m c hu t (y 0) (y 1)) (sact_eq (X_real hh hw _ _))).trans ?_
  have e : (win0_7.blk t).view.emb y = ix2 (row t (y 0)) (col t (y 1)) := by
    unfold row col
    blk_ext [idx7]
  exact (congrArg (G (m (c.tc.loc main_arg0)) (m (c.tc.loc main_arg1)) (m (c.tc.loc main_arg2)) (m (c.tc.loc main_arg3)) (m (c.tc.loc main_arg4)) (m (c.tc.loc main_arg5)) (m (c.tc.loc main_arg6))) e).symm

/-! ## The reference -/

open Cert.ReferenceIdeal.Read in
theorem v18_apply (g : (⟨S16384x4096, .f32⟩ : BufTy).Contents (Elt Ideal)) (gn : (⟨S4096, .f32⟩ : BufTy).Contents (Elt Ideal)) (r : Fin 16384) (q : Fin 4096) :
    val_main_v18 (F := Ideal) g gn (ix2 r q) = N g gn r q := by
  unfold N RT
  pointwise [val_main_v18, val_main_v17, val_main_v16, val_main_v15, val_main_v14, val_main_v13, val_main_v12, val_main_v11, val_main_cst_1, val_main_v10, val_main_v9,
    val_main_cst_0, val_main_v8, val_main_v7, val_main_cst, val_main_v6]
open Cert.ReferenceIdeal.Read in
theorem v38_apply (u : (⟨S16384x4096, .f32⟩ : BufTy).Contents (Elt Ideal)) (r : Fin 16384) (q : Fin 4096) :
    val_main_v38 (F := Ideal) u (ix2 r q) = gelu (u (ix2 r q)) := by
  unfold gelu
  pointwise [val_main_v38, val_main_v37, val_main_v36, val_main_cst_5, val_main_v35, val_main_v34, val_main_cst_4, val_main_v33, val_main_v32, val_main_v31, val_main_cst_3,
    val_main_v30, val_main_v29, val_main_v28, val_main_cst_2, val_main_v27, val_main_v26]
open Cert.ReferenceIdeal.Read in
theorem v41_apply (h : (⟨S16384x2048, .f32⟩ : BufTy).Contents (Elt Ideal)) (w : (⟨S2x2048x12288, .f32⟩ : BufTy).Contents (Elt Ideal)) (r : Fin 16384) (q : Fin 4096) :
    val_main_v41 (F := Ideal) h w (ix2 r q) = silu (X h w r q) := by
  unfold silu X
  pointwise [val_main_v41, val_main_call0_v5, val_main_call0_v4, val_main_call0_cst_0, val_main_call0_v3, val_main_call0_v2, val_main_call0_cst,
    val_main_call0_v1, val_main_call0_v0, val_main_v5, val_main_v2, val_main_v1, val_main_v0]
open Cert.ReferenceIdeal.Read in
theorem v39_apply (g : (⟨S16384x4096, .f32⟩ : BufTy).Contents (Elt Ideal)) (gn : (⟨S4096, .f32⟩ : BufTy).Contents (Elt Ideal))
    (ws : (⟨S8x128x128, .f32⟩ : BufTy).Contents (Elt Ideal)) (bs : (⟨S8x128, .f32⟩ : BufTy).Contents (Elt Ideal)) (r : Fin 16384) (q : Fin 4096) :
    val_main_v39 (F := Ideal) g gn ws bs (ix2 r q) = SP g gn ws bs r q := by
  have hr := r.isLt
  have hq := q.isLt
  have e0 : (r.val * 4096 + q.val) / 524288 = r.val / 128 := by omega
  have e1 : (r.val * 4096 + q.val) / 4096 % 128 = r.val % 128 := by omega
  have e2 : (r.val * 4096 + q.val) / 512 % 8 = q.val / 512 := by omega
  have e3 : (r.val * 4096 + q.val) % 512 = q.val % 512 := by omega
  unfold SP
  refine (val_main_v39_apply (F := Ideal) g gn ws bs _).trans ((val_main_v25_apply (F := Ideal) g gn ws bs _).trans ?_)
  refine congrArg₂ (fun p q : EReal => p + q) ?_ ?_
  · refine (val_main_v21_apply (F := Ideal) g gn ws _).trans ((val_main_v20_apply g gn ws _).trans (Finset.sum_congr (M := EReal) rfl fun j _ => ?_))
    refine (mul_comm (G := EReal) _ _).trans (congrArg₂ (fun p q : EReal => p * q) (congrArg ws (funext fun a => Fin.ext ?_))
      ((val_main_v19_apply (F := Ideal) g gn _).trans ((congrArg (val_main_v18 (F := Ideal) g gn) (funext fun a => Fin.ext ?_)).trans (v18_apply g gn _ q))))
    · match a with
      | 0 => exact e2
      | 1 => exact e1
      | 2 => rfl
    · have hj := j.isLt
      match a with
      | 0 =>
        show ((((r.val * 4096 + q.val) / 524288 * 128 + j.val) * 8 + (r.val * 4096 + q.val) / 512 % 8) * 512 + (r.val * 4096 + q.val) % 512) / 4096 = 128 * (r.val / 128) + j.val
        rw [e0, e2, e3]; omega
      | 1 =>
        show ((((r.val * 4096 + q.val) / 524288 * 128 + j.val) * 8 + (r.val * 4096 + q.val) / 512 % 8) * 512 + (r.val * 4096 + q.val) % 512) % 4096 = q.val
        rw [e0, e2, e3]; omega
  · refine (val_main_v24_apply (F := Ideal) bs _).trans ((val_main_v23_apply (F := Ideal) bs _).trans ((val_main_v22_apply (F := Ideal) bs _).trans (congrArg bs (funext fun a => Fin.ext ?_))))
    match a with
    | 0 => exact e2
    | 1 => exact e1

open Cert.ReferenceIdeal.Read in
theorem ref_apply (h : (⟨S16384x2048, .f32⟩ : BufTy).Contents (Elt Ideal)) (w : (⟨S2x2048x12288, .f32⟩ : BufTy).Contents (Elt Ideal))
    (u g : (⟨S16384x4096, .f32⟩ : BufTy).Contents (Elt Ideal)) (gn : (⟨S4096, .f32⟩ : BufTy).Contents (Elt Ideal))
    (ws : (⟨S8x128x128, .f32⟩ : BufTy).Contents (Elt Ideal)) (bs : (⟨S8x128, .f32⟩ : BufTy).Contents (Elt Ideal)) :
    val_main_v43 (F := Ideal) h w u g gn ws bs = G h w u g gn ws bs := by
  funext y
  have hy : y = ix2 (y 0 : Fin 16384) (y 1 : Fin 4096) := funext fun a => by match a with | 0 => rfl | 1 => rfl
  refine (congrArg (val_main_v43 (F := Ideal) h w u g gn ws bs) hy).trans ?_
  exact congrArg₂ (fun p q : EReal => p * q) (congrArg₂ (fun p q : EReal => p * q) (v38_apply u _ _) (v39_apply g gn ws bs _ _)) (v41_apply h w _ _)

end Cert.KernelIdeal.Hand

end
-- ==== Proof.MixD.lean ====
module

public import proofs.«01_k».proof.Defs
public import proofs.«01_k».proof.Proof.Gen.Kernel
public import proofs.«01_k».proof.Proof.MixX

@[expose] public section

noncomputable section

namespace Cert.KernelIdeal.Hand

open Idealize.ShloMosaic Idealize.SL.Sem

/-- A named constant at machine words: the word. -/
@[reducible] def bitsNamed : Named Bits := ⟨fun _ _ {φ} b => Scalar.ofBits φ b⟩

theorem defs₀_eq : Cert.Kernel.defs₀ (F := Bits) = @Cert.KernelIdeal.defs₀ Bits _ bitsNamed _ := by
  unfold Cert.Kernel.defs₀ Cert.KernelIdeal.defs₀
  refine congrArg Defs.onTc ?_
  funext l p
  match l, p with
  | 0, (t, s) => rfl

/-- The two programs' body tables are one. -/
theorem defs_eq : Cert.Kernel.defs (F := Bits) = @Cert.KernelIdeal.defs Bits _ bitsNamed _ :=
  congrArg (Pipeline.defs Cert.KernelIdeal.pcfgs) defs₀_eq

/-- The kernel at machine words runs and leaves its arguments: the same text, so the same run. -/
theorem frame_kernel : Cert.quiescent_Kernel := fun m ρ _ => by
  letI := bitsNamed
  have h := (θ_run Cert.KernelIdeal.defs _ _).mono (fun _ h => And.intro (fun c => (h.1 c).2) h.2) (run (F := Bits) m ρ)
  rw [← defs_eq] at h
  exact h

theorem frame_ideal : Cert.quiescent_KernelIdeal := fun m ρ _ =>
  (θ_run Cert.KernelIdeal.defs _ _).mono (fun _ h => ⟨fun c => (h.1 c).2, h.2⟩) (run (F := Ideal) m ρ)

/-- The reference runs and leaves its arguments; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same array where the activations, the weights and the branch are real numbers. -/
theorem value : Cert.algebraic_KernelIdeal_ReferenceIdeal_pre_real1 := by
  intro m g m' g' hp hargs
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ?_) (run (F := Ideal) m g)
    obtain ⟨h0, h1, h2⟩ := real_args _ _ _ _ _ _ _ (hp c)
    exact ⟨(h.1 c).1.trans (final m c h0 h1 h2), (h.1 c).2⟩
  · refine (θ_run Cert.ReferenceIdeal.defs _ _).mono (fun _ h c => ⟨(h c).1.trans ?_, (h c).2⟩) (Cert.ReferenceIdeal.Value.run m' g')
    obtain ⟨a0, a1, a2, a3, a4, a5, a6⟩ := hargs c
    rw [a0, a1, a2, a3, a4, a5, a6]
    exact (Cert.ReferenceIdeal.Read.val_main_v43_eq (F := Ideal) _ _ _ _ _ _ _).trans (ref_apply _ _ _ _ _ _ _)

/-- The named constant is the value the table gives it. -/
theorem preserves : Cert.preserves_Kernel_KernelIdeal := IdealRules.named_const.statement _ _ _ _ _ rfl

/-- The two frames again, where the arguments are real. -/
theorem frame_ideal_pre : Cert.quiescent_KernelIdeal_pre_real1 := fun m ρ _ => frame_ideal m ρ trivial
theorem frame_ref_pre : Cert.quiescent_ReferenceIdeal_pre_real1 := fun m ρ _ => frame_ref m ρ trivial

end Cert.KernelIdeal.Hand

end
-- ==== Proof.Kit.lean ====
module

public import Idealize.ShloMosaic.Lib.VecWindow
public import Idealize.ShloMosaic.Lib.Pipeline.Value

@[expose] public section

namespace Cert.Kit

open Idealize.ShloMosaic

/-- A load of the view's own sizes after a transfer over the whole of it reads what was transferred. -/
theorem readCov_whole {sig : RefSig} {F : FTy → Type} [∀ e, Nonempty (Elt F e)] {κ : Kind} {sp : Space} {s : Shape} {e : EltTy} (v : View sig κ sp s e) {off : Fin s.rank → ℕ} (inb : ∀ a, off a + s.size a ≤ s.size a)
    (w : s.Idx → Elt F e) (L : List (View.Piece (Elt F) s e)) :
    v.readCov ((⟨Rect.whole s, w⟩ : View.Piece (Elt F) s e) :: L) (Rect.unit off s.size inb).toLoadRect = w :=
  View.readCov_full v inb (off' := fun _ => 0) (fun a => by omega) w L

end Cert.Kit

end
-- ==== Proof.ProjA.lean ====
module

public import proofs.«01_k».proof.Proof.Kit
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kit
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The cast weight block, the staged weight block, the weights left in HBM. -/
abbrev scM0 : Memref sig .tc .vmem S2048x1024 .bf16 := Memref.whole cc0_scratch0
abbrev scM1 : Memref sig .tc .vmem S2048x1024 .f32 := Memref.whole cc0_scratch1
abbrev hbM : Memref sig .tc .hbm S2x2048x12288 .f32 := Memref.whole main_arg1
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦[M.view.set]{fullShare} f

/-- The block of the weights at offsets `o`, as the body names it. -/
abbrev wsl (o : Fin 3 → ℕ) (h : ∀ a, o a + S1x2048x1024.size a ≤ S2x2048x12288.size a) : Memref sig .tc .hbm S2048x1024 .f32 :=
  (hbM.slice (Rect.unit (s := S2x2048x12288) o S1x2048x1024.size h) (fun _ => rfl)).squeeze S2048x1024 squeezes_S1x2048x1024_S2048x1024

/-- What the staging buffer holds once the block has landed. -/
abbrev landed (c : Dev nD) (o : Fin 3 → ℕ) (h : ∀ a, o a + S1x2048x1024.size a ≤ S2x2048x12288.size a)
    (fs : HbBuf (F := F) c hbM) (d : HbBuf (F := F) c scM1) : HbBuf (F := F) c scM1 :=
  scM1.view.writes (Elt F) d [⟨Rect.whole S2048x1024, ReadAs.same.apply ((wsl o h).view.read (Elt F) fs)⟩]

/-- The copy of a block in flight. -/
abbrev inflight (c : Dev nD) (o : Fin 3 → ℕ) (h : ∀ a, o a + S1x2048x1024.size a ≤ S2x2048x12288.size a)
    (fs : HbBuf (F := F) c hbM) (d : HbBuf (F := F) c scM1) : sProp 𝕄 :=
  Transfers.Flight (countersEmb (U := Pipeline.UD sig nD τ)) c.tc (.dma cc0_scratch2.sem) () (scM1.view.amount (SemLoc.dma (sig := sig) cc0_scratch2.sem))
    iprop(hbPt c scM1 (landed c o h fs d) ∗ hbPt c (wsl o h) fs)

/-- The body at a grid point, over its operands. -/
abbrev body (i : grid0.Coords) (arg2 : Memref sig .tc .vmem S2048x2048 .bf16) (harg2 : arg2.IsWhole)
    (arg4 : Memref sig .tc .vmem S2048x1024 .bf16) (harg4 : arg4.IsWhole) :=
  cc0_proj_None (F := F) i arg2 harg2 hbM (Memref.isWhole_whole _) arg4 harg4 scM0 (Memref.isWhole_whole _)
    scM1 (Memref.isWhole_whole _) cc0_scratch2

/-- The cast of the block of the weights at offsets `o`. -/
abbrev castBlk (c : Dev nD) (o : Fin 3 → ℕ) (h : ∀ a, o a + S1x2048x1024.size a ≤ S2x2048x12288.size a) (fs : HbBuf (F := F) c hbM) : Vec F S2048x1024 .bf16 :=
  k0_pay1 ((wsl o h).view.read (Elt F) fs)

/-! ## The body run, case by case -/

variable (c : Dev nD) (i : grid0.Coords)
  (arg2 : Memref sig .tc .vmem S2048x2048 .bf16) (harg2 : arg2.IsWhole) (arg4 : Memref sig .tc .vmem S2048x1024 .bf16) (harg4 : arg4.IsWhole)

theorem run_A (h1 : k0_cond1 i = 1#1) (h2 : k0_cond2 i = 1#1) (h3 : k0_cond3 i = 1#1)
    (x : Vec F S2048x2048 .bf16) (fs : HbBuf (F := F) c hbM) (W : Waits sig Unit) (K : PUnit → sProp 𝕄) :
    iprop(owns c.tc arg2 fullShare x ∗ (∃ d, owns c.tc arg4 fullShare d)
        ∗ (∃ d, owns c.tc scM0 fullShare d)
        ∗ (∃ ds, hbPt c scM1 ds) ∗ semVal (c.tc, SemLoc.dma cc0_scratch2.sem) 0
        ∗ hbPt c (wsl (k0_off1 i) (k0_off1_inb i h1)) fs
        ∗ hbPt c (wsl (k0_off3 i) (k0_off3_inb i h3)) fs
        ∗ owes c.tc 0 W
        ∗ (iprop(owns c.tc arg2 fullShare x ∗ owns c.tc arg4 fullShare (k0_pay2 x (castBlk c (k0_off1 i) (k0_off1_inb i h1) fs))
            ∗ owns c.tc scM0 fullShare (castBlk c (k0_off1 i) (k0_off1_inb i h1) fs)
            ∗ (∃ d, inflight c (k0_off3 i) (k0_off3_inb i h3) fs d)
            ∗ hbPt c (wsl (k0_off1 i) (k0_off1_inb i h1)) fs
            ∗ (∃ W', owes c.tc 0 W')) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%d5, %f5, -, H5⟩, ⟨%ds, HS⟩, HF, Hn0, Hn, HW, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, hf2]
      unfold run_A.sl.v14 run_A.sl.H5_1
      rw [View.readCov_full]
      unfold run_A.sl.v23
      first | (rw [readCov_whole]; done) | (rw [readCov_whole]; rfl)
  isplitl [H5]
  · iexists _; isplitr; swap
    · iexact H5
    · ipureintro
      unfold run_A.sl.H5_1
      rw [View.read_writes_full]
      unfold run_A.sl.v23
      first | (rw [readCov_whole]; done) | (rw [readCov_whole]; rfl)
  isplitl [HF]; · iexists _; iexact HF
  isplitl [Hn0]; · iexact Hn0
  · iexists _; iexact HW
/-- The same at offsets in closed form. -/
theorem run_A' (h1 : k0_cond1 i = 1#1) (h2 : k0_cond2 i = 1#1) (h3 : k0_cond3 i = 1#1)
    {o1 : Fin 3 → ℕ} (b1 : ∀ a, o1 a + S1x2048x1024.size a ≤ S2x2048x12288.size a) (e1 : k0_off1 i = o1) {o3 : Fin 3 → ℕ} (b3 : ∀ a, o3 a + S1x2048x1024.size a ≤ S2x2048x12288.size a) (e3 : k0_off3 i = o3)
    (x : Vec F S2048x2048 .bf16) (fs : HbBuf (F := F) c hbM) (W : Waits sig Unit) (K : PUnit → sProp 𝕄) :
    iprop(owns c.tc arg2 fullShare x ∗ (∃ d, owns c.tc arg4 fullShare d)
        ∗ (∃ d, owns c.tc scM0 fullShare d)
        ∗ (∃ ds, hbPt c scM1 ds) ∗ semVal (c.tc, SemLoc.dma cc0_scratch2.sem) 0
        ∗ hbPt c (wsl o1 b1) fs
        ∗ hbPt c (wsl o3 b3) fs
        ∗ owes c.tc 0 W
        ∗ (iprop(owns c.tc arg2 fullShare x ∗ owns c.tc arg4 fullShare (k0_pay2 x (castBlk c o1 b1 fs))
            ∗ owns c.tc scM0 fullShare (castBlk c o1 b1 fs)
            ∗ (∃ d, inflight c o3 b3 fs d)
            ∗ hbPt c (wsl o1 b1) fs
            ∗ (∃ W', owes c.tc 0 W')) -∗ K ⟨⟩))
      ⊢ wp frame (wpE (defs₀ (F := F)) Variants.none c none) Set.univ (body i arg2 harg2 arg4 harg4) K := by
  subst e1
  subst e3
  exact run_A c i arg2 harg2 arg4 harg4 h1 h2 h3 x fs W K

theorem run_B (h1 : ¬ k0_cond1 i = 1#1) (h2 : k0_cond2 i = 1#1) (h3 : k0_cond3 i = 1#1)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c (k0_off2 i) (k0_off2_inb i h2) fs ds
        ∗ hbPt c (wsl (k0_off3 i) (k0_off3_inb i h3)) fs
        ∗ owes c.tc 0 W
        ∗ (iprop(owns c.tc arg2 fullShare x ∗ owns c.tc arg4 fullShare (k0_pay2 x (castBlk c (k0_off2 i) (k0_off2_inb i h2) fs))
            ∗ owns c.tc scM0 fullShare (castBlk c (k0_off2 i) (k0_off2_inb i h2) fs)
            ∗ (∃ d, inflight c (k0_off3 i) (k0_off3_inb i h3) fs d)
            ∗ hbPt c (wsl (k0_off2 i) (k0_off2_inb i h2)) fs
            ∗ (∃ W', owes c.tc 0 W')) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%d5, %f5, -, H5⟩, HF, Hn, HW, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, hf2]
      unfold run_B.sl.v14 run_B.sl.H5_1
      rw [View.readCov_full]
      unfold run_B.sl.v23
      first | (rw [readCov_whole]; done) | (rw [readCov_whole]; rfl)
  isplitl [H5]
  · iexists _; isplitr; swap
    · iexact H5
    · ipureintro
      unfold run_B.sl.H5_1
      rw [View.read_writes_full]
      unfold run_B.sl.v23
      first | (rw [readCov_whole]; done) | (rw [readCov_whole]; rfl)
  isplitl [HF]; · iexists _; iexact HF
  isplitl [HF_src]; · iexact HF_src
  · iexists _; iexact HW
/-- The same at offsets in closed form. -/
theorem run_B' (h1 : ¬ k0_cond1 i = 1#1) (h2 : k0_cond2 i = 1#1) (h3 : k0_cond3 i = 1#1)
    {o2 : Fin 3 → ℕ} (b2 : ∀ a, o2 a + S1x2048x1024.size a ≤ S2x2048x12288.size a) (e2 : k0_off2 i = o2) {o3 : Fin 3 → ℕ} (b3 : ∀ a, o3 a + S1x2048x1024.size a ≤ S2x2048x12288.size a) (e3 : k0_off3 i = o3)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c o2 b2 fs ds
        ∗ hbPt c (wsl o3 b3) fs
        ∗ owes c.tc 0 W
        ∗ (iprop(owns c.tc arg2 fullShare x ∗ owns c.tc arg4 fullShare (k0_pay2 x (castBlk c o2 b2 fs))
            ∗ owns c.tc scM0 fullShare (castBlk c o2 b2 fs)
            ∗ (∃ d, inflight c o3 b3 fs d)
            ∗ hbPt c (wsl o2 b2) fs
            ∗ (∃ W', owes c.tc 0 W')) -∗ K ⟨⟩))
      ⊢ wp frame (wpE (defs₀ (F := F)) Variants.none c none) Set.univ (body i arg2 harg2 arg4 harg4) K := by
  subst e2
  subst e3
  exact run_B c i arg2 harg2 arg4 harg4 h1 h2 h3 x fs ds W K

theorem run_C (h1 : ¬ k0_cond1 i = 1#1) (h2 : k0_cond2 i = 1#1) (h3 : ¬ k0_cond3 i = 1#1)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c (k0_off2 i) (k0_off2_inb i h2) fs ds
        ∗ owes c.tc 0 W
        ∗ (iprop(owns c.tc arg2 fullShare x ∗ owns c.tc arg4 fullShare (k0_pay2 x (castBlk c (k0_off2 i) (k0_off2_inb i h2) fs))
            ∗ owns c.tc scM0 fullShare (castBlk c (k0_off2 i) (k0_off2_inb i h2) fs)
            ∗ hbPt c (wsl (k0_off2 i) (k0_off2_inb i h2)) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%d5, %f5, -, H5⟩, HF, HW, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, hf2]
      unfold run_C.sl.v14 run_C.sl.H5_1
      rw [View.readCov_full]
      unfold run_C.sl.v23
      first | (rw [readCov_whole]; done) | (rw [readCov_whole]; rfl)
  isplitl [H5]
  · iexists _; isplitr; swap
    · iexact H5
    · ipureintro
      unfold run_C.sl.H5_1
      rw [View.read_writes_full]
      unfold run_C.sl.v23
      first | (rw [readCov_whole]; done) | (rw [readCov_whole]; rfl)
  isplitl [HF_src]; · iexact HF_src
  isplitl [HF_dst]; · iexists _; iexact HF_dst
  isplitl [HF]; · iexact HF
  · iexists _; iexact HW
/-- The same at offsets in closed form. -/
theorem run_C' (h1 : ¬ k0_cond1 i = 1#1) (h2 : k0_cond2 i = 1#1) (h3 : ¬ k0_cond3 i = 1#1)
    {o2 : Fin 3 → ℕ} (b2 : ∀ a, o2 a + S1x2048x1024.size a ≤ S2x2048x12288.size a) (e2 : k0_off2 i = o2)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c o2 b2 fs ds
        ∗ owes c.tc 0 W
        ∗ (iprop(owns c.tc arg2 fullShare x ∗ owns c.tc arg4 fullShare (k0_pay2 x (castBlk c o2 b2 fs))
            ∗ owns c.tc scM0 fullShare (castBlk c o2 b2 fs)
            ∗ hbPt c (wsl o2 b2) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4) K := by
  subst e2
  exact run_C c i arg2 harg2 arg4 harg4 h1 h2 h3 x fs ds W K

theorem run_D (h1 : ¬ k0_cond1 i = 1#1) (h2 : ¬ k0_cond2 i = 1#1) (h3 : ¬ k0_cond3 i = 1#1)
    (x : Vec F S2048x2048 .bf16) (wb : Vec F S2048x1024 .bf16) (K : PUnit → sProp 𝕄) :
    iprop(owns c.tc arg2 fullShare x ∗ (∃ d, owns c.tc arg4 fullShare d)
        ∗ owns c.tc scM0 fullShare wb
        ∗ (iprop(owns c.tc arg2 fullShare x ∗ owns c.tc arg4 fullShare (k0_pay2 x wb)
            ∗ owns c.tc scM0 fullShare wb) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%f5, %hf5, H5⟩, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, View.readAt_full, hf2, hf5]
  · iexists _; isplitr; swap; iexact H5; ipureintro; exact hf5

end Cert.Kernel2Ideal.Hand

end
-- ==== Proof.ProjB.lean ====
module

public import proofs.«01_k».proof.Proof.ProjA

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem not_written (b : Ref sig .tc) (hb : b ≠ main_v0) : ∀ op ∈ (hostOps0 (F := F)), Proc.devRef .tc b ∉ op.writes := by
  intro op hop
  simp only [List.mem_cons, List.mem_nil_iff, or_false] at hop
  rcases hop with rfl
  exact fun hm => StableHlo.devRef_ne_of_ne hb (Finset.mem_singleton.mp hm)

theorem V_arg0 (c : Dev nD) : V m c main_arg0 = m (c.tc.loc main_arg0) :=
  StableHlo.after_of_forall_not_mem (b := Proc.devRef .tc main_arg0) _ _ (not_written main_arg0 (by decide))
theorem V_arg1 (c : Dev nD) : V m c main_arg1 = m (c.tc.loc main_arg1) :=
  StableHlo.after_of_forall_not_mem (b := Proc.devRef .tc main_arg1) _ _ (not_written main_arg1 (by decide))
theorem V_v0 (c : Dev nD) : V m c main_v0 = (truncf .bf16 (m (c.tc.loc main_arg0) : (⟨S16384x2048, .f32⟩ : BufTy).Contents (Elt F)) bitsLt_bf16_f32 : (⟨S16384x2048, .bf16⟩ : BufTy).Contents (Elt F)) := by
  rfl

/-! ## Where the grid's points lie -/

/-- Block `k` of the weights: its offsets. -/
def boff (k : ℕ) : Fin 3 → ℕ := ![0, 0, 1024 * (k % 4)]
theorem boff_inb (k : ℕ) : ∀ a, boff k a + S1x2048x1024.size a ≤ S2x2048x12288.size a := by
  intro a
  have : k % 4 < 4 := Nat.mod_lt _ (by decide)
  match a with
  | 0 => show (0 : ℕ) + 1 ≤ 2; omega
  | 1 => show (0 : ℕ) + 2048 ≤ 2048; omega
  | 2 => show 1024 * (k % 4) + 1024 ≤ 12288; omega

theorem cond1_iff : ∀ t : Fin grid0.N, k0_cond1 (grid0.coords t) = 1#1 ↔ t.val = 0 := by decide +kernel
theorem cond2_iff : ∀ t : Fin grid0.N, k0_cond2 (grid0.coords t) = 1#1 ↔ t.val % 8 = 0 := by decide +kernel
theorem cond3_iff : ∀ t : Fin grid0.N, k0_cond3 (grid0.coords t) = 1#1 ↔ t.val % 8 = 0 ∧ t.val < 24 := by decide +kernel
theorem off1_at : ∀ t : Fin grid0.N, t.val = 0 → k0_off1 (grid0.coords t) = boff 0 := by decide +kernel
theorem off2_at : ∀ t : Fin grid0.N, k0_off2 (grid0.coords t) = boff (t.val / 8) := by decide +kernel
theorem off3_at : ∀ t : Fin grid0.N, t.val < 24 → k0_off3 (grid0.coords t) = boff (t.val / 8 + 1) := by decide +kernel

/-- The elements of block `k` in the weights' buffer. -/
abbrev wset (k : ℕ) := (wsl (boff k) (boff_inb k)).view.set

theorem wset_disj {j k : ℕ} (h : j % 4 ≠ k % 4) : wset k ⊆ hbM.view.set \ wset j := by
  intro x hx
  have e (k : ℕ) : wset k = (Rect.unit (s := S2x2048x12288) (boff k) S1x2048x1024.size (boff_inb k)).set :=
    (View.set_reshape _ _).trans (View.set_slice_whole _ _)
  rw [e] at hx ⊢
  rw [Finset.mem_sdiff]
  refine ⟨by rw [show hbM.view.set = Finset.univ from View.set_whole _]; exact Finset.mem_univ _, fun hy => ?_⟩
  have h1 := Rect.mem_set_unit.1 hx 2
  have h2 := Rect.mem_set_unit.1 hy 2
  have e1 (k : ℕ) : boff k 2 = 1024 * (k % 4) := rfl
  have e2 : S1x2048x1024.size 2 = 1024 := rfl
  rw [e1, e2] at h1 h2
  omega

theorem wset_sub (k : ℕ) : wset k ⊆ hbM.view.set := fun x hx => by
  rw [show hbM.view.set = Finset.univ from View.set_whole _]; exact Finset.mem_univ _

end Cert.Kernel2Ideal.Hand

end
-- ==== Proof.ProjC.lean ====
module

public import proofs.«01_k».proof.Proof.ProjB

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The weights as the region finds them. -/
abbrev wts (c : Dev nD) : HbBuf (F := F) c hbM := V m c main_arg1
/-- The cast of block `k`. -/
abbrev wb (c : Dev nD) (k : ℕ) : Vec F S2048x1024 .bf16 := castBlk c (boff k) (boff_inb k) (wts m c)

/-- The staging buffer free, its cell at zero, the weights whole. -/
def idle (c : Dev nD) : sProp 𝕄 :=
  iprop((∃ ds, hbPt c scM1 ds) ∗ semVal (c.tc, SemLoc.dma cc0_scratch2.sem) 0 ∗ hbPt c hbM (wts m c))
/-- Block `k` in flight, the rest of the weights held. -/
def flying (c : Dev nD) (k : ℕ) : sProp 𝕄 :=
  iprop((∃ d, inflight c (boff k) (boff_inb k) (wts m c) d) ∗ (hbM.view.loc c.tc ↦[hbM.view.set \ wset k]{fullShare} wts m c))
/-- Before point `p`: nothing consumed at `0`; else block `(p - 1) / 8` cast, the next one in flight if there is one. -/
def inv (c : Dev nD) (p : ℕ) : sProp 𝕄 :=
  if p = 0 then iprop((∃ d, owns c.tc scM0 fullShare d) ∗ idle m c)
  else if (p - 1) / 8 + 1 < 4 then iprop(owns c.tc scM0 fullShare (wb m c ((p - 1) / 8)) ∗ flying m c ((p - 1) / 8 + 1))
  else iprop(owns c.tc scM0 fullShare (wb m c ((p - 1) / 8)) ∗ idle m c)

theorem inv_zero (c : Dev nD) : inv m c 0 = iprop((∃ d, owns c.tc scM0 fullShare d) ∗ idle m c) := by
  unfold inv; rw [if_pos rfl]
theorem inv_mid (c : Dev nD) {p k : ℕ} (h0 : p ≠ 0) (hk : (p - 1) / 8 = k) (h : k + 1 < 4) :
    inv m c p = iprop(owns c.tc scM0 fullShare (wb m c k) ∗ flying m c (k + 1)) := by
  subst hk; unfold inv; rw [if_neg h0, if_pos h]
theorem inv_end (c : Dev nD) {p k : ℕ} (h0 : p ≠ 0) (hk : (p - 1) / 8 = k) (h : ¬ k + 1 < 4) :
    inv m c p = iprop(owns c.tc scM0 fullShare (wb m c k) ∗ idle m c) := by
  subst hk; unfold inv; rw [if_neg h0, if_neg h]

/-! ## The proof data -/

abbrev ms0_0 (t : Fin cfg0.N) : Memref sig .tc .vmem S2048x2048 .bf16 := win0_0.stage (cfg0.slots t 0)
abbrev ms0_1 (t : Fin cfg0.N) : Memref sig .tc .vmem S2048x1024 .bf16 := win0_1.stage (cfg0.slots t 1)

/-- Window `w`'s block of its array at point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result at point `t`. -/
def outAt (c : Dev nD) (t : Fin cfg0.N) : Vec F S2048x1024 .bf16 := k0_pay2 (iblk m c 0 t) (wb m c (t.val / 8))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d : ((cfg0.win 0).xblock (cfg0.grid.coords t)).Idx → Elt F (cfg0.win 0).elt) : (dats m 0 c).before 0 t d = iblk m c 0 t :=
  (Dat.before_in_eq_fetched (dats m 0 c) 0 rfl (fun _ => rfl) (fun _ _ _ => rfl)
    (fun t => by rw [after0_0]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t))

/-- What the body is called with, and what it leaves, over the invariant and the operands' contents. -/
def pre (c : Dev nD) (t : Fin cfg0.N) (W : Waits sig Unit) : sProp 𝕄 :=
  iprop(inv m c t.val ∗ owes c.tc 0 W ∗ owns c.tc (ms0_0 t) fullShare (iblk m c 0 t)
    ∗ (∃ d, owns c.tc (ms0_1 t) fullShare d))
def post (c : Dev nD) (t : Fin cfg0.N) : sProp 𝕄 :=
  iprop(inv m c (t.val + 1) ∗ (∃ W', owes c.tc 0 W') ∗ owns c.tc (ms0_0 t) fullShare (iblk m c 0 t)
    ∗ owns c.tc (ms0_1 t) fullShare (outAt m c t))

theorem point_D (c : Dev nD) (t : Fin cfg0.N) (h : t.val % 8 ≠ 0) (W : Waits sig Unit) :
    pre m c t W ⊢ wp frame (wpE (defs₀ (F := F)) Variants.none c none) Set.univ (bodyAt0 t) (fun _ => post m c t) := by
  unfold pre post outAt
  have e : ∃ R : sProp 𝕄, inv m c t.val = iprop(owns c.tc scM0 fullShare (wb m c (t.val / 8)) ∗ R)
      ∧ inv m c (t.val + 1) = iprop(owns c.tc scM0 fullShare (wb m c (t.val / 8)) ∗ R) := by
    by_cases hk : t.val / 8 + 1 < 4
    · exact ⟨_, inv_mid m c (by omega) (by omega) hk, inv_mid m c (by omega) (by omega) hk⟩
    · exact ⟨_, inv_end m c (by omega) (by omega) hk, inv_end m c (by omega) (by omega) hk⟩
  obtain ⟨R, e0, e1⟩ := e
  rw [e0, e1]
  iintro ⟨⟨H5, HR⟩, HW, H2, H4⟩
  iapply (run_D c (grid0.coords t) (ms0_0 t) _ (ms0_1 t) _ (fun hc => h (by rw [(cond1_iff t).1 hc]))
    (fun hc => h ((cond2_iff t).1 hc)) (fun hc => h ((cond3_iff t).1 hc).1) (iblk m c 0 t) (wb m c (t.val / 8)) _)
  isplitl [H2]; · iexact H2
  isplitl [H4]; · iexact H4
  isplitl [H5]; · iexact H5
  iintro ⟨H2, H4, H5⟩
  isplitl [H5 HR]
  · isplitl [H5]; · iexact H5
    iexact HR
  isplitl [HW]; · iexists _; iexact HW
  isplitl [H2]; · iexact H2
  iexact H4

/-- A block handed back goes into the rest that lacks it and the next one. -/
theorem rejoin (c : Dev nD) {j k : ℕ} (h : j % 4 ≠ k % 4) (f : HbBuf (F := F) c hbM) :
    iprop((hbM.view.loc c.tc ↦[wset j]{fullShare} f) ∗ (hbM.view.loc c.tc ↦[(hbM.view.set \ wset j) \ wset k]{fullShare} f))
      ⊢ (hbM.view.loc c.tc ↦[hbM.view.set \ wset k]{fullShare} f : sProp 𝕄) := by
  rw [sdiff_right_comm]
  exact (pointsTo_split_subset (wset_disj (Ne.symm h))).2

theorem point_A (c : Dev nD) (t : Fin cfg0.N) (h : t.val = 0) (W : Waits sig Unit) :
    pre m c t W ⊢ wp frame (wpE (defs₀ (F := F)) Variants.none c none) Set.univ (bodyAt0 t) (fun _ => post m c t) := by
  unfold pre post outAt
  rw [h, inv_zero, inv_mid m c (p := 0 + 1) (k := 0) (by decide) (by decide) (by decide)]
  unfold idle flying
  iintro ⟨⟨H5, HS, HF, Hw⟩, HW, H2, H4⟩
  ihave ⟨Hw0, Hw⟩ := (pointsTo_split_subset (wset_sub 0)).1 $$ Hw
  ihave ⟨Hw1, Hw⟩ := (pointsTo_split_subset (wset_disj (j := 0) (k := 1) (by decide))).1 $$ Hw
  iapply (run_A' c (grid0.coords t) (ms0_0 t) _ (ms0_1 t) _ ((cond1_iff t).2 h)
    ((cond2_iff t).2 (by omega)) ((cond3_iff t).2 (by omega)) (boff_inb 0) (off1_at t h) (boff_inb 1)
    ((off3_at t (by omega)).trans (by rw [h])) (iblk m c 0 t) (wts m c) W _)
  isplitl [H2]; · iexact H2
  isplitl [H4]; · iexact H4
  isplitl [H5]; · iexact H5
  isplitl [HS]; · iexact HS
  isplitl [HF]; · iexact HF
  isplitl [Hw0]; · iexact Hw0
  isplitl [Hw1]; · iexact Hw1
  isplitl [HW]; · iexact HW
  iintro ⟨H2, H4, H5, HF, Hw0, HW⟩
  isplitl [H5 HF Hw Hw0]
  · isplitl [H5]; · iexact H5
    isplitl [HF]; · iexact HF
    iapply (rejoin (F := F) c (j := 0) (k := 1) (by decide) (wts m c))
    isplitl [Hw0]; · iexact Hw0
    iexact Hw
  isplitl [HW]; · iexact HW
  isplitl [H2]; · iexact H2
  iexact H4
theorem point_B (c : Dev nD) (t : Fin cfg0.N) (h0 : t.val ≠ 0) (h : t.val % 8 = 0) (hn : t.val < 24) (W : Waits sig Unit) :
    pre m c t W ⊢ wp frame (wpE (defs₀ (F := F)) Variants.none c none) Set.univ (bodyAt0 t) (fun _ => post m c t) := by
  unfold pre post outAt
  obtain ⟨k, hk⟩ : ∃ k, t.val / 8 = k + 1 := ⟨t.val / 8 - 1, by omega⟩
  rw [inv_mid m c (p := t.val) (k := k) h0 (by omega) (by omega),
    inv_mid m c (p := t.val + 1) (k := k + 1) (by omega) (by omega) (by omega), hk]
  unfold flying
  iintro ⟨⟨H5, ⟨%ds, HF⟩, Hw⟩, HW, H2, H4⟩
  ihave ⟨Hw1, Hw⟩ := (pointsTo_split_subset (wset_disj (j := k + 1) (k := k + 1 + 1) (by omega))).1 $$ Hw
  iapply (run_B' c (grid0.coords t) (ms0_0 t) _ (ms0_1 t) _ (fun hc => h0 ((cond1_iff t).1 hc))
    ((cond2_iff t).2 h) ((cond3_iff t).2 ⟨h, hn⟩) (boff_inb (k + 1)) ((off2_at t).trans (by rw [hk])) (boff_inb (k + 1 + 1))
    ((off3_at t hn).trans (by rw [hk])) (iblk m c 0 t) (wts m c) ds W _)
  isplitl [H2]; · iexact H2
  isplitl [H4]; · iexact H4
  isplitl [H5]; · iexists _; iexact H5
  isplitl [HF]; · iexact HF
  isplitl [Hw1]; · iexact Hw1
  isplitl [HW]; · iexact HW
  iintro ⟨H2, H4, H5, HF, Hw0, HW⟩
  isplitl [H5 HF Hw Hw0]
  · isplitl [H5]; · iexact H5
    isplitl [HF]; · iexact HF
    iapply (rejoin (F := F) c (j := k + 1) (k := k + 1 + 1) (by omega) (wts m c))
    isplitl [Hw0]; · iexact Hw0
    iexact Hw
  isplitl [HW]; · iexact HW
  isplitl [H2]; · iexact H2
  iexact H4

theorem point_C (c : Dev nD) (t : Fin cfg0.N) (h : t.val = 24) (W : Waits sig Unit) :
    pre m c t W ⊢ wp frame (wpE (defs₀ (F := F)) Variants.none c none) Set.univ (bodyAt0 t) (fun _ => post m c t) := by
  unfold pre post outAt
  rw [inv_mid m c (p := t.val) (k := 2) (by omega) (by omega) (by omega),
    inv_end m c (p := t.val + 1) (k := 3) (by omega) (by omega) (by omega), show t.val / 8 = 3 by omega]
  unfold flying idle
  iintro ⟨⟨H5, ⟨%ds, HF⟩, Hw⟩, HW, H2, H4⟩
  iapply (run_C' c (grid0.coords t) (ms0_0 t) _ (ms0_1 t) _ (fun hc => by have := (cond1_iff t).1 hc; omega)
    ((cond2_iff t).2 (by omega)) (fun hc => by have := (cond3_iff t).1 hc; omega) (boff_inb 3) ((off2_at t).trans (by rw [h]))
    (iblk m c 0 t) (wts m c) ds W _)
  isplitl [H2]; · iexact H2
  isplitl [H4]; · iexact H4
  isplitl [H5]; · iexists _; iexact H5
  isplitl [HF]; · iexact HF
  isplitl [HW]; · iexact HW
  iintro ⟨H2, H4, H5, Hw0, HS, HF, HW⟩
  isplitl [H5 HF HS Hw Hw0]
  · isplitl [H5]; · iexact H5
    isplitl [HS]; · iexact HS
    isplitl [HF]; · iexact HF
    iapply (pointsTo_split_subset (wset_sub 3)).2
    isplitl [Hw0]; · iexact Hw0
    iexact Hw
  isplitl [HW]; · iexact HW
  isplitl [H2]; · iexact H2
  iexact H4

theorem point (c : Dev nD) (t : Fin cfg0.N) (W : Waits sig Unit) :
    pre m c t W ⊢ wp frame (wpE (defs₀ (F := F)) Variants.none c none) Set.univ (bodyAt0 t) (fun _ => post m c t) := by
  have ht : t.val < 32 := lt_of_lt_of_eq t.isLt N_0
  by_cases h : t.val % 8 = 0
  · by_cases h0 : t.val = 0
    · exact point_A m c t h0 W
    · by_cases hn : t.val < 24
      · exact point_B m c t h0 h hn W
      · exact point_C m c t (by omega) W
  · exact point_D m c t h W

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [after0_0, after0_1]
  unfold Dat.owesAt Pipeline.owesWithin
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owed t.castSucc = 0 from rfl, show (dats m 0 c).owed t.succ = 0 from rfl]
  iintro ⟨⟨Hg, HI⟩, ⟨%W, -, HW⟩, ⟨%d0, H0⟩, ⟨%d1, H1⟩⟩
  iapply (wp_wand_r frame (wpE (defs₀ (F := F)) Variants.none c none) Set.univ (Q := fun _ => post m c t))
  isplitl [HI HW H0 H1]
  · iapply (point m c t W)
    unfold pre
    isplitl [HI]; · iexact HI
    isplitl [HW]; · iexact HW
    isplitl [H0]; · iexact H0
    iexists _; iexact H1
  iintro %_ Hp
  unfold post
  icases Hp with ⟨HI, ⟨%W', HW⟩, H0, H1⟩
  isplitl [Hg HI]
  · isplitl [Hg]; · iexact Hg
    iexact HI
  isplitl [HW]
  · iexists W'; isplitr
    · ipureintro; exact fun _ _ => Or.inl trivial
    · iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma cc0_scratch2.sem) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c.tc.loc main_arg1) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns c.tc scM0 fullShare d) ∗ (∃ ds, hbPt c scM1 ds)) ∗ (∃ r, prngReg c r)
          ∗ semVal (c.tc, SemLoc.dma cc0_scratch2.sem) 0 ∗ hbPt c hbM (wts m c)) := by
  rw [Pipeline.ΦD_eq, scopedRest0_eq, ownSems00_eq, hbmPts0_eq]
  simp only [scM0, hbPt, scM1, hbM, owns_whole, Memref.view_whole, View.set_whole]; try rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ inv m c 0) from rfl, inv_zero]
  unfold idle
  iintro ⟨⟨H5, HS⟩, Hg, HF, Hw⟩
  isplitl [Hg]; · iexact Hg
  isplitl [H5]; · iexact H5
  isplitl [HS]; · iexact HS
  isplitl [HF]; · iexact HF
  iexact Hw

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = iprop((∃ r, prngReg c r) ∗ inv m c grid0.N) from rfl, N_0,
    inv_end m c (p := 32) (k := 3) (by decide) (by decide) (by decide)]
  unfold idle
  iintro ⟨Hg, H5, HS, HF, Hw⟩
  isplitl [H5 HS]
  · isplitl [H5]; · iexists _; iexact H5
    iexact HS
  isplitl [Hg]; · iexact Hg
  isplitl [HF]; · iexact HF
  iexact Hw

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result array as the write-backs leave it, the arguments as they were, every cell at zero. -/
theorem run : θ_run defs (onTc (τ := τ) (main (F := F))) ⟨m, fun _ => 0, ρ⟩ (fun r => (∀ c : Dev nD,
      r.2.mem ((c.tc : Thread nD τ).loc main_v1) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1 1,
    ((h.1 c).2 main_arg0 (Pipeline.mem_restRefs_of main_arg0 (by decide) (by decide))).trans (V_arg0 m c),
    ((h.1 c).2 main_arg1 (Pipeline.mem_restRefs_of main_arg1 (by decide) (by decide))).trans (V_arg1 m c)⟩, h.2⟩) (run_main m ρ)

end Cert.Kernel2Ideal.Hand

end
-- ==== Proof.ProjV.lean ====
module

public import proofs.«01_k».proof.Proof.ProjC
public import proofs.«01_k».proof.Proof.Gen.Reference2Ideal.Run
public import proofs.«01_k».proof.Proof.Gen.Reference2Ideal.Read
public import Idealize.ShloMosaic.Lib.Pointwise
public import Idealize.ShloMosaic.Lib.Pipeline.ValueKit.Geometry

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The product the call computes: row `y 0` of the activations by column `y 1` of layer 0's weights. -/
def G (h : (⟨S16384x2048, .f32⟩ : BufTy).Contents (Elt Ideal)) (w : (⟨S2x2048x12288, .f32⟩ : BufTy).Contents (Elt Ideal)) :
    (⟨S16384x4096, .bf16⟩ : BufTy).Contents (Elt Ideal) :=
  fun y => ∑ k : Fin 2048, h (ix2 (y 0) k) * w (ix3 0 k ⟨(y 1).val, lt_trans (y 1).isLt (by decide)⟩)

/-- The body's payload at an index. -/
theorem pay_apply (x : Vec Ideal S2048x2048 .bf16) (w : Vec Ideal S2048x1024 .f32) (j : S2048x1024.Idx) :
    k0_pay2 (F := Ideal) x (k0_pay1 w) j = ∑ k : Fin 2048, x (ix2 (j 0) k) * w (ix2 k (j 1)) := by
  pointwise [k0_pay2, k0_pay1]

/-- Dropping the unit axis, at an index. -/
theorem drop_apply {α : Type} (y : S1x2048x1024.Idx → α) (h : S1x2048x1024.ShapeCasts S2048x1024) (a : Fin 2048) (b : Fin 1024) :
    shapeCast S2048x1024 y h (ix2 a b) = y (ix3 (0 : Fin 1) a b) :=
  shapeCast_apply y h (ix2 a b) (ix3 (0 : Fin 1) a b) (by
    rewrite [Shape.rowMajor_val_three, Shape.rowMajor_val_two]
    show (0 * 2048 + a.val) * 1024 + b.val = a.val * 1024 + b.val
    omega)

/-- Block `k` of the weights at an index. -/
theorem wblk_apply (c : Dev nD) (k : ℕ) (f : HbBuf (F := Ideal) c hbM) (a : Fin 2048) (b : Fin 1024) :
    (wsl (boff k) (boff_inb k)).view.read (Elt Ideal) f (ix2 a b)
      = f (ix3 (0 : Fin 2) a (⟨1024 * (k % 4) + b.val, by omega⟩ : Fin 12288)) := by
  have hc : S1x2048x1024.ShapeCasts S2048x1024 := by decide
  refine (congrFun (Memref.read_squeeze_slice hbM (Rect.unit (s := S2x2048x12288) (boff k) S1x2048x1024.size (boff_inb k)) (fun _ => rfl)
    squeezes_S1x2048x1024_S2048x1024 hc f) (ix2 a b)).trans ?_
  refine (drop_apply _ hc a b).trans ?_
  refine congrArg f (funext fun x => Fin.ext ?_)
  match x with
  | 0 => rfl
  | 1 => show 0 + 1 * a.val = a.val; omega
  | 2 => show 1024 * (k % 4) + 1 * b.val = 1024 * (k % 4) + b.val; omega

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)

theorem final (c : Dev nD) : (dats m 0 c).arrAt 1 cfg0.N
    = G (m (c.tc.loc main_arg0)) (m (c.tc.loc main_arg1)) := by
  refine (dats m 0 c).arrAt_eq_of_covers 1 _ (by decide +kernel) fun t hf y => ?_
  blk_simp
  rw [after0_1]
  unfold outAt wb castBlk
  rw [pay_apply]
  unfold G
  blk_simp [iblk]
  refine Finset.sum_congr (M := EReal) rfl fun k _ => ?_
  have ht : t.val < 32 := lt_of_lt_of_eq t.isLt N_0
  rw [V_v0]
  refine Eq.trans (congrArg (fun q : EReal => _ * q) ((wblk_apply c (t.val / 8) (wts m c) k (y 1)).trans (by unfold wts; rw [V_arg1]))) ?_
  refine congrArg₂ (fun p q : EReal => p * q) (congrArg (m (c.tc.loc main_arg0)) ?_) (congrArg (m (c.tc.loc main_arg1)) ?_)
  · blk_ext [idx0, idx1]
  · blk_ext [idx0, idx1]

theorem ref_apply (h : (⟨S16384x2048, .f32⟩ : BufTy).Contents (Elt Ideal)) (w : (⟨S2x2048x12288, .f32⟩ : BufTy).Contents (Elt Ideal)) :
    Cert.Reference2Ideal.Read.val_main_v6 (F := Ideal) h w = G h w := by
  funext y
  unfold G
  pointwise [Cert.Reference2Ideal.Read.val_main_v6, Cert.Reference2Ideal.Read.val_main_v3, Cert.Reference2Ideal.Read.val_main_v2, Cert.Reference2Ideal.Read.val_main_v1, Cert.Reference2Ideal.Read.val_main_v0]

end Cert.Kernel2Ideal.Hand

end
-- ==== Proof.ProjD.lean ====
module

public import proofs.«01_k».proof.Defs
public import proofs.«01_k».proof.Proof.Gen.Kernel2
public import proofs.«01_k».proof.Proof.ProjV

@[expose] public section

noncomputable section

namespace Cert.Kernel2Ideal.Hand

open Idealize.ShloMosaic Idealize.SL.Sem

theorem defs₀_eq : Cert.Kernel2.defs₀ (F := Bits) = Cert.Kernel2Ideal.defs₀ (F := Bits) := by
  unfold Cert.Kernel2.defs₀ Cert.Kernel2Ideal.defs₀
  refine congrArg Defs.onTc ?_
  funext l p
  match l, p with
  | 0, (t, s) => rfl

/-- The two programs' body tables are one. -/
theorem defs_eq : Cert.Kernel2.defs (F := Bits) = Cert.Kernel2Ideal.defs (F := Bits) :=
  congrArg (Pipeline.defs Cert.Kernel2Ideal.pcfgs) defs₀_eq

/-- The kernel at machine words runs and leaves its arguments: the same text, so the same run. -/
theorem frame_kernel : Cert.quiescent_Kernel2 := fun m ρ _ => by
  have h := (θ_run Cert.Kernel2Ideal.defs _ _).mono (fun _ h => And.intro (fun c => (h.1 c).2) h.2) (run (F := Bits) m ρ)
  rw [← defs_eq] at h
  exact h

theorem frame_ideal : Cert.quiescent_Kernel2Ideal := fun m ρ _ =>
  (θ_run Cert.Kernel2Ideal.defs _ _).mono (fun _ h => ⟨fun c => (h.1 c).2, h.2⟩) (run (F := Ideal) m ρ)

/-- The reference runs and leaves its arguments; it declares no semaphore. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference leave the same array. -/
theorem value : Cert.algebraic_Kernel2Ideal_Reference2Ideal := by
  intro m g m' g' _ hargs
  refine ⟨fun c => G (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · exact (θ_run Cert.Kernel2Ideal.defs _ _).mono (fun _ h c => ⟨(h.1 c).1.trans (final m c), (h.1 c).2⟩) (run (F := Ideal) m g)
  · refine (θ_run Cert.Reference2Ideal.defs _ _).mono (fun _ h c => ⟨(h c).1.trans ?_, (h c).2⟩) (Cert.Reference2Ideal.Value.run m' g')
    rw [(hargs c).1, (hargs c).2]
    exact (Cert.Reference2Ideal.Read.val_main_v6_eq (F := Ideal) _ _).trans (ref_apply _ _)

end Cert.Kernel2Ideal.Hand

end
-- ==== Proof.GeluA.lean ====
module

public import proofs.«01_k».proof.Proof.Kit
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kit
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's operands -/

/-- The cast weight block, the staged weight block, the weights left in HBM. -/
abbrev scM0 : Memref sig .tc .vmem S2048x1024 .bf16 := Memref.whole cc0_scratch0
abbrev scM1 : Memref sig .tc .vmem S2048x1024 .f32 := Memref.whole cc0_scratch1
abbrev hbM : Memref sig .tc .hbm S2x2048x12288 .f32 := Memref.whole main_arg1
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦[M.view.set]{fullShare} f

/-- The block of the weights at offsets `o`, as the body names it. -/
abbrev wsl (o : Fin 3 → ℕ) (h : ∀ a, o a + S1x2048x1024.size a ≤ S2x2048x12288.size a) : Memref sig .tc .hbm S2048x1024 .f32 :=
  (hbM.slice (Rect.unit (s := S2x2048x12288) o S1x2048x1024.size h) (fun _ => rfl)).squeeze S2048x1024 squeezes_S1x2048x1024_S2048x1024

/-- What the staging buffer holds once the block has landed. -/
abbrev landed (c : Dev nD) (o : Fin 3 → ℕ) (h : ∀ a, o a + S1x2048x1024.size a ≤ S2x2048x12288.size a)
    (fs : HbBuf (F := F) c hbM) (d : HbBuf (F := F) c scM1) : HbBuf (F := F) c scM1 :=
  scM1.view.writes (Elt F) d [⟨Rect.whole S2048x1024, ReadAs.same.apply ((wsl o h).view.read (Elt F) fs)⟩]

/-- The copy of a block in flight. -/
abbrev inflight (c : Dev nD) (o : Fin 3 → ℕ) (h : ∀ a, o a + S1x2048x1024.size a ≤ S2x2048x12288.size a)
    (fs : HbBuf (F := F) c hbM) (d : HbBuf (F := F) c scM1) : sProp 𝕄 :=
  Transfers.Flight (countersEmb (U := Pipeline.UD sig nD τ)) c.tc (.dma cc0_scratch2.sem) () (scM1.view.amount (SemLoc.dma (sig := sig) cc0_scratch2.sem))
    iprop(hbPt c scM1 (landed c o h fs d) ∗ hbPt c (wsl o h) fs)

/-- The body at a grid point, over its operands. -/
abbrev body (i : grid0.Coords) (arg2 : Memref sig .tc .vmem S1024x2048 .bf16) (harg2 : arg2.IsWhole)
    (arg4 : Memref sig .tc .vmem S1x64x2048 .f32) (harg4 : arg4.IsWhole) (arg5 : Memref sig .tc .vmem S1024x1024 .bf16) (harg5 : arg5.IsWhole) (arg6 : Memref sig .tc .vmem S1x1024x1 .f32) (harg6 : arg6.IsWhole) (arg7 : Memref sig .tc .vmem S64x2048 .bf16) (harg7 : arg7.IsWhole) :=
  cc0_proj_gelu (F := F) i arg2 harg2 hbM (Memref.isWhole_whole _) arg4 harg4 arg5 harg5 arg6 harg6 arg7 harg7 scM0 (Memref.isWhole_whole _)
    scM1 (Memref.isWhole_whole _) cc0_scratch2

/-- The cast of the block of the weights at offsets `o`. -/
abbrev castBlk (c : Dev nD) (o : Fin 3 → ℕ) (h : ∀ a, o a + S1x2048x1024.size a ≤ S2x2048x12288.size a) (fs : HbBuf (F := F) c hbM) : Vec F S2048x1024 .bf16 :=
  k0_pay3 ((wsl o h).view.read (Elt F) fs)

/-! ## The body run, case by case -/

variable (c : Dev nD) (i : grid0.Coords)
  (arg2 : Memref sig .tc .vmem S1024x2048 .bf16) (harg2 : arg2.IsWhole) (arg4 : Memref sig .tc .vmem S1x64x2048 .f32) (harg4 : arg4.IsWhole) (arg5 : Memref sig .tc .vmem S1024x1024 .bf16) (harg5 : arg5.IsWhole) (arg6 : Memref sig .tc .vmem S1x1024x1 .f32) (harg6 : arg6.IsWhole) (arg7 : Memref sig .tc .vmem S64x2048 .bf16) (harg7 : arg7.IsWhole)

theorem run_A (h1 : k0_cond1 i = 1#1) (h2 : k0_cond2 i = 1#1) (h3 : k0_cond3 i = 1#1)
    (x : Vec F S1024x2048 .bf16) (ci : Vec F S1x64x2048 .f32) (fs : HbBuf (F := F) c hbM) (W : Waits sig Unit) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ (∃ d, owns c.tc scM0 fullShare d)
        ∗ (∃ ds, hbPt c scM1 ds) ∗ semVal (c.tc, SemLoc.dma cc0_scratch2.sem) 0
        ∗ hbPt c (wsl (k0_off1 i) (k0_off1_inb i h1)) fs
        ∗ hbPt c (wsl (k0_off3 i) (k0_off3_inb i h3)) fs
        ∗ owes c.tc 0 W
        ∗ (iprop(owns c.tc arg2 fullShare x ∗ owns c.tc arg4 fullShare ci
            ∗ owns c.tc arg5 fullShare (k0_pay5 x (castBlk c (k0_off1 i) (k0_off1_inb i h1) fs))
            ∗ owns c.tc arg6 fullShare (k0_pay1 (k0_pay6 x (castBlk c (k0_off1 i) (k0_off1_inb i h1) fs)))
            ∗ owns c.tc arg7 fullShare (k0_pay2 ci)
            ∗ owns c.tc scM0 fullShare (castBlk c (k0_off1 i) (k0_off1_inb i h1) fs)
            ∗ (∃ d, inflight c (k0_off3 i) (k0_off3_inb i h3) fs d)
            ∗ hbPt c (wsl (k0_off1 i) (k0_off1_inb i h1)) fs
            ∗ (∃ W', owes c.tc 0 W')) -∗ K ⟨⟩))
      ⊢ wp frame (wpE (defs₀ (F := F)) Variants.none c none) Set.univ (body i arg2 harg2 arg4 harg4 arg5 harg5 arg6 harg6 arg7 harg7) K := by
  unfold body
  rw [cc0_proj_gelu_eq_skeleton]; unfold cc0_proj_gelu_skel
  rw [k0_part1_eq_skeleton]; unfold k0_part1_skel
  unfold owns
  iintro ⟨⟨%f2, %hf2, H2⟩, ⟨%fi, %hfi, Hi⟩, ⟨%d4, %f4, -, H4⟩, ⟨%dS, %fs0, -, Hs⟩, ⟨%dO, %fo, -, Ho⟩, ⟨%d5, %f5, -, H5⟩, ⟨%ds, HS⟩, HF, Hn0, Hn, HW, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, hf2]
      unfold run_A.sl.v14 run_A.sl.H5_1
      rw [View.readCov_full]
      unfold run_A.sl.v44
      first | (rw [readCov_whole]; done) | (rw [readCov_whole]; rfl)
  isplitl [Hs]
  · iexists _; isplitr; swap
    · iexact Hs
    · ipureintro
      rw [View.read_writes_full, View.readAt_full, hf2]
      unfold run_A.sl.v14 run_A.sl.H5_1
      rw [View.readCov_full]
      unfold run_A.sl.v44
      first | (rw [readCov_whole]; done) | (rw [readCov_whole]; rfl)
  isplitl [Ho]
  · iexists _; isplitr; swap
    · iexact Ho
    · ipureintro
      rw [View.read_writes_full, View.readAt_full, hfi]
  isplitl [H5]
  · iexists _; isplitr; swap
    · iexact H5
    · ipureintro
      unfold run_A.sl.H5_1
      rw [View.read_writes_full]
      unfold run_A.sl.v44
      first | (rw [readCov_whole]; done) | (rw [readCov_whole]; rfl)
  isplitl [HF]; · iexists _; iexact HF
  isplitl [Hn0]; · iexact Hn0
  · iexists _; iexact HW
/-- The same at offsets in closed form. -/
theorem run_A' (h1 : k0_cond1 i = 1#1) (h2 : k0_cond2 i = 1#1) (h3 : k0_cond3 i = 1#1)
    {o1 : Fin 3 → ℕ} (b1 : ∀ a, o1 a + S1x2048x1024.size a ≤ S2x2048x12288.size a) (e1 : k0_off1 i = o1) {o3 : Fin 3 → ℕ} (b3 : ∀ a, o3 a + S1x2048x1024.size a ≤ S2x2048x12288.size a) (e3 : k0_off3 i = o3)
    (x : Vec F S1024x2048 .bf16) (ci : Vec F S1x64x2048 .f32) (fs : HbBuf (F := F) c hbM) (W : Waits sig Unit) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ (∃ d, owns c.tc scM0 fullShare d)
        ∗ (∃ ds, hbPt c scM1 ds) ∗ semVal (c.tc, SemLoc.dma cc0_scratch2.sem) 0
        ∗ hbPt c (wsl o1 b1) fs
        ∗ hbPt c (wsl o3 b3) fs
        ∗ owes c.tc 0 W
        ∗ (iprop(owns c.tc arg2 fullShare x ∗ owns c.tc arg4 fullShare ci
            ∗ owns c.tc arg5 fullShare (k0_pay5 x (castBlk c o1 b1 fs))
            ∗ owns c.tc arg6 fullShare (k0_pay1 (k0_pay6 x (castBlk c o1 b1 fs)))
            ∗ owns c.tc arg7 fullShare (k0_pay2 ci)
            ∗ owns c.tc scM0 fullShare (castBlk c o1 b1 fs)
            ∗ (∃ d, inflight c o3 b3 fs d)
            ∗ hbPt c (wsl o1 b1) fs
            ∗ (∃ W', owes c.tc 0 W')) -∗ K ⟨⟩))
      ⊢ wp frame (wpE (defs₀ (F := F)) Variants.none c none) Set.univ (body i arg2 harg2 arg4 harg4 arg5 harg5 arg6 harg6 arg7 harg7) K := by
  subst e1
  subst e3
  exact run_A c i arg2 harg2 arg4 harg4 arg5 harg5 arg6 harg6 arg7 harg7 h1 h2 h3 x ci fs W K

theorem run_B (h1 : ¬ k0_cond1 i = 1#1) (h2 : k0_cond2 i = 1#1) (h3 : k0_cond3 i = 1#1)
    (x : Vec F S1024x2048 .bf16) (ci : Vec F S1x64x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ (∃ d, owns c.tc scM0 fullShare d)
        ∗ inflight c (k0_off2 i) (k0_off2_inb i h2) fs ds
        ∗ hbPt c (wsl (k0_off3 i) (k0_off3_inb i h3)) fs
        ∗ owes c.tc 0 W
        ∗ (iprop(owns c.tc arg2 fullShare x ∗ owns c.tc arg4 fullShare ci
            ∗ owns c.tc arg5 fullShare (k0_pay5 x (castBlk c (k0_off2 i) (k0_off2_inb i h2) fs))
            ∗ owns c.tc arg6 fullShare (k0_pay1 (k0_pay6 x (castBlk c (k0_off2 i) (k0_off2_inb i h2) fs)))
            ∗ owns c.tc arg7 fullShare (k0_pay2 ci)
            ∗ owns c.tc scM0 fullShare (castBlk c (k0_off2 i) (k0_off2_inb i h2) fs)
            ∗ (∃ d, inflight c (k0_off3 i) (k0_off3_inb i h3) fs d)
            ∗ hbPt c (wsl (k0_off2 i) (k0_off2_inb i h2)) fs
            ∗ (∃ W', owes c.tc 0 W')) -∗ K ⟨⟩))
      ⊢ wp frame (wpE (defs₀ (F := F)) Variants.none c none) Set.univ (body i arg2 harg2 arg4 harg4 arg5 harg5 arg6 harg6 arg7 harg7) K := by
  unfold body
  rw [cc0_proj_gelu_eq_skeleton]; unfold cc0_proj_gelu_skel
  rw [k0_part1_eq_skeleton]; unfold k0_part1_skel
  unfold owns
  iintro ⟨⟨%f2, %hf2, H2⟩, ⟨%fi, %hfi, Hi⟩, ⟨%d4, %f4, -, H4⟩, ⟨%dS, %fs0, -, Hs⟩, ⟨%dO, %fo, -, Ho⟩, ⟨%d5, %f5, -, H5⟩, HF, Hn, HW, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, hf2]
      unfold run_B.sl.v14 run_B.sl.H5_1
      rw [View.readCov_full]
      unfold run_B.sl.v44
      first | (rw [readCov_whole]; done) | (rw [readCov_whole]; rfl)
  isplitl [Hs]
  · iexists _; isplitr; swap
    · iexact Hs
    · ipureintro
      rw [View.read_writes_full, View.readAt_full, hf2]
      unfold run_B.sl.v14 run_B.sl.H5_1
      rw [View.readCov_full]
      unfold run_B.sl.v44
      first | (rw [readCov_whole]; done) | (rw [readCov_whole]; rfl)
  isplitl [Ho]
  · iexists _; isplitr; swap
    · iexact Ho
    · ipureintro
      rw [View.read_writes_full, View.readAt_full, hfi]
  isplitl [H5]
  · iexists _; isplitr; swap
    · iexact H5
    · ipureintro
      unfold run_B.sl.H5_1
      rw [View.read_writes_full]
      unfold run_B.sl.v44
      first | (rw [readCov_whole]; done) | (rw [readCov_whole]; rfl)
  isplitl [HF]; · iexists _; iexact HF
  isplitl [HF_src]; · iexact HF_src
  · iexists _; iexact HW
/-- The same at offsets in closed form. -/
theorem run_B' (h1 : ¬ k0_cond1 i = 1#1) (h2 : k0_cond2 i = 1#1) (h3 : k0_cond3 i = 1#1)
    {o2 : Fin 3 → ℕ} (b2 : ∀ a, o2 a + S1x2048x1024.size a ≤ S2x2048x12288.size a) (e2 : k0_off2 i = o2) {o3 : Fin 3 → ℕ} (b3 : ∀ a, o3 a + S1x2048x1024.size a ≤ S2x2048x12288.size a) (e3 : k0_off3 i = o3)
    (x : Vec F S1024x2048 .bf16) (ci : Vec F S1x64x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ (∃ d, owns c.tc scM0 fullShare d)
        ∗ inflight c o2 b2 fs ds
        ∗ hbPt c (wsl o3 b3) fs
        ∗ owes c.tc 0 W
        ∗ (iprop(owns c.tc arg2 fullShare x ∗ owns c.tc arg4 fullShare ci
            ∗ owns c.tc arg5 fullShare (k0_pay5 x (castBlk c o2 b2 fs))
            ∗ owns c.tc arg6 fullShare (k0_pay1 (k0_pay6 x (castBlk c o2 b2 fs)))
            ∗ owns c.tc arg7 fullShare (k0_pay2 ci)
            ∗ owns c.tc scM0 fullShare (castBlk c o2 b2 fs)
            ∗ (∃ d, inflight c o3 b3 fs d)
            ∗ hbPt c (wsl o2 b2) fs
            ∗ (∃ W', owes c.tc 0 W')) -∗ K ⟨⟩))
      ⊢ wp frame (wpE (defs₀ (F := F)) Variants.none c none) Set.univ (body i arg2 harg2 arg4 harg4 arg5 harg5 arg6 harg6 arg7 harg7) K := by
  subst e2
  subst e3
  exact run_B c i arg2 harg2 arg4 harg4 arg5 harg5 arg6 harg6 arg7 harg7 h1 h2 h3 x ci fs ds W K

theorem run_C (h1 : ¬ k0_cond1 i = 1#1) (h2 : k0_cond2 i = 1#1) (h3 : ¬ k0_cond3 i = 1#1)
    (x : Vec F S1024x2048 .bf16) (ci : Vec F S1x64x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ (∃ d, owns c.tc scM0 fullShare d)
        ∗ inflight c (k0_off2 i) (k0_off2_inb i h2) fs ds
        ∗ owes c.tc 0 W
        ∗ (iprop(owns c.tc arg2 fullShare x ∗ owns c.tc arg4 fullShare ci
            ∗ owns c.tc arg5 fullShare (k0_pay5 x (castBlk c (k0_off2 i) (k0_off2_inb i h2) fs))
            ∗ owns c.tc arg6 fullShare (k0_pay1 (k0_pay6 x (castBlk c (k0_off2 i) (k0_off2_inb i h2) fs)))
            ∗ owns c.tc arg7 fullShare (k0_pay2 ci)
            ∗ owns c.tc scM0 fullShare (castBlk c (k0_off2 i) (k0_off2_inb i h2) fs)
            ∗ hbPt c (wsl (k0_off2 i) (k0_off2_inb i h2)) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4 arg5 harg5 arg6 harg6 arg7 harg7) K := by
  unfold body
  rw [cc0_proj_gelu_eq_skeleton]; unfold cc0_proj_gelu_skel
  rw [k0_part1_eq_skeleton]; unfold k0_part1_skel
  unfold owns
  iintro ⟨⟨%f2, %hf2, H2⟩, ⟨%fi, %hfi, Hi⟩, ⟨%d4, %f4, -, H4⟩, ⟨%dS, %fs0, -, Hs⟩, ⟨%dO, %fo, -, Ho⟩, ⟨%d5, %f5, -, H5⟩, HF, HW, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, hf2]
      unfold run_C.sl.v14 run_C.sl.H5_1
      rw [View.readCov_full]
      unfold run_C.sl.v44
      first | (rw [readCov_whole]; done) | (rw [readCov_whole]; rfl)
  isplitl [Hs]
  · iexists _; isplitr; swap
    · iexact Hs
    · ipureintro
      rw [View.read_writes_full, View.readAt_full, hf2]
      unfold run_C.sl.v14 run_C.sl.H5_1
      rw [View.readCov_full]
      unfold run_C.sl.v44
      first | (rw [readCov_whole]; done) | (rw [readCov_whole]; rfl)
  isplitl [Ho]
  · iexists _; isplitr; swap
    · iexact Ho
    · ipureintro
      rw [View.read_writes_full, View.readAt_full, hfi]
  isplitl [H5]
  · iexists _; isplitr; swap
    · iexact H5
    · ipureintro
      unfold run_C.sl.H5_1
      rw [View.read_writes_full]
      unfold run_C.sl.v44
      first | (rw [readCov_whole]; done) | (rw [readCov_whole]; rfl)
  isplitl [HF_src]; · iexact HF_src
  isplitl [HF_dst]; · iexists _; iexact HF_dst
  isplitl [HF]; · iexact HF
  · iexists _; iexact HW
/-- The same at offsets in closed form. -/
theorem run_C' (h1 : ¬ k0_cond1 i = 1#1) (h2 : k0_cond2 i = 1#1) (h3 : ¬ k0_cond3 i = 1#1)
    {o2 : Fin 3 → ℕ} (b2 : ∀ a, o2 a + S1x2048x1024.size a ≤ S2x2048x12288.size a) (e2 : k0_off2 i = o2)
    (x : Vec F S1024x2048 .bf16) (ci : Vec F S1x64x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ (∃ d, owns c.tc scM0 fullShare d)
        ∗ inflight c o2 b2 fs ds
        ∗ owes c.tc 0 W
        ∗ (iprop(owns c.tc arg2 fullShare x ∗ owns c.tc arg4 fullShare ci
            ∗ owns c.tc arg5 fullShare (k0_pay5 x (castBlk c o2 b2 fs))
            ∗ owns c.tc arg6 fullShare (k0_pay1 (k0_pay6 x (castBlk c o2 b2 fs)))
            ∗ owns c.tc arg7 fullShare (k0_pay2 ci)
            ∗ owns c.tc scM0 fullShare (castBlk c o2 b2 fs)
            ∗ hbPt c (wsl o2 b2) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4 arg5 harg5 arg6 harg6 arg7 harg7) K := by
  subst e2
  exact run_C c i arg2 harg2 arg4 harg4 arg5 harg5 arg6 harg6 arg7 harg7 h1 h2 h3 x ci fs ds W K

theorem run_D (h1 : ¬ k0_cond1 i = 1#1) (h2 : ¬ k0_cond2 i = 1#1) (h3 : ¬ k0_cond3 i = 1#1)
    (x : Vec F S1024x2048 .bf16) (ci : Vec F S1x64x2048 .f32) (wb : Vec F S2048x1024 .bf16) (K : PUnit → sProp 𝕄) :
    iprop(owns c.tc arg2 fullShare x ∗ owns c.tc arg4 fullShare ci ∗ (∃ d, owns c.tc arg5 fullShare d) ∗ (∃ d, owns c.tc arg6 fullShare d) ∗ (∃ d, owns c.tc arg7 fullShare d)
        ∗ owns c.tc scM0 fullShare wb
        ∗ (iprop(owns c.tc arg2 fullShare x ∗ owns c.tc arg4 fullShare ci
            ∗ owns c.tc arg5 fullShare (k0_pay5 x wb)
            ∗ owns c.tc arg6 fullShare (k0_pay1 (k0_pay6 x wb))
            ∗ owns c.tc arg7 fullShare (k0_pay2 ci)
            ∗ owns c.tc scM0 fullShare wb) -∗ K ⟨⟩))
      ⊢ wp frame (wpE (defs₀ (F := F)) Variants.none c none) Set.univ (body i arg2 harg2 arg4 harg4 arg5 harg5 arg6 harg6 arg7 harg7) K := by
  unfold body
  rw [cc0_proj_gelu_eq_skeleton]; unfold cc0_proj_gelu_skel
  rw [k0_part1_eq_skeleton]; unfold k0_part1_skel
  unfold owns
  iintro ⟨⟨%f2, %hf2, H2⟩, ⟨%fi, %hfi, Hi⟩, ⟨%d4, %f4, -, H4⟩, ⟨%dS, %fs0, -, Hs⟩, ⟨%dO, %fo, -, Ho⟩, ⟨%f5, %hf5, H5⟩, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, View.readAt_full, hf2, hf5]
  isplitl [Hs]
  · iexists _; isplitr; swap
    · iexact Hs
    · ipureintro
      rw [View.read_writes_full, View.readAt_full, View.readAt_full, hf2, hf5]
  isplitl [Ho]
  · iexists _; isplitr; swap
    · iexact Ho
    · ipureintro
      rw [View.read_writes_full, View.readAt_full, hfi]
  · iexists _; isplitr; swap; iexact H5; ipureintro; exact hf5

end Cert.Kernel3Ideal.Hand

end
-- ==== Proof.GeluB.lean ====
module

public import proofs.«01_k».proof.Proof.GeluA

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The program up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem not_written (b : Ref sig .tc) (hb : b ≠ main_v0) : ∀ op ∈ (hostOps0 (F := F)), Proc.devRef .tc b ∉ op.writes := by
  intro op hop
  simp only [List.mem_cons, List.mem_nil_iff, or_false] at hop
  rcases hop with rfl
  exact fun hm => StableHlo.devRef_ne_of_ne hb (Finset.mem_singleton.mp hm)

theorem V_arg0 (c : Dev nD) : V m c main_arg0 = m (c.tc.loc main_arg0) :=
  StableHlo.after_of_forall_not_mem (b := Proc.devRef .tc main_arg0) _ _ (not_written main_arg0 (by decide))
theorem V_arg1 (c : Dev nD) : V m c main_arg1 = m (c.tc.loc main_arg1) :=
  StableHlo.after_of_forall_not_mem (b := Proc.devRef .tc main_arg1) _ _ (not_written main_arg1 (by decide))
theorem V_arg2 (c : Dev nD) : V m c main_arg2 = m (c.tc.loc main_arg2) :=
  StableHlo.after_of_forall_not_mem (b := Proc.devRef .tc main_arg2) _ _ (not_written main_arg2 (by decide))
theorem V_v0 (c : Dev nD) : V m c main_v0 = (truncf .bf16 (m (c.tc.loc main_arg0) : (⟨S16384x2048, .f32⟩ : BufTy).Contents (Elt F)) bitsLt_bf16_f32 : (⟨S16384x2048, .bf16⟩ : BufTy).Contents (Elt F)) := by
  rfl

/-! ## Where the grid's points lie -/

/-- Block `k` of the weights: its offsets. -/
def boff (k : ℕ) : Fin 3 → ℕ := ![0, 0, 4096 + 1024 * (k % 4)]
theorem boff_inb (k : ℕ) : ∀ a, boff k a + S1x2048x1024.size a ≤ S2x2048x12288.size a := by
  intro a
  have : k % 4 < 4 := Nat.mod_lt _ (by decide)
  match a with
  | 0 => show (0 : ℕ) + 1 ≤ 2; omega
  | 1 => show (0 : ℕ) + 2048 ≤ 2048; omega
  | 2 => show 4096 + 1024 * (k % 4) + 1024 ≤ 12288; omega

theorem cond1_iff : ∀ t : Fin grid0.N, k0_cond1 (grid0.coords t) = 1#1 ↔ t.val = 0 := by decide +kernel
theorem cond2_iff : ∀ t : Fin grid0.N, k0_cond2 (grid0.coords t) = 1#1 ↔ t.val % 16 = 0 := by decide +kernel
theorem cond3_iff : ∀ t : Fin grid0.N, k0_cond3 (grid0.coords t) = 1#1 ↔ t.val % 16 = 0 ∧ t.val < 48 := by decide +kernel
theorem off1_at : ∀ t : Fin grid0.N, t.val = 0 → k0_off1 (grid0.coords t) = boff 0 := by decide +kernel
theorem off2_at : ∀ t : Fin grid0.N, k0_off2 (grid0.coords t) = boff (t.val / 16) := by decide +kernel
theorem off3_at : ∀ t : Fin grid0.N, t.val < 48 → k0_off3 (grid0.coords t) = boff (t.val / 16 + 1) := by decide +kernel

/-- The elements of block `k` in the weights' buffer. -/
abbrev wset (k : ℕ) := (wsl (boff k) (boff_inb k)).view.set

theorem wset_disj {j k : ℕ} (h : j % 4 ≠ k % 4) : wset k ⊆ hbM.view.set \ wset j := by
  intro x hx
  have e (k : ℕ) : wset k = (Rect.unit (s := S2x2048x12288) (boff k) S1x2048x1024.size (boff_inb k)).set :=
    (View.set_reshape _ _).trans (View.set_slice_whole _ _)
  rw [e] at hx ⊢
  rw [Finset.mem_sdiff]
  refine ⟨by rw [show hbM.view.set = Finset.univ from View.set_whole _]; exact Finset.mem_univ _, fun hy => ?_⟩
  have h1 := Rect.mem_set_unit.1 hx 2
  have h2 := Rect.mem_set_unit.1 hy 2
  have e1 (k : ℕ) : boff k 2 = 4096 + 1024 * (k % 4) := rfl
  have e2 : S1x2048x1024.size 2 = 1024 := rfl
  rw [e1, e2] at h1 h2
  omega

theorem wset_sub (k : ℕ) : wset k ⊆ hbM.view.set := fun x hx => by
  rw [show hbM.view.set = Finset.univ from View.set_whole _]; exact Finset.mem_univ _

end Cert.Kernel3Ideal.Hand

end
-- ==== Proof.GeluC.lean ====
module

public import proofs.«01_k».proof.Proof.GeluB

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The weights as the region finds them. -/
abbrev wts (c : Dev nD) : HbBuf (F := F) c hbM := V m c main_arg1
/-- The cast of block `k`. -/
abbrev wb (c : Dev nD) (k : ℕ) : Vec F S2048x1024 .bf16 := castBlk c (boff k) (boff_inb k) (wts m c)

/-- The staging buffer free, its cell at zero, the weights whole. -/
def idle (c : Dev nD) : sProp 𝕄 :=
  iprop((∃ ds, hbPt c scM1 ds) ∗ semVal (c.tc, SemLoc.dma cc0_scratch2.sem) 0 ∗ hbPt c hbM (wts m c))
/-- Block `k` in flight, the rest of the weights held. -/
def flying (c : Dev nD) (k : ℕ) : sProp 𝕄 :=
  iprop((∃ d, inflight c (boff k) (boff_inb k) (wts m c) d) ∗ (hbM.view.loc c.tc ↦[hbM.view.set \ wset k]{fullShare} wts m c))
/-- Before point `p`: nothing consumed at `0`; else block `(p - 1) / 16` cast, the next one in flight if there is one. -/
def inv (c : Dev nD) (p : ℕ) : sProp 𝕄 :=
  if p = 0 then iprop((∃ d, owns c.tc scM0 fullShare d) ∗ idle m c)
  else if (p - 1) / 16 + 1 < 4 then iprop(owns c.tc scM0 fullShare (wb m c ((p - 1) / 16)) ∗ flying m c ((p - 1) / 16 + 1))
  else iprop(owns c.tc scM0 fullShare (wb m c ((p - 1) / 16)) ∗ idle m c)

theorem inv_zero (c : Dev nD) : inv m c 0 = iprop((∃ d, owns c.tc scM0 fullShare d) ∗ idle m c) := by
  unfold inv; rw [if_pos rfl]
theorem inv_mid (c : Dev nD) {p k : ℕ} (h0 : p ≠ 0) (hk : (p - 1) / 16 = k) (h : k + 1 < 4) :
    inv m c p = iprop(owns c.tc scM0 fullShare (wb m c k) ∗ flying m c (k + 1)) := by
  subst hk; unfold inv; rw [if_neg h0, if_pos h]
theorem inv_end (c : Dev nD) {p k : ℕ} (h0 : p ≠ 0) (hk : (p - 1) / 16 = k) (h : ¬ k + 1 < 4) :
    inv m c p = iprop(owns c.tc scM0 fullShare (wb m c k) ∗ idle m c) := by
  subst hk; unfold inv; rw [if_neg h0, if_neg h]

/-! ## The proof data -/

abbrev ms0_0 (t : Fin cfg0.N) : Memref sig .tc .vmem S1024x2048 .bf16 := win0_0.stage (cfg0.slots t 0)
abbrev ms0_1 (t : Fin cfg0.N) : Memref sig .tc .vmem S1x64x2048 .f32 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1x1024x1 .f32 := win0_3.stage (cfg0.slots t 3)
abbrev ms0_4 (t : Fin cfg0.N) : Memref sig .tc .vmem S64x2048 .bf16 := win0_4.stage (cfg0.slots t 4)

/-- Window `w`'s block of its array at point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result at point `t`. -/
def outAt (c : Dev nD) (t : Fin cfg0.N) : Vec F S1024x1024 .bf16 := k0_pay5 (iblk m c 0 t) (wb m c (t.val / 16))
/-- The sums of squares of its rows. -/
def ssqAt (c : Dev nD) (t : Fin cfg0.N) : Vec F S1x1024x1 .f32 := k0_pay1 (k0_pay6 (iblk m c 0 t) (wb m c (t.val / 16)))
/-- The slab of the other weights cast at point `t`. -/
def castAt (c : Dev nD) (t : Fin cfg0.N) : Vec F S64x2048 .bf16 := k0_pay2 (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
    | ⟨3, _⟩ => ssqAt m c t
    | ⟨4, _⟩ => castAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem after0_3 (c : Dev nD) (t : Fin cfg0.N) : (dats m 0 c).after 3 t = ssqAt m c t := by dsimp only [dats]
theorem after0_4 (c : Dev nD) (t : Fin cfg0.N) : (dats m 0 c).after 4 t = castAt m c t := by dsimp only [dats]

theorem before0_0 (c : Dev nD) (t : Fin cfg0.N) (d : ((cfg0.win 0).xblock (cfg0.grid.coords t)).Idx → Elt F (cfg0.win 0).elt) : (dats m 0 c).before 0 t d = iblk m c 0 t :=
  (Dat.before_in_eq_fetched (dats m 0 c) 0 rfl (fun _ => rfl) (fun _ _ _ => rfl)
    (fun t => by rw [after0_0]; unfold Dat.blockOf iblk; rw [A_eq]; try rfl) t d).trans (by unfold Dat.fetched Dat.blockOf iblk; rw [A_eq]; try rfl)

theorem before0_1 (c : Dev nD) (t : Fin cfg0.N) (d : ((cfg0.win 1).xblock (cfg0.grid.coords t)).Idx → Elt F (cfg0.win 1).elt) : (dats m 0 c).before 1 t d = iblk m c 1 t :=
  (Dat.before_in_eq_fetched (dats m 0 c) 1 rfl (fun _ => rfl) (fun _ _ _ => rfl)
    (fun t => by rw [after0_1]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t))

/-- What the body is called with, and what it leaves, over the invariant and the operands' contents. -/
def pre (c : Dev nD) (t : Fin cfg0.N) (W : Waits sig Unit) : sProp 𝕄 :=
  iprop(inv m c t.val ∗ owes c.tc 0 W ∗ owns c.tc (ms0_0 t) fullShare (iblk m c 0 t)
    ∗ owns c.tc (ms0_1 t) fullShare (iblk m c 1 t)
    ∗ (∃ d, owns c.tc (ms0_2 t) fullShare d)
    ∗ (∃ d, owns c.tc (ms0_3 t) fullShare d)
    ∗ (∃ d, owns c.tc (ms0_4 t) fullShare d))
def post (c : Dev nD) (t : Fin cfg0.N) : sProp 𝕄 :=
  iprop(inv m c (t.val + 1) ∗ (∃ W', owes c.tc 0 W') ∗ owns c.tc (ms0_0 t) fullShare (iblk m c 0 t)
    ∗ owns c.tc (ms0_1 t) fullShare (iblk m c 1 t)
    ∗ owns c.tc (ms0_2 t) fullShare (outAt m c t)
    ∗ owns c.tc (ms0_3 t) fullShare (ssqAt m c t)
    ∗ owns c.tc (ms0_4 t) fullShare (castAt m c t))

theorem point_D (c : Dev nD) (t : Fin cfg0.N) (h : t.val % 16 ≠ 0) (W : Waits sig Unit) :
    pre m c t W ⊢ wp frame (wpE (defs₀ (F := F)) Variants.none c none) Set.univ (bodyAt0 t) (fun _ => post m c t) := by
  unfold pre post outAt ssqAt castAt
  have e : ∃ R : sProp 𝕄, inv m c t.val = iprop(owns c.tc scM0 fullShare (wb m c (t.val / 16)) ∗ R)
      ∧ inv m c (t.val + 1) = iprop(owns c.tc scM0 fullShare (wb m c (t.val / 16)) ∗ R) := by
    by_cases hk : t.val / 16 + 1 < 4
    · exact ⟨_, inv_mid m c (by omega) (by omega) hk, inv_mid m c (by omega) (by omega) hk⟩
    · exact ⟨_, inv_end m c (by omega) (by omega) hk, inv_end m c (by omega) (by omega) hk⟩
  obtain ⟨R, e0, e1⟩ := e
  rw [e0, e1]
  iintro ⟨⟨H5, HR⟩, HW, H2, Hi, H4, Hs, Ho⟩
  iapply (run_D c (grid0.coords t) (ms0_0 t) _ (ms0_1 t) _ (ms0_2 t) _ (ms0_3 t) _ (ms0_4 t) _ (fun hc => h (by rw [(cond1_iff t).1 hc]))
    (fun hc => h ((cond2_iff t).1 hc)) (fun hc => h ((cond3_iff t).1 hc).1) (iblk m c 0 t) (iblk m c 1 t) (wb m c (t.val / 16)) _)
  isplitl [H2]; · iexact H2
  isplitl [Hi]; · iexact Hi
  isplitl [H4]; · iexact H4
  isplitl [Hs]; · iexact Hs
  isplitl [Ho]; · iexact Ho
  isplitl [H5]; · iexact H5
  iintro ⟨H2, Hi, H4, Hs, Ho, H5⟩
  isplitl [H5 HR]
  · isplitl [H5]; · iexact H5
    iexact HR
  isplitl [HW]; · iexists _; iexact HW
  isplitl [H2]; · iexact H2
  isplitl [Hi]; · iexact Hi
  isplitl [H4]; · iexact H4
  isplitl [Hs]; · iexact Hs
  iexact Ho

/-- A block handed back goes into the rest that lacks it and the next one. -/
theorem rejoin (c : Dev nD) {j k : ℕ} (h : j % 4 ≠ k % 4) (f : HbBuf (F := F) c hbM) :
    iprop((hbM.view.loc c.tc ↦[wset j]{fullShare} f) ∗ (hbM.view.loc c.tc ↦[(hbM.view.set \ wset j) \ wset k]{fullShare} f))
      ⊢ (hbM.view.loc c.tc ↦[hbM.view.set \ wset k]{fullShare} f : sProp 𝕄) := by
  rw [sdiff_right_comm]
  exact (pointsTo_split_subset (wset_disj (Ne.symm h))).2

theorem point_A (c : Dev nD) (t : Fin cfg0.N) (h : t.val = 0) (W : Waits sig Unit) :
    pre m c t W ⊢ wp frame (wpE (defs₀ (F := F)) Variants.none c none) Set.univ (bodyAt0 t) (fun _ => post m c t) := by
  unfold pre post outAt ssqAt castAt
  rw [h, inv_zero, inv_mid m c (p := 0 + 1) (k := 0) (by decide) (by decide) (by decide)]
  unfold idle flying
  iintro ⟨⟨H5, HS, HF, Hw⟩, HW, H2, Hi, H4, Hs, Ho⟩
  ihave ⟨Hw0, Hw⟩ := (pointsTo_split_subset (wset_sub 0)).1 $$ Hw
  ihave ⟨Hw1, Hw⟩ := (pointsTo_split_subset (wset_disj (j := 0) (k := 1) (by decide))).1 $$ Hw
  iapply (run_A' c (grid0.coords t) (ms0_0 t) _ (ms0_1 t) _ (ms0_2 t) _ (ms0_3 t) _ (ms0_4 t) _ ((cond1_iff t).2 h)
    ((cond2_iff t).2 (by omega)) ((cond3_iff t).2 (by omega)) (boff_inb 0) (off1_at t h) (boff_inb 1)
    ((off3_at t (by omega)).trans (by rw [h])) (iblk m c 0 t) (iblk m c 1 t) (wts m c) W _)
  isplitl [H2]; · iexact H2
  isplitl [Hi]; · iexact Hi
  isplitl [H4]; · iexact H4
  isplitl [Hs]; · iexact Hs
  isplitl [Ho]; · iexact Ho
  isplitl [H5]; · iexact H5
  isplitl [HS]; · iexact HS
  isplitl [HF]; · iexact HF
  isplitl [Hw0]; · iexact Hw0
  isplitl [Hw1]; · iexact Hw1
  isplitl [HW]; · iexact HW
  iintro ⟨H2, Hi, H4, Hs, Ho, H5, HF, Hw0, HW⟩
  isplitl [H5 HF Hw Hw0]
  · isplitl [H5]; · iexact H5
    isplitl [HF]; · iexact HF
    iapply (rejoin (F := F) c (j := 0) (k := 1) (by decide) (wts m c))
    isplitl [Hw0]; · iexact Hw0
    iexact Hw
  isplitl [HW]; · iexact HW
  isplitl [H2]; · iexact H2
  isplitl [Hi]; · iexact Hi
  isplitl [H4]; · iexact H4
  isplitl [Hs]; · iexact Hs
  iexact Ho
theorem point_B (c : Dev nD) (t : Fin cfg0.N) (h0 : t.val ≠ 0) (h : t.val % 16 = 0) (hn : t.val < 48) (W : Waits sig Unit) :
    pre m c t W ⊢ wp frame (wpE (defs₀ (F := F)) Variants.none c none) Set.univ (bodyAt0 t) (fun _ => post m c t) := by
  unfold pre post outAt ssqAt castAt
  obtain ⟨k, hk⟩ : ∃ k, t.val / 16 = k + 1 := ⟨t.val / 16 - 1, by omega⟩
  rw [inv_mid m c (p := t.val) (k := k) h0 (by omega) (by omega),
    inv_mid m c (p := t.val + 1) (k := k + 1) (by omega) (by omega) (by omega), hk]
  unfold flying
  iintro ⟨⟨H5, ⟨%ds, HF⟩, Hw⟩, HW, H2, Hi, H4, Hs, Ho⟩
  ihave ⟨Hw1, Hw⟩ := (pointsTo_split_subset (wset_disj (j := k + 1) (k := k + 1 + 1) (by omega))).1 $$ Hw
  iapply (run_B' c (grid0.coords t) (ms0_0 t) _ (ms0_1 t) _ (ms0_2 t) _ (ms0_3 t) _ (ms0_4 t) _ (fun hc => h0 ((cond1_iff t).1 hc))
    ((cond2_iff t).2 h) ((cond3_iff t).2 ⟨h, hn⟩) (boff_inb (k + 1)) ((off2_at t).trans (by rw [hk])) (boff_inb (k + 1 + 1))
    ((off3_at t hn).trans (by rw [hk])) (iblk m c 0 t) (iblk m c 1 t) (wts m c) ds W _)
  isplitl [H2]; · iexact H2
  isplitl [Hi]; · iexact Hi
  isplitl [H4]; · iexact H4
  isplitl [Hs]; · iexact Hs
  isplitl [Ho]; · iexact Ho
  isplitl [H5]; · iexists _; iexact H5
  isplitl [HF]; · iexact HF
  isplitl [Hw1]; · iexact Hw1
  isplitl [HW]; · iexact HW
  iintro ⟨H2, Hi, H4, Hs, Ho, H5, HF, Hw0, HW⟩
  isplitl [H5 HF Hw Hw0]
  · isplitl [H5]; · iexact H5
    isplitl [HF]; · iexact HF
    iapply (rejoin (F := F) c (j := k + 1) (k := k + 1 + 1) (by omega) (wts m c))
    isplitl [Hw0]; · iexact Hw0
    iexact Hw
  isplitl [HW]; · iexact HW
  isplitl [H2]; · iexact H2
  isplitl [Hi]; · iexact Hi
  isplitl [H4]; · iexact H4
  isplitl [Hs]; · iexact Hs
  iexact Ho

theorem point_C (c : Dev nD) (t : Fin cfg0.N) (h : t.val = 48) (W : Waits sig Unit) :
    pre m c t W ⊢ wp frame (wpE (defs₀ (F := F)) Variants.none c none) Set.univ (bodyAt0 t) (fun _ => post m c t) := by
  unfold pre post outAt ssqAt castAt
  rw [inv_mid m c (p := t.val) (k := 2) (by omega) (by omega) (by omega),
    inv_end m c (p := t.val + 1) (k := 3) (by omega) (by omega) (by omega), show t.val / 16 = 3 by omega]
  unfold flying idle
  iintro ⟨⟨H5, ⟨%ds, HF⟩, Hw⟩, HW, H2, Hi, H4, Hs, Ho⟩
  iapply (run_C' c (grid0.coords t) (ms0_0 t) _ (ms0_1 t) _ (ms0_2 t) _ (ms0_3 t) _ (ms0_4 t) _ (fun hc => by have := (cond1_iff t).1 hc; omega)
    ((cond2_iff t).2 (by omega)) (fun hc => by have := (cond3_iff t).1 hc; omega) (boff_inb 3) ((off2_at t).trans (by rw [h]))
    (iblk m c 0 t) (iblk m c 1 t) (wts m c) ds W _)
  isplitl [H2]; · iexact H2
  isplitl [Hi]; · iexact Hi
  isplitl [H4]; · iexact H4
  isplitl [Hs]; · iexact Hs
  isplitl [Ho]; · iexact Ho
  isplitl [H5]; · iexists _; iexact H5
  isplitl [HF]; · iexact HF
  isplitl [HW]; · iexact HW
  iintro ⟨H2, Hi, H4, Hs, Ho, H5, Hw0, HS, HF, HW⟩
  isplitl [H5 HF HS Hw Hw0]
  · isplitl [H5]; · iexact H5
    isplitl [HS]; · iexact HS
    isplitl [HF]; · iexact HF
    iapply (pointsTo_split_subset (wset_sub 3)).2
    isplitl [Hw0]; · iexact Hw0
    iexact Hw
  isplitl [HW]; · iexact HW
  isplitl [H2]; · iexact H2
  isplitl [Hi]; · iexact Hi
  isplitl [H4]; · iexact H4
  isplitl [Hs]; · iexact Hs
  iexact Ho

theorem point (c : Dev nD) (t : Fin cfg0.N) (W : Waits sig Unit) :
    pre m c t W ⊢ wp frame (wpE (defs₀ (F := F)) Variants.none c none) Set.univ (bodyAt0 t) (fun _ => post m c t) := by
  have ht : t.val < 64 := lt_of_lt_of_eq t.isLt N_0
  by_cases h : t.val % 16 = 0
  · by_cases h0 : t.val = 0
    · exact point_A m c t h0 W
    · by_cases hn : t.val < 48
      · exact point_B m c t h0 h hn W
      · exact point_C m c t (by omega) W
  · exact point_D m c t h W

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [after0_0, after0_1, after0_2, after0_3, after0_4]
  unfold Dat.owesAt Pipeline.owesWithin
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owed t.castSucc = 0 from rfl, show (dats m 0 c).owed t.succ = 0 from rfl]
  iintro ⟨⟨Hg, HI⟩, ⟨%W, -, HW⟩, ⟨%d0, H0⟩, ⟨%d1, H1⟩, ⟨%d2, H2⟩, ⟨%d3, H3⟩, ⟨%d4, H4⟩⟩
  iapply (wp_wand_r frame (wpE (defs₀ (F := F)) Variants.none c none) Set.univ (Q := fun _ => post m c t))
  isplitl [HI HW H0 H1 H2 H3 H4]
  · iapply (point m c t W)
    unfold pre
    isplitl [HI]; · iexact HI
    isplitl [HW]; · iexact HW
    isplitl [H0]; · iexact H0
    isplitl [H1]; · iexact H1
    isplitl [H2]; · iexists _; iexact H2
    isplitl [H3]; · iexists _; iexact H3
    iexists _; iexact H4
  iintro %_ Hp
  unfold post
  icases Hp with ⟨HI, ⟨%W', HW⟩, H0, H1, H2, H3, H4⟩
  isplitl [Hg HI]
  · isplitl [Hg]; · iexact Hg
    iexact HI
  isplitl [HW]
  · iexists W'; isplitr
    · ipureintro; exact fun _ _ => Or.inl trivial
    · iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma cc0_scratch2.sem) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c.tc.loc main_arg1) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns c.tc scM0 fullShare d) ∗ (∃ ds, hbPt c scM1 ds)) ∗ (∃ r, prngReg c r)
          ∗ semVal (c.tc, SemLoc.dma cc0_scratch2.sem) 0 ∗ hbPt c hbM (wts m c)) := by
  rw [Pipeline.ΦD_eq, scopedRest0_eq, ownSems00_eq, hbmPts0_eq]
  simp only [scM0, hbPt, scM1, hbM, owns_whole, Memref.view_whole, View.set_whole]; try rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ inv m c 0) from rfl, inv_zero]
  unfold idle
  iintro ⟨⟨H5, HS⟩, Hg, HF, Hw⟩
  isplitl [Hg]; · iexact Hg
  isplitl [H5]; · iexact H5
  isplitl [HS]; · iexact HS
  isplitl [HF]; · iexact HF
  iexact Hw

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = iprop((∃ r, prngReg c r) ∗ inv m c grid0.N) from rfl, N_0,
    inv_end m c (p := 64) (k := 3) (by decide) (by decide) (by decide)]
  unfold idle
  iintro ⟨Hg, H5, HS, HF, Hw⟩
  isplitl [H5 HS]
  · isplitl [H5]; · iexists _; iexact H5
    iexact HS
  isplitl [Hg]; · iexact Hg
  isplitl [HF]; · iexact HF
  iexact Hw

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result arrays as the write-backs leave them, the arguments as they were, every cell at zero. -/
theorem run : θ_run defs (onTc (τ := τ) (main (F := F))) ⟨m, fun _ => 0, ρ⟩ (fun r => (∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_v1_2) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 2, (h.1 c).1 3, (h.1 c).1 4,
    ((h.1 c).2 main_arg0 (Pipeline.mem_restRefs_of main_arg0 (by decide) (by decide))).trans (V_arg0 m c),
    ((h.1 c).2 main_arg1 (Pipeline.mem_restRefs_of main_arg1 (by decide) (by decide))).trans (V_arg1 m c),
    ((h.1 c).1 1).trans ((Dat.arrAt_in (dats m 0 c) 1 rfl _).trans ((A_eq m c 1).trans (V_arg2 m c)))⟩, h.2⟩) (run_main m ρ)

end Cert.Kernel3Ideal.Hand

end
-- ==== Proof.GeluV.lean ====
module

public import proofs.«01_k».proof.Proof.GeluC
public import proofs.«01_k».proof.Proof.Words
public import proofs.«01_k».proof.Pre_real3
public import proofs.«01_k».proof.Proof.Gen.Reference3Ideal.Run
public import proofs.«01_k».proof.Proof.Gen.Reference3Ideal.Read
public import Idealize.ShloMosaic.Lib.Pipeline.ValueKit.Geometry

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The precondition -/

instance pre_facts : Cert.Pre_real3.Facts := ⟨by decide, by decide, by decide, by decide, by decide⟩

/-- Where the activations and the weights are real numbers, each element is one. -/
theorem real_args (h : (⟨S16384x2048, .f32⟩ : BufTy).Contents (Elt Ideal)) (w : (⟨S2x2048x12288, .f32⟩ : BufTy).Contents (Elt Ideal))
    (wo : (⟨S2x4096x2048, .f32⟩ : BufTy).Contents (Elt Ideal)) (hp : Cert.Pre_real3.fn (F := Ideal) h w wo = fun _ => 1#1) :
    (∀ i, ∃ r : ℝ, h i = (r : EReal)) ∧ (∀ i, ∃ r : ℝ, w i = (r : EReal)) := by
  have e := congrFun hp (fun a => a.elim0)
  obtain ⟨e1, e2⟩ := IntOp.andi_eq_one.1 e
  haveI : Subsingleton Cert.Pre_real3.S_.Idx := ⟨fun a b => funext fun x => x.elim0⟩
  exact ⟨fun i => Cert.Words.real_of_abs (Host.reduce_andi_all _ _ _ _ _ e1 i), fun i => Cert.Words.real_of_abs (Host.reduce_andi_all _ _ _ _ _ e2 i)⟩

/-! ## The functions -/

/-- The branch before its activation: row `a` of the activations by column `4096 + b` of layer 0's weights. -/
def X (h : (⟨S16384x2048, .f32⟩ : BufTy).Contents (Elt Ideal)) (w : (⟨S2x2048x12288, .f32⟩ : BufTy).Contents (Elt Ideal))
    (a : Fin 16384) (b : Fin 4096) : EReal :=
  ∑ k : Fin 2048, h (ix2 a k) * w (ix3 (0 : Fin 2) k (⟨4096 + b.val, by omega⟩ : Fin 12288))
/-- The gelu in the reference's order. -/
def gelu (x : EReal) : EReal := x * (Ideal.ofBits .f32 0x3F000000#32 * (Ideal.ofBits .f32 0x3F800000#32
  + Ideal.tanh (Ideal.ofBits .f32 0x3F4C422A#32 * (x + Ideal.ofBits .f32 0x3D372713#32 * (x * x * x)))))
/-- The gelu as the body takes it. -/
def act (x : EReal) : EReal := Ideal.ofBits .f32 0x3F000000#32 * x + Ideal.ofBits .f32 0x3F000000#32 * x
  * Ideal.tanh (x * (Ideal.ofBits .f32 0x3F4C422A#32 + ((80338380498831 / 2251799813685248 : ℝ) : EReal) * (x * x)))
theorem act_eq {x : EReal} (h : ∃ r : ℝ, x = (r : EReal)) : act x = gelu x := Cert.Words.gelu_eq h
/-- The branch. -/
def G (h : (⟨S16384x2048, .f32⟩ : BufTy).Contents (Elt Ideal)) (w : (⟨S2x2048x12288, .f32⟩ : BufTy).Contents (Elt Ideal)) :
    (⟨S16384x4096, .bf16⟩ : BufTy).Contents (Elt Ideal) :=
  fun y => gelu (X h w (y 0) (y 1))
/-- The sums of its squares over each block of 1024 columns. -/
def GS (h : (⟨S16384x2048, .f32⟩ : BufTy).Contents (Elt Ideal)) (w : (⟨S2x2048x12288, .f32⟩ : BufTy).Contents (Elt Ideal)) :
    (⟨S4x16384x1, .f32⟩ : BufTy).Contents (Elt Ideal) :=
  fun y => ∑ k : Fin 1024, gelu (X h w (y 1) (⟨(y 0).val * 1024 + k.val, by have : (y 0).val < 4 := (y 0).isLt; omega⟩ : Fin 4096))
    * gelu (X h w (y 1) (⟨(y 0).val * 1024 + k.val, by have : (y 0).val < 4 := (y 0).isLt; omega⟩ : Fin 4096))
/-- The other weights, cast. -/
def GW (wo : (⟨S2x4096x2048, .f32⟩ : BufTy).Contents (Elt Ideal)) : (⟨S4096x2048, .bf16⟩ : BufTy).Contents (Elt Ideal) :=
  fun y => wo (ix3 (0 : Fin 2) (y 0) (y 1))

/-- The body's product at an index. -/
def dotAt (x : Vec Ideal S1024x2048 .bf16) (w : Vec Ideal S2048x1024 .f32) (a : Fin 1024) (b : Fin 1024) : EReal :=
  ∑ k : Fin 2048, x (ix2 a k) * w (ix2 k b)

theorem kappa_eq : (Named.named κ "gelu_ca" 0x3D122279#32 : Ideal .f32) = ((80338380498831 / 2251799813685248 : ℝ) : EReal) :=
  IdealRules.named_const.ideal_named_scalar κ "gelu_ca" (φ := .f32) 0x3D122279#32 _ rfl

theorem pay4_apply (x : Vec Ideal S1024x2048 .bf16) (w : Vec Ideal S2048x1024 .f32) (a : Fin 1024) (b : Fin 1024) :
    k0_pay4 (F := Ideal) x (k0_pay3 w) (ix2 a b) = act (dotAt x w a b) := by
  unfold act dotAt
  rw [← kappa_eq]
  pointwise [k0_pay4, k0_pay3]
theorem pay_apply (x : Vec Ideal S1024x2048 .bf16) (w : Vec Ideal S2048x1024 .f32) (a : Fin 1024) (b : Fin 1024) :
    k0_pay5 (F := Ideal) x (k0_pay3 w) (ix2 a b) = act (dotAt x w a b) := pay4_apply x w a b
theorem sq_apply (v : FVec Ideal S1024x1024 .f32) (a : Fin 1024) :
    shapeCast S1024x1 (multiReduction .add [1] S1024 (mulf v v) 0x00000000#32 reduces_S1024x1024_S1024 (.inl rfl) rfl) shapeCasts_S1024_S1024x1 (ix2 a (0 : Fin 1))
      = ∑ k : Fin 1024, v (ix2 a k) * v (ix2 a k) := by
  pointwise []
theorem ssq_apply (x : Vec Ideal S1024x2048 .bf16) (w : Vec Ideal S2048x1024 .f32) (a : Fin 1024) :
    k0_pay1 (F := Ideal) (k0_pay6 x (k0_pay3 w)) (ix3 (0 : Fin 1) a (0 : Fin 1)) = ∑ k : Fin 1024, act (dotAt x w a k) * act (dotAt x w a k) := by
  unfold k0_pay1
  refine (shapeCast_apply (k0_pay6 (F := Ideal) x (k0_pay3 w)) shapeCasts_S1024x1_S1x1024x1 (ix3 (0 : Fin 1) a (0 : Fin 1)) (ix2 a (0 : Fin 1)) (by
    rewrite [Shape.rowMajor_val_three, Shape.rowMajor_val_two]
    show a.val * 1 + 0 = (0 * 1024 + a.val) * 1 + 0
    omega)).trans ?_
  refine (sq_apply (k0_pay4 (F := Ideal) x (k0_pay3 w)) a).trans ?_
  simp only [pay4_apply]

theorem cast_apply (ci : Vec Ideal S1x64x2048 .f32) (a : Fin 64) (b : Fin 2048) :
    k0_pay2 (F := Ideal) ci (ix2 a b) = ci (ix3 (0 : Fin 1) a b) :=
  shapeCast_apply ci shapeCasts_S1x64x2048_S64x2048 (ix2 a b) (ix3 (0 : Fin 1) a b) (by
    rewrite [Shape.rowMajor_val_three, Shape.rowMajor_val_two]
    show (0 * 64 + a.val) * 2048 + b.val = a.val * 2048 + b.val
    omega)

/-- Dropping the unit axis, at an index. -/
theorem drop_apply {α : Type} (y : S1x2048x1024.Idx → α) (h : S1x2048x1024.ShapeCasts S2048x1024) (a : Fin 2048) (b : Fin 1024) :
    shapeCast S2048x1024 y h (ix2 a b) = y (ix3 (0 : Fin 1) a b) :=
  shapeCast_apply y h (ix2 a b) (ix3 (0 : Fin 1) a b) (by
    rewrite [Shape.rowMajor_val_three, Shape.rowMajor_val_two]
    show (0 * 2048 + a.val) * 1024 + b.val = a.val * 1024 + b.val
    omega)

/-- Block `k` of the weights at an index. -/
theorem wblk_apply (c : Dev nD) (k : ℕ) (f : HbBuf (F := Ideal) c hbM) (a : Fin 2048) (b : Fin 1024) :
    (wsl (boff k) (boff_inb k)).view.read (Elt Ideal) f (ix2 a b)
      = f (ix3 (0 : Fin 2) a (⟨4096 + 1024 * (k % 4) + b.val, by omega⟩ : Fin 12288)) := by
  have hc : S1x2048x1024.ShapeCasts S2048x1024 := by decide
  refine (congrFun (Memref.read_squeeze_slice hbM (Rect.unit (s := S2x2048x12288) (boff k) S1x2048x1024.size (boff_inb k)) (fun _ => rfl)
    squeezes_S1x2048x1024_S2048x1024 hc f) (ix2 a b)).trans ?_
  refine (drop_apply _ hc a b).trans ?_
  refine congrArg f (funext fun x => Fin.ext ?_)
  match x with
  | 0 => rfl
  | 1 => show 0 + 1 * a.val = a.val; omega
  | 2 => show 4096 + 1024 * (k % 4) + 1 * b.val = 4096 + 1024 * (k % 4) + b.val; omega

theorem idx0 : ∀ t : Fin cfg0.N, win0_0.index t = ![t.val % 16, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![t.val / 16, t.val % 16, 0] := (by decide +kernel : ∀ t : Fin grid0.N, _)
theorem idx4 : ∀ t : Fin cfg0.N, win0_4.index t = ![t.val, 0] := (by decide +kernel : ∀ t : Fin grid0.N, _)

/-- The body's product at a point is the gate's before its activation. -/
theorem dot_point (c : Dev nD) (t : Fin cfg0.N) (a : Fin 1024) (b : Fin 1024) (A : Fin 16384) (B : Fin 4096)
    (hA : A.val = t.val % 16 * 1024 + a.val) (hB : B.val = t.val / 16 * 1024 + b.val) :
    dotAt (iblk m c 0 t) ((wsl (boff (t.val / 16)) (boff_inb (t.val / 16))).view.read (Elt Ideal) (wts m c)) a b
      = X (m (c.tc.loc main_arg0)) (m (c.tc.loc main_arg1)) A B := by
  have ht : t.val < 64 := lt_of_lt_of_eq t.isLt N_0
  unfold dotAt X
  refine Finset.sum_congr (M := EReal) rfl fun k _ => ?_
  refine congrArg₂ (fun p q : EReal => p * q) ?_ ((wblk_apply c (t.val / 16) (wts m c) k b).trans ?_)
  · blk_simp [iblk]
    rw [V_v0]
    refine congrArg (m (c.tc.loc main_arg0)) ?_
    blk_ext [idx0, hA]
  · unfold wts
    rw [V_arg1]
    refine congrArg (m (c.tc.loc main_arg1)) (funext fun x => Fin.ext ?_)
    match x with
    | 0 => rfl
    | 1 => rfl
    | 2 => show 4096 + 1024 * (t.val / 16 % 4) + b.val = 4096 + B.val; omega

theorem X_real {h : (⟨S16384x2048, .f32⟩ : BufTy).Contents (Elt Ideal)} {w : (⟨S2x2048x12288, .f32⟩ : BufTy).Contents (Elt Ideal)}
    (hh : ∀ i, ∃ r : ℝ, h i = (r : EReal)) (hw : ∀ i, ∃ r : ℝ, w i = (r : EReal)) (a : Fin 16384) (b : Fin 4096) : ∃ r : ℝ, X h w a b = (r : EReal) :=
  Cert.Words.real_sum _ _ (fun _ => hh _) (fun _ => hw _)

theorem final (c : Dev nD) (hh : ∀ i, ∃ r : ℝ, m (c.tc.loc main_arg0) i = (r : EReal))
    (hw : ∀ i, ∃ r : ℝ, m (c.tc.loc main_arg1) i = (r : EReal)) :
    (dats m 0 c).arrAt 2 cfg0.N = G (m (c.tc.loc main_arg0)) (m (c.tc.loc main_arg1)) := by
  refine (dats m 0 c).arrAt_eq_of_covers 2 _ (by decide +kernel) fun t hf y => ?_
  have hy : y = ix2 (y 0 : Fin 1024) (y 1 : Fin 1024) := funext fun a => by match a with | 0 => rfl | 1 => rfl
  blk_simp
  rw [after0_2]
  unfold outAt wb castBlk
  refine (congrArg _ hy).trans ((pay_apply _ _ (y 0) (y 1)).trans ?_)
  have ht : t.val < 64 := lt_of_lt_of_eq t.isLt N_0
  have hy0 : (y 0).val < 1024 := (y 0).isLt
  have hy1 : (y 1).val < 1024 := (y 1).isLt
  rw [dot_point m c t (y 0) (y 1) ⟨t.val % 16 * 1024 + (y 0).val, by omega⟩ ⟨t.val / 16 * 1024 + (y 1).val, by omega⟩ rfl rfl, act_eq (X_real hh hw _ _)]
  refine (congrArg (G (m (c.tc.loc main_arg0)) (m (c.tc.loc main_arg1)))
    (?_ : _ = ix2 (⟨t.val % 16 * 1024 + (y 0).val, by omega⟩ : Fin 16384) (⟨t.val / 16 * 1024 + (y 1).val, by omega⟩ : Fin 4096))).symm
  blk_ext [idx2]

theorem finals (c : Dev nD) (hh : ∀ i, ∃ r : ℝ, m (c.tc.loc main_arg0) i = (r : EReal))
    (hw : ∀ i, ∃ r : ℝ, m (c.tc.loc main_arg1) i = (r : EReal)) :
    (dats m 0 c).arrAt 3 cfg0.N = GS (m (c.tc.loc main_arg0)) (m (c.tc.loc main_arg1)) := by
  refine (dats m 0 c).arrAt_eq_of_covers 3 _ (by decide +kernel) fun t hf y => ?_
  have hy0 : (y 0).val < 1 := (y 0).isLt
  have hy1 : (y 1).val < 1024 := (y 1).isLt
  have hy2 : (y 2).val < 1 := (y 2).isLt
  have hy : y = ix3 (0 : Fin 1) (y 1 : Fin 1024) (0 : Fin 1) := funext fun a => by
    match a with
    | 0 => exact Fin.ext (show (y 0).val = 0 by omega)
    | 1 => rfl
    | 2 => exact Fin.ext (show (y 2).val = 0 by omega)
  blk_simp
  rw [after0_3]
  unfold ssqAt wb castBlk
  have ht : t.val < 64 := lt_of_lt_of_eq t.isLt N_0
  refine (congrArg _ hy).trans ((ssq_apply _ _ (y 1)).trans ?_)
  refine Eq.trans ?_ (congrArg (GS (m (c.tc.loc main_arg0)) (m (c.tc.loc main_arg1)))
    (?_ : _ = ix3 (⟨t.val / 16, by omega⟩ : Fin 4) (⟨t.val % 16 * 1024 + (y 1).val, by omega⟩ : Fin 16384) (0 : Fin 1))).symm
  · unfold GS
    refine Finset.sum_congr (M := EReal) rfl fun k _ => ?_
    rw [dot_point m c t (y 1) k ⟨t.val % 16 * 1024 + (y 1).val, by omega⟩ ⟨t.val / 16 * 1024 + k.val, by omega⟩ rfl rfl, act_eq (X_real hh hw _ _)]
    rfl
  · blk_ext [idx3]

theorem finalw (c : Dev nD) : (dats m 0 c).arrAt 4 cfg0.N = GW (m (c.tc.loc main_arg2)) := by
  refine (dats m 0 c).arrAt_eq_of_covers 4 _ (by decide +kernel) fun t hf y => ?_
  have ht : t.val < 64 := lt_of_lt_of_eq t.isLt N_0
  have hy : y = ix2 (y 0 : Fin 64) (y 1 : Fin 2048) := funext fun a => by match a with | 0 => rfl | 1 => rfl
  blk_simp
  rw [after0_4]
  unfold castAt
  refine (congrArg _ hy).trans ((cast_apply _ (y 0) (y 1)).trans ?_)
  unfold GW
  blk_simp [iblk]
  rw [V_arg2]
  refine congrArg (m (c.tc.loc main_arg2)) ?_
  blk_ext [idx1, idx4]

open Cert.Reference3Ideal.Read in
theorem v18_apply (h : (⟨S16384x2048, .f32⟩ : BufTy).Contents (Elt Ideal)) (w : (⟨S2x2048x12288, .f32⟩ : BufTy).Contents (Elt Ideal)) (a : Fin 16384) (b : Fin 4096) :
    val_main_v18 (F := Ideal) h w (ix2 a b) = gelu (X h w a b) := by
  unfold gelu X
  pointwise [val_main_v18, val_main_v17, val_main_v16, val_main_cst_2, val_main_v15, val_main_v14, val_main_cst_1, val_main_v13, val_main_v12, val_main_v11,
    val_main_cst_0, val_main_v10, val_main_v9, val_main_v8, val_main_cst, val_main_v7, val_main_v6, val_main_v4, val_main_v2, val_main_v1, val_main_v0]

theorem ref_apply (h : (⟨S16384x2048, .f32⟩ : BufTy).Contents (Elt Ideal)) (w : (⟨S2x2048x12288, .f32⟩ : BufTy).Contents (Elt Ideal)) :
    Cert.Reference3Ideal.Read.val_main_v24 (F := Ideal) h w = G h w := by
  funext y
  have hy : y = ix2 (y 0 : Fin 16384) (y 1 : Fin 4096) := funext fun a => by match a with | 0 => rfl | 1 => rfl
  exact (congrArg (Cert.Reference3Ideal.Read.val_main_v18 (F := Ideal) h w) hy).trans (v18_apply h w _ _)

open Cert.Reference3Ideal.Read in
theorem refs_apply (h : (⟨S16384x2048, .f32⟩ : BufTy).Contents (Elt Ideal)) (w : (⟨S2x2048x12288, .f32⟩ : BufTy).Contents (Elt Ideal)) :
    val_main_v23 (F := Ideal) h w = GS h w := by
  funext y
  have hy0 : (y 0).val < 4 := (y 0).isLt
  unfold GS
  generalize e : val_main_v18 (F := Ideal) h w = v
  pointwise [val_main_v23, val_main_v22, val_main_v21, val_main_cst_3, val_main_v20, val_main_v19, e]
  subst e
  exact Finset.sum_congr (M := EReal) rfl fun k _ => congrArg₂ (fun p q : EReal => p * q) (v18_apply h w _ _) (v18_apply h w _ _)

open Cert.Reference3Ideal.Read in
theorem refw_apply (wo : (⟨S2x4096x2048, .f32⟩ : BufTy).Contents (Elt Ideal)) :
    val_main_v27 (F := Ideal) wo = GW wo := by
  funext y
  unfold GW
  pointwise [val_main_v27, val_main_v26, val_main_v25]

end Cert.Kernel3Ideal.Hand

end
-- ==== Proof.GeluD.lean ====
module

public import proofs.«01_k».proof.Defs
public import proofs.«01_k».proof.Proof.Gen.Kernel3
public import proofs.«01_k».proof.Proof.GeluV

@[expose] public section

noncomputable section

namespace Cert.Kernel3Ideal.Hand

open Idealize.ShloMosaic Idealize.SL.Sem

/-- A named constant at machine words: the word. -/
@[reducible] def bitsNamed : Named Bits := ⟨fun _ _ {φ} b => Scalar.ofBits φ b⟩

theorem defs₀_eq : Cert.Kernel3.defs₀ (F := Bits) = @Cert.Kernel3Ideal.defs₀ Bits _ bitsNamed _ := by
  unfold Cert.Kernel3.defs₀ Cert.Kernel3Ideal.defs₀
  refine congrArg Defs.onTc ?_
  funext l p
  match l, p with
  | 0, (t, s) => rfl

/-- The two programs' body tables are one. -/
theorem defs_eq : Cert.Kernel3.defs (F := Bits) = @Cert.Kernel3Ideal.defs Bits _ bitsNamed _ :=
  congrArg (Pipeline.defs Cert.Kernel3Ideal.pcfgs) defs₀_eq

/-- The kernel at machine words runs and leaves its arguments: the same text, so the same run. -/
theorem frame_kernel : Cert.quiescent_Kernel3 := fun m ρ _ => by
  letI := bitsNamed
  have h := (θ_run Cert.Kernel3Ideal.defs _ _).mono (fun _ h => And.intro (fun c => (h.1 c).2.2.2) h.2) (run (F := Bits) m ρ)
  rw [← defs_eq] at h
  exact h

theorem frame_ideal : Cert.quiescent_Kernel3Ideal := fun m ρ _ =>
  (θ_run Cert.Kernel3Ideal.defs _ _).mono (fun _ h => ⟨fun c => (h.1 c).2.2.2, h.2⟩) (run (F := Ideal) m ρ)

/-- The reference runs and leaves its arguments; it declares no semaphore. -/
theorem frame_ref : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Kernel and reference leave the same arrays where the activations and the weights are real numbers. -/
theorem value : Cert.algebraic_Kernel3Ideal_Reference3Ideal_pre_real3 := by
  intro m g m' g' hp hargs
  refine ⟨fun c => G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => GS (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => GW (m ((c.tc : Thread Cert.Kernel3Ideal.nD Cert.Kernel3Ideal.τ).loc Cert.Kernel3Ideal.main_arg2)), ?_, ?_⟩
  · refine (θ_run Cert.Kernel3Ideal.defs _ _).mono (fun _ h c => ?_) (run (F := Ideal) m g)
    obtain ⟨h0, h1⟩ := real_args _ _ _ (hp c)
    exact ⟨(h.1 c).1.trans (final m c h0 h1), (h.1 c).2.1.trans (finals m c h0 h1), (h.1 c).2.2.1.trans (finalw m c), (h.1 c).2.2.2⟩
  · refine (θ_run Cert.Reference3Ideal.defs _ _).mono (fun _ h c => ⟨(h c).1.trans ?_, (h c).2.1.trans ?_, (h c).2.2.1.trans ?_, (h c).2.2.2⟩) (Cert.Reference3Ideal.Value.run m' g')
    · rw [(hargs c).1, (hargs c).2.1]
      exact (Cert.Reference3Ideal.Read.val_main_v24_eq (F := Ideal) _ _).trans (ref_apply _ _)
    · refine (Cert.Reference3Ideal.Read.val_main_v23_eq (F := Ideal) m' c).trans ?_
      rw [(hargs c).1, (hargs c).2.1]
      exact refs_apply _ _
    · rw [(hargs c).2.2]
      exact (Cert.Reference3Ideal.Read.val_main_v27_eq (F := Ideal) _).trans (refw_apply _)

/-- The named constant is the value the table gives it. -/
theorem preserves : Cert.preserves_Kernel3_Kernel3Ideal := IdealRules.named_const.statement _ _ _ _ _ rfl

/-- The two frames again, where the arguments are real. -/
theorem frame_ideal_pre : Cert.quiescent_Kernel3Ideal_pre_real3 := fun m ρ _ => frame_ideal m ρ trivial
theorem frame_ref_pre : Cert.quiescent_Reference3Ideal_pre_real3 := fun m ρ _ => frame_ref m ρ trivial

end Cert.Kernel3Ideal.Hand

end
-- ==== Proof.OutA.lean ====
module

public import proofs.«01_k».proof.Proof.Gen.Kernel4Ideal.Frame
public import proofs.«01_k».proof.Proof.Gen.Kernel4Ideal.Launch
public import proofs.«01_k».proof.Proof.Gen.Kernel4Ideal.Points
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.VecWindow
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four slots of the layer's output before its norm. -/
abbrev scM : Memref sig .tc .vmem S4x1024x512 .f32 := Memref.whole cc0_scratch0

/-- Slot `j` of the scratch's contents. -/
abbrev slot (X : Vec F S4x1024x512 .f32) (j : ℕ) (h : ∀ a, (![j, 0, 0] : Fin 3 → ℕ) a + S1x1024x512.size a ≤ S4x1024x512.size a) : Vec F S1x1024x512 .f32 :=
  VecWindow.window X ![j, 0, 0] S1x1024x512.size h

/-- The scratch with a block stored in the slot of point `i`. -/
abbrev stored (i : grid0.Coords) (X : Vec F S4x1024x512 .f32) (w : Vec F S1x1024x512 .f32) : Vec F S4x1024x512 .f32 :=
  VecWindow.put X (k0_off1 i) S1x1024x512.size w

/-- The columns of the gain from `j` on. -/
abbrev gcol (g : Vec F S1x2048 .f32) (j : ℕ) (h : ∀ a, (![0, j] : Fin 2 → ℕ) a + S1x512.size a ≤ S1x2048.size a) : Vec F S1x512 .f32 :=
  VecWindow.window g ![0, j] S1x512.size h

/-- The four stores of the normalised rows, the last one first. -/
abbrev outL (s0 s1 s2 s3 : Vec F S1x1024x512 .f32) (g : Vec F S1x2048 .f32) : List (View.Piece (Elt F) S1024x2048 .f32) :=
  [⟨Rect.unit (s := S1024x2048) ![0, 1536] S1024x512.size inb_S1024x2048_S1024x512_0_1536,
      k0_pay4 (k0_pay5 s0 s1 s2 s3) s3 (gcol g 1536 inb_S1x2048_S1x512_0_1536)⟩,
    ⟨Rect.unit (s := S1024x2048) ![0, 1024] S1024x512.size inb_S1024x2048_S1024x512_0_1024,
      k0_pay3 (k0_pay5 s0 s1 s2 s3) s2 (gcol g 1024 inb_S1x2048_S1x512_0_1024)⟩,
    ⟨Rect.unit (s := S1024x2048) ![0, 512] S1024x512.size inb_S1024x2048_S1024x512_0_512,
      k0_pay2 (k0_pay5 s0 s1 s2 s3) s1 (gcol g 512 inb_S1x2048_S1x512_0_512)⟩,
    ⟨Rect.unit (s := S1024x2048) ![0, 0] S1024x512.size inb_S1024x2048_S1024x512_0_0,
      k0_pay6 s0 s1 s2 s3 s0 (gcol g 0 inb_S1x2048_S1x512_0_0)⟩]

/-- The normalised rows, from the four slots and the gain. -/
def outOf (s0 s1 s2 s3 : Vec F S1x1024x512 .f32) (g : Vec F S1x2048 .f32) : Vec F S1024x2048 .f32 := View.canon (outL s0 s1 s2 s3 g)

/-- The same of a scratch's contents. -/
abbrev outX (X : Vec F S4x1024x512 .f32) (g : Vec F S1x2048 .f32) : Vec F S1024x2048 .f32 :=
  outOf (slot X 0 inb_S4x1024x512_S1x1024x512_0_0_0) (slot X 1 inb_S4x1024x512_S1x1024x512_1_0_0)
    (slot X 2 inb_S4x1024x512_S1x1024x512_2_0_0) (slot X 3 inb_S4x1024x512_S1x1024x512_3_0_0) g

theorem run_N (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1024x512 .f32) (harg4 : arg4.IsWhole)
    (arg5 : Memref sig .tc .vmem S1x2048 .f32) (harg5 : arg5.IsWhole) (arg6 : Memref sig .tc .vmem S1024x2048 .f32) (harg6 : arg6.IsWhole)
    (h1 : ¬ k0_cond1 i = 1#1) (y : Vec F S1024x4096 .bf16) (w : Vec F S4096x512 .bf16) (x : Vec F S1024x512 .f32) (X : Vec F S4x1024x512 .f32)
    (K : PUnit → sProp 𝕄) :
    iprop(owns c.tc arg2 fullShare y ∗ owns c.tc arg3 fullShare w ∗ owns c.tc arg4 fullShare x
        ∗ owns c.tc scM fullShare X
        ∗ (iprop(owns c.tc arg2 fullShare y ∗ owns c.tc arg3 fullShare w ∗ owns c.tc arg4 fullShare x
            ∗ owns c.tc scM fullShare (stored i X (k0_pay1 x y w))) -∗ K ⟨⟩))
      ⊢ wp frame (wpE (defs₀ (F := F)) Variants.none c none) Set.univ (cc0_out_proj (F := F) i arg2 harg2 arg3 harg3 arg4 harg4 arg5 harg5 arg6 harg6 scM (Memref.isWhole_whole _)) K := by
  rw [cc0_out_proj_eq_skeleton]; unfold cc0_out_proj_skel
  unfold owns
  iintro ⟨⟨%f2, %hf2, H2⟩, ⟨%f3, %hf3, H3⟩, ⟨%f4, %hf4, H4⟩, ⟨%f7, %hf7, H7⟩, Hk⟩
  sl_exec
  sl_step
  iapply Hk
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  · iexists _; isplitr; swap
    · iexact H7
    · ipureintro
      rw [View.read_writes_cons_put _ _ _ _ _ rfl, View.writes_nil, hf7, View.readAt_full, View.readAt_full, View.readAt_full, hf2, hf3, hf4]

theorem run_L (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1024x512 .f32) (harg4 : arg4.IsWhole)
    (arg5 : Memref sig .tc .vmem S1x2048 .f32) (harg5 : arg5.IsWhole) (arg6 : Memref sig .tc .vmem S1024x2048 .f32) (harg6 : arg6.IsWhole)
    (h1 : k0_cond1 i = 1#1) (y : Vec F S1024x4096 .bf16) (w : Vec F S4096x512 .bf16) (x : Vec F S1024x512 .f32) (g : Vec F S1x2048 .f32) (X : Vec F S4x1024x512 .f32)
    (K : PUnit → sProp 𝕄) :
    iprop(owns c.tc arg2 fullShare y ∗ owns c.tc arg3 fullShare w ∗ owns c.tc arg4 fullShare x
        ∗ owns c.tc arg5 fullShare g ∗ (∃ d, owns c.tc arg6 fullShare d)
        ∗ owns c.tc scM fullShare X
        ∗ (iprop(owns c.tc arg2 fullShare y ∗ owns c.tc arg3 fullShare w ∗ owns c.tc arg4 fullShare x
            ∗ owns c.tc arg5 fullShare g ∗ owns c.tc arg6 fullShare (outX (stored i X (k0_pay1 x y w)) g)
            ∗ owns c.tc scM fullShare (stored i X (k0_pay1 x y w))) -∗ K ⟨⟩))
      ⊢ wp frame (wpE (defs₀ (F := F)) Variants.none c none) Set.univ (cc0_out_proj (F := F) i arg2 harg2 arg3 harg3 arg4 harg4 arg5 harg5 arg6 harg6 scM (Memref.isWhole_whole _)) K := by
  rw [cc0_out_proj_eq_skeleton]; unfold cc0_out_proj_skel
  rw [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  sl_exec
  sl_step
  iapply Hk
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]
  · iexists _; isplitr; swap
    · iexact H6
    · ipureintro
      have e7 : scM.view.read (Elt F) (scM.view.writes (Elt F) f7 (run_L.sl.H7_1 c i arg2 arg3 arg4 f2 f3 f4)) = stored i X (k0_pay1 x y w) := by
        refine (View.read_writes_cons_put scM.view f7 (k0_off1_inb i) _ [] rfl).trans ?_
        rw [View.writes_nil, hf7, View.readAt_full, View.readAt_full, View.readAt_full, hf2, hf3, hf4]
      have e (j : ℕ) (h : ∀ a, (![j, 0, 0] : Fin 3 → ℕ) a + S1x1024x512.size a ≤ S4x1024x512.size a) :
          scM.view.readAt (Elt F) (Rect.unit (s := S4x1024x512) ![j, 0, 0] S1x1024x512.size h).toLoadRect (scM.view.writes (Elt F) f7 (run_L.sl.H7_1 c i arg2 arg3 arg4 f2 f3 f4))
            = slot (stored i X (k0_pay1 x y w)) j h := by
        rw [View.readAt_unit _ _ _ rfl h, e7]
      have eg (j : ℕ) (h : ∀ a, (![0, j] : Fin 2 → ℕ) a + S1x512.size a ≤ S1x2048.size a) :
          arg5.view.readAt (Elt F) (Rect.unit (s := S1x2048) ![0, j] S1x512.size h).toLoadRect f5 = gcol g j h := by
        rw [View.readAt_unit _ _ _ rfl h, hf5]
      rw [e 0, e 1, e 2, e 3, eg 0, eg 512, eg 1024, eg 1536]
      exact View.read_writes_eq_canon _ _ _ (View.cover_of_tiledL _ ![1024, 512] rfl)
  · iexists _; isplitr; swap
    · iexact H7
    · ipureintro
      refine (View.read_writes_cons_put scM.view f7 (k0_off1_inb i) _ [] rfl).trans ?_
      rw [View.writes_nil, hf7, View.readAt_full, View.readAt_full, View.readAt_full, hf2, hf3, hf4]

end Cert.Kernel4Ideal.Hand

end
-- ==== Proof.OutB.lean ====
module

public import proofs.«01_k».proof.Proof.OutA

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the grid's points lie -/

theorem cond1_iff : ∀ t : Fin grid0.N, k0_cond1 (grid0.coords t) = 1#1 ↔ t.val % 4 = 3 := by decide +kernel
theorem off1_at : ∀ t : Fin grid0.N, k0_off1 (grid0.coords t) = ![t.val % 4, 0, 0] := by decide +kernel
theorem idle4 : ∀ t : Fin grid0.N, idle0 4 (grid0.coords t) = !decide (t.val % 4 = 3) := by decide +kernel

/-- Slot `j` after a store into slot `n`. -/
theorem slot_put (X : Vec F S4x1024x512 .f32) (n j : ℕ) (w : Vec F S1x1024x512 .f32)
    (h : ∀ a, (![j, 0, 0] : Fin 3 → ℕ) a + S1x1024x512.size a ≤ S4x1024x512.size a) :
    slot (VecWindow.put X ![n, 0, 0] S1x1024x512.size w) j h = if j = n then w else slot X j h := by
  by_cases e : j = n
  · subst e; rw [if_pos rfl]; exact VecWindow.window_put_same X _ _ h w
  · rw [if_neg e]
    refine VecWindow.window_put_of_disjoint X _ _ _ _ h w 0 ?_
    show j + 1 ≤ n ∨ n + 1 ≤ j
    omega

/-! ## The invariant -/

/-- Point `k`, as a point of the grid. -/
def pt (k : ℕ) : Fin cfg0.N := ⟨k % 64, lt_of_lt_of_eq (Nat.mod_lt _ (by decide)) N_0.symm⟩
theorem pt_val (t : Fin cfg0.N) : pt t.val = t :=
  Fin.ext (Nat.mod_eq_of_lt (lt_of_lt_of_eq t.isLt N_0))

/-- The block of the layer's output that point `k` computes. -/
def blk (c : Dev nD) (k : ℕ) : Vec F S1x1024x512 .f32 := k0_pay1 (iblk m c 2 (pt k)) (iblk m c 0 (pt k)) (iblk m c 1 (pt k))

/-- Before point `p`: the slots below `p % 4` hold the blocks of this row of blocks. -/
def inv (c : Dev nD) (p : ℕ) : sProp 𝕄 :=
  iprop(∃ X, ⌜∀ (j : ℕ) (h : ∀ a, (![j, 0, 0] : Fin 3 → ℕ) a + S1x1024x512.size a ≤ S4x1024x512.size a), j < p % 4 → slot X j h = blk m c (4 * (p / 4) + j)⌝
    ∗ owns c.tc scM fullShare X)

/-! ## The proof data -/

abbrev ms0_0 (t : Fin cfg0.N) : Memref sig .tc .vmem S1024x4096 .bf16 := win0_0.stage (cfg0.slots t 0)
abbrev ms0_1 (t : Fin cfg0.N) : Memref sig .tc .vmem S4096x512 .bf16 := win0_1.stage (cfg0.slots t 1)
abbrev ms0_2 (t : Fin cfg0.N) : Memref sig .tc .vmem S1024x512 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S1024x2048 .f32 := win0_4.stage (cfg0.slots t 4)

/-- The block of the result at point `t`, the last of its row of blocks. -/
def outAt (c : Dev nD) (t : Fin cfg0.N) : Vec F S1024x2048 .f32 :=
  outOf (blk m c (4 * (t.val / 4))) (blk m c (4 * (t.val / 4) + 1)) (blk m c (4 * (t.val / 4) + 2)) (blk m c (4 * (t.val / 4) + 3)) (iblk m c 3 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- The result's buffer as the body leaves it: written at the last point of a row of blocks, untouched before. -/
def left4 (c : Dev nD) (t : Fin cfg0.N) : sProp 𝕄 :=
  if t.val % 4 = 3 then owns c.tc (ms0_4 t) fullShare (outAt m c t)
  else iprop(∃ d, owns c.tc (ms0_4 t) fullShare ((dats m 0 c).before 4 t d))

def pre (c : Dev nD) (t : Fin cfg0.N) : sProp 𝕄 :=
  iprop(inv m c t.val ∗ owns c.tc (ms0_0 t) fullShare (iblk m c 0 t) ∗ owns c.tc (ms0_1 t) fullShare (iblk m c 1 t)
    ∗ owns c.tc (ms0_2 t) fullShare (iblk m c 2 t) ∗ owns c.tc (ms0_3 t) fullShare (iblk m c 3 t)
    ∗ (∃ d, owns c.tc (ms0_4 t) fullShare ((dats m 0 c).before 4 t d)))
def post (c : Dev nD) (t : Fin cfg0.N) : sProp 𝕄 :=
  iprop(inv m c (t.val + 1) ∗ owns c.tc (ms0_0 t) fullShare (iblk m c 0 t) ∗ owns c.tc (ms0_1 t) fullShare (iblk m c 1 t)
    ∗ owns c.tc (ms0_2 t) fullShare (iblk m c 2 t) ∗ owns c.tc (ms0_3 t) fullShare (iblk m c 3 t)
    ∗ left4 m c t)

/-- What the point's own store makes of the slots. -/
theorem slots_after (c : Dev nD) (t : Fin cfg0.N) (X : Vec F S4x1024x512 .f32)
    (hX : ∀ (j : ℕ) (h : ∀ a, (![j, 0, 0] : Fin 3 → ℕ) a + S1x1024x512.size a ≤ S4x1024x512.size a), j < t.val % 4 → slot X j h = blk m c (4 * (t.val / 4) + j))
    (j : ℕ) (h : ∀ a, (![j, 0, 0] : Fin 3 → ℕ) a + S1x1024x512.size a ≤ S4x1024x512.size a) (hj : j ≤ t.val % 4) :
    slot (stored (grid0.coords t) X (k0_pay1 (iblk m c 2 t) (iblk m c 0 t) (iblk m c 1 t))) j h = blk m c (4 * (t.val / 4) + j) := by
  unfold stored
  rw [off1_at t, slot_put]
  by_cases e : j = t.val % 4
  · rw [if_pos e]
    unfold blk
    rw [show 4 * (t.val / 4) + j = t.val by omega, pt_val]
  · rw [if_neg e]; exact hX j h (by omega)

theorem point_N (c : Dev nD) (t : Fin cfg0.N) (h : t.val % 4 ≠ 3) :
    pre m c t ⊢ wp frame (wpE (defs₀ (F := F)) Variants.none c none) Set.univ (bodyAt0 t) (fun _ => post m c t) := by
  unfold pre post left4 inv
  rw [if_neg h]
  iintro ⟨⟨%X, %hX, H7⟩, H2, H3, H4, H5, H6⟩
  iapply (run_N c (grid0.coords t) (ms0_0 t) _ (ms0_1 t) _ (ms0_2 t) _ (ms0_3 t) _ (ms0_4 t) _ (fun hc => h ((cond1_iff t).1 hc))
    (iblk m c 0 t) (iblk m c 1 t) (iblk m c 2 t) X _)
  isplitl [H2]; · iexact H2
  isplitl [H3]; · iexact H3
  isplitl [H4]; · iexact H4
  isplitl [H7]; · iexact H7
  iintro ⟨H2, H3, H4, H7⟩
  isplitl [H7]
  · iexists _; isplitr; swap
    · iexact H7
    · ipureintro
      intro j hh hj
      rw [show 4 * ((t.val + 1) / 4) = 4 * (t.val / 4) by omega]
      exact slots_after m c t X hX j hh (by omega)
  isplitl [H2]; · iexact H2
  isplitl [H3]; · iexact H3
  isplitl [H4]; · iexact H4
  isplitl [H5]; · iexact H5
  iexact H6

theorem point_L (c : Dev nD) (t : Fin cfg0.N) (h : t.val % 4 = 3) :
    pre m c t ⊢ wp frame (wpE (defs₀ (F := F)) Variants.none c none) Set.univ (bodyAt0 t) (fun _ => post m c t) := by
  unfold pre post left4 inv
  rw [if_pos h]
  iintro ⟨⟨%X, %hX, H7⟩, H2, H3, H4, H5, ⟨%d, H6⟩⟩
  iapply (run_L c (grid0.coords t) (ms0_0 t) _ (ms0_1 t) _ (ms0_2 t) _ (ms0_3 t) _ (ms0_4 t) _ ((cond1_iff t).2 h)
    (iblk m c 0 t) (iblk m c 1 t) (iblk m c 2 t) (iblk m c 3 t) X _)
  isplitl [H2]; · iexact H2
  isplitl [H3]; · iexact H3
  isplitl [H4]; · iexact H4
  isplitl [H5]; · iexact H5
  isplitl [H6]; · iexists _; iexact H6
  isplitl [H7]; · iexact H7
  unfold outX
  rw [slots_after m c t X hX 0 _ (by omega), slots_after m c t X hX 1 _ (by omega), slots_after m c t X hX 2 _ (by omega),
    slots_after m c t X hX 3 _ (by omega)]
  iintro ⟨H2, H3, H4, H5, H6, H7⟩
  isplitl [H7]
  · iexists _; isplitr; swap
    · iexact H7
    · ipureintro
      intro j hh hj
      omega
  isplitl [H2]; · iexact H2
  isplitl [H3]; · iexact H3
  isplitl [H4]; · iexact H4
  isplitl [H5]; · iexact H5
  iexact H6

theorem point (c : Dev nD) (t : Fin cfg0.N) :
    pre m c t ⊢ wp frame (wpE (defs₀ (F := F)) Variants.none c none) Set.univ (bodyAt0 t) (fun _ => post m c t) := by
  by_cases h : t.val % 4 = 3
  · exact point_L m c t h
  · exact point_N m c t h

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ left4 m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  rw [after0_0, after0_1, after0_2, after0_3]
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owesAt () t.castSucc = (dats m 0 c).owesAt () t.succ from rfl]
  iintro ⟨⟨Hg, HI⟩, HW, ⟨%d0, H0⟩, ⟨%d1, H1⟩, ⟨%d2, H2⟩, ⟨%d3, H3⟩, H4⟩
  iapply (wp_wand_r frame (wpE (defs₀ (F := F)) Variants.none c none) Set.univ (Q := fun _ => post m c t))
  isplitl [HI H0 H1 H2 H3 H4]
  · iapply (point m c t)
    unfold pre
    isplitl [HI]; · iexact HI
    isplitl [H0]; · iexact H0
    isplitl [H1]; · iexact H1
    isplitl [H2]; · iexact H2
    isplitl [H3]; · iexact H3
    iexact H4
  iintro %_ Hp
  unfold post
  icases Hp with ⟨HI, H0, H1, H2, H3, H4⟩
  isplitl [Hg HI]
  · isplitl [Hg]; · iexact Hg
    iexact HI
  isplitl [HW]; · iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- What the loop takes back of the result's buffer. -/
theorem left4_eq (c : Dev nD) (t : Fin cfg0.N) :
    (match cfg0.idle 4 (cfg0.grid.coords t) with
      | true =>
        match (cfg0.win 4).flush t with
        | false => iprop(∃ d, owns c.tc ((cfg0.win 4).stage (cfg0.slots t 4)) fullShare ((dats m 0 c).before 4 t d))
        | true => owns c.tc ((cfg0.win 4).stage (cfg0.slots t 4)) fullShare ((dats m 0 c).after 4 t)
      | false => owns c.tc ((cfg0.win 4).stage (cfg0.slots t 4)) fullShare ((dats m 0 c).after 4 t)) = left4 m c t := by
  rw [after0_4, show cfg0.idle 4 (cfg0.grid.coords t) = !decide (t.val % 4 = 3) from idle4 t]
  unfold left4
  by_cases h : t.val % 4 = 3
  · rw [if_pos h, decide_eq_true h]; rfl
  · rw [if_neg h, decide_eq_false h]
    have hf : (cfg0.win 4).flush t = false := by
      rw [Bool.eq_false_iff]; exact fun hc => h ((flush0_4 t).1 hc)
    simp only [Bool.not_false, hf]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  rw [← left4_eq]
  exact .rfl

/-! ## The run and the frame -/

theorem PhiA_eq (c : Dev nD) :
    (Pipeline.ΦA spec0 c : sProp 𝕄) = iprop((∃ d, owns c.tc scM fullShare d) ∗ (∃ r, prngReg c r)) := by
  unfold Pipeline.ΦA
  rw [scopedRest0_eq]
  simp only [scM, owns_whole]; try rfl

theorem hin (c : Dev nD) : (Pipeline.ΦA spec0 c : sProp 𝕄) ⊢ (dats m 0 c).Φ 0 := by
  rw [PhiA_eq, show (dats m 0 c).Φ 0 = iprop((∃ r, prngReg c r) ∗ inv m c 0) from rfl]
  unfold inv
  iintro ⟨⟨%d, H5⟩, Hg⟩
  isplitl [Hg]; · iexact Hg
  iexists d; isplitr
  · ipureintro; intro j h hj; exact absurd hj (Nat.not_lt_zero j)
  iexact H5

theorem hout (c : Dev nD) : (dats m 0 c).Φ (Fin.last cfg0.N) ⊢ (Pipeline.ΦA spec0 c : sProp 𝕄) := by
  rw [PhiA_eq, show (dats m 0 c).Φ (Fin.last cfg0.N) = iprop((∃ r, prngReg c r) ∗ inv m c grid0.N) from rfl]
  unfold inv
  iintro ⟨Hg, ⟨%X, -, H5⟩⟩
  isplitl [H5]
  · iexists X; iexact H5
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result array as the write-backs leave it, the arguments as they were, every cell at zero. -/
theorem run : θ_run defs (onTc (τ := τ) (main (F := F))) ⟨m, fun _ => 0, ρ⟩ (fun r => (∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 4,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c)⟩, h.2⟩) (run_main m ρ)

end Cert.Kernel4Ideal.Hand

end
-- ==== Proof.OutV.lean ====
module

public import proofs.«01_k».proof.Proof.OutB
public import proofs.«01_k».proof.Proof.Words
public import proofs.«01_k».proof.Proof.Gen.Reference4Ideal.Run
public import proofs.«01_k».proof.Proof.Gen.Reference4Ideal.Read
public import Idealize.ShloMosaic.Lib.Pointwise
public import Idealize.ShloMosaic.Lib.Pipeline.ValueKit.Geometry
public import Idealize.ShloMosaic.Lib.Pipeline.CanonAppend
public import Idealize.ShloMosaic.Lib.IdealHost

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The function -/

/-- The residual stream plus the layer's projected output, at row `r` and column `q`. -/
def S (h : (⟨S16384x4096, .f32⟩ : BufTy).Contents (Elt Ideal)) (w : (⟨S4096x2048, .f32⟩ : BufTy).Contents (Elt Ideal))
    (x : (⟨S16384x2048, .f32⟩ : BufTy).Contents (Elt Ideal)) (r : Fin 16384) (q : Fin 2048) : EReal :=
  x (ix2 r q) + ∑ k : Fin 4096, h (ix2 r k) * w (ix2 k q)

/-- Its rows over their root mean square, by the gain. -/
def G (h : (⟨S16384x4096, .f32⟩ : BufTy).Contents (Elt Ideal)) (w : (⟨S4096x2048, .f32⟩ : BufTy).Contents (Elt Ideal))
    (x : (⟨S16384x2048, .f32⟩ : BufTy).Contents (Elt Ideal)) (g : (⟨S2048, .f32⟩ : BufTy).Contents (Elt Ideal)) :
    (⟨S16384x2048, .f32⟩ : BufTy).Contents (Elt Ideal) :=
  fun y => S h w x (y 0) (y 1) * Ideal.rsqrt (Ideal.div (∑ q : Fin 2048, S h w x (y 0) q * S h w x (y 0) q) (Ideal.ofBits .f32 0x45000000#32) + Ideal.ofBits .f32 0x358637BD#32)
    * g (ix1 (y 1))

open Cert.Reference4Ideal.Read in
theorem ref_apply (h : (⟨S16384x4096, .f32⟩ : BufTy).Contents (Elt Ideal)) (w : (⟨S4096x2048, .f32⟩ : BufTy).Contents (Elt Ideal))
    (x : (⟨S16384x2048, .f32⟩ : BufTy).Contents (Elt Ideal)) (g : (⟨S2048, .f32⟩ : BufTy).Contents (Elt Ideal)) :
    Cert.Reference4Ideal.Read.val_main_v14 (F := Ideal) h w x g = G h w x g := by
  funext y
  unfold G S
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-! ## The payloads at an index -/

theorem pay1_apply (x : Vec Ideal S1024x512 .f32) (h : Vec Ideal S1024x4096 .bf16) (w : Vec Ideal S4096x512 .bf16) (a : Fin 1024) (b : Fin 512) :
    k0_pay1 (F := Ideal) x h w (ix3 (0 : Fin 1) a b) = x (ix2 a b) + ∑ k : Fin 4096, h (ix2 a k) * w (ix2 k b) := by
  pointwise [k0_pay1]

theorem pay5_apply (s0 s1 s2 s3 : Vec Ideal S1x1024x512 .f32) (a : Fin 1024) :
    k0_pay5 (F := Ideal) s0 s1 s2 s3 (ix2 a (0 : Fin 1)) = Ideal.rsqrt
      ((∑ b : Fin 512, s0 (ix3 (0 : Fin 1) a b) * s0 (ix3 (0 : Fin 1) a b) + ∑ b : Fin 512, s1 (ix3 (0 : Fin 1) a b) * s1 (ix3 (0 : Fin 1) a b)
        + ∑ b : Fin 512, s2 (ix3 (0 : Fin 1) a b) * s2 (ix3 (0 : Fin 1) a b) + ∑ b : Fin 512, s3 (ix3 (0 : Fin 1) a b) * s3 (ix3 (0 : Fin 1) a b))
        * Ideal.ofBits .f32 0x3A000000#32 + Ideal.ofBits .f32 0x358637BD#32) := by
  pointwise [k0_pay5]

theorem pay6_apply (s0 s1 s2 s3 s4 : Vec Ideal S1x1024x512 .f32) (g : Vec Ideal S1x512 .f32) (a : Fin 1024) (b : Fin 512) :
    k0_pay6 (F := Ideal) s0 s1 s2 s3 s4 g (ix2 a b) = s4 (ix3 (0 : Fin 1) a b) * k0_pay5 s0 s1 s2 s3 (ix2 a (0 : Fin 1)) * g (ix2 (0 : Fin 1) b) := by
  pointwise [k0_pay6]
theorem pay2_apply (r : FVec Ideal S1024x1 .f32) (s : Vec Ideal S1x1024x512 .f32) (g : Vec Ideal S1x512 .f32) (a : Fin 1024) (b : Fin 512) :
    k0_pay2 (F := Ideal) r s g (ix2 a b) = s (ix3 (0 : Fin 1) a b) * r (ix2 a (0 : Fin 1)) * g (ix2 (0 : Fin 1) b) := by
  pointwise [k0_pay2]
theorem pay3_apply (r : FVec Ideal S1024x1 .f32) (s : Vec Ideal S1x1024x512 .f32) (g : Vec Ideal S1x512 .f32) (a : Fin 1024) (b : Fin 512) :
    k0_pay3 (F := Ideal) r s g (ix2 a b) = s (ix3 (0 : Fin 1) a b) * r (ix2 a (0 : Fin 1)) * g (ix2 (0 : Fin 1) b) := by
  pointwise [k0_pay3]
theorem pay4_apply (r : FVec Ideal S1024x1 .f32) (s : Vec Ideal S1x1024x512 .f32) (g : Vec Ideal S1x512 .f32) (a : Fin 1024) (b : Fin 512) :
    k0_pay4 (F := Ideal) r s g (ix2 a b) = s (ix3 (0 : Fin 1) a b) * r (ix2 a (0 : Fin 1)) * g (ix2 (0 : Fin 1) b) := by
  pointwise [k0_pay4]

/-! ## A row of blocks -/

/-- A sum over a row, block by block. -/
theorem sum_row (f : Fin 2048 → EReal) : ∑ q, f q
    = ∑ b : Fin 512, f ⟨0 + b.val, by omega⟩ + ∑ b : Fin 512, f ⟨512 + b.val, by omega⟩ + ∑ b : Fin 512, f ⟨1024 + b.val, by omega⟩
      + ∑ b : Fin 512, f ⟨1536 + b.val, by omega⟩ := by
  have e : (2048 : ℕ) = 512 + 512 + 512 + 512 := rfl
  refine (Fin.sum_univ_add (a := 512 + 512 + 512) (b := 512) f).trans ?_
  refine congrArg₂ (fun p q : EReal => p + q) ?_ (Finset.sum_congr (M := EReal) rfl fun b _ => congrArg f (Fin.ext rfl))
  refine (Fin.sum_univ_add (a := 512 + 512) (b := 512) _).trans ?_
  refine congrArg₂ (fun p q : EReal => p + q) ?_ (Finset.sum_congr (M := EReal) rfl fun b _ => congrArg f (Fin.ext rfl))
  refine (Fin.sum_univ_add (a := 512) (b := 512) _).trans ?_
  exact congrArg₂ (fun p q : EReal => p + q) (Finset.sum_congr (M := EReal) rfl fun b _ => congrArg f (Fin.ext (Nat.zero_add b.val).symm))
    (Finset.sum_congr (M := EReal) rfl fun b _ => congrArg f (Fin.ext rfl))

/-- The reciprocal root of row `a`, where the four slots hold the row's columns in order. -/
theorem root_apply (T : Fin 1024 → Fin 2048 → EReal) (s0 s1 s2 s3 : Vec Ideal S1x1024x512 .f32)
    (h0 : ∀ a b, s0 (ix3 (0 : Fin 1) a b) = T a ⟨0 + b.val, by omega⟩) (h1 : ∀ a b, s1 (ix3 (0 : Fin 1) a b) = T a ⟨512 + b.val, by omega⟩)
    (h2 : ∀ a b, s2 (ix3 (0 : Fin 1) a b) = T a ⟨1024 + b.val, by omega⟩) (h3 : ∀ a b, s3 (ix3 (0 : Fin 1) a b) = T a ⟨1536 + b.val, by omega⟩) (a : Fin 1024) :
    k0_pay5 (F := Ideal) s0 s1 s2 s3 (ix2 a (0 : Fin 1))
      = Ideal.rsqrt (Ideal.div (∑ q, T a q * T a q) (Ideal.ofBits .f32 0x45000000#32) + Ideal.ofBits .f32 0x358637BD#32) := by
  rw [pay5_apply, Cert.Words.mean2048, sum_row]
  simp only [h0, h1, h2, h3]

/-- A row's columns over its root mean square, by the gain. -/
def rowOut (T : Fin 1024 → Fin 2048 → EReal) (g : S1x2048.Idx → EReal) (a : Fin 1024) (q : Fin 2048) : EReal :=
  T a q * Ideal.rsqrt (Ideal.div (∑ q, T a q * T a q) (Ideal.ofBits .f32 0x45000000#32) + Ideal.ofBits .f32 0x358637BD#32) * g (ix2 (0 : Fin 1) q)

/-- A store of 512 columns that holds the normalised rows' columns from `o` on. -/
theorem piece_apply (T : Fin 1024 → Fin 2048 → EReal) (g : S1x2048.Idx → EReal) (o : ℕ) (ho : o + 512 ≤ 2048)
    (hi : ∀ a, (![0, o] : Fin 2 → ℕ) a + S1024x512.size a ≤ S1024x2048.size a) (p : S1024x512.Idx → EReal)
    (hp : ∀ (a : Fin 1024) (b : Fin 512), p (ix2 a b) = rowOut T g a ⟨o + b.val, by omega⟩) (x : S1024x512.Idx) :
    p x = (fun y : S1024x2048.Idx => rowOut T g (y 0) (y 1)) ((Rect.unit (s := S1024x2048) ![0, o] S1024x512.size hi).emb x) := by
  have hx : x = ix2 (x 0) (x 1) := funext fun a => by match a with | 0 => rfl | 1 => rfl
  refine (congrArg p hx).trans ((hp _ _).trans (congrArg₂ (rowOut T g) (Fin.ext ?_) (Fin.ext ?_)))
  · show (x 0).val = 0 + 1 * (x 0).val; omega
  · show o + (x 1).val = o + 1 * (x 1).val; omega

theorem gcol_apply (g : Vec Ideal S1x2048 .f32) (o : ℕ) (ho : o + 512 ≤ 2048) (h : ∀ a, (![0, o] : Fin 2 → ℕ) a + S1x512.size a ≤ S1x2048.size a) (b : Fin 512) :
    gcol g o h (ix2 (0 : Fin 1) b) = g (ix2 (0 : Fin 1) ⟨o + b.val, by omega⟩) :=
  congrArg g (funext fun a => Fin.ext (by
    match a with
    | 0 => rfl
    | 1 => show o + 1 * b.val = o + b.val; omega))

/-- The normalised rows, where the four slots hold their columns in order. -/
theorem out_apply (T : Fin 1024 → Fin 2048 → EReal) (s0 s1 s2 s3 : Vec Ideal S1x1024x512 .f32) (g : Vec Ideal S1x2048 .f32)
    (h0 : ∀ a b, s0 (ix3 (0 : Fin 1) a b) = T a ⟨0 + b.val, by omega⟩) (h1 : ∀ a b, s1 (ix3 (0 : Fin 1) a b) = T a ⟨512 + b.val, by omega⟩)
    (h2 : ∀ a b, s2 (ix3 (0 : Fin 1) a b) = T a ⟨1024 + b.val, by omega⟩) (h3 : ∀ a b, s3 (ix3 (0 : Fin 1) a b) = T a ⟨1536 + b.val, by omega⟩)
    (y : S1024x2048.Idx) : outOf s0 s1 s2 s3 g y = rowOut T g (y 0) (y 1) := by
  have hr := root_apply T s0 s1 s2 s3 h0 h1 h2 h3
  refine (View.canon_append_of_pieces (S := S1024x2048) (Val := Elt Ideal) (e := .f32) (fun y : S1024x2048.Idx => rowOut T g (y 0) (y 1)) []
    (outL s0 s1 s2 s3 g) ?_ y ?_)
  · intro p hp
    simp only [List.mem_cons, List.mem_nil_iff, or_false] at hp
    rcases hp with rfl | rfl | rfl | rfl
    · refine piece_apply T g 1536 (by decide) inb_S1024x2048_S1024x512_0_1536 _ fun a b => (pay4_apply _ _ _ a b).trans ?_
      rw [hr, h3, gcol_apply g 1536 (by decide)]; rfl
    · refine piece_apply T g 1024 (by decide) inb_S1024x2048_S1024x512_0_1024 _ fun a b => (pay3_apply _ _ _ a b).trans ?_
      rw [hr, h2, gcol_apply g 1024 (by decide)]; rfl
    · refine piece_apply T g 512 (by decide) inb_S1024x2048_S1024x512_0_512 _ fun a b => (pay2_apply _ _ _ a b).trans ?_
      rw [hr, h1, gcol_apply g 512 (by decide)]; rfl
    · refine piece_apply T g 0 (by decide) inb_S1024x2048_S1024x512_0_0 _ fun a b => (pay6_apply _ _ _ _ _ _ a b).trans ?_
      rw [hr, h0, gcol_apply g 0 (by decide)]; rfl
  · exact View.cover_of_tiledL (outL s0 s1 s2 s3 g) ![1024, 512] rfl y

/-! ## The blocks -/

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0] := (by decide +kernel : ∀ t : Fin grid0.N, _)

theorem V_v0 (c : Dev nD) (i : S16384x4096.Idx) : (V m c main_v0 i : EReal) = m (c.tc.loc main_arg0) i := rfl
theorem V_v1 (c : Dev nD) (i : S4096x2048.Idx) : (V m c main_v1 i : EReal) = m (c.tc.loc main_arg1) i := rfl
theorem V_v2 (c : Dev nD) (q : Fin 2048) : V m c main_v2 (ix2 (0 : Fin 1) q) = m (c.tc.loc main_arg3) (ix1 q) := by
  have h : S2048.ShapeCasts S1x2048 := by decide
  refine (show V m c main_v2 (ix2 (0 : Fin 1) q) = shapeCast S1x2048 (m (c.tc.loc main_arg3)) h (ix2 (0 : Fin 1) q) from rfl).trans ?_
  refine shapeCast_apply _ h _ (ix1 q) ?_
  rewrite [Shape.rowMajor_val_two, Shape.rowMajor_val_one]
  show q.val = 0 * 2048 + q.val
  omega

/-- The four arguments, as the function takes them. -/
abbrev Sm (c : Dev nD) := S (m (c.tc.loc main_arg0)) (m (c.tc.loc main_arg1)) (m (c.tc.loc main_arg2))

/-- Block `4 i + j` at an index. -/
theorem blk_apply (c : Dev nD) (i j : ℕ) (hi : i < 16) (hj : j < 4) (a : Fin 1024) (b : Fin 512) :
    blk m c (4 * i + j) (ix3 (0 : Fin 1) a b) = Sm m c ⟨1024 * i + a.val, by omega⟩ ⟨512 * j + b.val, by omega⟩ := by
  unfold blk
  refine (pay1_apply _ _ _ a b).trans ?_
  unfold Sm S
  have hv : (pt (4 * i + j)).val = 4 * i + j := by show (4 * i + j) % 64 = _; omega
  generalize pt (4 * i + j) = t at hv ⊢
  blk_simp [iblk]
  rw [V_main_arg2]
  refine congrArg₂ (fun p q : EReal => p + q) (congrArg (m (c.tc.loc main_arg2)) ?_) (Finset.sum_congr (M := EReal) rfl fun k _ =>
    congrArg₂ (fun p q : EReal => p * q) ((V_v0 m c _).trans (congrArg (m (c.tc.loc main_arg0)) ?_)) ((V_v1 m c _).trans (congrArg (m (c.tc.loc main_arg1)) ?_)))
  · blk_ext [idx2, hv]
  · blk_ext [idx0, hv]
  · blk_ext [idx1, hv]

/-- A normalised row of the call is the function's row. -/
theorem rowOut_eq (h : (⟨S16384x4096, .f32⟩ : BufTy).Contents (Elt Ideal)) (w : (⟨S4096x2048, .f32⟩ : BufTy).Contents (Elt Ideal))
    (x : (⟨S16384x2048, .f32⟩ : BufTy).Contents (Elt Ideal)) (g : (⟨S2048, .f32⟩ : BufTy).Contents (Elt Ideal))
    (T : Fin 1024 → Fin 2048 → EReal) (gi : S1x2048.Idx → EReal) (a : Fin 1024) (q : Fin 2048) (r : Fin 16384)
    (hT : ∀ q, T a q = S h w x r q) (hg : ∀ q : Fin 2048, gi (ix2 (0 : Fin 1) q) = g (ix1 q)) :
    rowOut T gi a q = G h w x g (ix2 r q) := by
  show T a q * Ideal.rsqrt (Ideal.div (∑ q, T a q * T a q) (Ideal.ofBits .f32 0x45000000#32) + Ideal.ofBits .f32 0x358637BD#32) * gi (ix2 (0 : Fin 1) q)
    = S h w x r q * Ideal.rsqrt (Ideal.div (∑ q, S h w x r q * S h w x r q) (Ideal.ofBits .f32 0x45000000#32) + Ideal.ofBits .f32 0x358637BD#32) * g (ix1 q)
  rw [hg]
  simp only [hT]

theorem final (c : Dev nD) : (dats m 0 c).arrAt 4 cfg0.N
    = G (m (c.tc.loc main_arg0)) (m (c.tc.loc main_arg1)) (m (c.tc.loc main_arg2)) (m (c.tc.loc main_arg3)) := by
  refine (dats m 0 c).arrAt_eq_of_covers 4 _ (by decide +kernel) fun t hf y => ?_
  have ht : t.val < 64 := lt_of_lt_of_eq t.isLt N_0
  blk_simp
  rw [after0_4]
  unfold outAt
  refine (out_apply (fun a q => Sm m c ⟨1024 * (t.val / 4) + a.val, by omega⟩ q) _ _ _ _ _ (fun a b => ?_) (fun a b => ?_) (fun a b => ?_) (fun a b => ?_) y).trans ?_
  · exact (blk_apply m c (t.val / 4) 0 (by omega) (by omega) a b).trans (congrArg _ (Fin.ext (by show 512 * 0 + b.val = 0 + b.val; omega)))
  · exact (blk_apply m c (t.val / 4) 1 (by omega) (by omega) a b).trans (congrArg _ (Fin.ext (by show 512 * 1 + b.val = 512 + b.val; omega)))
  · exact (blk_apply m c (t.val / 4) 2 (by omega) (by omega) a b).trans (congrArg _ (Fin.ext (by show 512 * 2 + b.val = 1024 + b.val; omega)))
  · exact (blk_apply m c (t.val / 4) 3 (by omega) (by omega) a b).trans (congrArg _ (Fin.ext (by show 512 * 3 + b.val = 1536 + b.val; omega)))
  have hg (q : Fin 2048) : iblk m c 3 t (ix2 (0 : Fin 1) q) = m (c.tc.loc main_arg3) (ix1 q) := by
    refine Eq.trans ?_ (V_v2 m c q)
    blk_simp [iblk]
    refine congrArg (V m c main_v2) ?_
    blk_ext [idx3]
  have e : (win0_4.blk t).view.emb y = ix2 (⟨1024 * (t.val / 4) + (y 0).val, by have : (y 0).val < 1024 := (y 0).isLt; omega⟩ : Fin 16384) (y 1 : Fin 2048) := by
    blk_ext [idx4]
  exact (rowOut_eq _ _ _ _ _ _ _ _ (⟨1024 * (t.val / 4) + (y 0).val, by have : (y 0).val < 1024 := (y 0).isLt; omega⟩ : Fin 16384) (fun q => rfl) hg).trans
    (congrArg (G _ _ _ _) e.symm)

end Cert.Kernel4Ideal.Hand

end
-- ==== Proof.OutD.lean ====
module

public import proofs.«01_k».proof.Defs
public import proofs.«01_k».proof.Proof.Gen.Kernel4
public import proofs.«01_k».proof.Proof.OutV

@[expose] public section

noncomputable section

namespace Cert.Kernel4Ideal.Hand

open Idealize.ShloMosaic Idealize.SL.Sem

theorem defs₀_eq : Cert.Kernel4.defs₀ (F := Bits) = Cert.Kernel4Ideal.defs₀ (F := Bits) := by
  unfold Cert.Kernel4.defs₀ Cert.Kernel4Ideal.defs₀
  refine congrArg Defs.onTc ?_
  funext l p
  match l, p with
  | 0, (t, s) => rfl

/-- The two programs' body tables are one. -/
theorem defs_eq : Cert.Kernel4.defs (F := Bits) = Cert.Kernel4Ideal.defs (F := Bits) :=
  congrArg (Pipeline.defs Cert.Kernel4Ideal.pcfgs) defs₀_eq

/-- The kernel at machine words runs and leaves its arguments: the same text, so the same run. -/
theorem frame_kernel : Cert.quiescent_Kernel4 := fun m ρ _ => by
  have h := (θ_run Cert.Kernel4Ideal.defs _ _).mono (fun _ h => And.intro (fun c => (h.1 c).2) h.2) (run (F := Bits) m ρ)
  rw [← defs_eq] at h
  exact h

theorem frame_ideal : Cert.quiescent_Kernel4Ideal := fun m ρ _ =>
  (θ_run Cert.Kernel4Ideal.defs _ _).mono (fun _ h => ⟨fun c => (h.1 c).2, h.2⟩) (run (F := Ideal) m ρ)

/-- The reference runs and leaves its arguments; it declares no semaphore. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference leave the same array. -/
theorem value : Cert.algebraic_Kernel4Ideal_Reference4Ideal := by
  intro m g m' g' _ hargs
  refine ⟨fun c => G (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · exact (θ_run Cert.Kernel4Ideal.defs _ _).mono (fun _ h c => ⟨(h.1 c).1.trans (final m c), (h.1 c).2⟩) (run (F := Ideal) m g)
  · refine (θ_run Cert.Reference4Ideal.defs _ _).mono (fun _ h c => ⟨(h c).1.trans ?_, (h c).2⟩) (Cert.Reference4Ideal.Value.run m' g')
    rw [(hargs c).1, (hargs c).2.1, (hargs c).2.2.1, (hargs c).2.2.2]
    exact (Cert.Reference4Ideal.Read.val_main_v14_eq (F := Ideal) _ _ _ _).trans (ref_apply _ _ _ _)

end Cert.Kernel4Ideal.Hand

end
-- ==== Proof.ProjBA.lean ====
module

public import proofs.«01_k».proof.Proof.Kit
public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kit
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The cast weight block, the staged weight block, the weights left in HBM. -/
abbrev scM0 : Memref sig .tc .vmem S2048x1024 .bf16 := Memref.whole cc0_scratch0
abbrev scM1 : Memref sig .tc .vmem S2048x1024 .f32 := Memref.whole cc0_scratch1
abbrev hbM : Memref sig .tc .hbm S1x2048x8192 .f32 := Memref.whole main_arg1
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦[M.view.set]{fullShare} f

/-- The block of the weights at offsets `o`, as the body names it. -/
abbrev wsl (o : Fin 3 → ℕ) (h : ∀ a, o a + S1x2048x1024.size a ≤ S1x2048x8192.size a) : Memref sig .tc .hbm S2048x1024 .f32 :=
  (hbM.slice (Rect.unit (s := S1x2048x8192) o S1x2048x1024.size h) (fun _ => rfl)).squeeze S2048x1024 squeezes_S1x2048x1024_S2048x1024

/-- What the staging buffer holds once the block has landed. -/
abbrev landed (c : Dev nD) (o : Fin 3 → ℕ) (h : ∀ a, o a + S1x2048x1024.size a ≤ S1x2048x8192.size a)
    (fs : HbBuf (F := F) c hbM) (d : HbBuf (F := F) c scM1) : HbBuf (F := F) c scM1 :=
  scM1.view.writes (Elt F) d [⟨Rect.whole S2048x1024, ReadAs.same.apply ((wsl o h).view.read (Elt F) fs)⟩]

/-- The copy of a block in flight. -/
abbrev inflight (c : Dev nD) (o : Fin 3 → ℕ) (h : ∀ a, o a + S1x2048x1024.size a ≤ S1x2048x8192.size a)
    (fs : HbBuf (F := F) c hbM) (d : HbBuf (F := F) c scM1) : sProp 𝕄 :=
  Transfers.Flight (countersEmb (U := Pipeline.UD sig nD τ)) c.tc (.dma cc0_scratch2.sem) () (scM1.view.amount (SemLoc.dma (sig := sig) cc0_scratch2.sem))
    iprop(hbPt c scM1 (landed c o h fs d) ∗ hbPt c (wsl o h) fs)

/-- The body at a grid point, over its operands. -/
abbrev body (i : grid0.Coords) (arg2 : Memref sig .tc .vmem S2048x2048 .bf16) (harg2 : arg2.IsWhole)
    (arg4 : Memref sig .tc .vmem S2048x1024 .bf16) (harg4 : arg4.IsWhole) :=
  cc0_proj_None (F := F) i arg2 harg2 hbM (Memref.isWhole_whole _) arg4 harg4 scM0 (Memref.isWhole_whole _)
    scM1 (Memref.isWhole_whole _) cc0_scratch2

/-- The cast of the block of the weights at offsets `o`. -/
abbrev castBlk (c : Dev nD) (o : Fin 3 → ℕ) (h : ∀ a, o a + S1x2048x1024.size a ≤ S1x2048x8192.size a) (fs : HbBuf (F := F) c hbM) : Vec F S2048x1024 .bf16 :=
  k0_pay1 ((wsl o h).view.read (Elt F) fs)

/-! ## The body run, case by case -/

variable (c : Dev nD) (i : grid0.Coords)
  (arg2 : Memref sig .tc .vmem S2048x2048 .bf16) (harg2 : arg2.IsWhole) (arg4 : Memref sig .tc .vmem S2048x1024 .bf16) (harg4 : arg4.IsWhole)

theorem run_A (h1 : k0_cond1 i = 1#1) (h2 : k0_cond2 i = 1#1) (h3 : k0_cond3 i = 1#1)
    (x : Vec F S2048x2048 .bf16) (fs : HbBuf (F := F) c hbM) (W : Waits sig Unit) (K : PUnit → sProp 𝕄) :
    iprop(owns c.tc arg2 fullShare x ∗ (∃ d, owns c.tc arg4 fullShare d)
        ∗ (∃ d, owns c.tc scM0 fullShare d)
        ∗ (∃ ds, hbPt c scM1 ds) ∗ semVal (c.tc, SemLoc.dma cc0_scratch2.sem) 0
        ∗ hbPt c (wsl (k0_off1 i) (k0_off1_inb i h1)) fs
        ∗ hbPt c (wsl (k0_off3 i) (k0_off3_inb i h3)) fs
        ∗ owes c.tc 0 W
        ∗ (iprop(owns c.tc arg2 fullShare x ∗ owns c.tc arg4 fullShare (k0_pay2 x (castBlk c (k0_off1 i) (k0_off1_inb i h1) fs))
            ∗ owns c.tc scM0 fullShare (castBlk c (k0_off1 i) (k0_off1_inb i h1) fs)
            ∗ (∃ d, inflight c (k0_off3 i) (k0_off3_inb i h3) fs d)
            ∗ hbPt c (wsl (k0_off1 i) (k0_off1_inb i h1)) fs
            ∗ (∃ W', owes c.tc 0 W')) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%d5, %f5, -, H5⟩, ⟨%ds, HS⟩, HF, Hn0, Hn, HW, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, hf2]
      unfold run_A.sl.v14 run_A.sl.H5_1
      rw [View.readCov_full]
      unfold run_A.sl.v23
      first | (rw [readCov_whole]; done) | (rw [readCov_whole]; rfl)
  isplitl [H5]
  · iexists _; isplitr; swap
    · iexact H5
    · ipureintro
      unfold run_A.sl.H5_1
      rw [View.read_writes_full]
      unfold run_A.sl.v23
      first | (rw [readCov_whole]; done) | (rw [readCov_whole]; rfl)
  isplitl [HF]; · iexists _; iexact HF
  isplitl [Hn0]; · iexact Hn0
  · iexists _; iexact HW
/-- The same at offsets in closed form. -/
theorem run_A' (h1 : k0_cond1 i = 1#1) (h2 : k0_cond2 i = 1#1) (h3 : k0_cond3 i = 1#1)
    {o1 : Fin 3 → ℕ} (b1 : ∀ a, o1 a + S1x2048x1024.size a ≤ S1x2048x8192.size a) (e1 : k0_off1 i = o1) {o3 : Fin 3 → ℕ} (b3 : ∀ a, o3 a + S1x2048x1024.size a ≤ S1x2048x8192.size a) (e3 : k0_off3 i = o3)
    (x : Vec F S2048x2048 .bf16) (fs : HbBuf (F := F) c hbM) (W : Waits sig Unit) (K : PUnit → sProp 𝕄) :
    iprop(owns c.tc arg2 fullShare x ∗ (∃ d, owns c.tc arg4 fullShare d)
        ∗ (∃ d, owns c.tc scM0 fullShare d)
        ∗ (∃ ds, hbPt c scM1 ds) ∗ semVal (c.tc, SemLoc.dma cc0_scratch2.sem) 0
        ∗ hbPt c (wsl o1 b1) fs
        ∗ hbPt c (wsl o3 b3) fs
        ∗ owes c.tc 0 W
        ∗ (iprop(owns c.tc arg2 fullShare x ∗ owns c.tc arg4 fullShare (k0_pay2 x (castBlk c o1 b1 fs))
            ∗ owns c.tc scM0 fullShare (castBlk c o1 b1 fs)
            ∗ (∃ d, inflight c o3 b3 fs d)
            ∗ hbPt c (wsl o1 b1) fs
            ∗ (∃ W', owes c.tc 0 W')) -∗ K ⟨⟩))
      ⊢ wp frame (wpE (defs₀ (F := F)) Variants.none c none) Set.univ (body i arg2 harg2 arg4 harg4) K := by
  subst e1
  subst e3
  exact run_A c i arg2 harg2 arg4 harg4 h1 h2 h3 x fs W K

theorem run_B (h1 : ¬ k0_cond1 i = 1#1) (h2 : k0_cond2 i = 1#1) (h3 : k0_cond3 i = 1#1)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c (k0_off2 i) (k0_off2_inb i h2) fs ds
        ∗ hbPt c (wsl (k0_off3 i) (k0_off3_inb i h3)) fs
        ∗ owes c.tc 0 W
        ∗ (iprop(owns c.tc arg2 fullShare x ∗ owns c.tc arg4 fullShare (k0_pay2 x (castBlk c (k0_off2 i) (k0_off2_inb i h2) fs))
            ∗ owns c.tc scM0 fullShare (castBlk c (k0_off2 i) (k0_off2_inb i h2) fs)
            ∗ (∃ d, inflight c (k0_off3 i) (k0_off3_inb i h3) fs d)
            ∗ hbPt c (wsl (k0_off2 i) (k0_off2_inb i h2)) fs
            ∗ (∃ W', owes c.tc 0 W')) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%d5, %f5, -, H5⟩, HF, Hn, HW, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, hf2]
      unfold run_B.sl.v14 run_B.sl.H5_1
      rw [View.readCov_full]
      unfold run_B.sl.v23
      first | (rw [readCov_whole]; done) | (rw [readCov_whole]; rfl)
  isplitl [H5]
  · iexists _; isplitr; swap
    · iexact H5
    · ipureintro
      unfold run_B.sl.H5_1
      rw [View.read_writes_full]
      unfold run_B.sl.v23
      first | (rw [readCov_whole]; done) | (rw [readCov_whole]; rfl)
  isplitl [HF]; · iexists _; iexact HF
  isplitl [HF_src]; · iexact HF_src
  · iexists _; iexact HW
/-- The same at offsets in closed form. -/
theorem run_B' (h1 : ¬ k0_cond1 i = 1#1) (h2 : k0_cond2 i = 1#1) (h3 : k0_cond3 i = 1#1)
    {o2 : Fin 3 → ℕ} (b2 : ∀ a, o2 a + S1x2048x1024.size a ≤ S1x2048x8192.size a) (e2 : k0_off2 i = o2) {o3 : Fin 3 → ℕ} (b3 : ∀ a, o3 a + S1x2048x1024.size a ≤ S1x2048x8192.size a) (e3 : k0_off3 i = o3)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c o2 b2 fs ds
        ∗ hbPt c (wsl o3 b3) fs
        ∗ owes c.tc 0 W
        ∗ (iprop(owns c.tc arg2 fullShare x ∗ owns c.tc arg4 fullShare (k0_pay2 x (castBlk c o2 b2 fs))
            ∗ owns c.tc scM0 fullShare (castBlk c o2 b2 fs)
            ∗ (∃ d, inflight c o3 b3 fs d)
            ∗ hbPt c (wsl o2 b2) fs
            ∗ (∃ W', owes c.tc 0 W')) -∗ K ⟨⟩))
      ⊢ wp frame (wpE (defs₀ (F := F)) Variants.none c none) Set.univ (body i arg2 harg2 arg4 harg4) K := by
  subst e2
  subst e3
  exact run_B c i arg2 harg2 arg4 harg4 h1 h2 h3 x fs ds W K

theorem run_C (h1 : ¬ k0_cond1 i = 1#1) (h2 : k0_cond2 i = 1#1) (h3 : ¬ k0_cond3 i = 1#1)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c (k0_off2 i) (k0_off2_inb i h2) fs ds
        ∗ owes c.tc 0 W
        ∗ (iprop(owns c.tc arg2 fullShare x ∗ owns c.tc arg4 fullShare (k0_pay2 x (castBlk c (k0_off2 i) (k0_off2_inb i h2) fs))
            ∗ owns c.tc scM0 fullShare (castBlk c (k0_off2 i) (k0_off2_inb i h2) fs)
            ∗ hbPt c (wsl (k0_off2 i) (k0_off2_inb i h2)) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%d5, %f5, -, H5⟩, HF, HW, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, hf2]
      unfold run_C.sl.v14 run_C.sl.H5_1
      rw [View.readCov_full]
      unfold run_C.sl.v23
      first | (rw [readCov_whole]; done) | (rw [readCov_whole]; rfl)
  isplitl [H5]
  · iexists _; isplitr; swap
    · iexact H5
    · ipureintro
      unfold run_C.sl.H5_1
      rw [View.read_writes_full]
      unfold run_C.sl.v23
      first | (rw [readCov_whole]; done) | (rw [readCov_whole]; rfl)
  isplitl [HF_src]; · iexact HF_src
  isplitl [HF_dst]; · iexists _; iexact HF_dst
  isplitl [HF]; · iexact HF
  · iexists _; iexact HW
/-- The same at offsets in closed form. -/
theorem run_C' (h1 : ¬ k0_cond1 i = 1#1) (h2 : k0_cond2 i = 1#1) (h3 : ¬ k0_cond3 i = 1#1)
    {o2 : Fin 3 → ℕ} (b2 : ∀ a, o2 a + S1x2048x1024.size a ≤ S1x2048x8192.size a) (e2 : k0_off2 i = o2)
    (x : Vec F S2048x2048 .bf16) (fs : HbBuf (F := F) c hbM) (ds : HbBuf (F := F) c scM1) (W : Waits sig Unit) (K : PUnit → sProp 𝕄) :
    iprop(owns c.tc arg2 fullShare x ∗ (∃ d, owns c.tc arg4 fullShare d)
        ∗ (∃ d, owns c.tc scM0 fullShare d)
        ∗ inflight c o2 b2 fs ds
        ∗ owes c.tc 0 W
        ∗ (iprop(owns c.tc arg2 fullShare x ∗ owns c.tc arg4 fullShare (k0_pay2 x (castBlk c o2 b2 fs))
            ∗ owns c.tc scM0 fullShare (castBlk c o2 b2 fs)
            ∗ hbPt c (wsl o2 b2) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4) K := by
  subst e2
  exact run_C c i arg2 harg2 arg4 harg4 h1 h2 h3 x fs ds W K

theorem run_D (h1 : ¬ k0_cond1 i = 1#1) (h2 : ¬ k0_cond2 i = 1#1) (h3 : ¬ k0_cond3 i = 1#1)
    (x : Vec F S2048x2048 .bf16) (wb : Vec F S2048x1024 .bf16) (K : PUnit → sProp 𝕄) :
    iprop(owns c.tc arg2 fullShare x ∗ (∃ d, owns c.tc arg4 fullShare d)
        ∗ owns c.tc scM0 fullShare wb
        ∗ (iprop(owns c.tc arg2 fullShare x ∗ owns c.tc arg4 fullShare (k0_pay2 x wb)
            ∗ owns c.tc scM0 fullShare wb) -∗ K ⟨⟩))
      ⊢ wp frame (wpE (defs₀ (F := F)) Variants.none c none) Set.univ (body i arg2 harg2 arg4 harg4) K := by
  unfold body
  rw [cc0_proj_None_eq_skeleton]; unfold cc0_proj_None_skel
  unfold owns
  iintro ⟨⟨%f2, %hf2, H2⟩, ⟨%d4, %f4, -, H4⟩, ⟨%f5, %hf5, H5⟩, Hk⟩
  sl_exec
  sl_step
  iapply Hk
  isplitl [H2]; · iexists _; isplitr; swap; iexact H2; ipureintro; exact hf2
  isplitl [H4]
  · iexists _; isplitr; swap
    · iexact H4
    · ipureintro
      rw [View.read_writes_full, View.readAt_full, View.readAt_full, hf2, hf5]
  · iexists _; isplitr; swap; iexact H5; ipureintro; exact hf5

end Cert.Kernel5Ideal.Hand

end
-- ==== Proof.ProjBB.lean ====
module

public import proofs.«01_k».proof.Proof.ProjBA

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem not_written (b : Ref sig .tc) (hb : b ≠ main_v0) : ∀ op ∈ (hostOps0 (F := F)), Proc.devRef .tc b ∉ op.writes := by
  intro op hop
  simp only [List.mem_cons, List.mem_nil_iff, or_false] at hop
  rcases hop with rfl
  exact fun hm => StableHlo.devRef_ne_of_ne hb (Finset.mem_singleton.mp hm)

theorem V_arg0 (c : Dev nD) : V m c main_arg0 = m (c.tc.loc main_arg0) :=
  StableHlo.after_of_forall_not_mem (b := Proc.devRef .tc main_arg0) _ _ (not_written main_arg0 (by decide))
theorem V_arg1 (c : Dev nD) : V m c main_arg1 = m (c.tc.loc main_arg1) :=
  StableHlo.after_of_forall_not_mem (b := Proc.devRef .tc main_arg1) _ _ (not_written main_arg1 (by decide))
theorem V_v0 (c : Dev nD) : V m c main_v0 = (truncf .bf16 (m (c.tc.loc main_arg0) : (⟨S16384x2048, .f32⟩ : BufTy).Contents (Elt F)) bitsLt_bf16_f32 : (⟨S16384x2048, .bf16⟩ : BufTy).Contents (Elt F)) := by
  rfl

/-! ## Where the grid's points lie -/

/-- Block `k` of the weights: its offsets. -/
def boff (k : ℕ) : Fin 3 → ℕ := ![0, 0, 1024 * (k % 4)]
theorem boff_inb (k : ℕ) : ∀ a, boff k a + S1x2048x1024.size a ≤ S1x2048x8192.size a := by
  intro a
  have : k % 4 < 4 := Nat.mod_lt _ (by decide)
  match a with
  | 0 => show (0 : ℕ) + 1 ≤ 1; omega
  | 1 => show (0 : ℕ) + 2048 ≤ 2048; omega
  | 2 => show 1024 * (k % 4) + 1024 ≤ 8192; omega

theorem cond1_iff : ∀ t : Fin grid0.N, k0_cond1 (grid0.coords t) = 1#1 ↔ t.val = 0 := by decide +kernel
theorem cond2_iff : ∀ t : Fin grid0.N, k0_cond2 (grid0.coords t) = 1#1 ↔ t.val % 8 = 0 := by decide +kernel
theorem cond3_iff : ∀ t : Fin grid0.N, k0_cond3 (grid0.coords t) = 1#1 ↔ t.val % 8 = 0 ∧ t.val < 24 := by decide +kernel
theorem off1_at : ∀ t : Fin grid0.N, t.val = 0 → k0_off1 (grid0.coords t) = boff 0 := by decide +kernel
theorem off2_at : ∀ t : Fin grid0.N, k0_off2 (grid0.coords t) = boff (t.val / 8) := by decide +kernel
theorem off3_at : ∀ t : Fin grid0.N, t.val < 24 → k0_off3 (grid0.coords t) = boff (t.val / 8 + 1) := by decide +kernel

/-- The elements of block `k` in the weights' buffer. -/
abbrev wset (k : ℕ) := (wsl (boff k) (boff_inb k)).view.set

theorem wset_disj {j k : ℕ} (h : j % 4 ≠ k % 4) : wset k ⊆ hbM.view.set \ wset j := by
  intro x hx
  have e (k : ℕ) : wset k = (Rect.unit (s := S1x2048x8192) (boff k) S1x2048x1024.size (boff_inb k)).set :=
    (View.set_reshape _ _).trans (View.set_slice_whole _ _)
  rw [e] at hx ⊢
  rw [Finset.mem_sdiff]
  refine ⟨by rw [show hbM.view.set = Finset.univ from View.set_whole _]; exact Finset.mem_univ _, fun hy => ?_⟩
  have h1 := Rect.mem_set_unit.1 hx 2
  have h2 := Rect.mem_set_unit.1 hy 2
  have e1 (k : ℕ) : boff k 2 = 1024 * (k % 4) := rfl
  have e2 : S1x2048x1024.size 2 = 1024 := rfl
  rw [e1, e2] at h1 h2
  omega

theorem wset_sub (k : ℕ) : wset k ⊆ hbM.view.set := fun x hx => by
  rw [show hbM.view.set = Finset.univ from View.set_whole _]; exact Finset.mem_univ _

end Cert.Kernel5Ideal.Hand

end
-- ==== Proof.ProjBC.lean ====
module

public import proofs.«01_k».proof.Proof.ProjBB

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The weights as the region finds them. -/
abbrev wts (c : Dev nD) : HbBuf (F := F) c hbM := V m c main_arg1
/-- The cast of block `k`. -/
abbrev wb (c : Dev nD) (k : ℕ) : Vec F S2048x1024 .bf16 := castBlk c (boff k) (boff_inb k) (wts m c)

/-- The staging buffer free, its cell at zero, the weights whole. -/
def idle (c : Dev nD) : sProp 𝕄 :=
  iprop((∃ ds, hbPt c scM1 ds) ∗ semVal (c.tc, SemLoc.dma cc0_scratch2.sem) 0 ∗ hbPt c hbM (wts m c))
/-- Block `k` in flight, the rest of the weights held. -/
def flying (c : Dev nD) (k : ℕ) : sProp 𝕄 :=
  iprop((∃ d, inflight c (boff k) (boff_inb k) (wts m c) d) ∗ (hbM.view.loc c.tc ↦[hbM.view.set \ wset k]{fullShare} wts m c))
/-- Before point `p`: nothing consumed at `0`; else block `(p - 1) / 8` cast, the next one in flight if there is one. -/
def inv (c : Dev nD) (p : ℕ) : sProp 𝕄 :=
  if p = 0 then iprop((∃ d, owns c.tc scM0 fullShare d) ∗ idle m c)
  else if (p - 1) / 8 + 1 < 4 then iprop(owns c.tc scM0 fullShare (wb m c ((p - 1) / 8)) ∗ flying m c ((p - 1) / 8 + 1))
  else iprop(owns c.tc scM0 fullShare (wb m c ((p - 1) / 8)) ∗ idle m c)

theorem inv_zero (c : Dev nD) : inv m c 0 = iprop((∃ d, owns c.tc scM0 fullShare d) ∗ idle m c) := by
  unfold inv; rw [if_pos rfl]
theorem inv_mid (c : Dev nD) {p k : ℕ} (h0 : p ≠ 0) (hk : (p - 1) / 8 = k) (h : k + 1 < 4) :
    inv m c p = iprop(owns c.tc scM0 fullShare (wb m c k) ∗ flying m c (k + 1)) := by
  subst hk; unfold inv; rw [if_neg h0, if_pos h]
theorem inv_end (c : Dev nD) {p k : ℕ} (h0 : p ≠ 0) (hk : (p - 1) / 8 = k) (h : ¬ k + 1 < 4) :
    inv m c p = iprop(owns c.tc scM0 fullShare (wb m c k) ∗ idle m c) := by
  subst hk; unfold inv; rw [if_neg h0, if_neg h]

/-! ## The proof data -/

abbrev ms0_0 (t : Fin cfg0.N) : Memref sig .tc .vmem S2048x2048 .bf16 := win0_0.stage (cfg0.slots t 0)
abbrev ms0_1 (t : Fin cfg0.N) : Memref sig .tc .vmem S2048x1024 .bf16 := win0_1.stage (cfg0.slots t 1)

/-- Window `w`'s block of its array at point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result at point `t`. -/
def outAt (c : Dev nD) (t : Fin cfg0.N) : Vec F S2048x1024 .bf16 := k0_pay2 (iblk m c 0 t) (wb m c (t.val / 8))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d : ((cfg0.win 0).xblock (cfg0.grid.coords t)).Idx → Elt F (cfg0.win 0).elt) : (dats m 0 c).before 0 t d = iblk m c 0 t :=
  (Dat.before_in_eq_fetched (dats m 0 c) 0 rfl (fun _ => rfl) (fun _ _ _ => rfl)
    (fun t => by rw [after0_0]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t))

/-- What the body is called with, and what it leaves, over the invariant and the operands' contents. -/
def pre (c : Dev nD) (t : Fin cfg0.N) (W : Waits sig Unit) : sProp 𝕄 :=
  iprop(inv m c t.val ∗ owes c.tc 0 W ∗ owns c.tc (ms0_0 t) fullShare (iblk m c 0 t)
    ∗ (∃ d, owns c.tc (ms0_1 t) fullShare d))
def post (c : Dev nD) (t : Fin cfg0.N) : sProp 𝕄 :=
  iprop(inv m c (t.val + 1) ∗ (∃ W', owes c.tc 0 W') ∗ owns c.tc (ms0_0 t) fullShare (iblk m c 0 t)
    ∗ owns c.tc (ms0_1 t) fullShare (outAt m c t))

theorem point_D (c : Dev nD) (t : Fin cfg0.N) (h : t.val % 8 ≠ 0) (W : Waits sig Unit) :
    pre m c t W ⊢ wp frame (wpE (defs₀ (F := F)) Variants.none c none) Set.univ (bodyAt0 t) (fun _ => post m c t) := by
  unfold pre post outAt
  have e : ∃ R : sProp 𝕄, inv m c t.val = iprop(owns c.tc scM0 fullShare (wb m c (t.val / 8)) ∗ R)
      ∧ inv m c (t.val + 1) = iprop(owns c.tc scM0 fullShare (wb m c (t.val / 8)) ∗ R) := by
    by_cases hk : t.val / 8 + 1 < 4
    · exact ⟨_, inv_mid m c (by omega) (by omega) hk, inv_mid m c (by omega) (by omega) hk⟩
    · exact ⟨_, inv_end m c (by omega) (by omega) hk, inv_end m c (by omega) (by omega) hk⟩
  obtain ⟨R, e0, e1⟩ := e
  rw [e0, e1]
  iintro ⟨⟨H5, HR⟩, HW, H2, H4⟩
  iapply (run_D c (grid0.coords t) (ms0_0 t) _ (ms0_1 t) _ (fun hc => h (by rw [(cond1_iff t).1 hc]))
    (fun hc => h ((cond2_iff t).1 hc)) (fun hc => h ((cond3_iff t).1 hc).1) (iblk m c 0 t) (wb m c (t.val / 8)) _)
  isplitl [H2]; · iexact H2
  isplitl [H4]; · iexact H4
  isplitl [H5]; · iexact H5
  iintro ⟨H2, H4, H5⟩
  isplitl [H5 HR]
  · isplitl [H5]; · iexact H5
    iexact HR
  isplitl [HW]; · iexists _; iexact HW
  isplitl [H2]; · iexact H2
  iexact H4

/-- A block handed back goes into the rest that lacks it and the next one. -/
theorem rejoin (c : Dev nD) {j k : ℕ} (h : j % 4 ≠ k % 4) (f : HbBuf (F := F) c hbM) :
    iprop((hbM.view.loc c.tc ↦[wset j]{fullShare} f) ∗ (hbM.view.loc c.tc ↦[(hbM.view.set \ wset j) \ wset k]{fullShare} f))
      ⊢ (hbM.view.loc c.tc ↦[hbM.view.set \ wset k]{fullShare} f : sProp 𝕄) := by
  rw [sdiff_right_comm]
  exact (pointsTo_split_subset (wset_disj (Ne.symm h))).2

theorem point_A (c : Dev nD) (t : Fin cfg0.N) (h : t.val = 0) (W : Waits sig Unit) :
    pre m c t W ⊢ wp frame (wpE (defs₀ (F := F)) Variants.none c none) Set.univ (bodyAt0 t) (fun _ => post m c t) := by
  unfold pre post outAt
  rw [h, inv_zero, inv_mid m c (p := 0 + 1) (k := 0) (by decide) (by decide) (by decide)]
  unfold idle flying
  iintro ⟨⟨H5, HS, HF, Hw⟩, HW, H2, H4⟩
  ihave ⟨Hw0, Hw⟩ := (pointsTo_split_subset (wset_sub 0)).1 $$ Hw
  ihave ⟨Hw1, Hw⟩ := (pointsTo_split_subset (wset_disj (j := 0) (k := 1) (by decide))).1 $$ Hw
  iapply (run_A' c (grid0.coords t) (ms0_0 t) _ (ms0_1 t) _ ((cond1_iff t).2 h)
    ((cond2_iff t).2 (by omega)) ((cond3_iff t).2 (by omega)) (boff_inb 0) (off1_at t h) (boff_inb 1)
    ((off3_at t (by omega)).trans (by rw [h])) (iblk m c 0 t) (wts m c) W _)
  isplitl [H2]; · iexact H2
  isplitl [H4]; · iexact H4
  isplitl [H5]; · iexact H5
  isplitl [HS]; · iexact HS
  isplitl [HF]; · iexact HF
  isplitl [Hw0]; · iexact Hw0
  isplitl [Hw1]; · iexact Hw1
  isplitl [HW]; · iexact HW
  iintro ⟨H2, H4, H5, HF, Hw0, HW⟩
  isplitl [H5 HF Hw Hw0]
  · isplitl [H5]; · iexact H5
    isplitl [HF]; · iexact HF
    iapply (rejoin (F := F) c (j := 0) (k := 1) (by decide) (wts m c))
    isplitl [Hw0]; · iexact Hw0
    iexact Hw
  isplitl [HW]; · iexact HW
  isplitl [H2]; · iexact H2
  iexact H4
theorem point_B (c : Dev nD) (t : Fin cfg0.N) (h0 : t.val ≠ 0) (h : t.val % 8 = 0) (hn : t.val < 24) (W : Waits sig Unit) :
    pre m c t W ⊢ wp frame (wpE (defs₀ (F := F)) Variants.none c none) Set.univ (bodyAt0 t) (fun _ => post m c t) := by
  unfold pre post outAt
  obtain ⟨k, hk⟩ : ∃ k, t.val / 8 = k + 1 := ⟨t.val / 8 - 1, by omega⟩
  rw [inv_mid m c (p := t.val) (k := k) h0 (by omega) (by omega),
    inv_mid m c (p := t.val + 1) (k := k + 1) (by omega) (by omega) (by omega), hk]
  unfold flying
  iintro ⟨⟨H5, ⟨%ds, HF⟩, Hw⟩, HW, H2, H4⟩
  ihave ⟨Hw1, Hw⟩ := (pointsTo_split_subset (wset_disj (j := k + 1) (k := k + 1 + 1) (by omega))).1 $$ Hw
  iapply (run_B' c (grid0.coords t) (ms0_0 t) _ (ms0_1 t) _ (fun hc => h0 ((cond1_iff t).1 hc))
    ((cond2_iff t).2 h) ((cond3_iff t).2 ⟨h, hn⟩) (boff_inb (k + 1)) ((off2_at t).trans (by rw [hk])) (boff_inb (k + 1 + 1))
    ((off3_at t hn).trans (by rw [hk])) (iblk m c 0 t) (wts m c) ds W _)
  isplitl [H2]; · iexact H2
  isplitl [H4]; · iexact H4
  isplitl [H5]; · iexists _; iexact H5
  isplitl [HF]; · iexact HF
  isplitl [Hw1]; · iexact Hw1
  isplitl [HW]; · iexact HW
  iintro ⟨H2, H4, H5, HF, Hw0, HW⟩
  isplitl [H5 HF Hw Hw0]
  · isplitl [H5]; · iexact H5
    isplitl [HF]; · iexact HF
    iapply (rejoin (F := F) c (j := k + 1) (k := k + 1 + 1) (by omega) (wts m c))
    isplitl [Hw0]; · iexact Hw0
    iexact Hw
  isplitl [HW]; · iexact HW
  isplitl [H2]; · iexact H2
  iexact H4

theorem point_C (c : Dev nD) (t : Fin cfg0.N) (h : t.val = 24) (W : Waits sig Unit) :
    pre m c t W ⊢ wp frame (wpE (defs₀ (F := F)) Variants.none c none) Set.univ (bodyAt0 t) (fun _ => post m c t) := by
  unfold pre post outAt
  rw [inv_mid m c (p := t.val) (k := 2) (by omega) (by omega) (by omega),
    inv_end m c (p := t.val + 1) (k := 3) (by omega) (by omega) (by omega), show t.val / 8 = 3 by omega]
  unfold flying idle
  iintro ⟨⟨H5, ⟨%ds, HF⟩, Hw⟩, HW, H2, H4⟩
  iapply (run_C' c (grid0.coords t) (ms0_0 t) _ (ms0_1 t) _ (fun hc => by have := (cond1_iff t).1 hc; omega)
    ((cond2_iff t).2 (by omega)) (fun hc => by have := (cond3_iff t).1 hc; omega) (boff_inb 3) ((off2_at t).trans (by rw [h]))
    (iblk m c 0 t) (wts m c) ds W _)
  isplitl [H2]; · iexact H2
  isplitl [H4]; · iexact H4
  isplitl [H5]; · iexists _; iexact H5
  isplitl [HF]; · iexact HF
  isplitl [HW]; · iexact HW
  iintro ⟨H2, H4, H5, Hw0, HS, HF, HW⟩
  isplitl [H5 HF HS Hw Hw0]
  · isplitl [H5]; · iexact H5
    isplitl [HS]; · iexact HS
    isplitl [HF]; · iexact HF
    iapply (pointsTo_split_subset (wset_sub 3)).2
    isplitl [Hw0]; · iexact Hw0
    iexact Hw
  isplitl [HW]; · iexact HW
  isplitl [H2]; · iexact H2
  iexact H4

theorem point (c : Dev nD) (t : Fin cfg0.N) (W : Waits sig Unit) :
    pre m c t W ⊢ wp frame (wpE (defs₀ (F := F)) Variants.none c none) Set.univ (bodyAt0 t) (fun _ => post m c t) := by
  have ht : t.val < 32 := lt_of_lt_of_eq t.isLt N_0
  by_cases h : t.val % 8 = 0
  · by_cases h0 : t.val = 0
    · exact point_A m c t h0 W
    · by_cases hn : t.val < 24
      · exact point_B m c t h0 h hn W
      · exact point_C m c t (by omega) W
  · exact point_D m c t h W

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [after0_0, after0_1]
  unfold Dat.owesAt Pipeline.owesWithin
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owed t.castSucc = 0 from rfl, show (dats m 0 c).owed t.succ = 0 from rfl]
  iintro ⟨⟨Hg, HI⟩, ⟨%W, -, HW⟩, ⟨%d0, H0⟩, ⟨%d1, H1⟩⟩
  iapply (wp_wand_r frame (wpE (defs₀ (F := F)) Variants.none c none) Set.univ (Q := fun _ => post m c t))
  isplitl [HI HW H0 H1]
  · iapply (point m c t W)
    unfold pre
    isplitl [HI]; · iexact HI
    isplitl [HW]; · iexact HW
    isplitl [H0]; · iexact H0
    iexists _; iexact H1
  iintro %_ Hp
  unfold post
  icases Hp with ⟨HI, ⟨%W', HW⟩, H0, H1⟩
  isplitl [Hg HI]
  · isplitl [Hg]; · iexact Hg
    iexact HI
  isplitl [HW]
  · iexists W'; isplitr
    · ipureintro; exact fun _ _ => Or.inl trivial
    · iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma cc0_scratch2.sem) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c.tc.loc main_arg1) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns c.tc scM0 fullShare d) ∗ (∃ ds, hbPt c scM1 ds)) ∗ (∃ r, prngReg c r)
          ∗ semVal (c.tc, SemLoc.dma cc0_scratch2.sem) 0 ∗ hbPt c hbM (wts m c)) := by
  rw [Pipeline.ΦD_eq, scopedRest0_eq, ownSems00_eq, hbmPts0_eq]
  simp only [scM0, hbPt, scM1, hbM, owns_whole, Memref.view_whole, View.set_whole]; try rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ inv m c 0) from rfl, inv_zero]
  unfold idle
  iintro ⟨⟨H5, HS⟩, Hg, HF, Hw⟩
  isplitl [Hg]; · iexact Hg
  isplitl [H5]; · iexact H5
  isplitl [HS]; · iexact HS
  isplitl [HF]; · iexact HF
  iexact Hw

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = iprop((∃ r, prngReg c r) ∗ inv m c grid0.N) from rfl, N_0,
    inv_end m c (p := 32) (k := 3) (by decide) (by decide) (by decide)]
  unfold idle
  iintro ⟨Hg, H5, HS, HF, Hw⟩
  isplitl [H5 HS]
  · isplitl [H5]; · iexists _; iexact H5
    iexact HS
  isplitl [Hg]; · iexact Hg
  isplitl [HF]; · iexact HF
  iexact Hw

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result array as the write-backs leave it, the arguments as they were, every cell at zero. -/
theorem run : θ_run defs (onTc (τ := τ) (main (F := F))) ⟨m, fun _ => 0, ρ⟩ (fun r => (∀ c : Dev nD,
      r.2.mem ((c.tc : Thread nD τ).loc main_v1) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1 1,
    ((h.1 c).2 main_arg0 (Pipeline.mem_restRefs_of main_arg0 (by decide) (by decide))).trans (V_arg0 m c),
    ((h.1 c).2 main_arg1 (Pipeline.mem_restRefs_of main_arg1 (by decide) (by decide))).trans (V_arg1 m c)⟩, h.2⟩) (run_main m ρ)

end Cert.Kernel5Ideal.Hand

end
-- ==== Proof.ProjBV.lean ====
module

public import proofs.«01_k».proof.Proof.ProjBC
public import proofs.«01_k».proof.Proof.Gen.Reference5Ideal.Run
public import proofs.«01_k».proof.Proof.Gen.Reference5Ideal.Read
public import Idealize.ShloMosaic.Lib.Pointwise
public import Idealize.ShloMosaic.Lib.Pipeline.ValueKit.Geometry

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The product the call computes: row `y 0` of the activations by column `y 1` of layer 0's weights. -/
def G (h : (⟨S16384x2048, .f32⟩ : BufTy).Contents (Elt Ideal)) (w : (⟨S1x2048x8192, .f32⟩ : BufTy).Contents (Elt Ideal)) :
    (⟨S16384x4096, .bf16⟩ : BufTy).Contents (Elt Ideal) :=
  fun y => ∑ k : Fin 2048, h (ix2 (y 0) k) * w (ix3 0 k ⟨(y 1).val, lt_trans (y 1).isLt (by decide)⟩)

/-- The body's payload at an index. -/
theorem pay_apply (x : Vec Ideal S2048x2048 .bf16) (w : Vec Ideal S2048x1024 .f32) (j : S2048x1024.Idx) :
    k0_pay2 (F := Ideal) x (k0_pay1 w) j = ∑ k : Fin 2048, x (ix2 (j 0) k) * w (ix2 k (j 1)) := by
  pointwise [k0_pay2, k0_pay1]

/-- Dropping the unit axis, at an index. -/
theorem drop_apply {α : Type} (y : S1x2048x1024.Idx → α) (h : S1x2048x1024.ShapeCasts S2048x1024) (a : Fin 2048) (b : Fin 1024) :
    shapeCast S2048x1024 y h (ix2 a b) = y (ix3 (0 : Fin 1) a b) :=
  shapeCast_apply y h (ix2 a b) (ix3 (0 : Fin 1) a b) (by
    rewrite [Shape.rowMajor_val_three, Shape.rowMajor_val_two]
    show (0 * 2048 + a.val) * 1024 + b.val = a.val * 1024 + b.val
    omega)

/-- Block `k` of the weights at an index. -/
theorem wblk_apply (c : Dev nD) (k : ℕ) (f : HbBuf (F := Ideal) c hbM) (a : Fin 2048) (b : Fin 1024) :
    (wsl (boff k) (boff_inb k)).view.read (Elt Ideal) f (ix2 a b)
      = f (ix3 (0 : Fin 1) a (⟨1024 * (k % 4) + b.val, by omega⟩ : Fin 8192)) := by
  have hc : S1x2048x1024.ShapeCasts S2048x1024 := by decide
  refine (congrFun (Memref.read_squeeze_slice hbM (Rect.unit (s := S1x2048x8192) (boff k) S1x2048x1024.size (boff_inb k)) (fun _ => rfl)
    squeezes_S1x2048x1024_S2048x1024 hc f) (ix2 a b)).trans ?_
  refine (drop_apply _ hc a b).trans ?_
  refine congrArg f (funext fun x => Fin.ext ?_)
  match x with
  | 0 => rfl
  | 1 => show 0 + 1 * a.val = a.val; omega
  | 2 => show 1024 * (k % 4) + 1 * b.val = 1024 * (k % 4) + b.val; omega

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)

theorem final (c : Dev nD) : (dats m 0 c).arrAt 1 cfg0.N
    = G (m (c.tc.loc main_arg0)) (m (c.tc.loc main_arg1)) := by
  refine (dats m 0 c).arrAt_eq_of_covers 1 _ (by decide +kernel) fun t hf y => ?_
  blk_simp
  rw [after0_1]
  unfold outAt wb castBlk
  rw [pay_apply]
  unfold G
  blk_simp [iblk]
  refine Finset.sum_congr (M := EReal) rfl fun k _ => ?_
  have ht : t.val < 32 := lt_of_lt_of_eq t.isLt N_0
  rw [V_v0]
  refine Eq.trans (congrArg (fun q : EReal => _ * q) ((wblk_apply c (t.val / 8) (wts m c) k (y 1)).trans (by unfold wts; rw [V_arg1]))) ?_
  refine congrArg₂ (fun p q : EReal => p * q) (congrArg (m (c.tc.loc main_arg0)) ?_) (congrArg (m (c.tc.loc main_arg1)) ?_)
  · blk_ext [idx0, idx1]
  · blk_ext [idx0, idx1]

theorem ref_apply (h : (⟨S16384x2048, .f32⟩ : BufTy).Contents (Elt Ideal)) (w : (⟨S1x2048x8192, .f32⟩ : BufTy).Contents (Elt Ideal)) :
    Cert.Reference5Ideal.Read.val_main_v4 (F := Ideal) h w = G h w := by
  funext y
  unfold G
  pointwise [Cert.Reference5Ideal.Read.val_main_v4, Cert.Reference5Ideal.Read.val_main_v2, Cert.Reference5Ideal.Read.val_main_v1, Cert.Reference5Ideal.Read.val_main_v0]

end Cert.Kernel5Ideal.Hand

end
-- ==== Proof.ProjBD.lean ====
module

public import proofs.«01_k».proof.Defs
public import proofs.«01_k».proof.Proof.Gen.Kernel5
public import proofs.«01_k».proof.Proof.ProjBV

@[expose] public section

noncomputable section

namespace Cert.Kernel5Ideal.Hand

open Idealize.ShloMosaic Idealize.SL.Sem

theorem defs₀_eq : Cert.Kernel5.defs₀ (F := Bits) = Cert.Kernel5Ideal.defs₀ (F := Bits) := by
  unfold Cert.Kernel5.defs₀ Cert.Kernel5Ideal.defs₀
  refine congrArg Defs.onTc ?_
  funext l p
  match l, p with
  | 0, (t, s) => rfl

/-- The two programs' body tables are one. -/
theorem defs_eq : Cert.Kernel5.defs (F := Bits) = Cert.Kernel5Ideal.defs (F := Bits) :=
  congrArg (Pipeline.defs Cert.Kernel5Ideal.pcfgs) defs₀_eq

/-- The kernel at machine words runs and leaves its arguments: the same text, so the same run. -/
theorem frame_kernel : Cert.quiescent_Kernel5 := fun m ρ _ => by
  have h := (θ_run Cert.Kernel5Ideal.defs _ _).mono (fun _ h => And.intro (fun c => (h.1 c).2) h.2) (run (F := Bits) m ρ)
  rw [← defs_eq] at h
  exact h

theorem frame_ideal : Cert.quiescent_Kernel5Ideal := fun m ρ _ =>
  (θ_run Cert.Kernel5Ideal.defs _ _).mono (fun _ h => ⟨fun c => (h.1 c).2, h.2⟩) (run (F := Ideal) m ρ)

/-- The reference runs and leaves its arguments; it declares no semaphore. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference leave the same array. -/
theorem value : Cert.algebraic_Kernel5Ideal_Reference5Ideal := by
  intro m g m' g' _ hargs
  refine ⟨fun c => G (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run Cert.Kernel5Ideal.defs _ _).mono (fun _ h c => ⟨(h.1 c).1.trans (final m c), (h.1 c).2⟩) (run (F := Ideal) m g)
  · refine (θ_run Cert.Reference5Ideal.defs _ _).mono (fun _ h c => ⟨(h c).1.trans ?_, (h c).2⟩) (Cert.Reference5Ideal.Value.run m' g')
    rw [(hargs c).1, (hargs c).2]
    exact (Cert.Reference5Ideal.Read.val_main_v4_eq (F := Ideal) _ _).trans (ref_apply _ _)

end Cert.Kernel5Ideal.Hand

end
-- ==== Proof.SiluA.lean ====
module

public import proofs.«01_k».proof.Proof.Kit
public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kit
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The cast weight block, the staged weight block, the weights left in HBM. -/
abbrev scM0 : Memref sig .tc .vmem S2048x1024 .bf16 := Memref.whole cc0_scratch0
abbrev scM1 : Memref sig .tc .vmem S2048x1024 .f32 := Memref.whole cc0_scratch1
abbrev hbM : Memref sig .tc .hbm S1x2048x8192 .f32 := Memref.whole main_arg1
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦[M.view.set]{fullShare} f

/-- The block of the weights at offsets `o`, as the body names it. -/
abbrev wsl (o : Fin 3 → ℕ) (h : ∀ a, o a + S1x2048x1024.size a ≤ S1x2048x8192.size a) : Memref sig .tc .hbm S2048x1024 .f32 :=
  (hbM.slice (Rect.unit (s := S1x2048x8192) o S1x2048x1024.size h) (fun _ => rfl)).squeeze S2048x1024 squeezes_S1x2048x1024_S2048x1024

/-- What the staging buffer holds once the block has landed. -/
abbrev landed (c : Dev nD) (o : Fin 3 → ℕ) (h : ∀ a, o a + S1x2048x1024.size a ≤ S1x2048x8192.size a)
    (fs : HbBuf (F := F) c hbM) (d : HbBuf (F := F) c scM1) : HbBuf (F := F) c scM1 :=
  scM1.view.writes (Elt F) d [⟨Rect.whole S2048x1024, ReadAs.same.apply ((wsl o h).view.read (Elt F) fs)⟩]

/-- The copy of a block in flight. -/
abbrev inflight (c : Dev nD) (o : Fin 3 → ℕ) (h : ∀ a, o a + S1x2048x1024.size a ≤ S1x2048x8192.size a)
    (fs : HbBuf (F := F) c hbM) (d : HbBuf (F := F) c scM1) : sProp 𝕄 :=
  Transfers.Flight (countersEmb (U := Pipeline.UD sig nD τ)) c.tc (.dma cc0_scratch2.sem) () (scM1.view.amount (SemLoc.dma (sig := sig) cc0_scratch2.sem))
    iprop(hbPt c scM1 (landed c o h fs d) ∗ hbPt c (wsl o h) fs)

/-- The body at a grid point, over its operands. -/
abbrev body (i : grid0.Coords) (arg2 : Memref sig .tc .vmem S2048x2048 .bf16) (harg2 : arg2.IsWhole)
    (arg4 : Memref sig .tc .vmem S1x128x2048 .f32) (harg4 : arg4.IsWhole) (arg5 : Memref sig .tc .vmem S2048x1024 .bf16) (harg5 : arg5.IsWhole) (arg6 : Memref sig .tc .vmem S128x2048 .bf16) (harg6 : arg6.IsWhole) :=
  cc0_proj_silu (F := F) i arg2 harg2 hbM (Memref.isWhole_whole _) arg4 harg4 arg5 harg5 arg6 harg6 scM0 (Memref.isWhole_whole _)
    scM1 (Memref.isWhole_whole _) cc0_scratch2

/-- The cast of the block of the weights at offsets `o`. -/
abbrev castBlk (c : Dev nD) (o : Fin 3 → ℕ) (h : ∀ a, o a + S1x2048x1024.size a ≤ S1x2048x8192.size a) (fs : HbBuf (F := F) c hbM) : Vec F S2048x1024 .bf16 :=
  k0_pay1 ((wsl o h).view.read (Elt F) fs)

/-! ## The body run, case by case -/

variable (c : Dev nD) (i : grid0.Coords)
  (arg2 : Memref sig .tc .vmem S2048x2048 .bf16) (harg2 : arg2.IsWhole) (arg4 : Memref sig .tc .vmem S1x128x2048 .f32) (harg4 : arg4.IsWhole) (arg5 : Memref sig .tc .vmem S2048x1024 .bf16) (harg5 : arg5.IsWhole) (arg6 : Memref sig .tc .vmem S128x2048 .bf16) (harg6 : arg6.IsWhole)

theorem run_A (h1 : k0_cond1 i = 1#1) (h2 : k0_cond2 i = 1#1) (h3 : k0_cond3 i = 1#1)
    (x : Vec F S2048x2048 .bf16) (ci : Vec F S1x128x2048 .f32) (fs : HbBuf (F := F) c hbM) (W : Waits sig Unit) (K : PUnit → sProp 𝕄) :
    iprop(owns c.tc arg2 fullShare x ∗ owns c.tc arg4 fullShare ci ∗ (∃ d, owns c.tc arg5 fullShare d) ∗ (∃ d, owns c.tc arg6 fullShare d)
        ∗ (∃ d, owns c.tc scM0 fullShare d)
        ∗ (∃ ds, hbPt c scM1 ds) ∗ semVal (c.tc, SemLoc.dma cc0_scratch2.sem) 0
        ∗ hbPt c (wsl (k0_off1 i) (k0_off1_inb i h1)) fs
        ∗ hbPt c (wsl (k0_off3 i) (k0_off3_inb i h3)) fs
        ∗ owes c.tc 0 W
        ∗ (iprop(owns c.tc arg2 fullShare x ∗ owns c.tc arg4 fullShare ci
            ∗ owns c.tc arg5 fullShare (k0_pay2 x (castBlk c (k0_off1 i) (k0_off1_inb i h1) fs))
            ∗ owns c.tc arg6 fullShare (k0_pay3 ci)
            ∗ owns c.tc scM0 fullShare (castBlk c (k0_off1 i) (k0_off1_inb i h1) fs)
            ∗ (∃ d, inflight c (k0_off3 i) (k0_off3_inb i h3) fs d)
            ∗ hbPt c (wsl (k0_off1 i) (k0_off1_inb i h1)) fs
            ∗ (∃ W', owes c.tc 0 W')) -∗ K ⟨⟩))
      ⊢ wp frame (wpE (defs₀ (F := F)) Variants.none c none) Set.univ (body i arg2 harg2 arg4 harg4 arg5 harg5 arg6 harg6) K := by
  unfold body
  rw [cc0_proj_silu_eq_skeleton]; unfold cc0_proj_silu_skel
  unfold owns
  iintro ⟨⟨%f2, %hf2, H2⟩, ⟨%fi, %hfi, Hi⟩, ⟨%d4, %f4, -, H4⟩, ⟨%dO, %fo, -, Ho⟩, ⟨%d5, %f5, -, H5⟩, ⟨%ds, HS⟩, HF, Hn0, Hn, HW, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, hf2]
      unfold run_A.sl.v14 run_A.sl.H5_1
      rw [View.readCov_full]
      unfold run_A.sl.v32
      first | (rw [readCov_whole]; done) | (rw [readCov_whole]; rfl)
  isplitl [Ho]
  · iexists _; isplitr; swap
    · iexact Ho
    · ipureintro
      rw [View.read_writes_full, View.readAt_full, hfi]
  isplitl [H5]
  · iexists _; isplitr; swap
    · iexact H5
    · ipureintro
      unfold run_A.sl.H5_1
      rw [View.read_writes_full]
      unfold run_A.sl.v32
      first | (rw [readCov_whole]; done) | (rw [readCov_whole]; rfl)
  isplitl [HF]; · iexists _; iexact HF
  isplitl [Hn0]; · iexact Hn0
  · iexists _; iexact HW
/-- The same at offsets in closed form. -/
theorem run_A' (h1 : k0_cond1 i = 1#1) (h2 : k0_cond2 i = 1#1) (h3 : k0_cond3 i = 1#1)
    {o1 : Fin 3 → ℕ} (b1 : ∀ a, o1 a + S1x2048x1024.size a ≤ S1x2048x8192.size a) (e1 : k0_off1 i = o1) {o3 : Fin 3 → ℕ} (b3 : ∀ a, o3 a + S1x2048x1024.size a ≤ S1x2048x8192.size a) (e3 : k0_off3 i = o3)
    (x : Vec F S2048x2048 .bf16) (ci : Vec F S1x128x2048 .f32) (fs : HbBuf (F := F) c hbM) (W : Waits sig Unit) (K : PUnit → sProp 𝕄) :
    iprop(owns c.tc arg2 fullShare x ∗ owns c.tc arg4 fullShare ci ∗ (∃ d, owns c.tc arg5 fullShare d) ∗ (∃ d, owns c.tc arg6 fullShare d)
        ∗ (∃ d, owns c.tc scM0 fullShare d)
        ∗ (∃ ds, hbPt c scM1 ds) ∗ semVal (c.tc, SemLoc.dma cc0_scratch2.sem) 0
        ∗ hbPt c (wsl o1 b1) fs
        ∗ hbPt c (wsl o3 b3) fs
        ∗ owes c.tc 0 W
        ∗ (iprop(owns c.tc arg2 fullShare x ∗ owns c.tc arg4 fullShare ci
            ∗ owns c.tc arg5 fullShare (k0_pay2 x (castBlk c o1 b1 fs))
            ∗ owns c.tc arg6 fullShare (k0_pay3 ci)
            ∗ owns c.tc scM0 fullShare (castBlk c o1 b1 fs)
            ∗ (∃ d, inflight c o3 b3 fs d)
            ∗ hbPt c (wsl o1 b1) fs
            ∗ (∃ W', owes c.tc 0 W')) -∗ K ⟨⟩))
      ⊢ wp frame (wpE (defs₀ (F := F)) Variants.none c none) Set.univ (body i arg2 harg2 arg4 harg4 arg5 harg5 arg6 harg6) K := by
  subst e1
  subst e3
  exact run_A c i arg2 harg2 arg4 harg4 arg5 harg5 arg6 harg6 h1 h2 h3 x ci fs W K

theorem run_B (h1 : ¬ k0_cond1 i = 1#1) (h2 : k0_cond2 i = 1#1) (h3 : k0_cond3 i = 1#1)
    (x : Vec F S2048x2048 .bf16) (ci : Vec F S1x128x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d)
        ∗ (∃ d, owns c.tc scM0 fullShare d)
        ∗ inflight c (k0_off2 i) (k0_off2_inb i h2) fs ds
        ∗ hbPt c (wsl (k0_off3 i) (k0_off3_inb i h3)) fs
        ∗ owes c.tc 0 W
        ∗ (iprop(owns c.tc arg2 fullShare x ∗ owns c.tc arg4 fullShare ci
            ∗ owns c.tc arg5 fullShare (k0_pay2 x (castBlk c (k0_off2 i) (k0_off2_inb i h2) fs))
            ∗ owns c.tc arg6 fullShare (k0_pay3 ci)
            ∗ owns c.tc scM0 fullShare (castBlk c (k0_off2 i) (k0_off2_inb i h2) fs)
            ∗ (∃ d, inflight c (k0_off3 i) (k0_off3_inb i h3) fs d)
            ∗ hbPt c (wsl (k0_off2 i) (k0_off2_inb i h2)) fs
            ∗ (∃ W', owes c.tc 0 W')) -∗ K ⟨⟩))
      ⊢ wp frame (wpE (defs₀ (F := F)) Variants.none c none) Set.univ (body i arg2 harg2 arg4 harg4 arg5 harg5 arg6 harg6) K := by
  unfold body
  rw [cc0_proj_silu_eq_skeleton]; unfold cc0_proj_silu_skel
  unfold owns
  iintro ⟨⟨%f2, %hf2, H2⟩, ⟨%fi, %hfi, Hi⟩, ⟨%d4, %f4, -, H4⟩, ⟨%dO, %fo, -, Ho⟩, ⟨%d5, %f5, -, H5⟩, HF, Hn, HW, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, hf2]
      unfold run_B.sl.v14 run_B.sl.H5_1
      rw [View.readCov_full]
      unfold run_B.sl.v32
      first | (rw [readCov_whole]; done) | (rw [readCov_whole]; rfl)
  isplitl [Ho]
  · iexists _; isplitr; swap
    · iexact Ho
    · ipureintro
      rw [View.read_writes_full, View.readAt_full, hfi]
  isplitl [H5]
  · iexists _; isplitr; swap
    · iexact H5
    · ipureintro
      unfold run_B.sl.H5_1
      rw [View.read_writes_full]
      unfold run_B.sl.v32
      first | (rw [readCov_whole]; done) | (rw [readCov_whole]; rfl)
  isplitl [HF]; · iexists _; iexact HF
  isplitl [HF_src]; · iexact HF_src
  · iexists _; iexact HW
/-- The same at offsets in closed form. -/
theorem run_B' (h1 : ¬ k0_cond1 i = 1#1) (h2 : k0_cond2 i = 1#1) (h3 : k0_cond3 i = 1#1)
    {o2 : Fin 3 → ℕ} (b2 : ∀ a, o2 a + S1x2048x1024.size a ≤ S1x2048x8192.size a) (e2 : k0_off2 i = o2) {o3 : Fin 3 → ℕ} (b3 : ∀ a, o3 a + S1x2048x1024.size a ≤ S1x2048x8192.size a) (e3 : k0_off3 i = o3)
    (x : Vec F S2048x2048 .bf16) (ci : Vec F S1x128x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d)
        ∗ (∃ d, owns c.tc scM0 fullShare d)
        ∗ inflight c o2 b2 fs ds
        ∗ hbPt c (wsl o3 b3) fs
        ∗ owes c.tc 0 W
        ∗ (iprop(owns c.tc arg2 fullShare x ∗ owns c.tc arg4 fullShare ci
            ∗ owns c.tc arg5 fullShare (k0_pay2 x (castBlk c o2 b2 fs))
            ∗ owns c.tc arg6 fullShare (k0_pay3 ci)
            ∗ owns c.tc scM0 fullShare (castBlk c o2 b2 fs)
            ∗ (∃ d, inflight c o3 b3 fs d)
            ∗ hbPt c (wsl o2 b2) fs
            ∗ (∃ W', owes c.tc 0 W')) -∗ K ⟨⟩))
      ⊢ wp frame (wpE (defs₀ (F := F)) Variants.none c none) Set.univ (body i arg2 harg2 arg4 harg4 arg5 harg5 arg6 harg6) K := by
  subst e2
  subst e3
  exact run_B c i arg2 harg2 arg4 harg4 arg5 harg5 arg6 harg6 h1 h2 h3 x ci fs ds W K

theorem run_C (h1 : ¬ k0_cond1 i = 1#1) (h2 : k0_cond2 i = 1#1) (h3 : ¬ k0_cond3 i = 1#1)
    (x : Vec F S2048x2048 .bf16) (ci : Vec F S1x128x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d)
        ∗ (∃ d, owns c.tc scM0 fullShare d)
        ∗ inflight c (k0_off2 i) (k0_off2_inb i h2) fs ds
        ∗ owes c.tc 0 W
        ∗ (iprop(owns c.tc arg2 fullShare x ∗ owns c.tc arg4 fullShare ci
            ∗ owns c.tc arg5 fullShare (k0_pay2 x (castBlk c (k0_off2 i) (k0_off2_inb i h2) fs))
            ∗ owns c.tc arg6 fullShare (k0_pay3 ci)
            ∗ owns c.tc scM0 fullShare (castBlk c (k0_off2 i) (k0_off2_inb i h2) fs)
            ∗ hbPt c (wsl (k0_off2 i) (k0_off2_inb i h2)) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4 arg5 harg5 arg6 harg6) K := by
  unfold body
  rw [cc0_proj_silu_eq_skeleton]; unfold cc0_proj_silu_skel
  unfold owns
  iintro ⟨⟨%f2, %hf2, H2⟩, ⟨%fi, %hfi, Hi⟩, ⟨%d4, %f4, -, H4⟩, ⟨%dO, %fo, -, Ho⟩, ⟨%d5, %f5, -, H5⟩, HF, HW, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, hf2]
      unfold run_C.sl.v14 run_C.sl.H5_1
      rw [View.readCov_full]
      unfold run_C.sl.v32
      first | (rw [readCov_whole]; done) | (rw [readCov_whole]; rfl)
  isplitl [Ho]
  · iexists _; isplitr; swap
    · iexact Ho
    · ipureintro
      rw [View.read_writes_full, View.readAt_full, hfi]
  isplitl [H5]
  · iexists _; isplitr; swap
    · iexact H5
    · ipureintro
      unfold run_C.sl.H5_1
      rw [View.read_writes_full]
      unfold run_C.sl.v32
      first | (rw [readCov_whole]; done) | (rw [readCov_whole]; rfl)
  isplitl [HF_src]; · iexact HF_src
  isplitl [HF_dst]; · iexists _; iexact HF_dst
  isplitl [HF]; · iexact HF
  · iexists _; iexact HW
/-- The same at offsets in closed form. -/
theorem run_C' (h1 : ¬ k0_cond1 i = 1#1) (h2 : k0_cond2 i = 1#1) (h3 : ¬ k0_cond3 i = 1#1)
    {o2 : Fin 3 → ℕ} (b2 : ∀ a, o2 a + S1x2048x1024.size a ≤ S1x2048x8192.size a) (e2 : k0_off2 i = o2)
    (x : Vec F S2048x2048 .bf16) (ci : Vec F S1x128x2048 .f32) (fs : HbBuf (F := F) c hbM) (ds : HbBuf (F := F) c scM1) (W : Waits sig Unit) (K : PUnit → sProp 𝕄) :
    iprop(owns c.tc arg2 fullShare x ∗ owns c.tc arg4 fullShare ci ∗ (∃ d, owns c.tc arg5 fullShare d) ∗ (∃ d, owns c.tc arg6 fullShare d)
        ∗ (∃ d, owns c.tc scM0 fullShare d)
        ∗ inflight c o2 b2 fs ds
        ∗ owes c.tc 0 W
        ∗ (iprop(owns c.tc arg2 fullShare x ∗ owns c.tc arg4 fullShare ci
            ∗ owns c.tc arg5 fullShare (k0_pay2 x (castBlk c o2 b2 fs))
            ∗ owns c.tc arg6 fullShare (k0_pay3 ci)
            ∗ owns c.tc scM0 fullShare (castBlk c o2 b2 fs)
            ∗ hbPt c (wsl o2 b2) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg4 harg4 arg5 harg5 arg6 harg6) K := by
  subst e2
  exact run_C c i arg2 harg2 arg4 harg4 arg5 harg5 arg6 harg6 h1 h2 h3 x ci fs ds W K

theorem run_D (h1 : ¬ k0_cond1 i = 1#1) (h2 : ¬ k0_cond2 i = 1#1) (h3 : ¬ k0_cond3 i = 1#1)
    (x : Vec F S2048x2048 .bf16) (ci : Vec F S1x128x2048 .f32) (wb : Vec F S2048x1024 .bf16) (K : PUnit → sProp 𝕄) :
    iprop(owns c.tc arg2 fullShare x ∗ owns c.tc arg4 fullShare ci ∗ (∃ d, owns c.tc arg5 fullShare d) ∗ (∃ d, owns c.tc arg6 fullShare d)
        ∗ owns c.tc scM0 fullShare wb
        ∗ (iprop(owns c.tc arg2 fullShare x ∗ owns c.tc arg4 fullShare ci
            ∗ owns c.tc arg5 fullShare (k0_pay2 x wb)
            ∗ owns c.tc arg6 fullShare (k0_pay3 ci)
            ∗ owns c.tc scM0 fullShare wb) -∗ K ⟨⟩))
      ⊢ wp frame (wpE (defs₀ (F := F)) Variants.none c none) Set.univ (body i arg2 harg2 arg4 harg4 arg5 harg5 arg6 harg6) K := by
  unfold body
  rw [cc0_proj_silu_eq_skeleton]; unfold cc0_proj_silu_skel
  unfold owns
  iintro ⟨⟨%f2, %hf2, H2⟩, ⟨%fi, %hfi, Hi⟩, ⟨%d4, %f4, -, H4⟩, ⟨%dO, %fo, -, Ho⟩, ⟨%f5, %hf5, H5⟩, Hk⟩
  sl_exec
  sl_step
  iapply Hk
  isplitl [H2]; · iexists _; isplitr; swap; iexact H2; ipureintro; exact hf2
  isplitl [Hi]; · iexists _; isplitr; swap; iexact Hi; ipureintro; exact hfi
  isplitl [H4]
  · iexists _; isplitr; swap
    · iexact H4
    · ipureintro
      rw [View.read_writes_full, View.readAt_full, View.readAt_full, hf2, hf5]
  isplitl [Ho]
  · iexists _; isplitr; swap
    · iexact Ho
    · ipureintro
      rw [View.read_writes_full, View.readAt_full, hfi]
  · iexists _; isplitr; swap; iexact H5; ipureintro; exact hf5

end Cert.Kernel6Ideal.Hand

end
-- ==== Proof.SiluB.lean ====
module

public import proofs.«01_k».proof.Proof.SiluA

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem not_written (b : Ref sig .tc) (hb : b ≠ main_v0) : ∀ op ∈ (hostOps0 (F := F)), Proc.devRef .tc b ∉ op.writes := by
  intro op hop
  simp only [List.mem_cons, List.mem_nil_iff, or_false] at hop
  rcases hop with rfl
  exact fun hm => StableHlo.devRef_ne_of_ne hb (Finset.mem_singleton.mp hm)

theorem V_arg0 (c : Dev nD) : V m c main_arg0 = m (c.tc.loc main_arg0) :=
  StableHlo.after_of_forall_not_mem (b := Proc.devRef .tc main_arg0) _ _ (not_written main_arg0 (by decide))
theorem V_arg1 (c : Dev nD) : V m c main_arg1 = m (c.tc.loc main_arg1) :=
  StableHlo.after_of_forall_not_mem (b := Proc.devRef .tc main_arg1) _ _ (not_written main_arg1 (by decide))
theorem V_arg2 (c : Dev nD) : V m c main_arg2 = m (c.tc.loc main_arg2) :=
  StableHlo.after_of_forall_not_mem (b := Proc.devRef .tc main_arg2) _ _ (not_written main_arg2 (by decide))
theorem V_v0 (c : Dev nD) : V m c main_v0 = (truncf .bf16 (m (c.tc.loc main_arg0) : (⟨S16384x2048, .f32⟩ : BufTy).Contents (Elt F)) bitsLt_bf16_f32 : (⟨S16384x2048, .bf16⟩ : BufTy).Contents (Elt F)) := by
  rfl

/-! ## Where the grid's points lie -/

/-- Block `k` of the weights: its offsets. -/
def boff (k : ℕ) : Fin 3 → ℕ := ![0, 0, 4096 + 1024 * (k % 4)]
theorem boff_inb (k : ℕ) : ∀ a, boff k a + S1x2048x1024.size a ≤ S1x2048x8192.size a := by
  intro a
  have : k % 4 < 4 := Nat.mod_lt _ (by decide)
  match a with
  | 0 => show (0 : ℕ) + 1 ≤ 1; omega
  | 1 => show (0 : ℕ) + 2048 ≤ 2048; omega
  | 2 => show 4096 + 1024 * (k % 4) + 1024 ≤ 8192; omega

theorem cond1_iff : ∀ t : Fin grid0.N, k0_cond1 (grid0.coords t) = 1#1 ↔ t.val = 0 := by decide +kernel
theorem cond2_iff : ∀ t : Fin grid0.N, k0_cond2 (grid0.coords t) = 1#1 ↔ t.val % 8 = 0 := by decide +kernel
theorem cond3_iff : ∀ t : Fin grid0.N, k0_cond3 (grid0.coords t) = 1#1 ↔ t.val % 8 = 0 ∧ t.val < 24 := by decide +kernel
theorem off1_at : ∀ t : Fin grid0.N, t.val = 0 → k0_off1 (grid0.coords t) = boff 0 := by decide +kernel
theorem off2_at : ∀ t : Fin grid0.N, k0_off2 (grid0.coords t) = boff (t.val / 8) := by decide +kernel
theorem off3_at : ∀ t : Fin grid0.N, t.val < 24 → k0_off3 (grid0.coords t) = boff (t.val / 8 + 1) := by decide +kernel

/-- The elements of block `k` in the weights' buffer. -/
abbrev wset (k : ℕ) := (wsl (boff k) (boff_inb k)).view.set

theorem wset_disj {j k : ℕ} (h : j % 4 ≠ k % 4) : wset k ⊆ hbM.view.set \ wset j := by
  intro x hx
  have e (k : ℕ) : wset k = (Rect.unit (s := S1x2048x8192) (boff k) S1x2048x1024.size (boff_inb k)).set :=
    (View.set_reshape _ _).trans (View.set_slice_whole _ _)
  rw [e] at hx ⊢
  rw [Finset.mem_sdiff]
  refine ⟨by rw [show hbM.view.set = Finset.univ from View.set_whole _]; exact Finset.mem_univ _, fun hy => ?_⟩
  have h1 := Rect.mem_set_unit.1 hx 2
  have h2 := Rect.mem_set_unit.1 hy 2
  have e1 (k : ℕ) : boff k 2 = 4096 + 1024 * (k % 4) := rfl
  have e2 : S1x2048x1024.size 2 = 1024 := rfl
  rw [e1, e2] at h1 h2
  omega

theorem wset_sub (k : ℕ) : wset k ⊆ hbM.view.set := fun x hx => by
  rw [show hbM.view.set = Finset.univ from View.set_whole _]; exact Finset.mem_univ _

end Cert.Kernel6Ideal.Hand

end
-- ==== Proof.SiluC.lean ====
module

public import proofs.«01_k».proof.Proof.SiluB

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The weights as the region finds them. -/
abbrev wts (c : Dev nD) : HbBuf (F := F) c hbM := V m c main_arg1
/-- The cast of block `k`. -/
abbrev wb (c : Dev nD) (k : ℕ) : Vec F S2048x1024 .bf16 := castBlk c (boff k) (boff_inb k) (wts m c)

/-- The staging buffer free, its cell at zero, the weights whole. -/
def idle (c : Dev nD) : sProp 𝕄 :=
  iprop((∃ ds, hbPt c scM1 ds) ∗ semVal (c.tc, SemLoc.dma cc0_scratch2.sem) 0 ∗ hbPt c hbM (wts m c))
/-- Block `k` in flight, the rest of the weights held. -/
def flying (c : Dev nD) (k : ℕ) : sProp 𝕄 :=
  iprop((∃ d, inflight c (boff k) (boff_inb k) (wts m c) d) ∗ (hbM.view.loc c.tc ↦[hbM.view.set \ wset k]{fullShare} wts m c))
/-- Before point `p`: nothing consumed at `0`; else block `(p - 1) / 8` cast, the next one in flight if there is one. -/
def inv (c : Dev nD) (p : ℕ) : sProp 𝕄 :=
  if p = 0 then iprop((∃ d, owns c.tc scM0 fullShare d) ∗ idle m c)
  else if (p - 1) / 8 + 1 < 4 then iprop(owns c.tc scM0 fullShare (wb m c ((p - 1) / 8)) ∗ flying m c ((p - 1) / 8 + 1))
  else iprop(owns c.tc scM0 fullShare (wb m c ((p - 1) / 8)) ∗ idle m c)

theorem inv_zero (c : Dev nD) : inv m c 0 = iprop((∃ d, owns c.tc scM0 fullShare d) ∗ idle m c) := by
  unfold inv; rw [if_pos rfl]
theorem inv_mid (c : Dev nD) {p k : ℕ} (h0 : p ≠ 0) (hk : (p - 1) / 8 = k) (h : k + 1 < 4) :
    inv m c p = iprop(owns c.tc scM0 fullShare (wb m c k) ∗ flying m c (k + 1)) := by
  subst hk; unfold inv; rw [if_neg h0, if_pos h]
theorem inv_end (c : Dev nD) {p k : ℕ} (h0 : p ≠ 0) (hk : (p - 1) / 8 = k) (h : ¬ k + 1 < 4) :
    inv m c p = iprop(owns c.tc scM0 fullShare (wb m c k) ∗ idle m c) := by
  subst hk; unfold inv; rw [if_neg h0, if_neg h]

/-! ## The proof data -/

abbrev ms0_0 (t : Fin cfg0.N) : Memref sig .tc .vmem S2048x2048 .bf16 := win0_0.stage (cfg0.slots t 0)
abbrev ms0_1 (t : Fin cfg0.N) : Memref sig .tc .vmem S1x128x2048 .f32 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S128x2048 .bf16 := win0_3.stage (cfg0.slots t 3)

/-- Window `w`'s block of its array at point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result at point `t`. -/
def outAt (c : Dev nD) (t : Fin cfg0.N) : Vec F S2048x1024 .bf16 := k0_pay2 (iblk m c 0 t) (wb m c (t.val / 8))
/-- The slab of the other weights cast at point `t`. -/
def castAt (c : Dev nD) (t : Fin cfg0.N) : Vec F S128x2048 .bf16 := k0_pay3 (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
    | ⟨3, _⟩ => castAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem after0_3 (c : Dev nD) (t : Fin cfg0.N) : (dats m 0 c).after 3 t = castAt m c t := by dsimp only [dats]

theorem before0_0 (c : Dev nD) (t : Fin cfg0.N) (d : ((cfg0.win 0).xblock (cfg0.grid.coords t)).Idx → Elt F (cfg0.win 0).elt) : (dats m 0 c).before 0 t d = iblk m c 0 t :=
  (Dat.before_in_eq_fetched (dats m 0 c) 0 rfl (fun _ => rfl) (fun _ _ _ => rfl)
    (fun t => by rw [after0_0]; unfold Dat.blockOf iblk; rw [A_eq]; try rfl) t d).trans (by unfold Dat.fetched Dat.blockOf iblk; rw [A_eq]; try rfl)

theorem before0_1 (c : Dev nD) (t : Fin cfg0.N) (d : ((cfg0.win 1).xblock (cfg0.grid.coords t)).Idx → Elt F (cfg0.win 1).elt) : (dats m 0 c).before 1 t d = iblk m c 1 t :=
  (Dat.before_in_eq_fetched (dats m 0 c) 1 rfl (fun _ => rfl) (fun _ _ _ => rfl)
    (fun t => by rw [after0_1]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t))

/-- What the body is called with, and what it leaves, over the invariant and the operands' contents. -/
def pre (c : Dev nD) (t : Fin cfg0.N) (W : Waits sig Unit) : sProp 𝕄 :=
  iprop(inv m c t.val ∗ owes c.tc 0 W ∗ owns c.tc (ms0_0 t) fullShare (iblk m c 0 t)
    ∗ owns c.tc (ms0_1 t) fullShare (iblk m c 1 t)
    ∗ (∃ d, owns c.tc (ms0_2 t) fullShare d)
    ∗ (∃ d, owns c.tc (ms0_3 t) fullShare d))
def post (c : Dev nD) (t : Fin cfg0.N) : sProp 𝕄 :=
  iprop(inv m c (t.val + 1) ∗ (∃ W', owes c.tc 0 W') ∗ owns c.tc (ms0_0 t) fullShare (iblk m c 0 t)
    ∗ owns c.tc (ms0_1 t) fullShare (iblk m c 1 t)
    ∗ owns c.tc (ms0_2 t) fullShare (outAt m c t)
    ∗ owns c.tc (ms0_3 t) fullShare (castAt m c t))

theorem point_D (c : Dev nD) (t : Fin cfg0.N) (h : t.val % 8 ≠ 0) (W : Waits sig Unit) :
    pre m c t W ⊢ wp frame (wpE (defs₀ (F := F)) Variants.none c none) Set.univ (bodyAt0 t) (fun _ => post m c t) := by
  unfold pre post outAt castAt
  have e : ∃ R : sProp 𝕄, inv m c t.val = iprop(owns c.tc scM0 fullShare (wb m c (t.val / 8)) ∗ R)
      ∧ inv m c (t.val + 1) = iprop(owns c.tc scM0 fullShare (wb m c (t.val / 8)) ∗ R) := by
    by_cases hk : t.val / 8 + 1 < 4
    · exact ⟨_, inv_mid m c (by omega) (by omega) hk, inv_mid m c (by omega) (by omega) hk⟩
    · exact ⟨_, inv_end m c (by omega) (by omega) hk, inv_end m c (by omega) (by omega) hk⟩
  obtain ⟨R, e0, e1⟩ := e
  rw [e0, e1]
  iintro ⟨⟨H5, HR⟩, HW, H2, Hi, H4, Ho⟩
  iapply (run_D c (grid0.coords t) (ms0_0 t) _ (ms0_1 t) _ (ms0_2 t) _ (ms0_3 t) _ (fun hc => h (by rw [(cond1_iff t).1 hc]))
    (fun hc => h ((cond2_iff t).1 hc)) (fun hc => h ((cond3_iff t).1 hc).1) (iblk m c 0 t) (iblk m c 1 t) (wb m c (t.val / 8)) _)
  isplitl [H2]; · iexact H2
  isplitl [Hi]; · iexact Hi
  isplitl [H4]; · iexact H4
  isplitl [Ho]; · iexact Ho
  isplitl [H5]; · iexact H5
  iintro ⟨H2, Hi, H4, Ho, H5⟩
  isplitl [H5 HR]
  · isplitl [H5]; · iexact H5
    iexact HR
  isplitl [HW]; · iexists _; iexact HW
  isplitl [H2]; · iexact H2
  isplitl [Hi]; · iexact Hi
  isplitl [H4]; · iexact H4
  iexact Ho

/-- A block handed back goes into the rest that lacks it and the next one. -/
theorem rejoin (c : Dev nD) {j k : ℕ} (h : j % 4 ≠ k % 4) (f : HbBuf (F := F) c hbM) :
    iprop((hbM.view.loc c.tc ↦[wset j]{fullShare} f) ∗ (hbM.view.loc c.tc ↦[(hbM.view.set \ wset j) \ wset k]{fullShare} f))
      ⊢ (hbM.view.loc c.tc ↦[hbM.view.set \ wset k]{fullShare} f : sProp 𝕄) := by
  rw [sdiff_right_comm]
  exact (pointsTo_split_subset (wset_disj (Ne.symm h))).2

theorem point_A (c : Dev nD) (t : Fin cfg0.N) (h : t.val = 0) (W : Waits sig Unit) :
    pre m c t W ⊢ wp frame (wpE (defs₀ (F := F)) Variants.none c none) Set.univ (bodyAt0 t) (fun _ => post m c t) := by
  unfold pre post outAt castAt
  rw [h, inv_zero, inv_mid m c (p := 0 + 1) (k := 0) (by decide) (by decide) (by decide)]
  unfold idle flying
  iintro ⟨⟨H5, HS, HF, Hw⟩, HW, H2, Hi, H4, Ho⟩
  ihave ⟨Hw0, Hw⟩ := (pointsTo_split_subset (wset_sub 0)).1 $$ Hw
  ihave ⟨Hw1, Hw⟩ := (pointsTo_split_subset (wset_disj (j := 0) (k := 1) (by decide))).1 $$ Hw
  iapply (run_A' c (grid0.coords t) (ms0_0 t) _ (ms0_1 t) _ (ms0_2 t) _ (ms0_3 t) _ ((cond1_iff t).2 h)
    ((cond2_iff t).2 (by omega)) ((cond3_iff t).2 (by omega)) (boff_inb 0) (off1_at t h) (boff_inb 1)
    ((off3_at t (by omega)).trans (by rw [h])) (iblk m c 0 t) (iblk m c 1 t) (wts m c) W _)
  isplitl [H2]; · iexact H2
  isplitl [Hi]; · iexact Hi
  isplitl [H4]; · iexact H4
  isplitl [Ho]; · iexact Ho
  isplitl [H5]; · iexact H5
  isplitl [HS]; · iexact HS
  isplitl [HF]; · iexact HF
  isplitl [Hw0]; · iexact Hw0
  isplitl [Hw1]; · iexact Hw1
  isplitl [HW]; · iexact HW
  iintro ⟨H2, Hi, H4, Ho, H5, HF, Hw0, HW⟩
  isplitl [H5 HF Hw Hw0]
  · isplitl [H5]; · iexact H5
    isplitl [HF]; · iexact HF
    iapply (rejoin (F := F) c (j := 0) (k := 1) (by decide) (wts m c))
    isplitl [Hw0]; · iexact Hw0
    iexact Hw
  isplitl [HW]; · iexact HW
  isplitl [H2]; · iexact H2
  isplitl [Hi]; · iexact Hi
  isplitl [H4]; · iexact H4
  iexact Ho
theorem point_B (c : Dev nD) (t : Fin cfg0.N) (h0 : t.val ≠ 0) (h : t.val % 8 = 0) (hn : t.val < 24) (W : Waits sig Unit) :
    pre m c t W ⊢ wp frame (wpE (defs₀ (F := F)) Variants.none c none) Set.univ (bodyAt0 t) (fun _ => post m c t) := by
  unfold pre post outAt castAt
  obtain ⟨k, hk⟩ : ∃ k, t.val / 8 = k + 1 := ⟨t.val / 8 - 1, by omega⟩
  rw [inv_mid m c (p := t.val) (k := k) h0 (by omega) (by omega),
    inv_mid m c (p := t.val + 1) (k := k + 1) (by omega) (by omega) (by omega), hk]
  unfold flying
  iintro ⟨⟨H5, ⟨%ds, HF⟩, Hw⟩, HW, H2, Hi, H4, Ho⟩
  ihave ⟨Hw1, Hw⟩ := (pointsTo_split_subset (wset_disj (j := k + 1) (k := k + 1 + 1) (by omega))).1 $$ Hw
  iapply (run_B' c (grid0.coords t) (ms0_0 t) _ (ms0_1 t) _ (ms0_2 t) _ (ms0_3 t) _ (fun hc => h0 ((cond1_iff t).1 hc))
    ((cond2_iff t).2 h) ((cond3_iff t).2 ⟨h, hn⟩) (boff_inb (k + 1)) ((off2_at t).trans (by rw [hk])) (boff_inb (k + 1 + 1))
    ((off3_at t hn).trans (by rw [hk])) (iblk m c 0 t) (iblk m c 1 t) (wts m c) ds W _)
  isplitl [H2]; · iexact H2
  isplitl [Hi]; · iexact Hi
  isplitl [H4]; · iexact H4
  isplitl [Ho]; · iexact Ho
  isplitl [H5]; · iexists _; iexact H5
  isplitl [HF]; · iexact HF
  isplitl [Hw1]; · iexact Hw1
  isplitl [HW]; · iexact HW
  iintro ⟨H2, Hi, H4, Ho, H5, HF, Hw0, HW⟩
  isplitl [H5 HF Hw Hw0]
  · isplitl [H5]; · iexact H5
    isplitl [HF]; · iexact HF
    iapply (rejoin (F := F) c (j := k + 1) (k := k + 1 + 1) (by omega) (wts m c))
    isplitl [Hw0]; · iexact Hw0
    iexact Hw
  isplitl [HW]; · iexact HW
  isplitl [H2]; · iexact H2
  isplitl [Hi]; · iexact Hi
  isplitl [H4]; · iexact H4
  iexact Ho

theorem point_C (c : Dev nD) (t : Fin cfg0.N) (h : t.val = 24) (W : Waits sig Unit) :
    pre m c t W ⊢ wp frame (wpE (defs₀ (F := F)) Variants.none c none) Set.univ (bodyAt0 t) (fun _ => post m c t) := by
  unfold pre post outAt castAt
  rw [inv_mid m c (p := t.val) (k := 2) (by omega) (by omega) (by omega),
    inv_end m c (p := t.val + 1) (k := 3) (by omega) (by omega) (by omega), show t.val / 8 = 3 by omega]
  unfold flying idle
  iintro ⟨⟨H5, ⟨%ds, HF⟩, Hw⟩, HW, H2, Hi, H4, Ho⟩
  iapply (run_C' c (grid0.coords t) (ms0_0 t) _ (ms0_1 t) _ (ms0_2 t) _ (ms0_3 t) _ (fun hc => by have := (cond1_iff t).1 hc; omega)
    ((cond2_iff t).2 (by omega)) (fun hc => by have := (cond3_iff t).1 hc; omega) (boff_inb 3) ((off2_at t).trans (by rw [h]))
    (iblk m c 0 t) (iblk m c 1 t) (wts m c) ds W _)
  isplitl [H2]; · iexact H2
  isplitl [Hi]; · iexact Hi
  isplitl [H4]; · iexact H4
  isplitl [Ho]; · iexact Ho
  isplitl [H5]; · iexists _; iexact H5
  isplitl [HF]; · iexact HF
  isplitl [HW]; · iexact HW
  iintro ⟨H2, Hi, H4, Ho, H5, Hw0, HS, HF, HW⟩
  isplitl [H5 HF HS Hw Hw0]
  · isplitl [H5]; · iexact H5
    isplitl [HS]; · iexact HS
    isplitl [HF]; · iexact HF
    iapply (pointsTo_split_subset (wset_sub 3)).2
    isplitl [Hw0]; · iexact Hw0
    iexact Hw
  isplitl [HW]; · iexact HW
  isplitl [H2]; · iexact H2
  isplitl [Hi]; · iexact Hi
  isplitl [H4]; · iexact H4
  iexact Ho

theorem point (c : Dev nD) (t : Fin cfg0.N) (W : Waits sig Unit) :
    pre m c t W ⊢ wp frame (wpE (defs₀ (F := F)) Variants.none c none) Set.univ (bodyAt0 t) (fun _ => post m c t) := by
  have ht : t.val < 32 := lt_of_lt_of_eq t.isLt N_0
  by_cases h : t.val % 8 = 0
  · by_cases h0 : t.val = 0
    · exact point_A m c t h0 W
    · by_cases hn : t.val < 24
      · exact point_B m c t h0 h hn W
      · exact point_C m c t (by omega) W
  · exact point_D m c t h W

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [after0_0, after0_1, after0_2, after0_3]
  unfold Dat.owesAt Pipeline.owesWithin
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owed t.castSucc = 0 from rfl, show (dats m 0 c).owed t.succ = 0 from rfl]
  iintro ⟨⟨Hg, HI⟩, ⟨%W, -, HW⟩, ⟨%d0, H0⟩, ⟨%d1, H1⟩, ⟨%d2, H2⟩, ⟨%d3, H3⟩⟩
  iapply (wp_wand_r frame (wpE (defs₀ (F := F)) Variants.none c none) Set.univ (Q := fun _ => post m c t))
  isplitl [HI HW H0 H1 H2 H3]
  · iapply (point m c t W)
    unfold pre
    isplitl [HI]; · iexact HI
    isplitl [HW]; · iexact HW
    isplitl [H0]; · iexact H0
    isplitl [H1]; · iexact H1
    isplitl [H2]; · iexists _; iexact H2
    iexists _; iexact H3
  iintro %_ Hp
  unfold post
  icases Hp with ⟨HI, ⟨%W', HW⟩, H0, H1, H2, H3⟩
  isplitl [Hg HI]
  · isplitl [Hg]; · iexact Hg
    iexact HI
  isplitl [HW]
  · iexists W'; isplitr
    · ipureintro; exact fun _ _ => Or.inl trivial
    · iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma cc0_scratch2.sem) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c.tc.loc main_arg1) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns c.tc scM0 fullShare d) ∗ (∃ ds, hbPt c scM1 ds)) ∗ (∃ r, prngReg c r)
          ∗ semVal (c.tc, SemLoc.dma cc0_scratch2.sem) 0 ∗ hbPt c hbM (wts m c)) := by
  rw [Pipeline.ΦD_eq, scopedRest0_eq, ownSems00_eq, hbmPts0_eq]
  simp only [scM0, hbPt, scM1, hbM, owns_whole, Memref.view_whole, View.set_whole]; try rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ inv m c 0) from rfl, inv_zero]
  unfold idle
  iintro ⟨⟨H5, HS⟩, Hg, HF, Hw⟩
  isplitl [Hg]; · iexact Hg
  isplitl [H5]; · iexact H5
  isplitl [HS]; · iexact HS
  isplitl [HF]; · iexact HF
  iexact Hw

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = iprop((∃ r, prngReg c r) ∗ inv m c grid0.N) from rfl, N_0,
    inv_end m c (p := 32) (k := 3) (by decide) (by decide) (by decide)]
  unfold idle
  iintro ⟨Hg, H5, HS, HF, Hw⟩
  isplitl [H5 HS]
  · isplitl [H5]; · iexists _; iexact H5
    iexact HS
  isplitl [Hg]; · iexact Hg
  isplitl [HF]; · iexact HF
  iexact Hw

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result arrays as the write-backs leave them, the arguments as they were, every cell at zero. -/
theorem run : θ_run defs (onTc (τ := τ) (main (F := F))) ⟨m, fun _ => 0, ρ⟩ (fun r => (∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 2, (h.1 c).1 3,
    ((h.1 c).2 main_arg0 (Pipeline.mem_restRefs_of main_arg0 (by decide) (by decide))).trans (V_arg0 m c),
    ((h.1 c).2 main_arg1 (Pipeline.mem_restRefs_of main_arg1 (by decide) (by decide))).trans (V_arg1 m c),
    ((h.1 c).1 1).trans ((Dat.arrAt_in (dats m 0 c) 1 rfl _).trans ((A_eq m c 1).trans (V_arg2 m c)))⟩, h.2⟩) (run_main m ρ)

end Cert.Kernel6Ideal.Hand

end
-- ==== Proof.SiluV.lean ====
module

public import proofs.«01_k».proof.Proof.SiluC
public import proofs.«01_k».proof.Proof.Words
public import proofs.«01_k».proof.Pre_real6
public import proofs.«01_k».proof.Proof.Gen.Reference6Ideal.Run
public import proofs.«01_k».proof.Proof.Gen.Reference6Ideal.Read
public import Idealize.ShloMosaic.Lib.Pipeline.ValueKit.Geometry

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The precondition -/

instance pre_facts : Cert.Pre_real6.Facts := ⟨by decide, by decide, by decide, by decide, by decide⟩

/-- Where the activations and the weights are real numbers, each element is one. -/
theorem real_args (h : (⟨S16384x2048, .f32⟩ : BufTy).Contents (Elt Ideal)) (w : (⟨S1x2048x8192, .f32⟩ : BufTy).Contents (Elt Ideal))
    (wo : (⟨S1x4096x2048, .f32⟩ : BufTy).Contents (Elt Ideal)) (hp : Cert.Pre_real6.fn (F := Ideal) h w wo = fun _ => 1#1) :
    (∀ i, ∃ r : ℝ, h i = (r : EReal)) ∧ (∀ i, ∃ r : ℝ, w i = (r : EReal)) := by
  have e := congrFun hp (fun a => a.elim0)
  obtain ⟨e1, e2⟩ := IntOp.andi_eq_one.1 e
  haveI : Subsingleton Cert.Pre_real6.S_.Idx := ⟨fun a b => funext fun x => x.elim0⟩
  exact ⟨fun i => Cert.Words.real_of_abs (Host.reduce_andi_all _ _ _ _ _ e1 i), fun i => Cert.Words.real_of_abs (Host.reduce_andi_all _ _ _ _ _ e2 i)⟩

/-! ## The functions -/

/-- The gate before its activation: row `a` of the activations by column `4096 + b` of the weights. -/
def X (h : (⟨S16384x2048, .f32⟩ : BufTy).Contents (Elt Ideal)) (w : (⟨S1x2048x8192, .f32⟩ : BufTy).Contents (Elt Ideal))
    (a : Fin 16384) (b : Fin 4096) : EReal :=
  ∑ k : Fin 2048, h (ix2 a k) * w (ix3 (0 : Fin 1) k (⟨4096 + b.val, by omega⟩ : Fin 8192))
/-- The gate. -/
def G (h : (⟨S16384x2048, .f32⟩ : BufTy).Contents (Elt Ideal)) (w : (⟨S1x2048x8192, .f32⟩ : BufTy).Contents (Elt Ideal)) :
    (⟨S16384x4096, .bf16⟩ : BufTy).Contents (Elt Ideal) :=
  fun y => X h w (y 0) (y 1) * Ideal.div (Ideal.ofBits .f32 0x3F800000#32) (Ideal.ofBits .f32 0x3F800000#32 + Ideal.exp (-(X h w (y 0) (y 1))))
/-- The other weights, cast. -/
def GW (wo : (⟨S1x4096x2048, .f32⟩ : BufTy).Contents (Elt Ideal)) : (⟨S4096x2048, .bf16⟩ : BufTy).Contents (Elt Ideal) :=
  fun y => wo (ix3 (0 : Fin 1) (y 0) (y 1))

/-- The body's product at an index. -/
def dotAt (x : Vec Ideal S2048x2048 .bf16) (w : Vec Ideal S2048x1024 .f32) (a : Fin 2048) (b : Fin 1024) : EReal :=
  ∑ k : Fin 2048, x (ix2 a k) * w (ix2 k b)

theorem pay_apply (x : Vec Ideal S2048x2048 .bf16) (w : Vec Ideal S2048x1024 .f32) (a : Fin 2048) (b : Fin 1024) :
    k0_pay2 (F := Ideal) x (k0_pay1 w) (ix2 a b) = Ideal.ofBits .f32 0x3F000000#32 * dotAt x w a b
      + Ideal.ofBits .f32 0x3F000000#32 * dotAt x w a b * Ideal.tanh (Ideal.ofBits .f32 0x3F000000#32 * dotAt x w a b) := by
  unfold dotAt
  pointwise [k0_pay2, k0_pay1]

theorem cast_apply (ci : Vec Ideal S1x128x2048 .f32) (a : Fin 128) (b : Fin 2048) :
    k0_pay3 (F := Ideal) ci (ix2 a b) = ci (ix3 (0 : Fin 1) a b) :=
  shapeCast_apply ci shapeCasts_S1x128x2048_S128x2048 (ix2 a b) (ix3 (0 : Fin 1) a b) (by
    rewrite [Shape.rowMajor_val_three, Shape.rowMajor_val_two]
    show (0 * 128 + a.val) * 2048 + b.val = a.val * 2048 + b.val
    omega)

/-- Dropping the unit axis, at an index. -/
theorem drop_apply {α : Type} (y : S1x2048x1024.Idx → α) (h : S1x2048x1024.ShapeCasts S2048x1024) (a : Fin 2048) (b : Fin 1024) :
    shapeCast S2048x1024 y h (ix2 a b) = y (ix3 (0 : Fin 1) a b) :=
  shapeCast_apply y h (ix2 a b) (ix3 (0 : Fin 1) a b) (by
    rewrite [Shape.rowMajor_val_three, Shape.rowMajor_val_two]
    show (0 * 2048 + a.val) * 1024 + b.val = a.val * 1024 + b.val
    omega)

/-- Block `k` of the weights at an index. -/
theorem wblk_apply (c : Dev nD) (k : ℕ) (f : HbBuf (F := Ideal) c hbM) (a : Fin 2048) (b : Fin 1024) :
    (wsl (boff k) (boff_inb k)).view.read (Elt Ideal) f (ix2 a b)
      = f (ix3 (0 : Fin 1) a (⟨4096 + 1024 * (k % 4) + b.val, by omega⟩ : Fin 8192)) := by
  have hc : S1x2048x1024.ShapeCasts S2048x1024 := by decide
  refine (congrFun (Memref.read_squeeze_slice hbM (Rect.unit (s := S1x2048x8192) (boff k) S1x2048x1024.size (boff_inb k)) (fun _ => rfl)
    squeezes_S1x2048x1024_S2048x1024 hc f) (ix2 a b)).trans ?_
  refine (drop_apply _ hc a b).trans ?_
  refine congrArg f (funext fun x => Fin.ext ?_)
  match x with
  | 0 => rfl
  | 1 => show 0 + 1 * a.val = a.val; omega
  | 2 => show 4096 + 1024 * (k % 4) + 1 * b.val = 4096 + 1024 * (k % 4) + b.val; omega

theorem idx0 : ∀ t : Fin cfg0.N, win0_0.index t = ![t.val % 8, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val, 0] := (by decide +kernel : ∀ t : Fin grid0.N, _)

/-- The body's product at a point is the gate's before its activation. -/
theorem dot_point (c : Dev nD) (t : Fin cfg0.N) (a : Fin 2048) (b : Fin 1024) (A : Fin 16384) (B : Fin 4096)
    (hA : A.val = t.val % 8 * 2048 + a.val) (hB : B.val = t.val / 8 * 1024 + b.val) :
    dotAt (iblk m c 0 t) ((wsl (boff (t.val / 8)) (boff_inb (t.val / 8))).view.read (Elt Ideal) (wts m c)) a b
      = X (m (c.tc.loc main_arg0)) (m (c.tc.loc main_arg1)) A B := by
  have ht : t.val < 32 := lt_of_lt_of_eq t.isLt N_0
  unfold dotAt X
  refine Finset.sum_congr (M := EReal) rfl fun k _ => ?_
  refine congrArg₂ (fun p q : EReal => p * q) ?_ ((wblk_apply c (t.val / 8) (wts m c) k b).trans ?_)
  · blk_simp [iblk]
    rw [V_v0]
    refine congrArg (m (c.tc.loc main_arg0)) ?_
    blk_ext [idx0, hA]
  · unfold wts
    rw [V_arg1]
    refine congrArg (m (c.tc.loc main_arg1)) (funext fun x => Fin.ext ?_)
    match x with
    | 0 => rfl
    | 1 => rfl
    | 2 => show 4096 + 1024 * (t.val / 8 % 4) + b.val = 4096 + B.val; omega

theorem X_real {h : (⟨S16384x2048, .f32⟩ : BufTy).Contents (Elt Ideal)} {w : (⟨S1x2048x8192, .f32⟩ : BufTy).Contents (Elt Ideal)}
    (hh : ∀ i, ∃ r : ℝ, h i = (r : EReal)) (hw : ∀ i, ∃ r : ℝ, w i = (r : EReal)) (a : Fin 16384) (b : Fin 4096) : ∃ r : ℝ, X h w a b = (r : EReal) :=
  Cert.Words.real_sum _ _ (fun _ => hh _) (fun _ => hw _)

theorem final (c : Dev nD) (hh : ∀ i, ∃ r : ℝ, m (c.tc.loc main_arg0) i = (r : EReal))
    (hw : ∀ i, ∃ r : ℝ, m (c.tc.loc main_arg1) i = (r : EReal)) :
    (dats m 0 c).arrAt 2 cfg0.N = G (m (c.tc.loc main_arg0)) (m (c.tc.loc main_arg1)) := by
  refine (dats m 0 c).arrAt_eq_of_covers 2 _ (by decide +kernel) fun t hf y => ?_
  have hy : y = ix2 (y 0 : Fin 2048) (y 1 : Fin 1024) := funext fun a => by match a with | 0 => rfl | 1 => rfl
  blk_simp
  rw [after0_2]
  unfold outAt wb castBlk
  refine (congrArg _ hy).trans ((pay_apply _ _ (y 0) (y 1)).trans ?_)
  have ht : t.val < 32 := lt_of_lt_of_eq t.isLt N_0
  have hy0 : (y 0).val < 2048 := (y 0).isLt
  have hy1 : (y 1).val < 1024 := (y 1).isLt
  rw [dot_point m c t (y 0) (y 1) ⟨t.val % 8 * 2048 + (y 0).val, by omega⟩ ⟨t.val / 8 * 1024 + (y 1).val, by omega⟩ rfl rfl, Cert.Words.silu_eq (X_real hh hw _ _)]
  refine (congrArg (G (m (c.tc.loc main_arg0)) (m (c.tc.loc main_arg1)))
    (?_ : _ = ix2 (⟨t.val % 8 * 2048 + (y 0).val, by omega⟩ : Fin 16384) (⟨t.val / 8 * 1024 + (y 1).val, by omega⟩ : Fin 4096))).symm
  blk_ext [idx2]

theorem finalw (c : Dev nD) : (dats m 0 c).arrAt 3 cfg0.N = GW (m (c.tc.loc main_arg2)) := by
  refine (dats m 0 c).arrAt_eq_of_covers 3 _ (by decide +kernel) fun t hf y => ?_
  have ht : t.val < 32 := lt_of_lt_of_eq t.isLt N_0
  have hy : y = ix2 (y 0 : Fin 128) (y 1 : Fin 2048) := funext fun a => by match a with | 0 => rfl | 1 => rfl
  blk_simp
  rw [after0_3]
  unfold castAt
  refine (congrArg _ hy).trans ((cast_apply _ (y 0) (y 1)).trans ?_)
  unfold GW
  blk_simp [iblk]
  rw [V_arg2]
  refine congrArg (m (c.tc.loc main_arg2)) ?_
  blk_ext [idx1, idx3]

open Cert.Reference6Ideal.Read in
theorem ref_apply (h : (⟨S16384x2048, .f32⟩ : BufTy).Contents (Elt Ideal)) (w : (⟨S1x2048x8192, .f32⟩ : BufTy).Contents (Elt Ideal)) :
    val_main_v5 (F := Ideal) h w = G h w := by
  funext y
  unfold G X
  pointwise [val_main_v5, val_main_v4, val_main_call0_v5, val_main_call0_v4, val_main_call0_cst_0, val_main_call0_v3, val_main_call0_v2, val_main_call0_cst,
    val_main_call0_v1, val_main_call0_v0, val_main_v3, val_main_v1, val_main_v0]

open Cert.Reference6Ideal.Read in
theorem refw_apply (wo : (⟨S1x4096x2048, .f32⟩ : BufTy).Contents (Elt Ideal)) :
    val_main_v7 (F := Ideal) wo = GW wo := by
  funext y
  unfold GW
  pointwise [val_main_v7, val_main_v6]

end Cert.Kernel6Ideal.Hand

end
-- ==== Proof.SiluD.lean ====
module

public import proofs.«01_k».proof.Defs
public import proofs.«01_k».proof.Proof.Gen.Kernel6
public import proofs.«01_k».proof.Proof.SiluV

@[expose] public section

noncomputable section

namespace Cert.Kernel6Ideal.Hand

open Idealize.ShloMosaic Idealize.SL.Sem

theorem defs₀_eq : Cert.Kernel6.defs₀ (F := Bits) = Cert.Kernel6Ideal.defs₀ (F := Bits) := by
  unfold Cert.Kernel6.defs₀ Cert.Kernel6Ideal.defs₀
  refine congrArg Defs.onTc ?_
  funext l p
  match l, p with
  | 0, (t, s) => rfl

/-- The two programs' body tables are one. -/
theorem defs_eq : Cert.Kernel6.defs (F := Bits) = Cert.Kernel6Ideal.defs (F := Bits) :=
  congrArg (Pipeline.defs Cert.Kernel6Ideal.pcfgs) defs₀_eq

/-- The kernel at machine words runs and leaves its arguments: the same text, so the same run. -/
theorem frame_kernel : Cert.quiescent_Kernel6 := fun m ρ _ => by
  have h := (θ_run Cert.Kernel6Ideal.defs _ _).mono (fun _ h => And.intro (fun c => (h.1 c).2.2) h.2) (run (F := Bits) m ρ)
  rw [← defs_eq] at h
  exact h

theorem frame_ideal : Cert.quiescent_Kernel6Ideal := fun m ρ _ =>
  (θ_run Cert.Kernel6Ideal.defs _ _).mono (fun _ h => ⟨fun c => (h.1 c).2.2, h.2⟩) (run (F := Ideal) m ρ)

/-- The reference runs and leaves its arguments; it declares no semaphore. -/
theorem frame_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Kernel and reference leave the same arrays where the activations and the weights are real numbers. -/
theorem value : Cert.algebraic_Kernel6Ideal_Reference6Ideal_pre_real6 := by
  intro m g m' g' hp hargs
  refine ⟨fun c => G (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => GW (m ((c.tc : Thread Cert.Kernel6Ideal.nD Cert.Kernel6Ideal.τ).loc Cert.Kernel6Ideal.main_arg2)), ?_, ?_⟩
  · refine (θ_run Cert.Kernel6Ideal.defs _ _).mono (fun _ h c => ?_) (run (F := Ideal) m g)
    obtain ⟨h0, h1⟩ := real_args _ _ _ (hp c)
    exact ⟨(h.1 c).1.trans (final m c h0 h1), (h.1 c).2.1.trans (finalw m c), (h.1 c).2.2⟩
  · refine (θ_run Cert.Reference6Ideal.defs _ _).mono (fun _ h c => ⟨(h c).1.trans ?_, (h c).2.1.trans ?_, (h c).2.2⟩) (Cert.Reference6Ideal.Value.run m' g')
    · rw [(hargs c).1, (hargs c).2.1]
      exact (Cert.Reference6Ideal.Read.val_main_v5_eq (F := Ideal) _ _).trans (ref_apply _ _)
    · rw [(hargs c).2.2]
      exact (Cert.Reference6Ideal.Read.val_main_v7_eq (F := Ideal) _).trans (refw_apply _)

/-- The two frames again, where the arguments are real. -/
theorem frame_ideal_pre : Cert.quiescent_Kernel6Ideal_pre_real6 := fun m ρ _ => frame_ideal m ρ trivial
theorem frame_ref_pre : Cert.quiescent_Reference6Ideal_pre_real6 := fun m ρ _ => frame_ref m ρ trivial

end Cert.Kernel6Ideal.Hand

end
-- ==== Proof.OutNextA.lean ====
module

public import proofs.«01_k».proof.Proof.Gen.Kernel7Ideal.Frame
public import proofs.«01_k».proof.Proof.Gen.Kernel7Ideal.Launch
public import proofs.«01_k».proof.Proof.Gen.Kernel7Ideal.Points
public import proofs.«01_k».proof.Proof.Gen.Kernel7Ideal.Skeleton
public import Idealize.ShloMosaic.Lib.Pipeline.FrameBody
public import Idealize.ShloMosaic.Lib.Ring
public import Idealize.ShloMosaic.Lib.Tactic
public import Idealize.ShloMosaic.Lib.VecWindow
public import Idealize.ShloMosaic.Lib.Pipeline.Value

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four slots of the layer's output before its norm. -/
abbrev scM : Memref sig .tc .vmem S4x1024x512 .f32 := Memref.whole cc0_scratch0

/-- Slot `j` of the scratch's contents. -/
abbrev slot (X : Vec F S4x1024x512 .f32) (j : ℕ) (h : ∀ a, (![j, 0, 0] : Fin 3 → ℕ) a + S1x1024x512.size a ≤ S4x1024x512.size a) : Vec F S1x1024x512 .f32 :=
  VecWindow.window X ![j, 0, 0] S1x1024x512.size h

/-- The scratch with a block stored in the slot of point `i`. -/
abbrev stored (i : grid0.Coords) (X : Vec F S4x1024x512 .f32) (w : Vec F S1x1024x512 .f32) : Vec F S4x1024x512 .f32 :=
  VecWindow.put X (k0_off1 i) S1x1024x512.size w

/-- The columns of the gain from `j` on. -/
abbrev gcol (g : Vec F S1x2048 .f32) (j : ℕ) (h : ∀ a, (![0, j] : Fin 2 → ℕ) a + S1x512.size a ≤ S1x2048.size a) : Vec F S1x512 .f32 :=
  VecWindow.window g ![0, j] S1x512.size h

/-- The four stores of the normalised rows, the last one first. -/
abbrev outL (s0 s1 s2 s3 : Vec F S1x1024x512 .f32) (g : Vec F S1x2048 .f32) : List (View.Piece (Elt F) S1024x2048 .bf16) :=
  [⟨Rect.unit (s := S1024x2048) ![0, 1536] S1024x512.size inb_S1024x2048_S1024x512_0_1536,
      k0_pay5 (k0_pay6 s0 s1 s2 s3) s3 (gcol g 1536 inb_S1x2048_S1x512_0_1536)⟩,
    ⟨Rect.unit (s := S1024x2048) ![0, 1024] S1024x512.size inb_S1024x2048_S1024x512_0_1024,
      k0_pay4 (k0_pay6 s0 s1 s2 s3) s2 (gcol g 1024 inb_S1x2048_S1x512_0_1024)⟩,
    ⟨Rect.unit (s := S1024x2048) ![0, 512] S1024x512.size inb_S1024x2048_S1024x512_0_512,
      k0_pay3 (k0_pay6 s0 s1 s2 s3) s1 (gcol g 512 inb_S1x2048_S1x512_0_512)⟩,
    ⟨Rect.unit (s := S1024x2048) ![0, 0] S1024x512.size inb_S1024x2048_S1024x512_0_0,
      k0_pay7 s0 s1 s2 s3 s0 (gcol g 0 inb_S1x2048_S1x512_0_0)⟩]

/-- The normalised rows, from the four slots and the gain. -/
def outOf (s0 s1 s2 s3 : Vec F S1x1024x512 .f32) (g : Vec F S1x2048 .f32) : Vec F S1024x2048 .bf16 := View.canon (outL s0 s1 s2 s3 g)

/-- The same of a scratch's contents. -/
abbrev outX (X : Vec F S4x1024x512 .f32) (g : Vec F S1x2048 .f32) : Vec F S1024x2048 .bf16 :=
  outOf (slot X 0 inb_S4x1024x512_S1x1024x512_0_0_0) (slot X 1 inb_S4x1024x512_S1x1024x512_1_0_0)
    (slot X 2 inb_S4x1024x512_S1x1024x512_2_0_0) (slot X 3 inb_S4x1024x512_S1x1024x512_3_0_0) g

theorem run_N (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1024x512 .f32) (harg4 : arg4.IsWhole)
    (arg5 : Memref sig .tc .vmem S1x2048 .f32) (harg5 : arg5.IsWhole) (arg6 : Memref sig .tc .vmem S1024x512 .f32) (harg6 : arg6.IsWhole)
    (arg7 : Memref sig .tc .vmem S1024x2048 .bf16) (harg7 : arg7.IsWhole)
    (h1 : ¬ k0_cond1 i = 1#1) (y : Vec F S1024x4096 .bf16) (w : Vec F S4096x512 .bf16) (x : Vec F S1024x512 .f32) (X : Vec F S4x1024x512 .f32)
    (K : PUnit → sProp 𝕄) :
    iprop(owns c.tc arg2 fullShare y ∗ owns c.tc arg3 fullShare w ∗ owns c.tc arg4 fullShare x
        ∗ (∃ d, owns c.tc arg6 fullShare d) ∗ owns c.tc scM fullShare X
        ∗ (iprop(owns c.tc arg2 fullShare y ∗ owns c.tc arg3 fullShare w ∗ owns c.tc arg4 fullShare x
            ∗ owns c.tc arg6 fullShare (k0_pay1 x y w) ∗ owns c.tc scM fullShare (stored i X (k0_pay2 x y w))) -∗ K ⟨⟩))
      ⊢ wp frame (wpE (defs₀ (F := F)) Variants.none c none) Set.univ (cc0_out_proj (F := F) i arg2 harg2 arg3 harg3 arg4 harg4 arg5 harg5 arg6 harg6 arg7 harg7 scM (Memref.isWhole_whole _)) K := by
  rw [cc0_out_proj_eq_skeleton]; unfold cc0_out_proj_skel
  unfold owns
  iintro ⟨⟨%f2, %hf2, H2⟩, ⟨%f3, %hf3, H3⟩, ⟨%f4, %hf4, H4⟩, ⟨%d6, %f6, -, H6⟩, ⟨%f7, %hf7, H7⟩, Hk⟩
  sl_exec
  sl_step
  iapply Hk
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H6]
  · iexists _; isplitr; swap
    · iexact H6
    · ipureintro
      rw [View.read_writes_full, View.readAt_full, View.readAt_full, View.readAt_full, hf2, hf3, hf4]
  · iexists _; isplitr; swap
    · iexact H7
    · ipureintro
      rw [View.read_writes_cons_put _ _ _ _ _ rfl, View.writes_nil, hf7, View.readAt_full, View.readAt_full, View.readAt_full, hf2, hf3, hf4]

theorem run_L (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1024x512 .f32) (harg4 : arg4.IsWhole)
    (arg5 : Memref sig .tc .vmem S1x2048 .f32) (harg5 : arg5.IsWhole) (arg6 : Memref sig .tc .vmem S1024x512 .f32) (harg6 : arg6.IsWhole)
    (arg7 : Memref sig .tc .vmem S1024x2048 .bf16) (harg7 : arg7.IsWhole)
    (h1 : k0_cond1 i = 1#1) (y : Vec F S1024x4096 .bf16) (w : Vec F S4096x512 .bf16) (x : Vec F S1024x512 .f32) (g : Vec F S1x2048 .f32) (X : Vec F S4x1024x512 .f32)
    (K : PUnit → sProp 𝕄) :
    iprop(owns c.tc arg2 fullShare y ∗ owns c.tc arg3 fullShare w ∗ owns c.tc arg4 fullShare x
        ∗ owns c.tc arg5 fullShare g ∗ (∃ d, owns c.tc arg6 fullShare d) ∗ (∃ d, owns c.tc arg7 fullShare d)
        ∗ owns c.tc scM fullShare X
        ∗ (iprop(owns c.tc arg2 fullShare y ∗ owns c.tc arg3 fullShare w ∗ owns c.tc arg4 fullShare x
            ∗ owns c.tc arg5 fullShare g ∗ owns c.tc arg6 fullShare (k0_pay1 x y w)
            ∗ owns c.tc arg7 fullShare (outX (stored i X (k0_pay2 x y w)) g)
            ∗ owns c.tc scM fullShare (stored i X (k0_pay2 x y w))) -∗ K ⟨⟩))
      ⊢ wp frame (wpE (defs₀ (F := F)) Variants.none c none) Set.univ (cc0_out_proj (F := F) i arg2 harg2 arg3 harg3 arg4 harg4 arg5 harg5 arg6 harg6 arg7 harg7 scM (Memref.isWhole_whole _)) K := by
  rw [cc0_out_proj_eq_skeleton]; unfold cc0_out_proj_skel
  rw [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d8, %f8, -, H8⟩, ⟨%f7, %hf7, H7⟩, Hk⟩
  sl_exec
  sl_step
  iapply Hk
  isplitl [H2]; · iexists _; isplitr; swap; iexact H2; ipureintro; exact hf2
  isplitl [H3]; · iexists _; isplitr; swap; iexact H3; ipureintro; exact hf3
  isplitl [H4]; · iexists _; isplitr; swap; iexact H4; ipureintro; exact hf4
  isplitl [H5]; · iexists _; isplitr; swap; iexact H5; ipureintro; exact hf5
  isplitl [H6]
  · iexists _; isplitr; swap
    · iexact H6
    · ipureintro
      rw [View.read_writes_full, View.readAt_full, View.readAt_full, View.readAt_full, hf2, hf3, hf4]
  isplitl [H8]
  · iexists _; isplitr; swap
    · iexact H8
    · ipureintro
      have e7 : scM.view.read (Elt F) (scM.view.writes (Elt F) f7 (run_L.sl.H7_1 c i arg2 arg3 arg4 f2 f3 f4)) = stored i X (k0_pay2 x y w) := by
        refine (View.read_writes_cons_put scM.view f7 (k0_off1_inb i) _ [] rfl).trans ?_
        rw [View.writes_nil, hf7, View.readAt_full, View.readAt_full, View.readAt_full, hf2, hf3, hf4]
      have e (j : ℕ) (h : ∀ a, (![j, 0, 0] : Fin 3 → ℕ) a + S1x1024x512.size a ≤ S4x1024x512.size a) :
          scM.view.readAt (Elt F) (Rect.unit (s := S4x1024x512) ![j, 0, 0] S1x1024x512.size h).toLoadRect (scM.view.writes (Elt F) f7 (run_L.sl.H7_1 c i arg2 arg3 arg4 f2 f3 f4))
            = slot (stored i X (k0_pay2 x y w)) j h := by
        rw [View.readAt_unit _ _ _ rfl h, e7]
      have eg (j : ℕ) (h : ∀ a, (![0, j] : Fin 2 → ℕ) a + S1x512.size a ≤ S1x2048.size a) :
          arg5.view.readAt (Elt F) (Rect.unit (s := S1x2048) ![0, j] S1x512.size h).toLoadRect f5 = gcol g j h := by
        rw [View.readAt_unit _ _ _ rfl h, hf5]
      rw [e 0, e 1, e 2, e 3, eg 0, eg 512, eg 1024, eg 1536]
      exact View.read_writes_eq_canon _ _ _ (View.cover_of_tiledL _ ![1024, 512] rfl)
  · iexists _; isplitr; swap
    · iexact H7
    · ipureintro
      refine (View.read_writes_cons_put scM.view f7 (k0_off1_inb i) _ [] rfl).trans ?_
      rw [View.writes_nil, hf7, View.readAt_full, View.readAt_full, View.readAt_full, hf2, hf3, hf4]

end Cert.Kernel7Ideal.Hand

end
-- ==== Proof.OutNextB.lean ====
module

public import proofs.«01_k».proof.Proof.OutNextA

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the grid's points lie -/

theorem cond1_iff : ∀ t : Fin grid0.N, k0_cond1 (grid0.coords t) = 1#1 ↔ t.val % 4 = 3 := by decide +kernel
theorem off1_at : ∀ t : Fin grid0.N, k0_off1 (grid0.coords t) = ![t.val % 4, 0, 0] := by decide +kernel
theorem idle5 : ∀ t : Fin grid0.N, idle0 5 (grid0.coords t) = !decide (t.val % 4 = 3) := by decide +kernel

/-- Slot `j` after a store into slot `n`. -/
theorem slot_put (X : Vec F S4x1024x512 .f32) (n j : ℕ) (w : Vec F S1x1024x512 .f32)
    (h : ∀ a, (![j, 0, 0] : Fin 3 → ℕ) a + S1x1024x512.size a ≤ S4x1024x512.size a) :
    slot (VecWindow.put X ![n, 0, 0] S1x1024x512.size w) j h = if j = n then w else slot X j h := by
  by_cases e : j = n
  · subst e; rw [if_pos rfl]; exact VecWindow.window_put_same X _ _ h w
  · rw [if_neg e]
    refine VecWindow.window_put_of_disjoint X _ _ _ _ h w 0 ?_
    show j + 1 ≤ n ∨ n + 1 ≤ j
    omega

/-! ## The invariant -/

/-- Point `k`, as a point of the grid. -/
def pt (k : ℕ) : Fin cfg0.N := ⟨k % 64, lt_of_lt_of_eq (Nat.mod_lt _ (by decide)) N_0.symm⟩
theorem pt_val (t : Fin cfg0.N) : pt t.val = t :=
  Fin.ext (Nat.mod_eq_of_lt (lt_of_lt_of_eq t.isLt N_0))

/-- The block of the layer's output that point `k` computes. -/
def blk (c : Dev nD) (k : ℕ) : Vec F S1x1024x512 .f32 := k0_pay2 (iblk m c 2 (pt k)) (iblk m c 0 (pt k)) (iblk m c 1 (pt k))

/-- Before point `p`: the slots below `p % 4` hold the blocks of this row of blocks. -/
def inv (c : Dev nD) (p : ℕ) : sProp 𝕄 :=
  iprop(∃ X, ⌜∀ (j : ℕ) (h : ∀ a, (![j, 0, 0] : Fin 3 → ℕ) a + S1x1024x512.size a ≤ S4x1024x512.size a), j < p % 4 → slot X j h = blk m c (4 * (p / 4) + j)⌝
    ∗ owns c.tc scM fullShare X)

/-! ## The proof data -/

abbrev ms0_0 (t : Fin cfg0.N) : Memref sig .tc .vmem S1024x4096 .bf16 := win0_0.stage (cfg0.slots t 0)
abbrev ms0_1 (t : Fin cfg0.N) : Memref sig .tc .vmem S4096x512 .bf16 := win0_1.stage (cfg0.slots t 1)
abbrev ms0_2 (t : Fin cfg0.N) : Memref sig .tc .vmem S1024x512 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S1024x512 .f32 := win0_4.stage (cfg0.slots t 4)
abbrev ms0_5 (t : Fin cfg0.N) : Memref sig .tc .vmem S1024x2048 .bf16 := win0_5.stage (cfg0.slots t 5)

/-- The block of the residual stream that point `t` leaves. -/
def xoAt (c : Dev nD) (t : Fin cfg0.N) : Vec F S1024x512 .f32 := k0_pay1 (iblk m c 2 t) (iblk m c 0 t) (iblk m c 1 t)

/-- The block of the normalised rows at point `t`, the last of its row of blocks. -/
def outAt (c : Dev nD) (t : Fin cfg0.N) : Vec F S1024x2048 .bf16 :=
  outOf (blk m c (4 * (t.val / 4))) (blk m c (4 * (t.val / 4) + 1)) (blk m c (4 * (t.val / 4) + 2)) (blk m c (4 * (t.val / 4) + 3)) (iblk m c 3 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xoAt m c t
    | ⟨5, _⟩ => outAt m c t
  Φ p := iprop((∃ r, prngReg c r) ∗ inv m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xoAt m c t := by dsimp only [dats]
theorem after0_5 (c : Dev nD) (t : Fin cfg0.N) : (dats m 0 c).after 5 t = outAt m c t := by dsimp only [dats]

/-- The result's buffer as the body leaves it: written at the last point of a row of blocks, untouched before. -/
def left5 (c : Dev nD) (t : Fin cfg0.N) : sProp 𝕄 :=
  if t.val % 4 = 3 then owns c.tc (ms0_5 t) fullShare (outAt m c t)
  else iprop(∃ d, owns c.tc (ms0_5 t) fullShare ((dats m 0 c).before 5 t d))

def pre (c : Dev nD) (t : Fin cfg0.N) : sProp 𝕄 :=
  iprop(inv m c t.val ∗ owns c.tc (ms0_0 t) fullShare (iblk m c 0 t) ∗ owns c.tc (ms0_1 t) fullShare (iblk m c 1 t)
    ∗ owns c.tc (ms0_2 t) fullShare (iblk m c 2 t) ∗ owns c.tc (ms0_3 t) fullShare (iblk m c 3 t)
    ∗ (∃ d, owns c.tc (ms0_4 t) fullShare d)
    ∗ (∃ d, owns c.tc (ms0_5 t) fullShare ((dats m 0 c).before 5 t d)))
def post (c : Dev nD) (t : Fin cfg0.N) : sProp 𝕄 :=
  iprop(inv m c (t.val + 1) ∗ owns c.tc (ms0_0 t) fullShare (iblk m c 0 t) ∗ owns c.tc (ms0_1 t) fullShare (iblk m c 1 t)
    ∗ owns c.tc (ms0_2 t) fullShare (iblk m c 2 t) ∗ owns c.tc (ms0_3 t) fullShare (iblk m c 3 t)
    ∗ owns c.tc (ms0_4 t) fullShare (xoAt m c t) ∗ left5 m c t)

/-- What the point's own store makes of the slots. -/
theorem slots_after (c : Dev nD) (t : Fin cfg0.N) (X : Vec F S4x1024x512 .f32)
    (hX : ∀ (j : ℕ) (h : ∀ a, (![j, 0, 0] : Fin 3 → ℕ) a + S1x1024x512.size a ≤ S4x1024x512.size a), j < t.val % 4 → slot X j h = blk m c (4 * (t.val / 4) + j))
    (j : ℕ) (h : ∀ a, (![j, 0, 0] : Fin 3 → ℕ) a + S1x1024x512.size a ≤ S4x1024x512.size a) (hj : j ≤ t.val % 4) :
    slot (stored (grid0.coords t) X (k0_pay2 (iblk m c 2 t) (iblk m c 0 t) (iblk m c 1 t))) j h = blk m c (4 * (t.val / 4) + j) := by
  unfold stored
  rw [off1_at t, slot_put]
  by_cases e : j = t.val % 4
  · rw [if_pos e]
    unfold blk
    rw [show 4 * (t.val / 4) + j = t.val by omega, pt_val]
  · rw [if_neg e]; exact hX j h (by omega)

theorem point_N (c : Dev nD) (t : Fin cfg0.N) (h : t.val % 4 ≠ 3) :
    pre m c t ⊢ wp frame (wpE (defs₀ (F := F)) Variants.none c none) Set.univ (bodyAt0 t) (fun _ => post m c t) := by
  unfold pre post left5 inv xoAt
  rw [if_neg h]
  iintro ⟨⟨%X, %hX, H7⟩, H2, H3, H4, H5, H6, H8⟩
  iapply (run_N c (grid0.coords t) (ms0_0 t) _ (ms0_1 t) _ (ms0_2 t) _ (ms0_3 t) _ (ms0_4 t) _ (ms0_5 t) _ (fun hc => h ((cond1_iff t).1 hc))
    (iblk m c 0 t) (iblk m c 1 t) (iblk m c 2 t) X _)
  isplitl [H2]; · iexact H2
  isplitl [H3]; · iexact H3
  isplitl [H4]; · iexact H4
  isplitl [H6]; · iexact H6
  isplitl [H7]; · iexact H7
  iintro ⟨H2, H3, H4, H6, H7⟩
  isplitl [H7]
  · iexists _; isplitr; swap
    · iexact H7
    · ipureintro
      intro j hh hj
      rw [show 4 * ((t.val + 1) / 4) = 4 * (t.val / 4) by omega]
      exact slots_after m c t X hX j hh (by omega)
  isplitl [H2]; · iexact H2
  isplitl [H3]; · iexact H3
  isplitl [H4]; · iexact H4
  isplitl [H5]; · iexact H5
  isplitl [H6]; · iexact H6
  iexact H8

theorem point_L (c : Dev nD) (t : Fin cfg0.N) (h : t.val % 4 = 3) :
    pre m c t ⊢ wp frame (wpE (defs₀ (F := F)) Variants.none c none) Set.univ (bodyAt0 t) (fun _ => post m c t) := by
  unfold pre post left5 inv xoAt
  rw [if_pos h]
  iintro ⟨⟨%X, %hX, H7⟩, H2, H3, H4, H5, H6, ⟨%d, H8⟩⟩
  iapply (run_L c (grid0.coords t) (ms0_0 t) _ (ms0_1 t) _ (ms0_2 t) _ (ms0_3 t) _ (ms0_4 t) _ (ms0_5 t) _ ((cond1_iff t).2 h)
    (iblk m c 0 t) (iblk m c 1 t) (iblk m c 2 t) (iblk m c 3 t) X _)
  isplitl [H2]; · iexact H2
  isplitl [H3]; · iexact H3
  isplitl [H4]; · iexact H4
  isplitl [H5]; · iexact H5
  isplitl [H6]; · iexact H6
  isplitl [H8]; · iexists _; iexact H8
  isplitl [H7]; · iexact H7
  unfold outX
  rw [slots_after m c t X hX 0 _ (by omega), slots_after m c t X hX 1 _ (by omega), slots_after m c t X hX 2 _ (by omega),
    slots_after m c t X hX 3 _ (by omega)]
  iintro ⟨H2, H3, H4, H5, H6, H8, H7⟩
  isplitl [H7]
  · iexists _; isplitr; swap
    · iexact H7
    · ipureintro
      intro j hh hj
      omega
  isplitl [H2]; · iexact H2
  isplitl [H3]; · iexact H3
  isplitl [H4]; · iexact H4
  isplitl [H5]; · iexact H5
  isplitl [H6]; · iexact H6
  iexact H8

theorem point (c : Dev nD) (t : Fin cfg0.N) :
    pre m c t ⊢ wp frame (wpE (defs₀ (F := F)) Variants.none c none) Set.univ (bodyAt0 t) (fun _ => post m c t) := by
  by_cases h : t.val % 4 = 3
  · exact point_L m c t h
  · exact point_N m c t h

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ left5 m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  rw [after0_0, after0_1, after0_2, after0_3, after0_4]
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owesAt () t.castSucc = (dats m 0 c).owesAt () t.succ from rfl]
  iintro ⟨⟨Hg, HI⟩, HW, ⟨%d0, H0⟩, ⟨%d1, H1⟩, ⟨%d2, H2⟩, ⟨%d3, H3⟩, ⟨%d4, H4⟩, H5⟩
  iapply (wp_wand_r frame (wpE (defs₀ (F := F)) Variants.none c none) Set.univ (Q := fun _ => post m c t))
  isplitl [HI H0 H1 H2 H3 H4 H5]
  · iapply (point m c t)
    unfold pre
    isplitl [HI]; · iexact HI
    isplitl [H0]; · iexact H0
    isplitl [H1]; · iexact H1
    isplitl [H2]; · iexact H2
    isplitl [H3]; · iexact H3
    isplitl [H4]; · iexists _; iexact H4
    iexact H5
  iintro %_ Hp
  unfold post
  icases Hp with ⟨HI, H0, H1, H2, H3, H4, H5⟩
  isplitl [Hg HI]
  · isplitl [Hg]; · iexact Hg
    iexact HI
  isplitl [HW]; · iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- What the loop takes back of the result's buffer. -/
theorem left5_eq (c : Dev nD) (t : Fin cfg0.N) :
    (match cfg0.idle 5 (cfg0.grid.coords t) with
      | true =>
        match (cfg0.win 5).flush t with
        | false => iprop(∃ d, owns c.tc ((cfg0.win 5).stage (cfg0.slots t 5)) fullShare ((dats m 0 c).before 5 t d))
        | true => owns c.tc ((cfg0.win 5).stage (cfg0.slots t 5)) fullShare ((dats m 0 c).after 5 t)
      | false => owns c.tc ((cfg0.win 5).stage (cfg0.slots t 5)) fullShare ((dats m 0 c).after 5 t)) = left5 m c t := by
  rw [after0_5, show cfg0.idle 5 (cfg0.grid.coords t) = !decide (t.val % 4 = 3) from idle5 t]
  unfold left5
  by_cases h : t.val % 4 = 3
  · rw [if_pos h, decide_eq_true h]; rfl
  · rw [if_neg h, decide_eq_false h]
    have hf : (cfg0.win 5).flush t = false := by
      rw [Bool.eq_false_iff]; exact fun hc => h ((flush0_5 t).1 hc)
    simp only [Bool.not_false, hf]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  rw [← left5_eq]
  exact .rfl

/-! ## The run and the frame -/

theorem PhiA_eq (c : Dev nD) :
    (Pipeline.ΦA spec0 c : sProp 𝕄) = iprop((∃ d, owns c.tc scM fullShare d) ∗ (∃ r, prngReg c r)) := by
  unfold Pipeline.ΦA
  rw [scopedRest0_eq]
  simp only [scM, owns_whole]; try rfl

theorem hin (c : Dev nD) : (Pipeline.ΦA spec0 c : sProp 𝕄) ⊢ (dats m 0 c).Φ 0 := by
  rw [PhiA_eq, show (dats m 0 c).Φ 0 = iprop((∃ r, prngReg c r) ∗ inv m c 0) from rfl]
  unfold inv
  iintro ⟨⟨%d, H5⟩, Hg⟩
  isplitl [Hg]; · iexact Hg
  iexists d; isplitr
  · ipureintro; intro j h hj; exact absurd hj (Nat.not_lt_zero j)
  iexact H5

theorem hout (c : Dev nD) : (dats m 0 c).Φ (Fin.last cfg0.N) ⊢ (Pipeline.ΦA spec0 c : sProp 𝕄) := by
  rw [PhiA_eq, show (dats m 0 c).Φ (Fin.last cfg0.N) = iprop((∃ r, prngReg c r) ∗ inv m c grid0.N) from rfl]
  unfold inv
  iintro ⟨Hg, ⟨%X, -, H5⟩⟩
  isplitl [H5]
  · iexists X; iexact H5
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's end: the result array as the write-backs leave it, the arguments as they were, every cell at zero. -/
theorem run : θ_run defs (onTc (τ := τ) (main (F := F))) ⟨m, fun _ => 0, ρ⟩ (fun r => (∀ c : Dev nD,
      r.2.mem ((c.tc : Thread nD τ).loc main_v3_0) = (dats m 0 c).arrAt 4 cfg0.N
      ∧ r.2.mem ((c.tc : Thread nD τ).loc main_v3_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 4, (h.1 c).1 5,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c)⟩, h.2⟩) (run_main m ρ)

end Cert.Kernel7Ideal.Hand

end
-- ==== Proof.OutNextV.lean ====
module

public import proofs.«01_k».proof.Proof.OutNextB
public import proofs.«01_k».proof.Proof.OutV
public import proofs.«01_k».proof.Proof.Gen.Reference7Ideal.Run
public import proofs.«01_k».proof.Proof.Gen.Reference7Ideal.Read
public import Idealize.ShloMosaic.Lib.Pointwise
public import Idealize.ShloMosaic.Lib.Pipeline.ValueKit.Geometry
public import Idealize.ShloMosaic.Lib.Pipeline.CanonAppend
public import Idealize.ShloMosaic.Lib.IdealHost

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.Sem
open Cert.Kernel4Ideal.Hand (sum_row)
open Idealize.ShloMosaic.Pipeline (Dat Cfg Window)

variable (m : (ℓ : Loc nD τ sig) → Buf (Elt Ideal) ℓ) (ρ : Dev nD → PrngReg)

/-! ## The function -/

/-- The residual stream plus the layer's projected output, at row `r` and column `q`. -/
def S (h : (⟨S16384x4096, .f32⟩ : BufTy).Contents (Elt Ideal)) (w : (⟨S4096x2048, .f32⟩ : BufTy).Contents (Elt Ideal))
    (x : (⟨S16384x2048, .f32⟩ : BufTy).Contents (Elt Ideal)) (r : Fin 16384) (q : Fin 2048) : EReal :=
  x (ix2 r q) + ∑ k : Fin 4096, h (ix2 r k) * w (ix2 k q)

/-- The residual stream the layer leaves. -/
def GX (h : (⟨S16384x4096, .f32⟩ : BufTy).Contents (Elt Ideal)) (w : (⟨S4096x2048, .f32⟩ : BufTy).Contents (Elt Ideal))
    (x : (⟨S16384x2048, .f32⟩ : BufTy).Contents (Elt Ideal)) : (⟨S16384x2048, .f32⟩ : BufTy).Contents (Elt Ideal) :=
  fun y => S h w x (y 0) (y 1)

/-- Its rows over their root mean square, by the gain. -/
def G (h : (⟨S16384x4096, .f32⟩ : BufTy).Contents (Elt Ideal)) (w : (⟨S4096x2048, .f32⟩ : BufTy).Contents (Elt Ideal))
    (x : (⟨S16384x2048, .f32⟩ : BufTy).Contents (Elt Ideal)) (g : (⟨S2048, .f32⟩ : BufTy).Contents (Elt Ideal)) :
    (⟨S16384x2048, .bf16⟩ : BufTy).Contents (Elt Ideal) :=
  fun y => S h w x (y 0) (y 1) * Ideal.rsqrt (Ideal.div (∑ q : Fin 2048, S h w x (y 0) q * S h w x (y 0) q) (Ideal.ofBits .f32 0x45000000#32) + Ideal.ofBits .f32 0x358637BD#32)
    * g (ix1 (y 1))

open Cert.Reference7Ideal.Read in
theorem ref_apply (h : (⟨S16384x4096, .f32⟩ : BufTy).Contents (Elt Ideal)) (w : (⟨S4096x2048, .f32⟩ : BufTy).Contents (Elt Ideal))
    (x : (⟨S16384x2048, .f32⟩ : BufTy).Contents (Elt Ideal)) (g : (⟨S2048, .f32⟩ : BufTy).Contents (Elt Ideal)) :
    Cert.Reference7Ideal.Read.val_main_v15 (F := Ideal) h w x g = G h w x g := by
  funext y
  unfold G S
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

open Cert.Reference7Ideal.Read in
theorem refx_apply (h : (⟨S16384x4096, .f32⟩ : BufTy).Contents (Elt Ideal)) (w : (⟨S4096x2048, .f32⟩ : BufTy).Contents (Elt Ideal))
    (x : (⟨S16384x2048, .f32⟩ : BufTy).Contents (Elt Ideal)) :
    Cert.Reference7Ideal.Read.val_main_v1 (F := Ideal) h w x = GX h w x := by
  funext y
  unfold GX S
  pointwise [val_main_v1, val_main_v0]

/-! ## The payloads at an index -/

theorem pay2_apply (x : Vec Ideal S1024x512 .f32) (h : Vec Ideal S1024x4096 .bf16) (w : Vec Ideal S4096x512 .bf16) (a : Fin 1024) (b : Fin 512) :
    k0_pay2 (F := Ideal) x h w (ix3 (0 : Fin 1) a b) = x (ix2 a b) + ∑ k : Fin 4096, h (ix2 a k) * w (ix2 k b) := by
  pointwise [k0_pay2, k0_pay1]
theorem pay1_apply (x : Vec Ideal S1024x512 .f32) (h : Vec Ideal S1024x4096 .bf16) (w : Vec Ideal S4096x512 .bf16) (a : Fin 1024) (b : Fin 512) :
    k0_pay1 (F := Ideal) x h w (ix2 a b) = x (ix2 a b) + ∑ k : Fin 4096, h (ix2 a k) * w (ix2 k b) := by
  pointwise [k0_pay1]

theorem pay6_apply (s0 s1 s2 s3 : Vec Ideal S1x1024x512 .f32) (a : Fin 1024) :
    k0_pay6 (F := Ideal) s0 s1 s2 s3 (ix2 a (0 : Fin 1)) = Ideal.rsqrt
      ((∑ b : Fin 512, s0 (ix3 (0 : Fin 1) a b) * s0 (ix3 (0 : Fin 1) a b) + ∑ b : Fin 512, s1 (ix3 (0 : Fin 1) a b) * s1 (ix3 (0 : Fin 1) a b)
        + ∑ b : Fin 512, s2 (ix3 (0 : Fin 1) a b) * s2 (ix3 (0 : Fin 1) a b) + ∑ b : Fin 512, s3 (ix3 (0 : Fin 1) a b) * s3 (ix3 (0 : Fin 1) a b))
        * Ideal.ofBits .f32 0x3A000000#32 + Ideal.ofBits .f32 0x358637BD#32) := by
  pointwise [k0_pay6]

theorem pay7_apply (s0 s1 s2 s3 s4 : Vec Ideal S1x1024x512 .f32) (g : Vec Ideal S1x512 .f32) (a : Fin 1024) (b : Fin 512) :
    k0_pay7 (F := Ideal) s0 s1 s2 s3 s4 g (ix2 a b) = s4 (ix3 (0 : Fin 1) a b) * k0_pay6 s0 s1 s2 s3 (ix2 a (0 : Fin 1)) * g (ix2 (0 : Fin 1) b) := by
  pointwise [k0_pay7]
theorem pay3_apply (r : FVec Ideal S1024x1 .f32) (s : Vec Ideal S1x1024x512 .f32) (g : Vec Ideal S1x512 .f32) (a : Fin 1024) (b : Fin 512) :
    k0_pay3 (F := Ideal) r s g (ix2 a b) = s (ix3 (0 : Fin 1) a b) * r (ix2 a (0 : Fin 1)) * g (ix2 (0 : Fin 1) b) := by
  pointwise [k0_pay3]
theorem pay4_apply (r : FVec Ideal S1024x1 .f32) (s : Vec Ideal S1x1024x512 .f32) (g : Vec Ideal S1x512 .f32) (a : Fin 1024) (b : Fin 512) :
    k0_pay4 (F := Ideal) r s g (ix2 a b) = s (ix3 (0 : Fin 1) a b) * r (ix2 a (0 : Fin 1)) * g (ix2 (0 : Fin 1) b) := by
  pointwise [k0_pay4]
theorem pay5_apply (r : FVec Ideal S1024x1 .f32) (s : Vec Ideal S1x1024x512 .f32) (g : Vec Ideal S1x512 .f32) (a : Fin 1024) (b : Fin 512) :
    k0_pay5 (F := Ideal) r s g (ix2 a b) = s (ix3 (0 : Fin 1) a b) * r (ix2 a (0 : Fin 1)) * g (ix2 (0 : Fin 1) b) := by
  pointwise [k0_pay5]

/-! ## A row of blocks -/

/-- The reciprocal root of row `a`, where the four slots hold the row's columns in order. -/
theorem root_apply (T : Fin 1024 → Fin 2048 → EReal) (s0 s1 s2 s3 : Vec Ideal S1x1024x512 .f32)
    (h0 : ∀ a b, s0 (ix3 (0 : Fin 1) a b) = T a ⟨0 + b.val, by omega⟩) (h1 : ∀ a b, s1 (ix3 (0 : Fin 1) a b) = T a ⟨512 + b.val, by omega⟩)
    (h2 : ∀ a b, s2 (ix3 (0 : Fin 1) a b) = T a ⟨1024 + b.val, by omega⟩) (h3 : ∀ a b, s3 (ix3 (0 : Fin 1) a b) = T a ⟨1536 + b.val, by omega⟩) (a : Fin 1024) :
    k0_pay6 (F := Ideal) s0 s1 s2 s3 (ix2 a (0 : Fin 1))
      = Ideal.rsqrt (Ideal.div (∑ q, T a q * T a q) (Ideal.ofBits .f32 0x45000000#32) + Ideal.ofBits .f32 0x358637BD#32) := by
  rw [pay6_apply, Cert.Words.mean2048, sum_row]
  simp only [h0, h1, h2, h3]

/-- A row's columns over its root mean square, by the gain. -/
def rowOut (T : Fin 1024 → Fin 2048 → EReal) (g : S1x2048.Idx → EReal) (a : Fin 1024) (q : Fin 2048) : EReal :=
  T a q * Ideal.rsqrt (Ideal.div (∑ q, T a q * T a q) (Ideal.ofBits .f32 0x45000000#32) + Ideal.ofBits .f32 0x358637BD#32) * g (ix2 (0 : Fin 1) q)

/-- A store of 512 columns that holds the normalised rows' columns from `o` on. -/
theorem piece_apply (T : Fin 1024 → Fin 2048 → EReal) (g : S1x2048.Idx → EReal) (o : ℕ) (ho : o + 512 ≤ 2048)
    (hi : ∀ a, (![0, o] : Fin 2 → ℕ) a + S1024x512.size a ≤ S1024x2048.size a) (p : S1024x512.Idx → EReal)
    (hp : ∀ (a : Fin 1024) (b : Fin 512), p (ix2 a b) = rowOut T g a ⟨o + b.val, by omega⟩) (x : S1024x512.Idx) :
    p x = (fun y : S1024x2048.Idx => rowOut T g (y 0) (y 1)) ((Rect.unit (s := S1024x2048) ![0, o] S1024x512.size hi).emb x) := by
  have hx : x = ix2 (x 0) (x 1) := funext fun a => by match a with | 0 => rfl | 1 => rfl
  refine (congrArg p hx).trans ((hp _ _).trans (congrArg₂ (rowOut T g) (Fin.ext ?_) (Fin.ext ?_)))
  · show (x 0).val = 0 + 1 * (x 0).val; omega
  · show o + (x 1).val = o + 1 * (x 1).val; omega

theorem gcol_apply (g : Vec Ideal S1x2048 .f32) (o : ℕ) (ho : o + 512 ≤ 2048) (h : ∀ a, (![0, o] : Fin 2 → ℕ) a + S1x512.size a ≤ S1x2048.size a) (b : Fin 512) :
    gcol g o h (ix2 (0 : Fin 1) b) = g (ix2 (0 : Fin 1) ⟨o + b.val, by omega⟩) :=
  congrArg g (funext fun a => Fin.ext (by
    match a with
    | 0 => rfl
    | 1 => show o + 1 * b.val = o + b.val; omega))

/-- The normalised rows, where the four slots hold their columns in order. -/
theorem out_apply (T : Fin 1024 → Fin 2048 → EReal) (s0 s1 s2 s3 : Vec Ideal S1x1024x512 .f32) (g : Vec Ideal S1x2048 .f32)
    (h0 : ∀ a b, s0 (ix3 (0 : Fin 1) a b) = T a ⟨0 + b.val, by omega⟩) (h1 : ∀ a b, s1 (ix3 (0 : Fin 1) a b) = T a ⟨512 + b.val, by omega⟩)
    (h2 : ∀ a b, s2 (ix3 (0 : Fin 1) a b) = T a ⟨1024 + b.val, by omega⟩) (h3 : ∀ a b, s3 (ix3 (0 : Fin 1) a b) = T a ⟨1536 + b.val, by omega⟩)
    (y : S1024x2048.Idx) : outOf s0 s1 s2 s3 g y = rowOut T g (y 0) (y 1) := by
  have hr := root_apply T s0 s1 s2 s3 h0 h1 h2 h3
  refine (View.canon_append_of_pieces (S := S1024x2048) (Val := Elt Ideal) (e := .bf16) (fun y : S1024x2048.Idx => rowOut T g (y 0) (y 1)) []
    (outL s0 s1 s2 s3 g) ?_ y ?_)
  · intro p hp
    simp only [List.mem_cons, List.mem_nil_iff, or_false] at hp
    rcases hp with rfl | rfl | rfl | rfl
    · refine piece_apply T g 1536 (by decide) inb_S1024x2048_S1024x512_0_1536 _ fun a b => (pay5_apply _ _ _ a b).trans ?_
      rw [hr, h3, gcol_apply g 1536 (by decide)]; rfl
    · refine piece_apply T g 1024 (by decide) inb_S1024x2048_S1024x512_0_1024 _ fun a b => (pay4_apply _ _ _ a b).trans ?_
      rw [hr, h2, gcol_apply g 1024 (by decide)]; rfl
    · refine piece_apply T g 512 (by decide) inb_S1024x2048_S1024x512_0_512 _ fun a b => (pay3_apply _ _ _ a b).trans ?_
      rw [hr, h1, gcol_apply g 512 (by decide)]; rfl
    · refine piece_apply T g 0 (by decide) inb_S1024x2048_S1024x512_0_0 _ fun a b => (pay7_apply _ _ _ _ _ _ a b).trans ?_
      rw [hr, h0, gcol_apply g 0 (by decide)]; rfl
  · exact View.cover_of_tiledL (outL s0 s1 s2 s3 g) ![1024, 512] rfl y

/-! ## The blocks -/

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, t.val % 4] := (by decide +kernel : ∀ t : Fin grid0.N, _)
theorem idx5 : ∀ t : Fin cfg0.N, win0_5.index t = ![t.val / 4, 0] := (by decide +kernel : ∀ t : Fin grid0.N, _)

theorem V_v0 (c : Dev nD) (i : S16384x4096.Idx) : (V m c main_v0 i : EReal) = m (c.tc.loc main_arg0) i := rfl
theorem V_v1 (c : Dev nD) (i : S4096x2048.Idx) : (V m c main_v1 i : EReal) = m (c.tc.loc main_arg1) i := rfl
theorem V_v2 (c : Dev nD) (q : Fin 2048) : V m c main_v2 (ix2 (0 : Fin 1) q) = m (c.tc.loc main_arg3) (ix1 q) := by
  have h : S2048.ShapeCasts S1x2048 := by decide
  refine (show V m c main_v2 (ix2 (0 : Fin 1) q) = shapeCast S1x2048 (m (c.tc.loc main_arg3)) h (ix2 (0 : Fin 1) q) from rfl).trans ?_
  refine shapeCast_apply _ h _ (ix1 q) ?_
  rewrite [Shape.rowMajor_val_two, Shape.rowMajor_val_one]
  show q.val = 0 * 2048 + q.val
  omega

/-- The four arguments, as the function takes them. -/
abbrev Sm (c : Dev nD) := S (m (c.tc.loc main_arg0)) (m (c.tc.loc main_arg1)) (m (c.tc.loc main_arg2))

/-- Block `4 i + j` at an index. -/
theorem blk_apply (c : Dev nD) (i j : ℕ) (hi : i < 16) (hj : j < 4) (a : Fin 1024) (b : Fin 512) :
    blk m c (4 * i + j) (ix3 (0 : Fin 1) a b) = Sm m c ⟨1024 * i + a.val, by omega⟩ ⟨512 * j + b.val, by omega⟩ := by
  unfold blk
  refine (pay2_apply _ _ _ a b).trans ?_
  unfold Sm S
  have hv : (pt (4 * i + j)).val = 4 * i + j := by show (4 * i + j) % 64 = _; omega
  generalize pt (4 * i + j) = t at hv ⊢
  blk_simp [iblk]
  rw [V_main_arg2]
  refine congrArg₂ (fun p q : EReal => p + q) (congrArg (m (c.tc.loc main_arg2)) ?_) (Finset.sum_congr (M := EReal) rfl fun k _ =>
    congrArg₂ (fun p q : EReal => p * q) ((V_v0 m c _).trans (congrArg (m (c.tc.loc main_arg0)) ?_)) ((V_v1 m c _).trans (congrArg (m (c.tc.loc main_arg1)) ?_)))
  · blk_ext [idx2, hv]
  · blk_ext [idx0, hv]
  · blk_ext [idx1, hv]

/-- A normalised row of the call is the function's row. -/
theorem rowOut_eq (h : (⟨S16384x4096, .f32⟩ : BufTy).Contents (Elt Ideal)) (w : (⟨S4096x2048, .f32⟩ : BufTy).Contents (Elt Ideal))
    (x : (⟨S16384x2048, .f32⟩ : BufTy).Contents (Elt Ideal)) (g : (⟨S2048, .f32⟩ : BufTy).Contents (Elt Ideal))
    (T : Fin 1024 → Fin 2048 → EReal) (gi : S1x2048.Idx → EReal) (a : Fin 1024) (q : Fin 2048) (r : Fin 16384)
    (hT : ∀ q, T a q = S h w x r q) (hg : ∀ q : Fin 2048, gi (ix2 (0 : Fin 1) q) = g (ix1 q)) :
    rowOut T gi a q = G h w x g (ix2 r q) := by
  show T a q * Ideal.rsqrt (Ideal.div (∑ q, T a q * T a q) (Ideal.ofBits .f32 0x45000000#32) + Ideal.ofBits .f32 0x358637BD#32) * gi (ix2 (0 : Fin 1) q)
    = S h w x r q * Ideal.rsqrt (Ideal.div (∑ q, S h w x r q * S h w x r q) (Ideal.ofBits .f32 0x45000000#32) + Ideal.ofBits .f32 0x358637BD#32) * g (ix1 q)
  rw [hg]
  simp only [hT]

theorem final (c : Dev nD) : (dats m 0 c).arrAt 5 cfg0.N
    = G (m (c.tc.loc main_arg0)) (m (c.tc.loc main_arg1)) (m (c.tc.loc main_arg2)) (m (c.tc.loc main_arg3)) := by
  refine (dats m 0 c).arrAt_eq_of_covers 5 _ (by decide +kernel) fun t hf y => ?_
  have ht : t.val < 64 := lt_of_lt_of_eq t.isLt N_0
  blk_simp
  rw [after0_5]
  unfold outAt
  refine (out_apply (fun a q => Sm m c ⟨1024 * (t.val / 4) + a.val, by omega⟩ q) _ _ _ _ _ (fun a b => ?_) (fun a b => ?_) (fun a b => ?_) (fun a b => ?_) y).trans ?_
  · exact (blk_apply m c (t.val / 4) 0 (by omega) (by omega) a b).trans (congrArg _ (Fin.ext (by show 512 * 0 + b.val = 0 + b.val; omega)))
  · exact (blk_apply m c (t.val / 4) 1 (by omega) (by omega) a b).trans (congrArg _ (Fin.ext (by show 512 * 1 + b.val = 512 + b.val; omega)))
  · exact (blk_apply m c (t.val / 4) 2 (by omega) (by omega) a b).trans (congrArg _ (Fin.ext (by show 512 * 2 + b.val = 1024 + b.val; omega)))
  · exact (blk_apply m c (t.val / 4) 3 (by omega) (by omega) a b).trans (congrArg _ (Fin.ext (by show 512 * 3 + b.val = 1536 + b.val; omega)))
  have hg (q : Fin 2048) : iblk m c 3 t (ix2 (0 : Fin 1) q) = m (c.tc.loc main_arg3) (ix1 q) := by
    refine Eq.trans ?_ (V_v2 m c q)
    blk_simp [iblk]
    refine congrArg (V m c main_v2) ?_
    blk_ext [idx3]
  have e : (win0_5.blk t).view.emb y = ix2 (⟨1024 * (t.val / 4) + (y 0).val, by have : (y 0).val < 1024 := (y 0).isLt; omega⟩ : Fin 16384) (y 1 : Fin 2048) := by
    blk_ext [idx5]
  exact (rowOut_eq _ _ _ _ _ _ _ _ (⟨1024 * (t.val / 4) + (y 0).val, by have : (y 0).val < 1024 := (y 0).isLt; omega⟩ : Fin 16384) (fun q => rfl) hg).trans
    (congrArg (G _ _ _ _) e.symm)

theorem finalx (c : Dev nD) : (dats m 0 c).arrAt 4 cfg0.N
    = GX (m (c.tc.loc main_arg0)) (m (c.tc.loc main_arg1)) (m (c.tc.loc main_arg2)) := by
  refine (dats m 0 c).arrAt_eq_of_covers 4 _ (by decide +kernel) fun t hf y => ?_
  have ht : t.val < 64 := lt_of_lt_of_eq t.isLt N_0
  have hy : y = ix2 (y 0 : Fin 1024) (y 1 : Fin 512) := funext fun a => by match a with | 0 => rfl | 1 => rfl
  blk_simp
  rw [after0_4]
  unfold xoAt
  refine (congrArg _ hy).trans ((pay1_apply _ _ _ (y 0) (y 1)).trans ?_)
  unfold GX S
  blk_simp [iblk]
  rw [V_main_arg2]
  refine congrArg₂ (fun p q : EReal => p + q) (congrArg (m (c.tc.loc main_arg2)) ?_) (Finset.sum_congr (M := EReal) rfl fun k _ =>
    congrArg₂ (fun p q : EReal => p * q) ((V_v0 m c _).trans (congrArg (m (c.tc.loc main_arg0)) ?_)) ((V_v1 m c _).trans (congrArg (m (c.tc.loc main_arg1)) ?_)))
  · blk_ext [idx2, idx4]
  · blk_ext [idx0, idx4]
  · blk_ext [idx1, idx4]

end Cert.Kernel7Ideal.Hand

end
-- ==== Proof.OutNextD.lean ====
module

public import proofs.«01_k».proof.Defs
public import proofs.«01_k».proof.Proof.Gen.Kernel7
public import proofs.«01_k».proof.Proof.OutNextV

@[expose] public section

noncomputable section

namespace Cert.Kernel7Ideal.Hand

open Idealize.ShloMosaic Idealize.SL.Sem

theorem defs₀_eq : Cert.Kernel7.defs₀ (F := Bits) = Cert.Kernel7Ideal.defs₀ (F := Bits) := by
  unfold Cert.Kernel7.defs₀ Cert.Kernel7Ideal.defs₀
  refine congrArg Defs.onTc ?_
  funext l p
  match l, p with
  | 0, (t, s) => rfl

/-- The two programs' body tables are one. -/
theorem defs_eq : Cert.Kernel7.defs (F := Bits) = Cert.Kernel7Ideal.defs (F := Bits) :=
  congrArg (Pipeline.defs Cert.Kernel7Ideal.pcfgs) defs₀_eq

/-- The kernel at machine words runs and leaves its arguments: the same text, so the same run. -/
theorem frame_kernel : Cert.quiescent_Kernel7 := fun m ρ _ => by
  have h := (θ_run Cert.Kernel7Ideal.defs _ _).mono (fun _ h => And.intro (fun c => (h.1 c).2.2) h.2) (run (F := Bits) m ρ)
  rw [← defs_eq] at h
  exact h

theorem frame_ideal : Cert.quiescent_Kernel7Ideal := fun m ρ _ =>
  (θ_run Cert.Kernel7Ideal.defs _ _).mono (fun _ h => ⟨fun c => (h.1 c).2.2, h.2⟩) (run (F := Ideal) m ρ)

/-- The reference runs and leaves its arguments; it declares no semaphore. -/
theorem frame_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Kernel and reference leave the same array. -/
theorem value : Cert.algebraic_Kernel7Ideal_Reference7Ideal := by
  intro m g m' g' _ hargs
  refine ⟨fun c => GX (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), fun c => G (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono (fun _ h c => ⟨(h.1 c).1.trans (finalx m c), (h.1 c).2.1.trans (final m c), (h.1 c).2.2⟩) (run (F := Ideal) m g)
  · refine (θ_run Cert.Reference7Ideal.defs _ _).mono (fun _ h c => ⟨(h c).1.trans ?_, (h c).2.1.trans ?_, (h c).2.2⟩) (Cert.Reference7Ideal.Value.run m' g')
    · rw [(hargs c).1, (hargs c).2.1, (hargs c).2.2.1]
      exact (Cert.Reference7Ideal.Read.val_main_v1_eq (F := Ideal) _ _ _).trans (refx_apply _ _ _)
    · rw [(hargs c).1, (hargs c).2.1, (hargs c).2.2.1, (hargs c).2.2.2]
      exact (Cert.Reference7Ideal.Read.val_main_v15_eq (F := Ideal) _ _ _ _).trans (ref_apply _ _ _ _)

end Cert.Kernel7Ideal.Hand

end
-- ==== Proof.NormD.lean ====
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit.Geometry
public import Idealize.ShloMosaic.Lib.IdealHost
public import Idealize.ShloMosaic.Lib.VecWindow
public import Idealize.ShloMosaic.Lib.WholeRead

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- Rows over their root mean square, by the gain. -/
def G (x : (⟨S16384x2048, .f32⟩ : BufTy).Contents (Elt Ideal)) (g : (⟨S2048, .f32⟩ : BufTy).Contents (Elt Ideal)) :
    (⟨S16384x2048, .bf16⟩ : BufTy).Contents (Elt Ideal) :=
  fun y => x (ix2 (y 0) (y 1)) * Ideal.rsqrt (Ideal.div (∑ q : Fin 2048, x (ix2 (y 0) q) * x (ix2 (y 0) q)) (Ideal.ofBits .f32 0x45000000#32) + Ideal.ofBits .f32 0x358637BD#32)
    * g (ix1 (y 1))

open Cert.Reference8Ideal.Read in
theorem ref_apply (x : (⟨S16384x2048, .f32⟩ : BufTy).Contents (Elt Ideal)) (g : (⟨S2048, .f32⟩ : BufTy).Contents (Elt Ideal)) :
    val_main_v13 (F := Ideal) x g = G x g := by
  funext y
  unfold G
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- The body's rows at an index. -/
theorem pay_apply (x : Vec Ideal S1024x2048 .f32) (g : Vec Ideal S1x2048 .f32) (a : Fin 1024) (b : Fin 2048) :
    k0_pay1 (F := Ideal) x g (ix2 a b) = x (ix2 a b) * Ideal.rsqrt (Ideal.div (∑ q : Fin 2048, x (ix2 a q) * x (ix2 a q)) (Ideal.ofBits .f32 0x45000000#32) + Ideal.ofBits .f32 0x358637BD#32)
      * g (ix2 (0 : Fin 1) b) := by
  pointwise [k0_pay1]

/-- The block the body leaves, at an index. -/
theorem out_apply (x : Vec Ideal S1024x2048 .f32) (g : Vec Ideal S1x2048 .f32) (y : S1024x2048.Idx) :
    out0_2 x g y = k0_pay1 (F := Ideal) x g y := by
  refine View.canon_apply_of_pieces (Val := Elt Ideal) (k0_pay1 (F := Ideal) x g) _ ?_ y (cover0_2 _ y)
  intro p hp
  simp only [List.mem_cons, List.mem_nil_iff, or_false] at hp
  subst hp
  intro z
  have e0 : View.ld x r0_0 = x := funext fun i => congrArg x (funext fun a => Fin.ext (by match a with | 0 => show 0 + 1 * (i 0).val = (i 0).val; omega | 1 => show 0 + 1 * (i 1).val = (i 1).val; omega))
  have e1 : View.ld g r0_1 = g := funext fun i => congrArg g (funext fun a => Fin.ext (by match a with | 0 => show 0 + 1 * (i 0).val = (i 0).val; omega | 1 => show 0 + 1 * (i 1).val = (i 1).val; omega))
  show k0_pay1 (View.ld x r0_0) (View.ld g r0_1) z = _
  rw [e0, e1]
  exact congrArg (k0_pay1 (F := Ideal) x g) (funext fun a => Fin.ext (by match a with | 0 => show (z 0).val = 0 + 1 * (z 0).val; omega | 1 => show (z 1).val = 0 + 1 * (z 1).val; omega))

theorem V_v0 (c : Dev nD) (q : Fin 2048) : V m c main_v0 (ix2 (0 : Fin 1) q) = m (c.tc.loc main_arg1) (ix1 q) := by
  have h : S2048.ShapeCasts S1x2048 := by decide
  refine (show V m c main_v0 (ix2 (0 : Fin 1) q) = shapeCast S1x2048 (m (c.tc.loc main_arg1)) h (ix2 (0 : Fin 1) q) from rfl).trans ?_
  refine shapeCast_apply _ h _ (ix1 q) ?_
  rewrite [Shape.rowMajor_val_two, Shape.rowMajor_val_one]
  show q.val = 0 * 2048 + q.val
  omega

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Row `a` of a point's block, in the whole. -/
def row (t : Fin cfg0.N) (a : Fin 1024) : Fin 16384 := ⟨t.val * 1024 + a.val, by have ht : t.val < 16 := lt_of_lt_of_eq t.isLt N_0; omega⟩
theorem blk0 (c : Dev nD) (t : Fin cfg0.N) (a : Fin 1024) (q : Fin 2048) : iblk m c 0 t (ix2 a q) = m (c.tc.loc main_arg0) (ix2 (row t a) q) := by
  blk_simp [iblk]
  refine (congrFun (V_main_arg0 m c) _).trans (congrArg (m (c.tc.loc main_arg0)) ?_)
  unfold row
  blk_ext [idx0]
theorem blk1 (c : Dev nD) (t : Fin cfg0.N) (q : Fin 2048) : iblk m c 1 t (ix2 (0 : Fin 1) q) = m (c.tc.loc main_arg1) (ix1 q) := by
  refine Eq.trans ?_ (V_v0 m c q)
  blk_simp [iblk]
  refine congrArg (V m c main_v0) ?_
  blk_ext [idx1]

theorem final (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  refine (out_apply _ _ _).trans ((congrArg (k0_pay1 (F := Ideal) (iblk m c 0 t) (iblk m c 1 t)) (show _ = ix2 (y 0 : Fin 1024) (y 1 : Fin 2048) from
    funext fun a => by match a with | 0 => rfl | 1 => rfl)).trans ((pay_apply _ _ _ _).trans ?_))
  have e : (win0_2.blk t).view.emb y = ix2 (row t (y 0)) (y 1 : Fin 2048) := by
    unfold row
    blk_ext [idx2]
  refine Eq.trans ?_ (congrArg (G (m (c.tc.loc main_arg0)) (m (c.tc.loc main_arg1))) e).symm
  unfold G
  refine congrArg₂ (fun p q : EReal => p * q) (congrArg₂ (fun p q : EReal => p * q) (blk0 m c t _ _) (congrArg (fun z => Ideal.rsqrt (Ideal.div z _ + _))
    (Finset.sum_congr (M := EReal) rfl fun q _ => congrArg₂ (fun p q : EReal => p * q) (blk0 m c t _ q) (blk0 m c t _ q)))) (blk1 m c t _)

/-! ## The claims -/

theorem defs₀_eq : Cert.Kernel8.defs₀ (F := Bits) = Cert.Kernel8Ideal.defs₀ (F := Bits) := by
  unfold Cert.Kernel8.defs₀ Cert.Kernel8Ideal.defs₀
  refine congrArg Defs.onTc ?_
  funext l p
  match l, p with
  | 0, (t, s) => rfl

/-- The two programs' body tables are one. -/
theorem defs_eq : Cert.Kernel8.defs (F := Bits) = Cert.Kernel8Ideal.defs (F := Bits) :=
  congrArg (Pipeline.defs Cert.Kernel8Ideal.pcfgs) defs₀_eq

/-- The kernel at machine words runs and leaves its arguments: the same text, so the same run. -/
theorem frame_kernel : Cert.quiescent_Kernel8 := fun m ρ _ => by
  have h := Cert.Kernel8Ideal.Gen.frame (F := Bits) m ρ
  rw [← defs_eq] at h
  exact h

theorem frame_ideal : Cert.quiescent_Kernel8Ideal := fun m ρ _ => Cert.Kernel8Ideal.Gen.frame (F := Ideal) m ρ

/-- The reference runs and leaves its arguments; it declares no semaphore. -/
theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference leave the same array. -/
theorem value : Cert.algebraic_Kernel8Ideal_Reference8Ideal := by
  intro m g m' g' _ hargs
  refine ⟨fun c => G (m ((c.tc : Thread nD τ).loc main_arg0)) (m ((c.tc : Thread nD τ).loc main_arg1)), ?_, ?_⟩
  · exact (θ_run Cert.Kernel8Ideal.defs _ _).mono (fun _ h c => ⟨(h c).1.trans (final m c), (h c).2⟩) (Cert.Kernel8Ideal.Value.run_blocks (F := Ideal) m g)
  · refine (θ_run Cert.Reference8Ideal.defs _ _).mono (fun _ h c => ⟨(h c).1.trans ?_, (h c).2⟩) (Cert.Reference8Ideal.Value.run m' g')
    rw [(hargs c).1, (hargs c).2]
    exact (Cert.Reference8Ideal.Read.val_main_v13_eq (F := Ideal) _ _).trans (ref_apply _ _)

end Cert.Kernel8Ideal.Hand

end
-- ==== Proof.FoldD.lean ====
module

public import proofs.«01_k».proof.Defs
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit.Geometry
public import Idealize.ShloMosaic.Lib.IdealHost
public import Idealize.ShloMosaic.Lib.VecWindow
public import Idealize.ShloMosaic.Lib.WholeRead

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- Column `k` of group `g`. -/
def col (g : Fin 4) (k : Fin 1024) : Fin 8192 := ⟨g.val * 1024 + k.val, by omega⟩
/-- Each group's columns of the input weights, by the group's mixing weights. -/
def G (w : (⟨S1x2048x8192, .f32⟩ : BufTy).Contents (Elt Ideal)) (p : (⟨S1x4x1024x1024, .f32⟩ : BufTy).Contents (Elt Ideal)) :
    (⟨S4x2048x1024, .bf16⟩ : BufTy).Contents (Elt Ideal) :=
  fun y => ∑ k : Fin 1024, w (ix3 (0 : Fin 1) (y 1 : Fin 2048) (col (y 0 : Fin 4) k)) * p (ix4 (0 : Fin 1) (y 0 : Fin 4) k (y 2 : Fin 1024))

theorem pay1_apply (v : Vec Ideal S1x1x1024x1024 .f32) (a : Fin 1024) (b : Fin 1024) :
    k0_pay1 (F := Ideal) v (ix2 a b) = v (ix4 (0 : Fin 1) (0 : Fin 1) a b) := by
  pointwise [k0_pay1]

theorem pay2_apply (x : Vec Ideal S1x1024x1024 .f32) (v : Vec Ideal S1024x1024 .bf16) (a : Fin 1024) (b : Fin 1024) :
    k0_pay2 (F := Ideal) x v (ix3 (0 : Fin 1) a b) = ∑ k : Fin 1024, x (ix3 (0 : Fin 1) a k) * v (ix2 k b) := by
  pointwise [k0_pay2]

theorem outA (c : Dev nD) (i) (a2 h2 a3 h3 a4 h4 a5 h5 hc) (x : Vec Ideal S1x1024x1024 .f32) (w : Vec Ideal S1x1x1024x1024 .f32) :
    out0_A_2 (F := Ideal) c i a2 h2 a3 h3 a4 h4 a5 h5 hc x w = k0_pay2 (F := Ideal) x (k0_pay1 (F := Ideal) w) := by
  unfold out0_A_2 kernelRun0_A
  dsimp only
  unfold kernelRun0_A.sl.v6 kernelRun0_A.sl.HS0_1
  rw [View.read_writes_full, View.readAt_full, View.readCov_full, View.readAt_full, h2.read_unread, h3.read_unread]

theorem soutA (c : Dev nD) (i) (a2 h2 a3 h3 a4 h4 a5 h5 hc) (x : Vec Ideal S1x1024x1024 .f32) (w : Vec Ideal S1x1x1024x1024 .f32) :
    sout0_A_0 (F := Ideal) c i a2 h2 a3 h3 a4 h4 a5 h5 hc x w = k0_pay1 (F := Ideal) w := by
  unfold sout0_A_0 kernelRun0_A
  dsimp only
  unfold kernelRun0_A.sl.HS0_1
  rw [View.read_writes_full, View.readAt_full, h3.read_unread]

theorem outB (c : Dev nD) (i) (a2 h2 a3 h3 a4 h4 a5 h5 hc) (x : Vec Ideal S1x1024x1024 .f32) (w : Vec Ideal S1x1x1024x1024 .f32) (s : Vec Ideal S1024x1024 .bf16) :
    out0_B_2 (F := Ideal) c i a2 h2 a3 h3 a4 h4 a5 h5 hc x w s = k0_pay2 (F := Ideal) x s := by
  unfold out0_B_2 kernelRun0_B
  dsimp only
  rw [View.read_writes_full, View.readAt_full, View.readAt_full, h2.read_unread, h5.read_unread]

open Cert.Reference9Ideal.Read in
theorem ref_apply (w : (⟨S1x2048x8192, .f32⟩ : BufTy).Contents (Elt Ideal)) (p : (⟨S1x4x1024x1024, .f32⟩ : BufTy).Contents (Elt Ideal)) :
    val_main_v6 (F := Ideal) w p = G w p := by
  funext y
  unfold G
  rw [val_main_v6_apply]
  refine (val_main_v5_apply w p y).trans (Finset.sum_congr (M := EReal) rfl fun k _ => congrArg₂ (fun p q : EReal => p * q) ?_ ?_)
  · rw [val_main_v3_apply, val_main_v1_apply, val_main_v0_apply]
    refine congrArg w (funext fun a => Fin.ext ?_)
    have h0 : (y 0).val < 4 := (y 0).isLt
    have h1 : (y 1).val < 2048 := (y 1).isLt
    have hk := k.isLt
    match a with
    | 0 => rfl
    | 1 => show ((((y 1).val * 4 + (y 0).val) * 1024 + k.val) / 4096 * 8192 + (((y 1).val * 4 + (y 0).val) * 1024 + k.val) % 4096) / 8192 % 2048 = (y 1).val; omega
    | 2 => show ((((y 1).val * 4 + (y 0).val) * 1024 + k.val) / 4096 * 8192 + (((y 1).val * 4 + (y 0).val) * 1024 + k.val) % 4096) % 8192 = (y 0).val * 1024 + k.val; omega
  · rw [val_main_v4_apply]
    refine congrArg p (funext fun a => Fin.ext ?_)
    have h0 : (y 0).val < 4 := (y 0).isLt
    have h2 : (y 2).val < 1024 := (y 2).isLt
    have hk := k.isLt
    match a with
    | 0 => rfl
    | 1 => show (((y 0).val * 1024 + k.val) * 1024 + (y 2).val) / 1048576 % 4 = (y 0).val; omega
    | 2 => show (((y 0).val * 1024 + k.val) * 1024 + (y 2).val) / 1024 % 1024 = k.val; omega
    | 3 => show (((y 0).val * 1024 + k.val) * 1024 + (y 2).val) % 1024 = (y 2).val; omega

theorem idx0 : ∀ t : Fin cfg0.N, win0_0.index t = ![0, t.val % 2, t.val / 2] := (by decide +kernel : ∀ t : Fin grid0.N, _)
theorem idx1 : ∀ t : Fin cfg0.N, win0_1.index t = ![0, t.val / 2, 0, 0] := (by decide +kernel : ∀ t : Fin grid0.N, _)
theorem idx2 : ∀ t : Fin cfg0.N, win0_2.index t = ![t.val / 2, t.val % 2, 0] := (by decide +kernel : ∀ t : Fin grid0.N, _)

/-- Row `a` of a point's block, in the whole. -/
def row (t : Fin cfg0.N) (a : Fin 1024) : Fin 2048 := ⟨t.val % 2 * 1024 + a.val, by omega⟩
/-- The point's group. -/
def grp (t : Fin cfg0.N) : Fin 4 := ⟨t.val / 2, by have ht : t.val < 8 := lt_of_lt_of_eq t.isLt N_0; omega⟩
theorem blk0 (c : Dev nD) (t : Fin cfg0.N) (a : Fin 1024) (k : Fin 1024) :
    iblk m c 0 t (ix3 (0 : Fin 1) a k) = m (c.tc.loc main_arg0) (ix3 (0 : Fin 1) (row t a) (col (grp t) k)) := by
  blk_simp [iblk]
  refine (congrFun (V_main_arg0 m c) _).trans (congrArg (m (c.tc.loc main_arg0)) ?_)
  unfold row col grp
  blk_ext [idx0]
theorem blk1 (c : Dev nD) (t : Fin cfg0.N) (a : Fin 1024) (k : Fin 1024) :
    iblk m c 1 t (ix4 (0 : Fin 1) (0 : Fin 1) a k) = m (c.tc.loc main_arg1) (ix4 (0 : Fin 1) (grp t) a k) := by
  blk_simp [iblk]
  refine (congrFun (V_main_arg1 m c) _).trans (congrArg (m (c.tc.loc main_arg1)) ?_)
  unfold grp
  blk_ext [idx1]

/-- The carried scratch after a point: the group's mixing weights. -/
theorem scr (c : Dev nD) (t : Fin cfg0.N) (ht : t.val % 2 = 0) (a : Fin 1024) (k : Fin 1024) :
    (outsAt0 m c t.val t.isLt).2 (ix2 a k) = m (c.tc.loc main_arg1) (ix4 (0 : Fin 1) (grp t) a k) := by
  rw [outsAt0_A m c t ht]
  dsimp only
  rw [soutA]
  exact (pay1_apply _ a k).trans (blk1 m c t a k)

theorem outs (c : Dev nD) (t : Fin cfg0.N) (a : Fin 1024) (b : Fin 1024) :
    (outsAt0 m c t.val t.isLt).1 (ix3 (0 : Fin 1) a b) = G (m (c.tc.loc main_arg0)) (m (c.tc.loc main_arg1)) (ix3 (grp t) (row t a) b) := by
  by_cases ht : t.val % 2 = 0
  · rw [outsAt0_A m c t ht]
    dsimp only
    rw [outA]
    exact (pay2_apply _ _ a b).trans (Finset.sum_congr (M := EReal) rfl fun k _ => congrArg₂ (fun p q : EReal => p * q) (blk0 m c t a k) ((pay1_apply _ k b).trans (blk1 m c t k b)))
  · rw [outsAt0_B m c t ht]
    dsimp only
    rw [outB]
    have hg : grp (⟨t.val - 1, Nat.lt_of_le_of_lt (Nat.sub_le _ _) t.isLt⟩ : Fin cfg0.N) = grp t := Fin.ext (by show (t.val - 1) / 2 = t.val / 2; omega)
    refine (pay2_apply _ _ a b).trans (Finset.sum_congr (M := EReal) rfl fun k _ => congrArg₂ (fun p q : EReal => p * q) (blk0 m c t a k) ?_)
    refine (scr m c ⟨t.val - 1, Nat.lt_of_le_of_lt (Nat.sub_le _ _) t.isLt⟩ (by show (t.val - 1) % 2 = 0; omega) k b).trans ?_
    rw [hg]
    rfl

theorem final (c : Dev nD) : (dats m 0 c).arrAt 2 cfg0.N = G (m (c.tc.loc main_arg0)) (m (c.tc.loc main_arg1)) := by
  refine (dats m 0 c).arrAt_eq_of_covers 2 _ (by decide +kernel) fun t hf y => ?_
  blk_simp
  rw [after0_2]
  have ey : (y : S1x1024x1024.Idx) = ix3 (0 : Fin 1) (y 1 : Fin 1024) (y 2 : Fin 1024) := funext fun a => by
    match a with
    | 0 => exact Fin.ext (by have := (y 0).isLt; change (y 0).val < 1 at this; show (y 0).val = 0; omega)
    | 1 => rfl
    | 2 => rfl
  have e : (win0_2.blk t).view.emb y = ix3 (grp t) (row t (y 1)) (y 2 : Fin 1024) := by
    have := (y 0).isLt
    change (y 0).val < 1 at this
    unfold row grp
    blk_ext [idx2]
    all_goals omega
  refine (congrArg (outsAt0 m c t.val t.isLt).1 ?_ : _ = (outsAt0 m c t.val t.isLt).1 (ix3 (0 : Fin 1) (y 1 : Fin 1024) (y 2 : Fin 1024))).trans ((outs m c t _ _).trans ?_)
  · exact ey
  · exact (congrArg (G (m (c.tc.loc main_arg0)) (m (c.tc.loc main_arg1))) e).symm

/-! ## The claims -/

theorem defs₀_eq : Cert.Kernel9.defs₀ (F := Bits) = Cert.Kernel9Ideal.defs₀ (F := Bits) := by
  unfold Cert.Kernel9.defs₀ Cert.Kernel9Ideal.defs₀
  refine congrArg Defs.onTc ?_
  funext l p
  match l, p with
  | 0, (t, s) => rfl

/-- The two programs' body tables are one. -/
theorem defs_eq : Cert.Kernel9.defs (F := Bits) = Cert.Kernel9Ideal.defs (F := Bits) :=
  congrArg (Pipeline.defs Cert.Kernel9Ideal.pcfgs) defs₀_eq

/-- The kernel at machine words runs and leaves its arguments: the same text, so the same run. -/
theorem frame_kernel : Cert.quiescent_Kernel9 := fun m ρ _ => by
  have h := Cert.Kernel9Ideal.Gen.frame (F := Bits) m ρ
  rw [← defs_eq] at h
  exact h

theorem frame_ideal : Cert.quiescent_Kernel9Ideal := fun m ρ _ => Cert.Kernel9Ideal.Gen.frame (F := Ideal) m ρ

/-- The reference runs and leaves its arguments; it declares no semaphore. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference leave the same array. -/
theorem value : Cert.algebraic_Kernel9Ideal_Reference9Ideal := by
  intro m g m' g' _ hargs
  refine ⟨fun c => G (m ((c.tc : Thread nD τ).loc main_arg0)) (m ((c.tc : Thread nD τ).loc main_arg1)), ?_, ?_⟩
  · exact (θ_run Cert.Kernel9Ideal.defs _ _).mono (fun _ h c => ⟨(h c).1.trans (final m c), (h c).2⟩) (Cert.Kernel9Ideal.Value.run_blocks (F := Ideal) m g)
  · refine (θ_run Cert.Reference9Ideal.defs _ _).mono (fun _ h c => ⟨(h c).1.trans ?_, (h c).2⟩) (Cert.Reference9Ideal.Value.run m' g')
    rw [(hargs c).1, (hargs c).2]
    exact (Cert.Reference9Ideal.Read.val_main_v6_eq (F := Ideal) _ _).trans (ref_apply _ _)

end Cert.Kernel9Ideal.Hand

end
-- ==== Proof.PoolA.lean ====
module

public import proofs.«01_k».proof.Proof.Kit
public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kit
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The cast weight block, the staged weight block, the weights left in HBM. -/
abbrev scM0 : Memref sig .tc .vmem S2048x1024 .bf16 := Memref.whole cc0_scratch0
abbrev scM1 : Memref sig .tc .vmem S2048x1024 .f32 := Memref.whole cc0_scratch1
abbrev hbM : Memref sig .tc .hbm S1x2048x8192 .f32 := Memref.whole main_arg1
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦[M.view.set]{fullShare} f

/-- The block of the weights at offsets `o`, as the body names it. -/
abbrev wsl (o : Fin 3 → ℕ) (h : ∀ a, o a + S1x2048x1024.size a ≤ S1x2048x8192.size a) : Memref sig .tc .hbm S2048x1024 .f32 :=
  (hbM.slice (Rect.unit (s := S1x2048x8192) o S1x2048x1024.size h) (fun _ => rfl)).squeeze S2048x1024 squeezes_S1x2048x1024_S2048x1024

/-- What the staging buffer holds once the block has landed. -/
abbrev landed (c : Dev nD) (o : Fin 3 → ℕ) (h : ∀ a, o a + S1x2048x1024.size a ≤ S1x2048x8192.size a)
    (fs : HbBuf (F := F) c hbM) (d : HbBuf (F := F) c scM1) : HbBuf (F := F) c scM1 :=
  scM1.view.writes (Elt F) d [⟨Rect.whole S2048x1024, ReadAs.same.apply ((wsl o h).view.read (Elt F) fs)⟩]

/-- The copy of a block in flight. -/
abbrev inflight (c : Dev nD) (o : Fin 3 → ℕ) (h : ∀ a, o a + S1x2048x1024.size a ≤ S1x2048x8192.size a)
    (fs : HbBuf (F := F) c hbM) (d : HbBuf (F := F) c scM1) : sProp 𝕄 :=
  Transfers.Flight (countersEmb (U := Pipeline.UD sig nD τ)) c.tc (.dma cc0_scratch2.sem) () (scM1.view.amount (SemLoc.dma (sig := sig) cc0_scratch2.sem))
    iprop(hbPt c scM1 (landed c o h fs d) ∗ hbPt c (wsl o h) fs)

/-- The body at a grid point, over its operands. -/
abbrev body (i : grid0.Coords) (arg2 : Memref sig .tc .vmem S16x2048 .bf16) (harg2 : arg2.IsWhole) (arg3 : Memref sig .tc .vmem S1024x2048 .bf16) (harg3 : arg3.IsWhole) (arg4 : Memref sig .tc .vmem S16x2048 .bf16) (harg4 : arg4.IsWhole) (arg5 : Memref sig .tc .vmem S1x2048x1024 .bf16) (harg5 : arg5.IsWhole) (arg7 : Memref sig .tc .vmem S1x1024 .f32) (harg7 : arg7.IsWhole) (arg8 : Memref sig .tc .vmem S1x64x2048 .f32) (harg8 : arg8.IsWhole) (arg9 : Memref sig .tc .vmem S1024x1024 .bf16) (harg9 : arg9.IsWhole) (arg10 : Memref sig .tc .vmem S64x2048 .bf16) (harg10 : arg10.IsWhole) :=
  cc0_cmix (F := F) i arg2 harg2 arg3 harg3 arg4 harg4 arg5 harg5 hbM (Memref.isWhole_whole _) arg7 harg7 arg8 harg8 arg9 harg9 arg10 harg10 scM0 (Memref.isWhole_whole _)
    scM1 (Memref.isWhole_whole _) cc0_scratch2

/-- The cast of the block of the weights at offsets `o`. -/
abbrev castBlk (c : Dev nD) (o : Fin 3 → ℕ) (h : ∀ a, o a + S1x2048x1024.size a ≤ S1x2048x8192.size a) (fs : HbBuf (F := F) c hbM) : Vec F S2048x1024 .bf16 :=
  k0_pay3 ((wsl o h).view.read (Elt F) fs)

/-! ## What the body computes, as its parts name it -/

/-- The window of the point's group. -/
abbrev winW (i : grid0.Coords) : BitVec 32 := Scalar.shli 2#32 (BitVec.ofNat 32 (i 0).val)
/-- Half of it, rounded down: how far the band reaches back. -/
def loW (i : grid0.Coords) : BitVec 32 :=
  let v16 : BitVec 32 := winW i
  let v17 : BitVec 32 := Scalar.divsi v16 2#32
  let v18 : BitVec 1 := Scalar.cmpi .sgt v16 0#32
  let v19 : BitVec 32 := Scalar.extui v18
  let v20 : BitVec 1 := Scalar.cmpi .slt v16 0#32
  let v21 : BitVec 32 := Scalar.extui v20
  let v22 : BitVec 32 := Scalar.subi v19 v21
  let v23 : BitVec 1 := Scalar.cmpi .sgt 2#32 0#32
  let v24 : BitVec 32 := Scalar.extui v23
  let v25 : BitVec 1 := Scalar.cmpi .slt 2#32 0#32
  let v26 : BitVec 32 := Scalar.extui v25
  let v27 : BitVec 32 := Scalar.subi v24 v26
  let v28 : BitVec 1 := Scalar.cmpi .ne v22 v27
  let v29 : BitVec 32 := Scalar.remsi v16 2#32
  let v30 : BitVec 1 := Scalar.cmpi .ne v29 0#32
  let v31 : BitVec 1 := Scalar.andi v28 v30
  let v32 : BitVec 32 := Scalar.subi v17 1#32
  Scalar.select v31 v32 v17
/-- How far it reaches on. -/
def hiW (i : grid0.Coords) : BitVec 32 := Scalar.subi (Scalar.subi (winW i) 1#32) (loW i)
/-- The first row of the block within its sequence. -/
def tbW (i : grid0.Coords) : BitVec 32 :=
  let arg1 : BitVec 32 := BitVec.ofNat 32 (i 1).val
  let v36 : BitVec 1 := Scalar.cmpi .eq 4#32 0#32
  let v37 : BitVec 32 := Scalar.select v36 1#32 4#32
  let v38 : BitVec 32 := Scalar.remsi arg1 v37
  let v39 : BitVec 1 := Scalar.cmpi .ne v38 0#32
  let v40 : BitVec 1 := Scalar.cmpi .slt v38 0#32
  let v41 : BitVec 1 := Scalar.cmpi .slt v37 0#32
  let v42 : BitVec 1 := Scalar.xori v40 v41
  let v43 : BitVec 1 := Scalar.andi v42 v39
  let v44 : BitVec 32 := Scalar.addi v38 v37
  let v45 : BitVec 32 := Scalar.select v43 v44 v38
  Scalar.muli v45 1024#32
/-- Rows `r` to `r + 128` of the block. -/
abbrev crow (cu : Vec F S1024x2048 .bf16) (r : ℕ) (h : ∀ a, (![r, 0] : Fin 2 → ℕ) a + S128x2048.size a ≤ S1024x2048.size a) : Vec F S128x2048 .bf16 :=
  VecWindow.window cu ![r, 0] S128x2048.size h
/-- The block of the result. -/
def outv (i : grid0.Coords) (p : Vec F S16x2048 .bf16) (cu : Vec F S1024x2048 .bf16) (nx : Vec F S16x2048 .bf16) (wf : Vec F S1x2048x1024 .bf16)
    (wg : Vec F S2048x1024 .bf16) (sc : Vec F S1x1024 .f32) : Vec F S1024x1024 .bf16 :=
  k0_pay1 (k0_pay4 p cu nx) (k0_pay5 cu wg)
    (k0_pay9 (hiW i) (k0_pay4 p cu nx) (k0_pay6 (BitVec.ofNat 32 (i 1).val)) (k0_pay7 (BitVec.ofNat 32 (i 1).val)) (k0_pay8 (loW i)) (crow cu 0 inb_S1024x2048_S128x2048_0_0))
    (k0_pay15 (k0_pay4 p cu nx) (k0_pay11 (tbW i)) (k0_pay12 (loW i) (tbW i)) (k0_pay13 (hiW i) (tbW i)) (k0_pay14 (tbW i)) (crow cu 128 inb_S1024x2048_S128x2048_128_0))
    (k0_pay22 (k0_pay4 p cu nx) (k0_pay17 (loW i) (tbW i)) (k0_pay18 (hiW i) (tbW i)) (k0_pay19 (loW i) (hiW i) (tbW i)) (k0_pay20 (F := F)) (k0_pay21 (F := F)) (crow cu 256 inb_S1024x2048_S128x2048_256_0))
    (k0_pay28 (k0_pay26 (loW i) (hiW i) (tbW i) (k0_pay4 p cu nx)) (k0_pay27 (F := F) (loW i) (hiW i) (tbW i)) (crow cu 384 inb_S1024x2048_S128x2048_384_0))
    (k0_pay29 (loW i) (hiW i) (tbW i) (k0_pay4 p cu nx) (crow cu 512 inb_S1024x2048_S128x2048_512_0))
    (k0_pay30 (loW i) (hiW i) (tbW i) (k0_pay4 p cu nx) 640#32 (crow cu 640 inb_S1024x2048_S128x2048_640_0))
    (k0_pay34 (hiW i) (k0_pay4 p cu nx) (k0_pay31 (tbW i)) (k0_pay32 (tbW i)) (k0_pay33 (loW i)) (crow cu 768 inb_S1024x2048_S128x2048_768_0))
    (k0_pay36 (tbW i)) (k0_pay37 (loW i) (tbW i)) (k0_pay38 (hiW i) (tbW i)) (k0_pay39 (tbW i)) (crow cu 896 inb_S1024x2048_S128x2048_896_0) wf sc

/-! ## The body run, case by case -/

variable (c : Dev nD) (i : grid0.Coords)
  (arg2 : Memref sig .tc .vmem S16x2048 .bf16) (harg2 : arg2.IsWhole) (arg3 : Memref sig .tc .vmem S1024x2048 .bf16) (harg3 : arg3.IsWhole) (arg4 : Memref sig .tc .vmem S16x2048 .bf16) (harg4 : arg4.IsWhole) (arg5 : Memref sig .tc .vmem S1x2048x1024 .bf16) (harg5 : arg5.IsWhole) (arg7 : Memref sig .tc .vmem S1x1024 .f32) (harg7 : arg7.IsWhole) (arg8 : Memref sig .tc .vmem S1x64x2048 .f32) (harg8 : arg8.IsWhole) (arg9 : Memref sig .tc .vmem S1024x1024 .bf16) (harg9 : arg9.IsWhole) (arg10 : Memref sig .tc .vmem S64x2048 .bf16) (harg10 : arg10.IsWhole)

theorem run_A (h1 : k0_cond1 i = 1#1) (h2 : k0_cond2 i = 1#1) (h3 : k0_cond3 i = 1#1)
    (p : Vec F S16x2048 .bf16) (cu : Vec F S1024x2048 .bf16) (nx : Vec F S16x2048 .bf16) (wf : Vec F S1x2048x1024 .bf16) (sc : Vec F S1x1024 .f32) (ci : Vec F S1x64x2048 .f32) (fs : HbBuf (F := F) c hbM) (W : Waits sig Unit) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ (∃ d, owns c.tc scM0 fullShare d)
        ∗ (∃ ds, hbPt c scM1 ds) ∗ semVal (c.tc, SemLoc.dma cc0_scratch2.sem) 0
        ∗ hbPt c (wsl (k0_off1 i) (k0_off1_inb i h1)) fs
        ∗ hbPt c (wsl (k0_off3 i) (k0_off3_inb i h3)) fs
        ∗ owes c.tc 0 W
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf (castBlk c (k0_off1 i) (k0_off1_inb i h1) fs) sc)
            ∗ owns c.tc arg10 fullShare (k0_pay2 ci)
            ∗ owns c.tc scM0 fullShare (castBlk c (k0_off1 i) (k0_off1_inb i h1) fs)
            ∗ (∃ d, inflight c (k0_off3 i) (k0_off3_inb i h3) fs d)
            ∗ hbPt c (wsl (k0_off1 i) (k0_off1_inb i h1)) fs
            ∗ (∃ W', owes c.tc 0 W')) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  unfold body
  rw [cc0_cmix_eq_skeleton]; unfold cc0_cmix_skel
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  unfold owns
  iintro ⟨⟨%f2, %hf2, Hp⟩, ⟨%f3, %hf3, Hc⟩, ⟨%f4, %hf4, Hx⟩, ⟨%f5, %hf5, Hf⟩, ⟨%f7, %hf7, Hs⟩, ⟨%f8, %hf8, Hi⟩, ⟨%d9, %f9, -, H9⟩, ⟨%dO, %fo, -, Ho⟩, ⟨%d5, %g5, -, H5⟩, ⟨%ds, HS⟩, HF, Hn0, Hn, HW, Hk⟩
  sl_exec
  sl_step
  iapply Hk
  isplitl [Hp]; · iexists _; isplitr; swap; iexact Hp; ipureintro; exact hf2
  isplitl [Hc]; · iexists _; isplitr; swap; iexact Hc; ipureintro; exact hf3
  isplitl [Hx]; · iexists _; isplitr; swap; iexact Hx; ipureintro; exact hf4
  isplitl [Hf]; · iexists _; isplitr; swap; iexact Hf; ipureintro; exact hf5
  isplitl [Hs]; · iexists _; isplitr; swap; iexact Hs; ipureintro; exact hf7
  isplitl [Hi]; · iexists _; isplitr; swap; iexact Hi; ipureintro; exact hf8
  isplitl [H9]
  · iexists _; isplitr; swap
    · iexact H9
    · ipureintro
      rw [View.read_writes_full]
      have ec (r : ℕ) (h : ∀ a, (![r, 0] : Fin 2 → ℕ) a + S128x2048.size a ≤ S1024x2048.size a) :
          arg3.view.readAt (Elt F) (Rect.unit (s := S1024x2048) ![r, 0] S128x2048.size h).toLoadRect f3 = crow cu r h := by
        rw [View.readAt_unit _ _ _ rfl h, hf3]
      have e2 : arg2.view.readAt (Elt F) (Rect.unit (s := S16x2048) ![0, 0] S16x2048.size inb_S16x2048_S16x2048_0_0).toLoadRect f2 = p := by
        rw [View.readAt_full, hf2]
      have e3 : arg3.view.readAt (Elt F) (Rect.unit (s := S1024x2048) ![0, 0] S1024x2048.size inb_S1024x2048_S1024x2048_0_0).toLoadRect f3 = cu := by
        rw [View.readAt_full, hf3]
      have e4 : arg4.view.readAt (Elt F) (Rect.unit (s := S16x2048) ![0, 0] S16x2048.size inb_S16x2048_S16x2048_0_0).toLoadRect f4 = nx := by
        rw [View.readAt_full, hf4]
      have e5 : arg5.view.readAt (Elt F) (Rect.unit (s := S1x2048x1024) ![0, 0, 0] S1x2048x1024.size inb_S1x2048x1024_S1x2048x1024_0_0_0).toLoadRect f5 = wf := by
        rw [View.readAt_full, hf5]
      have e7 : arg7.view.readAt (Elt F) (Rect.unit (s := S1x1024) ![0, 0] S1x1024.size inb_S1x1024_S1x1024_0_0).toLoadRect f7 = sc := by
        rw [View.readAt_full, hf7]
      unfold run_A.sl.v56 run_A.sl.H5_1
      rw [View.readCov_full]
      unfold run_A.sl.v399
      rw [readCov_whole]
      simp only [e2, e3, e4, e5, e7, ec]
      rfl
  isplitl [Ho]
  · iexists _; isplitr; swap
    · iexact Ho
    · ipureintro
      rw [View.read_writes_full, View.readAt_full, hf8]
  isplitl [H5]
  · iexists _; isplitr; swap
    · iexact H5
    · ipureintro
      unfold run_A.sl.H5_1
      rw [View.read_writes_full]
      unfold run_A.sl.v399
      first | (rw [readCov_whole]; done) | (rw [readCov_whole]; rfl)
  isplitl [HF]; · iexists _; iexact HF
  isplitl [Hn0]; · iexact Hn0
  · iexists _; iexact HW
/-- The same at offsets in closed form. -/
theorem run_A' (h1 : k0_cond1 i = 1#1) (h2 : k0_cond2 i = 1#1) (h3 : k0_cond3 i = 1#1)
    {o1 : Fin 3 → ℕ} (b1 : ∀ a, o1 a + S1x2048x1024.size a ≤ S1x2048x8192.size a) (e1 : k0_off1 i = o1) {o3 : Fin 3 → ℕ} (b3 : ∀ a, o3 a + S1x2048x1024.size a ≤ S1x2048x8192.size a) (e3 : k0_off3 i = o3)
    (p : Vec F S16x2048 .bf16) (cu : Vec F S1024x2048 .bf16) (nx : Vec F S16x2048 .bf16) (wf : Vec F S1x2048x1024 .bf16) (sc : Vec F S1x1024 .f32) (ci : Vec F S1x64x2048 .f32) (fs : HbBuf (F := F) c hbM) (W : Waits sig Unit) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ (∃ d, owns c.tc scM0 fullShare d)
        ∗ (∃ ds, hbPt c scM1 ds) ∗ semVal (c.tc, SemLoc.dma cc0_scratch2.sem) 0
        ∗ hbPt c (wsl o1 b1) fs
        ∗ hbPt c (wsl o3 b3) fs
        ∗ owes c.tc 0 W
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf (castBlk c o1 b1 fs) sc)
            ∗ owns c.tc arg10 fullShare (k0_pay2 ci)
            ∗ owns c.tc scM0 fullShare (castBlk c o1 b1 fs)
            ∗ (∃ d, inflight c o3 b3 fs d)
            ∗ hbPt c (wsl o1 b1) fs
            ∗ (∃ W', owes c.tc 0 W')) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  subst e1
  subst e3
  exact run_A c i arg2 harg2 arg3 harg3 arg4 harg4 arg5 harg5 arg7 harg7 arg8 harg8 arg9 harg9 arg10 harg10 h1 h2 h3 p cu nx wf sc ci fs W K

theorem run_B (h1 : ¬ k0_cond1 i = 1#1) (h2 : k0_cond2 i = 1#1) (h3 : k0_cond3 i = 1#1)
    (p : Vec F S16x2048 .bf16) (cu : Vec F S1024x2048 .bf16) (nx : Vec F S16x2048 .bf16) (wf : Vec F S1x2048x1024 .bf16) (sc : Vec F S1x1024 .f32) (ci : Vec F S1x64x2048 .f32) (fs : HbBuf (F := F) c hbM) (ds : HbBuf (F := F) c scM1) (W : Waits sig Unit) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ (∃ d, owns c.tc scM0 fullShare d)
        ∗ inflight c (k0_off2 i) (k0_off2_inb i h2) fs ds
        ∗ hbPt c (wsl (k0_off3 i) (k0_off3_inb i h3)) fs
        ∗ owes c.tc 0 W
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf (castBlk c (k0_off2 i) (k0_off2_inb i h2) fs) sc)
            ∗ owns c.tc arg10 fullShare (k0_pay2 ci)
            ∗ owns c.tc scM0 fullShare (castBlk c (k0_off2 i) (k0_off2_inb i h2) fs)
            ∗ (∃ d, inflight c (k0_off3 i) (k0_off3_inb i h3) fs d)
            ∗ hbPt c (wsl (k0_off2 i) (k0_off2_inb i h2)) fs
            ∗ (∃ W', owes c.tc 0 W')) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  unfold body
  rw [cc0_cmix_eq_skeleton]; unfold cc0_cmix_skel
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  unfold owns
  iintro ⟨⟨%f2, %hf2, Hp⟩, ⟨%f3, %hf3, Hc⟩, ⟨%f4, %hf4, Hx⟩, ⟨%f5, %hf5, Hf⟩, ⟨%f7, %hf7, Hs⟩, ⟨%f8, %hf8, Hi⟩, ⟨%d9, %f9, -, H9⟩, ⟨%dO, %fo, -, Ho⟩, ⟨%d5, %g5, -, H5⟩, HF, Hn, HW, Hk⟩
  sl_exec
  sl_step
  iapply Hk
  isplitl [Hp]; · iexists _; isplitr; swap; iexact Hp; ipureintro; exact hf2
  isplitl [Hc]; · iexists _; isplitr; swap; iexact Hc; ipureintro; exact hf3
  isplitl [Hx]; · iexists _; isplitr; swap; iexact Hx; ipureintro; exact hf4
  isplitl [Hf]; · iexists _; isplitr; swap; iexact Hf; ipureintro; exact hf5
  isplitl [Hs]; · iexists _; isplitr; swap; iexact Hs; ipureintro; exact hf7
  isplitl [Hi]; · iexists _; isplitr; swap; iexact Hi; ipureintro; exact hf8
  isplitl [H9]
  · iexists _; isplitr; swap
    · iexact H9
    · ipureintro
      rw [View.read_writes_full]
      have ec (r : ℕ) (h : ∀ a, (![r, 0] : Fin 2 → ℕ) a + S128x2048.size a ≤ S1024x2048.size a) :
          arg3.view.readAt (Elt F) (Rect.unit (s := S1024x2048) ![r, 0] S128x2048.size h).toLoadRect f3 = crow cu r h := by
        rw [View.readAt_unit _ _ _ rfl h, hf3]
      have e2 : arg2.view.readAt (Elt F) (Rect.unit (s := S16x2048) ![0, 0] S16x2048.size inb_S16x2048_S16x2048_0_0).toLoadRect f2 = p := by
        rw [View.readAt_full, hf2]
      have e3 : arg3.view.readAt (Elt F) (Rect.unit (s := S1024x2048) ![0, 0] S1024x2048.size inb_S1024x2048_S1024x2048_0_0).toLoadRect f3 = cu := by
        rw [View.readAt_full, hf3]
      have e4 : arg4.view.readAt (Elt F) (Rect.unit (s := S16x2048) ![0, 0] S16x2048.size inb_S16x2048_S16x2048_0_0).toLoadRect f4 = nx := by
        rw [View.readAt_full, hf4]
      have e5 : arg5.view.readAt (Elt F) (Rect.unit (s := S1x2048x1024) ![0, 0, 0] S1x2048x1024.size inb_S1x2048x1024_S1x2048x1024_0_0_0).toLoadRect f5 = wf := by
        rw [View.readAt_full, hf5]
      have e7 : arg7.view.readAt (Elt F) (Rect.unit (s := S1x1024) ![0, 0] S1x1024.size inb_S1x1024_S1x1024_0_0).toLoadRect f7 = sc := by
        rw [View.readAt_full, hf7]
      unfold run_B.sl.v56 run_B.sl.H5_1
      rw [View.readCov_full]
      unfold run_B.sl.v399
      rw [readCov_whole]
      simp only [e2, e3, e4, e5, e7, ec]
      rfl
  isplitl [Ho]
  · iexists _; isplitr; swap
    · iexact Ho
    · ipureintro
      rw [View.read_writes_full, View.readAt_full, hf8]
  isplitl [H5]
  · iexists _; isplitr; swap
    · iexact H5
    · ipureintro
      unfold run_B.sl.H5_1
      rw [View.read_writes_full]
      unfold run_B.sl.v399
      first | (rw [readCov_whole]; done) | (rw [readCov_whole]; rfl)
  isplitl [HF]; · iexists _; iexact HF
  isplitl [HF_src]; · iexact HF_src
  · iexists _; iexact HW
/-- The same at offsets in closed form. -/
theorem run_B' (h1 : ¬ k0_cond1 i = 1#1) (h2 : k0_cond2 i = 1#1) (h3 : k0_cond3 i = 1#1)
    {o2 : Fin 3 → ℕ} (b2 : ∀ a, o2 a + S1x2048x1024.size a ≤ S1x2048x8192.size a) (e2 : k0_off2 i = o2) {o3 : Fin 3 → ℕ} (b3 : ∀ a, o3 a + S1x2048x1024.size a ≤ S1x2048x8192.size a) (e3 : k0_off3 i = o3)
    (p : Vec F S16x2048 .bf16) (cu : Vec F S1024x2048 .bf16) (nx : Vec F S16x2048 .bf16) (wf : Vec F S1x2048x1024 .bf16) (sc : Vec F S1x1024 .f32) (ci : Vec F S1x64x2048 .f32) (fs : HbBuf (F := F) c hbM) (ds : HbBuf (F := F) c scM1) (W : Waits sig Unit) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ (∃ d, owns c.tc scM0 fullShare d)
        ∗ inflight c o2 b2 fs ds
        ∗ hbPt c (wsl o3 b3) fs
        ∗ owes c.tc 0 W
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf (castBlk c o2 b2 fs) sc)
            ∗ owns c.tc arg10 fullShare (k0_pay2 ci)
            ∗ owns c.tc scM0 fullShare (castBlk c o2 b2 fs)
            ∗ (∃ d, inflight c o3 b3 fs d)
            ∗ hbPt c (wsl o2 b2) fs
            ∗ (∃ W', owes c.tc 0 W')) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  subst e2
  subst e3
  exact run_B c i arg2 harg2 arg3 harg3 arg4 harg4 arg5 harg5 arg7 harg7 arg8 harg8 arg9 harg9 arg10 harg10 h1 h2 h3 p cu nx wf sc ci fs ds W K

theorem run_C (h1 : ¬ k0_cond1 i = 1#1) (h2 : k0_cond2 i = 1#1) (h3 : ¬ k0_cond3 i = 1#1)
    (p : Vec F S16x2048 .bf16) (cu : Vec F S1024x2048 .bf16) (nx : Vec F S16x2048 .bf16) (wf : Vec F S1x2048x1024 .bf16) (sc : Vec F S1x1024 .f32) (ci : Vec F S1x64x2048 .f32) (fs : HbBuf (F := F) c hbM) (ds : HbBuf (F := F) c scM1) (W : Waits sig Unit) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ (∃ d, owns c.tc scM0 fullShare d)
        ∗ inflight c (k0_off2 i) (k0_off2_inb i h2) fs ds
        ∗ owes c.tc 0 W
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf (castBlk c (k0_off2 i) (k0_off2_inb i h2) fs) sc)
            ∗ owns c.tc arg10 fullShare (k0_pay2 ci)
            ∗ owns c.tc scM0 fullShare (castBlk c (k0_off2 i) (k0_off2_inb i h2) fs)
            ∗ hbPt c (wsl (k0_off2 i) (k0_off2_inb i h2)) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  unfold body
  rw [cc0_cmix_eq_skeleton]; unfold cc0_cmix_skel
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  unfold owns
  iintro ⟨⟨%f2, %hf2, Hp⟩, ⟨%f3, %hf3, Hc⟩, ⟨%f4, %hf4, Hx⟩, ⟨%f5, %hf5, Hf⟩, ⟨%f7, %hf7, Hs⟩, ⟨%f8, %hf8, Hi⟩, ⟨%d9, %f9, -, H9⟩, ⟨%dO, %fo, -, Ho⟩, ⟨%d5, %g5, -, H5⟩, HF, HW, Hk⟩
  sl_exec
  sl_step
  iapply Hk
  isplitl [Hp]; · iexists _; isplitr; swap; iexact Hp; ipureintro; exact hf2
  isplitl [Hc]; · iexists _; isplitr; swap; iexact Hc; ipureintro; exact hf3
  isplitl [Hx]; · iexists _; isplitr; swap; iexact Hx; ipureintro; exact hf4
  isplitl [Hf]; · iexists _; isplitr; swap; iexact Hf; ipureintro; exact hf5
  isplitl [Hs]; · iexists _; isplitr; swap; iexact Hs; ipureintro; exact hf7
  isplitl [Hi]; · iexists _; isplitr; swap; iexact Hi; ipureintro; exact hf8
  isplitl [H9]
  · iexists _; isplitr; swap
    · iexact H9
    · ipureintro
      rw [View.read_writes_full]
      have ec (r : ℕ) (h : ∀ a, (![r, 0] : Fin 2 → ℕ) a + S128x2048.size a ≤ S1024x2048.size a) :
          arg3.view.readAt (Elt F) (Rect.unit (s := S1024x2048) ![r, 0] S128x2048.size h).toLoadRect f3 = crow cu r h := by
        rw [View.readAt_unit _ _ _ rfl h, hf3]
      have e2 : arg2.view.readAt (Elt F) (Rect.unit (s := S16x2048) ![0, 0] S16x2048.size inb_S16x2048_S16x2048_0_0).toLoadRect f2 = p := by
        rw [View.readAt_full, hf2]
      have e3 : arg3.view.readAt (Elt F) (Rect.unit (s := S1024x2048) ![0, 0] S1024x2048.size inb_S1024x2048_S1024x2048_0_0).toLoadRect f3 = cu := by
        rw [View.readAt_full, hf3]
      have e4 : arg4.view.readAt (Elt F) (Rect.unit (s := S16x2048) ![0, 0] S16x2048.size inb_S16x2048_S16x2048_0_0).toLoadRect f4 = nx := by
        rw [View.readAt_full, hf4]
      have e5 : arg5.view.readAt (Elt F) (Rect.unit (s := S1x2048x1024) ![0, 0, 0] S1x2048x1024.size inb_S1x2048x1024_S1x2048x1024_0_0_0).toLoadRect f5 = wf := by
        rw [View.readAt_full, hf5]
      have e7 : arg7.view.readAt (Elt F) (Rect.unit (s := S1x1024) ![0, 0] S1x1024.size inb_S1x1024_S1x1024_0_0).toLoadRect f7 = sc := by
        rw [View.readAt_full, hf7]
      unfold run_C.sl.v56 run_C.sl.H5_1
      rw [View.readCov_full]
      unfold run_C.sl.v399
      rw [readCov_whole]
      simp only [e2, e3, e4, e5, e7, ec]
      rfl
  isplitl [Ho]
  · iexists _; isplitr; swap
    · iexact Ho
    · ipureintro
      rw [View.read_writes_full, View.readAt_full, hf8]
  isplitl [H5]
  · iexists _; isplitr; swap
    · iexact H5
    · ipureintro
      unfold run_C.sl.H5_1
      rw [View.read_writes_full]
      unfold run_C.sl.v399
      first | (rw [readCov_whole]; done) | (rw [readCov_whole]; rfl)
  isplitl [HF_src]; · iexact HF_src
  isplitl [HF_dst]; · iexists _; iexact HF_dst
  isplitl [HF]; · iexact HF
  · iexists _; iexact HW
/-- The same at offsets in closed form. -/
theorem run_C' (h1 : ¬ k0_cond1 i = 1#1) (h2 : k0_cond2 i = 1#1) (h3 : ¬ k0_cond3 i = 1#1)
    {o2 : Fin 3 → ℕ} (b2 : ∀ a, o2 a + S1x2048x1024.size a ≤ S1x2048x8192.size a) (e2 : k0_off2 i = o2)
    (p : Vec F S16x2048 .bf16) (cu : Vec F S1024x2048 .bf16) (nx : Vec F S16x2048 .bf16) (wf : Vec F S1x2048x1024 .bf16) (sc : Vec F S1x1024 .f32) (ci : Vec F S1x64x2048 .f32) (fs : HbBuf (F := F) c hbM) (ds : HbBuf (F := F) c scM1) (W : Waits sig Unit) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ (∃ d, owns c.tc scM0 fullShare d)
        ∗ inflight c o2 b2 fs ds
        ∗ owes c.tc 0 W
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf (castBlk c o2 b2 fs) sc)
            ∗ owns c.tc arg10 fullShare (k0_pay2 ci)
            ∗ owns c.tc scM0 fullShare (castBlk c o2 b2 fs)
            ∗ hbPt c (wsl o2 b2) fs
            ∗ (∃ ds, hbPt c scM1 ds) ∗ semVal (c.tc, SemLoc.dma cc0_scratch2.sem) 0
            ∗ (∃ W', owes c.tc 0 W')) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  subst e2
  exact run_C c i arg2 harg2 arg3 harg3 arg4 harg4 arg5 harg5 arg7 harg7 arg8 harg8 arg9 harg9 arg10 harg10 h1 h2 h3 p cu nx wf sc ci fs ds W K

theorem run_D (h1 : ¬ k0_cond1 i = 1#1) (h2 : ¬ k0_cond2 i = 1#1) (h3 : ¬ k0_cond3 i = 1#1)
    (p : Vec F S16x2048 .bf16) (cu : Vec F S1024x2048 .bf16) (nx : Vec F S16x2048 .bf16) (wf : Vec F S1x2048x1024 .bf16) (sc : Vec F S1x1024 .f32) (ci : Vec F S1x64x2048 .f32) (wb : Vec F S2048x1024 .bf16) (K : PUnit → sProp 𝕄) :
    iprop(owns c.tc arg2 fullShare p ∗ owns c.tc arg3 fullShare cu ∗ owns c.tc arg4 fullShare nx ∗ owns c.tc arg5 fullShare wf ∗ owns c.tc arg7 fullShare sc ∗ owns c.tc arg8 fullShare ci ∗ (∃ d, owns c.tc arg9 fullShare d) ∗ (∃ d, owns c.tc arg10 fullShare d)
        ∗ owns c.tc scM0 fullShare wb
        ∗ (iprop(owns c.tc arg2 fullShare p ∗ owns c.tc arg3 fullShare cu ∗ owns c.tc arg4 fullShare nx ∗ owns c.tc arg5 fullShare wf ∗ owns c.tc arg7 fullShare sc ∗ owns c.tc arg8 fullShare ci
            ∗ owns c.tc arg9 fullShare (outv i p cu nx wf wb sc)
            ∗ owns c.tc arg10 fullShare (k0_pay2 ci)
            ∗ owns c.tc scM0 fullShare wb) -∗ K ⟨⟩))
      ⊢ wp frame (wpE (defs₀ (F := F)) Variants.none c none) Set.univ (body i arg2 harg2 arg3 harg3 arg4 harg4 arg5 harg5 arg7 harg7 arg8 harg8 arg9 harg9 arg10 harg10) K := by
  unfold body
  rw [cc0_cmix_eq_skeleton]; unfold cc0_cmix_skel
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  unfold owns
  iintro ⟨⟨%f2, %hf2, Hp⟩, ⟨%f3, %hf3, Hc⟩, ⟨%f4, %hf4, Hx⟩, ⟨%f5, %hf5, Hf⟩, ⟨%f7, %hf7, Hs⟩, ⟨%f8, %hf8, Hi⟩, ⟨%d9, %f9, -, H9⟩, ⟨%dO, %fo, -, Ho⟩, ⟨%g5, %hg5, H5⟩, Hk⟩
  sl_exec
  sl_step
  iapply Hk
  isplitl [Hp]; · iexists _; isplitr; swap; iexact Hp; ipureintro; exact hf2
  isplitl [Hc]; · iexists _; isplitr; swap; iexact Hc; ipureintro; exact hf3
  isplitl [Hx]; · iexists _; isplitr; swap; iexact Hx; ipureintro; exact hf4
  isplitl [Hf]; · iexists _; isplitr; swap; iexact Hf; ipureintro; exact hf5
  isplitl [Hs]; · iexists _; isplitr; swap; iexact Hs; ipureintro; exact hf7
  isplitl [Hi]; · iexists _; isplitr; swap; iexact Hi; ipureintro; exact hf8
  isplitl [H9]
  · iexists _; isplitr; swap
    · iexact H9
    · ipureintro
      rw [View.read_writes_full]
      have ec (r : ℕ) (h : ∀ a, (![r, 0] : Fin 2 → ℕ) a + S128x2048.size a ≤ S1024x2048.size a) :
          arg3.view.readAt (Elt F) (Rect.unit (s := S1024x2048) ![r, 0] S128x2048.size h).toLoadRect f3 = crow cu r h := by
        rw [View.readAt_unit _ _ _ rfl h, hf3]
      have e2 : arg2.view.readAt (Elt F) (Rect.unit (s := S16x2048) ![0, 0] S16x2048.size inb_S16x2048_S16x2048_0_0).toLoadRect f2 = p := by
        rw [View.readAt_full, hf2]
      have e3 : arg3.view.readAt (Elt F) (Rect.unit (s := S1024x2048) ![0, 0] S1024x2048.size inb_S1024x2048_S1024x2048_0_0).toLoadRect f3 = cu := by
        rw [View.readAt_full, hf3]
      have e4 : arg4.view.readAt (Elt F) (Rect.unit (s := S16x2048) ![0, 0] S16x2048.size inb_S16x2048_S16x2048_0_0).toLoadRect f4 = nx := by
        rw [View.readAt_full, hf4]
      have e5 : arg5.view.readAt (Elt F) (Rect.unit (s := S1x2048x1024) ![0, 0, 0] S1x2048x1024.size inb_S1x2048x1024_S1x2048x1024_0_0_0).toLoadRect f5 = wf := by
        rw [View.readAt_full, hf5]
      have e7 : arg7.view.readAt (Elt F) (Rect.unit (s := S1x1024) ![0, 0] S1x1024.size inb_S1x1024_S1x1024_0_0).toLoadRect f7 = sc := by
        rw [View.readAt_full, hf7]
      rw [View.readAt_full scM0.view, hg5]
      simp only [e2, e3, e4, e5, e7, ec]
      rfl
  isplitl [Ho]
  · iexists _; isplitr; swap
    · iexact Ho
    · ipureintro
      rw [View.read_writes_full, View.readAt_full, hf8]
  · iexists _; isplitr; swap; iexact H5; ipureintro; exact hg5

end Cert.Kernel10Ideal.Hand

end
-- ==== Proof.PoolB.lean ====
module

public import proofs.«01_k».proof.Proof.PoolA

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    ∀ op ∈ (hostOps0 (F := F)), Proc.devRef .tc b ∉ op.writes := by
  intro op hop
  simp only [List.mem_cons, List.mem_nil_iff, or_false] at hop
  obtain ⟨h0, h1, h2, h3, h4, h5, h6, h7⟩ := hb
  rcases hop with rfl | rfl | rfl | rfl | rfl | rfl | rfl | rfl
  · exact fun hm => StableHlo.devRef_ne_of_ne h0 (Finset.mem_singleton.mp hm)
  · exact fun hm => StableHlo.devRef_ne_of_ne h1 (Finset.mem_singleton.mp hm)
  · exact fun hm => StableHlo.devRef_ne_of_ne h2 (Finset.mem_singleton.mp hm)
  · exact fun hm => StableHlo.devRef_ne_of_ne h3 (Finset.mem_singleton.mp hm)
  · exact fun hm => StableHlo.devRef_ne_of_ne h4 (Finset.mem_singleton.mp hm)
  · exact fun hm => StableHlo.devRef_ne_of_ne h5 (Finset.mem_singleton.mp hm)
  · exact fun hm => StableHlo.devRef_ne_of_ne h6 (Finset.mem_singleton.mp hm)
  · exact fun hm => StableHlo.devRef_ne_of_ne h7 (Finset.mem_singleton.mp hm)

theorem V_arg0 (c : Dev nD) : V m c main_arg0 = m (c.tc.loc main_arg0) :=
  StableHlo.after_of_forall_not_mem (b := Proc.devRef .tc main_arg0) _ _ (not_written main_arg0 (by decide))
theorem V_arg1 (c : Dev nD) : V m c main_arg1 = m (c.tc.loc main_arg1) :=
  StableHlo.after_of_forall_not_mem (b := Proc.devRef .tc main_arg1) _ _ (not_written main_arg1 (by decide))
theorem V_arg2 (c : Dev nD) : V m c main_arg2 = m (c.tc.loc main_arg2) :=
  StableHlo.after_of_forall_not_mem (b := Proc.devRef .tc main_arg2) _ _ (not_written main_arg2 (by decide))
theorem V_arg3 (c : Dev nD) : V m c main_arg3 = m (c.tc.loc main_arg3) :=
  StableHlo.after_of_forall_not_mem (b := Proc.devRef .tc main_arg3) _ _ (not_written main_arg3 (by decide))
theorem V_arg4 (c : Dev nD) : V m c main_arg4 = m (c.tc.loc main_arg4) :=
  StableHlo.after_of_forall_not_mem (b := Proc.devRef .tc main_arg4) _ _ (not_written main_arg4 (by decide))
/-- The activations as the region finds them. -/
def bufH (h : (⟨S16384x2048, .f32⟩ : BufTy).Contents (Elt F)) : (⟨S16384x2048, .bf16⟩ : BufTy).Contents (Elt F) := truncf .bf16 h bitsLt_bf16_f32
/-- The folded weights. -/
def bufW (w : (⟨S1x2048x8192, .f32⟩ : BufTy).Contents (Elt F)) (u : (⟨S1x4x1024x1024, .f32⟩ : BufTy).Contents (Elt F)) : (⟨S4x2048x1024, .bf16⟩ : BufTy).Contents (Elt F) :=
  truncf .bf16 (Host.dotGeneral dot_S2048x4x1024_S4x1024x1024_S4x2048x1024_2_1_0_2_1_0 none
    (shapeCast S2048x4x1024 (shapeCast S2048x4096 (extractStridedSlice S1x2048x4096 ![0, 0, 0] w slices_S1x2048x8192_S1x2048x4096_0_0_0) shapeCasts_S1x2048x4096_S2048x4096) shapeCasts_S2048x4096_S2048x4x1024 : FVec F S2048x4x1024 .f32)
    (shapeCast S4x1024x1024 u shapeCasts_S1x4x1024x1024_S4x1024x1024 : FVec F S4x1024x1024 .f32)) bitsLt_bf16_f32
theorem V_v5 (c : Dev nD) : V m c main_v5 = bufH (m (c.tc.loc main_arg0)) := by
  rfl
theorem V_v6 (c : Dev nD) : V m c main_v6 = bufW (m (c.tc.loc main_arg1)) (m (c.tc.loc main_arg2)) := by
  rfl
theorem V_v7 (c : Dev nD) : V m c main_v7 = shapeCast S1x4096 (m (c.tc.loc main_arg3) : (⟨S4096, .f32⟩ : BufTy).Contents (Elt F)) shapeCasts_S4096_S1x4096 := by
  rfl

/-! ## Where the grid's points lie -/

/-- Block `k` of the weights: its offsets. -/
def boff (k : ℕ) : Fin 3 → ℕ := ![0, 0, 4096 + 1024 * (k % 4)]
theorem boff_inb (k : ℕ) : ∀ a, boff k a + S1x2048x1024.size a ≤ S1x2048x8192.size a := by
  intro a
  have : k % 4 < 4 := Nat.mod_lt _ (by decide)
  match a with
  | 0 => show (0 : ℕ) + 1 ≤ 1; omega
  | 1 => show (0 : ℕ) + 2048 ≤ 2048; omega
  | 2 => show 4096 + 1024 * (k % 4) + 1024 ≤ 8192; omega

theorem cond1_iff : ∀ t : Fin grid0.N, k0_cond1 (grid0.coords t) = 1#1 ↔ t.val = 0 := by decide +kernel
theorem cond2_iff : ∀ t : Fin grid0.N, k0_cond2 (grid0.coords t) = 1#1 ↔ t.val % 16 = 0 := by decide +kernel
theorem cond3_iff : ∀ t : Fin grid0.N, k0_cond3 (grid0.coords t) = 1#1 ↔ t.val % 16 = 0 ∧ t.val < 48 := by decide +kernel
theorem off1_at : ∀ t : Fin grid0.N, t.val = 0 → k0_off1 (grid0.coords t) = boff 0 := by decide +kernel
theorem off2_at : ∀ t : Fin grid0.N, k0_off2 (grid0.coords t) = boff (t.val / 16) := by decide +kernel
theorem off3_at : ∀ t : Fin grid0.N, t.val < 48 → k0_off3 (grid0.coords t) = boff (t.val / 16 + 1) := by decide +kernel

/-- The elements of block `k` in the weights' buffer. -/
abbrev wset (k : ℕ) := (wsl (boff k) (boff_inb k)).view.set

theorem wset_disj {j k : ℕ} (h : j % 4 ≠ k % 4) : wset k ⊆ hbM.view.set \ wset j := by
  intro x hx
  have e (k : ℕ) : wset k = (Rect.unit (s := S1x2048x8192) (boff k) S1x2048x1024.size (boff_inb k)).set :=
    (View.set_reshape _ _).trans (View.set_slice_whole _ _)
  rw [e] at hx ⊢
  rw [Finset.mem_sdiff]
  refine ⟨by rw [show hbM.view.set = Finset.univ from View.set_whole _]; exact Finset.mem_univ _, fun hy => ?_⟩
  have h1 := Rect.mem_set_unit.1 hx 2
  have h2 := Rect.mem_set_unit.1 hy 2
  have e1 (k : ℕ) : boff k 2 = 4096 + 1024 * (k % 4) := rfl
  have e2 : S1x2048x1024.size 2 = 1024 := rfl
  rw [e1, e2] at h1 h2
  omega

theorem wset_sub (k : ℕ) : wset k ⊆ hbM.view.set := fun x hx => by
  rw [show hbM.view.set = Finset.univ from View.set_whole _]; exact Finset.mem_univ _

end Cert.Kernel10Ideal.Hand

end
-- ==== Proof.PoolC.lean ====
module

public import proofs.«01_k».proof.Proof.PoolB

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant -/

/-- The weights as the region finds them. -/
abbrev wts (c : Dev nD) : HbBuf (F := F) c hbM := V m c main_arg1
/-- The cast of block `k`. -/
abbrev wb (c : Dev nD) (k : ℕ) : Vec F S2048x1024 .bf16 := castBlk c (boff k) (boff_inb k) (wts m c)

/-- The staging buffer free, its cell at zero, the weights whole. -/
def idle (c : Dev nD) : sProp 𝕄 :=
  iprop((∃ ds, hbPt c scM1 ds) ∗ semVal (c.tc, SemLoc.dma cc0_scratch2.sem) 0 ∗ hbPt c hbM (wts m c))
/-- Block `k` in flight, the rest of the weights held. -/
def flying (c : Dev nD) (k : ℕ) : sProp 𝕄 :=
  iprop((∃ d, inflight c (boff k) (boff_inb k) (wts m c) d) ∗ (hbM.view.loc c.tc ↦[hbM.view.set \ wset k]{fullShare} wts m c))
/-- Before point `p`: nothing consumed at `0`; else block `(p - 1) / 16` cast, the next one in flight if there is one. -/
def inv (c : Dev nD) (p : ℕ) : sProp 𝕄 :=
  if p = 0 then iprop((∃ d, owns c.tc scM0 fullShare d) ∗ idle m c)
  else if (p - 1) / 16 + 1 < 4 then iprop(owns c.tc scM0 fullShare (wb m c ((p - 1) / 16)) ∗ flying m c ((p - 1) / 16 + 1))
  else iprop(owns c.tc scM0 fullShare (wb m c ((p - 1) / 16)) ∗ idle m c)

theorem inv_zero (c : Dev nD) : inv m c 0 = iprop((∃ d, owns c.tc scM0 fullShare d) ∗ idle m c) := by
  unfold inv; rw [if_pos rfl]
theorem inv_mid (c : Dev nD) {p k : ℕ} (h0 : p ≠ 0) (hk : (p - 1) / 16 = k) (h : k + 1 < 4) :
    inv m c p = iprop(owns c.tc scM0 fullShare (wb m c k) ∗ flying m c (k + 1)) := by
  subst hk; unfold inv; rw [if_neg h0, if_pos h]
theorem inv_end (c : Dev nD) {p k : ℕ} (h0 : p ≠ 0) (hk : (p - 1) / 16 = k) (h : ¬ k + 1 < 4) :
    inv m c p = iprop(owns c.tc scM0 fullShare (wb m c k) ∗ idle m c) := by
  subst hk; unfold inv; rw [if_neg h0, if_neg h]

/-! ## The proof data -/

abbrev ms0_0 (t : Fin cfg0.N) : Memref sig .tc .vmem S16x2048 .bf16 := win0_0.stage (cfg0.slots t 0)
abbrev ms0_1 (t : Fin cfg0.N) : Memref sig .tc .vmem S1024x2048 .bf16 := win0_1.stage (cfg0.slots t 1)
abbrev ms0_2 (t : Fin cfg0.N) : Memref sig .tc .vmem S16x2048 .bf16 := win0_2.stage (cfg0.slots t 2)
abbrev ms0_3 (t : Fin cfg0.N) : Memref sig .tc .vmem S1x2048x1024 .bf16 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S1x64x2048 .f32 := win0_5.stage (cfg0.slots t 5)
abbrev ms0_6 (t : Fin cfg0.N) : Memref sig .tc .vmem S1024x1024 .bf16 := win0_6.stage (cfg0.slots t 6)
abbrev ms0_7 (t : Fin cfg0.N) : Memref sig .tc .vmem S64x2048 .bf16 := win0_7.stage (cfg0.slots t 7)

/-- Window `w`'s block of its array at point `t`, the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result at point `t`. -/
def outAt (c : Dev nD) (t : Fin cfg0.N) : Vec F S1024x1024 .bf16 :=
  outv (grid0.coords t) (iblk m c 0 t) (iblk m c 1 t) (iblk m c 2 t) (iblk m c 3 t) (wb m c (t.val / 16)) (iblk m c 4 t)
/-- The slab of the other weights cast at point `t`. -/
def castAt (c : Dev nD) (t : Fin cfg0.N) : Vec F S64x2048 .bf16 := k0_pay2 (iblk m c 5 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => castAt m c t
  Φ p := iprop((∃ r, prngReg c r) ∗ inv m c p.val)
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = castAt m c t := by dsimp only [dats]

theorem before0_0 (c : Dev nD) (t : Fin cfg0.N) (d : ((cfg0.win 0).xblock (cfg0.grid.coords t)).Idx → Elt F (cfg0.win 0).elt) : (dats m 0 c).before 0 t d = iblk m c 0 t :=
  (Dat.before_in_eq_fetched (dats m 0 c) 0 rfl (fun _ => rfl) (fun _ _ _ => rfl)
    (fun t => by rw [after0_0]; unfold Dat.blockOf iblk; rw [A_eq]; try rfl) t d).trans (by unfold Dat.fetched Dat.blockOf iblk; rw [A_eq]; try rfl)

theorem before0_1 (c : Dev nD) (t : Fin cfg0.N) (d : ((cfg0.win 1).xblock (cfg0.grid.coords t)).Idx → Elt F (cfg0.win 1).elt) : (dats m 0 c).before 1 t d = iblk m c 1 t :=
  (Dat.before_in_eq_fetched (dats m 0 c) 1 rfl (fun _ => rfl) (fun _ _ _ => rfl)
    (fun t => by rw [after0_1]; unfold Dat.blockOf iblk; rw [A_eq]; try rfl) t d).trans (by unfold Dat.fetched Dat.blockOf iblk; rw [A_eq]; try rfl)

theorem before0_2 (c : Dev nD) (t : Fin cfg0.N) (d : ((cfg0.win 2).xblock (cfg0.grid.coords t)).Idx → Elt F (cfg0.win 2).elt) : (dats m 0 c).before 2 t d = iblk m c 2 t :=
  (Dat.before_in_eq_fetched (dats m 0 c) 2 rfl (fun _ => rfl) (fun _ _ _ => rfl)
    (fun t => by rw [after0_2]; unfold Dat.blockOf iblk; rw [A_eq]; try rfl) t d).trans (by unfold Dat.fetched Dat.blockOf iblk; rw [A_eq]; try rfl)

theorem before0_3 (c : Dev nD) (t : Fin cfg0.N) (d : ((cfg0.win 3).xblock (cfg0.grid.coords t)).Idx → Elt F (cfg0.win 3).elt) : (dats m 0 c).before 3 t d = iblk m c 3 t :=
  (Dat.before_in_eq_fetched (dats m 0 c) 3 rfl (fun _ => rfl) (fun _ _ _ => rfl)
    (fun t => by rw [after0_3]; unfold Dat.blockOf iblk; rw [A_eq]; try rfl) t d).trans (by unfold Dat.fetched Dat.blockOf iblk; rw [A_eq]; try rfl)

theorem before0_4 (c : Dev nD) (t : Fin cfg0.N) (d : ((cfg0.win 4).xblock (cfg0.grid.coords t)).Idx → Elt F (cfg0.win 4).elt) : (dats m 0 c).before 4 t d = iblk m c 4 t :=
  (Dat.before_in_eq_fetched (dats m 0 c) 4 rfl (fun _ => rfl) (fun _ _ _ => rfl)
    (fun t => by rw [after0_4]; unfold Dat.blockOf iblk; rw [A_eq]; try rfl) t d).trans (by unfold Dat.fetched Dat.blockOf iblk; rw [A_eq]; try rfl)

theorem before0_5 (c : Dev nD) (t : Fin cfg0.N) (d : ((cfg0.win 5).xblock (cfg0.grid.coords t)).Idx → Elt F (cfg0.win 5).elt) : (dats m 0 c).before 5 t d = iblk m c 5 t :=
  (Dat.before_in_eq_fetched (dats m 0 c) 5 rfl (fun _ => rfl) (fun _ _ _ => rfl)
    (fun t => by rw [after0_5]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d)))
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t))

/-- What the body is called with, and what it leaves, over the invariant and the operands' contents. -/
def pre (c : Dev nD) (t : Fin cfg0.N) (W : Waits sig Unit) : sProp 𝕄 :=
  iprop(inv m c t.val ∗ owes c.tc 0 W
    ∗ owns c.tc (ms0_0 t) fullShare (iblk m c 0 t)
    ∗ owns c.tc (ms0_1 t) fullShare (iblk m c 1 t)
    ∗ owns c.tc (ms0_2 t) fullShare (iblk m c 2 t)
    ∗ owns c.tc (ms0_3 t) fullShare (iblk m c 3 t)
    ∗ owns c.tc (ms0_4 t) fullShare (iblk m c 4 t)
    ∗ owns c.tc (ms0_5 t) fullShare (iblk m c 5 t)
    ∗ (∃ d, owns c.tc (ms0_6 t) fullShare d)
    ∗ (∃ d, owns c.tc (ms0_7 t) fullShare d))
def post (c : Dev nD) (t : Fin cfg0.N) : sProp 𝕄 :=
  iprop(inv m c (t.val + 1) ∗ (∃ W', owes c.tc 0 W')
    ∗ owns c.tc (ms0_0 t) fullShare (iblk m c 0 t)
    ∗ owns c.tc (ms0_1 t) fullShare (iblk m c 1 t)
    ∗ owns c.tc (ms0_2 t) fullShare (iblk m c 2 t)
    ∗ owns c.tc (ms0_3 t) fullShare (iblk m c 3 t)
    ∗ owns c.tc (ms0_4 t) fullShare (iblk m c 4 t)
    ∗ owns c.tc (ms0_5 t) fullShare (iblk m c 5 t)
    ∗ owns c.tc (ms0_6 t) fullShare (outAt m c t)
    ∗ owns c.tc (ms0_7 t) fullShare (castAt m c t))

theorem point_D (c : Dev nD) (t : Fin cfg0.N) (h : t.val % 16 ≠ 0) (W : Waits sig Unit) :
    pre m c t W ⊢ wp frame (wpE (defs₀ (F := F)) Variants.none c none) Set.univ (bodyAt0 t) (fun _ => post m c t) := by
  unfold pre post outAt castAt
  have e : ∃ R : sProp 𝕄, inv m c t.val = iprop(owns c.tc scM0 fullShare (wb m c (t.val / 16)) ∗ R)
      ∧ inv m c (t.val + 1) = iprop(owns c.tc scM0 fullShare (wb m c (t.val / 16)) ∗ R) := by
    by_cases hk : t.val / 16 + 1 < 4
    · exact ⟨_, inv_mid m c (by omega) (by omega) hk, inv_mid m c (by omega) (by omega) hk⟩
    · exact ⟨_, inv_end m c (by omega) (by omega) hk, inv_end m c (by omega) (by omega) hk⟩
  obtain ⟨R, e0, e1⟩ := e
  rw [e0, e1]
  iintro ⟨⟨H5, HR⟩, HW, Hp, Hc, Hx, Hf, Hs, Hi, H9, Ho⟩
  iapply (run_D c (grid0.coords t) (ms0_0 t) _ (ms0_1 t) _ (ms0_2 t) _ (ms0_3 t) _ (ms0_4 t) _ (ms0_5 t) _ (ms0_6 t) _ (ms0_7 t) _ (fun hc => h (by rw [(cond1_iff t).1 hc]))
    (fun hc => h ((cond2_iff t).1 hc)) (fun hc => h ((cond3_iff t).1 hc).1) (iblk m c 0 t) (iblk m c 1 t) (iblk m c 2 t) (iblk m c 3 t) (iblk m c 4 t) (iblk m c 5 t) (wb m c (t.val / 16)) _)
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  isplitl [Ho]; · iexact Ho
  isplitl [H5]; · iexact H5
  iintro ⟨Hp, Hc, Hx, Hf, Hs, Hi, H9, Ho, H5⟩
  isplitl [H5 HR]
  · isplitl [H5]; · iexact H5
    iexact HR
  isplitl [HW]; · iexists _; iexact HW
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  iexact Ho

/-- A block handed back goes into the rest that lacks it and the next one. -/
theorem rejoin (c : Dev nD) {j k : ℕ} (h : j % 4 ≠ k % 4) (f : HbBuf (F := F) c hbM) :
    iprop((hbM.view.loc c.tc ↦[wset j]{fullShare} f) ∗ (hbM.view.loc c.tc ↦[(hbM.view.set \ wset j) \ wset k]{fullShare} f))
      ⊢ (hbM.view.loc c.tc ↦[hbM.view.set \ wset k]{fullShare} f : sProp 𝕄) := by
  rw [sdiff_right_comm]
  exact (pointsTo_split_subset (wset_disj (Ne.symm h))).2

theorem point_A (c : Dev nD) (t : Fin cfg0.N) (h : t.val = 0) (W : Waits sig Unit) :
    pre m c t W ⊢ wp frame (wpE (defs₀ (F := F)) Variants.none c none) Set.univ (bodyAt0 t) (fun _ => post m c t) := by
  unfold pre post outAt castAt
  rw [h, inv_zero, inv_mid m c (p := 0 + 1) (k := 0) (by decide) (by decide) (by decide)]
  unfold idle flying
  iintro ⟨⟨H5, HS, HF, Hw⟩, HW, Hp, Hc, Hx, Hf, Hs, Hi, H9, Ho⟩
  ihave ⟨Hw0, Hw⟩ := (pointsTo_split_subset (wset_sub 0)).1 $$ Hw
  ihave ⟨Hw1, Hw⟩ := (pointsTo_split_subset (wset_disj (j := 0) (k := 1) (by decide))).1 $$ Hw
  iapply (run_A' c (grid0.coords t) (ms0_0 t) _ (ms0_1 t) _ (ms0_2 t) _ (ms0_3 t) _ (ms0_4 t) _ (ms0_5 t) _ (ms0_6 t) _ (ms0_7 t) _ ((cond1_iff t).2 h)
    ((cond2_iff t).2 (by omega)) ((cond3_iff t).2 (by omega)) (boff_inb 0) (off1_at t h) (boff_inb 1)
    ((off3_at t (by omega)).trans (by rw [h])) (iblk m c 0 t) (iblk m c 1 t) (iblk m c 2 t) (iblk m c 3 t) (iblk m c 4 t) (iblk m c 5 t) (wts m c) W _)
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  isplitl [Ho]; · iexact Ho
  isplitl [H5]; · iexact H5
  isplitl [HS]; · iexact HS
  isplitl [HF]; · iexact HF
  isplitl [Hw0]; · iexact Hw0
  isplitl [Hw1]; · iexact Hw1
  isplitl [HW]; · iexact HW
  iintro ⟨Hp, Hc, Hx, Hf, Hs, Hi, H9, Ho, H5, HF, Hw0, HW⟩
  isplitl [H5 HF Hw Hw0]
  · isplitl [H5]; · iexact H5
    isplitl [HF]; · iexact HF
    iapply (rejoin (F := F) c (j := 0) (k := 1) (by decide) (wts m c))
    isplitl [Hw0]; · iexact Hw0
    iexact Hw
  isplitl [HW]; · iexact HW
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  iexact Ho
theorem point_B (c : Dev nD) (t : Fin cfg0.N) (h0 : t.val ≠ 0) (h : t.val % 16 = 0) (hn : t.val < 48) (W : Waits sig Unit) :
    pre m c t W ⊢ wp frame (wpE (defs₀ (F := F)) Variants.none c none) Set.univ (bodyAt0 t) (fun _ => post m c t) := by
  unfold pre post outAt castAt
  obtain ⟨k, hk⟩ : ∃ k, t.val / 16 = k + 1 := ⟨t.val / 16 - 1, by omega⟩
  rw [inv_mid m c (p := t.val) (k := k) h0 (by omega) (by omega),
    inv_mid m c (p := t.val + 1) (k := k + 1) (by omega) (by omega) (by omega), hk]
  unfold flying
  iintro ⟨⟨H5, ⟨%ds, HF⟩, Hw⟩, HW, Hp, Hc, Hx, Hf, Hs, Hi, H9, Ho⟩
  ihave ⟨Hw1, Hw⟩ := (pointsTo_split_subset (wset_disj (j := k + 1) (k := k + 1 + 1) (by omega))).1 $$ Hw
  iapply (run_B' c (grid0.coords t) (ms0_0 t) _ (ms0_1 t) _ (ms0_2 t) _ (ms0_3 t) _ (ms0_4 t) _ (ms0_5 t) _ (ms0_6 t) _ (ms0_7 t) _ (fun hc => h0 ((cond1_iff t).1 hc))
    ((cond2_iff t).2 h) ((cond3_iff t).2 ⟨h, hn⟩) (boff_inb (k + 1)) ((off2_at t).trans (by rw [hk])) (boff_inb (k + 1 + 1))
    ((off3_at t hn).trans (by rw [hk])) (iblk m c 0 t) (iblk m c 1 t) (iblk m c 2 t) (iblk m c 3 t) (iblk m c 4 t) (iblk m c 5 t) (wts m c) ds W _)
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  isplitl [Ho]; · iexact Ho
  isplitl [H5]; · iexists _; iexact H5
  isplitl [HF]; · iexact HF
  isplitl [Hw1]; · iexact Hw1
  isplitl [HW]; · iexact HW
  iintro ⟨Hp, Hc, Hx, Hf, Hs, Hi, H9, Ho, H5, HF, Hw0, HW⟩
  isplitl [H5 HF Hw Hw0]
  · isplitl [H5]; · iexact H5
    isplitl [HF]; · iexact HF
    iapply (rejoin (F := F) c (j := k + 1) (k := k + 1 + 1) (by omega) (wts m c))
    isplitl [Hw0]; · iexact Hw0
    iexact Hw
  isplitl [HW]; · iexact HW
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  iexact Ho

theorem point_C (c : Dev nD) (t : Fin cfg0.N) (h : t.val = 48) (W : Waits sig Unit) :
    pre m c t W ⊢ wp frame (wpE (defs₀ (F := F)) Variants.none c none) Set.univ (bodyAt0 t) (fun _ => post m c t) := by
  unfold pre post outAt castAt
  rw [inv_mid m c (p := t.val) (k := 2) (by omega) (by omega) (by omega),
    inv_end m c (p := t.val + 1) (k := 3) (by omega) (by omega) (by omega), show t.val / 16 = 3 by omega]
  unfold flying idle
  iintro ⟨⟨H5, ⟨%ds, HF⟩, Hw⟩, HW, Hp, Hc, Hx, Hf, Hs, Hi, H9, Ho⟩
  iapply (run_C' c (grid0.coords t) (ms0_0 t) _ (ms0_1 t) _ (ms0_2 t) _ (ms0_3 t) _ (ms0_4 t) _ (ms0_5 t) _ (ms0_6 t) _ (ms0_7 t) _ (fun hc => by have := (cond1_iff t).1 hc; omega)
    ((cond2_iff t).2 (by omega)) (fun hc => by have := (cond3_iff t).1 hc; omega) (boff_inb 3) ((off2_at t).trans (by rw [h]))
    (iblk m c 0 t) (iblk m c 1 t) (iblk m c 2 t) (iblk m c 3 t) (iblk m c 4 t) (iblk m c 5 t) (wts m c) ds W _)
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  isplitl [Ho]; · iexact Ho
  isplitl [H5]; · iexists _; iexact H5
  isplitl [HF]; · iexact HF
  isplitl [HW]; · iexact HW
  iintro ⟨Hp, Hc, Hx, Hf, Hs, Hi, H9, Ho, H5, Hw0, HS, HF, HW⟩
  isplitl [H5 HF HS Hw Hw0]
  · isplitl [H5]; · iexact H5
    isplitl [HS]; · iexact HS
    isplitl [HF]; · iexact HF
    iapply (pointsTo_split_subset (wset_sub 3)).2
    isplitl [Hw0]; · iexact Hw0
    iexact Hw
  isplitl [HW]; · iexact HW
  isplitl [Hp]; · iexact Hp
  isplitl [Hc]; · iexact Hc
  isplitl [Hx]; · iexact Hx
  isplitl [Hf]; · iexact Hf
  isplitl [Hs]; · iexact Hs
  isplitl [Hi]; · iexact Hi
  isplitl [H9]; · iexact H9
  iexact Ho

theorem point (c : Dev nD) (t : Fin cfg0.N) (W : Waits sig Unit) :
    pre m c t W ⊢ wp frame (wpE (defs₀ (F := F)) Variants.none c none) Set.univ (bodyAt0 t) (fun _ => post m c t) := by
  have ht : t.val < 64 := lt_of_lt_of_eq t.isLt N_0
  by_cases h : t.val % 16 = 0
  · by_cases h0 : t.val = 0
    · exact point_A m c t h0 W
    · by_cases hn : t.val < 48
      · exact point_B m c t h0 h hn W
      · exact point_C m c t (by omega) W
  · exact point_D m c t h W

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [after0_0, after0_1, after0_2, after0_3, after0_4, after0_5, after0_6, after0_7]
  unfold Dat.owesAt Pipeline.owesWithin
  rw [show (dats m 0 c).Φ t.castSucc = iprop((∃ r, prngReg c r) ∗ inv m c t.val) from rfl,
    show (dats m 0 c).Φ t.succ = iprop((∃ r, prngReg c r) ∗ inv m c (t.val + 1)) from rfl,
    show (dats m 0 c).owed t.castSucc = 0 from rfl, show (dats m 0 c).owed t.succ = 0 from rfl]
  iintro ⟨⟨Hg, HI⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none c none) Set.univ (Q := fun _ => post m c t))
  isplitl [HI HW H0 H1 H2 H3 H4 H5 H6 H7]
  · iapply (point m c t W)
    unfold pre
    isplitl [HI]; · iexact HI
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  iintro %_ Hp
  unfold post
  icases Hp with ⟨HI, ⟨%W', HW⟩, H0, H1, H2, H3, H4, H5, H6, H7⟩
  isplitl [Hg HI]
  · isplitl [Hg]; · iexact Hg
    iexact HI
  isplitl [HW]
  · iexists W'; isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma cc0_scratch2.sem) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((c.tc.loc main_arg1) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns c.tc scM0 fullShare d) ∗ (∃ ds, hbPt c scM1 ds)) ∗ (∃ r, prngReg c r)
          ∗ semVal (c.tc, SemLoc.dma cc0_scratch2.sem) 0 ∗ hbPt c hbM (wts m c)) := by
  rw [Pipeline.ΦD_eq, scopedRest0_eq, ownSems00_eq, hbmPts0_eq]
  simp only [scM0, hbPt, scM1, hbM, owns_whole, Memref.view_whole, View.set_whole]; try rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ inv m c 0) from rfl, inv_zero]
  unfold idle
  iintro ⟨⟨H5, HS⟩, Hg, HF, Hw⟩
  isplitl [Hg]; · iexact Hg
  isplitl [H5]; · iexact H5
  isplitl [HS]; · iexact HS
  isplitl [HF]; · iexact HF
  iexact Hw

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = iprop((∃ r, prngReg c r) ∗ inv m c grid0.N) from rfl, N_0,
    inv_end m c (p := 64) (k := 3) (by decide) (by decide) (by decide)]
  unfold idle
  iintro ⟨Hg, H5, HS, HF, Hw⟩
  isplitl [H5 HS]
  · isplitl [H5]; · iexists _; iexact H5
    iexact HS
  isplitl [Hg]; · iexact Hg
  isplitl [HF]; · iexact HF
  iexact Hw

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- The run's end: the result arrays as the write-backs leave them, the arguments as they were, every cell at zero. -/
theorem run : θ_run defs (onTc (τ := τ) (main (F := F))) ⟨m, fun _ => 0, ρ⟩ (fun r => (∀ c : Dev nD,
      r.2.mem ((c.tc : Thread nD τ).loc main_v8_0) = (dats m 0 c).arrAt 6 cfg0.N
      ∧ r.2.mem ((c.tc : Thread nD τ).loc main_v8_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 6, (h.1 c).1 7,
    ((h.1 c).2 main_arg0 (Pipeline.mem_restRefs_of main_arg0 (by decide) (by decide))).trans (V_arg0 m c),
    ((h.1 c).2 main_arg1 (Pipeline.mem_restRefs_of main_arg1 (by decide) (by decide))).trans (V_arg1 m c),
    ((h.1 c).2 main_arg2 (Pipeline.mem_restRefs_of main_arg2 (by decide) (by decide))).trans (V_arg2 m c),
    ((h.1 c).2 main_arg3 (Pipeline.mem_restRefs_of main_arg3 (by decide) (by decide))).trans (V_arg3 m c),
    ((h.1 c).1 5).trans ((Dat.arrAt_in (dats m 0 c) 5 rfl _).trans ((A_eq m c 5).trans (V_arg4 m c)))⟩, h.2⟩) (run_main m ρ)

end Cert.Kernel10Ideal.Hand

end
-- ==== Proof.PoolP.lean ====
module

public import proofs.«01_k».proof.Proof.PoolC
public import proofs.«01_k».proof.Proof.Words

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic

/-! ## A block of 128 rows -/

/-- A row's word: the block's first row, the piece's offset and the position within it. -/
abbrev tw (tb o : BitVec 32) (a : ℕ) : BitVec 32 := IntOp.addi (IntOp.addi tb o) (BitVec.ofNat 32 a)
/-- The first and the last row of a row's window. -/
abbrev lw (lo t : BitVec 32) : BitVec 32 := IntOp.maxsi (IntOp.subi t lo) 0#32
abbrev hw (hi t : BitVec 32) : BitVec 32 := IntOp.minsi (IntOp.addi t hi) 4095#32
/-- The row's words. -/
abbrev inW (u l h : BitVec 32) : BitVec 1 := IntOp.andi (IntOp.cmpi .sge u l) (IntOp.cmpi .sle u h)
/-- The mean over a row's window less the row. -/
abbrev piece (lo hi tb oT oU : BitVec 32) (e : Fin 256 → EReal) (h : EReal) (a : ℕ) : EReal :=
  Ideal.div (∑ x : Fin 256, Scalar.select (inW (tw tb oU x.val) (lw lo (tw tb oT a)) (hw hi (tw tb oT a))) (e x) 0)
    (FloatOps.sitofp (F := Ideal) .f32 (IntOp.addi (IntOp.subi (hw hi (tw tb oT a)) (lw lo (tw tb oT a))) 1#32)) - h

/-- The last piece, as the last payload takes it. -/
def lastP (v53 : FVec Ideal S1056x2048 .bf16) (v350 : IVec S1x256 32) (v354 : IVec S128x1 32) (v358 : IVec S128x1 32) (v359 : IVec S128x256 32) (v378 : Vec Ideal S128x2048 .bf16) :
    FVec Ideal S128x2048 .bf16 :=
  truncf .bf16 (subf (divf (matmul dot_S128x256_S256x2048_S128x2048_1_0_0_1_n_n none
      (truncf .bf16 (select (andi (cmpi .sge v359 (broadcastTo S128x256 v354 broadcasts_S128x1_S128x256))
        (cmpi .sle (broadcastTo S128x256 v350 broadcasts_S1x256_S128x256) (broadcastTo S128x256 v358 broadcasts_S128x1_S128x256)))
        (broadcast S128x256 (Scalar.ofBits .f32 0x3F800000#32)) (broadcast S128x256 (Scalar.ofBits .f32 0x00000000#32)) : FVec Ideal S128x256 .f32) bitsLt_bf16_f32)
      (extractStridedSlice S256x2048 ![800, 0] v53 slices_S1056x2048_o800_0_S256x2048 : FVec Ideal S256x2048 .bf16) (constant S128x2048 .f32 0x00000000#32))
    (broadcastTo S128x2048 (sitofp .f32 (addi (subi v358 v354) (broadcast S128x1 1#32)) : FVec Ideal S128x1 .f32) broadcasts_S128x1_S128x2048))
    (extf .f32 (shapeCast S128x2048 v378 shapeCasts_S128x2048_S128x2048 : FVec Ideal S128x2048 .bf16) bitsLt_bf16_f32)) bitsLt_bf16_f32

/-- The pieces of a block. -/
def pc (lo hi tb : BitVec 32) (e : FVec Ideal S1056x2048 .bf16) (cu : Vec Ideal S1024x2048 .bf16) (ar : BitVec 32) : Fin 8 → FVec Ideal S128x2048 .bf16 :=
  ![k0_pay9 hi e (k0_pay6 ar) (k0_pay7 ar) (k0_pay8 lo) (crow cu 0 inb_S1024x2048_S128x2048_0_0),
    k0_pay15 e (k0_pay11 tb) (k0_pay12 lo tb) (k0_pay13 hi tb) (k0_pay14 tb) (crow cu 128 inb_S1024x2048_S128x2048_128_0),
    k0_pay22 e (k0_pay17 lo tb) (k0_pay18 hi tb) (k0_pay19 lo hi tb) (k0_pay20 (F := Ideal)) (k0_pay21 (F := Ideal)) (crow cu 256 inb_S1024x2048_S128x2048_256_0),
    k0_pay28 (k0_pay26 lo hi tb e) (k0_pay27 (F := Ideal) lo hi tb) (crow cu 384 inb_S1024x2048_S128x2048_384_0),
    k0_pay29 lo hi tb e (crow cu 512 inb_S1024x2048_S128x2048_512_0),
    k0_pay30 lo hi tb e 640#32 (crow cu 640 inb_S1024x2048_S128x2048_640_0),
    k0_pay34 hi e (k0_pay31 tb) (k0_pay32 tb) (k0_pay33 lo) (crow cu 768 inb_S1024x2048_S128x2048_768_0),
    lastP e (k0_pay36 tb) (k0_pay37 lo tb) (k0_pay38 hi tb) (k0_pay39 tb) (crow cu 896 inb_S1024x2048_S128x2048_896_0)]
/-- Where a piece's rows of the three blocks begin. -/
def st (j : Fin 8) : ℕ := if j.val = 7 then 800 else 128 * j.val
theorem st_le (j : Fin 8) (x : Fin 256) : st j + x.val < 1056 := by unfold st; split <;> omega
def oU : Fin 8 → BitVec 32 := ![4294967280#32, 112#32, 240#32, 368#32, 496#32, 624#32, 752#32, 784#32]
def oT : Fin 8 → BitVec 32 := ![0#32, 128#32, 256#32, 384#32, 512#32, 640#32, 768#32, 896#32]

/-- The block's first row, from the coordinate. -/
def tbA (arg1 : BitVec 32) : BitVec 32 :=
  let v36 : BitVec 1 := Scalar.cmpi .eq 4#32 0#32
  let v37 : BitVec 32 := Scalar.select v36 1#32 4#32
  let v38 : BitVec 32 := Scalar.remsi arg1 v37
  let v39 : BitVec 1 := Scalar.cmpi .ne v38 0#32
  let v40 : BitVec 1 := Scalar.cmpi .slt v38 0#32
  let v41 : BitVec 1 := Scalar.cmpi .slt v37 0#32
  let v42 : BitVec 1 := Scalar.xori v40 v41
  let v43 : BitVec 1 := Scalar.andi v42 v39
  let v44 : BitVec 32 := Scalar.addi v38 v37
  let v45 : BitVec 32 := Scalar.select v43 v44 v38
  Scalar.muli v45 1024#32
theorem pay6_eq (ar : BitVec 32) (a : Fin 128) : k0_pay6 ar (ix2 a (0 : Fin 1)) = tw (tbA ar) 0#32 a.val := by
  have e : k0_pay6 ar = addi (broadcast S128x1 (Scalar.addi (tbA ar) 0#32)) (iota .tc S128x1 32 [0] iota_S128x1_d0_w32) := rfl
  rw [e]
  generalize tbA ar = tb
  pointwise
  rfl
theorem pay7_eq (ar : BitVec 32) (x : Fin 256) : k0_pay7 ar (ix2 (0 : Fin 1) x) = tw (tbA ar) 4294967280#32 x.val := by
  have e : k0_pay7 ar = addi (broadcast S1x256 (Scalar.addi (tbA ar) 4294967280#32)) (iota .tc S1x256 32 [1] iota_S1x256_d1_w32) := rfl
  rw [e]
  generalize tbA ar = tb
  pointwise
  rfl

section
variable (lo hi tb : BitVec 32) (e : FVec Ideal S1056x2048 .bf16) (h : Vec Ideal S128x2048 .bf16) (a : Fin 128) (k : Fin 2048)
theorem p0 (ar : BitVec 32) : k0_pay9 (F := Ideal) hi e (k0_pay6 ar) (k0_pay7 ar) (k0_pay8 lo) h (ix2 a k)
      = piece lo hi (tbA ar) 0#32 4294967280#32 (fun x => e (ix2 (⟨0 + x.val, by omega⟩ : Fin 1056) k)) (h (ix2 a k)) a.val := by
  have g : ∀ (v66 : IVec S128x1 32) (v70 : IVec S1x256 32), k0_pay9 (F := Ideal) hi e v66 v70 (k0_pay8 lo) h (ix2 a k)
      = Ideal.div (∑ x : Fin 256, Scalar.select (inW (v70 (ix2 (0 : Fin 1) x)) (lw lo (v66 (ix2 a (0 : Fin 1)))) (hw hi (v66 (ix2 a (0 : Fin 1))))) (e (ix2 (⟨0 + x.val, by omega⟩ : Fin 1056) k)) 0)
    (FloatOps.sitofp (F := Ideal) .f32 (IntOp.addi (IntOp.subi (hw hi (v66 (ix2 a (0 : Fin 1)))) (lw lo (v66 (ix2 a (0 : Fin 1))))) 1#32)) - h (ix2 a k) := by
    intro v66 v70
    pointwise [k0_pay9, k0_pay8]
    try rfl
  rw [g, pay6_eq]
  simp only [pay7_eq]
theorem p1 : k0_pay15 (F := Ideal) e (k0_pay11 tb) (k0_pay12 lo tb) (k0_pay13 hi tb) (k0_pay14 tb) h (ix2 a k)
      = piece lo hi tb 128#32 112#32 (fun x => e (ix2 (⟨128 + x.val, by omega⟩ : Fin 1056) k)) (h (ix2 a k)) a.val := by
  pointwise [k0_pay15, k0_pay11, k0_pay12, k0_pay13, k0_pay14, k0_pay10]
  rfl
theorem p2 : k0_pay22 (F := Ideal) e (k0_pay17 lo tb) (k0_pay18 hi tb) (k0_pay19 lo hi tb) (k0_pay20 (F := Ideal)) (k0_pay21 (F := Ideal)) h (ix2 a k)
      = piece lo hi tb 256#32 240#32 (fun x => e (ix2 (⟨256 + x.val, by omega⟩ : Fin 1056) k)) (h (ix2 a k)) a.val := by
  pointwise [k0_pay22, k0_pay17, k0_pay18, k0_pay19, k0_pay20, k0_pay21, k0_pay16]
  rfl
theorem p3 : k0_pay28 (F := Ideal) (k0_pay26 lo hi tb e) (k0_pay27 (F := Ideal) lo hi tb) h (ix2 a k)
      = piece lo hi tb 384#32 368#32 (fun x => e (ix2 (⟨384 + x.val, by omega⟩ : Fin 1056) k)) (h (ix2 a k)) a.val := by
  pointwise [k0_pay28, k0_pay26, k0_pay27, k0_pay23, k0_pay24, k0_pay25]
  rfl
theorem p4 : k0_pay29 (F := Ideal) lo hi tb e h (ix2 a k)
      = piece lo hi tb 512#32 496#32 (fun x => e (ix2 (⟨512 + x.val, by omega⟩ : Fin 1056) k)) (h (ix2 a k)) a.val := by
  pointwise [k0_pay29]
  rfl
theorem p5 : k0_pay30 (F := Ideal) lo hi tb e 640#32 h (ix2 a k)
      = piece lo hi tb 640#32 624#32 (fun x => e (ix2 (⟨640 + x.val, by omega⟩ : Fin 1056) k)) (h (ix2 a k)) a.val := by
  pointwise [k0_pay30]
  rfl
theorem p6 : k0_pay34 (F := Ideal) hi e (k0_pay31 tb) (k0_pay32 tb) (k0_pay33 lo) h (ix2 a k)
      = piece lo hi tb 768#32 752#32 (fun x => e (ix2 (⟨768 + x.val, by omega⟩ : Fin 1056) k)) (h (ix2 a k)) a.val := by
  pointwise [k0_pay34, k0_pay31, k0_pay32, k0_pay33]
  rfl
theorem p7 : lastP e (k0_pay36 tb) (k0_pay37 lo tb) (k0_pay38 hi tb) (k0_pay39 tb) h (ix2 a k)
      = piece lo hi tb 896#32 784#32 (fun x => e (ix2 (⟨800 + x.val, by omega⟩ : Fin 1056) k)) (h (ix2 a k)) a.val := by
  pointwise [lastP, k0_pay36, k0_pay37, k0_pay38, k0_pay39, k0_pay35]
  rfl
end

theorem crow_apply (cu : Vec Ideal S1024x2048 .bf16) (r : ℕ) (hr) (a : Fin 128) (k : Fin 2048) (h : r + a.val < 1024) :
    crow cu r hr (ix2 a k) = cu (ix2 (⟨r + a.val, h⟩ : Fin 1024) k) :=
  congrArg cu (funext fun x => Fin.ext (by
    match x with
    | 0 => show r + 1 * a.val = r + a.val; omega
    | 1 => show 0 + 1 * k.val = k.val; omega))

/-- A piece at an index. -/
theorem pc_apply (lo hi tb : BitVec 32) (e : FVec Ideal S1056x2048 .bf16) (cu : Vec Ideal S1024x2048 .bf16) (ar : BitVec 32) (har : tbA ar = tb) (j : Fin 8) (a : Fin 128) (k : Fin 2048) :
    pc lo hi tb e cu ar j (ix2 a k) = piece lo hi tb (oT j) (oU j) (fun x => e (ix2 (⟨st j + x.val, st_le j x⟩ : Fin 1056) k))
      (cu (ix2 (⟨128 * j.val + a.val, by omega⟩ : Fin 1024) k)) a.val := by
  subst har
  match j with
  | 0 => exact (p0 lo hi e _ a k ar).trans (by rw [crow_apply _ _ _ _ _ (by omega)]; rfl)
  | 1 => exact (p1 lo hi _ e _ a k).trans (by rw [crow_apply _ _ _ _ _ (by omega)]; rfl)
  | 2 => exact (p2 lo hi _ e _ a k).trans (by rw [crow_apply _ _ _ _ _ (by omega)]; rfl)
  | 3 => exact (p3 lo hi _ e _ a k).trans (by rw [crow_apply _ _ _ _ _ (by omega)]; rfl)
  | 4 => exact (p4 lo hi _ e _ a k).trans (by rw [crow_apply _ _ _ _ _ (by omega)]; rfl)
  | 5 => exact (p5 lo hi _ e _ a k).trans (by rw [crow_apply _ _ _ _ _ (by omega)]; rfl)
  | 6 => exact (p6 lo hi _ e _ a k).trans (by rw [crow_apply _ _ _ _ _ (by omega)]; rfl)
  | 7 => exact (p7 lo hi _ e _ a k).trans (by rw [crow_apply _ _ _ _ _ (by omega)]; rfl)

/-- The pieces, one below another. -/
def cat (P : Fin 8 → FVec Ideal S128x2048 .bf16) : FVec Ideal S1024x2048 .bf16 :=
  concatenate S1024x2048 0 [⟨S128x2048, P 0⟩, ⟨S128x2048, P 1⟩, ⟨S128x2048, P 2⟩, ⟨S128x2048, P 3⟩, ⟨S128x2048, P 4⟩, ⟨S128x2048, P 5⟩, ⟨S128x2048, P 6⟩, ⟨S128x2048, P 7⟩]
    concatenates_S128x2048_S128x2048_S128x2048_S128x2048_S128x2048_S128x2048_S128x2048_S128x2048_S1024x2048_d0
theorem cat_apply (P : Fin 8 → FVec Ideal S128x2048 .bf16) (r : Fin 1024) (k : Fin 2048) :
    cat P (ix2 r k) = P ⟨r.val / 128, by omega⟩ (ix2 (⟨r.val % 128, by omega⟩ : Fin 128) k) :=
  concatenate_ofFn_apply (t := S1024x2048) (s₁ := S128x2048) 0 P
    concatenates_S128x2048_S128x2048_S128x2048_S128x2048_S128x2048_S128x2048_S128x2048_S128x2048_S1024x2048_d0 rfl 128 rfl (ix2 r k) ⟨r.val / 128, by omega⟩ rfl _ rfl
    (fun b hb => by
      match b with
      | 0 => exact absurd rfl hb
      | 1 => rfl)

/-- The three blocks, one below another. -/
theorem ext_apply (p : Vec Ideal S16x2048 .bf16) (cu : Vec Ideal S1024x2048 .bf16) (nx : Vec Ideal S16x2048 .bf16) (r : Fin 1056) (k : Fin 2048) :
    k0_pay4 (F := Ideal) p cu nx (ix2 r k) = if h : r.val < 16 then p (ix2 (⟨r.val, h⟩ : Fin 16) k)
      else if h' : r.val - 16 < 1024 then cu (ix2 (⟨r.val - 16, h'⟩ : Fin 1024) k) else nx (ix2 (⟨r.val - 16 - 1024, by omega⟩ : Fin 16) k) := by
  pointwise [k0_pay4]

/-- The gate. -/
theorem gate_apply (cu : Vec Ideal S1024x2048 .bf16) (wg : Vec Ideal S2048x1024 .bf16) (r q : Fin 1024) (x : EReal)
    (hx : ∑ k : Fin 2048, cu (ix2 r k) * wg (ix2 k q) = x) :
    k0_pay5 (F := Ideal) cu wg (ix2 r q) = Ideal.ofBits .f32 0x3F000000#32 * x + Ideal.ofBits .f32 0x3F000000#32 * x * Ideal.tanh (Ideal.ofBits .f32 0x3F000000#32 * x) := by
  subst hx
  pointwise [k0_pay5]

/-- What the last payload makes of the pieces. -/
def comb (P : FVec Ideal S1024x2048 .bf16) (v62 : FVec Ideal S1024x1024 .f32) (wf : Vec Ideal S1x2048x1024 .bf16) (sc : Vec Ideal S1x1024 .f32) : FVec Ideal S1024x1024 .bf16 :=
  truncf .bf16 (mulf (mulf (matmul dot_S1024x2048_S2048x1024_S1024x1024_1_0_0_1_n_n none P (shapeCast S2048x1024 wf shapeCasts_S1x2048x1024_S2048x1024 : FVec Ideal S2048x1024 .bf16) (constant S1024x1024 .f32 0x00000000#32))
    (broadcastTo S1024x1024 (shapeCast S1x1024 sc shapeCasts_S1x1024_S1x1024 : FVec Ideal S1x1024 .f32) broadcasts_S1x1024_S1024x1024)) v62) bitsLt_bf16_f32
theorem comb_apply (P : FVec Ideal S1024x2048 .bf16) (v62 : FVec Ideal S1024x1024 .f32) (wf : Vec Ideal S1x2048x1024 .bf16) (sc : Vec Ideal S1x1024 .f32) (r q : Fin 1024) :
    comb P v62 wf sc (ix2 r q) = (∑ k : Fin 2048, P (ix2 r k) * wf (ix3 (0 : Fin 1) k q)) * sc (ix2 (0 : Fin 1) q) * v62 (ix2 r q) := by
  pointwise [comb]

theorem outv_eq (i : grid0.Coords) (p : Vec Ideal S16x2048 .bf16) (cu : Vec Ideal S1024x2048 .bf16) (nx : Vec Ideal S16x2048 .bf16) (wf : Vec Ideal S1x2048x1024 .bf16)
    (wg : Vec Ideal S2048x1024 .bf16) (sc : Vec Ideal S1x1024 .f32) :
    outv i p cu nx wf wg sc = comb (cat (pc (loW i) (hiW i) (tbW i) (k0_pay4 p cu nx) cu (BitVec.ofNat 32 (i 1).val))) (k0_pay5 cu wg) wf sc := rfl

end Cert.Kernel10Ideal.Hand

end
-- ==== Proof.PoolR.lean ====
module

public import proofs.«01_k».proof.Proof.Words
public import proofs.«01_k».proof.Proof.Gen.Reference10Ideal.Run
public import proofs.«01_k».proof.Proof.Gen.Reference10Ideal.Read
public import Idealize.ShloMosaic.Lib.Routing.Ops

@[expose] public section

set_option maxRecDepth 16384

noncomputable section

namespace Cert.Reference10Ideal.Hand

open Cert.Reference10Ideal Cert.Reference10Ideal.Gen Cert.Reference10Ideal.Read
open Idealize.ShloMosaic Idealize.ShloMosaic.TcCoe Idealize.ShloMosaic.Tactic

/-! ## The running sums -/

/-- A fold of sums is the sum. -/
theorem foldl_sum {n : ℕ} (f : Fin n → EReal) (a : EReal) : (List.finRange n).foldl (fun r k => r + f k) a = a + ∑ k, f k := by
  have h : ∀ (l : List (Fin n)) (a : EReal), l.foldl (fun r k => r + f k) a = a + (l.map f).sum := by
    intro l
    induction l with
    | nil => intro a; simp
    | cons x l ih => intro a; rw [List.foldl_cons, ih, List.map_cons, List.sum_cons, add_assoc]
  rw [h, ← List.sum_ofFn, List.ofFn_eq_map]

/-- The running sum along the rows of a sequence. -/
abbrev csT (x : FVec Ideal S4x4096x1024 .f32) (v : FVec Ideal S_ .f32) : FVec Ideal S4x4096x1024 .f32 :=
  Host.reduceWindowAdd ![1, 4096, 1] ![1, 1, 1] ![0, 4095, 0] ![0, 0, 0] x v reduceWindows_S4x4096x1024_S4x4096x1024_w1s1p0_0_w4096s1p4095_0_w1s1p0_0 h_S_

theorem win_at (n : Fin (⟨3, ![1, 4096, 1]⟩ : Shape).numel) :
    (((⟨3, ![1, 4096, 1]⟩ : Shape).rowMajor.symm n) 0).val = 0 ∧ (((⟨3, ![1, 4096, 1]⟩ : Shape).rowMajor.symm n) 1).val = n.val
      ∧ (((⟨3, ![1, 4096, 1]⟩ : Shape).rowMajor.symm n) 2).val = 0 := by
  generalize hp : (⟨3, ![1, 4096, 1]⟩ : Shape).rowMajor.symm n = p
  have e : (⟨3, ![1, 4096, 1]⟩ : Shape).rowMajor p = n := by rw [← hp, Equiv.apply_symm_apply]
  have h0 : (p 0).val < 1 := (p 0).isLt
  have h2 : (p 2).val < 1 := (p 2).isLt
  have e' : ((p 0).val * 4096 + (p 1).val) * 1 + (p 2).val = n.val := by
    rw [← e]; exact (Shape.rowMajor_val_three p).symm
  exact ⟨by omega, by omega, by omega⟩

theorem csT_apply (x : FVec Ideal S4x4096x1024 .f32) (v : FVec Ideal S_ .f32) (hv : v (Shape.Idx.first h_S_) = 0) (b : Fin 4) (j : Fin 4096) (e : Fin 1024) :
    csT x v (ix3 b j e) = ∑ u : Fin 4096, if u.val ≤ j.val then x (ix3 b u e) else 0 := by
  have hj := j.isLt
  unfold csT Host.reduceWindowAdd
  rw [Ideal.hostReduceWindowAdd_def, hv]
  unfold Ideal.hostReduceWindowAdd Host.reduceWindow
  refine (foldl_sum _ 0).trans ?_
  rw [zero_add]
  have hN : (⟨3, ![1, 4096, 1]⟩ : Shape).numel = 4096 := by decide
  let G : ℕ → EReal := fun w => if h : 4095 ≤ j.val + w ∧ j.val + w - 4095 < 4096 then x (ix3 b ⟨j.val + w - 4095, h.2⟩ e) else 0
  refine (Finset.sum_congr (M := EReal) rfl (g := fun n => G n.val) fun n _ => ?_).trans ?_
  · obtain ⟨w0, w1, w2⟩ := win_at n
    have hb := b.isLt
    have he := e.isLt
    have hn : n.val < 4096 := lt_of_lt_of_eq n.isLt hN
    dsimp only [G]
    split
    · next hin =>
      have h0 := hin 1
      change 4095 ≤ j.val * 1 + (((⟨3, ![1, 4096, 1]⟩ : Shape).rowMajor.symm n) 1).val ∧ j.val * 1 + (((⟨3, ![1, 4096, 1]⟩ : Shape).rowMajor.symm n) 1).val - 4095 < 4096 at h0
      rw [w1] at h0
      rw [dif_pos (by omega)]
      refine congrArg x (funext fun a => Fin.ext ?_)
      match a with
      | ⟨0, _⟩ => show b.val * 1 + (((⟨3, ![1, 4096, 1]⟩ : Shape).rowMajor.symm n) 0).val - 0 = b.val; rw [w0]; omega
      | ⟨1, _⟩ => show j.val * 1 + (((⟨3, ![1, 4096, 1]⟩ : Shape).rowMajor.symm n) 1).val - 4095 = j.val + n.val - 4095; rw [w1]; omega
      | ⟨2, _⟩ => show e.val * 1 + (((⟨3, ![1, 4096, 1]⟩ : Shape).rowMajor.symm n) 2).val - 0 = e.val; rw [w2]; omega
    · next hin =>
      rw [dif_neg fun hle => hin fun a => by
        match a with
        | ⟨0, _⟩ =>
          show 0 ≤ b.val * 1 + (((⟨3, ![1, 4096, 1]⟩ : Shape).rowMajor.symm n) 0).val ∧ b.val * 1 + (((⟨3, ![1, 4096, 1]⟩ : Shape).rowMajor.symm n) 0).val - 0 < 4
          rw [w0]; omega
        | ⟨1, _⟩ =>
          show 4095 ≤ j.val * 1 + (((⟨3, ![1, 4096, 1]⟩ : Shape).rowMajor.symm n) 1).val ∧ j.val * 1 + (((⟨3, ![1, 4096, 1]⟩ : Shape).rowMajor.symm n) 1).val - 4095 < 4096
          rw [w1]; omega
        | ⟨2, _⟩ =>
          show 0 ≤ e.val * 1 + (((⟨3, ![1, 4096, 1]⟩ : Shape).rowMajor.symm n) 2).val ∧ e.val * 1 + (((⟨3, ![1, 4096, 1]⟩ : Shape).rowMajor.symm n) 2).val - 0 < 1024
          rw [w2]; omega]
  · let H : ℕ → EReal := fun u => if h : u < 4096 then (if u ≤ j.val then x (ix3 b ⟨u, h⟩ e) else 0) else 0
    have eR : (∑ u : Fin 4096, if u.val ≤ j.val then x (ix3 b u e) else 0) = ∑ u ∈ Finset.range 4096, H u := by
      rw [Finset.sum_range]
      exact Finset.sum_congr (M := EReal) rfl fun u _ => by dsimp only [H]; rw [dif_pos u.isLt]
    rw [Fin.sum_univ_eq_sum_range, hN, eR]
    have l : ∑ w ∈ Finset.range 4096, G w = ∑ u ∈ Finset.range (j.val + 1), H u := by
      conv_lhs => rw [show 4096 = (4095 - j.val) + (j.val + 1) by omega, Finset.sum_range_add]
      rw [Finset.sum_eq_zero fun w hw => by
        have := Finset.mem_range.1 hw
        dsimp only [G]; rw [dif_neg (by omega)], zero_add]
      refine Finset.sum_congr (M := EReal) rfl fun u hu => ?_
      have := Finset.mem_range.1 hu
      dsimp only [G, H]
      rw [dif_pos (by omega), dif_pos (by omega), if_pos (by omega)]
      exact congrArg (fun n => x (ix3 b n e)) (Fin.ext (by show j.val + (4095 - j.val + u) - 4095 = u; omega))
    have r : ∑ u ∈ Finset.range 4096, H u = ∑ u ∈ Finset.range (j.val + 1), H u := by
      conv_lhs => rw [show 4096 = (j.val + 1) + (4095 - j.val) by omega, Finset.sum_range_add]
      rw [Finset.sum_eq_zero (s := Finset.range (4095 - j.val)) fun w hw => by
        have := Finset.mem_range.1 hw
        dsimp only [H]; rw [dif_pos (by omega), if_neg (by omega)], add_zero]
    rw [l, r]

/-! ## The sums with a leading zero -/

abbrev padT (x : FVec Ideal S4x4096x1024 .f32) (v : FVec Ideal S_ .f32) : FVec Ideal S4x4097x1024 .f32 :=
  pad S4x4097x1024 ![0, 1, 0] ![0, 0, 0] ![0, 0, 0] x v pads_S4x4096x1024_S4x4097x1024_000_100_000 h_S_

theorem padT_apply (x : FVec Ideal S4x4096x1024 .f32) (v : FVec Ideal S_ .f32) (hv : v (Shape.Idx.first h_S_) = 0) (b : Fin 4) (n : Fin 4097) (e : Fin 1024) :
    padT x v (ix3 b n e) = if h : 1 ≤ n.val then x (ix3 b ⟨n.val - 1, by omega⟩ e) else 0 := by
  unfold padT pad
  split
  · next hin =>
    have h1 : 1 ≤ n.val := (hin 1).1
    rw [dif_pos h1]
    refine congrArg x (funext fun a => Fin.ext ?_)
    match a with
    | ⟨0, _⟩ => show (b.val - 0) / (0 + 1) = b.val; omega
    | ⟨1, _⟩ => show (n.val - 1) / (0 + 1) = n.val - 1; omega
    | ⟨2, _⟩ => show (e.val - 0) / (0 + 1) = e.val; omega
  · next hin =>
    have hn := n.isLt
    have hb := b.isLt
    have he := e.isLt
    rw [dif_neg fun h1 => hin fun a => by
      match a with
      | ⟨0, _⟩ => show 0 ≤ b.val ∧ (b.val - 0) % (0 + 1) = 0 ∧ (b.val - 0) / (0 + 1) < 4; omega
      | ⟨1, _⟩ => show 1 ≤ n.val ∧ (n.val - 1) % (0 + 1) = 0 ∧ (n.val - 1) / (0 + 1) < 4096; omega
      | ⟨2, _⟩ => show 0 ≤ e.val ∧ (e.val - 0) % (0 + 1) = 0 ∧ (e.val - 0) / (0 + 1) < 1024; omega]
    exact hv

/-! ## Rows by their words -/

abbrev wrapT (w : IVec S4096 32) : IVec S4096x1 32 :=
  broadcastInDim S4096x1 ![0] bcast_S4096_S4096x1_0 (select (cmpi .slt w (broadcastInDim S4096 ![] bcast_S_S4096 (constantI S_ 32 0#32)))
    (addi w (broadcastInDim S4096 ![] bcast_S_S4096 (constantI S_ 32 4097#32))) w)
/-- The rows of the sums at the given words. -/
abbrev takeT (x : FVec Ideal S4x4097x1024 .f32) (w : IVec S4096 32) : FVec Ideal S4x4096x1024 .f32 :=
  select (broadcastInDim S4x4096x1024 ![1] bcast_S4096_S4x4096x1024_1 (Host.reduce IntOp.andi (andi (cmpi .sge (wrapT w) (broadcastInDim S4096x1 ![] bcast_S_S4096x1 (constantI S_ 32 0#32)))
      (cmpi .sle (wrapT w) (broadcastInDim S4096x1 ![0, 1] bcast_S1x1_S4096x1_0_1 (broadcastInDim S1x1 ![1] bcast_S1_S1x1_1 (constantI S1 32 4096#32)))))
      (constantI S_ 1 1#1) reducesTo_S4096x1_S4096_d1 h_S_))
    (Host.gather gather_S4x4097x1024_S4096x1_S4x4096x1024_02_1_n_n_1_1_411024 x (wrapT w))
    (broadcastInDim S4x4096x1024 ![] bcast_S_S4x4096x1024 (constant S_ .f32 0x7FC00000#32))

theorem v23_take (x0 : (⟨S16384x2048, .f32⟩ : BufTy).Contents (Elt Ideal)) (x1 : (⟨S1x2048x8192, .f32⟩ : BufTy).Contents (Elt Ideal)) :
    val_main_v23 (F := Ideal) x0 x1 = takeT (padT (csT (val_main_v8 (F := Ideal) x0 x1) (val_main_call0_v0 (F := Ideal))) (val_main_call1_v0 (F := Ideal))) (val_main_v22 (F := Ideal)) := rfl

theorem wrapW : ∀ n : Fin 4097, Scalar.select (IntOp.cmpi .slt (BitVec.ofNat 32 n.val) 0#32) (IntOp.addi (BitVec.ofNat 32 n.val) 4097#32) (BitVec.ofNat 32 n.val) = BitVec.ofNat 32 n.val := by
  decide +kernel
theorem inW : ∀ n : Fin 4097, IntOp.andi (IntOp.cmpi .sge (BitVec.ofNat 32 n.val) 0#32) (IntOp.cmpi .sle (BitVec.ofNat 32 n.val) 4096#32) = 1#1 := by
  decide +kernel
theorem toIntW : ∀ n : Fin 4097, (BitVec.ofNat 32 n.val).toInt = n.val := by decide +kernel

theorem wrapT_apply (w : IVec S4096 32) (f : Fin 4096 → Fin 4097) (hw : ∀ t, w (ix1 t) = BitVec.ofNat 32 (f t).val) (t : Fin 4096) :
    wrapT w (ix2 t (0 : Fin 1)) = BitVec.ofNat 32 (f t).val := by
  have e : wrapT w (ix2 t (0 : Fin 1)) = Scalar.select (IntOp.cmpi .slt (w (ix1 t)) 0#32) (IntOp.addi (w (ix1 t)) 4097#32) (w (ix1 t)) := by
    pointwise [wrapT]
  rw [e, hw]
  exact wrapW (f t)

theorem gather_apply (x : FVec Ideal S4x4097x1024 .f32) (idx : IVec S4096x1 32) (f : Fin 4096 → Fin 4097) (hw : ∀ t, idx (ix2 t (0 : Fin 1)) = BitVec.ofNat 32 (f t).val)
    (b : Fin 4) (t : Fin 4096) (e : Fin 1024) :
    Host.gather gather_S4x4097x1024_S4096x1_S4x4096x1024_02_1_n_n_1_1_411024 x idx (ix3 b t e) = x (ix3 b (f t) e) := by
  unfold Host.gather
  refine congrArg x (funext fun a => Fin.ext ?_)
  match a with
  | ⟨0, _⟩ => show GatherDims.start _ _ idx 0 + GatherDims.batchCoord _ _ 0 + GatherDims.offCoord _ _ 0 = b.val; exact (show 0 + 0 + b.val = b.val by omega)
  | ⟨2, _⟩ => show GatherDims.start _ _ idx 2 + GatherDims.batchCoord _ _ 2 + GatherDims.offCoord _ _ 2 = e.val; exact (show 0 + 0 + e.val = e.val by omega)
  | ⟨1, _⟩ =>
    show GatherDims.start gather_S4x4097x1024_S4096x1_S4x4096x1024_02_1_n_n_1_1_411024 (ix3 b t e) idx 1 + GatherDims.batchCoord gather_S4x4097x1024_S4096x1_S4x4096x1024_02_1_n_n_1_1_411024 (ix3 b t e) 1 + GatherDims.offCoord gather_S4x4097x1024_S4096x1_S4x4096x1024_02_1_n_n_1_1_411024 (ix3 b t e) 1 = (f t).val
    have h0 : GatherDims.batchCoord gather_S4x4097x1024_S4096x1_S4x4096x1024_02_1_n_n_1_1_411024 (ix3 b t e) 1 = 0 := rfl
    have h1 : GatherDims.offCoord gather_S4x4097x1024_S4096x1_S4x4096x1024_02_1_n_n_1_1_411024 (ix3 b t e) 1 = 0 := rfl
    rw [h0, h1]
    unfold GatherDims.start
    rw [dif_pos (show (1 : Fin 3) ∈ gather_S4x4097x1024_S4096x1_S4x4096x1024_02_1_n_n_1_1_411024.startIndexMap from List.mem_singleton.mpr rfl)]
    refine (congrArg (fun (w : BitVec 32) => min w.toInt.toNat (4097 - 1) + 0 + 0) ((congrArg idx (funext fun a' => Fin.ext ?_)).trans (hw t))).trans ?_
    · match a' with
      | ⟨0, _⟩ => rfl
      | ⟨1, _⟩ => rfl
    · have := (f t).isLt
      show min (BitVec.ofNat 32 (f t).val).toInt.toNat (4097 - 1) + 0 + 0 = (f t).val
      rw [toIntW]
      omega

theorem all_one (x : IVec S4096x1 1) (hx : ∀ i, x i = 1#1) (j : S4096.Idx) :
    Host.reduce IntOp.andi x (constantI S_ 1 1#1) reducesTo_S4096x1_S4096_d1 h_S_ j = 1#1 :=
  Host.reduce_andi_one _ _ _ _ _ rfl hx

theorem takeT_apply (x : FVec Ideal S4x4097x1024 .f32) (w : IVec S4096 32) (f : Fin 4096 → Fin 4097) (hw : ∀ t, w (ix1 t) = BitVec.ofNat 32 (f t).val)
    (b : Fin 4) (t : Fin 4096) (e : Fin 1024) : takeT x w (ix3 b t e) = x (ix3 b (f t) e) := by
  have hm : ∀ i, andi (cmpi .sge (wrapT w) (broadcastInDim S4096x1 ![] bcast_S_S4096x1 (constantI S_ 32 0#32)))
      (cmpi .sle (wrapT w) (broadcastInDim S4096x1 ![0, 1] bcast_S1x1_S4096x1_0_1 (broadcastInDim S1x1 ![1] bcast_S1_S1x1_1 (constantI S1 32 4096#32)))) i = 1#1 := fun i => by
    have ei : i = ix2 (i 0 : Fin 4096) (0 : Fin 1) := funext fun a => by
      match a with
      | 0 => rfl
      | 1 => exact Fin.ext (by have := (i 1).isLt; change (i 1).val < 1 at this; show (i 1).val = 0; omega)
    rw [ei]
    refine Eq.trans ?_ (inW (f (i 0)))
    rw [← wrapT_apply w f hw (i 0)]
    generalize wrapT w = q
    pointwise
  have hr := fun j => Cert.Reference10Ideal.Hand.all_one _ hm j
  have es : ∀ (m : IVec S4x4096x1024 1) (p q : FVec Ideal S4x4096x1024 .f32), m (ix3 b t e) = 1#1 → select m p q (ix3 b t e) = p (ix3 b t e) := fun m p q h => by
    show Scalar.select (m (ix3 b t e)) _ _ = _
    rw [h]; rfl
  refine (es _ _ _ ?_).trans (gather_apply x _ f (wrapT_apply w f hw) b t e)
  generalize hq : Host.reduce IntOp.andi _ _ reducesTo_S4096x1_S4096_d1 h_S_ = q at hr ⊢
  exact hr _

/-! ## One window's mean -/

/-- The running sum up to and with row `n` less one. -/
theorem sums_apply (x : FVec Ideal S4x4096x1024 .f32) (v v' : FVec Ideal S_ .f32) (hv : v (Shape.Idx.first h_S_) = 0) (hv' : v' (Shape.Idx.first h_S_) = 0)
    (b : Fin 4) (n : Fin 4097) (e : Fin 1024) : padT (csT x v) v' (ix3 b n e) = ∑ u : Fin 4096, if u.val < n.val then x (ix3 b u e) else 0 := by
  rw [padT_apply _ _ hv']
  split
  · next h =>
    rw [csT_apply _ _ hv]
    refine Finset.sum_congr (M := EReal) rfl fun u _ => ?_
    exact if_congr (by show u.val ≤ n.val - 1 ↔ u.val < n.val; omega) rfl rfl
  · next h => exact (Finset.sum_eq_zero (M := EReal) fun u _ => if_neg (by omega)).symm

end Cert.Reference10Ideal.Hand

end
-- ==== Proof.PoolT.lean ====
module

public import proofs.«01_k».proof.Proof.PoolR

@[expose] public section

set_option maxRecDepth 16384

noncomputable section

namespace Cert.Pool

open Idealize.ShloMosaic

/-! ## The windows -/

/-- The first row of window `w` at row `t`. -/
def Lo (w t : ℕ) : ℕ := t - 2 ^ w
/-- The last row of window `w` at row `t`. -/
def Hi (w t : ℕ) : ℕ := min (t + 2 ^ w - 1) 4095

theorem lo_le (w t : ℕ) (ht : t < 4096) : Lo w t ≤ Hi w t := by
  have h : 1 ≤ 2 ^ w := Nat.one_le_two_pow
  unfold Lo Hi; omega
theorem hi_le (w t : ℕ) : Hi w t ≤ 4095 := Nat.min_le_right _ _

theorem lo_k : ∀ (w : Fin 4) (t : Fin 4096), IntOp.maxsi (IntOp.subi (BitVec.ofNat 32 t.val) (BitVec.ofNat 32 (2 ^ w.val))) 0#32 = BitVec.ofNat 32 (Lo w.val t.val) := by
  decide +kernel
theorem hi_k : ∀ (w : Fin 4) (t : Fin 4096), IntOp.minsi (IntOp.addi (BitVec.ofNat 32 t.val) (BitVec.ofNat 32 (2 ^ w.val - 1))) 4095#32 = BitVec.ofNat 32 (Hi w.val t.val) := by
  decide +kernel
theorem cnt_k : ∀ (w : Fin 4) (t : Fin 4096), IntOp.addi (IntOp.subi (BitVec.ofNat 32 (Hi w.val t.val)) (BitVec.ofNat 32 (Lo w.val t.val))) 1#32
    = BitVec.ofNat 32 (Hi w.val t.val - Lo w.val t.val + 1) := by
  decide +kernel
theorem lo_r : ∀ (w : Fin 4) (t : Fin 4096), IntOp.minsi 4095#32 (IntOp.maxsi 0#32 (IntOp.subi (BitVec.ofNat 32 t.val) (BitVec.ofNat 32 (2 ^ w.val))))
    = BitVec.ofNat 32 (Lo w.val t.val) := by
  decide +kernel
theorem hi_r : ∀ (w : Fin 4) (t : Fin 4096), IntOp.minsi 4095#32 (IntOp.maxsi 0#32 (IntOp.subi (IntOp.subi (IntOp.addi (BitVec.ofNat 32 t.val)
    (BitVec.ofNat 32 (2 ^ (w.val + 1)))) 1#32) (BitVec.ofNat 32 (2 ^ w.val)))) = BitVec.ofNat 32 (Hi w.val t.val) := by
  decide +kernel

/-- The number of rows of the window. -/
def cnt (w t : ℕ) : EReal := (((Hi w t - Lo w t + 1 : ℕ) : ℝ) : EReal)

theorem cnt_sitofp (w : Fin 4) (t : Fin 4096) : (FloatOps.sitofp (F := Ideal) .f32 (IntOp.addi (IntOp.subi (BitVec.ofNat 32 (Hi w.val t.val)) (BitVec.ofNat 32 (Lo w.val t.val))) 1#32) : EReal)
    = cnt w.val t.val := by
  rw [cnt_k]
  have h := hi_le w.val t.val
  have e : (BitVec.ofNat 32 (Hi w.val t.val - Lo w.val t.val + 1)).toInt = ((Hi w.val t.val - Lo w.val t.val + 1 : ℕ) : ℤ) :=
    Cert.Reference10Ideal.Hand.toIntW ⟨_, by omega⟩
  show (((BitVec.ofNat 32 (Hi w.val t.val - Lo w.val t.val + 1)).toInt : ℝ) : EReal) = _
  rw [e]; rfl

/-! ## Sums over real numbers -/

theorem coe_sum {ι : Type} [Fintype ι] (f : ι → ℝ) : ∑ k, (f k : EReal) = ((∑ k, f k : ℝ) : EReal) :=
  (map_sum (⟨⟨Real.toEReal, EReal.coe_zero⟩, EReal.coe_add⟩ : ℝ →+ EReal) _ _).symm
theorem coe_ite (p : Prop) [Decidable p] (a : ℝ) : (if p then (a : EReal) else 0) = ((if p then a else 0 : ℝ) : EReal) := by
  split <;> simp

theorem sum_diff (x : Fin 4096 → EReal) (hx : ∀ u, ∃ r : ℝ, x u = (r : EReal)) (l h : ℕ) (hlh : l ≤ h) :
    (∑ u, if u.val < h + 1 then x u else 0) - (∑ u, if u.val < l then x u else 0) = ∑ u, if l ≤ u.val ∧ u.val ≤ h then x u else 0 := by
  choose r hr using hx
  simp only [hr, coe_ite, coe_sum, ← EReal.coe_sub, ← Finset.sum_sub_distrib]
  refine congrArg _ (Finset.sum_congr (M := ℝ) rfl fun u _ => ?_)
  by_cases h1 : u.val < l
  · rw [if_pos (by omega), if_pos h1, if_neg (by omega), sub_self]
  · by_cases h2 : u.val ≤ h
    · rw [if_pos (by omega), if_neg h1, if_pos ⟨by omega, h2⟩, sub_zero]
    · rw [if_neg (by omega), if_neg h1, if_neg (by omega), sub_zero]

/-- The mean over rows passes through the two products with weights. -/
theorem exchange (H : Fin 4096 → Fin 2048 → EReal) (W : Fin 2048 → Fin 1024 → EReal) (P : Fin 1024 → EReal) (hH : ∀ u k, ∃ r : ℝ, H u k = (r : EReal))
    (hW : ∀ k c, ∃ r : ℝ, W k c = (r : EReal)) (hP : ∀ c, ∃ r : ℝ, P c = (r : EReal)) (B : Fin 4096 → Prop) [DecidablePred B] (t : Fin 4096) (n : ℝ) (hn : n ≠ 0) :
    ∑ k, (Ideal.div (∑ u, if B u then H u k else 0) (n : EReal) - H t k) * ∑ c, W k c * P c
      = ∑ c, P c * (Ideal.div (∑ u, if B u then ∑ k, H u k * W k c else 0) (n : EReal) - ∑ k, H t k * W k c) := by
  choose h hh using hH
  choose w hw using hW
  choose p hp using hP
  simp only [hh, hw, hp, ← EReal.coe_mul, coe_sum, coe_ite, Ideal.div_coe hn, ← EReal.coe_sub]
  refine congrArg _ ?_
  have e : ∀ c, (∑ u, if B u then ∑ k, h u k * w k c else 0) = ∑ k, (∑ u, if B u then h u k else 0) * w k c := fun c => by
    simp only [Finset.sum_mul]
    rw [Finset.sum_comm]
    refine Finset.sum_congr (M := ℝ) rfl fun u _ => ?_
    split <;> simp
  simp only [e, Finset.mul_sum, Finset.sum_mul, ← Finset.sum_sub_distrib]
  rw [Finset.sum_comm]
  refine Finset.sum_congr (M := ℝ) rfl fun c _ => Finset.sum_congr (M := ℝ) rfl fun k _ => ?_
  simp only [sub_mul, mul_sub, Finset.sum_mul, Finset.mul_sum]
  refine congrArg₂ _ (Finset.sum_congr (M := ℝ) rfl fun u _ => ?_) ?_ <;> ring

end Cert.Pool

end
-- ==== Proof.PoolW.lean ====
module

public import proofs.«01_k».proof.Proof.PoolP
public import proofs.«01_k».proof.Proof.PoolT
public import Idealize.ShloMosaic.Lib.WordCmp

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic Cert.Pool

/-! ## The kernel's words -/

theorem words : ∀ t : Fin grid0.N, loW (grid0.coords t) = BitVec.ofNat 32 (2 ^ (t.val / 16)) ∧ hiW (grid0.coords t) = BitVec.ofNat 32 (2 ^ (t.val / 16) - 1)
    ∧ tbW (grid0.coords t) = BitVec.ofNat 32 (1024 * (t.val % 16 % 4)) ∧ tbA (BitVec.ofNat 32 (grid0.coords t 1).val) = tbW (grid0.coords t) := by
  decide +kernel
theorem oT_eq : ∀ j : Fin 8, oT j = BitVec.ofNat 32 (128 * j.val) := by decide +kernel
theorem tU : ∀ (q : Fin 4) (j : Fin 8) (x : Fin 256), (tw (BitVec.ofNat 32 (1024 * q.val)) (oU j) x.val).toInt = ((1024 * q.val + st j + x.val : ℕ) : ℤ) - 16 := by
  decide +kernel
theorem pow_le (g : Fin 4) : 2 ^ g.val ≤ 8 := by
  match g with
  | 0 => decide
  | 1 => decide
  | 2 => decide
  | 3 => decide
theorem bit_zero : ∀ c : BitVec 1, c ≠ 1#1 → c = 0#1 := by decide

theorem in_iff (u : BitVec 32) (n L H : ℕ) (hu : u.toInt = (n : ℤ) - 16) (hL : L ≤ 4096) (hH : H ≤ 4096) :
    inW u (BitVec.ofNat 32 L) (BitVec.ofNat 32 H) = 1#1 ↔ L + 16 ≤ n ∧ n ≤ H + 16 := by
  have eL : (BitVec.ofNat 32 L).toInt = (L : ℤ) := Cert.Reference10Ideal.Hand.toIntW ⟨L, by omega⟩
  have eH : (BitVec.ofNat 32 H).toInt = (H : ℤ) := Cert.Reference10Ideal.Hand.toIntW ⟨H, by omega⟩
  unfold inW
  rw [IntOp.andi_eq_one, WordCmp.cmpi_sge_eq, WordCmp.cmpi_sle_eq, WordCmp.ofBool_decide_eq_ite, WordCmp.ofBool_decide_eq_ite, eL, eH, hu]
  constructor
  · rintro ⟨h1, h2⟩
    have h1' : (L : ℤ) ≤ (n : ℤ) - 16 := by
      by_contra h; rw [if_neg h] at h1; exact absurd h1 (by decide)
    have h2' : (n : ℤ) - 16 ≤ (H : ℤ) := by
      by_contra h; rw [if_neg h] at h2; exact absurd h2 (by decide)
    omega
  · rintro ⟨h1, h2⟩
    exact ⟨if_pos (by omega), if_pos (by omega)⟩

/-! ## The sum over a window -/

theorem win_sum (g q : Fin 4) (j : Fin 8) (a : Fin 128) (T : Fin 4096) (hT : T.val = 1024 * q.val + 128 * j.val + a.val) (E : Fin 1056 → EReal) (X : Fin 4096 → EReal)
    (hE : ∀ (r : Fin 1056) (u : Fin 4096), u.val + 16 = 1024 * q.val + r.val → E r = X u) :
    (∑ x : Fin 256, if Lo g.val T.val + 16 ≤ 1024 * q.val + st j + x.val ∧ 1024 * q.val + st j + x.val ≤ Hi g.val T.val + 16 then E ⟨st j + x.val, st_le j x⟩ else 0)
      = ∑ u : Fin 4096, if Lo g.val T.val ≤ u.val ∧ u.val ≤ Hi g.val T.val then X u else 0 := by
  have hp := pow_le g
  have hh := hi_le g.val T.val
  have hl : T.val ≤ Lo g.val T.val + 8 := by unfold Lo; omega
  have hu : Hi g.val T.val ≤ T.val + 7 := by unfold Hi; omega
  have hq := q.isLt
  have hj := j.isLt
  have ha := a.isLt
  have hst : (j.val = 7 ∧ st j = 800) ∨ (j.val < 7 ∧ st j = 128 * j.val) := by
    unfold st; split
    · exact Or.inl ⟨by assumption, rfl⟩
    · exact Or.inr ⟨by omega, rfl⟩
  generalize Lo g.val T.val = L at *
  generalize Hi g.val T.val = H at *
  rw [← Finset.sum_filter, ← Finset.sum_filter]
  refine Finset.sum_bij' (M := EReal) (fun x hx => (⟨1024 * q.val + st j + x.val - 16, by have := (Finset.mem_filter.1 hx).2; omega⟩ : Fin 4096))
    (fun u hu => (⟨u.val + 16 - 1024 * q.val - st j, by have := (Finset.mem_filter.1 hu).2; omega⟩ : Fin 256)) (fun x hx => ?_) (fun u hu => ?_) (fun x hx => ?_) (fun u hu => ?_) (fun x hx => ?_)
  · have h := (Finset.mem_filter.1 hx).2
    refine Finset.mem_filter.2 ⟨Finset.mem_univ _, ?_⟩
    show L ≤ 1024 * q.val + st j + x.val - 16 ∧ 1024 * q.val + st j + x.val - 16 ≤ H
    omega
  · have h := (Finset.mem_filter.1 hu).2
    refine Finset.mem_filter.2 ⟨Finset.mem_univ _, ?_⟩
    show L + 16 ≤ 1024 * q.val + st j + (u.val + 16 - 1024 * q.val - st j) ∧ 1024 * q.val + st j + (u.val + 16 - 1024 * q.val - st j) ≤ H + 16
    omega
  · have h := (Finset.mem_filter.1 hx).2
    exact Fin.ext (by show 1024 * q.val + st j + x.val - 16 + 16 - 1024 * q.val - st j = x.val; omega)
  · have h := (Finset.mem_filter.1 hu).2
    exact Fin.ext (by show 1024 * q.val + st j + (u.val + 16 - 1024 * q.val - st j) - 16 = u.val; omega)
  · have h := (Finset.mem_filter.1 hx).2
    exact hE _ _ (by show 1024 * q.val + st j + x.val - 16 + 16 = 1024 * q.val + (st j + x.val); omega)

theorem piece_eq (g q : Fin 4) (j : Fin 8) (a : Fin 128) (T : Fin 4096) (hT : T.val = 1024 * q.val + 128 * j.val + a.val) (E : Fin 1056 → EReal) (X : Fin 4096 → EReal)
    (hE : ∀ (r : Fin 1056) (u : Fin 4096), u.val + 16 = 1024 * q.val + r.val → E r = X u) (h : EReal) :
    piece (BitVec.ofNat 32 (2 ^ g.val)) (BitVec.ofNat 32 (2 ^ g.val - 1)) (BitVec.ofNat 32 (1024 * q.val)) (oT j) (oU j) (fun x => E ⟨st j + x.val, st_le j x⟩) h a.val
      = Ideal.div (∑ u : Fin 4096, if Lo g.val T.val ≤ u.val ∧ u.val ≤ Hi g.val T.val then X u else 0) (cnt g.val T.val) - h := by
  have eT : tw (BitVec.ofNat 32 (1024 * q.val)) (oT j) a.val = BitVec.ofNat 32 T.val := by
    rw [oT_eq, hT]; unfold tw; rw [WordCmp.addi_ofNat, WordCmp.addi_ofNat]
  unfold piece
  rw [eT]
  unfold lw hw
  rw [lo_k, hi_k, cnt_sitofp, ← win_sum g q j a T hT E X hE]
  refine congrArg (fun z => Ideal.div z _ - h) (Finset.sum_congr (M := EReal) rfl fun x _ => ?_)
  have hh := hi_le g.val T.val
  have hl := lo_le g.val T.val T.isLt
  have e := in_iff _ (1024 * q.val + st j + x.val) (Lo g.val T.val) (Hi g.val T.val) (tU q j x) (by omega) (by omega)
  by_cases hc : inW (tw (BitVec.ofNat 32 (1024 * q.val)) (oU j) x.val) (BitVec.ofNat 32 (Lo g.val T.val)) (BitVec.ofNat 32 (Hi g.val T.val)) = 1#1
  · rw [WordCmp.select_of_eq_one hc, if_pos (e.1 hc)]
  · rw [WordCmp.select_of_eq_zero (bit_zero _ hc), if_neg fun hn => hc (e.2 hn)]

/-- A point's window and its quarter of the sequence. -/
def gOf (t : Fin cfg0.N) : Fin 4 := ⟨t.val / 16, by have ht : t.val < 64 := lt_of_lt_of_eq t.isLt N_0; omega⟩
def qOf (t : Fin cfg0.N) : Fin 4 := ⟨t.val % 16 % 4, by omega⟩
def bOf (t : Fin cfg0.N) : Fin 4 := ⟨t.val % 16 / 4, by omega⟩
/-- Row `r` of a point's block within its sequence. -/
def sOf (t : Fin cfg0.N) (r : Fin 1024) : Fin 4096 := ⟨1024 * (t.val % 16 % 4) + r.val, by omega⟩

theorem cat_at (t : Fin cfg0.N) (e : FVec Ideal S1056x2048 .bf16) (cu : Vec Ideal S1024x2048 .bf16) (k : Fin 2048) (X : Fin 4096 → EReal)
    (hE : ∀ (r : Fin 1056) (u : Fin 4096), u.val + 16 = 1024 * (qOf t).val + r.val → e (ix2 r k) = X u) (r : Fin 1024) :
    cat (pc (loW (grid0.coords t)) (hiW (grid0.coords t)) (tbW (grid0.coords t)) e cu (BitVec.ofNat 32 (grid0.coords t 1).val)) (ix2 r k)
      = Ideal.div (∑ u : Fin 4096, if Lo (gOf t).val (sOf t r).val ≤ u.val ∧ u.val ≤ Hi (gOf t).val (sOf t r).val then X u else 0) (cnt (gOf t).val (sOf t r).val) - cu (ix2 r k) := by
  obtain ⟨w1, w2, w3, w4⟩ := words t
  rw [cat_apply, pc_apply _ _ _ _ _ _ w4, w1, w2, w3]
  have er : (⟨128 * (r.val / 128) + r.val % 128, by omega⟩ : Fin 1024) = r := Fin.ext (by show 128 * (r.val / 128) + r.val % 128 = r.val; omega)
  refine (piece_eq (gOf t) (qOf t) ⟨r.val / 128, by omega⟩ ⟨r.val % 128, by omega⟩ (sOf t r)
    (by show 1024 * (t.val % 16 % 4) + r.val = 1024 * (t.val % 16 % 4) + 128 * (r.val / 128) + r.val % 128; omega) (fun r => e (ix2 r k)) X hE _).trans ?_
  exact congrArg (fun z => _ - cu (ix2 z k)) er

end Cert.Kernel10Ideal.Hand

end
-- ==== Proof.PoolS.lean ====
module

public import proofs.«01_k».proof.Proof.PoolT

@[expose] public section

set_option maxRecDepth 16384

noncomputable section

namespace Cert.Reference10Ideal.Hand

open Cert.Reference10Ideal Cert.Reference10Ideal.Gen Cert.Reference10Ideal.Read
open Idealize.ShloMosaic Idealize.ShloMosaic.TcCoe Idealize.ShloMosaic.Tactic Cert.Pool

abbrev TH := (⟨S16384x2048, .f32⟩ : BufTy).Contents (Elt Ideal)
abbrev TW := (⟨S1x2048x8192, .f32⟩ : BufTy).Contents (Elt Ideal)
abbrev TM := (⟨S1x4x1024x1024, .f32⟩ : BufTy).Contents (Elt Ideal)
abbrev TS := (⟨S4096, .f32⟩ : BufTy).Contents (Elt Ideal)

/-- The windows' sizes. -/
abbrev cntT (lo hi : IVec S4096 32) : FVec Ideal S4x4096x1024 .f32 :=
  broadcastInDim S4x4096x1024 ![0, 1, 2] bcast_S1x4096x1_S4x4096x1024_0_1_2 (broadcastInDim S1x4096x1 ![1] bcast_S4096_S1x4096x1_1
    (sitofp .f32 (addi (subi hi lo) (broadcastInDim S4096 ![] bcast_S_S4096 (constantI S_ 32 1#32)))))
/-- A window's mean less the row itself. -/
abbrev poolT (x : FVec Ideal S4x4096x1024 .f32) (lo hi : IVec S4096 32) (v v' : FVec Ideal S_ .f32) : FVec Ideal S4x4096x1024 .f32 :=
  subf (Host.divf (subf (takeT (padT (csT x v) v') (addi hi (broadcastInDim S4096 ![] bcast_S_S4096 (constantI S_ 32 1#32)))) (takeT (padT (csT x v) v') lo))
    (cntT lo hi)) x

theorem v33_pool (x0 : TH) (x1 : TW) : val_main_v33 (F := Ideal) x0 x1 = poolT (val_main_v8 (F := Ideal) x0 x1) (val_main_v13 (F := Ideal)) (val_main_v20 (F := Ideal))
    (val_main_call0_v0 (F := Ideal)) (val_main_call1_v0 (F := Ideal)) := rfl
theorem v60_pool (x0 : TH) (x1 : TW) : val_main_v60 (F := Ideal) x0 x1 = poolT (val_main_v35 (F := Ideal) x0 x1) (val_main_v40 (F := Ideal)) (val_main_v47 (F := Ideal))
    (val_main_call6_v0 (F := Ideal)) (val_main_call7_v0 (F := Ideal)) := rfl
theorem v87_pool (x0 : TH) (x1 : TW) : val_main_v87 (F := Ideal) x0 x1 = poolT (val_main_v62 (F := Ideal) x0 x1) (val_main_v67 (F := Ideal)) (val_main_v74 (F := Ideal))
    (val_main_call12_v0 (F := Ideal)) (val_main_call13_v0 (F := Ideal)) := rfl
theorem v114_pool (x0 : TH) (x1 : TW) : val_main_v114 (F := Ideal) x0 x1 = poolT (val_main_v89 (F := Ideal) x0 x1) (val_main_v94 (F := Ideal)) (val_main_v101 (F := Ideal))
    (val_main_call18_v0 (F := Ideal)) (val_main_call19_v0 (F := Ideal)) := rfl

theorem poolT_apply (x : FVec Ideal S4x4096x1024 .f32) (lo hi : IVec S4096 32) (v v' : FVec Ideal S_ .f32) (hx : ∀ i, ∃ r : ℝ, x i = (r : EReal)) (w : Fin 4)
    (hlo : ∀ t : Fin 4096, lo (ix1 t) = BitVec.ofNat 32 (Lo w.val t.val)) (hhi : ∀ t : Fin 4096, hi (ix1 t) = BitVec.ofNat 32 (Hi w.val t.val))
    (hv : v (Shape.Idx.first h_S_) = 0) (hv' : v' (Shape.Idx.first h_S_) = 0) (b : Fin 4) (t : Fin 4096) (e : Fin 1024) :
    poolT x lo hi v v' (ix3 b t e) = Ideal.div (∑ u : Fin 4096, if Lo w.val t.val ≤ u.val ∧ u.val ≤ Hi w.val t.val then x (ix3 b u e) else 0) (cnt w.val t.val) - x (ix3 b t e) := by
  have t1 : takeT (padT (csT x v) v') (addi hi (broadcastInDim S4096 ![] bcast_S_S4096 (constantI S_ 32 1#32))) (ix3 b t e)
      = ∑ u : Fin 4096, if u.val < Hi w.val t.val + 1 then x (ix3 b u e) else 0 := by
    rw [takeT_apply _ _ (fun t => ⟨Hi w.val t.val + 1, by have := hi_le w.val t.val; omega⟩) (fun t => by
      show IntOp.addi (hi (ix1 t)) 1#32 = _
      rw [hhi]; exact BitVec.ofNat_add_ofNat _ _), sums_apply x v v' hv hv']
  have t2 : takeT (padT (csT x v) v') lo (ix3 b t e) = ∑ u : Fin 4096, if u.val < Lo w.val t.val then x (ix3 b u e) else 0 := by
    rw [takeT_apply _ _ (fun t => ⟨Lo w.val t.val, by have := hi_le w.val t.val; have := lo_le w.val t.val t.isLt; omega⟩) hlo, sums_apply x v v' hv hv']
  have c : cntT lo hi (ix3 b t e) = cnt w.val t.val := by
    refine Eq.trans ?_ (cnt_sitofp w t)
    rw [← hlo, ← hhi]
    pointwise
  show Ideal.div (takeT (padT (csT x v) v') (addi hi (broadcastInDim S4096 ![] bcast_S_S4096 (constantI S_ 32 1#32))) (ix3 b t e)
    - takeT (padT (csT x v) v') lo (ix3 b t e)) (cntT lo hi (ix3 b t e)) - x (ix3 b t e) = _
  rw [t1, t2, c, sum_diff (fun u => x (ix3 b u e)) (fun u => hx _) _ _ (lo_le w.val t.val t.isLt)]

/-! ## The reference's words -/

theorem lo0 (t : Fin 4096) : val_main_v13 (F := Ideal) (ix1 t) = BitVec.ofNat 32 (Lo (0 : Fin 4).val t.val) := Eq.trans rfl (lo_r 0 t)
theorem lo1 (t : Fin 4096) : val_main_v40 (F := Ideal) (ix1 t) = BitVec.ofNat 32 (Lo (1 : Fin 4).val t.val) := Eq.trans rfl (lo_r 1 t)
theorem lo2 (t : Fin 4096) : val_main_v67 (F := Ideal) (ix1 t) = BitVec.ofNat 32 (Lo (2 : Fin 4).val t.val) := Eq.trans rfl (lo_r 2 t)
theorem lo3 (t : Fin 4096) : val_main_v94 (F := Ideal) (ix1 t) = BitVec.ofNat 32 (Lo (3 : Fin 4).val t.val) := Eq.trans rfl (lo_r 3 t)
theorem hi0 (t : Fin 4096) : val_main_v20 (F := Ideal) (ix1 t) = BitVec.ofNat 32 (Hi (0 : Fin 4).val t.val) := Eq.trans rfl (hi_r 0 t)
theorem hi1 (t : Fin 4096) : val_main_v47 (F := Ideal) (ix1 t) = BitVec.ofNat 32 (Hi (1 : Fin 4).val t.val) := Eq.trans rfl (hi_r 1 t)
theorem hi2 (t : Fin 4096) : val_main_v74 (F := Ideal) (ix1 t) = BitVec.ofNat 32 (Hi (2 : Fin 4).val t.val) := Eq.trans rfl (hi_r 2 t)
theorem hi3 (t : Fin 4096) : val_main_v101 (F := Ideal) (ix1 t) = BitVec.ofNat 32 (Hi (3 : Fin 4).val t.val) := Eq.trans rfl (hi_r 3 t)

theorem zeroF : (Ideal.ofBits .f32 0x00000000#32 : EReal) = 0 := by simp [Ideal.ofBits, Ideal.ieee]
theorem zeroI : (FloatOps.sitofp (F := Ideal) .f32 0#32 : EReal) = 0 := by
  show (((0#32 : BitVec 32).toInt : ℝ) : EReal) = 0; simp

/-! ## The products -/

/-- The input's product with the columns of group `g`. -/
def XR (x0 : TH) (x1 : TW) (b : Fin 4) (t : Fin 4096) (g : Fin 4) (c : Fin 1024) : EReal :=
  ∑ k : Fin 2048, x0 (ix2 (⟨4096 * b.val + t.val, by omega⟩ : Fin 16384) k) * x1 (ix3 (0 : Fin 1) k (⟨1024 * g.val + c.val, by omega⟩ : Fin 8192))

theorem v2_at (x0 : TH) (x1 : TW) (b : Fin 4) (t : Fin 4096) (n : Fin 8192) : val_main_v2 (F := Ideal) x0 x1 (ix3 b t n)
    = ∑ k : Fin 2048, x0 (ix2 (⟨4096 * b.val + t.val, by omega⟩ : Fin 16384) k) * x1 (ix3 (0 : Fin 1) k n) := by
  rw [val_main_v2_apply]
  have hb := b.isLt
  have ht := t.isLt
  have hn := n.isLt
  refine Finset.sum_congr (M := EReal) rfl fun k _ => ?_
  have hk := k.isLt
  rw [val_main_v0_apply, val_main_v1_apply]
  refine congrArg₂ (fun p q : EReal => p * q) (congrArg x0 (funext fun a => Fin.ext ?_)) (congrArg x1 (funext fun a => Fin.ext ?_))
  · match a with
    | ⟨0, _⟩ => show ((b.val * 4096 + t.val) * 2048 + k.val) / 2048 = 4096 * b.val + t.val; omega
    | ⟨1, _⟩ => show ((b.val * 4096 + t.val) * 2048 + k.val) % 2048 = k.val; omega
  · match a with
    | ⟨0, _⟩ => rfl
    | ⟨1, _⟩ => show (k.val * 8192 + n.val) / 8192 % 2048 = k.val; omega
    | ⟨2, _⟩ => show (k.val * 8192 + n.val) % 8192 = n.val; omega

theorem v5_at (x0 : TH) (x1 : TW) (b : Fin 4) (t : Fin 4096) (g : Fin 4) (c : Fin 1024) : val_main_v5 (F := Ideal) x0 x1 (ix4 b t g c) = XR x0 x1 b t g c := by
  have hb := b.isLt
  have ht := t.isLt
  have hg := g.isLt
  have hc := c.isLt
  rw [val_main_v5_apply, val_main_v3_apply]
  refine (congrArg (val_main_v2 (F := Ideal) x0 x1) (funext fun a => Fin.ext ?_)).trans (v2_at x0 x1 b t ⟨1024 * g.val + c.val, by omega⟩)
  match a with
  | ⟨0, _⟩ => show (((b.val * 4096 + t.val) * 4 + g.val) * 1024 + c.val) / 16777216 = b.val; omega
  | ⟨1, _⟩ => show (((b.val * 4096 + t.val) * 4 + g.val) * 1024 + c.val) / 4096 % 4096 = t.val; omega
  | ⟨2, _⟩ => show (((b.val * 4096 + t.val) * 4 + g.val) * 1024 + c.val) % 4096 = 1024 * g.val + c.val; omega

theorem ix3_split (b : Fin 4) (t : Fin 4096) (c : Fin 1024) : (b.val * 4096 + t.val) * 1024 / 4194304 = b.val ∧ ((b.val * 4096 + t.val) * 1024 + c.val) / 4194304 = b.val
    ∧ ((b.val * 4096 + t.val) * 1024 + c.val) / 1024 % 4096 = t.val ∧ ((b.val * 4096 + t.val) * 1024 + c.val) % 1024 = c.val := by
  omega

theorem at4 (x0 : TH) (x1 : TW) (b : Fin 4) (t : Fin 4096) (g : Fin 4) (c : Fin 1024) (i : S4x4096x4x1024.Idx) (e0 : (i 0).val = ((b.val * 4096 + t.val) * 1024 + c.val) / 4194304)
    (e1 : (i 1).val = ((b.val * 4096 + t.val) * 1024 + c.val) / 1024 % 4096) (e2 : (i 2).val = g.val) (e3 : (i 3).val = ((b.val * 4096 + t.val) * 1024 + c.val) % 1024) :
    val_main_v5 (F := Ideal) x0 x1 i = XR x0 x1 b t g c := by
  obtain ⟨-, p, q, r⟩ := ix3_split b t c
  rw [← v5_at]
  exact congrArg _ (funext fun a => Fin.ext (by
    match a with
    | ⟨0, _⟩ => exact e0.trans p
    | ⟨1, _⟩ => exact e1.trans q
    | ⟨2, _⟩ => exact e2
    | ⟨3, _⟩ => exact e3.trans r))
theorem x_at0 (x0 : TH) (x1 : TW) (b : Fin 4) (t : Fin 4096) (c : Fin 1024) : val_main_v8 (F := Ideal) x0 x1 (ix3 b t c) = XR x0 x1 b t 0 c := by
  rw [val_main_v8_apply, val_main_v7_apply]; exact at4 x0 x1 b t 0 c _ rfl rfl rfl rfl
theorem x_at1 (x0 : TH) (x1 : TW) (b : Fin 4) (t : Fin 4096) (c : Fin 1024) : val_main_v35 (F := Ideal) x0 x1 (ix3 b t c) = XR x0 x1 b t 1 c := by
  rw [val_main_v35_apply, val_main_v34_apply]; exact at4 x0 x1 b t 1 c _ rfl rfl rfl rfl
theorem x_at2 (x0 : TH) (x1 : TW) (b : Fin 4) (t : Fin 4096) (c : Fin 1024) : val_main_v62 (F := Ideal) x0 x1 (ix3 b t c) = XR x0 x1 b t 2 c := by
  rw [val_main_v62_apply, val_main_v61_apply]; exact at4 x0 x1 b t 2 c _ rfl rfl rfl rfl
theorem x_at3 (x0 : TH) (x1 : TW) (b : Fin 4) (t : Fin 4096) (c : Fin 1024) : val_main_v89 (F := Ideal) x0 x1 (ix3 b t c) = XR x0 x1 b t 3 c := by
  rw [val_main_v89_apply, val_main_v88_apply]; exact at4 x0 x1 b t 3 c _ rfl rfl rfl rfl

/-! ## The result -/

/-- The mean of group `g` less the row. -/
def PM (x0 : TH) (x1 : TW) (b : Fin 4) (t : Fin 4096) (g : Fin 4) (c : Fin 1024) : EReal :=
  Ideal.div (∑ u : Fin 4096, if Lo g.val t.val ≤ u.val ∧ u.val ≤ Hi g.val t.val then XR x0 x1 b u g c else 0) (cnt g.val t.val) - XR x0 x1 b t g c

/-- The gate. -/
def ZR (x0 : TH) (x1 : TW) (b : Fin 4) (t : Fin 4096) (q : Fin 4096) : EReal :=
  ∑ k : Fin 2048, x0 (ix2 (⟨4096 * b.val + t.val, by omega⟩ : Fin 16384) k) * x1 (ix3 (0 : Fin 1) k (⟨4096 + q.val, by omega⟩ : Fin 8192))

theorem xreal (x0 : TH) (x1 : TW) (h0 : ∀ i, ∃ r : ℝ, x0 i = (r : EReal)) (h1 : ∀ i, ∃ r : ℝ, x1 i = (r : EReal)) (b : Fin 4) (t : Fin 4096) (g : Fin 4) (c : Fin 1024) :
    ∃ r : ℝ, XR x0 x1 b t g c = (r : EReal) := Words.real_sum _ _ (fun k => h0 _) (fun k => h1 _)

theorem ix3_eta (i : S4x4096x1024.Idx) : i = ix3 (i 0 : Fin 4) (i 1 : Fin 4096) (i 2 : Fin 1024) := funext fun a => by
  match a with
  | 0 => rfl
  | 1 => rfl
  | 2 => rfl

/-- The four groups side by side. -/
theorem cat4 (P : Fin 4 → FVec Ideal S4x4096x1x1024 .f32) (b : Fin 4) (t : Fin 4096) (g : Fin 4) (c : Fin 1024) (h) :
    concatenate S4x4096x4x1024 2 [⟨S4x4096x1x1024, P 0⟩, ⟨S4x4096x1x1024, P 1⟩, ⟨S4x4096x1x1024, P 2⟩, ⟨S4x4096x1x1024, P 3⟩] h (ix4 b t g c) = P g (ix4 b t (0 : Fin 1) c) := by
  refine (concatenate_ofFn_apply (t := S4x4096x4x1024) (s₁ := S4x4096x1x1024) 2 P h rfl 1 rfl (ix4 b t g c) g (Nat.div_one _) (ix4 b t (0 : Fin 1) c) (Nat.mod_one _).symm fun a ha => ?_)
  match a with
  | 0 => rfl
  | 1 => rfl
  | 2 => exact absurd rfl ha
  | 3 => rfl

theorem pm_of (x0 : TH) (x1 : TW) (h0 : ∀ i, ∃ r : ℝ, x0 i = (r : EReal)) (h1 : ∀ i, ∃ r : ℝ, x1 i = (r : EReal)) (x : FVec Ideal S4x4096x1024 .f32) (lo hi : IVec S4096 32)
    (v v' : FVec Ideal S_ .f32) (w : Fin 4) (hx : ∀ b t c, x (ix3 b t c) = XR x0 x1 b t w c) (hlo : ∀ t : Fin 4096, lo (ix1 t) = BitVec.ofNat 32 (Lo w.val t.val))
    (hhi : ∀ t : Fin 4096, hi (ix1 t) = BitVec.ofNat 32 (Hi w.val t.val)) (hv : v (Shape.Idx.first h_S_) = 0) (hv' : v' (Shape.Idx.first h_S_) = 0)
    (b : Fin 4) (t : Fin 4096) (c : Fin 1024) : poolT x lo hi v v' (ix3 b t c) = PM x0 x1 b t w c := by
  have hr : ∀ i, ∃ r : ℝ, x i = (r : EReal) := fun i => by
    obtain ⟨r, e⟩ := xreal x0 x1 h0 h1 (i 0) (i 1) w (i 2)
    exact ⟨r, ((congrArg x (ix3_eta i)).trans (hx _ _ _)).trans e⟩
  rw [poolT_apply x lo hi v v' hr w hlo hhi hv hv']
  unfold PM
  simp only [hx]

theorem v115_at (x0 : TH) (x1 : TW) (h0 : ∀ i, ∃ r : ℝ, x0 i = (r : EReal)) (h1 : ∀ i, ∃ r : ℝ, x1 i = (r : EReal)) (b : Fin 4) (t : Fin 4096) (c : Fin 1024) :
    val_main_v115 (F := Ideal) x0 x1 (ix4 b t (0 : Fin 1) c) = PM x0 x1 b t 0 c := by
  rw [val_main_v115_apply, show idx_main_v115 (ix4 b t (0 : Fin 1) c) = ix3 b t c from ix3_eta _, v33_pool]
  exact pm_of x0 x1 h0 h1 _ _ _ _ _ 0 (x_at0 x0 x1) lo0 hi0 zeroF zeroI b t c
theorem v116_at (x0 : TH) (x1 : TW) (h0 : ∀ i, ∃ r : ℝ, x0 i = (r : EReal)) (h1 : ∀ i, ∃ r : ℝ, x1 i = (r : EReal)) (b : Fin 4) (t : Fin 4096) (c : Fin 1024) :
    val_main_v116 (F := Ideal) x0 x1 (ix4 b t (0 : Fin 1) c) = PM x0 x1 b t 1 c := by
  rw [val_main_v116_apply, show idx_main_v116 (ix4 b t (0 : Fin 1) c) = ix3 b t c from ix3_eta _, v60_pool]
  exact pm_of x0 x1 h0 h1 _ _ _ _ _ 1 (x_at1 x0 x1) lo1 hi1 zeroF zeroI b t c
theorem v117_at (x0 : TH) (x1 : TW) (h0 : ∀ i, ∃ r : ℝ, x0 i = (r : EReal)) (h1 : ∀ i, ∃ r : ℝ, x1 i = (r : EReal)) (b : Fin 4) (t : Fin 4096) (c : Fin 1024) :
    val_main_v117 (F := Ideal) x0 x1 (ix4 b t (0 : Fin 1) c) = PM x0 x1 b t 2 c := by
  rw [val_main_v117_apply, show idx_main_v117 (ix4 b t (0 : Fin 1) c) = ix3 b t c from ix3_eta _, v87_pool]
  exact pm_of x0 x1 h0 h1 _ _ _ _ _ 2 (x_at2 x0 x1) lo2 hi2 zeroF zeroI b t c
theorem v118_at (x0 : TH) (x1 : TW) (h0 : ∀ i, ∃ r : ℝ, x0 i = (r : EReal)) (h1 : ∀ i, ∃ r : ℝ, x1 i = (r : EReal)) (b : Fin 4) (t : Fin 4096) (c : Fin 1024) :
    val_main_v118 (F := Ideal) x0 x1 (ix4 b t (0 : Fin 1) c) = PM x0 x1 b t 3 c := by
  rw [val_main_v118_apply, show idx_main_v118 (ix4 b t (0 : Fin 1) c) = ix3 b t c from ix3_eta _, v114_pool]
  exact pm_of x0 x1 h0 h1 _ _ _ _ _ 3 (x_at3 x0 x1) lo3 hi3 zeroF zeroI b t c
theorem v119_at (x0 : TH) (x1 : TW) (h0 : ∀ i, ∃ r : ℝ, x0 i = (r : EReal)) (h1 : ∀ i, ∃ r : ℝ, x1 i = (r : EReal)) (b : Fin 4) (t : Fin 4096) (g : Fin 4) (c : Fin 1024) :
    val_main_v119 (F := Ideal) x0 x1 (ix4 b t g c) = PM x0 x1 b t g c := by
  have e0 := v115_at x0 x1 h0 h1 b t c
  have e1 := v116_at x0 x1 h0 h1 b t c
  have e2 := v117_at x0 x1 h0 h1 b t c
  have e3 := v118_at x0 x1 h0 h1 b t c
  unfold val_main_v119
  generalize val_main_v115 (F := Ideal) x0 x1 = y0 at *
  generalize val_main_v116 (F := Ideal) x0 x1 = y1 at *
  generalize val_main_v117 (F := Ideal) x0 x1 = y2 at *
  generalize val_main_v118 (F := Ideal) x0 x1 = y3 at *
  refine (cat4 ![y0, y1, y2, y3] b t g c _).trans ?_
  match g with
  | 0 => exact e0
  | 1 => exact e1
  | 2 => exact e2
  | 3 => exact e3

/-- The mixer's result at row `4096 b + t`, column `1024 g + e`. -/
def GR (x0 : TH) (x1 : TW) (x2 : TM) (x3 : TS) (b : Fin 4) (t : Fin 4096) (g : Fin 4) (e : Fin 1024) : EReal :=
  ((∑ c : Fin 1024, x2 (ix4 (0 : Fin 1) g c e) * PM x0 x1 b t g c) * x3 (ix1 (⟨1024 * g.val + e.val, by omega⟩ : Fin 4096)))
    * (ZR x0 x1 b t ⟨1024 * g.val + e.val, by omega⟩ * Ideal.div (Ideal.ofBits .f32 0x3F800000#32) (Ideal.ofBits .f32 0x3F800000#32 + Ideal.exp (-(ZR x0 x1 b t ⟨1024 * g.val + e.val, by omega⟩))))

theorem v121_at (x0 : TH) (x1 : TW) (x2 : TM) (h0 : ∀ i, ∃ r : ℝ, x0 i = (r : EReal)) (h1 : ∀ i, ∃ r : ℝ, x1 i = (r : EReal)) (b : Fin 4) (t : Fin 4096) (g : Fin 4) (e : Fin 1024) :
    val_main_v121 (F := Ideal) x0 x1 x2 (ix4 g e b t) = ∑ c : Fin 1024, x2 (ix4 (0 : Fin 1) g c e) * PM x0 x1 b t g c := by
  rw [val_main_v121_apply]
  have hg := g.isLt
  have he := e.isLt
  refine Finset.sum_congr (M := EReal) rfl fun c _ => ?_
  have hc := c.isLt
  rw [val_main_v120_apply, ← v119_at x0 x1 h0 h1 b t g c]
  refine congrArg₂ (fun p q : EReal => p * q) (congrArg x2 (funext fun a => Fin.ext ?_)) (congrArg _ (funext fun a => Fin.ext ?_))
  · match a with
    | ⟨0, _⟩ => rfl
    | ⟨1, _⟩ => show ((g.val * 1024 + c.val) * 1024 + e.val) / 1048576 % 4 = g.val; omega
    | ⟨2, _⟩ => show ((g.val * 1024 + c.val) * 1024 + e.val) / 1024 % 1024 = c.val; omega
    | ⟨3, _⟩ => show ((g.val * 1024 + c.val) * 1024 + e.val) % 1024 = e.val; omega
  · match a with
    | ⟨0, _⟩ => rfl
    | ⟨1, _⟩ => rfl
    | ⟨2, _⟩ => rfl
    | ⟨3, _⟩ => rfl

theorem ref_apply (x0 : TH) (x1 : TW) (x2 : TM) (x3 : TS) (h0 : ∀ i, ∃ r : ℝ, x0 i = (r : EReal)) (h1 : ∀ i, ∃ r : ℝ, x1 i = (r : EReal))
    (b : Fin 4) (t : Fin 4096) (g : Fin 4) (e : Fin 1024) (i : S16384x4096.Idx) (hi0 : (i 0).val = 4096 * b.val + t.val) (hi1 : (i 1).val = 1024 * g.val + e.val) :
    val_main_v130 (F := Ideal) x0 x1 x2 x3 i = GR x0 x1 x2 x3 b t g e := by
  have hb := b.isLt
  have ht := t.isLt
  have hg := g.isLt
  have he := e.isLt
  rw [val_main_v130_apply]
  have ei : idx_main_v130 i = ix3 b t (⟨1024 * g.val + e.val, by omega⟩ : Fin 4096) := funext fun a => Fin.ext (by
    match a with
    | ⟨0, _⟩ => show ((i 0).val * 4096 + (i 1).val) / 16777216 = b.val; omega
    | ⟨1, _⟩ => show ((i 0).val * 4096 + (i 1).val) / 4096 % 4096 = t.val; omega
    | ⟨2, _⟩ => show ((i 0).val * 4096 + (i 1).val) % 4096 = 1024 * g.val + e.val; omega)
  rw [ei]
  have ez : val_main_v4 (F := Ideal) x0 x1 (ix3 b t (⟨1024 * g.val + e.val, by omega⟩ : Fin 4096)) = ZR x0 x1 b t ⟨1024 * g.val + e.val, by omega⟩ := by
    rw [val_main_v4_apply]
    refine (congrArg _ (funext fun a => Fin.ext ?_)).trans (v2_at x0 x1 b t ⟨4096 + (1024 * g.val + e.val), by omega⟩)
    match a with
    | ⟨0, _⟩ => rfl
    | ⟨1, _⟩ => rfl
    | ⟨2, _⟩ => rfl
  have em : val_main_v123 (F := Ideal) x0 x1 x2 (ix3 b t (⟨1024 * g.val + e.val, by omega⟩ : Fin 4096)) = ∑ c : Fin 1024, x2 (ix4 (0 : Fin 1) g c e) * PM x0 x1 b t g c := by
    rw [val_main_v123_apply, val_main_v122_apply, ← v121_at x0 x1 x2 h0 h1]
    refine congrArg _ (funext fun a => Fin.ext ?_)
    match a with
    | ⟨0, _⟩ => show ((b.val * 4096 + t.val) * 4096 + (1024 * g.val + e.val)) / 1024 % 4 = g.val; omega
    | ⟨1, _⟩ => show ((b.val * 4096 + t.val) * 4096 + (1024 * g.val + e.val)) % 1024 = e.val; omega
    | ⟨2, _⟩ => show ((b.val * 4096 + t.val) * 4096 + (1024 * g.val + e.val)) / 16777216 = b.val; omega
    | ⟨3, _⟩ => show ((b.val * 4096 + t.val) * 4096 + (1024 * g.val + e.val)) / 4096 % 4096 = t.val; omega
  have es : val_main_v125 (F := Ideal) x3 (ix3 b t (⟨1024 * g.val + e.val, by omega⟩ : Fin 4096)) = x3 (ix1 (⟨1024 * g.val + e.val, by omega⟩ : Fin 4096)) := by
    rw [val_main_v125_apply, val_main_v124_apply]
    exact congrArg x3 (funext fun a => Fin.ext (by
      match a with
      | ⟨0, _⟩ => rfl))
  show (val_main_v123 (F := Ideal) x0 x1 x2 (ix3 b t _) * val_main_v125 (F := Ideal) x3 (ix3 b t _)) * (val_main_v4 (F := Ideal) x0 x1 (ix3 b t _)
    * Ideal.div (Ideal.ofBits .f32 0x3F800000#32) (Ideal.ofBits .f32 0x3F800000#32 + Ideal.exp (-(val_main_v4 (F := Ideal) x0 x1 (ix3 b t _))))) = _
  rw [em, es, ez]
  rfl

theorem refw_apply (x4 : (⟨S1x4096x2048, .f32⟩ : BufTy).Contents (Elt Ideal)) (i : S4096x2048.Idx) :
    val_main_v132 (F := Ideal) x4 i = x4 (ix3 (0 : Fin 1) (i 0 : Fin 4096) (i 1 : Fin 2048)) := by
  have h0 : (i 0).val < 4096 := (i 0).isLt
  have h1 : (i 1).val < 2048 := (i 1).isLt
  rw [val_main_v132_apply, val_main_v131_apply]
  exact congrArg x4 (funext fun a => Fin.ext (by
    match a with
    | ⟨0, _⟩ => rfl
    | ⟨1, _⟩ => show ((i 0).val * 2048 + (i 1).val) / 2048 % 4096 = (i 0).val; omega
    | ⟨2, _⟩ => show ((i 0).val * 2048 + (i 1).val) % 2048 = (i 1).val; omega))

end Cert.Reference10Ideal.Hand

end
-- ==== Proof.PoolV.lean ====
module

public import proofs.«01_k».proof.Proof.PoolW
public import proofs.«01_k».proof.Proof.PoolS
public import proofs.«01_k».proof.Pre_real10
public import Idealize.ShloMosaic.Lib.Pipeline.ValueKit.Geometry

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic Cert.Pool
open Cert.Reference10Ideal.Hand (TH TW TM TS XR PM ZR GR)
open Idealize.SL Idealize.SL.Sem
open Idealize.ShloMosaic.Pipeline (Dat Cfg Window)

variable (m : (ℓ : Loc nD τ sig) → Buf (Elt Ideal) ℓ) (ρ : Dev nD → PrngReg)

abbrev TO := (⟨S1x4096x2048, .f32⟩ : BufTy).Contents (Elt Ideal)

instance pre_facts : Cert.Pre_real10.Facts := ⟨by decide, by decide, by decide, by decide, by decide, by decide, by decide⟩

/-- Where the activations and the weights are real numbers, each element is one. -/
theorem real_args (h : TH) (w : TW) (p : TM) (s : TS) (o : TO) (hp : Cert.Pre_real10.fn (F := Ideal) h w p s o = fun _ => 1#1) :
    (∀ i, ∃ r : ℝ, h i = (r : EReal)) ∧ (∀ i, ∃ r : ℝ, w i = (r : EReal)) ∧ (∀ i, ∃ r : ℝ, p i = (r : EReal)) := by
  have e := congrFun hp (fun a => a.elim0)
  obtain ⟨e12, e3⟩ := IntOp.andi_eq_one.1 e
  obtain ⟨e1, e2⟩ := IntOp.andi_eq_one.1 e12
  haveI : Subsingleton Cert.Pre_real10.S_.Idx := ⟨fun a b => funext fun x => x.elim0⟩
  exact ⟨fun i => Cert.Words.real_of_abs (Host.reduce_andi_all _ _ _ _ _ e1 i), fun i => Cert.Words.real_of_abs (Host.reduce_andi_all _ _ _ _ _ e2 i),
    fun i => Cert.Words.real_of_abs (Host.reduce_andi_all _ _ _ _ _ e3 i)⟩

/-! ## The function -/

/-- The mixer's gated output. -/
def G (h : TH) (w : TW) (p : TM) (s : TS) : (⟨S16384x4096, .bf16⟩ : BufTy).Contents (Elt Ideal) := fun y =>
  GR h w p s ⟨(y 0).val / 4096, by have h : (y 0).val < 16384 := (y 0).isLt; omega⟩ ⟨(y 0).val % 4096, Nat.mod_lt _ (by decide)⟩
    ⟨(y 1).val / 1024, by have h : (y 1).val < 4096 := (y 1).isLt; omega⟩ ⟨(y 1).val % 1024, Nat.mod_lt _ (by decide)⟩
/-- The other layer's weights, cast. -/
def GW (o : TO) : (⟨S4096x2048, .bf16⟩ : BufTy).Contents (Elt Ideal) := fun y => o (ix3 (0 : Fin 1) (y 0 : Fin 4096) (y 1 : Fin 2048))

/-! ## The blocks -/

theorem idx0 : ∀ t : Fin cfg0.N, win0_0.index t = ![64 * (t.val % 16) - 1, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![min (64 * (t.val % 16) + 64) 1023, 0] := (by decide +kernel : ∀ t : Fin grid0.N, _)
theorem idx3 : ∀ t : Fin cfg0.N, win0_3.index t = ![t.val / 16, 0, 0] := (by decide +kernel : ∀ t : Fin grid0.N, _)
theorem idx4 : ∀ t : Fin cfg0.N, win0_4.index t = ![0, t.val / 16] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![t.val % 16, t.val / 16] := (by decide +kernel : ∀ t : Fin grid0.N, _)
theorem idx7 : ∀ t : Fin cfg0.N, win0_7.index t = ![t.val, 0] := (by decide +kernel : ∀ t : Fin grid0.N, _)

abbrev A0 (c : Dev nD) : TH := m (c.tc.loc main_arg0)
abbrev A1 (c : Dev nD) : TW := m (c.tc.loc main_arg1)
abbrev A2 (c : Dev nD) : TM := m (c.tc.loc main_arg2)
abbrev A3 (c : Dev nD) : TS := m (c.tc.loc main_arg3)
abbrev A4 (c : Dev nD) : TO := m (c.tc.loc main_arg4)

theorem blk0 (c : Dev nD) (t : Fin cfg0.N) (r : Fin 16) (k : Fin 2048) (n : Fin 16384) (hn : n.val = (64 * (t.val % 16) - 1) * 16 + r.val) :
    iblk m c 0 t (ix2 r k) = A0 m c (ix2 n k) := by
  obtain ⟨v, hv⟩ := n
  change v = _ at hn
  subst hn
  blk_simp [iblk]
  refine (congrFun (V_v5 m c) _).trans (congrArg (A0 m c) ?_)
  blk_ext [idx0]
theorem blk1 (c : Dev nD) (t : Fin cfg0.N) (r : Fin 1024) (k : Fin 2048) (n : Fin 16384) (hn : n.val = t.val % 16 * 1024 + r.val) :
    iblk m c 1 t (ix2 r k) = A0 m c (ix2 n k) := by
  obtain ⟨v, hv⟩ := n
  change v = _ at hn
  subst hn
  blk_simp [iblk]
  refine (congrFun (V_v5 m c) _).trans (congrArg (A0 m c) ?_)
  blk_ext [idx1]
theorem blk2 (c : Dev nD) (t : Fin cfg0.N) (r : Fin 16) (k : Fin 2048) (n : Fin 16384) (hn : n.val = min (64 * (t.val % 16) + 64) 1023 * 16 + r.val) :
    iblk m c 2 t (ix2 r k) = A0 m c (ix2 n k) := by
  obtain ⟨v, hv⟩ := n
  change v = _ at hn
  subst hn
  blk_simp [iblk]
  refine (congrFun (V_v5 m c) _).trans (congrArg (A0 m c) ?_)
  blk_ext [idx2]

theorem bufW_apply (w : TW) (p : TM) (g : Fin 4) (k : Fin 2048) (q : Fin 1024) :
    bufW w p (ix3 g k q) = ∑ c : Fin 1024, w (ix3 (0 : Fin 1) k (⟨1024 * g.val + c.val, by omega⟩ : Fin 8192)) * p (ix4 (0 : Fin 1) g c q) := by
  pointwise [bufW]
  exact Finset.sum_congr (M := EReal) rfl fun c _ => congrArg (fun z => w (ix3 (0 : Fin 1) k z) * p (ix4 (0 : Fin 1) g c q)) (Fin.ext (by show g.val * 1024 + c.val = 1024 * g.val + c.val; omega))
theorem blk3 (c : Dev nD) (t : Fin cfg0.N) (k : Fin 2048) (q : Fin 1024) :
    iblk m c 3 t (ix3 (0 : Fin 1) k q) = bufW (A1 m c) (A2 m c) (ix3 (gOf t) k q) := by
  blk_simp [iblk]
  refine (congrFun (V_v6 m c) _).trans (congrArg (bufW (A1 m c) (A2 m c)) ?_)
  unfold gOf
  blk_ext [idx3]
theorem V7_apply (c : Dev nD) (n : Fin 4096) : V m c main_v7 (ix2 (0 : Fin 1) n) = A3 m c (ix1 n) := by
  refine (congrFun (V_v7 m c) _).trans (shapeCast_apply _ shapeCasts_S4096_S1x4096 (ix2 (0 : Fin 1) n) (ix1 n) ?_)
  rewrite [Shape.rowMajor_val_two, Shape.rowMajor_val_one]
  show n.val = 0 * 4096 + n.val
  omega
theorem blk4 (c : Dev nD) (t : Fin cfg0.N) (q : Fin 1024) (n : Fin 4096) (hn : n.val = t.val / 16 * 1024 + q.val) :
    iblk m c 4 t (ix2 (0 : Fin 1) q) = A3 m c (ix1 n) := by
  obtain ⟨v, hv⟩ := n
  change v = _ at hn
  subst hn
  refine Eq.trans ?_ (V7_apply m c _)
  blk_simp [iblk]
  refine congrArg (V m c main_v7) ?_
  blk_ext [idx4]

/-- Block `k` of the gate's weights at an index. -/
theorem wb_apply (c : Dev nD) (k : ℕ) (a : Fin 2048) (b : Fin 1024) :
    wb m c k (ix2 a b) = A1 m c (ix3 (0 : Fin 1) a (⟨4096 + 1024 * (k % 4) + b.val, by omega⟩ : Fin 8192)) := by
  have hc : S1x2048x1024.ShapeCasts S2048x1024 := by decide
  have e : ∀ y : Vec Ideal S2048x1024 .f32, k0_pay3 (F := Ideal) y (ix2 a b) = y (ix2 a b) := fun y => by pointwise [k0_pay3]
  refine (e _).trans ((congrFun (Memref.read_squeeze_slice hbM (Rect.unit (s := S1x2048x8192) (boff k) S1x2048x1024.size (boff_inb k)) (fun _ => rfl)
    squeezes_S1x2048x1024_S2048x1024 hc (wts m c)) (ix2 a b)).trans ?_)
  refine (shapeCast_apply _ hc (ix2 a b) (ix3 (0 : Fin 1) a b) (by
    rewrite [Shape.rowMajor_val_three, Shape.rowMajor_val_two]
    show (0 * 2048 + a.val) * 1024 + b.val = a.val * 1024 + b.val
    omega)).trans ?_
  refine (congrFun (V_arg1 m c) _).trans (congrArg (A1 m c) (funext fun x => Fin.ext ?_))
  match x with
  | 0 => rfl
  | 1 => show 0 + 1 * a.val = a.val; omega
  | 2 => show 4096 + 1024 * (k % 4) + 1 * b.val = 4096 + 1024 * (k % 4) + b.val; omega

/-! ## The result -/

/-- Row `u` of a point's sequence. -/
def rowOf (t : Fin cfg0.N) (u : Fin 4096) : Fin 16384 := ⟨4096 * (bOf t).val + u.val, by have := (bOf t).isLt; omega⟩

theorem ext_at (c : Dev nD) (t : Fin cfg0.N) (k : Fin 2048) (r : Fin 1056) (u : Fin 4096) (hu : u.val + 16 = 1024 * (qOf t).val + r.val) :
    k0_pay4 (F := Ideal) (iblk m c 0 t) (iblk m c 1 t) (iblk m c 2 t) (ix2 r k) = A0 m c (ix2 (rowOf t u) k) := by
  have hr := r.isLt
  have hu' := u.isLt
  change u.val + 16 = 1024 * (t.val % 16 % 4) + r.val at hu
  have hb : (rowOf t u).val = 4096 * (t.val % 16 / 4) + u.val := rfl
  refine (ext_apply _ _ _ r k).trans ?_
  split
  · exact blk0 m c t _ k _ (by rw [hb]; show _ = (64 * (t.val % 16) - 1) * 16 + r.val; omega)
  · split
    · exact blk1 m c t _ k _ (by rw [hb]; show _ = t.val % 16 * 1024 + (r.val - 16); omega)
    · exact blk2 m c t _ k _ (by rw [hb]; show _ = min (64 * (t.val % 16) + 64) 1023 * 16 + (r.val - 16 - 1024); omega)

theorem outv_point (h : TH) (w : TW) (p : TM) (s : TS) (hh : ∀ i, ∃ r : ℝ, h i = (r : EReal)) (hw : ∀ i, ∃ r : ℝ, w i = (r : EReal)) (hp : ∀ i, ∃ r : ℝ, p i = (r : EReal))
    (t : Fin cfg0.N) (pv : Vec Ideal S16x2048 .bf16) (cu : Vec Ideal S1024x2048 .bf16) (nx : Vec Ideal S16x2048 .bf16) (wf : Vec Ideal S1x2048x1024 .bf16) (wg : Vec Ideal S2048x1024 .bf16)
    (sc : Vec Ideal S1x1024 .f32) (r q : Fin 1024) (n : Fin 4096) (hn : n.val = 1024 * (gOf t).val + q.val)
    (hE : ∀ (k : Fin 2048) (r : Fin 1056) (u : Fin 4096), u.val + 16 = 1024 * (qOf t).val + r.val → k0_pay4 (F := Ideal) pv cu nx (ix2 r k) = h (ix2 (rowOf t u) k))
    (hcu : ∀ k, cu (ix2 r k) = h (ix2 (rowOf t (sOf t r)) k))
    (hwf : ∀ k, wf (ix3 (0 : Fin 1) k q) = ∑ c : Fin 1024, w (ix3 (0 : Fin 1) k (⟨1024 * (gOf t).val + c.val, by have := (gOf t).isLt; omega⟩ : Fin 8192)) * p (ix4 (0 : Fin 1) (gOf t) c q))
    (hwg : ∀ k, wg (ix2 k q) = w (ix3 (0 : Fin 1) k (⟨4096 + n.val, by omega⟩ : Fin 8192))) (hsc : sc (ix2 (0 : Fin 1) q) = s (ix1 n)) :
    outv (grid0.coords t) pv cu nx wf wg sc (ix2 r q) = GR h w p s (bOf t) (sOf t r) (gOf t) q := by
  obtain ⟨v, hv⟩ := n
  change v = _ at hn
  subst hn
  have hz : ∑ k : Fin 2048, cu (ix2 r k) * wg (ix2 k q) = ZR h w (bOf t) (sOf t r) ⟨1024 * (gOf t).val + q.val, hv⟩ :=
    Finset.sum_congr (M := EReal) rfl fun k _ => congrArg₂ (fun p q : EReal => p * q) (hcu k) (hwg k)
  have zr : ∃ z : ℝ, ZR h w (bOf t) (sOf t r) ⟨1024 * (gOf t).val + q.val, hv⟩ = (z : EReal) := Cert.Words.real_sum _ _ (fun k => hh _) (fun k => hw _)
  have hg := gate_apply cu wg r q _ hz
  rw [Cert.Words.silu_eq zr] at hg
  rw [outv_eq, comb_apply, hg, hsc]
  unfold GR
  refine congrArg (fun z : EReal => z * s (ix1 (⟨1024 * (gOf t).val + q.val, hv⟩ : Fin 4096)) * _) ?_
  refine Eq.trans ?_ (exchange (fun u k => h (ix2 (rowOf t u) k)) (fun k c => w (ix3 (0 : Fin 1) k (⟨1024 * (gOf t).val + c.val, by have := (gOf t).isLt; omega⟩ : Fin 8192)))
    (fun c => p (ix4 (0 : Fin 1) (gOf t) c q)) (fun u k => hh _) (fun k c => hw _) (fun c => hp _)
    (fun u => Lo (gOf t).val (sOf t r).val ≤ u.val ∧ u.val ≤ Hi (gOf t).val (sOf t r).val) (sOf t r) _ (Nat.cast_ne_zero.2 (Nat.succ_ne_zero (Hi (gOf t).val (sOf t r).val - Lo (gOf t).val (sOf t r).val))))
  refine Finset.sum_congr (M := EReal) rfl fun k _ => congrArg₂ (fun p q : EReal => p * q) ?_ (hwf k)
  refine (cat_at t _ cu k (fun u => h (ix2 (rowOf t u) k)) (hE k) r).trans ?_
  rw [hcu]
  rfl

theorem out_point (c : Dev nD) (hh : ∀ i, ∃ r : ℝ, A0 m c i = (r : EReal)) (hw : ∀ i, ∃ r : ℝ, A1 m c i = (r : EReal)) (hp : ∀ i, ∃ r : ℝ, A2 m c i = (r : EReal))
    (t : Fin cfg0.N) (r q : Fin 1024) : outAt m c t (ix2 r q) = GR (A0 m c) (A1 m c) (A2 m c) (A3 m c) (bOf t) (sOf t r) (gOf t) q := by
  have hg := (gOf t).isLt
  exact outv_point (A0 m c) (A1 m c) (A2 m c) (A3 m c) hh hw hp t (iblk m c 0 t) (iblk m c 1 t) (iblk m c 2 t) (iblk m c 3 t) (wb m c (t.val / 16)) (iblk m c 4 t) r q
    ⟨1024 * (gOf t).val + q.val, by omega⟩ rfl (fun k r u hu => ext_at m c t k r u hu)
    (fun k => blk1 m c t r k _ (by show 4096 * (t.val % 16 / 4) + (1024 * (t.val % 16 % 4) + r.val) = t.val % 16 * 1024 + r.val; omega))
    (fun k => (blk3 m c t k q).trans (bufW_apply _ _ _ _ _))
    (fun k => (wb_apply m c _ k q).trans (congrArg (fun z => A1 m c (ix3 (0 : Fin 1) k z)) (Fin.ext (by
      have ht : t.val < 64 := lt_of_lt_of_eq t.isLt N_0
      show 4096 + 1024 * (t.val / 16 % 4) + q.val = 4096 + (1024 * (t.val / 16) + q.val); omega))))
    (blk4 m c t q _ (by show 1024 * (t.val / 16) + q.val = t.val / 16 * 1024 + q.val; omega))

theorem final (c : Dev nD) (hh : ∀ i, ∃ r : ℝ, A0 m c i = (r : EReal)) (hw : ∀ i, ∃ r : ℝ, A1 m c i = (r : EReal)) (hp : ∀ i, ∃ r : ℝ, A2 m c i = (r : EReal)) :
    (dats m 0 c).arrAt 6 cfg0.N = G (A0 m c) (A1 m c) (A2 m c) (A3 m c) := by
  refine (dats m 0 c).arrAt_eq_of_covers 6 _ (by decide +kernel) fun t hf y => ?_
  have hy : y = ix2 (y 0 : Fin 1024) (y 1 : Fin 1024) := funext fun a => by match a with | 0 => rfl | 1 => rfl
  have ht : t.val < 64 := lt_of_lt_of_eq t.isLt N_0
  have hy0 : (y 0).val < 1024 := (y 0).isLt
  have hy1 : (y 1).val < 1024 := (y 1).isLt
  blk_simp
  rw [after0_6]
  refine (congrArg _ hy).trans ((out_point m c hh hw hp t (y 0) (y 1)).trans ?_)
  have e : (win0_6.blk t).view.emb y = ix2 (⟨t.val % 16 * 1024 + (y 0).val, by omega⟩ : Fin 16384) (⟨t.val / 16 * 1024 + (y 1).val, by omega⟩ : Fin 4096) := by
    blk_ext [idx6]
  refine Eq.trans ?_ (congrArg (G (A0 m c) (A1 m c) (A2 m c) (A3 m c)) e).symm
  unfold G
  congr 1
  · exact Fin.ext (by show t.val % 16 / 4 = (t.val % 16 * 1024 + (y 0).val) / 4096; omega)
  · exact Fin.ext (by show 1024 * (t.val % 16 % 4) + (y 0).val = (t.val % 16 * 1024 + (y 0).val) % 4096; omega)
  · exact Fin.ext (by show t.val / 16 = (t.val / 16 * 1024 + (y 1).val) / 1024; omega)
  · exact Fin.ext (by show (y 1).val = (t.val / 16 * 1024 + (y 1).val) % 1024; omega)

theorem finalw (c : Dev nD) : (dats m 0 c).arrAt 7 cfg0.N = GW (A4 m c) := by
  refine (dats m 0 c).arrAt_eq_of_covers 7 _ (by decide +kernel) fun t hf y => ?_
  have ht : t.val < 64 := lt_of_lt_of_eq t.isLt N_0
  have hy : y = ix2 (y 0 : Fin 64) (y 1 : Fin 2048) := funext fun a => by match a with | 0 => rfl | 1 => rfl
  blk_simp
  rw [after0_7]
  unfold castAt
  have e : ∀ (v : Vec Ideal S1x64x2048 .f32) (a : Fin 64) (b : Fin 2048), k0_pay2 (F := Ideal) v (ix2 a b) = v (ix3 (0 : Fin 1) a b) := fun v a b => by pointwise [k0_pay2]
  refine (congrArg _ hy).trans ((e _ (y 0) (y 1)).trans ?_)
  unfold GW
  blk_simp [iblk]
  rw [V_arg4]
  refine congrArg (m (c.tc.loc main_arg4)) ?_
  blk_ext [idx5, idx7]

/-! ## The reference -/

theorem ref_eq (h : TH) (w : TW) (p : TM) (s : TS) (hh : ∀ i, ∃ r : ℝ, h i = (r : EReal)) (hw : ∀ i, ∃ r : ℝ, w i = (r : EReal)) :
    Cert.Reference10Ideal.Read.val_main_v130 (F := Ideal) h w p s = G h w p s := by
  funext y
  have h0 : (y 0).val < 16384 := (y 0).isLt
  have h1 : (y 1).val < 4096 := (y 1).isLt
  exact Cert.Reference10Ideal.Hand.ref_apply h w p s hh hw _ _ _ _ y (by show (y 0).val = 4096 * ((y 0).val / 4096) + (y 0).val % 4096; omega)
    (by show (y 1).val = 1024 * ((y 1).val / 1024) + (y 1).val % 1024; omega)
theorem refw_eq (o : TO) : Cert.Reference10Ideal.Read.val_main_v132 (F := Ideal) o = GW o :=
  funext fun y => Cert.Reference10Ideal.Hand.refw_apply o y

end Cert.Kernel10Ideal.Hand

end
-- ==== Proof.PoolD.lean ====
module

public import proofs.«01_k».proof.Defs
public import proofs.«01_k».proof.Proof.Gen.Kernel10
public import proofs.«01_k».proof.Proof.PoolV

@[expose] public section

noncomputable section

namespace Cert.Kernel10Ideal.Hand

open Idealize.ShloMosaic Idealize.SL.Sem

theorem defs₀_eq : Cert.Kernel10.defs₀ (F := Bits) = Cert.Kernel10Ideal.defs₀ (F := Bits) := by
  unfold Cert.Kernel10.defs₀ Cert.Kernel10Ideal.defs₀
  refine congrArg Defs.onTc ?_
  funext l p
  match l, p with
  | 0, (t, s) => rfl

/-- The two programs' body tables are one. -/
theorem defs_eq : Cert.Kernel10.defs (F := Bits) = Cert.Kernel10Ideal.defs (F := Bits) :=
  congrArg (Pipeline.defs Cert.Kernel10Ideal.pcfgs) defs₀_eq

/-- The kernel at machine words runs and leaves its arguments: the same text, so the same run. -/
theorem frame_kernel : Cert.quiescent_Kernel10 := fun m ρ _ => by
  have h := (θ_run Cert.Kernel10Ideal.defs _ _).mono (fun _ h => And.intro (fun c => (h.1 c).2.2) h.2) (run (F := Bits) m ρ)
  rw [← defs_eq] at h
  exact h

theorem frame_ideal : Cert.quiescent_Kernel10Ideal := fun m ρ _ =>
  (θ_run Cert.Kernel10Ideal.defs _ _).mono (fun _ h => ⟨fun c => (h.1 c).2.2, h.2⟩) (run (F := Ideal) m ρ)

/-- The reference runs and leaves its arguments; it declares no semaphore. -/
theorem frame_ref : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- Kernel and reference leave the same arrays where the activations and the weights are real numbers. -/
theorem value : Cert.algebraic_Kernel10Ideal_Reference10Ideal_pre_real10 := by
  intro m g m' g' hp hargs
  refine ⟨fun c => G (A0 m c) (A1 m c) (A2 m c) (A3 m c), fun c => GW (A4 m c), ?_, ?_⟩
  · refine (θ_run Cert.Kernel10Ideal.defs _ _).mono (fun _ h c => ?_) (run (F := Ideal) m g)
    obtain ⟨h0, h1, h2⟩ := real_args _ _ _ _ _ (hp c)
    exact ⟨(h.1 c).1.trans (final m c h0 h1 h2), (h.1 c).2.1.trans (finalw m c), (h.1 c).2.2⟩
  · refine (θ_run Cert.Reference10Ideal.defs _ _).mono (fun _ h c => ⟨(h c).1.trans ?_, (h c).2.1.trans ?_, (h c).2.2⟩) (Cert.Reference10Ideal.Value.run m' g')
    · obtain ⟨h0, h1, h2⟩ := real_args _ _ _ _ _ (hp c)
      refine (Cert.Reference10Ideal.Read.val_main_v130_eq (F := Ideal) (StableHlo.launchContents m' c)).trans ?_
      show Cert.Reference10Ideal.Read.val_main_v130 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) = _
      rw [(hargs c).1, (hargs c).2.1, (hargs c).2.2.1, (hargs c).2.2.2.1]
      exact ref_eq _ _ _ _ h0 h1
    · refine (Cert.Reference10Ideal.Read.val_main_v132_eq (F := Ideal) (StableHlo.launchContents m' c)).trans ?_
      show Cert.Reference10Ideal.Read.val_main_v132 (F := Ideal) (m' ((c.tc : Thread Cert.Reference10Ideal.nD Cert.Reference10Ideal.τ).loc Cert.Reference10Ideal.main_arg4)) = _
      rw [(hargs c).2.2.2.2]
      exact refw_eq _

/-- The two frames again, where the arguments are real. -/
theorem frame_ideal_pre : Cert.quiescent_Kernel10Ideal_pre_real10 := fun m ρ _ => frame_ideal m ρ trivial
theorem frame_ref_pre : Cert.quiescent_Reference10Ideal_pre_real10 := fun m ρ _ => frame_ref m ρ trivial

end Cert.Kernel10Ideal.Hand

end
-- ==== Proof.lean ====
module

public import proofs.«01_k».proof.Defs
public import proofs.«01_k».proof.Proof.MixD
public import proofs.«01_k».proof.Proof.ProjD
public import proofs.«01_k».proof.Proof.GeluD
public import proofs.«01_k».proof.Proof.OutD
public import proofs.«01_k».proof.Proof.ProjBD
public import proofs.«01_k».proof.Proof.SiluD
public import proofs.«01_k».proof.Proof.OutNextD
public import proofs.«01_k».proof.Proof.NormD
public import proofs.«01_k».proof.Proof.FoldD
public import proofs.«01_k».proof.Proof.PoolD

@[expose] public section

noncomputable section

namespace Cert.Proof

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.KernelIdeal.Hand.pre_facts,
    Cert.Kernel3Ideal.Hand.pre_facts,
    Cert.Kernel6Ideal.Hand.pre_facts,
    Cert.Kernel10Ideal.Hand.pre_facts,
    Cert.KernelIdeal.Hand.frame_kernel,
    Cert.KernelIdeal.Hand.frame_ideal,
    Cert.KernelIdeal.Hand.frame_ideal_pre,
    Cert.KernelIdeal.Hand.frame_ref,
    Cert.KernelIdeal.Hand.frame_ref_pre,
    Cert.Kernel2Ideal.Hand.frame_kernel,
    Cert.Kernel2Ideal.Hand.frame_ideal,
    Cert.Kernel2Ideal.Hand.frame_ref,
    Cert.Kernel3Ideal.Hand.frame_kernel,
    Cert.Kernel3Ideal.Hand.frame_ideal,
    Cert.Kernel3Ideal.Hand.frame_ideal_pre,
    Cert.Kernel3Ideal.Hand.frame_ref,
    Cert.Kernel3Ideal.Hand.frame_ref_pre,
    Cert.Kernel4Ideal.Hand.frame_kernel,
    Cert.Kernel4Ideal.Hand.frame_ideal,
    Cert.Kernel4Ideal.Hand.frame_ref,
    Cert.Kernel5Ideal.Hand.frame_kernel,
    Cert.Kernel5Ideal.Hand.frame_ideal,
    Cert.Kernel5Ideal.Hand.frame_ref,
    Cert.Kernel6Ideal.Hand.frame_kernel,
    Cert.Kernel6Ideal.Hand.frame_ideal,
    Cert.Kernel6Ideal.Hand.frame_ideal_pre,
    Cert.Kernel6Ideal.Hand.frame_ref,
    Cert.Kernel6Ideal.Hand.frame_ref_pre,
    Cert.Kernel7Ideal.Hand.frame_kernel,
    Cert.Kernel7Ideal.Hand.frame_ideal,
    Cert.Kernel7Ideal.Hand.frame_ref,
    Cert.Kernel8Ideal.Hand.frame_kernel,
    Cert.Kernel8Ideal.Hand.frame_ideal,
    Cert.Kernel8Ideal.Hand.frame_ref,
    Cert.Kernel9Ideal.Hand.frame_kernel,
    Cert.Kernel9Ideal.Hand.frame_ideal,
    Cert.Kernel9Ideal.Hand.frame_ref,
    Cert.Kernel10Ideal.Hand.frame_kernel,
    Cert.Kernel10Ideal.Hand.frame_ideal,
    Cert.Kernel10Ideal.Hand.frame_ideal_pre,
    Cert.Kernel10Ideal.Hand.frame_ref,
    Cert.Kernel10Ideal.Hand.frame_ref_pre,
    Cert.KernelIdeal.Hand.preserves,
    Cert.KernelIdeal.Hand.value,
    trivial,
    Cert.Kernel2Ideal.Hand.value,
    Cert.Kernel3Ideal.Hand.preserves,
    Cert.Kernel3Ideal.Hand.value,
    trivial,
    Cert.Kernel4Ideal.Hand.value,
    trivial,
    Cert.Kernel5Ideal.Hand.value,
    trivial,
    Cert.Kernel6Ideal.Hand.value,
    trivial,
    Cert.Kernel7Ideal.Hand.value,
    trivial,
    Cert.Kernel8Ideal.Hand.value,
    trivial,
    Cert.Kernel9Ideal.Hand.value,
    trivial,
    Cert.Kernel10Ideal.Hand.value⟩

end Cert.Proof

end
